-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15)
      ∧ r.2.mem ((c.tc : Thread Cert.Kernel14.nD Cert.Kernel14.τ).loc Cert.Kernel14.main_arg16) = m ((c.tc : Thread Cert.Kernel14.nD Cert.Kernel14.τ).loc Cert.Kernel14.main_arg16))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v34) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_v39) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)) →
    ∃ (v0 : (c : Dev Cert.Kernel13Ideal.nD) → Buf (Elt Ideal) ((c.tc : Thread Cert.Kernel13Ideal.nD Cert.Kernel13Ideal.τ).loc Cert.Kernel13Ideal.main_v9_0)) (v1 : (c : Dev Cert.Kernel13Ideal.nD) → Buf (Elt Ideal) ((c.tc : Thread Cert.Kernel13Ideal.nD Cert.Kernel13Ideal.τ).loc Cert.Kernel13Ideal.main_v9_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9_0) = v0 c
          ∧ r.2.mem ((c.tc : Thread Cert.Kernel13Ideal.nD Cert.Kernel13Ideal.τ).loc Cert.Kernel13Ideal.main_v9_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v77) = v0 c
          ∧ r.2.mem ((c.tc : Thread Cert.Reference13Ideal.nD Cert.Reference13Ideal.τ).loc Cert.Reference13Ideal.main_v91) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)
      ∧ m' ((c.tc : Thread Cert.Reference14Ideal.nD Cert.Reference14Ideal.τ).loc Cert.Reference14Ideal.main_arg14) = m ((c.tc : Thread Cert.Kernel14Ideal.nD Cert.Kernel14Ideal.τ).loc Cert.Kernel14Ideal.main_arg14)
      ∧ m' ((c.tc : Thread Cert.Reference14Ideal.nD Cert.Reference14Ideal.τ).loc Cert.Reference14Ideal.main_arg15) = m ((c.tc : Thread Cert.Kernel14Ideal.nD Cert.Kernel14Ideal.τ).loc Cert.Kernel14Ideal.main_arg15)
      ∧ m' ((c.tc : Thread Cert.Reference14Ideal.nD Cert.Reference14Ideal.τ).loc Cert.Reference14Ideal.main_arg16) = m ((c.tc : Thread Cert.Kernel14Ideal.nD Cert.Kernel14Ideal.τ).loc Cert.Kernel14Ideal.main_arg16)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)) (v2 : (c : Dev Cert.Kernel14Ideal.nD) → Buf (Elt Ideal) ((c.tc : Thread Cert.Kernel14Ideal.nD Cert.Kernel14Ideal.τ).loc Cert.Kernel14Ideal.main_v9_2)) (v3 : (c : Dev Cert.Kernel14Ideal.nD) → Buf (Elt Ideal) ((c.tc : Thread Cert.Kernel14Ideal.nD Cert.Kernel14Ideal.τ).loc Cert.Kernel14Ideal.main_v9_3)) (v4 : (c : Dev Cert.Kernel14Ideal.nD) → Buf (Elt Ideal) ((c.tc : Thread Cert.Kernel14Ideal.nD Cert.Kernel14Ideal.τ).loc Cert.Kernel14Ideal.main_v9_4)) (v5 : (c : Dev Cert.Kernel14Ideal.nD) → Buf (Elt Ideal) ((c.tc : Thread Cert.Kernel14Ideal.nD Cert.Kernel14Ideal.τ).loc Cert.Kernel14Ideal.main_v9_5)) (v6 : (c : Dev Cert.Kernel14Ideal.nD) → Buf (Elt Ideal) ((c.tc : Thread Cert.Kernel14Ideal.nD Cert.Kernel14Ideal.τ).loc Cert.Kernel14Ideal.main_v9_6)) (v7 : (c : Dev Cert.Kernel14Ideal.nD) → Buf (Elt Ideal) ((c.tc : Thread Cert.Kernel14Ideal.nD Cert.Kernel14Ideal.τ).loc Cert.Kernel14Ideal.main_v9_7)) (v8 : (c : Dev Cert.Kernel14Ideal.nD) → Buf (Elt Ideal) ((c.tc : Thread Cert.Kernel14Ideal.nD Cert.Kernel14Ideal.τ).loc Cert.Kernel14Ideal.main_v9_8)) (v9 : (c : Dev Cert.Kernel14Ideal.nD) → Buf (Elt Ideal) ((c.tc : Thread Cert.Kernel14Ideal.nD Cert.Kernel14Ideal.τ).loc Cert.Kernel14Ideal.main_v9_9)) (v10 : (c : Dev Cert.Kernel14Ideal.nD) → Buf (Elt Ideal) ((c.tc : Thread Cert.Kernel14Ideal.nD Cert.Kernel14Ideal.τ).loc Cert.Kernel14Ideal.main_v9_10)) (v11 : (c : Dev Cert.Kernel14Ideal.nD) → Buf (Elt Ideal) ((c.tc : Thread Cert.Kernel14Ideal.nD Cert.Kernel14Ideal.τ).loc Cert.Kernel14Ideal.main_v9_11)) (v12 : (c : Dev Cert.Kernel14Ideal.nD) → Buf (Elt Ideal) ((c.tc : Thread Cert.Kernel14Ideal.nD Cert.Kernel14Ideal.τ).loc Cert.Kernel14Ideal.main_v9_12)) (v13 : (c : Dev Cert.Kernel14Ideal.nD) → Buf (Elt Ideal) ((c.tc : Thread Cert.Kernel14Ideal.nD Cert.Kernel14Ideal.τ).loc Cert.Kernel14Ideal.main_v9_13)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_v9_2) = v2 c
          ∧ r.2.mem ((c.tc : Thread Cert.Kernel14Ideal.nD Cert.Kernel14Ideal.τ).loc Cert.Kernel14Ideal.main_v9_3) = v3 c
          ∧ r.2.mem ((c.tc : Thread Cert.Kernel14Ideal.nD Cert.Kernel14Ideal.τ).loc Cert.Kernel14Ideal.main_v9_4) = v4 c
          ∧ r.2.mem ((c.tc : Thread Cert.Kernel14Ideal.nD Cert.Kernel14Ideal.τ).loc Cert.Kernel14Ideal.main_v9_5) = v5 c
          ∧ r.2.mem ((c.tc : Thread Cert.Kernel14Ideal.nD Cert.Kernel14Ideal.τ).loc Cert.Kernel14Ideal.main_v9_6) = v6 c
          ∧ r.2.mem ((c.tc : Thread Cert.Kernel14Ideal.nD Cert.Kernel14Ideal.τ).loc Cert.Kernel14Ideal.main_v9_7) = v7 c
          ∧ r.2.mem ((c.tc : Thread Cert.Kernel14Ideal.nD Cert.Kernel14Ideal.τ).loc Cert.Kernel14Ideal.main_v9_8) = v8 c
          ∧ r.2.mem ((c.tc : Thread Cert.Kernel14Ideal.nD Cert.Kernel14Ideal.τ).loc Cert.Kernel14Ideal.main_v9_9) = v9 c
          ∧ r.2.mem ((c.tc : Thread Cert.Kernel14Ideal.nD Cert.Kernel14Ideal.τ).loc Cert.Kernel14Ideal.main_v9_10) = v10 c
          ∧ r.2.mem ((c.tc : Thread Cert.Kernel14Ideal.nD Cert.Kernel14Ideal.τ).loc Cert.Kernel14Ideal.main_v9_11) = v11 c
          ∧ r.2.mem ((c.tc : Thread Cert.Kernel14Ideal.nD Cert.Kernel14Ideal.τ).loc Cert.Kernel14Ideal.main_v9_12) = v12 c
          ∧ r.2.mem ((c.tc : Thread Cert.Kernel14Ideal.nD Cert.Kernel14Ideal.τ).loc Cert.Kernel14Ideal.main_v9_13) = v13 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
          ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
          ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
          ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v220) = v1 c
          ∧ r.2.mem ((c.tc : Thread Cert.Reference14Ideal.nD Cert.Reference14Ideal.τ).loc Cert.Reference14Ideal.main_v213) = v2 c
          ∧ r.2.mem ((c.tc : Thread Cert.Reference14Ideal.nD Cert.Reference14Ideal.τ).loc Cert.Reference14Ideal.main_v191) = v3 c
          ∧ r.2.mem ((c.tc : Thread Cert.Reference14Ideal.nD Cert.Reference14Ideal.τ).loc Cert.Reference14Ideal.main_v219) = v4 c
          ∧ r.2.mem ((c.tc : Thread Cert.Reference14Ideal.nD Cert.Reference14Ideal.τ).loc Cert.Reference14Ideal.main_v215) = v5 c
          ∧ r.2.mem ((c.tc : Thread Cert.Reference14Ideal.nD Cert.Reference14Ideal.τ).loc Cert.Reference14Ideal.main_v200) = v6 c
          ∧ r.2.mem ((c.tc : Thread Cert.Reference14Ideal.nD Cert.Reference14Ideal.τ).loc Cert.Reference14Ideal.main_v221) = v7 c
          ∧ r.2.mem ((c.tc : Thread Cert.Reference14Ideal.nD Cert.Reference14Ideal.τ).loc Cert.Reference14Ideal.main_v222) = v8 c
          ∧ r.2.mem ((c.tc : Thread Cert.Reference14Ideal.nD Cert.Reference14Ideal.τ).loc Cert.Reference14Ideal.main_v223) = v9 c
          ∧ r.2.mem ((c.tc : Thread Cert.Reference14Ideal.nD Cert.Reference14Ideal.τ).loc Cert.Reference14Ideal.main_v156) = v10 c
          ∧ r.2.mem ((c.tc : Thread Cert.Reference14Ideal.nD Cert.Reference14Ideal.τ).loc Cert.Reference14Ideal.main_v224) = v11 c
          ∧ r.2.mem ((c.tc : Thread Cert.Reference14Ideal.nD Cert.Reference14Ideal.τ).loc Cert.Reference14Ideal.main_v134) = v12 c
          ∧ r.2.mem ((c.tc : Thread Cert.Reference14Ideal.nD Cert.Reference14Ideal.τ).loc Cert.Reference14Ideal.main_v225) = v13 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13)
          ∧ r.2.mem ((c.tc : Thread Cert.Reference14Ideal.nD Cert.Reference14Ideal.τ).loc Cert.Reference14Ideal.main_arg14) = m' ((c.tc : Thread Cert.Reference14Ideal.nD Cert.Reference14Ideal.τ).loc Cert.Reference14Ideal.main_arg14)
          ∧ r.2.mem ((c.tc : Thread Cert.Reference14Ideal.nD Cert.Reference14Ideal.τ).loc Cert.Reference14Ideal.main_arg15) = m' ((c.tc : Thread Cert.Reference14Ideal.nD Cert.Reference14Ideal.τ).loc Cert.Reference14Ideal.main_arg15)
          ∧ r.2.mem ((c.tc : Thread Cert.Reference14Ideal.nD Cert.Reference14Ideal.τ).loc Cert.Reference14Ideal.main_arg16) = m' ((c.tc : Thread Cert.Reference14Ideal.nD Cert.Reference14Ideal.τ).loc Cert.Reference14Ideal.main_arg16))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v50) = v0 c
          ∧ r.2.mem ((c.tc : Thread Cert.Reference15Ideal.nD Cert.Reference15Ideal.τ).loc Cert.Reference15Ideal.main_v51) = v1 c
          ∧ r.2.mem ((c.tc : Thread Cert.Reference15Ideal.nD Cert.Reference15Ideal.τ).loc Cert.Reference15Ideal.main_v52) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_v31) = v1 c
          ∧ r.2.mem ((c.tc : Thread Cert.Reference19Ideal.nD Cert.Reference19Ideal.τ).loc Cert.Reference19Ideal.main_v12) = v2 c
          ∧ r.2.mem ((c.tc : Thread Cert.Reference19Ideal.nD Cert.Reference19Ideal.τ).loc Cert.Reference19Ideal.main_v18) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_v31) = v1 c
          ∧ r.2.mem ((c.tc : Thread Cert.Reference23Ideal.nD Cert.Reference23Ideal.τ).loc Cert.Reference23Ideal.main_v12) = v2 c
          ∧ r.2.mem ((c.tc : Thread Cert.Reference23Ideal.nD Cert.Reference23Ideal.τ).loc Cert.Reference23Ideal.main_v18) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_v27) = v1 c
          ∧ r.2.mem ((c.tc : Thread Cert.Reference25Ideal.nD Cert.Reference25Ideal.τ).loc Cert.Reference25Ideal.main_v8) = v2 c
          ∧ r.2.mem ((c.tc : Thread Cert.Reference25Ideal.nD Cert.Reference25Ideal.τ).loc Cert.Reference25Ideal.main_v14) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite5 : Cert.Pre_finite5.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite5.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .f32) (main_arg2 : FVec F S8192x2816 .bf16) (main_arg3 : FVec F S8192x2816 .bf16) : IVec S8192x1024 1 × IVec S2816x1024 1 × IVec S8192x2816 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := (extf .f32 · bitsLt_bf16_f32) main_arg3
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  (main_v3, main_v6, main_v10)
-- ==== Kernel2.lean ====
abbrev S8192x1024 : Shape := ⟨2, ![8192, 1024]⟩
abbrev S8192x256 : Shape := ⟨2, ![8192, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 34
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S256x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .bf16⟩
  | .hbm, ⟨26, _⟩ => ⟨S256x1024, .bf16⟩
  | .hbm, ⟨27, _⟩ => ⟨S1x1024, .f32⟩
  | .hbm, ⟨28, _⟩ => ⟨S1024x1024, .bf16⟩
  | .hbm, ⟨29, _⟩ => ⟨S8192x1024, .f32⟩
  | .hbm, ⟨30, _⟩ => ⟨S8192x1024, .bf16⟩
  | .hbm, ⟨31, _⟩ => ⟨S256x1024, .f32⟩
  | .hbm, ⟨32, _⟩ => ⟨S1x1024, .f32⟩
  | .hbm, ⟨33, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S256x1024, .bf16⟩
  | .local _ .vmem, ⟨11, _⟩ => ⟨S1x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S256x1024, .f32⟩
  | .local _ .vmem, ⟨18, _⟩ => ⟨S1x1024, .f32⟩
  | .local _ .vmem, ⟨19, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S8192x256 : Shape := ⟨2, ![8192, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S256x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x1024, .f32⟩
  | .hbm, ⟨47, _⟩ => ⟨S1024x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1024x256, .f32⟩
  | .hbm, ⟨76, _⟩ => ⟨S256x1024, .f32⟩
  | .hbm, ⟨77, _⟩ => ⟨S8192x256, .f32⟩
  | .hbm, ⟨78, _⟩ => ⟨S8192x1024, .bf16⟩
  | .hbm, ⟨79, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel3.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S1x1024 : Shape := ⟨2, ![1, 1024]⟩
abbrev S512x4608 : Shape := ⟨2, ![512, 4608]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x4608, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4608, .f32⟩
  | .hbm, ⟨26, _⟩ => ⟨S8192x4608, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S8192x1024 : Shape := ⟨2, ![8192, 1024]⟩
abbrev S8192x4608 : Shape := ⟨2, ![8192, 4608]⟩
abbrev S1024x4608 : Shape := ⟨2, ![1024, 4608]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S640x1024 : Shape := ⟨2, ![640, 1024]⟩
abbrev S512x640 : Shape := ⟨2, ![512, 640]⟩
abbrev S768x1024 : Shape := ⟨2, ![768, 1024]⟩
abbrev S512x768 : Shape := ⟨2, ![512, 768]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2816 : Shape := ⟨2, ![8192, 2816]⟩
abbrev S1024x5632 : Shape := ⟨2, ![1024, 5632]⟩
abbrev S8192x1024 : Shape := ⟨2, ![8192, 1024]⟩
abbrev S512x2816 : Shape := ⟨2, ![512, 2816]⟩
abbrev S512x1024 : Shape := ⟨2, ![512, 1024]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S1024x5632, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x5632, .f32⟩
  | .hbm, ⟨3, _⟩ => ⟨S_, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x5632, .f32⟩
  | .hbm, ⟨11, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x4608 : Shape := ⟨2, ![1024, 4608]⟩
abbrev S1x1024 : Shape := ⟨2, ![1, 1024]⟩
abbrev S8192x4608 : Shape := ⟨2, ![8192, 4608]⟩
abbrev S1024x1024 : Shape := ⟨2, ![1024, 1024]⟩
abbrev S1024x1536 : Shape := ⟨2, ![1024, 1536]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S1x1024, .f32⟩
  | .hbm, ⟨4, _⟩ => ⟨S1024x4608, .bf16⟩
  | .hbm, ⟨5, _⟩ => ⟨S8192x4608, .f32⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | .local _ .vmem, ⟨6, _⟩ => ⟨S1024x1536, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S8192x1024 : Shape := ⟨2, ![8192, 1024]⟩
abbrev S1024 : Shape := ⟨1, ![1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4608 : Shape := ⟨2, ![8192, 4608]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4608, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩
abbrev S1024x640 : Shape := ⟨2, ![1024, 640]⟩
abbrev S512x640 : Shape := ⟨2, ![512, 640]⟩
abbrev S1024x768 : Shape := ⟨2, ![1024, 768]⟩
abbrev S512x768 : Shape := ⟨2, ![512, 768]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S1024x5632, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .bf16⟩
  | .hbm, ⟨7, _⟩ => ⟨S8192x2816, .bf16⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel11.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S2816x1024, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x1024, .f32⟩
  | .hbm, ⟨5, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S8192x256 : Shape := ⟨2, ![8192, 256]⟩
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S256x1024, .bf16⟩
  | .hbm, ⟨6, _⟩ => ⟨S1x1024, .f32⟩
  | .hbm, ⟨7, _⟩ => ⟨S1024x1024, .bf16⟩
  | .hbm, ⟨8, _⟩ => ⟨S8192x1024, .f32⟩
  | .hbm, ⟨9, _⟩ => ⟨S8192x1024, .bf16⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1024 : Shape := ⟨2, ![8192, 1024]⟩
abbrev S8192x256 : Shape := ⟨2, ![8192, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel13.lean ====
abbrev S8192x1024 : Shape := ⟨2, ![8192, 1024]⟩
abbrev S8192x512 : Shape := ⟨2, ![8192, 512]⟩
abbrev S8192x256 : Shape := ⟨2, ![8192, 256]⟩
abbrev S8192x4608 : Shape := ⟨2, ![8192, 4608]⟩
abbrev S512x1024 : Shape := ⟨2, ![512, 1024]⟩
abbrev S256x2048 : Shape := ⟨2, ![256, 2048]⟩
abbrev S2048 : Shape := ⟨1, ![2048]⟩
abbrev S256 : Shape := ⟨1, ![256]⟩
abbrev S256x1024 : Shape := ⟨2, ![256, 1024]⟩
abbrev S3072 : Shape := ⟨1, ![3072]⟩
abbrev S1024x1024 : Shape := ⟨2, ![1024, 1024]⟩
abbrev S1024 : Shape := ⟨1, ![1024]⟩
abbrev S1x2048 : Shape := ⟨2, ![1, 2048]⟩
abbrev S1x256 : Shape := ⟨2, ![1, 256]⟩
abbrev S1x3072 : Shape := ⟨2, ![1, 3072]⟩
abbrev S1x1024 : Shape := ⟨2, ![1, 1024]⟩
abbrev S512x512 : Shape := ⟨2, ![512, 512]⟩
abbrev S512x256 : Shape := ⟨2, ![512, 256]⟩
abbrev S512x3072 : Shape := ⟨2, ![512, 3072]⟩
abbrev S512x2048 : Shape := ⟨2, ![512, 2048]⟩
abbrev S512 : Shape := ⟨1, ![512]⟩
abbrev S512x1 : Shape := ⟨2, ![512, 1]⟩

abbrev nBuf : Space → Nat
  | .hbm => 25
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .f32⟩
  | .hbm, ⟨3, _⟩ => ⟨S8192x256, .f32⟩
  | .hbm, ⟨4, _⟩ => ⟨S8192x4608, .f32⟩
  | .hbm, ⟨5, _⟩ => ⟨S512x1024, .f32⟩
  | .hbm, ⟨6, _⟩ => ⟨S256x2048, .f32⟩
  | .hbm, ⟨7, _⟩ => ⟨S2048, .f32⟩
  | .hbm, ⟨8, _⟩ => ⟨S256, .f32⟩
  | .hbm, ⟨9, _⟩ => ⟨S256, .f32⟩
  | .hbm, ⟨10, _⟩ => ⟨S256x1024, .f32⟩
  | .hbm, ⟨11, _⟩ => ⟨S3072, .f32⟩
  | .hbm, ⟨12, _⟩ => ⟨S1024x1024, .f32⟩
  | .hbm, ⟨13, _⟩ => ⟨S1024, .f32⟩
  | .hbm, ⟨14, _⟩ => ⟨S512x1024, .bf16⟩
  | .hbm, ⟨15, _⟩ => ⟨S256x2048, .bf16⟩
  | .hbm, ⟨16, _⟩ => ⟨S1x2048, .f32⟩
  | .hbm, ⟨17, _⟩ => ⟨S1x256, .f32⟩
  | .hbm, ⟨18, _⟩ => ⟨S1x256, .f32⟩
  | .hbm, ⟨19, _⟩ => ⟨S256x1024, .bf16⟩
  | .hbm, ⟨20, _⟩ => ⟨S1x3072, .f32⟩
  | .hbm, ⟨21, _⟩ => ⟨S1024x1024, .bf16⟩
  | .hbm, ⟨22, _⟩ => ⟨S1x1024, .f32⟩
  | .hbm, ⟨23, _⟩ => ⟨S8192x1024, .f32⟩
  | .hbm, ⟨24, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S256x2048, .bf16⟩
  | .local _ .vmem, ⟨12, _⟩ => ⟨S1x2048, .f32⟩
  | .local _ .vmem, ⟨13, _⟩ => ⟨S1x256, .f32⟩
  | .local _ .vmem, ⟨14, _⟩ => ⟨S1x256, .f32⟩
  | .local _ .vmem, ⟨15, _⟩ => ⟨S256x1024, .bf16⟩
  | .local _ .vmem, ⟨16, _⟩ => ⟨S1x3072, .f32⟩
  | .local _ .vmem, ⟨17, _⟩ => ⟨S1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference13Ideal.lean ====
abbrev S8192x1024 : Shape := ⟨2, ![8192, 1024]⟩
abbrev S8192x512 : Shape := ⟨2, ![8192, 512]⟩
abbrev S8192x256 : Shape := ⟨2, ![8192, 256]⟩
abbrev S8192x4608 : Shape := ⟨2, ![8192, 4608]⟩
abbrev S512x1024 : Shape := ⟨2, ![512, 1024]⟩
abbrev S256x2048 : Shape := ⟨2, ![256, 2048]⟩
abbrev S2048 : Shape := ⟨1, ![2048]⟩
abbrev S256 : Shape := ⟨1, ![256]⟩
abbrev S256x1024 : Shape := ⟨2, ![256, 1024]⟩
abbrev S3072 : Shape := ⟨1, ![3072]⟩
abbrev S1024x1024 : Shape := ⟨2, ![1024, 1024]⟩
abbrev S1024 : Shape := ⟨1, ![1024]⟩
abbrev S8192x3072 : Shape := ⟨2, ![8192, 3072]⟩
abbrev S_ : Shape := ⟨0, ![]⟩
abbrev S8192x2048 : Shape := ⟨2, ![8192, 2048]⟩
abbrev S1x2048 : Shape := ⟨2, ![1, 2048]⟩
abbrev S8192 : Shape := ⟨1, ![8192]⟩
abbrev S8192x1 : Shape := ⟨2, ![8192, 1]⟩
abbrev S1x256 : Shape := ⟨2, ![1, 256]⟩
abbrev S1x3072 : Shape := ⟨2, ![1, 3072]⟩
abbrev S8192x3x1024 : Shape := ⟨3, ![8192, 3, 1024]⟩
abbrev S8192x1x1024 : Shape := ⟨3, ![8192, 1, 1024]⟩
abbrev S1x1024 : Shape := ⟨2, ![1, 1024]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S8192x512, .bf16⟩
  | 2 => ⟨S8192x256, .f32⟩
  | 3 => ⟨S8192x256, .f32⟩
  | 4 => ⟨S8192x4608, .f32⟩
  | 5 => ⟨S512x1024, .f32⟩
  | 6 => ⟨S256x2048, .f32⟩
  | 7 => ⟨S2048, .f32⟩
  | 8 => ⟨S256, .f32⟩
  | 9 => ⟨S256, .f32⟩
  | 10 => ⟨S256x1024, .f32⟩
  | 11 => ⟨S3072, .f32⟩
  | 12 => ⟨S1024x1024, .f32⟩
  | 13 => ⟨S1024, .f32⟩
  | 14 => ⟨S8192x512, .f32⟩
  | 15 => ⟨S8192x3072, .f32⟩
  | 16 => ⟨S8192x1024, .f32⟩
  | 17 => ⟨S8192x256, .f32⟩
  | 18 => ⟨S8192x256, .f32⟩
  | 19 => ⟨S_, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S_, .f32⟩
  | 31 => ⟨S8192x256, .f32⟩
  | 32 => ⟨S8192x256, .f32⟩
  | 33 => ⟨S8192x256, .f32⟩
  | 34 => ⟨S8192x2048, .f32⟩
  | 35 => ⟨S1x2048, .f32⟩
  | 36 => ⟨S8192x2048, .f32⟩
  | 37 => ⟨S8192x2048, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S8192x256, .f32⟩
  | 56 => ⟨S8192x256, .f32⟩
  | 57 => ⟨S8192x256, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x256, .f32⟩
  | 65 => ⟨S8192x256, .f32⟩
  | 66 => ⟨S_, .f32⟩
  | 67 => ⟨S8192x1, .f32⟩
  | 68 => ⟨S8192x1, .f32⟩
  | 69 => ⟨S8192x1, .f32⟩
  | 70 => ⟨S8192x256, .f32⟩
  | 71 => ⟨S8192x256, .f32⟩
  | 72 => ⟨S1x256, .f32⟩
  | 73 => ⟨S8192x256, .f32⟩
  | 74 => ⟨S8192x256, .f32⟩
  | 75 => ⟨S1x256, .f32⟩
  | 76 => ⟨S8192x256, .f32⟩
  | 77 => ⟨S8192x256, .f32⟩
  | 78 => ⟨S8192x256, .f32⟩
  | 79 => ⟨S8192x256, .f32⟩
  | 80 => ⟨S_, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S8192x1024, .f32⟩
  | 88 => ⟨S1x3072, .f32⟩
  | 89 => ⟨S8192x3072, .f32⟩
  | 90 => ⟨S8192x3072, .f32⟩
  | 91 => ⟨S8192x3072, .f32⟩
  | 92 => ⟨S8192x3072, .f32⟩
  | 93 => ⟨S_, .f32⟩
  | 94 => ⟨S8192x3072, .f32⟩
  | 95 => ⟨S8192x3072, .f32⟩
  | 96 => ⟨S_, .f32⟩
  | 97 => ⟨S8192x3072, .f32⟩
  | 98 => ⟨S8192x3072, .f32⟩
  | 99 => ⟨S8192x3x1024, .f32⟩
  | 100 => ⟨S8192x1x1024, .f32⟩
  | 101 => ⟨S8192x1024, .f32⟩
  | 102 => ⟨S8192x1024, .f32⟩
  | 103 => ⟨S8192x1x1024, .f32⟩
  | 104 => ⟨S8192x1024, .f32⟩
  | 105 => ⟨S8192x1024, .f32⟩
  | 106 => ⟨S8192x1024, .f32⟩
  | 107 => ⟨S8192x1x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192x1, .f32⟩
  | 122 => ⟨S8192x1, .f32⟩
  | 123 => ⟨S8192x1, .f32⟩
  | 124 => ⟨S8192x1024, .f32⟩
  | 125 => ⟨S8192x1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_12 : Ref sig .tc := ⟨.hbm, 114, rfl⟩
abbrev main_v79 : Ref sig .tc := ⟨.hbm, 115, rfl⟩
abbrev main_v80 : Ref sig .tc := ⟨.hbm, 116, rfl⟩
abbrev main_cst_13 : Ref sig .tc := ⟨.hbm, 117, rfl⟩
abbrev main_v81 : Ref sig .tc := ⟨.hbm, 118, rfl⟩
abbrev main_v82 : Ref sig .tc := ⟨.hbm, 119, rfl⟩
abbrev main_cst_14 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]
-- ==== Kernel14.lean ====
abbrev S8192x1024 : Shape := ⟨2, ![8192, 1024]⟩
abbrev S8192x512 : Shape := ⟨2, ![8192, 512]⟩
abbrev S8192x256 : Shape := ⟨2, ![8192, 256]⟩
abbrev S8192x4608 : Shape := ⟨2, ![8192, 4608]⟩
abbrev S512x1024 : Shape := ⟨2, ![512, 1024]⟩
abbrev S256x2048 : Shape := ⟨2, ![256, 2048]⟩
abbrev S2048 : Shape := ⟨1, ![2048]⟩
abbrev S256 : Shape := ⟨1, ![256]⟩
abbrev S256x1024 : Shape := ⟨2, ![256, 1024]⟩
abbrev S3072 : Shape := ⟨1, ![3072]⟩
abbrev S1024x1024 : Shape := ⟨2, ![1024, 1024]⟩
abbrev S1024 : Shape := ⟨1, ![1024]⟩
abbrev S1x2048 : Shape := ⟨2, ![1, 2048]⟩
abbrev S1x256 : Shape := ⟨2, ![1, 256]⟩
abbrev S1x3072 : Shape := ⟨2, ![1, 3072]⟩
abbrev S1x1024 : Shape := ⟨2, ![1, 1024]⟩
abbrev S256x512 : Shape := ⟨2, ![256, 512]⟩
abbrev S256x256 : Shape := ⟨2, ![256, 256]⟩
abbrev S256x3072 : Shape := ⟨2, ![256, 3072]⟩
abbrev S256x1 : Shape := ⟨2, ![256, 1]⟩

abbrev nBuf : Space → Nat
  | .hbm => 40
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .f32⟩
  | .hbm, ⟨3, _⟩ => ⟨S8192x256, .f32⟩
  | .hbm, ⟨4, _⟩ => ⟨S8192x4608, .f32⟩
  | .hbm, ⟨5, _⟩ => ⟨S8192x1024, .f32⟩
  | .hbm, ⟨6, _⟩ => ⟨S8192x1024, .f32⟩
  | .hbm, ⟨7, _⟩ => ⟨S8192x4608, .bf16⟩
  | .hbm, ⟨8, _⟩ => ⟨S512x1024, .f32⟩
  | .hbm, ⟨9, _⟩ => ⟨S256x2048, .f32⟩
  | .hbm, ⟨10, _⟩ => ⟨S2048, .f32⟩
  | .hbm, ⟨11, _⟩ => ⟨S256, .f32⟩
  | .hbm, ⟨12, _⟩ => ⟨S256, .f32⟩
  | .hbm, ⟨13, _⟩ => ⟨S256x1024, .f32⟩
  | .hbm, ⟨14, _⟩ => ⟨S3072, .f32⟩
  | .hbm, ⟨15, _⟩ => ⟨S1024x1024, .f32⟩
  | .hbm, ⟨16, _⟩ => ⟨S1024, .f32⟩
  | .hbm, ⟨17, _⟩ => ⟨S512x1024, .bf16⟩
  | .hbm, ⟨18, _⟩ => ⟨S256x2048, .bf16⟩
  | .hbm, ⟨19, _⟩ => ⟨S1x2048, .f32⟩
  | .hbm, ⟨20, _⟩ => ⟨S1x256, .f32⟩
  | .hbm, ⟨21, _⟩ => ⟨S1x256, .f32⟩
  | .hbm, ⟨22, _⟩ => ⟨S256x1024, .bf16⟩
  | .hbm, ⟨23, _⟩ => ⟨S1x3072, .f32⟩
  | .hbm, ⟨24, _⟩ => ⟨S1024x1024, .bf16⟩
  | .hbm, ⟨25, _⟩ => ⟨S1x1024, .f32⟩
  | .hbm, ⟨26, _⟩ => ⟨S8192x1024, .f32⟩
  | .hbm, ⟨27, _⟩ => ⟨S8192x512, .bf16⟩
  | .hbm, ⟨28, _⟩ => ⟨S8192x256, .f32⟩
  | .hbm, ⟨29, _⟩ => ⟨S8192x256, .f32⟩
  | .hbm, ⟨30, _⟩ => ⟨S8192x4608, .bf16⟩
  | .hbm, ⟨31, _⟩ => ⟨S512x1024, .f32⟩
  | .hbm, ⟨32, _⟩ => ⟨S256x2048, .f32⟩
  | .hbm, ⟨33, _⟩ => ⟨S1x2048, .f32⟩
  | .hbm, ⟨34, _⟩ => ⟨S1x256, .f32⟩
  | .hbm, ⟨35, _⟩ => ⟨S1x256, .f32⟩
  | .hbm, ⟨36, _⟩ => ⟨S256x1024, .f32⟩
  | .hbm, ⟨37, _⟩ => ⟨S1x3072, .f32⟩
  | .hbm, ⟨38, _⟩ => ⟨S1024x1024, .f32⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x3072, .f32⟩
  | .local _ .vmem, ⟨9, _⟩ => ⟨S256x3072, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S512x1024, .bf16⟩
  | .local _ .vmem, ⟨15, _⟩ => ⟨S256x2048, .bf16⟩
  | .local _ .vmem, ⟨16, _⟩ => ⟨S1x2048, .f32⟩
  | .local _ .vmem, ⟨17, _⟩ => ⟨S1x256, .f32⟩
  | .local _ .vmem, ⟨18, _⟩ => ⟨S1x256, .f32⟩
  | .local _ .vmem, ⟨19, _⟩ => ⟨S256x1024, .bf16⟩
  | .local _ .vmem, ⟨20, _⟩ => ⟨S1x3072, .f32⟩
  | .local _ .vmem, ⟨21, _⟩ => ⟨S1024x1024, .bf16⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | .local _ .vmem, ⟨26, _⟩ => ⟨S256x512, .bf16⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x3072, .bf16⟩
  | .local _ .vmem, ⟨32, _⟩ => ⟨S256x3072, .bf16⟩
  | .local _ .vmem, ⟨33, _⟩ => ⟨S512x1024, .f32⟩
  | .local _ .vmem, ⟨34, _⟩ => ⟨S256x2048, .f32⟩
  | .local _ .vmem, ⟨35, _⟩ => ⟨S1x2048, .f32⟩
  | .local _ .vmem, ⟨36, _⟩ => ⟨S1x256, .f32⟩
  | .local _ .vmem, ⟨37, _⟩ => ⟨S1x256, .f32⟩
  | .local _ .vmem, ⟨38, _⟩ => ⟨S256x1024, .f32⟩
  | .local _ .vmem, ⟨39, _⟩ => ⟨S1x3072, .f32⟩
  | .local _ .vmem, ⟨40, _⟩ => ⟨S1024x1024, .f32⟩
  | .local _ .vmem, ⟨41, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev main_v9_4 : Ref sig .tc := ⟨.hbm, 30, rfl⟩
abbrev main_v9_5 : Ref sig .tc := ⟨.hbm, 31, rfl⟩
abbrev main_v9_6 : Ref sig .tc := ⟨.hbm, 32, rfl⟩
abbrev main_v9_7 : Ref sig .tc := ⟨.hbm, 33, rfl⟩
abbrev main_v9_8 : Ref sig .tc := ⟨.hbm, 34, rfl⟩
abbrev main_v9_9 : Ref sig .tc := ⟨.hbm, 35, rfl⟩
abbrev main_v9_10 : Ref sig .tc := ⟨.hbm, 36, rfl⟩
abbrev main_v9_11 : Ref sig .tc := ⟨.hbm, 37, rfl⟩
abbrev main_v9_12 : Ref sig .tc := ⟨.hbm, 38, rfl⟩
abbrev main_v9_13 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg29_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40
abbrev cc0_sem29_0 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x3072 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1024x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== Reference14Ideal.lean ====
abbrev S8192x1024 : Shape := ⟨2, ![8192, 1024]⟩
abbrev S8192x512 : Shape := ⟨2, ![8192, 512]⟩
abbrev S8192x256 : Shape := ⟨2, ![8192, 256]⟩
abbrev S8192x4608 : Shape := ⟨2, ![8192, 4608]⟩
abbrev S512x1024 : Shape := ⟨2, ![512, 1024]⟩
abbrev S256x2048 : Shape := ⟨2, ![256, 2048]⟩
abbrev S2048 : Shape := ⟨1, ![2048]⟩
abbrev S256 : Shape := ⟨1, ![256]⟩
abbrev S256x1024 : Shape := ⟨2, ![256, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x2048 : Shape := ⟨2, ![8192, 2048]⟩
abbrev S1x2048 : Shape := ⟨2, ![1, 2048]⟩
abbrev S1x256 : Shape := ⟨2, ![1, 256]⟩
abbrev S1x3072 : Shape := ⟨2, ![1, 3072]⟩
abbrev S8192x3x1024 : Shape := ⟨3, ![8192, 3, 1024]⟩
abbrev S8192x1x1024 : Shape := ⟨3, ![8192, 1, 1024]⟩
abbrev S1024x256 : Shape := ⟨2, ![1024, 256]⟩
abbrev S2048x256 : Shape := ⟨2, ![2048, 256]⟩
abbrev S1024x512 : Shape := ⟨2, ![1024, 512]⟩
abbrev S8192x1536 : Shape := ⟨2, ![8192, 1536]⟩

abbrev nBuf : Space → Nat
  | .hbm => 308
  | .vmem => 0
  | .smem => 0
  | _ => 0

abbrev hbmTy0_0 (i : Nat) : BufTy := match i % 128 with
  | 0 => ⟨S8192x1024, .f32⟩
  | 1 => ⟨S8192x512, .bf16⟩
  | 2 => ⟨S8192x256, .f32⟩
  | 3 => ⟨S8192x256, .f32⟩
  | 4 => ⟨S8192x4608, .f32⟩
  | 5 => ⟨S8192x1024, .f32⟩
  | 6 => ⟨S8192x1024, .f32⟩
  | 7 => ⟨S8192x4608, .bf16⟩
  | 8 => ⟨S512x1024, .f32⟩
  | 9 => ⟨S256x2048, .f32⟩
  | 10 => ⟨S2048, .f32⟩
  | 11 => ⟨S256, .f32⟩
  | 12 => ⟨S256, .f32⟩
  | 13 => ⟨S256x1024, .f32⟩
  | 14 => ⟨S3072, .f32⟩
  | 15 => ⟨S1024x1024, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S_, .f32⟩
  | 44 => ⟨S1024, .f32⟩
  | 45 => ⟨S8192x1024, .f32⟩
  | 46 => ⟨S_, .f32⟩
  | 47 => ⟨S8192, .f32⟩
  | 48 => ⟨S8192x1, .f32⟩
  | 49 => ⟨S8192x1024, .f32⟩
  | 50 => ⟨S8192x1024, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x512, .f32⟩
  | 64 => ⟨S8192x3072, .f32⟩
  | 65 => ⟨S8192x1024, .f32⟩
  | 66 => ⟨S8192x256, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S_, .f32⟩
  | 73 => ⟨S8192x256, .f32⟩
  | 74 => ⟨S8192x256, .f32⟩
  | 75 => ⟨S8192x256, .f32⟩
  | 76 => ⟨S_, .f32⟩
  | 77 => ⟨S8192x256, .f32⟩
  | 78 => ⟨S8192x256, .f32⟩
  | 79 => ⟨S8192x256, .f32⟩
  | 80 => ⟨S_, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x256, .f32⟩
  | 87 => ⟨S_, .f32⟩
  | 88 => ⟨S8192x256, .f32⟩
  | 89 => ⟨S8192x256, .f32⟩
  | 90 => ⟨S_, .f32⟩
  | 91 => ⟨S8192x256, .f32⟩
  | 92 => ⟨S8192x256, .f32⟩
  | 93 => ⟨S8192x256, .f32⟩
  | 94 => ⟨S8192x2048, .f32⟩
  | 95 => ⟨S1x2048, .f32⟩
  | 96 => ⟨S8192x2048, .f32⟩
  | 97 => ⟨S8192x2048, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x256, .f32⟩
  | 120 => ⟨S8192x256, .f32⟩
  | 121 => ⟨S8192x256, .f32⟩
  | 122 => ⟨S_, .f32⟩
  | 123 => ⟨S8192x256, .f32⟩
  | 124 => ⟨S8192x256, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S8192x256, .f32⟩
  | 4 => ⟨S8192x256, .f32⟩
  | 5 => ⟨S_, .f32⟩
  | 6 => ⟨S8192x1, .f32⟩
  | 7 => ⟨S8192x1, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x256, .f32⟩
  | 14 => ⟨S8192x256, .f32⟩
  | 15 => ⟨S1x256, .f32⟩
  | 16 => ⟨S8192x256, .f32⟩
  | 17 => ⟨S8192x256, .f32⟩
  | 18 => ⟨S1x256, .f32⟩
  | 19 => ⟨S8192x256, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S_, .f32⟩
  | 30 => ⟨S8192x256, .f32⟩
  | 31 => ⟨S8192x256, .f32⟩
  | 32 => ⟨S8192x256, .f32⟩
  | 33 => ⟨S8192x256, .f32⟩
  | 34 => ⟨S8192x1024, .f32⟩
  | 35 => ⟨S1x3072, .f32⟩
  | 36 => ⟨S8192x3072, .f32⟩
  | 37 => ⟨S8192x3072, .f32⟩
  | 38 => ⟨S8192x3072, .f32⟩
  | 39 => ⟨S8192x3072, .f32⟩
  | 40 => ⟨S_, .f32⟩
  | 41 => ⟨S8192x3072, .f32⟩
  | 42 => ⟨S8192x3072, .f32⟩
  | 43 => ⟨S_, .f32⟩
  | 44 => ⟨S8192x3072, .f32⟩
  | 45 => ⟨S8192x3072, .f32⟩
  | 46 => ⟨S_, .f32⟩
  | 47 => ⟨S8192x3072, .f32⟩
  | 48 => ⟨S8192x3072, .f32⟩
  | 49 => ⟨S8192x3072, .f32⟩
  | 50 => ⟨S8192x3x1024, .f32⟩
  | 51 => ⟨S8192x1x1024, .f32⟩
  | 52 => ⟨S8192x1024, .f32⟩
  | 53 => ⟨S8192x1024, .f32⟩
  | 54 => ⟨S8192x1x1024, .f32⟩
  | 55 => ⟨S8192x1024, .f32⟩
  | 56 => ⟨S8192x1024, .f32⟩
  | 57 => ⟨S8192x1024, .f32⟩
  | 58 => ⟨S8192x1x1024, .f32⟩
  | 59 => ⟨S8192x1024, .f32⟩
  | 60 => ⟨S8192x1024, .f32⟩
  | 61 => ⟨S8192x1024, .f32⟩
  | 62 => ⟨S8192x1024, .f32⟩
  | 63 => ⟨S1024x1024, .f32⟩
  | 64 => ⟨S1024x1024, .f32⟩
  | 65 => ⟨S8192x1024, .f32⟩
  | 66 => ⟨S8192x1024, .f32⟩
  | 67 => ⟨S8192x1024, .f32⟩
  | 68 => ⟨S8192x1x1024, .f32⟩
  | 69 => ⟨S_, .f32⟩
  | 70 => ⟨S8192x3x1024, .f32⟩
  | 71 => ⟨S8192x1024, .f32⟩
  | 72 => ⟨S8192x1024, .f32⟩
  | 73 => ⟨S8192x1x1024, .f32⟩
  | 74 => ⟨S_, .f32⟩
  | 75 => ⟨S8192x3x1024, .f32⟩
  | 76 => ⟨S8192x3x1024, .f32⟩
  | 77 => ⟨S8192x1024, .f32⟩
  | 78 => ⟨S8192x1024, .f32⟩
  | 79 => ⟨S8192x1x1024, .f32⟩
  | 80 => ⟨S_, .f32⟩
  | 81 => ⟨S8192x3x1024, .f32⟩
  | 82 => ⟨S8192x3x1024, .f32⟩
  | 83 => ⟨S8192x3072, .f32⟩
  | 84 => ⟨S8192x3072, .f32⟩
  | 85 => ⟨S_, .f32⟩
  | 86 => ⟨S3072, .f32⟩
  | 87 => ⟨S1x3072, .f32⟩
  | 88 => ⟨S_, .f32⟩
  | 89 => ⟨S3072, .f32⟩
  | 90 => ⟨S1024x256, .f32⟩
  | 91 => ⟨S256x1024, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S256, .f32⟩
  | 99 => ⟨S1x256, .f32⟩
  | 100 => ⟨S_, .f32⟩
  | 101 => ⟨S256, .f32⟩
  | 102 => ⟨S8192x256, .f32⟩
  | 103 => ⟨S_, .f32⟩
  | 104 => ⟨S256, .f32⟩
  | 105 => ⟨S1x256, .f32⟩
  | 106 => ⟨S8192x256, .f32⟩
  | 107 => ⟨S8192x256, .f32⟩
  | 108 => ⟨S_, .f32⟩
  | 109 => ⟨S256, .f32⟩
  | 110 => ⟨S8192x256, .f32⟩
  | 111 => ⟨S_, .f32⟩
  | 112 => ⟨S8192, .f32⟩
  | 113 => ⟨S8192x1, .f32⟩
  | 114 => ⟨S8192x256, .f32⟩
  | 115 => ⟨S8192x256, .f32⟩
  | 116 => ⟨S8192x1, .f32⟩
  | 117 => ⟨S8192x256, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x256, .f32⟩
  | 127 => ⟨S8192x256, .f32⟩
  | _ => ⟨S8192x1024, .f32⟩

abbrev hbmTy0_2 (i : Nat) : BufTy := match i % 128 with
  | 0 => ⟨S8192x256, .f32⟩
  | 1 => ⟨S_, .f32⟩
  | 2 => ⟨S8192, .f32⟩
  | 3 => ⟨S8192x1, .f32⟩
  | 4 => ⟨S8192x256, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x256, .f32⟩
  | 12 => ⟨S8192x256, .f32⟩
  | 13 => ⟨S8192x1024, .f32⟩
  | 14 => ⟨S8192x1024, .f32⟩
  | 15 => ⟨S8192x1024, .f32⟩
  | 16 => ⟨S8192x2048, .f32⟩
  | 17 => ⟨S_, .f32⟩
  | 18 => ⟨S2048, .f32⟩
  | 19 => ⟨S1x2048, .f32⟩
  | 20 => ⟨S_, .f32⟩
  | 21 => ⟨S2048, .f32⟩
  | 22 => ⟨S2048x256, .f32⟩
  | 23 => ⟨S256x2048, .f32⟩
  | 24 => ⟨S8192x256, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S_, .f32⟩
  | 32 => ⟨S8192x256, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S8192x256, .f32⟩
  | 40 => ⟨S1024x512, .f32⟩
  | 41 => ⟨S512x1024, .f32⟩
  | 42 => ⟨S8192x512, .f32⟩
  | 43 => ⟨S8192x3072, .bf16⟩
  | 44 => ⟨S8192x1536, .bf16⟩
  | 45 => ⟨S8192x4608, .bf16⟩
  | 46 => ⟨S8192x512, .bf16⟩
  | 47 => ⟨S1x2048, .f32⟩
  | 48 => ⟨S1x256, .f32⟩
  | 49 => ⟨S1x256, .f32⟩
  | 50 => ⟨S1x3072, .f32⟩
  | 51 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_cst_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_20 : Ref sig .tc := ⟨.hbm, 122, rfl⟩
abbrev main_v84 : Ref sig .tc := ⟨.hbm, 123, rfl⟩
abbrev main_v85 : Ref sig .tc := ⟨.hbm, 124, rfl⟩
abbrev main_cst_21 : Ref sig .tc := ⟨.hbm, 125, rfl⟩
abbrev main_v86 : Ref sig .tc := ⟨.hbm, 126, rfl⟩
abbrev main_v87 : Ref sig .tc := ⟨.hbm, 127, rfl⟩
abbrev main_cst_22 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_23 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_24 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call0_v0 : Ref sig .tc := ⟨.hbm, 149, rfl⟩
abbrev main_call0_v1 : Ref sig .tc := ⟨.hbm, 150, rfl⟩
abbrev main_call0_cst : Ref sig .tc := ⟨.hbm, 151, rfl⟩
abbrev main_call0_v2 : Ref sig .tc := ⟨.hbm, 152, rfl⟩
abbrev main_call0_v3 : Ref sig .tc := ⟨.hbm, 153, rfl⟩
abbrev main_call0_cst_0 : Ref sig .tc := ⟨.hbm, 154, rfl⟩
abbrev main_call0_v4 : Ref sig .tc := ⟨.hbm, 155, rfl⟩
abbrev main_v106_2 : Ref sig .tc := ⟨.hbm, 156, rfl⟩
abbrev main_call0_cst_1 : Ref sig .tc := ⟨.hbm, 157, rfl⟩
abbrev main_call0_v6 : Ref sig .tc := ⟨.hbm, 158, rfl⟩
abbrev main_call0_v7 : Ref sig .tc := ⟨.hbm, 159, rfl⟩
abbrev main_v106_1 : Ref sig .tc := ⟨.hbm, 160, rfl⟩
abbrev main_v106_0 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_25 : Ref sig .tc := ⟨.hbm, 168, rfl⟩
abbrev main_v113 : Ref sig .tc := ⟨.hbm, 169, rfl⟩
abbrev main_v114 : Ref sig .tc := ⟨.hbm, 170, rfl⟩
abbrev main_cst_26 : Ref sig .tc := ⟨.hbm, 171, rfl⟩
abbrev main_v115 : Ref sig .tc := ⟨.hbm, 172, rfl⟩
abbrev main_v116 : Ref sig .tc := ⟨.hbm, 173, rfl⟩
abbrev main_cst_27 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_28 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_29 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_30 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_cst_31 : Ref sig .tc := ⟨.hbm, 213, rfl⟩
abbrev main_v152 : Ref sig .tc := ⟨.hbm, 214, rfl⟩
abbrev main_v153 : Ref sig .tc := ⟨.hbm, 215, rfl⟩
abbrev main_cst_32 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_call1_v0 : Ref sig .tc := ⟨.hbm, 221, rfl⟩
abbrev main_call1_v1 : Ref sig .tc := ⟨.hbm, 222, rfl⟩
abbrev main_call1_v2 : Ref sig .tc := ⟨.hbm, 223, rfl⟩
abbrev main_v158 : Ref sig .tc := ⟨.hbm, 224, rfl⟩
abbrev main_cst_33 : Ref sig .tc := ⟨.hbm, 225, rfl⟩
abbrev main_v159 : Ref sig .tc := ⟨.hbm, 226, rfl⟩
abbrev main_v160 : Ref sig .tc := ⟨.hbm, 227, rfl⟩
abbrev main_cst_34 : Ref sig .tc := ⟨.hbm, 228, rfl⟩
abbrev main_v161 : Ref sig .tc := ⟨.hbm, 229, rfl⟩
abbrev main_v162 : Ref sig .tc := ⟨.hbm, 230, rfl⟩
abbrev main_cst_35 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_cst_36 : Ref sig .tc := ⟨.hbm, 236, rfl⟩
abbrev main_v167 : Ref sig .tc := ⟨.hbm, 237, rfl⟩
abbrev main_v168 : Ref sig .tc := ⟨.hbm, 238, rfl⟩
abbrev main_cst_37 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_cst_38 : Ref sig .tc := ⟨.hbm, 246, rfl⟩
abbrev main_v175 : Ref sig .tc := ⟨.hbm, 247, rfl⟩
abbrev main_v176 : Ref sig .tc := ⟨.hbm, 248, rfl⟩
abbrev main_cst_39 : Ref sig .tc := ⟨.hbm, 249, rfl⟩
abbrev main_v177 : Ref sig .tc := ⟨.hbm, 250, rfl⟩
abbrev main_v178 : Ref sig .tc := ⟨.hbm, 251, rfl⟩
abbrev main_cst_40 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_cst_41 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_cst_42 : Ref sig .tc := ⟨.hbm, 262, rfl⟩
abbrev main_v187 : Ref sig .tc := ⟨.hbm, 263, rfl⟩
abbrev main_v188 : Ref sig .tc := ⟨.hbm, 264, rfl⟩
abbrev main_cst_43 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_44 : Ref sig .tc := ⟨.hbm, 273, rfl⟩
abbrev main_v196 : Ref sig .tc := ⟨.hbm, 274, rfl⟩
abbrev main_v197 : Ref sig .tc := ⟨.hbm, 275, rfl⟩
abbrev main_cst_45 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_cst_46 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_cst_47 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_cst_48 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel16.lean ====
abbrev S8x2560x128 : Shape := ⟨3, ![8, 2560, 128]⟩
abbrev S2560x128 : Shape := ⟨2, ![2560, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x2560x128 : Shape := ⟨3, ![8, 2560, 128]⟩
abbrev S2560x128 : Shape := ⟨2, ![2560, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S_, .f32⟩
  | .hbm, ⟨5, _⟩ => ⟨S2560x128, .f32⟩
  | .hbm, ⟨6, _⟩ => ⟨S_, .f32⟩
  | .hbm, ⟨7, _⟩ => ⟨S2560x128, .f32⟩
  | .hbm, ⟨8, _⟩ => ⟨S2560x128, .f32⟩
  | .hbm, ⟨9, _⟩ => ⟨S_, .f32⟩
  | .hbm, ⟨10, _⟩ => ⟨S2560x128, .f32⟩
  | .hbm, ⟨11, _⟩ => ⟨S2560x128, .f32⟩
  | .hbm, ⟨12, _⟩ => ⟨S2560x128, .f32⟩
  | .hbm, ⟨13, _⟩ => ⟨S_, .f32⟩
  | .hbm, ⟨14, _⟩ => ⟨S2560x128, .f32⟩
  | .hbm, ⟨15, _⟩ => ⟨S2560x128, .f32⟩
  | .hbm, ⟨16, _⟩ => ⟨S2560x128, .f32⟩
  | .hbm, ⟨17, _⟩ => ⟨S_, .f32⟩
  | .hbm, ⟨18, _⟩ => ⟨S2560x128, .f32⟩
  | .hbm, ⟨19, _⟩ => ⟨S2560x128, .f32⟩
  | .hbm, ⟨20, _⟩ => ⟨S2560x128, .f32⟩
  | .hbm, ⟨21, _⟩ => ⟨S_, .f32⟩
  | .hbm, ⟨22, _⟩ => ⟨S2560x128, .f32⟩
  | .hbm, ⟨23, _⟩ => ⟨S2560x128, .f32⟩
  | .hbm, ⟨24, _⟩ => ⟨S_, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S_, .f32⟩
  | .hbm, ⟨29, _⟩ => ⟨S2560x128, .f32⟩
  | .hbm, ⟨30, _⟩ => ⟨S2560x128, .f32⟩
  | .hbm, ⟨31, _⟩ => ⟨S2560x128, .f32⟩
  | .hbm, ⟨32, _⟩ => ⟨S_, .f32⟩
  | .hbm, ⟨33, _⟩ => ⟨S2560x128, .f32⟩
  | .hbm, ⟨34, _⟩ => ⟨S2560x128, .f32⟩
  | .hbm, ⟨35, _⟩ => ⟨S2560x128, .f32⟩
  | .hbm, ⟨36, _⟩ => ⟨S_, .f32⟩
  | .hbm, ⟨37, _⟩ => ⟨S2560x128, .f32⟩
  | .hbm, ⟨38, _⟩ => ⟨S2560x128, .f32⟩
  | _, _ => ⟨S8x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S8x512x1024 : Shape := ⟨3, ![8, 512, 1024]⟩
abbrev S4x128x1024 : Shape := ⟨3, ![4, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi v0 c0_i32
  let c128_i32_0 : BitVec 32 := 128#32
  let v2 : BitVec 32 := Scalar.divsi v1 c128_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c128_i32_0 c0_i32_3
  let v9 : BitVec 32 := Scalar.extui v8
  let c0_i32_4 : BitVec 32 := 0#32
  let v10 : BitVec 1 := Scalar.cmpi .slt c128_i32_0 c0_i32_4
  let v11 : BitVec 32 := Scalar.extui v10
  let v12 : BitVec 32 := Scalar.subi v9 v11
  let v13 : BitVec 1 := Scalar.cmpi .ne v7 v12
  let v14 : BitVec 32 := Scalar.remsi v1 c128_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_6 : BitVec 32 := 0#32
  let c0_i32_7 : BitVec 32 := 0#32
  let c0_i32_8 : BitVec 32 := 0#32
  ![c0_i32_6.toNat, v19.toNat, c0_i32_7.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S8x512x1024 : Shape := ⟨3, ![8, 512, 1024]⟩
abbrev S4x128x1024 : Shape := ⟨3, ![4, 128, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S4x128x1024, .f32⟩
  | .hbm, ⟨8, _⟩ => ⟨S_, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S4x128x1024, .f32⟩
  | .hbm, ⟨23, _⟩ => ⟨S_, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S8x1408x1024 : Shape := ⟨3, ![8, 1408, 1024]⟩
abbrev S4x352x1024 : Shape := ⟨3, ![4, 352, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1408x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c352_i32 : BitVec 32 := 352#32
  let v0 : BitVec 32 := Scalar.muli arg0 c352_i32
  let c0_i32 : BitVec 32 := 0#32
  let v1 : BitVec 32 := Scalar.addi v0 c0_i32
  let c352_i32_0 : BitVec 32 := 352#32
  let v2 : BitVec 32 := Scalar.divsi v1 c352_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c352_i32_0 c0_i32_3
  let v9 : BitVec 32 := Scalar.extui v8
  let c0_i32_4 : BitVec 32 := 0#32
  let v10 : BitVec 1 := Scalar.cmpi .slt c352_i32_0 c0_i32_4
  let v11 : BitVec 32 := Scalar.extui v10
  let v12 : BitVec 32 := Scalar.subi v9 v11
  let v13 : BitVec 1 := Scalar.cmpi .ne v7 v12
  let v14 : BitVec 32 := Scalar.remsi v1 c352_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_6 : BitVec 32 := 0#32
  let c0_i32_7 : BitVec 32 := 0#32
  let c0_i32_8 : BitVec 32 := 0#32
  ![c0_i32_6.toNat, v19.toNat, c0_i32_7.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8x1408x1024 : Shape := ⟨3, ![8, 1408, 1024]⟩
abbrev S4x352x1024 : Shape := ⟨3, ![4, 352, 1024]⟩
abbrev S_ : Shape := ⟨0, ![]⟩
abbrev S1408x1024 : Shape := ⟨2, ![1408, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x1408x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S8x1408x1024, .f32⟩
  | .hbm, ⟨5, _⟩ => ⟨S_, .f32⟩
  | .hbm, ⟨6, _⟩ => ⟨S1408x1024, .f32⟩
  | .hbm, ⟨7, _⟩ => ⟨S4x352x1024, .f32⟩
  | .hbm, ⟨8, _⟩ => ⟨S_, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S4x352x1024, .f32⟩
  | .hbm, ⟨23, _⟩ => ⟨S_, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | _, _ => ⟨S8x1408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S8x26624x128 : Shape := ⟨3, ![8, 26624, 128]⟩
abbrev S4x1024x576 : Shape := ⟨3, ![4, 1024, 576]⟩
abbrev S8x256x128 : Shape := ⟨3, ![8, 256, 128]⟩
abbrev S1x256x576 : Shape := ⟨3, ![1, 256, 576]⟩
abbrev S1x256x128 : Shape := ⟨3, ![1, 256, 128]⟩
abbrev S256x128 : Shape := ⟨2, ![256, 128]⟩
abbrev S256x64 : Shape := ⟨2, ![256, 64]⟩
abbrev S256x576 : Shape := ⟨2, ![256, 576]⟩

abbrev nBuf : Space → Nat
  | .hbm => 8
  | .vmem => 24
  | .smem => 0
  | _ => 0

abbrev bufTy : (tb : Table) → Fin (tcTables nBuf tb) → BufTy
  | .hbm, ⟨0, _⟩ => ⟨S8x26624x128, .bf16⟩
  | .hbm, ⟨1, _⟩ => ⟨S4x1024x576, .f32⟩
  | .hbm, ⟨2, _⟩ => ⟨S4x1024x576, .f32⟩
  | .hbm, ⟨3, _⟩ => ⟨S4x1024x576, .f32⟩
  | .hbm, ⟨4, _⟩ => ⟨S4x1024x576, .f32⟩
  | .hbm, ⟨5, _⟩ => ⟨S4x1024x576, .f32⟩
  | .hbm, ⟨6, _⟩ => ⟨S4x1024x576, .f32⟩
  | .hbm, ⟨7, _⟩ => ⟨S4x1024x576, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | .local _ .vmem, ⟨18, _⟩ => ⟨S1x256x576, .f32⟩
  | .local _ .vmem, ⟨19, _⟩ => ⟨S1x256x576, .f32⟩
  | .local _ .vmem, ⟨20, _⟩ => ⟨S1x256x576, .f32⟩
  | .local _ .vmem, ⟨21, _⟩ => ⟨S1x256x576, .f32⟩
  | .local _ .vmem, ⟨22, _⟩ => ⟨S1x256x576, .f32⟩
  | .local _ .vmem, ⟨23, _⟩ => ⟨S1x256x576, .f32⟩
  | _, _ => ⟨S8x26624x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c0_i32 : BitVec 32 := 0#32
  let v1 : BitVec 32 := Scalar.addi v0 c0_i32
  let c0_i32_0 : BitVec 32 := 0#32
  let v2 : BitVec 32 := Scalar.addi v1 c0_i32_0
  let c256_i32 : BitVec 32 := 256#32
  let v3 : BitVec 32 := Scalar.divsi v2 c256_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c256_i32 c0_i32_3
  let v10 : BitVec 32 := Scalar.extui v9
  let c0_i32_4 : BitVec 32 := 0#32
  let v11 : BitVec 1 := Scalar.cmpi .slt c256_i32 c0_i32_4
  let v12 : BitVec 32 := Scalar.extui v11
  let v13 : BitVec 32 := Scalar.subi v10 v12
  let v14 : BitVec 1 := Scalar.cmpi .ne v8 v13
  let v15 : BitVec 32 := Scalar.remsi v2 c256_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_6 : BitVec 32 := 0#32
  let c0_i32_7 : BitVec 32 := 0#32
  let c0_i32_8 : BitVec 32 := 0#32
  ![c0_i32_6.toNat, v20.toNat, c0_i32_7.toNat]

def cc0_transform_1 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c0_i32 : BitVec 32 := 0#32
  let v1 : BitVec 32 := Scalar.addi v0 c0_i32
  let c1024_i32 : BitVec 32 := 1024#32
  let v2 : BitVec 32 := Scalar.addi v1 c1024_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_2 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c0_i32 : BitVec 32 := 0#32
  let v1 : BitVec 32 := Scalar.addi v0 c0_i32
  let c2048_i32 : BitVec 32 := 2048#32
  let v2 : BitVec 32 := Scalar.addi v1 c2048_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_3 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c0_i32 : BitVec 32 := 0#32
  let v1 : BitVec 32 := Scalar.addi v0 c0_i32
  let c3072_i32 : BitVec 32 := 3072#32
  let v2 : BitVec 32 := Scalar.addi v1 c3072_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_4 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c0_i32 : BitVec 32 := 0#32
  let v1 : BitVec 32 := Scalar.addi v0 c0_i32
  let c4096_i32 : BitVec 32 := 4096#32
  let v2 : BitVec 32 := Scalar.addi v1 c4096_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x576 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x576 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x576 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference19Ideal.lean ====
abbrev S8x26624x128 : Shape := ⟨3, ![8, 26624, 128]⟩
abbrev S4x1024x576 : Shape := ⟨3, ![4, 1024, 576]⟩
abbrev S_ : Shape := ⟨0, ![]⟩
abbrev S26624x128 : Shape := ⟨2, ![26624, 128]⟩
abbrev S4x6656x128 : Shape := ⟨3, ![4, 6656, 128]⟩
abbrev S4x5120x128 : Shape := ⟨3, ![4, 5120, 128]⟩
abbrev S4x5x1024x128 : Shape := ⟨4, ![4, 5, 1024, 128]⟩
abbrev S4x1024x5x128 : Shape := ⟨4, ![4, 1024, 5, 128]⟩
abbrev S4x1024x640 : Shape := ⟨3, ![4, 1024, 640]⟩

abbrev nBuf : Space → Nat
  | .hbm => 46
  | .vmem => 0
  | .smem => 0
  | _ => 0

abbrev bufTy : (tb : Table) → Fin (tcTables nBuf tb) → BufTy
  | .hbm, ⟨0, _⟩ => ⟨S8x26624x128, .bf16⟩
  | .hbm, ⟨1, _⟩ => ⟨S4x1024x576, .f32⟩
  | .hbm, ⟨2, _⟩ => ⟨S4x1024x576, .f32⟩
  | .hbm, ⟨3, _⟩ => ⟨S4x1024x576, .f32⟩
  | .hbm, ⟨4, _⟩ => ⟨S8x26624x128, .f32⟩
  | .hbm, ⟨5, _⟩ => ⟨S_, .f32⟩
  | .hbm, ⟨6, _⟩ => ⟨S26624x128, .f32⟩
  | .hbm, ⟨7, _⟩ => ⟨S4x6656x128, .f32⟩
  | .hbm, ⟨8, _⟩ => ⟨S4x5120x128, .f32⟩
  | .hbm, ⟨9, _⟩ => ⟨S4x5x1024x128, .f32⟩
  | .hbm, ⟨10, _⟩ => ⟨S4x1024x5x128, .f32⟩
  | .hbm, ⟨11, _⟩ => ⟨S4x1024x640, .f32⟩
  | .hbm, ⟨12, _⟩ => ⟨S4x1024x576, .f32⟩
  | .hbm, ⟨13, _⟩ => ⟨S_, .f32⟩
  | .hbm, ⟨14, _⟩ => ⟨S4x1024x576, .f32⟩
  | .hbm, ⟨15, _⟩ => ⟨S4x1024x576, .f32⟩
  | .hbm, ⟨16, _⟩ => ⟨S_, .f32⟩
  | .hbm, ⟨17, _⟩ => ⟨S4x1024x576, .f32⟩
  | .hbm, ⟨18, _⟩ => ⟨S4x1024x576, .f32⟩
  | .hbm, ⟨19, _⟩ => ⟨S4x1024x576, .f32⟩
  | .hbm, ⟨20, _⟩ => ⟨S_, .f32⟩
  | .hbm, ⟨21, _⟩ => ⟨S4x1024x576, .f32⟩
  | .hbm, ⟨22, _⟩ => ⟨S4x1024x576, .f32⟩
  | .hbm, ⟨23, _⟩ => ⟨S4x1024x576, .f32⟩
  | .hbm, ⟨24, _⟩ => ⟨S_, .f32⟩
  | .hbm, ⟨25, _⟩ => ⟨S4x1024x576, .f32⟩
  | .hbm, ⟨26, _⟩ => ⟨S4x1024x576, .f32⟩
  | .hbm, ⟨27, _⟩ => ⟨S4x1024x576, .f32⟩
  | .hbm, ⟨28, _⟩ => ⟨S_, .f32⟩
  | .hbm, ⟨29, _⟩ => ⟨S4x1024x576, .f32⟩
  | .hbm, ⟨30, _⟩ => ⟨S4x1024x576, .f32⟩
  | .hbm, ⟨31, _⟩ => ⟨S_, .f32⟩
  | .hbm, ⟨32, _⟩ => ⟨S4x1024x576, .f32⟩
  | .hbm, ⟨33, _⟩ => ⟨S4x1024x576, .f32⟩
  | .hbm, ⟨34, _⟩ => ⟨S4x1024x576, .f32⟩
  | .hbm, ⟨35, _⟩ => ⟨S_, .f32⟩
  | .hbm, ⟨36, _⟩ => ⟨S4x1024x576, .f32⟩
  | .hbm, ⟨37, _⟩ => ⟨S4x1024x576, .f32⟩
  | .hbm, ⟨38, _⟩ => ⟨S4x1024x576, .f32⟩
  | .hbm, ⟨39, _⟩ => ⟨S_, .f32⟩
  | .hbm, ⟨40, _⟩ => ⟨S4x1024x576, .f32⟩
  | .hbm, ⟨41, _⟩ => ⟨S4x1024x576, .f32⟩
  | .hbm, ⟨42, _⟩ => ⟨S4x1024x576, .f32⟩
  | .hbm, ⟨43, _⟩ => ⟨S_, .f32⟩
  | .hbm, ⟨44, _⟩ => ⟨S4x1024x576, .f32⟩
  | .hbm, ⟨45, _⟩ => ⟨S4x1024x576, .f32⟩
  | _, _ => ⟨S8x26624x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel20.lean ====
abbrev S8x26624x128 : Shape := ⟨3, ![8, 26624, 128]⟩
abbrev S4x512x128 : Shape := ⟨3, ![4, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x26624x128, .bf16⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S4x512x128, .f32⟩
  | .hbm, ⟨5, _⟩ => ⟨S4x512x128, .f32⟩
  | .hbm, ⟨6, _⟩ => ⟨S4x512x128, .f32⟩
  | .hbm, ⟨7, _⟩ => ⟨S4x512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x26624x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c5120_i32 : BitVec 32 := 5120#32
  let v1 : BitVec 32 := Scalar.addi v0 c5120_i32
  let c0_i32 : BitVec 32 := 0#32
  let v2 : BitVec 32 := Scalar.addi v1 c0_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S8x26624x128 : Shape := ⟨3, ![8, 26624, 128]⟩
abbrev S4x512x128 : Shape := ⟨3, ![4, 512, 128]⟩
abbrev S_ : Shape := ⟨0, ![]⟩
abbrev S26624x128 : Shape := ⟨2, ![26624, 128]⟩
abbrev S4x6656x128 : Shape := ⟨3, ![4, 6656, 128]⟩
abbrev S4x1x512x128 : Shape := ⟨4, ![4, 1, 512, 128]⟩
abbrev S4x512x1x128 : Shape := ⟨4, ![4, 512, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x26624x128, .bf16⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S8x26624x128, .f32⟩
  | .hbm, ⟨5, _⟩ => ⟨S_, .f32⟩
  | .hbm, ⟨6, _⟩ => ⟨S26624x128, .f32⟩
  | .hbm, ⟨7, _⟩ => ⟨S4x6656x128, .f32⟩
  | .hbm, ⟨8, _⟩ => ⟨S4x512x128, .f32⟩
  | .hbm, ⟨9, _⟩ => ⟨S4x1x512x128, .f32⟩
  | .hbm, ⟨10, _⟩ => ⟨S4x512x1x128, .f32⟩
  | .hbm, ⟨11, _⟩ => ⟨S4x512x128, .f32⟩
  | .hbm, ⟨12, _⟩ => ⟨S_, .f32⟩
  | .hbm, ⟨13, _⟩ => ⟨S4x512x128, .f32⟩
  | .hbm, ⟨14, _⟩ => ⟨S4x512x128, .f32⟩
  | .hbm, ⟨15, _⟩ => ⟨S_, .f32⟩
  | .hbm, ⟨16, _⟩ => ⟨S4x512x128, .f32⟩
  | .hbm, ⟨17, _⟩ => ⟨S4x512x128, .f32⟩
  | .hbm, ⟨18, _⟩ => ⟨S4x512x128, .f32⟩
  | .hbm, ⟨19, _⟩ => ⟨S_, .f32⟩
  | .hbm, ⟨20, _⟩ => ⟨S4x512x128, .f32⟩
  | .hbm, ⟨21, _⟩ => ⟨S4x512x128, .f32⟩
  | .hbm, ⟨22, _⟩ => ⟨S4x512x128, .f32⟩
  | .hbm, ⟨23, _⟩ => ⟨S_, .f32⟩
  | .hbm, ⟨24, _⟩ => ⟨S4x512x128, .f32⟩
  | .hbm, ⟨25, _⟩ => ⟨S4x512x128, .f32⟩
  | .hbm, ⟨26, _⟩ => ⟨S4x512x128, .f32⟩
  | .hbm, ⟨27, _⟩ => ⟨S_, .f32⟩
  | .hbm, ⟨28, _⟩ => ⟨S4x512x128, .f32⟩
  | .hbm, ⟨29, _⟩ => ⟨S4x512x128, .f32⟩
  | .hbm, ⟨30, _⟩ => ⟨S_, .f32⟩
  | .hbm, ⟨31, _⟩ => ⟨S4x512x128, .f32⟩
  | .hbm, ⟨32, _⟩ => ⟨S4x512x128, .f32⟩
  | .hbm, ⟨33, _⟩ => ⟨S4x512x128, .f32⟩
  | .hbm, ⟨34, _⟩ => ⟨S_, .f32⟩
  | .hbm, ⟨35, _⟩ => ⟨S4x512x128, .f32⟩
  | .hbm, ⟨36, _⟩ => ⟨S4x512x128, .f32⟩
  | .hbm, ⟨37, _⟩ => ⟨S4x512x128, .f32⟩
  | .hbm, ⟨38, _⟩ => ⟨S_, .f32⟩
  | .hbm, ⟨39, _⟩ => ⟨S4x512x128, .f32⟩
  | .hbm, ⟨40, _⟩ => ⟨S4x512x128, .f32⟩
  | .hbm, ⟨41, _⟩ => ⟨S4x512x128, .f32⟩
  | .hbm, ⟨42, _⟩ => ⟨S_, .f32⟩
  | .hbm, ⟨43, _⟩ => ⟨S4x512x128, .f32⟩
  | .hbm, ⟨44, _⟩ => ⟨S4x512x128, .f32⟩
  | _, _ => ⟨S8x26624x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel21.lean ====
abbrev S8x26624x128 : Shape := ⟨3, ![8, 26624, 128]⟩
abbrev S4x256x256 : Shape := ⟨3, ![4, 256, 256]⟩
abbrev S8x256x128 : Shape := ⟨3, ![8, 256, 128]⟩
abbrev S1x256x256 : Shape := ⟨3, ![1, 256, 256]⟩
abbrev S1x256x128 : Shape := ⟨3, ![1, 256, 128]⟩
abbrev S256x128 : Shape := ⟨2, ![256, 128]⟩
abbrev S256x256 : Shape := ⟨2, ![256, 256]⟩

abbrev nBuf : Space → Nat
  | .hbm => 8
  | .vmem => 18
  | .smem => 0
  | _ => 0

abbrev bufTy : (tb : Table) → Fin (tcTables nBuf tb) → BufTy
  | .hbm, ⟨0, _⟩ => ⟨S8x26624x128, .bf16⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S4x256x256, .f32⟩
  | .hbm, ⟨7, _⟩ => ⟨S4x256x256, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S8x26624x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c5632_i32 : BitVec 32 := 5632#32
  let v1 : BitVec 32 := Scalar.addi v0 c5632_i32
  let c0_i32 : BitVec 32 := 0#32
  let v2 : BitVec 32 := Scalar.addi v1 c0_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_1 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c5632_i32 : BitVec 32 := 5632#32
  let v1 : BitVec 32 := Scalar.addi v0 c5632_i32
  let c256_i32 : BitVec 32 := 256#32
  let v2 : BitVec 32 := Scalar.addi v1 c256_i32
  let c256_i32_0 : BitVec 32 := 256#32
  let v3 : BitVec 32 := Scalar.divsi v2 c256_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32_0 c0_i32_2
  let v10 : BitVec 32 := Scalar.extui v9
  let c0_i32_3 : BitVec 32 := 0#32
  let v11 : BitVec 1 := Scalar.cmpi .slt c256_i32_0 c0_i32_3
  let v12 : BitVec 32 := Scalar.extui v11
  let v13 : BitVec 32 := Scalar.subi v10 v12
  let v14 : BitVec 1 := Scalar.cmpi .ne v8 v13
  let v15 : BitVec 32 := Scalar.remsi v2 c256_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S8x26624x128 : Shape := ⟨3, ![8, 26624, 128]⟩
abbrev S4x256x256 : Shape := ⟨3, ![4, 256, 256]⟩
abbrev S_ : Shape := ⟨0, ![]⟩
abbrev S26624x128 : Shape := ⟨2, ![26624, 128]⟩
abbrev S4x6656x128 : Shape := ⟨3, ![4, 6656, 128]⟩
abbrev S4x512x128 : Shape := ⟨3, ![4, 512, 128]⟩
abbrev S4x2x256x128 : Shape := ⟨4, ![4, 2, 256, 128]⟩
abbrev S4x256x2x128 : Shape := ⟨4, ![4, 256, 2, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x26624x128, .bf16⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S8x26624x128, .f32⟩
  | .hbm, ⟨5, _⟩ => ⟨S_, .f32⟩
  | .hbm, ⟨6, _⟩ => ⟨S26624x128, .f32⟩
  | .hbm, ⟨7, _⟩ => ⟨S4x6656x128, .f32⟩
  | .hbm, ⟨8, _⟩ => ⟨S4x512x128, .f32⟩
  | .hbm, ⟨9, _⟩ => ⟨S4x2x256x128, .f32⟩
  | .hbm, ⟨10, _⟩ => ⟨S4x256x2x128, .f32⟩
  | .hbm, ⟨11, _⟩ => ⟨S4x256x256, .f32⟩
  | .hbm, ⟨12, _⟩ => ⟨S_, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S_, .f32⟩
  | .hbm, ⟨24, _⟩ => ⟨S4x256x256, .f32⟩
  | .hbm, ⟨25, _⟩ => ⟨S4x256x256, .f32⟩
  | .hbm, ⟨26, _⟩ => ⟨S4x256x256, .f32⟩
  | .hbm, ⟨27, _⟩ => ⟨S_, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S4x256x256, .f32⟩
  | .hbm, ⟨38, _⟩ => ⟨S_, .f32⟩
  | .hbm, ⟨39, _⟩ => ⟨S4x256x256, .f32⟩
  | .hbm, ⟨40, _⟩ => ⟨S4x256x256, .f32⟩
  | .hbm, ⟨41, _⟩ => ⟨S4x256x256, .f32⟩
  | .hbm, ⟨42, _⟩ => ⟨S_, .f32⟩
  | .hbm, ⟨43, _⟩ => ⟨S4x256x256, .f32⟩
  | .hbm, ⟨44, _⟩ => ⟨S4x256x256, .f32⟩
  | _, _ => ⟨S8x26624x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel22.lean ====
abbrev S8x26624x128 : Shape := ⟨3, ![8, 26624, 128]⟩
abbrev S4x256x128 : Shape := ⟨3, ![4, 256, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x26624x128, .bf16⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S4x256x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x26624x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c6656_i32 : BitVec 32 := 6656#32
  let v0 : BitVec 32 := Scalar.muli arg0 c6656_i32
  let c6144_i32 : BitVec 32 := 6144#32
  let v1 : BitVec 32 := Scalar.addi v0 c6144_i32
  let c0_i32 : BitVec 32 := 0#32
  let v2 : BitVec 32 := Scalar.addi v1 c0_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference22Ideal.lean ====
abbrev S8x26624x128 : Shape := ⟨3, ![8, 26624, 128]⟩
abbrev S4x256x128 : Shape := ⟨3, ![4, 256, 128]⟩
abbrev S_ : Shape := ⟨0, ![]⟩
abbrev S26624x128 : Shape := ⟨2, ![26624, 128]⟩
abbrev S4x6656x128 : Shape := ⟨3, ![4, 6656, 128]⟩
abbrev S4x1x256x128 : Shape := ⟨4, ![4, 1, 256, 128]⟩
abbrev S4x256x1x128 : Shape := ⟨4, ![4, 256, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x26624x128, .bf16⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S8x26624x128, .f32⟩
  | .hbm, ⟨5, _⟩ => ⟨S_, .f32⟩
  | .hbm, ⟨6, _⟩ => ⟨S26624x128, .f32⟩
  | .hbm, ⟨7, _⟩ => ⟨S4x6656x128, .f32⟩
  | .hbm, ⟨8, _⟩ => ⟨S4x256x128, .f32⟩
  | .hbm, ⟨9, _⟩ => ⟨S4x1x256x128, .f32⟩
  | .hbm, ⟨10, _⟩ => ⟨S4x256x1x128, .f32⟩
  | .hbm, ⟨11, _⟩ => ⟨S4x256x128, .f32⟩
  | .hbm, ⟨12, _⟩ => ⟨S_, .f32⟩
  | .hbm, ⟨13, _⟩ => ⟨S4x256x128, .f32⟩
  | .hbm, ⟨14, _⟩ => ⟨S4x256x128, .f32⟩
  | .hbm, ⟨15, _⟩ => ⟨S_, .f32⟩
  | .hbm, ⟨16, _⟩ => ⟨S4x256x128, .f32⟩
  | .hbm, ⟨17, _⟩ => ⟨S4x256x128, .f32⟩
  | .hbm, ⟨18, _⟩ => ⟨S4x256x128, .f32⟩
  | .hbm, ⟨19, _⟩ => ⟨S_, .f32⟩
  | .hbm, ⟨20, _⟩ => ⟨S4x256x128, .f32⟩
  | .hbm, ⟨21, _⟩ => ⟨S4x256x128, .f32⟩
  | .hbm, ⟨22, _⟩ => ⟨S4x256x128, .f32⟩
  | .hbm, ⟨23, _⟩ => ⟨S_, .f32⟩
  | .hbm, ⟨24, _⟩ => ⟨S4x256x128, .f32⟩
  | .hbm, ⟨25, _⟩ => ⟨S4x256x128, .f32⟩
  | .hbm, ⟨26, _⟩ => ⟨S4x256x128, .f32⟩
  | .hbm, ⟨27, _⟩ => ⟨S_, .f32⟩
  | .hbm, ⟨28, _⟩ => ⟨S4x256x128, .f32⟩
  | .hbm, ⟨29, _⟩ => ⟨S4x256x128, .f32⟩
  | .hbm, ⟨30, _⟩ => ⟨S_, .f32⟩
  | .hbm, ⟨31, _⟩ => ⟨S4x256x128, .f32⟩
  | .hbm, ⟨32, _⟩ => ⟨S4x256x128, .f32⟩
  | .hbm, ⟨33, _⟩ => ⟨S4x256x128, .f32⟩
  | .hbm, ⟨34, _⟩ => ⟨S_, .f32⟩
  | .hbm, ⟨35, _⟩ => ⟨S4x256x128, .f32⟩
  | .hbm, ⟨36, _⟩ => ⟨S4x256x128, .f32⟩
  | .hbm, ⟨37, _⟩ => ⟨S4x256x128, .f32⟩
  | .hbm, ⟨38, _⟩ => ⟨S_, .f32⟩
  | .hbm, ⟨39, _⟩ => ⟨S4x256x128, .f32⟩
  | .hbm, ⟨40, _⟩ => ⟨S4x256x128, .f32⟩
  | .hbm, ⟨41, _⟩ => ⟨S4x256x128, .f32⟩
  | .hbm, ⟨42, _⟩ => ⟨S_, .f32⟩
  | .hbm, ⟨43, _⟩ => ⟨S4x256x128, .f32⟩
  | .hbm, ⟨44, _⟩ => ⟨S4x256x128, .f32⟩
  | _, _ => ⟨S8x26624x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel23.lean ====
abbrev S8x25600x128 : Shape := ⟨3, ![8, 25600, 128]⟩
abbrev S4x1024x704 : Shape := ⟨3, ![4, 1024, 704]⟩
abbrev S8x256x128 : Shape := ⟨3, ![8, 256, 128]⟩
abbrev S1x256x704 : Shape := ⟨3, ![1, 256, 704]⟩
abbrev S1x256x128 : Shape := ⟨3, ![1, 256, 128]⟩
abbrev S256x128 : Shape := ⟨2, ![256, 128]⟩
abbrev S256x64 : Shape := ⟨2, ![256, 64]⟩
abbrev S256x704 : Shape := ⟨2, ![256, 704]⟩

abbrev nBuf : Space → Nat
  | .hbm => 8
  | .vmem => 26
  | .smem => 0
  | _ => 0

abbrev bufTy : (tb : Table) → Fin (tcTables nBuf tb) → BufTy
  | .hbm, ⟨0, _⟩ => ⟨S8x25600x128, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .local _ .vmem, ⟨0, _⟩ => ⟨S8x256x128, .bf16⟩
  | .local _ .vmem, ⟨1, _⟩ => ⟨S8x256x128, .bf16⟩
  | .local _ .vmem, ⟨2, _⟩ => ⟨S8x256x128, .bf16⟩
  | .local _ .vmem, ⟨3, _⟩ => ⟨S8x256x128, .bf16⟩
  | .local _ .vmem, ⟨4, _⟩ => ⟨S8x256x128, .bf16⟩
  | .local _ .vmem, ⟨5, _⟩ => ⟨S8x256x128, .bf16⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S8x256x128, .bf16⟩
  | .local _ .vmem, ⟨11, _⟩ => ⟨S8x256x128, .bf16⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | .local _ .vmem, ⟨22, _⟩ => ⟨S1x256x704, .f32⟩
  | .local _ .vmem, ⟨23, _⟩ => ⟨S1x256x704, .f32⟩
  | .local _ .vmem, ⟨24, _⟩ => ⟨S1x256x704, .f32⟩
  | .local _ .vmem, ⟨25, _⟩ => ⟨S1x256x704, .f32⟩
  | _, _ => ⟨S8x25600x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c0_i32 : BitVec 32 := 0#32
  let v1 : BitVec 32 := Scalar.addi v0 c0_i32
  let c0_i32_0 : BitVec 32 := 0#32
  let v2 : BitVec 32 := Scalar.addi v1 c0_i32_0
  let c256_i32 : BitVec 32 := 256#32
  let v3 : BitVec 32 := Scalar.divsi v2 c256_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c256_i32 c0_i32_3
  let v10 : BitVec 32 := Scalar.extui v9
  let c0_i32_4 : BitVec 32 := 0#32
  let v11 : BitVec 1 := Scalar.cmpi .slt c256_i32 c0_i32_4
  let v12 : BitVec 32 := Scalar.extui v11
  let v13 : BitVec 32 := Scalar.subi v10 v12
  let v14 : BitVec 1 := Scalar.cmpi .ne v8 v13
  let v15 : BitVec 32 := Scalar.remsi v2 c256_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_6 : BitVec 32 := 0#32
  let c0_i32_7 : BitVec 32 := 0#32
  let c0_i32_8 : BitVec 32 := 0#32
  ![c0_i32_6.toNat, v20.toNat, c0_i32_7.toNat]

def cc0_transform_1 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c0_i32 : BitVec 32 := 0#32
  let v1 : BitVec 32 := Scalar.addi v0 c0_i32
  let c1024_i32 : BitVec 32 := 1024#32
  let v2 : BitVec 32 := Scalar.addi v1 c1024_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_2 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c0_i32 : BitVec 32 := 0#32
  let v1 : BitVec 32 := Scalar.addi v0 c0_i32
  let c2048_i32 : BitVec 32 := 2048#32
  let v2 : BitVec 32 := Scalar.addi v1 c2048_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_3 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c0_i32 : BitVec 32 := 0#32
  let v1 : BitVec 32 := Scalar.addi v0 c0_i32
  let c3072_i32 : BitVec 32 := 3072#32
  let v2 : BitVec 32 := Scalar.addi v1 c3072_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_4 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c0_i32 : BitVec 32 := 0#32
  let v1 : BitVec 32 := Scalar.addi v0 c0_i32
  let c4096_i32 : BitVec 32 := 4096#32
  let v2 : BitVec 32 := Scalar.addi v1 c4096_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_5 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c0_i32 : BitVec 32 := 0#32
  let v1 : BitVec 32 := Scalar.addi v0 c0_i32
  let c5120_i32 : BitVec 32 := 5120#32
  let v2 : BitVec 32 := Scalar.addi v1 c5120_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x704 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference23Ideal.lean ====
abbrev S8x25600x128 : Shape := ⟨3, ![8, 25600, 128]⟩
abbrev S4x1024x704 : Shape := ⟨3, ![4, 1024, 704]⟩
abbrev S_ : Shape := ⟨0, ![]⟩
abbrev S25600x128 : Shape := ⟨2, ![25600, 128]⟩
abbrev S4x6400x128 : Shape := ⟨3, ![4, 6400, 128]⟩
abbrev S4x6144x128 : Shape := ⟨3, ![4, 6144, 128]⟩
abbrev S4x6x1024x128 : Shape := ⟨4, ![4, 6, 1024, 128]⟩
abbrev S4x1024x6x128 : Shape := ⟨4, ![4, 1024, 6, 128]⟩
abbrev S4x1024x768 : Shape := ⟨3, ![4, 1024, 768]⟩

abbrev nBuf : Space → Nat
  | .hbm => 46
  | .vmem => 0
  | .smem => 0
  | _ => 0

abbrev bufTy : (tb : Table) → Fin (tcTables nBuf tb) → BufTy
  | .hbm, ⟨0, _⟩ => ⟨S8x25600x128, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S8x25600x128, .f32⟩
  | .hbm, ⟨5, _⟩ => ⟨S_, .f32⟩
  | .hbm, ⟨6, _⟩ => ⟨S25600x128, .f32⟩
  | .hbm, ⟨7, _⟩ => ⟨S4x6400x128, .f32⟩
  | .hbm, ⟨8, _⟩ => ⟨S4x6144x128, .f32⟩
  | .hbm, ⟨9, _⟩ => ⟨S4x6x1024x128, .f32⟩
  | .hbm, ⟨10, _⟩ => ⟨S4x1024x6x128, .f32⟩
  | .hbm, ⟨11, _⟩ => ⟨S4x1024x768, .f32⟩
  | .hbm, ⟨12, _⟩ => ⟨S4x1024x704, .f32⟩
  | .hbm, ⟨13, _⟩ => ⟨S_, .f32⟩
  | .hbm, ⟨14, _⟩ => ⟨S4x1024x704, .f32⟩
  | .hbm, ⟨15, _⟩ => ⟨S4x1024x704, .f32⟩
  | .hbm, ⟨16, _⟩ => ⟨S_, .f32⟩
  | .hbm, ⟨17, _⟩ => ⟨S4x1024x704, .f32⟩
  | .hbm, ⟨18, _⟩ => ⟨S4x1024x704, .f32⟩
  | .hbm, ⟨19, _⟩ => ⟨S4x1024x704, .f32⟩
  | .hbm, ⟨20, _⟩ => ⟨S_, .f32⟩
  | .hbm, ⟨21, _⟩ => ⟨S4x1024x704, .f32⟩
  | .hbm, ⟨22, _⟩ => ⟨S4x1024x704, .f32⟩
  | .hbm, ⟨23, _⟩ => ⟨S4x1024x704, .f32⟩
  | .hbm, ⟨24, _⟩ => ⟨S_, .f32⟩
  | .hbm, ⟨25, _⟩ => ⟨S4x1024x704, .f32⟩
  | .hbm, ⟨26, _⟩ => ⟨S4x1024x704, .f32⟩
  | .hbm, ⟨27, _⟩ => ⟨S4x1024x704, .f32⟩
  | .hbm, ⟨28, _⟩ => ⟨S_, .f32⟩
  | .hbm, ⟨29, _⟩ => ⟨S4x1024x704, .f32⟩
  | .hbm, ⟨30, _⟩ => ⟨S4x1024x704, .f32⟩
  | .hbm, ⟨31, _⟩ => ⟨S_, .f32⟩
  | .hbm, ⟨32, _⟩ => ⟨S4x1024x704, .f32⟩
  | .hbm, ⟨33, _⟩ => ⟨S4x1024x704, .f32⟩
  | .hbm, ⟨34, _⟩ => ⟨S4x1024x704, .f32⟩
  | .hbm, ⟨35, _⟩ => ⟨S_, .f32⟩
  | .hbm, ⟨36, _⟩ => ⟨S4x1024x704, .f32⟩
  | .hbm, ⟨37, _⟩ => ⟨S4x1024x704, .f32⟩
  | .hbm, ⟨38, _⟩ => ⟨S4x1024x704, .f32⟩
  | .hbm, ⟨39, _⟩ => ⟨S_, .f32⟩
  | .hbm, ⟨40, _⟩ => ⟨S4x1024x704, .f32⟩
  | .hbm, ⟨41, _⟩ => ⟨S4x1024x704, .f32⟩
  | .hbm, ⟨42, _⟩ => ⟨S4x1024x704, .f32⟩
  | .hbm, ⟨43, _⟩ => ⟨S_, .f32⟩
  | .hbm, ⟨44, _⟩ => ⟨S4x1024x704, .f32⟩
  | .hbm, ⟨45, _⟩ => ⟨S4x1024x704, .f32⟩
  | _, _ => ⟨S8x25600x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel24.lean ====
abbrev S8x25600x128 : Shape := ⟨3, ![8, 25600, 128]⟩
abbrev S4x256x128 : Shape := ⟨3, ![4, 256, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x25600x128, .bf16⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S4x256x128, .f32⟩
  | .hbm, ⟨5, _⟩ => ⟨S4x256x128, .f32⟩
  | .hbm, ⟨6, _⟩ => ⟨S4x256x128, .f32⟩
  | .hbm, ⟨7, _⟩ => ⟨S4x256x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x25600x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c6400_i32 : BitVec 32 := 6400#32
  let v0 : BitVec 32 := Scalar.muli arg0 c6400_i32
  let c6144_i32 : BitVec 32 := 6144#32
  let v1 : BitVec 32 := Scalar.addi v0 c6144_i32
  let c0_i32 : BitVec 32 := 0#32
  let v2 : BitVec 32 := Scalar.addi v1 c0_i32
  let c256_i32 : BitVec 32 := 256#32
  let v3 : BitVec 32 := Scalar.divsi v2 c256_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let v20 : BitVec 32 := Scalar.addi v19 arg1
  let c0_i32_5 : BitVec 32 := 0#32
  let c0_i32_6 : BitVec 32 := 0#32
  let c0_i32_7 : BitVec 32 := 0#32
  ![c0_i32_5.toNat, v20.toNat, c0_i32_6.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S8x25600x128 : Shape := ⟨3, ![8, 25600, 128]⟩
abbrev S4x256x128 : Shape := ⟨3, ![4, 256, 128]⟩
abbrev S_ : Shape := ⟨0, ![]⟩
abbrev S25600x128 : Shape := ⟨2, ![25600, 128]⟩
abbrev S4x6400x128 : Shape := ⟨3, ![4, 6400, 128]⟩
abbrev S4x1x256x128 : Shape := ⟨4, ![4, 1, 256, 128]⟩
abbrev S4x256x1x128 : Shape := ⟨4, ![4, 256, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x25600x128, .bf16⟩
  | .hbm, ⟨1, _⟩ => ⟨S4x256x128, .f32⟩
  | .hbm, ⟨2, _⟩ => ⟨S4x256x128, .f32⟩
  | .hbm, ⟨3, _⟩ => ⟨S4x256x128, .f32⟩
  | .hbm, ⟨4, _⟩ => ⟨S8x25600x128, .f32⟩
  | .hbm, ⟨5, _⟩ => ⟨S_, .f32⟩
  | .hbm, ⟨6, _⟩ => ⟨S25600x128, .f32⟩
  | .hbm, ⟨7, _⟩ => ⟨S4x6400x128, .f32⟩
  | .hbm, ⟨8, _⟩ => ⟨S4x256x128, .f32⟩
  | .hbm, ⟨9, _⟩ => ⟨S4x1x256x128, .f32⟩
  | .hbm, ⟨10, _⟩ => ⟨S4x256x1x128, .f32⟩
  | .hbm, ⟨11, _⟩ => ⟨S4x256x128, .f32⟩
  | .hbm, ⟨12, _⟩ => ⟨S_, .f32⟩
  | .hbm, ⟨13, _⟩ => ⟨S4x256x128, .f32⟩
  | .hbm, ⟨14, _⟩ => ⟨S4x256x128, .f32⟩
  | .hbm, ⟨15, _⟩ => ⟨S_, .f32⟩
  | .hbm, ⟨16, _⟩ => ⟨S4x256x128, .f32⟩
  | .hbm, ⟨17, _⟩ => ⟨S4x256x128, .f32⟩
  | .hbm, ⟨18, _⟩ => ⟨S4x256x128, .f32⟩
  | .hbm, ⟨19, _⟩ => ⟨S_, .f32⟩
  | .hbm, ⟨20, _⟩ => ⟨S4x256x128, .f32⟩
  | .hbm, ⟨21, _⟩ => ⟨S4x256x128, .f32⟩
  | .hbm, ⟨22, _⟩ => ⟨S4x256x128, .f32⟩
  | .hbm, ⟨23, _⟩ => ⟨S_, .f32⟩
  | .hbm, ⟨24, _⟩ => ⟨S4x256x128, .f32⟩
  | .hbm, ⟨25, _⟩ => ⟨S4x256x128, .f32⟩
  | .hbm, ⟨26, _⟩ => ⟨S4x256x128, .f32⟩
  | .hbm, ⟨27, _⟩ => ⟨S_, .f32⟩
  | .hbm, ⟨28, _⟩ => ⟨S4x256x128, .f32⟩
  | .hbm, ⟨29, _⟩ => ⟨S4x256x128, .f32⟩
  | .hbm, ⟨30, _⟩ => ⟨S_, .f32⟩
  | .hbm, ⟨31, _⟩ => ⟨S4x256x128, .f32⟩
  | .hbm, ⟨32, _⟩ => ⟨S4x256x128, .f32⟩
  | .hbm, ⟨33, _⟩ => ⟨S4x256x128, .f32⟩
  | .hbm, ⟨34, _⟩ => ⟨S_, .f32⟩
  | .hbm, ⟨35, _⟩ => ⟨S4x256x128, .f32⟩
  | .hbm, ⟨36, _⟩ => ⟨S4x256x128, .f32⟩
  | .hbm, ⟨37, _⟩ => ⟨S4x256x128, .f32⟩
  | .hbm, ⟨38, _⟩ => ⟨S_, .f32⟩
  | .hbm, ⟨39, _⟩ => ⟨S4x256x128, .f32⟩
  | .hbm, ⟨40, _⟩ => ⟨S4x256x128, .f32⟩
  | .hbm, ⟨41, _⟩ => ⟨S4x256x128, .f32⟩
  | .hbm, ⟨42, _⟩ => ⟨S_, .f32⟩
  | .hbm, ⟨43, _⟩ => ⟨S4x256x128, .f32⟩
  | .hbm, ⟨44, _⟩ => ⟨S4x256x128, .f32⟩
  | _, _ => ⟨S8x25600x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel25.lean ====
abbrev S8x26624x128 : Shape := ⟨3, ![8, 26624, 128]⟩
abbrev S4x31x32 : Shape := ⟨3, ![4, 31, 32]⟩
abbrev S8x32x128 : Shape := ⟨3, ![8, 32, 128]⟩
abbrev S1x31x32 : Shape := ⟨3, ![1, 31, 32]⟩
abbrev S1x32x128 : Shape := ⟨3, ![1, 32, 128]⟩
abbrev S32x128 : Shape := ⟨2, ![32, 128]⟩
abbrev S31x32 : Shape := ⟨2, ![31, 32]⟩

abbrev nBuf : Space → Nat
  | .hbm => 8
  | .vmem => 16
  | .smem => 0
  | _ => 0

abbrev bufTy : (tb : Table) → Fin (tcTables nBuf tb) → BufTy
  | .hbm, ⟨0, _⟩ => ⟨S8x26624x128, .bf16⟩
  | .hbm, ⟨1, _⟩ => ⟨S4x31x32, .f32⟩
  | .hbm, ⟨2, _⟩ => ⟨S4x31x32, .f32⟩
  | .hbm, ⟨3, _⟩ => ⟨S4x31x32, .f32⟩
  | .hbm, ⟨4, _⟩ => ⟨S4x31x32, .f32⟩
  | .hbm, ⟨5, _⟩ => ⟨S4x31x32, .f32⟩
  | .hbm, ⟨6, _⟩ => ⟨S4x31x32, .f32⟩
  | .hbm, ⟨7, _⟩ => ⟨S4x31x32, .f32⟩
  | .local _ .vmem, ⟨0, _⟩ => ⟨S8x32x128, .bf16⟩
  | .local _ .vmem, ⟨1, _⟩ => ⟨S8x32x128, .bf16⟩
  | .local _ .vmem, ⟨2, _⟩ => ⟨S1x31x32, .f32⟩
  | .local _ .vmem, ⟨3, _⟩ => ⟨S1x31x32, .f32⟩
  | .local _ .vmem, ⟨4, _⟩ => ⟨S1x31x32, .f32⟩
  | .local _ .vmem, ⟨5, _⟩ => ⟨S1x31x32, .f32⟩
  | .local _ .vmem, ⟨6, _⟩ => ⟨S1x31x32, .f32⟩
  | .local _ .vmem, ⟨7, _⟩ => ⟨S1x31x32, .f32⟩
  | .local _ .vmem, ⟨8, _⟩ => ⟨S1x31x32, .f32⟩
  | .local _ .vmem, ⟨9, _⟩ => ⟨S1x31x32, .f32⟩
  | .local _ .vmem, ⟨10, _⟩ => ⟨S1x31x32, .f32⟩
  | .local _ .vmem, ⟨11, _⟩ => ⟨S1x31x32, .f32⟩
  | .local _ .vmem, ⟨12, _⟩ => ⟨S1x31x32, .f32⟩
  | .local _ .vmem, ⟨13, _⟩ => ⟨S1x31x32, .f32⟩
  | .local _ .vmem, ⟨14, _⟩ => ⟨S1x31x32, .f32⟩
  | .local _ .vmem, ⟨15, _⟩ => ⟨S1x31x32, .f32⟩
  | _, _ => ⟨S8x26624x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c6656_i32 : BitVec 32 := 6656#32
  let v0 : BitVec 32 := Scalar.muli arg0 c6656_i32
  let c6400_i32 : BitVec 32 := 6400#32
  let v1 : BitVec 32 := Scalar.addi v0 c6400_i32
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![c0_i32_4.toNat, v18.toNat, c0_i32_5.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x31x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x31x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x31x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x31x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x31x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x31x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x31x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S8x26624x128 : Shape := ⟨3, ![8, 26624, 128]⟩
abbrev S4x31x32 : Shape := ⟨3, ![4, 31, 32]⟩
abbrev S_ : Shape := ⟨0, ![]⟩
abbrev S26624x128 : Shape := ⟨2, ![26624, 128]⟩
abbrev S4x6656x128 : Shape := ⟨3, ![4, 6656, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x26624x128, .bf16⟩
  | .hbm, ⟨1, _⟩ => ⟨S4x31x32, .f32⟩
  | .hbm, ⟨2, _⟩ => ⟨S4x31x32, .f32⟩
  | .hbm, ⟨3, _⟩ => ⟨S4x31x32, .f32⟩
  | .hbm, ⟨4, _⟩ => ⟨S8x26624x128, .f32⟩
  | .hbm, ⟨5, _⟩ => ⟨S_, .f32⟩
  | .hbm, ⟨6, _⟩ => ⟨S26624x128, .f32⟩
  | .hbm, ⟨7, _⟩ => ⟨S4x6656x128, .f32⟩
  | .hbm, ⟨8, _⟩ => ⟨S4x31x32, .f32⟩
  | .hbm, ⟨9, _⟩ => ⟨S_, .f32⟩
  | .hbm, ⟨10, _⟩ => ⟨S4x31x32, .f32⟩
  | .hbm, ⟨11, _⟩ => ⟨S4x31x32, .f32⟩
  | .hbm, ⟨12, _⟩ => ⟨S_, .f32⟩
  | .hbm, ⟨13, _⟩ => ⟨S4x31x32, .f32⟩
  | .hbm, ⟨14, _⟩ => ⟨S4x31x32, .f32⟩
  | .hbm, ⟨15, _⟩ => ⟨S4x31x32, .f32⟩
  | .hbm, ⟨16, _⟩ => ⟨S_, .f32⟩
  | .hbm, ⟨17, _⟩ => ⟨S4x31x32, .f32⟩
  | .hbm, ⟨18, _⟩ => ⟨S4x31x32, .f32⟩
  | .hbm, ⟨19, _⟩ => ⟨S4x31x32, .f32⟩
  | .hbm, ⟨20, _⟩ => ⟨S_, .f32⟩
  | .hbm, ⟨21, _⟩ => ⟨S4x31x32, .f32⟩
  | .hbm, ⟨22, _⟩ => ⟨S4x31x32, .f32⟩
  | .hbm, ⟨23, _⟩ => ⟨S4x31x32, .f32⟩
  | .hbm, ⟨24, _⟩ => ⟨S_, .f32⟩
  | .hbm, ⟨25, _⟩ => ⟨S4x31x32, .f32⟩
  | .hbm, ⟨26, _⟩ => ⟨S4x31x32, .f32⟩
  | .hbm, ⟨27, _⟩ => ⟨S_, .f32⟩
  | .hbm, ⟨28, _⟩ => ⟨S4x31x32, .f32⟩
  | .hbm, ⟨29, _⟩ => ⟨S4x31x32, .f32⟩
  | .hbm, ⟨30, _⟩ => ⟨S4x31x32, .f32⟩
  | .hbm, ⟨31, _⟩ => ⟨S_, .f32⟩
  | .hbm, ⟨32, _⟩ => ⟨S4x31x32, .f32⟩
  | .hbm, ⟨33, _⟩ => ⟨S4x31x32, .f32⟩
  | .hbm, ⟨34, _⟩ => ⟨S4x31x32, .f32⟩
  | .hbm, ⟨35, _⟩ => ⟨S_, .f32⟩
  | .hbm, ⟨36, _⟩ => ⟨S4x31x32, .f32⟩
  | .hbm, ⟨37, _⟩ => ⟨S4x31x32, .f32⟩
  | .hbm, ⟨38, _⟩ => ⟨S4x31x32, .f32⟩
  | .hbm, ⟨39, _⟩ => ⟨S_, .f32⟩
  | .hbm, ⟨40, _⟩ => ⟨S4x31x32, .f32⟩
  | .hbm, ⟨41, _⟩ => ⟨S4x31x32, .f32⟩
  | _, _ => ⟨S8x26624x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Sums.lean ====
module

public import Idealize.ShloMosaic.Lib.Pointwise

@[expose] public section

noncomputable section

namespace Cert.Sums

/-- A sum over `n * b` rows is the sum over `n` tiles of the sums over the `b` rows of each. -/
theorem sum_tiles {M : Type*} [AddCommMonoid M] (n b N : ℕ) (h : N = n * b) (f : Fin N → M) :
    ∑ k : Fin N, f k
      = ∑ s ∈ Finset.range n, ∑ k : Fin b, if hs : s * b + k.val < N then f ⟨s * b + k.val, hs⟩ else 0 := by
  subst h
  rw [Finset.sum_range, ← Fintype.sum_prod_type', ← finProdFinEquiv.sum_comp]
  refine Finset.sum_congr rfl fun p _ => ?_
  have hv : (finProdFinEquiv p).val = p.1.val * b + p.2.val := by
    rw [finProdFinEquiv_apply_val]; ring
  rw [dif_pos (by rw [← hv]; exact (finProdFinEquiv p).isLt)]
  exact congrArg f (Fin.ext hv)

/-- A value that starts at its first term and grows by one term a step is the sum of its terms. -/
theorem sum_steps {M : Type*} [AddCommMonoid M] {N : ℕ} (o : (n : ℕ) → n < N → M) (f : ℕ → M) (h0 : ∀ h, o 0 h = f 0)
    (hs : ∀ n h, o (n + 1) h = o n (Nat.lt_of_succ_lt h) + f (n + 1)) :
    ∀ n h, o n h = ∑ s ∈ Finset.range (n + 1), f s
  | 0, h => (h0 h).trans (Finset.sum_range_one f).symm
  | n + 1, h => by rw [hs n h, sum_steps o f h0 hs n, ← Finset.sum_range_succ]

end Cert.Sums

end
-- ==== Proof.NormGrad.lean ====
module

public import Idealize.ShloMosaic.PureOps.Ideal.Laws

@[expose] public section

noncomputable section

/-! The gradient of one row of a root-mean-square norm, `x ↦ x · rsqrt(mean(x²) + ε) · g`, over the extended reals, in
    the order of operations in which the derivative of the three factors gives it. -/

namespace Cert.NormGrad

open Idealize.ShloMosaic

variable {n : ℕ}

/-- The mean of a row's squares, plus the small constant. The divisor is the word of 1024. -/
def ms (x : Fin n → EReal) : EReal :=
  Ideal.div (∑ k, x k * x k) (Ideal.ofBits FTy.f32 1149239296#32) + Ideal.ofBits FTy.f32 897988541#32

/-- The gradient that reaches the mean, from the gradient `d` of the normed row before its scale `g`. -/
def dms (x g d : Fin n → EReal) : EReal :=
  ∑ _u : Fin 1, Ideal.div ((∑ k, x k * (d k * g k)) * (Ideal.ofBits FTy.f32 3204448256#32 * Ideal.div (Ideal.rsqrt (ms x)) (ms x)))
    (Ideal.ofBits FTy.f32 1149239296#32)

/-- The row's gradient. -/
def dx (x g d : Fin n → EReal) (l : Fin n) : EReal :=
  d l * g l * Ideal.rsqrt (ms x) + x l * dms x g d + dms x g d * x l

/-- What the row adds to the gradient of the scale `g`. -/
def dg (x d : Fin n → EReal) (l : Fin n) : EReal :=
  x l * Ideal.rsqrt (ms x) * d l

end Cert.NormGrad

end
-- ==== Proof.Ple2.lean ====
module

public import proofs.«01_k».proof.Proof.Sums
public import proofs.«01_k».proof.Proof.NormGrad
public import proofs.«01_k».proof.Proof.Gen.Kernel2Ideal.Value
public import proofs.«01_k».proof.Proof.Gen.Reference2Ideal.Read

@[expose] public section

noncomputable section

namespace Cert.Ple2

open Cert.Kernel2Ideal Cert.Kernel2Ideal.Gen Cert.Kernel2Ideal.Value
open Idealize.ShloMosaic Idealize.ShloMosaic.TcCoe Idealize.SL.Sem

/-- The gradient of the gate's pre-activation `p`, from the gradient `d` of the gated product with `e`. -/
def dpre (p e d : EReal) : EReal := d * e * Ideal.logistic p * (1 - Ideal.logistic p)

theorem dpre_eq (p e d : EReal) : dpre p e d = d * e * (Ideal.logistic p * (1 - Ideal.logistic p)) := mul_assoc _ _ _

/-- The gradient of one normed row: the row's `dpre` against the rows of the gate's weight. -/
def dn (p e d : Fin 1024 → EReal) (w : Fin 1024 → Fin 1024 → EReal) (l : Fin 1024) : EReal := ∑ k, dpre (p k) (e k) (d k) * w l k

/-- One entry of a normed row. -/
def norm (x g : Fin 1024 → EReal) (l : Fin 1024) : EReal := x l * Ideal.rsqrt (NormGrad.ms x) * g l

/-! ## The kernel's payloads -/

section
variable (x d : Vec Ideal S512x1024 .f32) (q : Vec Ideal S512x256 .f32) (p e : Vec Ideal S512x1024 .bf16) (g : Vec Ideal S1x1024 .f32) (w : Vec Ideal S1024x1024 .bf16)

theorem dx_apply (r : Fin 512) (l : Fin 1024) :
    k0_pay16 x d (k0_pay5 g) (k0_pay9 x) (k0_pay10 x) (k0_pay13 p e d w) (ix2 r l)
      = d (ix2 r l) + NormGrad.dx (fun k => x (ix2 r k)) (fun k => g (ix2 0 k))
        (dn (fun k => p (ix2 r k)) (fun k => e (ix2 r k)) (fun k => d (ix2 r k)) fun j k => w (ix2 j k)) l := by
  pointwise [k0_pay16, k0_pay5, k0_pay9, k0_pay10, k0_pay13, k0_pay8, k0_pay7, k0_pay6, NormGrad.dx, NormGrad.dms, NormGrad.ms, dn, dpre]

theorem dffn_apply (r : Fin 512) (l : Fin 1024) :
    k0_pay18 x d (k0_pay5 g) (k0_pay9 x) (k0_pay10 x) (k0_pay13 p e d w) (ix2 r l)
      = d (ix2 r l) + NormGrad.dx (fun k => x (ix2 r k)) (fun k => g (ix2 0 k))
        (dn (fun k => p (ix2 r k)) (fun k => e (ix2 r k)) (fun k => d (ix2 r k)) fun j k => w (ix2 j k)) l := dx_apply x d p e g w r l

theorem dwi_apply (acc : Vec Ideal S256x1024 .f32) (a : Fin 256) (l : Fin 1024) :
    k0_pay20 q d (k0_pay6 p) acc (ix2 a l)
      = acc (ix2 a l) + ∑ r : Fin 512, q (ix2 r a) * (d (ix2 r l) * Ideal.logistic (p (ix2 r l))) := by
  pointwise [k0_pay20, k0_pay6]

theorem dg_apply (acc : Vec Ideal S1x1024 .f32) (l : Fin 1024) :
    k0_pay2 (k0_pay15 (k0_pay14 x p e d w)) acc (ix2 0 l)
      = acc (ix2 0 l) + ∑ r : Fin 512, NormGrad.dg (fun k => x (ix2 r k))
        (dn (fun k => p (ix2 r k)) (fun k => e (ix2 r k)) (fun k => d (ix2 r k)) fun j k => w (ix2 j k)) l := by
  pointwise [k0_pay2, k0_pay15, k0_pay14, k0_pay11, k0_pay9, k0_pay8, k0_pay13, k0_pay7, k0_pay6, NormGrad.dg, NormGrad.ms, dn, dpre]

theorem dwg_apply (acc : Vec Ideal S1024x1024 .f32) (a l : Fin 1024) :
    k0_pay4 (k0_pay17 (k0_pay7 p e d) (k0_pay12 x g)) acc (ix2 a l)
      = acc (ix2 a l) + ∑ r : Fin 512, norm (fun k => x (ix2 r k)) (fun k => g (ix2 0 k)) a * dpre (p (ix2 r l)) (e (ix2 r l)) (d (ix2 r l)) := by
  pointwise [k0_pay4, k0_pay17, k0_pay12, k0_pay11, k0_pay9, k0_pay8, k0_pay5, k0_pay7, k0_pay6, NormGrad.ms, norm, dpre]

theorem zero_dg (l : Fin 1024) : k0_pay1 (F := Ideal) (ix2 0 l) = 0 := by
  pointwise [k0_pay1]

theorem zero_dwg (a l : Fin 1024) : k0_pay3 (F := Ideal) (ix2 a l) = 0 := by
  pointwise [k0_pay3]

theorem zero_dwi (a : Fin 256) (l : Fin 1024) : k0_pay19 (F := Ideal) (ix2 a l) = 0 := by
  pointwise [k0_pay19]

end

/-! ## The reference -/

section
open Cert.Reference2Ideal.Read

variable (x d : Vec Ideal S8192x1024 .f32) (q : Vec Ideal S8192x256 .f32) (v : Vec Ideal S256x1024 .f32) (g : Vec Ideal S1024 .f32) (w : Vec Ideal S1024x1024 .f32)

theorem ref_dx (r : Fin 8192) (l : Fin 1024) :
    val_main_v56 (F := Ideal) x q d v g w (ix2 r l)
      = d (ix2 r l) + NormGrad.dx (fun k => x (ix2 r k)) (fun k => g (ix1 k))
        (dn (fun k => val_main_v17 (F := Ideal) x g w (ix2 r k)) (fun k => val_main_v0 (F := Ideal) q v (ix2 r k)) (fun k => d (ix2 r k)) fun j k => w (ix2 j k)) l := by
  unfold NormGrad.dx NormGrad.dms dn
  rw [← add_assoc, ← add_assoc]
  simp only [dpre_eq, Ideal.logistic]
  pointwise [NormGrad.ms, val_main_v1, val_main_cst, val_main_v2, val_main_v3, val_main_cst_0, val_main_v4, val_main_v5, val_main_cst_1, val_main_v6, val_main_v7, val_main_v8, val_main_v18, val_main_v19, val_main_cst_3, val_main_v20, val_main_v21, val_main_cst_4, val_main_v22, val_main_v23, val_main_cst_5, val_main_v24, val_main_v25, val_main_v26, val_main_v29, val_main_v31, val_main_v32, val_main_v9, val_main_cst_2, val_main_v10, val_main_v11, val_main_v14, val_main_v35, val_main_v39, val_main_v40, val_main_v42, val_main_cst_8, val_main_v43, val_main_v44, val_main_v45, val_main_v46, val_main_v47, val_main_v48, val_main_cst_9, val_main_v49, val_main_v50, val_main_cst_10, val_main_v51, val_main_v52, val_main_v53, val_main_v54, val_main_v55, val_main_v56]

theorem ref_dwi (a : Fin 256) (l : Fin 1024) :
    val_main_v58 (F := Ideal) x q d g w (ix2 a l)
      = ∑ r : Fin 8192, q (ix2 r a) * (d (ix2 r l) * Ideal.logistic (val_main_v17 (F := Ideal) x g w (ix2 r l))) := by
  refine Eq.trans ?_ (Finset.sum_congr rfl fun r _ => (mul_comm _ _).trans (congrArg (q (ix2 r a) * ·) (mul_comm _ _)) :
    (∑ r : Fin 8192, Ideal.logistic (val_main_v17 (F := Ideal) x g w (ix2 r l)) * d (ix2 r l) * q (ix2 r a)) = _)
  simp only [Ideal.logistic]
  pointwise [val_main_v18, val_main_v19, val_main_cst_3, val_main_v20, val_main_v21, val_main_cst_4, val_main_v22, val_main_v23, val_main_v29, val_main_v30, val_main_v57, val_main_v58]

theorem ref_dg (l : Fin 1024) :
    val_main_v61 (F := Ideal) x q d v g w (ix2 0 l)
      = ∑ r : Fin 8192, NormGrad.dg (fun k => x (ix2 r k))
        (dn (fun k => val_main_v17 (F := Ideal) x g w (ix2 r k)) (fun k => val_main_v0 (F := Ideal) q v (ix2 r k)) (fun k => d (ix2 r k)) fun j k => w (ix2 j k)) l := by
  unfold NormGrad.dg dn
  simp only [dpre_eq, Ideal.logistic]
  refine Eq.trans ?_ (Fin.sum_univ_one (fun _ => _))
  pointwise [NormGrad.ms, val_main_v1, val_main_cst, val_main_v2, val_main_v3, val_main_cst_0, val_main_v4, val_main_v5, val_main_cst_1, val_main_v6, val_main_v7, val_main_v8, val_main_v12, val_main_v13, val_main_v18, val_main_v19, val_main_cst_3, val_main_v20, val_main_v21, val_main_cst_4, val_main_v22, val_main_v23, val_main_cst_5, val_main_v24, val_main_v25, val_main_v26, val_main_v29, val_main_v31, val_main_v32, val_main_v35, val_main_v36, val_main_cst_6, val_main_v37, val_main_v38, val_main_cst_7, val_main_v41, val_main_v61]

theorem ref_dwg (a l : Fin 1024) :
    val_main_v34 (F := Ideal) x q d v g w (ix2 a l)
      = ∑ r : Fin 8192, norm (fun k => x (ix2 r k)) (fun k => g (ix1 k)) a
        * dpre (val_main_v17 (F := Ideal) x g w (ix2 r l)) (val_main_v0 (F := Ideal) q v (ix2 r l)) (d (ix2 r l)) := by
  unfold norm
  simp only [dpre_eq, Ideal.logistic, mul_comm (x _ * Ideal.rsqrt _ * g _)]
  pointwise [NormGrad.ms, val_main_v1, val_main_cst, val_main_v2, val_main_v3, val_main_cst_0, val_main_v4, val_main_v5, val_main_cst_1, val_main_v6, val_main_v7, val_main_v8, val_main_v12, val_main_v13, val_main_v14, val_main_v15, val_main_v16, val_main_v18, val_main_v19, val_main_cst_3, val_main_v20, val_main_v21, val_main_cst_4, val_main_v22, val_main_v23, val_main_cst_5, val_main_v24, val_main_v25, val_main_v26, val_main_v29, val_main_v31, val_main_v32, val_main_v33, val_main_v34]

end

/-! ## What a point leaves in the five result blocks -/

section
variable {F : FTy → Type} [FloatOps F] (m : (ℓ : Loc nD τ sig) → Buf (Elt F) ℓ)

theorem hz : (![0, 0] : Fin 2 → ℕ) = fun _ => 0 := by decide

/-- The two row results of a point, and the three sums after it, from the sums before. -/
def rows (c : Dev nD) (t : Fin cfg0.N) : Vec F S512x1024 .f32 :=
  k0_pay16 (iblk m c 0 t) (iblk m c 4 t) (k0_pay5 (iblk m c 6 t)) (k0_pay9 (iblk m c 0 t)) (k0_pay10 (iblk m c 0 t))
    (k0_pay13 (iblk m c 2 t) (iblk m c 3 t) (iblk m c 4 t) (iblk m c 7 t))
def rows' (c : Dev nD) (t : Fin cfg0.N) : Vec F S512x1024 .bf16 :=
  k0_pay18 (iblk m c 0 t) (iblk m c 4 t) (k0_pay5 (iblk m c 6 t)) (k0_pay9 (iblk m c 0 t)) (k0_pay10 (iblk m c 0 t))
    (k0_pay13 (iblk m c 2 t) (iblk m c 3 t) (iblk m c 4 t) (iblk m c 7 t))
def sum_dwi (c : Dev nD) (t : Fin cfg0.N) (acc : Vec F S256x1024 .f32) : Vec F S256x1024 .f32 :=
  k0_pay20 (iblk m c 1 t) (iblk m c 4 t) (k0_pay6 (iblk m c 2 t)) acc
def sum_dg (c : Dev nD) (t : Fin cfg0.N) (acc : Vec F S1x1024 .f32) : Vec F S1x1024 .f32 :=
  k0_pay2 (k0_pay15 (k0_pay14 (iblk m c 0 t) (iblk m c 2 t) (iblk m c 3 t) (iblk m c 4 t) (iblk m c 7 t))) acc
def sum_dwg (c : Dev nD) (t : Fin cfg0.N) (acc : Vec F S1024x1024 .f32) : Vec F S1024x1024 .f32 :=
  k0_pay4 (k0_pay17 (k0_pay7 (iblk m c 2 t) (iblk m c 3 t) (iblk m c 4 t)) (k0_pay12 (iblk m c 0 t) (iblk m c 6 t))) acc

theorem first (c : Dev nD) (t : Fin cfg0.N) (h : t.val % 16 = 0) :
    outsAt0 m c t.val t.isLt = (rows m c t, rows' m c t, sum_dwi m c t (k0_pay19 (F := F)), sum_dg m c t (k0_pay1 (F := F)), sum_dwg m c t (k0_pay3 (F := F))) := by
  rw [outsAt0_A m c t h h h]
  refine congrArg₂ Prod.mk ?_ (congrArg₂ Prod.mk ?_ (congrArg₂ Prod.mk ?_ (congrArg₂ Prod.mk ?_ ?_)))
  · unfold out0_A_8
    rw [View.read_writes_eq_canon _ _ _ (fun y => cover0_A_8 (y := y) ..)]
    unfold rows kernelRun0_A
    dsimp only
    try sl_unfold_words
    rw [View.canon_unit_zero hz]
    simp only [View.readAt_eq_ld, (hs0_0 t).read_unread, (hs0_1 t).read_unread, (hs0_2 t).read_unread, (hs0_3 t).read_unread, (hs0_4 t).read_unread, (hs0_6 t).read_unread, (hs0_7 t).read_unread,
      View.ld_unit_zero (S := S512x1024) hz, View.ld_unit_zero (S := S1x1024) hz, View.ld_unit_zero (S := S1024x1024) hz]
  · unfold out0_A_9
    rw [View.read_writes_eq_canon _ _ _ (fun y => cover0_A_9 (y := y) ..)]
    unfold rows' kernelRun0_A
    dsimp only
    try sl_unfold_words
    rw [View.canon_unit_zero hz]
    simp only [View.readAt_eq_ld, (hs0_0 t).read_unread, (hs0_1 t).read_unread, (hs0_2 t).read_unread, (hs0_3 t).read_unread, (hs0_4 t).read_unread, (hs0_6 t).read_unread, (hs0_7 t).read_unread,
      View.ld_unit_zero (S := S512x1024) hz, View.ld_unit_zero (S := S1x1024) hz, View.ld_unit_zero (S := S1024x1024) hz]
  · unfold out0_A_10
    rw [View.read_writes_eq_canon _ _ _ (fun y => cover0_A_10 (y := y) ..)]
    unfold sum_dwi kernelRun0_A
    dsimp only
    try sl_unfold_words
    rw [View.canon_cons_unit_zero (S := S256x1024) hz, View.readCov_unit_zero (S := S256x1024) _ hz]
    simp only [View.readAt_eq_ld, (hs0_1 t).read_unread, (hs0_2 t).read_unread, (hs0_4 t).read_unread,
      View.ld_unit_zero (S := S512x1024) hz, View.ld_unit_zero (S := S512x256) hz]
  · unfold out0_A_11
    rw [View.read_writes_eq_canon _ _ _ (fun y => cover0_A_11 (y := y) ..)]
    unfold sum_dg kernelRun0_A
    dsimp only
    try sl_unfold_words
    rw [View.canon_cons_unit_zero (S := S1x1024) hz, View.readCov_unit_zero (S := S1x1024) _ hz]
    simp only [View.readAt_eq_ld, (hs0_0 t).read_unread, (hs0_2 t).read_unread, (hs0_3 t).read_unread, (hs0_4 t).read_unread, (hs0_7 t).read_unread,
      View.ld_unit_zero (S := S512x1024) hz, View.ld_unit_zero (S := S1024x1024) hz]
  · unfold out0_A_12
    rw [View.read_writes_eq_canon _ _ _ (fun y => cover0_A_12 (y := y) ..)]
    unfold sum_dwg kernelRun0_A
    dsimp only
    try sl_unfold_words
    rw [View.canon_cons_unit_zero (S := S1024x1024) hz, View.readCov_unit_zero (S := S1024x1024) _ hz]
    simp only [View.readAt_eq_ld, (hs0_0 t).read_unread, (hs0_2 t).read_unread, (hs0_3 t).read_unread, (hs0_4 t).read_unread, (hs0_6 t).read_unread,
      View.ld_unit_zero (S := S512x1024) hz, View.ld_unit_zero (S := S1x1024) hz]

theorem next (c : Dev nD) (t : Fin cfg0.N) (h : ¬t.val % 16 = 0) :
    outsAt0 m c t.val t.isLt = (rows m c t, rows' m c t,
      sum_dwi m c t (outsAt0 m c (t.val - 1) (Nat.lt_of_le_of_lt (Nat.sub_le _ _) t.isLt)).2.2.1,
      sum_dg m c t (outsAt0 m c (t.val - 1) (Nat.lt_of_le_of_lt (Nat.sub_le _ _) t.isLt)).2.2.2.1,
      sum_dwg m c t (outsAt0 m c (t.val - 1) (Nat.lt_of_le_of_lt (Nat.sub_le _ _) t.isLt)).2.2.2.2) := by
  rw [outsAt0_B m c t h h h]
  refine congrArg₂ Prod.mk ?_ (congrArg₂ Prod.mk ?_ (congrArg₂ Prod.mk ?_ (congrArg₂ Prod.mk ?_ ?_)))
  · unfold out0_B_8
    rw [View.read_writes_eq_canon _ _ _ (fun y => cover0_B_8 (y := y) ..)]
    unfold rows kernelRun0_B
    dsimp only
    try sl_unfold_words
    rw [View.canon_unit_zero hz]
    simp only [View.readAt_eq_ld, (hs0_0 t).read_unread, (hs0_1 t).read_unread, (hs0_2 t).read_unread, (hs0_3 t).read_unread, (hs0_4 t).read_unread, (hs0_6 t).read_unread, (hs0_7 t).read_unread,
      View.ld_unit_zero (S := S512x1024) hz, View.ld_unit_zero (S := S1x1024) hz, View.ld_unit_zero (S := S1024x1024) hz]
  · unfold out0_B_9
    rw [View.read_writes_eq_canon _ _ _ (fun y => cover0_B_9 (y := y) ..)]
    unfold rows' kernelRun0_B
    dsimp only
    try sl_unfold_words
    rw [View.canon_unit_zero hz]
    simp only [View.readAt_eq_ld, (hs0_0 t).read_unread, (hs0_1 t).read_unread, (hs0_2 t).read_unread, (hs0_3 t).read_unread, (hs0_4 t).read_unread, (hs0_6 t).read_unread, (hs0_7 t).read_unread,
      View.ld_unit_zero (S := S512x1024) hz, View.ld_unit_zero (S := S1x1024) hz, View.ld_unit_zero (S := S1024x1024) hz]
  · unfold out0_B_10
    rw [View.read_writes_eq_canon _ _ _ (fun y => cover0_B_10 (y := y) ..)]
    unfold sum_dwi kernelRun0_B
    dsimp only
    try sl_unfold_words
    rw [View.canon_unit_zero hz]
    simp only [View.readAt_eq_ld, (hs0_10 t).read_unread, (hs0_1 t).read_unread, (hs0_2 t).read_unread, (hs0_4 t).read_unread,
      View.ld_unit_zero (S := S512x1024) hz, View.ld_unit_zero (S := S256x1024) hz, View.ld_unit_zero (S := S512x256) hz]
  · unfold out0_B_11
    rw [View.read_writes_eq_canon _ _ _ (fun y => cover0_B_11 (y := y) ..)]
    unfold sum_dg kernelRun0_B
    dsimp only
    try sl_unfold_words
    rw [View.canon_unit_zero hz]
    simp only [View.readAt_eq_ld, (hs0_11 t).read_unread, (hs0_0 t).read_unread, (hs0_2 t).read_unread, (hs0_3 t).read_unread, (hs0_4 t).read_unread, (hs0_7 t).read_unread,
      View.ld_unit_zero (S := S512x1024) hz, View.ld_unit_zero (S := S1x1024) hz, View.ld_unit_zero (S := S1024x1024) hz]
  · unfold out0_B_12
    rw [View.read_writes_eq_canon _ _ _ (fun y => cover0_B_12 (y := y) ..)]
    unfold sum_dwg kernelRun0_B
    dsimp only
    try sl_unfold_words
    rw [View.canon_unit_zero hz]
    simp only [View.readAt_eq_ld, (hs0_12 t).read_unread, (hs0_0 t).read_unread, (hs0_2 t).read_unread, (hs0_3 t).read_unread, (hs0_4 t).read_unread, (hs0_6 t).read_unread,
      View.ld_unit_zero (S := S512x1024) hz, View.ld_unit_zero (S := S1024x1024) hz, View.ld_unit_zero (S := S1x1024) hz]

end

/-! ## The arrays -/

variable (m : (ℓ : Loc nD τ sig) → Buf (Elt Ideal) ℓ)

/-- The arguments, and the pre-activation and the projection of the gated product. -/
abbrev xa (c : Dev nD) : Vec Ideal S8192x1024 .f32 := m ((c.tc : Thread nD τ).loc main_arg0)
abbrev qa (c : Dev nD) : Vec Ideal S8192x256 .f32 := m ((c.tc : Thread nD τ).loc main_arg1)
abbrev da (c : Dev nD) : Vec Ideal S8192x1024 .f32 := m ((c.tc : Thread nD τ).loc main_arg2)
abbrev va (c : Dev nD) : Vec Ideal S256x1024 .f32 := m ((c.tc : Thread nD τ).loc main_arg3)
abbrev ga (c : Dev nD) : Vec Ideal S1024 .f32 := m ((c.tc : Thread nD τ).loc main_arg4)
abbrev wa (c : Dev nD) : Vec Ideal S1024x1024 .f32 := m ((c.tc : Thread nD τ).loc main_arg5)
abbrev pa (c : Dev nD) : S8192x1024.Idx → EReal := Cert.Reference2Ideal.Read.val_main_v17 (F := Ideal) (xa m c) (ga m c) (wa m c)
abbrev ea (c : Dev nD) : S8192x1024.Idx → EReal := Cert.Reference2Ideal.Read.val_main_v0 (F := Ideal) (qa m c) (va m c)

/-- The arrays the kernel reads: the host's own, the format changes the identity. -/
theorem host_e (c : Dev nD) : (V m c main_v16 : S8192x1024.Idx → EReal) = ea m c := rfl
theorem host_p (c : Dev nD) : (V m c main_v14 : S8192x1024.Idx → EReal) = pa m c := rfl

theorem host_v (c : Dev nD) : (V m c main_v17 : S256x1024.Idx → EReal) = va m c := rfl
theorem host_w (c : Dev nD) : (V m c main_v19 : S1024x1024.Idx → EReal) = wa m c := rfl
theorem host_g (c : Dev nD) : (V m c main_v18 : S1x1024.Idx → EReal) = shapeCast S1x1024 (ga m c) shapeCasts_S1024_S1x1024 := rfl

theorem scale_apply (g : Vec Ideal S1024 .f32) (l : Fin 1024) : shapeCast S1x1024 g shapeCasts_S1024_S1x1024 (ix2 0 l) = g (ix1 l) := by
  pointwise

/-- Where each window's block lies at a grid point. -/
theorem blocks : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Where each result's block lies. -/
theorem out_blocks : ∀ t : Fin cfg0.N, (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

abbrev xb (c : Dev nD) (t : Fin cfg0.N) : Vec Ideal S512x1024 .f32 := iblk m c 0 t
abbrev qb (c : Dev nD) (t : Fin cfg0.N) : Vec Ideal S512x256 .f32 := iblk m c 1 t
abbrev pb (c : Dev nD) (t : Fin cfg0.N) : Vec Ideal S512x1024 .bf16 := iblk m c 2 t
abbrev eb (c : Dev nD) (t : Fin cfg0.N) : Vec Ideal S512x1024 .bf16 := iblk m c 3 t
abbrev db (c : Dev nD) (t : Fin cfg0.N) : Vec Ideal S512x1024 .f32 := iblk m c 4 t
abbrev gb (c : Dev nD) (t : Fin cfg0.N) : Vec Ideal S1x1024 .f32 := iblk m c 6 t
abbrev wb (c : Dev nD) (t : Fin cfg0.N) : Vec Ideal S1024x1024 .bf16 := iblk m c 7 t

/-- Each input block of a point, read off its array. -/
theorem x_apply (c : Dev nD) (t : Fin cfg0.N) (r : Fin 512) (k : Fin 1024) (r' : Fin 8192) (h : r'.val = t.val * 512 + r.val) :
    xb m c t (ix2 r k) = xa m c (ix2 r' k) := by
  obtain ⟨⟨e0, e1⟩, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

theorem q_apply (c : Dev nD) (t : Fin cfg0.N) (r : Fin 512) (k : Fin 256) (r' : Fin 8192) (h : r'.val = t.val * 512 + r.val) :
    qb m c t (ix2 r k) = qa m c (ix2 r' k) := by
  obtain ⟨-, ⟨e0, e1⟩, -⟩ := blocks t
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = r'.val; omega
  | ⟨1, _⟩ => show win0_1.index t (1 : Fin 2) * 256 + 1 * k.val = k.val; omega

theorem p_apply (c : Dev nD) (t : Fin cfg0.N) (r : Fin 512) (k : Fin 1024) (r' : Fin 8192) (h : r'.val = t.val * 512 + r.val) :
    pb m c t (ix2 r k) = pa m c (ix2 r' k) := by
  obtain ⟨-, -, ⟨e0, e1⟩, -⟩ := blocks t
  refine Eq.trans ?_ (congrFun (host_p m c) (ix2 r' k))
  show V m c main_v14 (((cfg0.win 2).blk t).view.emb (ix2 r k)) = _
  refine congrArg _ (funext fun a => Fin.ext ?_)
  match a with
  | ⟨0, _⟩ => show win0_2.index t (0 : Fin 2) * 512 + 1 * r.val = r'.val; omega
  | ⟨1, _⟩ => show win0_2.index t (1 : Fin 2) * 1024 + 1 * k.val = k.val; omega

theorem e_apply (c : Dev nD) (t : Fin cfg0.N) (r : Fin 512) (k : Fin 1024) (r' : Fin 8192) (h : r'.val = t.val * 512 + r.val) :
    eb m c t (ix2 r k) = ea m c (ix2 r' k) := by
  obtain ⟨-, -, -, ⟨e0, e1⟩, -⟩ := blocks t
  refine Eq.trans ?_ (congrFun (host_e m c) (ix2 r' k))
  show V m c main_v16 (((cfg0.win 3).blk t).view.emb (ix2 r k)) = _
  refine congrArg _ (funext fun a => Fin.ext ?_)
  match a with
  | ⟨0, _⟩ => show win0_3.index t (0 : Fin 2) * 512 + 1 * r.val = r'.val; omega
  | ⟨1, _⟩ => show win0_3.index t (1 : Fin 2) * 1024 + 1 * k.val = k.val; omega

theorem d_apply (c : Dev nD) (t : Fin cfg0.N) (r : Fin 512) (k : Fin 1024) (r' : Fin 8192) (h : r'.val = t.val * 512 + r.val) :
    db m c t (ix2 r k) = da m c (ix2 r' k) := by
  obtain ⟨-, -, -, -, ⟨e0, e1⟩, -⟩ := blocks t
  show V m c main_arg2 (((cfg0.win 4).blk t).view.emb (ix2 r k)) = _
  rw [V_main_arg2]
  refine congrArg _ (funext fun a => Fin.ext ?_)
  match a with
  | ⟨0, _⟩ => show win0_4.index t (0 : Fin 2) * 512 + 1 * r.val = r'.val; omega
  | ⟨1, _⟩ => show win0_4.index t (1 : Fin 2) * 1024 + 1 * k.val = k.val; omega

theorem g_apply (c : Dev nD) (t : Fin cfg0.N) (l : Fin 1024) : gb m c t (ix2 0 l) = ga m c (ix1 l) := by
  obtain ⟨-, -, -, -, -, ⟨e0, e1⟩, -⟩ := blocks t
  refine Eq.trans ?_ ((congrFun (host_g m c) (ix2 0 l)).trans (scale_apply _ l))
  show V m c main_v18 (((cfg0.win 6).blk t).view.emb (ix2 0 l)) = _
  refine congrArg _ (funext fun a => Fin.ext ?_)
  match a with
  | ⟨0, _⟩ => show win0_6.index t (0 : Fin 2) * 1 + 1 * 0 = 0; omega
  | ⟨1, _⟩ => show win0_6.index t (1 : Fin 2) * 1024 + 1 * l.val = l.val; omega

theorem w_apply (c : Dev nD) (t : Fin cfg0.N) (j k : Fin 1024) : wb m c t (ix2 j k) = wa m c (ix2 j k) := by
  obtain ⟨-, -, -, -, -, -, ⟨e0, e1⟩⟩ := blocks t
  refine Eq.trans ?_ (congrFun (host_w m c) (ix2 j k))
  show V m c main_v19 (((cfg0.win 7).blk t).view.emb (ix2 j k)) = _
  refine congrArg _ (funext fun a => Fin.ext ?_)
  match a with
  | ⟨0, _⟩ => show win0_7.index t (0 : Fin 2) * 1024 + 1 * j.val = j.val; omega
  | ⟨1, _⟩ => show win0_7.index t (1 : Fin 2) * 1024 + 1 * k.val = k.val; omega

/-- A row's gradient before the norm's scale, over the arrays. -/
abbrev dna (c : Dev nD) (r : Fin 8192) : Fin 1024 → EReal :=
  dn (fun k => pa m c (ix2 r k)) (fun k => ea m c (ix2 r k)) (fun k => da m c (ix2 r k)) fun j k => wa m c (ix2 j k)

/-- The same over a point's blocks. -/
theorem dn_apply (c : Dev nD) (t : Fin cfg0.N) (r : Fin 512) (r' : Fin 8192) (h : r'.val = t.val * 512 + r.val) :
    (dn (fun k => pb m c t (ix2 r k)) (fun k => eb m c t (ix2 r k)) (fun k => db m c t (ix2 r k)) fun j k => wb m c t (ix2 j k)) = dna m c r' := by
  rw [funext fun k => p_apply m c t r k r' h, funext fun k => e_apply m c t r k r' h, funext fun k => d_apply m c t r k r' h,
    funext fun j => funext fun k => w_apply m c t j k]

/-- The row results at every point. -/
theorem out_rows (c : Dev nD) (t : Fin cfg0.N) :
    (outsAt0 m c t.val t.isLt).1 = rows m c t ∧ (outsAt0 m c t.val t.isLt).2.1 = rows' m c t := by
  by_cases h : t.val % 16 = 0
  · rw [first m c t h]; exact ⟨rfl, rfl⟩
  · rw [next m c t h]; exact ⟨rfl, rfl⟩

theorem rows_apply (c : Dev nD) (t : Fin cfg0.N) (r : Fin 512) (l : Fin 1024) (r' : Fin 8192) (h : r'.val = t.val * 512 + r.val) :
    rows m c t (ix2 r l) = da m c (ix2 r' l) + NormGrad.dx (fun k => xa m c (ix2 r' k)) (fun k => ga m c (ix1 k)) (dna m c r') l := by
  refine (dx_apply (xb m c t) (db m c t) (pb m c t) (eb m c t) (gb m c t) (wb m c t) r l).trans ?_
  rw [dn_apply m c t r r' h, d_apply m c t r l r' h, funext fun k => x_apply m c t r k r' h, funext fun k => g_apply m c t k]

/-- The point whose block holds a row, and the row within the block. -/
def pt (r : Fin 8192) : Fin cfg0.N := ⟨r.val / 512, by have h : cfg0.N = 16 := N_0; omega⟩
def row (r : Fin 8192) : Fin 512 := ⟨r.val % 512, Nat.mod_lt _ (by decide)⟩

theorem row_eq (r : Fin 8192) : r.val = (pt r).val * 512 + (row r).val := by
  show r.val = r.val / 512 * 512 + r.val % 512; omega

/-- The kernel's row results are the reference's. -/
theorem value_dx (c : Dev nD) :
    (dats m 0 c).arrAt 8 cfg0.N = Cert.Reference2Ideal.Read.val_main_v56 (F := Ideal) (xa m c) (qa m c) (da m c) (va m c) (ga m c) (wa m c) := by
  funext i
  obtain ⟨r, l, rfl⟩ : ∃ (r : Fin 8192) (l : Fin 1024), i = ix2 r l := ⟨i 0, i 1, (ix2_eta i).symm⟩
  have hr := row_eq r
  obtain ⟨⟨e0, e1⟩, -⟩ := out_blocks (pt r)
  have hi : (ix2 r l : S8192x1024.Idx) = ((cfg0.win 8).blk (pt r)).view.emb (ix2 (row r) l) := by
    refine funext fun a => Fin.ext ?_
    match a with
    | ⟨0, _⟩ => show r.val = win0_8.index (pt r) (0 : Fin 2) * 512 + 1 * (row r).val; omega
    | ⟨1, _⟩ => show l.val = win0_8.index (pt r) (1 : Fin 2) * 1024 + 1 * l.val; omega
  refine (congrArg _ hi).trans (((dats m 0 c).arrAt_emb_eq_flushed 8 disjoint8 (pt r) (flush0_8 _) (ix2 (row r) l)).trans ?_)
  show (dats m 0 c).flushed 8 (pt r) (ix2 (row r) l) = _
  rw [flushed8, (out_rows m c _).1, ref_dx]
  exact rows_apply m c (pt r) (row r) l r hr

theorem value_dffn (c : Dev nD) :
    (dats m 0 c).arrAt 9 cfg0.N = Cert.Reference2Ideal.Read.val_main_v60 (F := Ideal) (xa m c) (qa m c) (da m c) (va m c) (ga m c) (wa m c) := by
  funext i
  obtain ⟨r, l, rfl⟩ : ∃ (r : Fin 8192) (l : Fin 1024), i = ix2 r l := ⟨i 0, i 1, (ix2_eta i).symm⟩
  have hr := row_eq r
  obtain ⟨-, ⟨e0, e1⟩, -⟩ := out_blocks (pt r)
  have hi : (ix2 r l : S8192x1024.Idx) = ((cfg0.win 9).blk (pt r)).view.emb (ix2 (row r) l) := by
    refine funext fun a => Fin.ext ?_
    match a with
    | ⟨0, _⟩ => show r.val = win0_9.index (pt r) (0 : Fin 2) * 512 + 1 * (row r).val; omega
    | ⟨1, _⟩ => show l.val = win0_9.index (pt r) (1 : Fin 2) * 1024 + 1 * l.val; omega
  refine (congrArg _ hi).trans (((dats m 0 c).arrAt_emb_eq_flushed 9 disjoint9 (pt r) (flush0_9 _) (ix2 (row r) l)).trans ?_)
  show (dats m 0 c).flushed 9 (pt r) (ix2 (row r) l) = _
  rw [flushed9, (out_rows m c _).2]
  exact (rows_apply m c (pt r) (row r) l r hr).trans (ref_dx (xa m c) (da m c) (qa m c) (va m c) (ga m c) (wa m c) r l).symm

/-- What a point adds to a sum over the rows whose terms are `f`. -/
def part (f : Fin 8192 → EReal) (n : ℕ) : EReal := ∑ b : Fin 512, if h : n * 512 + b.val < 8192 then f ⟨n * 512 + b.val, h⟩ else 0

theorem part_eq (f : Fin 8192 → EReal) (t : Fin cfg0.N) (f' : Fin 512 → EReal)
    (h : ∀ (b : Fin 512) (r' : Fin 8192), r'.val = t.val * 512 + b.val → f' b = f r') : ∑ b : Fin 512, f' b = part f t.val := by
  have ht : t.val < 16 := lt_of_lt_of_eq t.isLt N_0
  refine Finset.sum_congr rfl fun b _ => ?_
  rw [dif_pos (by omega)]
  exact h b _ rfl

theorem parts (f : Fin 8192 → EReal) : ∑ r, f r = ∑ s ∈ Finset.range 16, part f s := Cert.Sums.sum_tiles 16 512 8192 rfl f

/-- The terms of the three sums. -/
def dwi_term (c : Dev nD) (a : Fin 256) (l : Fin 1024) (r : Fin 8192) : EReal :=
  qa m c (ix2 r a) * (da m c (ix2 r l) * Ideal.logistic (pa m c (ix2 r l)))
def dg_term (c : Dev nD) (l : Fin 1024) (r : Fin 8192) : EReal := NormGrad.dg (fun k => xa m c (ix2 r k)) (dna m c r) l
def dwg_term (c : Dev nD) (a l : Fin 1024) (r : Fin 8192) : EReal :=
  norm (fun k => xa m c (ix2 r k)) (fun k => ga m c (ix1 k)) a * dpre (pa m c (ix2 r l)) (ea m c (ix2 r l)) (da m c (ix2 r l))

theorem step_dwi (c : Dev nD) (t : Fin cfg0.N) (acc : Vec Ideal S256x1024 .f32) (a : Fin 256) (l : Fin 1024) :
    sum_dwi m c t acc (ix2 a l) = acc (ix2 a l) + part (dwi_term m c a l) t.val := by
  refine (dwi_apply (db m c t) (qb m c t) (pb m c t) acc a l).trans (congrArg _ (part_eq _ t _ fun b r h => ?_))
  rw [q_apply m c t b a r h, d_apply m c t b l r h, p_apply m c t b l r h]
  rfl

theorem step_dg (c : Dev nD) (t : Fin cfg0.N) (acc : Vec Ideal S1x1024 .f32) (l : Fin 1024) :
    sum_dg m c t acc (ix2 0 l) = acc (ix2 0 l) + part (dg_term m c l) t.val := by
  refine (dg_apply (xb m c t) (db m c t) (pb m c t) (eb m c t) (wb m c t) acc l).trans (congrArg _ (part_eq _ t _ fun b r h => ?_))
  rw [dn_apply m c t b r h, funext fun k => x_apply m c t b k r h]
  rfl

theorem step_dwg (c : Dev nD) (t : Fin cfg0.N) (acc : Vec Ideal S1024x1024 .f32) (a l : Fin 1024) :
    sum_dwg m c t acc (ix2 a l) = acc (ix2 a l) + part (dwg_term m c a l) t.val := by
  refine (dwg_apply (xb m c t) (db m c t) (pb m c t) (eb m c t) (gb m c t) acc a l).trans (congrArg _ (part_eq _ t _ fun b r h => ?_))
  rw [funext fun k => x_apply m c t b k r h, funext fun k => g_apply m c t k, p_apply m c t b l r h, e_apply m c t b l r h, d_apply m c t b l r h]
  rfl

/-- After the first points each sum's block holds what they add. -/
theorem out_dwi (c : Dev nD) (a : Fin 256) (l : Fin 1024) :
    ∀ (n : ℕ) (h : n < cfg0.N), (outsAt0 m c n h).2.2.1 (ix2 a l) = ∑ s ∈ Finset.range (n + 1), part (dwi_term m c a l) s := by
  refine Cert.Sums.sum_steps (fun n h => (outsAt0 m c n h).2.2.1 (ix2 a l)) _ (fun h => ?_) fun n h => ?_
  · show (outsAt0 m c (⟨0, h⟩ : Fin cfg0.N).val h).2.2.1 (ix2 a l) = _
    rw [first m c ⟨0, h⟩ rfl]
    refine (step_dwi m c _ _ a l).trans ?_
    rw [zero_dwi, zero_add]
  · have hN : n + 1 < 16 := lt_of_lt_of_eq h N_0
    show (outsAt0 m c (⟨n + 1, h⟩ : Fin cfg0.N).val h).2.2.1 (ix2 a l) = _
    rw [next m c ⟨n + 1, h⟩ (by show ¬(n + 1) % 16 = 0; omega)]
    exact step_dwi m c _ _ a l

theorem out_dg (c : Dev nD) (l : Fin 1024) :
    ∀ (n : ℕ) (h : n < cfg0.N), (outsAt0 m c n h).2.2.2.1 (ix2 0 l) = ∑ s ∈ Finset.range (n + 1), part (dg_term m c l) s := by
  refine Cert.Sums.sum_steps (fun n h => (outsAt0 m c n h).2.2.2.1 (ix2 0 l)) _ (fun h => ?_) fun n h => ?_
  · show (outsAt0 m c (⟨0, h⟩ : Fin cfg0.N).val h).2.2.2.1 (ix2 0 l) = _
    rw [first m c ⟨0, h⟩ rfl]
    refine (step_dg m c _ _ l).trans ?_
    rw [zero_dg, zero_add]
  · have hN : n + 1 < 16 := lt_of_lt_of_eq h N_0
    show (outsAt0 m c (⟨n + 1, h⟩ : Fin cfg0.N).val h).2.2.2.1 (ix2 0 l) = _
    rw [next m c ⟨n + 1, h⟩ (by show ¬(n + 1) % 16 = 0; omega)]
    exact step_dg m c _ _ l

theorem out_dwg (c : Dev nD) (a l : Fin 1024) :
    ∀ (n : ℕ) (h : n < cfg0.N), (outsAt0 m c n h).2.2.2.2 (ix2 a l) = ∑ s ∈ Finset.range (n + 1), part (dwg_term m c a l) s := by
  refine Cert.Sums.sum_steps (fun n h => (outsAt0 m c n h).2.2.2.2 (ix2 a l)) _ (fun h => ?_) fun n h => ?_
  · show (outsAt0 m c (⟨0, h⟩ : Fin cfg0.N).val h).2.2.2.2 (ix2 a l) = _
    rw [first m c ⟨0, h⟩ rfl]
    refine (step_dwg m c _ _ a l).trans ?_
    rw [zero_dwg, zero_add]
  · have hN : n + 1 < 16 := lt_of_lt_of_eq h N_0
    show (outsAt0 m c (⟨n + 1, h⟩ : Fin cfg0.N).val h).2.2.2.2 (ix2 a l) = _
    rw [next m c ⟨n + 1, h⟩ (by show ¬(n + 1) % 16 = 0; omega)]
    exact step_dwg m c _ _ a l

/-- The last point, the only one after which a sum's block is written back. -/
def last : Fin cfg0.N := ⟨15, by have h : cfg0.N = 16 := N_0; omega⟩

theorem only_last (a b : Fin cfg0.N) (ha : a.val % 16 = 15) (hb : b.val % 16 = 15) : a = b := by
  have h1 : a.val < 16 := lt_of_lt_of_eq a.isLt N_0
  have h2 : b.val < 16 := lt_of_lt_of_eq b.isLt N_0
  exact Fin.ext (by omega)

/-- The kernel's sums are the reference's. -/
theorem value_dwi (c : Dev nD) :
    (dats m 0 c).arrAt 10 cfg0.N = Cert.Reference2Ideal.Read.val_main_v58 (F := Ideal) (xa m c) (qa m c) (da m c) (ga m c) (wa m c) := by
  funext i
  obtain ⟨a, l, rfl⟩ : ∃ (a : Fin 256) (l : Fin 1024), i = ix2 a l := ⟨i 0, i 1, (ix2_eta i).symm⟩
  obtain ⟨-, -, ⟨e0, e1⟩, -⟩ := out_blocks last
  have hi : (ix2 a l : S256x1024.Idx) = ((cfg0.win 10).blk last).view.emb (ix2 a l) := by
    refine funext fun b => Fin.ext ?_
    match b with
    | ⟨0, _⟩ => show a.val = win0_10.index last (0 : Fin 2) * 256 + 1 * a.val; omega
    | ⟨1, _⟩ => show l.val = win0_10.index last (1 : Fin 2) * 1024 + 1 * l.val; omega
  refine (congrArg _ hi).trans (((dats m 0 c).arrAt_emb_eq_flushed 10
    (fun s t hs ht hne => absurd (only_last s t ((flush0_10 s).mp hs) ((flush0_10 t).mp ht)) hne) last ((flush0_10 last).mpr rfl) (ix2 a l)).trans ?_)
  show (dats m 0 c).flushed 10 last (ix2 a l) = _
  rw [flushed10, ref_dwi]
  exact (out_dwi m c a l 15 last.isLt).trans (parts (dwi_term m c a l)).symm

theorem value_dg (c : Dev nD) :
    (dats m 0 c).arrAt 11 cfg0.N = Cert.Reference2Ideal.Read.val_main_v61 (F := Ideal) (xa m c) (qa m c) (da m c) (va m c) (ga m c) (wa m c) := by
  funext i
  obtain ⟨l, rfl⟩ : ∃ (l : Fin 1024), i = ix2 0 l := ⟨i 1, by rw [← ix2_eta i]; exact congrArg (ix2 · _) (Subsingleton.elim _ _)⟩
  obtain ⟨-, -, -, ⟨e0, e1⟩, -⟩ := out_blocks last
  have hi : (ix2 0 l : S1x1024.Idx) = ((cfg0.win 11).blk last).view.emb (ix2 0 l) := by
    refine funext fun b => Fin.ext ?_
    match b with
    | ⟨0, _⟩ => show 0 = win0_11.index last (0 : Fin 2) * 1 + 1 * 0; omega
    | ⟨1, _⟩ => show l.val = win0_11.index last (1 : Fin 2) * 1024 + 1 * l.val; omega
  refine (congrArg _ hi).trans (((dats m 0 c).arrAt_emb_eq_flushed 11
    (fun s t hs ht hne => absurd (only_last s t ((flush0_11 s).mp hs) ((flush0_11 t).mp ht)) hne) last ((flush0_11 last).mpr rfl) (ix2 0 l)).trans ?_)
  show (dats m 0 c).flushed 11 last (ix2 0 l) = _
  rw [flushed11, ref_dg]
  exact (out_dg m c l 15 last.isLt).trans (parts (dg_term m c l)).symm

theorem value_dwg (c : Dev nD) :
    (dats m 0 c).arrAt 12 cfg0.N = Cert.Reference2Ideal.Read.val_main_v34 (F := Ideal) (xa m c) (qa m c) (da m c) (va m c) (ga m c) (wa m c) := by
  funext i
  obtain ⟨a, l, rfl⟩ : ∃ (a l : Fin 1024), i = ix2 a l := ⟨i 0, i 1, (ix2_eta i).symm⟩
  obtain ⟨-, -, -, -, e0, e1⟩ := out_blocks last
  have hi : (ix2 a l : S1024x1024.Idx) = ((cfg0.win 12).blk last).view.emb (ix2 a l) := by
    refine funext fun b => Fin.ext ?_
    match b with
    | ⟨0, _⟩ => show a.val = win0_12.index last (0 : Fin 2) * 1024 + 1 * a.val; omega
    | ⟨1, _⟩ => show l.val = win0_12.index last (1 : Fin 2) * 1024 + 1 * l.val; omega
  refine (congrArg _ hi).trans (((dats m 0 c).arrAt_emb_eq_flushed 12
    (fun s t hs ht hne => absurd (only_last s t ((flush0_12 s).mp hs) ((flush0_12 t).mp ht)) hne) last ((flush0_12 last).mpr rfl) (ix2 a l)).trans ?_)
  show (dats m 0 c).flushed 12 last (ix2 a l) = _
  rw [flushed12, ref_dwg]
  exact (out_dwg m c a l 15 last.isLt).trans (parts (dwg_term m c a l)).symm

end Cert.Ple2

end

end
-- ==== Proof.Proj3.lean ====
module

public import proofs.«01_k».proof.Proof.Sums
public import proofs.«01_k».proof.Proof.NormGrad
public import proofs.«01_k».proof.Proof.Gen.Kernel3Ideal.Value
public import proofs.«01_k».proof.Proof.Gen.Reference3Ideal.Read

@[expose] public section

noncomputable section

namespace Cert.Proj3

open Cert.Kernel3Ideal Cert.Kernel3Ideal.Gen Cert.Kernel3Ideal.Value
open Idealize.ShloMosaic Idealize.ShloMosaic.TcCoe Idealize.SL.Sem

/-- The gradient of one normed row: a row of `z` against the rows of `w`. -/
def dn (z : Fin 4608 → EReal) (w : Fin 1024 → Fin 4608 → EReal) (l : Fin 1024) : EReal := ∑ k, z k * w l k

/-! ## The kernel's payloads -/

theorem dx_apply (x y : Vec Ideal S512x1024 .f32) (g : Vec Ideal S1x1024 .f32) (z : Vec Ideal S512x4608 .bf16)
    (w : Vec Ideal S1024x4608 .bf16) (r : Fin 512) (l : Fin 1024) :
    k0_pay1 (k0_pay8 x g z w) y (ix2 r l)
      = NormGrad.dx (fun k => x (ix2 r k)) (fun k => g (ix2 0 k)) (dn (fun k => z (ix2 r k)) fun j k => w (ix2 j k)) l + y (ix2 r l) := by
  pointwise [k0_pay1, k0_pay4, k0_pay5, k0_pay6, k0_pay8, NormGrad.dx, NormGrad.dms, NormGrad.ms, dn]

theorem dg_apply (acc : Vec Ideal S1x1024 .f32) (x : Vec Ideal S512x1024 .f32) (z : Vec Ideal S512x4608 .bf16)
    (w : Vec Ideal S1024x4608 .bf16) (l : Fin 1024) :
    k0_pay3 (k0_pay7 x z w) acc (ix2 0 l)
      = acc (ix2 0 l) + ∑ r : Fin 512, NormGrad.dg (fun k => x (ix2 r k)) (dn (fun k => z (ix2 r k)) fun j k => w (ix2 j k)) l := by
  pointwise [k0_pay3, k0_pay4, k0_pay5, k0_pay6, k0_pay7, NormGrad.dg, NormGrad.ms, dn]

theorem zero_apply (l : Fin 1024) : k0_pay2 (F := Ideal) (ix2 0 l) = 0 := by
  pointwise [k0_pay2]

/-! ## The reference -/

section
open Cert.Reference3Ideal.Read

theorem ref_dx (z : Vec Ideal S8192x4608 .bf16) (w : Vec Ideal S1024x4608 .f32) (x y : Vec Ideal S8192x1024 .f32)
    (g : Vec Ideal S1024 .f32) (r : Fin 8192) (l : Fin 1024) :
    val_main_v39 (F := Ideal) z w x y g (ix2 r l)
      = NormGrad.dx (fun k => x (ix2 r k)) (fun k => g (ix1 k)) (dn (fun k => z (ix2 r k)) fun j k => w (ix2 j k)) l + y (ix2 r l) := by
  rw [add_comm]
  unfold NormGrad.dx
  rw [← add_assoc, ← add_assoc]
  pointwise [NormGrad.dms, NormGrad.ms, dn,
    val_main_v39, val_main_v0, val_main_cst, val_main_v1, val_main_v2, val_main_cst_0, val_main_v3, val_main_v4, val_main_cst_1, val_main_v5, val_main_v6, val_main_v7, val_main_v8, val_main_cst_2, val_main_v9, val_main_v10, val_main_v13, val_main_v17, val_main_v18, val_main_v22, val_main_v23, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38]

theorem ref_dg (z : Vec Ideal S8192x4608 .bf16) (w : Vec Ideal S1024x4608 .f32) (x : Vec Ideal S8192x1024 .f32) (l : Fin 1024) :
    val_main_v40 (F := Ideal) z w x (ix2 0 l)
      = ∑ r : Fin 8192, NormGrad.dg (fun k => x (ix2 r k)) (dn (fun k => z (ix2 r k)) fun j k => w (ix2 j k)) l := by
  refine Eq.trans ?_ (Fin.sum_univ_one (fun _ => ∑ r : Fin 8192, NormGrad.dg (fun k => x (ix2 r k)) (dn (fun k => z (ix2 r k)) fun j k => w (ix2 j k)) l))
  pointwise [NormGrad.dg, NormGrad.ms, dn,
    val_main_v40, val_main_v0, val_main_cst, val_main_v1, val_main_v2, val_main_cst_0, val_main_v3, val_main_v4, val_main_cst_1, val_main_v5, val_main_v6, val_main_v7, val_main_v11, val_main_v12, val_main_v17, val_main_v18, val_main_v19, val_main_cst_3, val_main_v20, val_main_v21, val_main_cst_4, val_main_v24]

end

/-! ## What a point leaves in the two result blocks -/

section
variable {F : FTy → Type} [FloatOps F] (m : (ℓ : Loc nD τ sig) → Buf (Elt F) ℓ)

theorem hz : (![0, 0] : Fin 2 → ℕ) = fun _ => 0 := by decide

theorem first_dx (c : Dev nD) (t : Fin cfg0.N) (h : t.val % 16 = 0) :
    (outsAt0 m c t.val t.isLt).1 = k0_pay1 (k0_pay8 (iblk m c 2 t) (iblk m c 4 t) (iblk m c 0 t) (iblk m c 1 t)) (iblk m c 3 t) := by
  rw [outsAt0_A m c t h]
  dsimp only
  unfold out0_A_5
  rw [View.read_writes_eq_canon _ _ _ (fun y => cover0_A_5 (y := y) ..)]
  unfold kernelRun0_A
  dsimp only
  try sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x4608) hz, View.ld_unit_zero (S := S1024x4608) hz,
    View.ld_unit_zero (S := S512x1024) hz, View.ld_unit_zero (S := S1x1024) hz]

theorem first_dg (c : Dev nD) (t : Fin cfg0.N) (h : t.val % 16 = 0) :
    (outsAt0 m c t.val t.isLt).2 = k0_pay3 (k0_pay7 (iblk m c 2 t) (iblk m c 0 t) (iblk m c 1 t)) (k0_pay2 (F := F)) := by
  rw [outsAt0_A m c t h]
  dsimp only
  unfold out0_A_6
  rw [View.read_writes_eq_canon _ _ _ (fun y => cover0_A_6 (y := y) ..)]
  unfold kernelRun0_A
  dsimp only
  try sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, View.ld_unit_zero (S := S512x4608) hz, View.ld_unit_zero (S := S1024x4608) hz,
    View.ld_unit_zero (S := S512x1024) hz, View.ld_unit_zero (S := S1x1024) hz]

theorem next_dx (c : Dev nD) (t : Fin cfg0.N) (h : ¬t.val % 16 = 0) :
    (outsAt0 m c t.val t.isLt).1 = k0_pay1 (k0_pay8 (iblk m c 2 t) (iblk m c 4 t) (iblk m c 0 t) (iblk m c 1 t)) (iblk m c 3 t) := by
  rw [outsAt0_B m c t h]
  dsimp only
  unfold out0_B_5
  rw [View.read_writes_eq_canon _ _ _ (fun y => cover0_B_5 (y := y) ..)]
  unfold kernelRun0_B
  dsimp only
  try sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x4608) hz, View.ld_unit_zero (S := S1024x4608) hz,
    View.ld_unit_zero (S := S512x1024) hz, View.ld_unit_zero (S := S1x1024) hz]

theorem next_dg (c : Dev nD) (t : Fin cfg0.N) (h : ¬t.val % 16 = 0) :
    (outsAt0 m c t.val t.isLt).2 = k0_pay3 (k0_pay7 (iblk m c 2 t) (iblk m c 0 t) (iblk m c 1 t))
      (outsAt0 m c (t.val - 1) (Nat.lt_of_le_of_lt (Nat.sub_le _ _) t.isLt)).2 := by
  rw [outsAt0_B m c t h]
  dsimp only
  unfold out0_B_6
  rw [View.read_writes_eq_canon _ _ _ (fun y => cover0_B_6 (y := y) ..)]
  unfold kernelRun0_B
  dsimp only
  try sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, View.ld_unit_zero (S := S512x4608) hz, View.ld_unit_zero (S := S1024x4608) hz,
    View.ld_unit_zero (S := S512x1024) hz, View.ld_unit_zero (S := S1x1024) hz]

end

/-! ## The arrays -/

variable (m : (ℓ : Loc nD τ sig) → Buf (Elt Ideal) ℓ)

/-- The weight the kernel reads is the weight argument; the scale is the scale argument as one row. -/
theorem weight (c : Dev nD) : (V m c main_v0 : S1024x4608.Idx → EReal) = m ((c.tc : Thread nD τ).loc main_arg1) := rfl

theorem scale (c : Dev nD) : (V m c main_v1 : S1x1024.Idx → EReal)
    = shapeCast S1x1024 (m ((c.tc : Thread nD τ).loc main_arg4) : Vec Ideal S1024 .f32) shapeCasts_S1024_S1x1024 := rfl

theorem scale_apply (g : Vec Ideal S1024 .f32) (l : Fin 1024) : shapeCast S1x1024 g shapeCasts_S1024_S1x1024 (ix2 0 l) = g (ix1 l) := by
  pointwise

/-- Where each window's block lies at a grid point. -/
theorem blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

abbrev zb (c : Dev nD) (t : Fin cfg0.N) : Vec Ideal S512x4608 .bf16 := iblk m c 0 t
abbrev wb (c : Dev nD) (t : Fin cfg0.N) : Vec Ideal S1024x4608 .bf16 := iblk m c 1 t
abbrev xb (c : Dev nD) (t : Fin cfg0.N) : Vec Ideal S512x1024 .f32 := iblk m c 2 t
abbrev yb (c : Dev nD) (t : Fin cfg0.N) : Vec Ideal S512x1024 .f32 := iblk m c 3 t
abbrev gb (c : Dev nD) (t : Fin cfg0.N) : Vec Ideal S1x1024 .f32 := iblk m c 4 t
abbrev za (c : Dev nD) : Vec Ideal S8192x4608 .bf16 := m ((c.tc : Thread nD τ).loc main_arg0)
abbrev wa (c : Dev nD) : Vec Ideal S1024x4608 .f32 := m ((c.tc : Thread nD τ).loc main_arg1)
abbrev xa (c : Dev nD) : Vec Ideal S8192x1024 .f32 := m ((c.tc : Thread nD τ).loc main_arg2)
abbrev ya (c : Dev nD) : Vec Ideal S8192x1024 .f32 := m ((c.tc : Thread nD τ).loc main_arg3)
abbrev ga (c : Dev nD) : Vec Ideal S1024 .f32 := m ((c.tc : Thread nD τ).loc main_arg4)

/-- Each input block of a point, read off its array. -/
theorem z_apply (c : Dev nD) (t : Fin cfg0.N) (r : Fin 512) (k : Fin 4608) (r' : Fin 8192) (h : r'.val = t.val * 512 + r.val) :
    zb m c t (ix2 r k) = za m c (ix2 r' k) := by
  obtain ⟨e0, e1, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 4608 + 1 * k.val = k.val; omega

theorem w_apply (c : Dev nD) (t : Fin cfg0.N) (l : Fin 1024) (k : Fin 4608) : wb m c t (ix2 l k) = wa m c (ix2 l k) := by
  obtain ⟨-, -, e0, e1, -⟩ := blocks t
  refine Eq.trans ?_ (congrFun (weight m c) (ix2 l k))
  show V m c main_v0 (((cfg0.win 1).blk t).view.emb (ix2 l k)) = _
  refine congrArg _ (funext fun a => Fin.ext ?_)
  match a with
  | ⟨0, _⟩ => show win0_1.index t (0 : Fin 2) * 1024 + 1 * l.val = l.val; omega
  | ⟨1, _⟩ => show win0_1.index t (1 : Fin 2) * 4608 + 1 * k.val = k.val; omega

theorem x_apply (c : Dev nD) (t : Fin cfg0.N) (r : Fin 512) (k : Fin 1024) (r' : Fin 8192) (h : r'.val = t.val * 512 + r.val) :
    xb m c t (ix2 r k) = xa m c (ix2 r' k) := by
  obtain ⟨-, -, -, -, e0, e1, -⟩ := blocks t
  show V m c main_arg2 (((cfg0.win 2).blk t).view.emb (ix2 r k)) = _
  rw [V_main_arg2]
  refine congrArg _ (funext fun a => Fin.ext ?_)
  match a with
  | ⟨0, _⟩ => show win0_2.index t (0 : Fin 2) * 512 + 1 * r.val = r'.val; omega
  | ⟨1, _⟩ => show win0_2.index t (1 : Fin 2) * 1024 + 1 * k.val = k.val; omega

theorem y_apply (c : Dev nD) (t : Fin cfg0.N) (r : Fin 512) (k : Fin 1024) (r' : Fin 8192) (h : r'.val = t.val * 512 + r.val) :
    yb m c t (ix2 r k) = ya m c (ix2 r' k) := by
  obtain ⟨-, -, -, -, -, -, e0, e1, -⟩ := blocks t
  show V m c main_arg3 (((cfg0.win 3).blk t).view.emb (ix2 r k)) = _
  rw [V_main_arg3]
  refine congrArg _ (funext fun a => Fin.ext ?_)
  match a with
  | ⟨0, _⟩ => show win0_3.index t (0 : Fin 2) * 512 + 1 * r.val = r'.val; omega
  | ⟨1, _⟩ => show win0_3.index t (1 : Fin 2) * 1024 + 1 * k.val = k.val; omega

theorem g_apply (c : Dev nD) (t : Fin cfg0.N) (l : Fin 1024) : gb m c t (ix2 0 l) = ga m c (ix1 l) := by
  obtain ⟨-, -, -, -, -, -, -, -, e0, e1, -⟩ := blocks t
  refine Eq.trans ?_ ((congrFun (scale m c) (ix2 0 l)).trans (scale_apply _ l))
  show V m c main_v1 (((cfg0.win 4).blk t).view.emb (ix2 0 l)) = _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * l.val = l.val; omega

/-- A row's gradient before the scale, over the arrays. -/
abbrev dna (c : Dev nD) (r : Fin 8192) : Fin 1024 → EReal := dn (fun k => za m c (ix2 r k)) fun j k => wa m c (ix2 j k)

/-- The same over a point's blocks. -/
theorem dn_apply (c : Dev nD) (t : Fin cfg0.N) (r : Fin 512) (r' : Fin 8192) (h : r'.val = t.val * 512 + r.val) :
    (dn (fun k => zb m c t (ix2 r k)) fun j k => wb m c t (ix2 j k)) = dna m c r' :=
  congrArg₂ dn (funext fun k => z_apply m c t r k r' h) (funext fun j => funext fun k => w_apply m c t j k)

/-- The block of the first result at every point. -/
theorem out_dx (c : Dev nD) (t : Fin cfg0.N) :
    (outsAt0 m c t.val t.isLt).1 = k0_pay1 (k0_pay8 (iblk m c 2 t) (iblk m c 4 t) (iblk m c 0 t) (iblk m c 1 t)) (iblk m c 3 t) := by
  by_cases h : t.val % 16 = 0
  · exact first_dx m c t h
  · exact next_dx m c t h

/-- The kernel's first array is the reference's first result. -/
theorem value_dx (c : Dev nD) :
    (dats m 0 c).arrAt 5 cfg0.N = Cert.Reference3Ideal.Read.val_main_v39 (F := Ideal) (za m c) (wa m c) (xa m c) (ya m c) (ga m c) := by
  funext i
  obtain ⟨r, l, rfl⟩ : ∃ (r : Fin 8192) (l : Fin 1024), i = ix2 r l := ⟨i 0, i 1, (ix2_eta i).symm⟩
  refine Eq.trans ?_ (ref_dx _ _ _ _ _ r l).symm
  let t : Fin cfg0.N := ⟨r.val / 512, by have h : cfg0.N = 16 := N_0; omega⟩
  let b : Fin 512 := ⟨r.val % 512, Nat.mod_lt _ (by decide)⟩
  have ht : t.val = r.val / 512 := rfl
  have hb : r.val = t.val * 512 + b.val := by show r.val = r.val / 512 * 512 + r.val % 512; omega
  obtain ⟨-, -, -, -, -, -, -, -, -, -, e0, e1, -⟩ := blocks t
  have hi : (ix2 r l : S8192x1024.Idx) = ((cfg0.win 5).blk t).view.emb (ix2 b l) := by
    refine funext fun a => Fin.ext ?_
    match a with
    | ⟨0, _⟩ => show r.val = win0_5.index t (0 : Fin 2) * 512 + 1 * b.val; omega
    | ⟨1, _⟩ => show l.val = win0_5.index t (1 : Fin 2) * 1024 + 1 * l.val; omega
  refine (congrArg _ hi).trans (((dats m 0 c).arrAt_emb_eq_flushed 5 disjoint5 t (flush0_5 t) (ix2 b l)).trans ?_)
  show (dats m 0 c).flushed 5 t (ix2 b l) = _
  rw [flushed5, out_dx]
  refine (dx_apply (xb m c t) (yb m c t) (gb m c t) (zb m c t) (wb m c t) b l).trans ?_
  rw [dn_apply m c t b r hb, y_apply m c t b l r hb, funext fun k => x_apply m c t b k r hb, funext fun k => g_apply m c t k]

/-- What a point adds to the second result. -/
def addend (c : Dev nD) (l : Fin 1024) (n : ℕ) : EReal :=
  ∑ b : Fin 512, if h : n * 512 + b.val < 8192 then NormGrad.dg (fun k => xa m c (ix2 ⟨n * 512 + b.val, h⟩ k)) (dna m c ⟨n * 512 + b.val, h⟩) l else 0

theorem step_dg (c : Dev nD) (t : Fin cfg0.N) (acc : Vec Ideal S1x1024 .f32) (l : Fin 1024) :
    k0_pay3 (k0_pay7 (iblk m c 2 t) (iblk m c 0 t) (iblk m c 1 t)) acc (ix2 0 l) = acc (ix2 0 l) + addend m c l t.val := by
  refine (dg_apply acc (xb m c t) (zb m c t) (wb m c t) l).trans (congrArg _ (Finset.sum_congr rfl fun b _ => ?_))
  have ht : t.val < 16 := lt_of_lt_of_eq t.isLt N_0
  rw [dif_pos (by omega), dn_apply m c t b ⟨t.val * 512 + b.val, by omega⟩ rfl,
    funext fun k => x_apply m c t b k ⟨t.val * 512 + b.val, by omega⟩ rfl]

/-- After the first points the second result's block holds the sum of what they add. -/
theorem out_dg (c : Dev nD) (l : Fin 1024) : ∀ (n : ℕ) (hn : n < cfg0.N),
    (outsAt0 m c n hn).2 (ix2 0 l) = ∑ s ∈ Finset.range (n + 1), addend m c l s
  | 0, hn => by
    refine (congrFun (first_dg m c ⟨0, hn⟩ rfl) _).trans ((step_dg m c _ _ l).trans ?_)
    rw [zero_apply, zero_add, Finset.sum_range_one]
  | n + 1, hn => by
    have hN : n + 1 < 16 := lt_of_lt_of_eq hn N_0
    refine (congrFun (next_dg m c ⟨n + 1, hn⟩ (by show ¬(n + 1) % 16 = 0; omega)) _).trans ((step_dg m c _ _ l).trans ?_)
    rw [Finset.sum_range_succ _ (n + 1)]
    exact congrArg (· + _) (out_dg c l n _)

/-- The kernel's second array is the reference's second result. -/
theorem value_dg (c : Dev nD) :
    (dats m 0 c).arrAt 6 cfg0.N = Cert.Reference3Ideal.Read.val_main_v40 (F := Ideal) (za m c) (wa m c) (xa m c) := by
  funext i
  obtain ⟨l, rfl⟩ : ∃ (l : Fin 1024), i = ix2 0 l := ⟨i 1, by rw [← ix2_eta i]; exact congrArg (ix2 · _) (Subsingleton.elim _ _)⟩
  refine Eq.trans ?_ (ref_dg _ _ _ l).symm
  let t : Fin cfg0.N := ⟨15, by have h : cfg0.N = 16 := N_0; omega⟩
  obtain ⟨-, -, -, -, -, -, -, -, -, -, -, -, e0, e1⟩ := blocks t
  have hi : (ix2 0 l : S1x1024.Idx) = ((cfg0.win 6).blk t).view.emb (ix2 0 l) := by
    refine funext fun a => Fin.ext ?_
    match a with
    | ⟨0, _⟩ => show 0 = win0_6.index t (0 : Fin 2) * 1 + 1 * 0; omega
    | ⟨1, _⟩ => show l.val = win0_6.index t (1 : Fin 2) * 1024 + 1 * l.val; omega
  refine (congrArg _ hi).trans (((dats m 0 c).arrAt_emb_eq_flushed 6 ?_ t ((flush0_6 t).mpr rfl) (ix2 0 l)).trans ?_)
  · intro a b ha hb hne
    have h1 := (flush0_6 a).mp ha
    have h2 := (flush0_6 b).mp hb
    have h3 : a.val < 16 := lt_of_lt_of_eq a.isLt N_0
    have h4 : b.val < 16 := lt_of_lt_of_eq b.isLt N_0
    exact absurd (Fin.ext (by omega)) hne
  show (dats m 0 c).flushed 6 t (ix2 0 l) = _
  rw [flushed6]
  refine (out_dg m c l 15 t.isLt).trans ?_
  exact (Cert.Sums.sum_tiles 16 512 8192 rfl (fun r => NormGrad.dg (fun k => xa m c (ix2 r k)) (dna m c r) l)).symm

end Cert.Proj3

end
-- ==== Proof.Mm4.lean ====
module

public import proofs.«01_k».proof.Proof.Sums
public import proofs.«01_k».proof.Proof.Gen.Kernel4Ideal.Value
public import proofs.«01_k».proof.Proof.Gen.Reference4Ideal.Read

@[expose] public section

noncomputable section

namespace Cert.Mm4

open Cert.Kernel4Ideal Cert.Kernel4Ideal.Gen Cert.Kernel4Ideal.Value
open Idealize.ShloMosaic Idealize.ShloMosaic.TcCoe Idealize.SL.Sem

variable (m : (ℓ : Loc nD τ sig) → Buf (Elt Ideal) ℓ)

/-- The step of the product: the accumulator plus the product of the two blocks over the block's rows. -/
theorem step_apply (acc : Vec Ideal S1024x1536 .f32) (x : Vec Ideal S1024x1024 .bf16) (y : Vec Ideal S1024x1536 .bf16)
    (r : Fin 1024) (l : Fin 1536) :
    k0_pay2 acc x y (ix2 r l) = acc (ix2 r l) + ∑ k : Fin 1024, x (ix2 k r) * y (ix2 k l) := by
  pointwise [k0_pay2]

/-- The first step starts from zero. -/
theorem zero_apply (r : Fin 1024) (l : Fin 1536) : k0_pay1 (F := Ideal) (ix2 r l) = 0 := by
  pointwise [k0_pay1]

/-- Where each window's block lies at a grid point. -/
theorem blocks : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

/-- The first window's block, read off the first array. -/
theorem x_apply (c : Dev nD) (t : Fin cfg0.N) (k r : Fin 1024) (k' : Fin 8192) (r' : Fin 1024)
    (hk : k'.val = t.val % 8 * 1024 + k.val) (hr : r'.val = r.val) :
    iblk m c 0 t (ix2 k r) = m ((c.tc : Thread nD τ).loc main_arg0) (ix2 k' r') := by
  obtain ⟨e0, e1, -, -⟩ := blocks t
  show m ((c.tc : Thread nD τ).loc main_arg0) (((cfg0.win 0).blk t).view.emb (ix2 k r)) = _
  refine congrArg _ (funext fun a => Fin.ext ?_)
  match a with
  | ⟨0, _⟩ => show win0_0.index t (0 : Fin 2) * 1024 + 1 * k.val = k'.val; omega
  | ⟨1, _⟩ => show win0_0.index t (1 : Fin 2) * 1024 + 1 * r.val = r'.val; omega

/-- The reference's stage at an index: the sum over all rows. -/
theorem ref_apply (x : Vec Ideal S8192x1024 .bf16) (y : Vec Ideal S8192x4608 .bf16) (r : Fin 1024) (l : Fin 4608) :
    Cert.Reference4Ideal.Read.val_main_v5 (F := Ideal) x y (ix2 r l) = ∑ k : Fin 8192, y (ix2 k l) * x (ix2 k r) := by
  pointwise [Cert.Reference4Ideal.Read.val_main_v5, Cert.Reference4Ideal.Read.val_main_v4, Cert.Reference4Ideal.Read.val_main_v3, Cert.Reference4Ideal.Read.val_main_v1]

/-- The second window's block, read off the second array. -/
theorem y_apply (c : Dev nD) (t : Fin cfg0.N) (k : Fin 1024) (l : Fin 1536) (k' : Fin 8192) (l' : Fin 4608)
    (hk : k'.val = t.val % 8 * 1024 + k.val) (hl : l'.val = t.val / 8 * 1536 + l.val) :
    iblk m c 1 t (ix2 k l) = m ((c.tc : Thread nD τ).loc main_arg1) (ix2 k' l') := by
  obtain ⟨-, -, e0, e1⟩ := blocks t
  show m ((c.tc : Thread nD τ).loc main_arg1) (((cfg0.win 1).blk t).view.emb (ix2 k l)) = _
  refine congrArg _ (funext fun a => Fin.ext ?_)
  match a with
  | ⟨0, _⟩ => show win0_1.index t (0 : Fin 2) * 1024 + 1 * k.val = k'.val; omega
  | ⟨1, _⟩ => show win0_1.index t (1 : Fin 2) * 1536 + 1 * l.val = l'.val; omega

/-- The two input blocks of a point. -/
abbrev xb (c : Dev nD) (t : Fin cfg0.N) : Vec Ideal S1024x1024 .bf16 := iblk m c 0 t
abbrev yb (c : Dev nD) (t : Fin cfg0.N) : Vec Ideal S1024x1536 .bf16 := iblk m c 1 t

/-- What point `n` adds to its block: the product of its two input blocks. -/
def addend (c : Dev nD) (n : ℕ) (i : S1024x1536.Idx) : EReal :=
  if h : n < cfg0.N then ∑ k : Fin 1024, xb m c ⟨n, h⟩ (ix2 k (i 0)) * yb m c ⟨n, h⟩ (ix2 k (i 1)) else 0

/-- A run of eight points leaves the sum of its addends. -/
theorem fold_apply (c : Dev nD) (b : ℕ) (h : b + 7 < cfg0.N) (i : S1024x1536.Idx) :
    Pipeline.accAt (reset2 m c) (step2 m c) b 7 h i = ∑ s ∈ Finset.range 8, addend m c (b + s) i := by
  rw [Pipeline.accAt_add_apply (reset2 m c) (step2 m c) (fun _ => (0 : EReal)) (addend m c) b 7 ?_ ?_ 7 le_rfl h i, zero_add]
  · intro h i
    obtain ⟨r, l, rfl⟩ : ∃ r l, i = ix2 r l := ⟨i 0, i 1, (ix2_eta i).symm⟩
    unfold addend
    rw [dif_pos h]
    show k0_pay2 _ _ _ (ix2 r l) = _
    rw [step_apply, zero_apply]
    rfl
  · intro n h acc i _ _
    obtain ⟨r, l, rfl⟩ : ∃ r l, i = ix2 r l := ⟨i 0, i 1, (ix2_eta i).symm⟩
    unfold addend
    rw [dif_pos h]
    show k0_pay2 _ _ _ (ix2 r l) = _
    rw [step_apply]
    rfl

/-- The kernel's array is the reference's. -/
theorem value (c : Dev nD) :
    G2 m c = Cert.Reference4Ideal.Read.val_main_v5 (F := Ideal) (m ((c.tc : Thread nD τ).loc main_arg0)) (m ((c.tc : Thread nD τ).loc main_arg1)) := by
  funext i
  obtain ⟨r, l, rfl⟩ : ∃ (r : Fin 1024) (l : Fin 4608), i = ix2 r l := ⟨i 0, i 1, (ix2_eta i).symm⟩
  refine Eq.trans ?_ (ref_apply _ _ r l).symm
  have hN : cfg0.N = 24 := N_0
  have hr : run2Of (ix2 r l) = l.val / 1536 := by
    show 3 * (r.val / 1024 - 0) + 1 * (l.val / 1536 - 0) = _
    omega
  unfold G2
  rw [dif_pos (by rw [hr, hN]; omega)]
  refine (fold_apply m c _ _ _).trans ?_
  rw [Cert.Sums.sum_tiles 8 1024 8192 rfl]
  refine Finset.sum_congr rfl fun s hs => ?_
  have hs8 : s < 8 := Finset.mem_range.mp hs
  unfold addend
  rw [dif_pos (by rw [hr, hN]; omega)]
  refine Finset.sum_congr rfl fun k _ => ?_
  rw [dif_pos (by omega), mul_comm]
  congr 1
  · exact y_apply m c _ _ _ _ l
      (by show s * 1024 + k.val = (8 * run2Of (ix2 r l) + s) % 8 * 1024 + k.val; omega)
      (by show l.val = (8 * run2Of (ix2 r l) + s) / 8 * 1536 + l.val % 1536; omega)
  · exact x_apply m c _ _ _ _ r
      (by show s * 1024 + k.val = (8 * run2Of (ix2 r l) + s) % 8 * 1024 + k.val; omega)
      (by show r.val = r.val % 1024; omega)

end Cert.Mm4

end
-- ==== Proof.Act10.lean ====
module

public import Idealize.ShloMosaic.Lib.Pointwise
public import Idealize.ShloMosaic.Lib.Pipeline.ValueKit.Tiles
public import proofs.«01_k».proof.Proof.Gen.Kernel10Ideal.Value
public import proofs.«01_k».proof.Proof.Gen.Reference10Ideal.Read

@[expose] public section

noncomputable section

namespace Cert.Act10

open Cert.Kernel10Ideal Cert.Kernel10Ideal.Gen Cert.Kernel10Ideal.Value
open Idealize.ShloMosaic Idealize.ShloMosaic.TcCoe Idealize.SL.Sem

/-- The activation of the FFN: the gate through silu, times the up projection. -/
def act (g u : EReal) : EReal := g * Ideal.logistic g * u

/-- The stores to the first 640 columns of a block, at an index: gate, up and activation. -/
theorem left_gate (x : Vec Ideal S512x1024 .bf16) (w : Vec Ideal S1024x640 .bf16) (r : Fin 512) (l : Fin 640) :
    k0_pay4 x w (ix2 r l) = ∑ k : Fin 1024, x (ix2 r k) * w (ix2 k l) := by
  pointwise [k0_pay4, k0_pay2]

theorem left_up (x : Vec Ideal S512x1024 .bf16) (w : Vec Ideal S1024x640 .bf16) (r : Fin 512) (l : Fin 640) :
    k0_pay5 x w (ix2 r l) = ∑ k : Fin 1024, x (ix2 r k) * w (ix2 k l) := by
  pointwise [k0_pay5, k0_pay3]

theorem left_act (x : Vec Ideal S512x1024 .bf16) (w w' : Vec Ideal S1024x640 .bf16) (r : Fin 512) (l : Fin 640) :
    k0_pay6 x w w' (ix2 r l) = act (∑ k : Fin 1024, x (ix2 r k) * w (ix2 k l)) (∑ k : Fin 1024, x (ix2 r k) * w' (ix2 k l)) := by
  pointwise [k0_pay6, k0_pay2, k0_pay3, act]

/-- The stores to the other 768 columns, likewise. -/
theorem right_gate (x : Vec Ideal S512x1024 .bf16) (w : Vec Ideal S1024x768 .bf16) (r : Fin 512) (l : Fin 768) :
    k0_pay9 x w (ix2 r l) = ∑ k : Fin 1024, x (ix2 r k) * w (ix2 k l) := by
  pointwise [k0_pay9, k0_pay7]

theorem right_up (x : Vec Ideal S512x1024 .bf16) (w : Vec Ideal S1024x768 .bf16) (r : Fin 512) (l : Fin 768) :
    k0_pay10 x w (ix2 r l) = ∑ k : Fin 1024, x (ix2 r k) * w (ix2 k l) := by
  pointwise [k0_pay10, k0_pay8]

theorem right_act (x : Vec Ideal S512x1024 .bf16) (w w' : Vec Ideal S1024x768 .bf16) (r : Fin 512) (l : Fin 768) :
    k0_pay1 (k0_pay11 x w w') (ix2 r l) = act (∑ k : Fin 1024, x (ix2 r k) * w (ix2 k l)) (∑ k : Fin 1024, x (ix2 r k) * w' (ix2 k l)) := by
  pointwise [k0_pay1, k0_pay11, k0_pay7, k0_pay8, act]

open Cert.Reference10Ideal.Read in
theorem ref_gate (x : Vec Ideal S8192x1024 .bf16) (w : Vec Ideal S1024x5632 .f32) (r : Fin 8192) (l : Fin 2816) :
    val_main_v4 (F := Ideal) x w (ix2 r l) = ∑ k : Fin 1024, x (ix2 r k) * w (ix2 k ⟨l.val, by omega⟩) := by
  pointwise [val_main_v4, val_main_v2, val_main_v1, val_main_v0]

open Cert.Reference10Ideal.Read in
theorem ref_up (x : Vec Ideal S8192x1024 .bf16) (w : Vec Ideal S1024x5632 .f32) (r : Fin 8192) (l : Fin 2816) :
    val_main_v5 (F := Ideal) x w (ix2 r l) = ∑ k : Fin 1024, x (ix2 r k) * w (ix2 k ⟨2816 + l.val, by omega⟩) := by
  pointwise [val_main_v5, val_main_v3, val_main_v1, val_main_v0]

open Cert.Reference10Ideal.Read in
theorem ref_act (x : Vec Ideal S8192x1024 .bf16) (w : Vec Ideal S1024x5632 .f32) (r : Fin 8192) (l : Fin 2816) :
    val_main_v8 (F := Ideal) x w (ix2 r l)
      = act (∑ k : Fin 1024, x (ix2 r k) * w (ix2 k ⟨l.val, by omega⟩)) (∑ k : Fin 1024, x (ix2 r k) * w (ix2 k ⟨2816 + l.val, by omega⟩)) := by
  pointwise [val_main_v8, val_main_v7, val_main_v6, val_main_call0_v5, val_main_call0_v4, val_main_call0_v3, val_main_call0_v2, val_main_call0_v1, val_main_call0_v0, val_main_call0_cst, val_main_call0_cst_0,
    val_main_v2, val_main_v3, val_main_v1, val_main_v0, act, Ideal.logistic]

variable (m : (ℓ : Loc nD τ sig) → Buf (Elt Ideal) ℓ)

theorem blocks : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = 0 ∧ win0_2.index t (1 : Fin 2) = 2 + t.val % 2
    ∧ win0_3.index t (0 : Fin 2) = t.val / 2 ∧ win0_3.index t (1 : Fin 2) = t.val % 2
    ∧ win0_4.index t (0 : Fin 2) = t.val / 2 ∧ win0_4.index t (1 : Fin 2) = t.val % 2
    ∧ win0_5.index t (0 : Fin 2) = t.val / 2 ∧ win0_5.index t (1 : Fin 2) = t.val % 2 :=
  (by decide +kernel : ∀ t : Fin grid0.N, _)

abbrev xb (c : Dev nD) (t : Fin cfg0.N) : Vec Ideal S512x1024 .bf16 := iblk m c 0 t
abbrev gb (c : Dev nD) (t : Fin cfg0.N) : Vec Ideal S1024x1408 .bf16 := iblk m c 1 t
abbrev ub (c : Dev nD) (t : Fin cfg0.N) : Vec Ideal S1024x1408 .bf16 := iblk m c 2 t

/-- A sum over a point's blocks as a store's loads spell it, with the block's column `l` at the store's column `l'`. -/
theorem left_sum (x : Vec Ideal S512x1024 .bf16) (w : Vec Ideal S1024x1408 .bf16) (r : Fin 512) (l : Fin 1408) (l' : Fin 640) (h : l.val = l'.val) :
    (∑ k : Fin 1024, View.ld x (Rect.unit ![0, 0] ![512, 1024] inb_S512x1024_S512x1024_0_0) (ix2 r k)
      * View.ld w (Rect.unit ![0, 0] ![1024, 640] inb_S1024x1408_S1024x640_0_0) (ix2 k l')) = ∑ k : Fin 1024, x (ix2 r k) * w (ix2 k l) := by
  refine Finset.sum_congr rfl fun k _ => congrArg₂ (· * ·) (View.ld_unit_apply_of x ![0, 0] ![512, 1024] _ _ (ix2 r k) fun a => ?_)
    (View.ld_unit_apply_of w ![0, 0] ![1024, 640] _ _ (ix2 k l) fun a => ?_)
  · match a with
    | ⟨0, _⟩ => show r.val = 0 + r.val; omega
    | ⟨1, _⟩ => show k.val = 0 + k.val; omega
  · match a with
    | ⟨0, _⟩ => show k.val = 0 + k.val; omega
    | ⟨1, _⟩ => show l.val = 0 + l'.val; omega

theorem right_sum (x : Vec Ideal S512x1024 .bf16) (w : Vec Ideal S1024x1408 .bf16) (r : Fin 512) (l : Fin 1408) (l' : Fin 768) (h : l.val = 640 + l'.val) :
    (∑ k : Fin 1024, View.ld x (Rect.unit ![0, 0] ![512, 1024] inb_S512x1024_S512x1024_0_0) (ix2 r k)
      * View.ld w (Rect.unit ![0, 640] ![1024, 768] inb_S1024x1408_S1024x768_0_640) (ix2 k l')) = ∑ k : Fin 1024, x (ix2 r k) * w (ix2 k l) := by
  refine Finset.sum_congr rfl fun k _ => congrArg₂ (· * ·) (View.ld_unit_apply_of x ![0, 0] ![512, 1024] _ _ (ix2 r k) fun a => ?_)
    (View.ld_unit_apply_of w ![0, 640] ![1024, 768] _ _ (ix2 k l) fun a => ?_)
  · match a with
    | ⟨0, _⟩ => show r.val = 0 + r.val; omega
    | ⟨1, _⟩ => show k.val = 0 + k.val; omega
  · match a with
    | ⟨0, _⟩ => show k.val = 0 + k.val; omega
    | ⟨1, _⟩ => show l.val = 640 + l'.val; omega

/-- A block's value at an index from its two stores': the first 640 columns and the rest. -/
theorem two_stores (r : Fin 512) (l : Fin 1408) (v : EReal) (p : Vec Ideal S512x768 .bf16) (q : Vec Ideal S512x640 .bf16)
    (hp : ∀ l' : Fin 768, l.val = 640 + l'.val → p (ix2 r l') = v) (hq : ∀ l' : Fin 640, l.val = l'.val → q (ix2 r l') = v) :
    View.AllAt (Val := Elt Ideal) (e := .bf16) [⟨Rect.unit ![0, 640] ![512, 768] inb_S512x1408_S512x768_0_640, p⟩,
      ⟨Rect.unit ![0, 0] ![512, 640] inb_S512x1408_S512x640_0_0, q⟩] (ix2 r l) v := by
  refine View.allAt_cons_unit _ _ _ _ _ (fun y hy => ?_) (View.allAt_cons_unit _ _ _ _ _ (fun y hy => ?_) (View.allAt_nil _ _))
  · obtain ⟨r', l', rfl⟩ : ∃ (r' : Fin 512) (l' : Fin 768), y = ix2 r' l' := ⟨y 0, y 1, (ix2_eta y).symm⟩
    have h0 : r.val = 0 + r'.val := hy 0
    have h1 : l.val = 640 + l'.val := hy 1
    obtain rfl : r = r' := Fin.ext (by omega)
    exact hp l' h1
  · obtain ⟨r', l', rfl⟩ : ∃ (r' : Fin 512) (l' : Fin 640), y = ix2 r' l' := ⟨y 0, y 1, (ix2_eta y).symm⟩
    have h0 : r.val = 0 + r'.val := hy 0
    have h1 : l.val = 0 + l'.val := hy 1
    obtain rfl : r = r' := Fin.ext (by omega)
    exact hq l' (by omega)

/-- What a point leaves in its three blocks. -/
theorem out_gate (c : Dev nD) (t : Fin cfg0.N) (r : Fin 512) (l : Fin 1408) :
    (outsAt0 m c t).1 (ix2 r l) = ∑ k : Fin 1024, xb m c t (ix2 r k) * gb m c t (ix2 k l) := by
  unfold outsAt0
  dsimp only
  unfold out0_A_3
  rw [View.read_writes_eq_canon _ _ _ (fun y => cover0_A_3 (y := y) ..)]
  refine View.canon_eq_of_allAt _ _ _ (cover0_A_3 ..) ?_
  unfold kernelRun0_A
  dsimp only
  simp only [View.readAt_eq_ld, (hs0_0 t).read_unread, (hs0_1 t).read_unread, (hs0_2 t).read_unread]
  exact two_stores r l _ _ _ (fun l' h => (right_gate _ _ r l').trans (right_sum _ _ r l l' h)) fun l' h => (left_gate _ _ r l').trans (left_sum _ _ r l l' h)

theorem out_up (c : Dev nD) (t : Fin cfg0.N) (r : Fin 512) (l : Fin 1408) :
    (outsAt0 m c t).2.1 (ix2 r l) = ∑ k : Fin 1024, xb m c t (ix2 r k) * ub m c t (ix2 k l) := by
  unfold outsAt0
  dsimp only
  unfold out0_A_4
  rw [View.read_writes_eq_canon _ _ _ (fun y => cover0_A_4 (y := y) ..)]
  refine View.canon_eq_of_allAt _ _ _ (cover0_A_4 ..) ?_
  unfold kernelRun0_A
  dsimp only
  simp only [View.readAt_eq_ld, (hs0_0 t).read_unread, (hs0_1 t).read_unread, (hs0_2 t).read_unread]
  exact two_stores r l _ _ _ (fun l' h => (right_up _ _ r l').trans (right_sum _ _ r l l' h)) fun l' h => (left_up _ _ r l').trans (left_sum _ _ r l l' h)

theorem out_act (c : Dev nD) (t : Fin cfg0.N) (r : Fin 512) (l : Fin 1408) :
    (outsAt0 m c t).2.2 (ix2 r l)
      = act (∑ k : Fin 1024, xb m c t (ix2 r k) * gb m c t (ix2 k l)) (∑ k : Fin 1024, xb m c t (ix2 r k) * ub m c t (ix2 k l)) := by
  unfold outsAt0
  dsimp only
  unfold out0_A_5
  rw [View.read_writes_eq_canon _ _ _ (fun y => cover0_A_5 (y := y) ..)]
  refine View.canon_eq_of_allAt _ _ _ (cover0_A_5 ..) ?_
  unfold kernelRun0_A
  dsimp only
  try sl_unfold_words
  simp only [View.readAt_eq_ld, (hs0_0 t).read_unread, (hs0_1 t).read_unread, (hs0_2 t).read_unread]
  exact two_stores r l _ _ _ (fun l' h => (right_act _ _ _ r l').trans (congrArg₂ act (right_sum _ _ r l l' h) (right_sum _ _ r l l' h)))
    fun l' h => (left_act _ _ _ r l').trans (congrArg₂ act (left_sum _ _ r l l' h) (left_sum _ _ r l l' h))

/-! ## The arrays -/

abbrev xa (c : Dev nD) : Vec Ideal S8192x1024 .bf16 := m ((c.tc : Thread nD τ).loc main_arg0)
abbrev wa (c : Dev nD) : Vec Ideal S1024x5632 .f32 := m ((c.tc : Thread nD τ).loc main_arg1)

/-- The weight the kernel reads is the weight argument. -/
theorem weight (c : Dev nD) : (V m c main_v0 : S1024x5632.Idx → EReal) = wa m c := rfl

/-- Each input block of a point, read off its array. -/
theorem x_apply (c : Dev nD) (t : Fin cfg0.N) (r : Fin 512) (k : Fin 1024) (r' : Fin 8192) (h : r'.val = t.val / 2 * 512 + r.val) :
    xb m c t (ix2 r k) = xa m c (ix2 r' k) := by
  obtain ⟨e0, e1, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

theorem g_apply (c : Dev nD) (t : Fin cfg0.N) (k : Fin 1024) (l : Fin 1408) (l' : Fin 5632) (h : l'.val = t.val % 2 * 1408 + l.val) :
    gb m c t (ix2 k l) = wa m c (ix2 k l') := by
  obtain ⟨-, -, e0, e1, -⟩ := blocks t
  refine Eq.trans ?_ (congrFun (weight m c) (ix2 k l'))
  show V m c main_v0 (((cfg0.win 1).blk t).view.emb (ix2 k l)) = _
  refine congrArg _ (funext fun a => Fin.ext ?_)
  match a with
  | ⟨0, _⟩ => show win0_1.index t (0 : Fin 2) * 1024 + 1 * k.val = k.val; omega
  | ⟨1, _⟩ => show win0_1.index t (1 : Fin 2) * 1408 + 1 * l.val = l'.val; omega

theorem u_apply (c : Dev nD) (t : Fin cfg0.N) (k : Fin 1024) (l : Fin 1408) (l' : Fin 5632) (h : l'.val = 2816 + (t.val % 2 * 1408 + l.val)) :
    ub m c t (ix2 k l) = wa m c (ix2 k l') := by
  obtain ⟨-, -, -, -, e0, e1, -⟩ := blocks t
  refine Eq.trans ?_ (congrFun (weight m c) (ix2 k l'))
  show V m c main_v0 (((cfg0.win 2).blk t).view.emb (ix2 k l)) = _
  refine congrArg _ (funext fun a => Fin.ext ?_)
  match a with
  | ⟨0, _⟩ => show win0_2.index t (0 : Fin 2) * 1024 + 1 * k.val = k.val; omega
  | ⟨1, _⟩ => show win0_2.index t (1 : Fin 2) * 1408 + 1 * l.val = l'.val; omega

/-- A point's sums are the arrays'. -/
theorem gate_sum (c : Dev nD) (t : Fin cfg0.N) (r : Fin 512) (l : Fin 1408) (r' : Fin 8192) (l' : Fin 2816)
    (hr : r'.val = t.val / 2 * 512 + r.val) (hl : l'.val = t.val % 2 * 1408 + l.val) :
    (∑ k : Fin 1024, xb m c t (ix2 r k) * gb m c t (ix2 k l)) = ∑ k : Fin 1024, xa m c (ix2 r' k) * wa m c (ix2 k ⟨l'.val, by omega⟩) :=
  Finset.sum_congr rfl fun k _ => congrArg₂ (· * ·) (x_apply m c t r k r' hr) (g_apply m c t k l ⟨l'.val, by omega⟩ hl)

theorem up_sum (c : Dev nD) (t : Fin cfg0.N) (r : Fin 512) (l : Fin 1408) (r' : Fin 8192) (l' : Fin 2816)
    (hr : r'.val = t.val / 2 * 512 + r.val) (hl : l'.val = t.val % 2 * 1408 + l.val) :
    (∑ k : Fin 1024, xb m c t (ix2 r k) * ub m c t (ix2 k l)) = ∑ k : Fin 1024, xa m c (ix2 r' k) * wa m c (ix2 k ⟨2816 + l'.val, by omega⟩) :=
  Finset.sum_congr rfl fun k _ => congrArg₂ (· * ·) (x_apply m c t r k r' hr)
    (u_apply m c t k l ⟨2816 + l'.val, by omega⟩ (by show 2816 + l'.val = _; omega))

/-- The point whose blocks hold an index, and the index within the block. -/
def pt (r : Fin 8192) (l : Fin 2816) : Fin cfg0.N := ⟨2 * (r.val / 512) + l.val / 1408, by have h : cfg0.N = 32 := N_0; omega⟩
def row (r : Fin 8192) : Fin 512 := ⟨r.val % 512, Nat.mod_lt _ (by decide)⟩
def col (l : Fin 2816) : Fin 1408 := ⟨l.val % 1408, Nat.mod_lt _ (by decide)⟩

theorem row_eq (r : Fin 8192) (l : Fin 2816) : r.val = (pt r l).val / 2 * 512 + (row r).val := by
  show r.val = (2 * (r.val / 512) + l.val / 1408) / 2 * 512 + r.val % 512; omega

theorem col_eq (r : Fin 8192) (l : Fin 2816) : l.val = (pt r l).val % 2 * 1408 + (col l).val := by
  show l.val = (2 * (r.val / 512) + l.val / 1408) % 2 * 1408 + l.val % 1408; omega

/-- The kernel's arrays are the reference's results. -/
theorem value_gate (c : Dev nD) : (dats m 0 c).arrAt 3 cfg0.N = Cert.Reference10Ideal.Read.val_main_v4 (F := Ideal) (xa m c) (wa m c) := by
  funext i
  obtain ⟨r, l, rfl⟩ : ∃ (r : Fin 8192) (l : Fin 2816), i = ix2 r l := ⟨i 0, i 1, (ix2_eta i).symm⟩
  have hr := row_eq r l
  have hl := col_eq r l
  obtain ⟨-, -, -, -, -, -, e0, e1, -⟩ := blocks (pt r l)
  have hi : (ix2 r l : S8192x2816.Idx) = ((cfg0.win 3).blk (pt r l)).view.emb (ix2 (row r) (col l)) := by
    refine funext fun a => Fin.ext ?_
    match a with
    | ⟨0, _⟩ => show r.val = win0_3.index (pt r l) (0 : Fin 2) * 512 + 1 * (row r).val; omega
    | ⟨1, _⟩ => show l.val = win0_3.index (pt r l) (1 : Fin 2) * 1408 + 1 * (col l).val; omega
  refine (congrArg _ hi).trans (((dats m 0 c).arrAt_emb_eq_flushed 3 disjoint3 (pt r l) (flush0_3 _) (ix2 (row r) (col l))).trans ?_)
  show (dats m 0 c).flushed 3 (pt r l) (ix2 (row r) (col l)) = _
  rw [flushed3, ref_gate, ← gate_sum m c (pt r l) (row r) (col l) r l hr hl]
  exact out_gate m c _ _ _

theorem value_up (c : Dev nD) : (dats m 0 c).arrAt 4 cfg0.N = Cert.Reference10Ideal.Read.val_main_v5 (F := Ideal) (xa m c) (wa m c) := by
  funext i
  obtain ⟨r, l, rfl⟩ : ∃ (r : Fin 8192) (l : Fin 2816), i = ix2 r l := ⟨i 0, i 1, (ix2_eta i).symm⟩
  have hr := row_eq r l
  have hl := col_eq r l
  obtain ⟨-, -, -, -, -, -, -, -, e0, e1, -⟩ := blocks (pt r l)
  have hi : (ix2 r l : S8192x2816.Idx) = ((cfg0.win 4).blk (pt r l)).view.emb (ix2 (row r) (col l)) := by
    refine funext fun a => Fin.ext ?_
    match a with
    | ⟨0, _⟩ => show r.val = win0_4.index (pt r l) (0 : Fin 2) * 512 + 1 * (row r).val; omega
    | ⟨1, _⟩ => show l.val = win0_4.index (pt r l) (1 : Fin 2) * 1408 + 1 * (col l).val; omega
  refine (congrArg _ hi).trans (((dats m 0 c).arrAt_emb_eq_flushed 4 disjoint4 (pt r l) (flush0_4 _) (ix2 (row r) (col l))).trans ?_)
  show (dats m 0 c).flushed 4 (pt r l) (ix2 (row r) (col l)) = _
  rw [flushed4, ref_up, ← up_sum m c (pt r l) (row r) (col l) r l hr hl]
  exact out_up m c _ _ _

theorem value_act (c : Dev nD) : (dats m 0 c).arrAt 5 cfg0.N = Cert.Reference10Ideal.Read.val_main_v8 (F := Ideal) (xa m c) (wa m c) := by
  funext i
  obtain ⟨r, l, rfl⟩ : ∃ (r : Fin 8192) (l : Fin 2816), i = ix2 r l := ⟨i 0, i 1, (ix2_eta i).symm⟩
  have hr := row_eq r l
  have hl := col_eq r l
  obtain ⟨-, -, -, -, -, -, -, -, -, -, e0, e1⟩ := blocks (pt r l)
  have hi : (ix2 r l : S8192x2816.Idx) = ((cfg0.win 5).blk (pt r l)).view.emb (ix2 (row r) (col l)) := by
    refine funext fun a => Fin.ext ?_
    match a with
    | ⟨0, _⟩ => show r.val = win0_5.index (pt r l) (0 : Fin 2) * 512 + 1 * (row r).val; omega
    | ⟨1, _⟩ => show l.val = win0_5.index (pt r l) (1 : Fin 2) * 1408 + 1 * (col l).val; omega
  refine (congrArg _ hi).trans (((dats m 0 c).arrAt_emb_eq_flushed 5 disjoint5 (pt r l) (flush0_5 _) (ix2 (row r) (col l))).trans ?_)
  show (dats m 0 c).flushed 5 (pt r l) (ix2 (row r) (col l)) = _
  rw [flushed5, ref_act, ← gate_sum m c (pt r l) (row r) (col l) r l hr hl, ← up_sum m c (pt r l) (row r) (col l) r l hr hl]
  exact out_act m c _ _ _

end Cert.Act10

end

end
-- ==== Proof.Mid5.lean ====
/- The gradient of the FFN's activation. The kernel writes the gate's gradient as one product, the reference as the sum
   of two; they are equal where the incoming gradient times the up projection is finite, which the precondition gives. -/
module

public import proofs.«01_k».proof.Defs
public import proofs.«01_k».proof.Proof.Act10
public import proofs.«01_k».proof.Proof.Gen.Kernel5Ideal.Value
public import proofs.«01_k».proof.Proof.Gen.Reference5Ideal.Read

@[expose] public section

noncomputable section

namespace Cert.Mid5

open Cert.Kernel5Ideal Cert.Kernel5Ideal.Gen Cert.Kernel5Ideal.Value
open Idealize.ShloMosaic Idealize.ShloMosaic.TcCoe Idealize.SL.Sem

/-- The gate's gradient, from the gradient `a` of the activation, the gate `g` and the up projection `u`. -/
def dgate (a g u : EReal) : EReal := a * u * Ideal.logistic g * (1 + g * (1 - Ideal.logistic g))

/-- The up projection's gradient. -/
def dup (a g : EReal) : EReal := a * g * Ideal.logistic g

/-- An extended real that is neither infinity. -/
def Finite (x : EReal) : Prop := x ≠ ⊤ ∧ x ≠ ⊥

theorem Finite.mul {x y : EReal} (hx : Finite x) (hy : Finite y) : Finite (x * y) := by
  lift x to ℝ using hx
  lift y to ℝ using hy
  rw [← EReal.coe_mul]
  exact ⟨EReal.coe_ne_top _, EReal.coe_ne_bot _⟩

theorem Finite.sum {n : ℕ} (f : Fin n → EReal) (h : ∀ k, Finite (f k)) : Finite (∑ k, f k) := by
  refine Finset.sum_induction f Finite (fun x y hx hy => ?_) ⟨EReal.coe_ne_top 0, EReal.coe_ne_bot 0⟩ fun k _ => h k
  lift x to ℝ using hx
  lift y to ℝ using hy
  rw [← EReal.coe_add]
  exact ⟨EReal.coe_ne_top _, EReal.coe_ne_bot _⟩

/-- The product the kernel writes is the sum the reference writes. -/
theorem dgate_eq (a g u : EReal) (h : Finite (a * u)) :
    dgate a g u = a * u * Ideal.logistic g + g * (a * u) * (Ideal.logistic g * (1 - Ideal.logistic g)) := by
  unfold dgate
  generalize a * u = b at h
  lift b to ℝ using h
  induction g with
  | bot => simp
  | top =>
    have h1 : (1 : EReal) - 1 = 0 := by rw [← EReal.coe_one, ← EReal.coe_sub, sub_self, EReal.coe_zero]
    simp [h1]
  | coe g =>
    rw [Ideal.logistic_coe, ← EReal.coe_one]
    generalize (1 + Real.exp (-g))⁻¹ = s
    norm_cast
    ring

/-! ## The kernel's payloads and the reference's stages -/

theorem left_dgate (x : Vec Ideal S512x1024 .bf16) (w : Vec Ideal S640x1024 .bf16) (g u : Vec Ideal S512x640 .bf16) (r : Fin 512) (l : Fin 640) :
    k0_pay6 x w g u (ix2 r l) = dgate (∑ k : Fin 1024, x (ix2 r k) * w (ix2 l k)) (g (ix2 r l)) (u (ix2 r l)) := by
  pointwise [k0_pay6, k0_pay5, k0_pay4, k0_pay3, dgate]

theorem left_dup (x : Vec Ideal S512x1024 .bf16) (w : Vec Ideal S640x1024 .bf16) (g : Vec Ideal S512x640 .bf16) (r : Fin 512) (l : Fin 640) :
    k0_pay7 x w g (ix2 r l) = dup (∑ k : Fin 1024, x (ix2 r k) * w (ix2 l k)) (g (ix2 r l)) := by
  pointwise [k0_pay7, k0_pay5, k0_pay4, k0_pay3, dup]

theorem right_dgate (x : Vec Ideal S512x1024 .bf16) (w : Vec Ideal S768x1024 .bf16) (g u : Vec Ideal S512x768 .bf16) (r : Fin 512) (l : Fin 768) :
    k0_pay1 (k0_pay9 g) (k0_pay10 g) (k0_pay11 x w g u) (Scalar.ofBits .f32 0x3F800000#32) (ix2 r l)
      = dgate (∑ k : Fin 1024, x (ix2 r k) * w (ix2 l k)) (g (ix2 r l)) (u (ix2 r l)) := by
  pointwise [k0_pay1, k0_pay11, k0_pay10, k0_pay9, k0_pay8, dgate]

theorem right_dup (x : Vec Ideal S512x1024 .bf16) (w : Vec Ideal S768x1024 .bf16) (g : Vec Ideal S512x768 .bf16) (r : Fin 512) (l : Fin 768) :
    k0_pay2 (k0_pay8 x w) (k0_pay9 g) (k0_pay10 g) (ix2 r l) = dup (∑ k : Fin 1024, x (ix2 r k) * w (ix2 l k)) (g (ix2 r l)) := by
  pointwise [k0_pay2, k0_pay10, k0_pay9, k0_pay8, dup]

open Cert.Reference5Ideal.Read in
theorem ref_dgate (x : Vec Ideal S8192x1024 .bf16) (w : Vec Ideal S2816x1024 .f32) (g u : Vec Ideal S8192x2816 .bf16) (r : Fin 8192) (l : Fin 2816) :
    val_main_v10 (F := Ideal) x w g u (ix2 r l)
      = (∑ k : Fin 1024, x (ix2 r k) * w (ix2 l k)) * u (ix2 r l) * Ideal.logistic (g (ix2 r l))
        + g (ix2 r l) * ((∑ k : Fin 1024, x (ix2 r k) * w (ix2 l k)) * u (ix2 r l)) * (Ideal.logistic (g (ix2 r l)) * (1 - Ideal.logistic (g (ix2 r l)))) := by
  pointwise [val_main_v10, val_main_v9, val_main_call1_v2, val_main_call1_v1, val_main_call1_v0, val_main_v8, val_main_v6, val_main_v5, val_main_v2_1, val_main_call0_v7,
    val_main_call0_v6, val_main_call0_cst_1, val_main_v2_2, val_main_call0_v4, val_main_call0_cst_0, val_main_call0_v3, val_main_call0_v2, val_main_call0_cst, val_main_call0_v1,
    val_main_call0_v0, val_main_v0, val_main_v1, Ideal.logistic]

open Cert.Reference5Ideal.Read in
theorem ref_dup (x : Vec Ideal S8192x1024 .bf16) (w : Vec Ideal S2816x1024 .f32) (g : Vec Ideal S8192x2816 .bf16) (r : Fin 8192) (l : Fin 2816) :
    val_main_v11 (F := Ideal) x w g (ix2 r l) = dup (∑ k : Fin 1024, x (ix2 r k) * w (ix2 l k)) (g (ix2 r l)) := by
  have h : val_main_v11 (F := Ideal) x w g (ix2 r l) = g (ix2 r l) * Ideal.logistic (g (ix2 r l)) * ∑ k : Fin 1024, x (ix2 r k) * w (ix2 l k) := by
    pointwise [val_main_v11, val_main_v7, val_main_v6, val_main_v5, val_main_v2_0, val_main_v2_2, val_main_call0_v4, val_main_call0_cst_0, val_main_call0_v3, val_main_call0_v2,
      val_main_call0_cst, val_main_call0_v1, val_main_call0_v0, val_main_v0, Ideal.logistic]
  rw [h, dup, mul_comm, mul_assoc]

/-! ## What a point leaves in its two blocks -/

variable (m : (ℓ : Loc nD τ sig) → Buf (Elt Ideal) ℓ)

theorem blocks : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2)
    ∧ (win0_3.index t (0 : Fin 2) = t.val / 2 ∧ win0_3.index t (1 : Fin 2) = t.val % 2)
    ∧ (win0_4.index t (0 : Fin 2) = t.val / 2 ∧ win0_4.index t (1 : Fin 2) = t.val % 2)
    ∧ (win0_5.index t (0 : Fin 2) = t.val / 2 ∧ win0_5.index t (1 : Fin 2) = t.val % 2) :=
  (by decide +kernel : ∀ t : Fin grid0.N, _)

abbrev xb (c : Dev nD) (t : Fin cfg0.N) : Vec Ideal S512x1024 .bf16 := iblk m c 0 t
abbrev wb (c : Dev nD) (t : Fin cfg0.N) : Vec Ideal S1408x1024 .bf16 := iblk m c 1 t
abbrev gb (c : Dev nD) (t : Fin cfg0.N) : Vec Ideal S512x1408 .bf16 := iblk m c 2 t
abbrev ub (c : Dev nD) (t : Fin cfg0.N) : Vec Ideal S512x1408 .bf16 := iblk m c 3 t

/-- A store's loads, with the block's column `l` at the store's column `l'`: the product's sum, and an entry of the gate or of up. -/
theorem left_sum (x : Vec Ideal S512x1024 .bf16) (w : Vec Ideal S1408x1024 .bf16) (r : Fin 512) (l : Fin 1408) (l' : Fin 640) (h : l.val = l'.val) :
    (∑ k : Fin 1024, View.ld x (Rect.unit ![0, 0] ![512, 1024] inb_S512x1024_S512x1024_0_0) (ix2 r k)
      * View.ld w (Rect.unit ![0, 0] ![640, 1024] inb_S1408x1024_S640x1024_0_0) (ix2 l' k)) = ∑ k : Fin 1024, x (ix2 r k) * w (ix2 l k) := by
  refine Finset.sum_congr rfl fun k _ => congrArg₂ (· * ·) (View.ld_unit_apply_of x ![0, 0] ![512, 1024] _ _ (ix2 r k) fun a => ?_)
    (View.ld_unit_apply_of w ![0, 0] ![640, 1024] _ _ (ix2 l k) fun a => ?_)
  · match a with
    | ⟨0, _⟩ => show r.val = 0 + r.val; omega
    | ⟨1, _⟩ => show k.val = 0 + k.val; omega
  · match a with
    | ⟨0, _⟩ => show l.val = 0 + l'.val; omega
    | ⟨1, _⟩ => show k.val = 0 + k.val; omega

theorem right_sum (x : Vec Ideal S512x1024 .bf16) (w : Vec Ideal S1408x1024 .bf16) (r : Fin 512) (l : Fin 1408) (l' : Fin 768) (h : l.val = 640 + l'.val) :
    (∑ k : Fin 1024, View.ld x (Rect.unit ![0, 0] ![512, 1024] inb_S512x1024_S512x1024_0_0) (ix2 r k)
      * View.ld w (Rect.unit ![640, 0] ![768, 1024] inb_S1408x1024_S768x1024_640_0) (ix2 l' k)) = ∑ k : Fin 1024, x (ix2 r k) * w (ix2 l k) := by
  refine Finset.sum_congr rfl fun k _ => congrArg₂ (· * ·) (View.ld_unit_apply_of x ![0, 0] ![512, 1024] _ _ (ix2 r k) fun a => ?_)
    (View.ld_unit_apply_of w ![640, 0] ![768, 1024] _ _ (ix2 l k) fun a => ?_)
  · match a with
    | ⟨0, _⟩ => show r.val = 0 + r.val; omega
    | ⟨1, _⟩ => show k.val = 0 + k.val; omega
  · match a with
    | ⟨0, _⟩ => show l.val = 640 + l'.val; omega
    | ⟨1, _⟩ => show k.val = 0 + k.val; omega

theorem left_entry (g : Vec Ideal S512x1408 .bf16) (r : Fin 512) (l : Fin 1408) (l' : Fin 640) (h : l.val = l'.val) :
    View.ld g (Rect.unit ![0, 0] ![512, 640] inb_S512x1408_S512x640_0_0) (ix2 r l') = g (ix2 r l) :=
  View.ld_unit_apply_of g ![0, 0] ![512, 640] _ _ (ix2 r l) fun a => by
    match a with
    | ⟨0, _⟩ => show r.val = 0 + r.val; omega
    | ⟨1, _⟩ => show l.val = 0 + l'.val; omega

theorem right_entry (g : Vec Ideal S512x1408 .bf16) (r : Fin 512) (l : Fin 1408) (l' : Fin 768) (h : l.val = 640 + l'.val) :
    View.ld g (Rect.unit ![0, 640] ![512, 768] inb_S512x1408_S512x768_0_640) (ix2 r l') = g (ix2 r l) :=
  View.ld_unit_apply_of g ![0, 640] ![512, 768] _ _ (ix2 r l) fun a => by
    match a with
    | ⟨0, _⟩ => show r.val = 0 + r.val; omega
    | ⟨1, _⟩ => show l.val = 640 + l'.val; omega

theorem out_dgate (c : Dev nD) (t : Fin cfg0.N) (r : Fin 512) (l : Fin 1408) :
    (outsAt0 m c t).1 (ix2 r l) = dgate (∑ k : Fin 1024, xb m c t (ix2 r k) * wb m c t (ix2 l k)) (gb m c t (ix2 r l)) (ub m c t (ix2 r l)) := by
  unfold outsAt0
  dsimp only
  unfold out0_A_4
  rw [View.read_writes_eq_canon _ _ _ (fun y => cover0_A_4 (y := y) ..)]
  refine View.canon_eq_of_allAt _ _ _ (cover0_A_4 ..) ?_
  unfold kernelRun0_A
  dsimp only
  try sl_unfold_words
  simp only [View.readAt_eq_ld, (hs0_0 t).read_unread, (hs0_1 t).read_unread, (hs0_2 t).read_unread, (hs0_3 t).read_unread]
  refine Cert.Act10.two_stores r l _ _ _ (fun l' h => (right_dgate _ _ _ _ r l').trans ?_) fun l' h => (left_dgate _ _ _ _ r l').trans ?_
  · rw [right_sum _ _ r l l' h, right_entry _ r l l' h, right_entry _ r l l' h]
  · rw [left_sum _ _ r l l' h, left_entry _ r l l' h, left_entry _ r l l' h]

theorem out_dup (c : Dev nD) (t : Fin cfg0.N) (r : Fin 512) (l : Fin 1408) :
    (outsAt0 m c t).2 (ix2 r l) = dup (∑ k : Fin 1024, xb m c t (ix2 r k) * wb m c t (ix2 l k)) (gb m c t (ix2 r l)) := by
  unfold outsAt0
  dsimp only
  unfold out0_A_5
  rw [View.read_writes_eq_canon _ _ _ (fun y => cover0_A_5 (y := y) ..)]
  refine View.canon_eq_of_allAt _ _ _ (cover0_A_5 ..) ?_
  unfold kernelRun0_A
  dsimp only
  try sl_unfold_words
  simp only [View.readAt_eq_ld, (hs0_0 t).read_unread, (hs0_1 t).read_unread, (hs0_2 t).read_unread, (hs0_3 t).read_unread]
  refine Cert.Act10.two_stores r l _ _ _ (fun l' h => (right_dup _ _ _ r l').trans ?_) fun l' h => (left_dup _ _ _ r l').trans ?_
  · rw [right_sum _ _ r l l' h, right_entry _ r l l' h]
  · rw [left_sum _ _ r l l' h, left_entry _ r l l' h]

/-! ## The arrays -/

abbrev xa (c : Dev nD) : Vec Ideal S8192x1024 .bf16 := m ((c.tc : Thread nD τ).loc main_arg0)
abbrev wa (c : Dev nD) : Vec Ideal S2816x1024 .f32 := m ((c.tc : Thread nD τ).loc main_arg1)
abbrev ga (c : Dev nD) : Vec Ideal S8192x2816 .bf16 := m ((c.tc : Thread nD τ).loc main_arg2)
abbrev ua (c : Dev nD) : Vec Ideal S8192x2816 .bf16 := m ((c.tc : Thread nD τ).loc main_arg3)

/-- The weight the kernel reads is the weight argument. -/
theorem weight (c : Dev nD) : (V m c main_v0 : S2816x1024.Idx → EReal) = wa m c := rfl

/-- Each input block of a point, read off its array. -/
theorem x_apply (c : Dev nD) (t : Fin cfg0.N) (r : Fin 512) (k : Fin 1024) (r' : Fin 8192) (h : r'.val = t.val / 2 * 512 + r.val) :
    xb m c t (ix2 r k) = xa m c (ix2 r' k) := by
  obtain ⟨⟨e0, e1⟩, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

theorem w_apply (c : Dev nD) (t : Fin cfg0.N) (l : Fin 1408) (k : Fin 1024) (l' : Fin 2816) (h : l'.val = t.val % 2 * 1408 + l.val) :
    wb m c t (ix2 l k) = wa m c (ix2 l' k) := by
  obtain ⟨-, ⟨e0, e1⟩, -⟩ := blocks t
  refine Eq.trans ?_ (congrFun (weight m c) (ix2 l' k))
  show V m c main_v0 (((cfg0.win 1).blk t).view.emb (ix2 l k)) = _
  refine congrArg _ (funext fun a => Fin.ext ?_)
  match a with
  | ⟨0, _⟩ => show win0_1.index t (0 : Fin 2) * 1408 + 1 * l.val = l'.val; omega
  | ⟨1, _⟩ => show win0_1.index t (1 : Fin 2) * 1024 + 1 * k.val = k.val; omega

theorem g_apply (c : Dev nD) (t : Fin cfg0.N) (r : Fin 512) (l : Fin 1408) (r' : Fin 8192) (l' : Fin 2816)
    (hr : r'.val = t.val / 2 * 512 + r.val) (hl : l'.val = t.val % 2 * 1408 + l.val) : gb m c t (ix2 r l) = ga m c (ix2 r' l') := by
  obtain ⟨-, -, ⟨e0, e1⟩, -⟩ := blocks t
  show V m c main_arg2 (((cfg0.win 2).blk t).view.emb (ix2 r l)) = _
  rw [V_main_arg2]
  refine congrArg _ (funext fun a => Fin.ext ?_)
  match a with
  | ⟨0, _⟩ => show win0_2.index t (0 : Fin 2) * 512 + 1 * r.val = r'.val; omega
  | ⟨1, _⟩ => show win0_2.index t (1 : Fin 2) * 1408 + 1 * l.val = l'.val; omega

theorem u_apply (c : Dev nD) (t : Fin cfg0.N) (r : Fin 512) (l : Fin 1408) (r' : Fin 8192) (l' : Fin 2816)
    (hr : r'.val = t.val / 2 * 512 + r.val) (hl : l'.val = t.val % 2 * 1408 + l.val) : ub m c t (ix2 r l) = ua m c (ix2 r' l') := by
  obtain ⟨-, -, -, ⟨e0, e1⟩, -⟩ := blocks t
  show V m c main_arg3 (((cfg0.win 3).blk t).view.emb (ix2 r l)) = _
  rw [V_main_arg3]
  refine congrArg _ (funext fun a => Fin.ext ?_)
  match a with
  | ⟨0, _⟩ => show win0_3.index t (0 : Fin 2) * 512 + 1 * r.val = r'.val; omega
  | ⟨1, _⟩ => show win0_3.index t (1 : Fin 2) * 1408 + 1 * l.val = l'.val; omega

/-- The gradient of the activation, over a point's blocks and over the arrays. -/
theorem dact_eq (c : Dev nD) (t : Fin cfg0.N) (r : Fin 512) (l : Fin 1408) (r' : Fin 8192) (l' : Fin 2816)
    (hr : r'.val = t.val / 2 * 512 + r.val) (hl : l'.val = t.val % 2 * 1408 + l.val) :
    (∑ k : Fin 1024, xb m c t (ix2 r k) * wb m c t (ix2 l k)) = ∑ k : Fin 1024, xa m c (ix2 r' k) * wa m c (ix2 l' k) :=
  Finset.sum_congr rfl fun k _ => congrArg₂ (· * ·) (x_apply m c t r k r' hr) (w_apply m c t l k l' hl)

/-- The point whose blocks hold an index, and the index within the block. -/
def pt (r : Fin 8192) (l : Fin 2816) : Fin cfg0.N := ⟨2 * (r.val / 512) + l.val / 1408, by have h : cfg0.N = 32 := N_0; omega⟩
def row (r : Fin 8192) : Fin 512 := ⟨r.val % 512, Nat.mod_lt _ (by decide)⟩
def col (l : Fin 2816) : Fin 1408 := ⟨l.val % 1408, Nat.mod_lt _ (by decide)⟩

theorem row_eq (r : Fin 8192) (l : Fin 2816) : r.val = (pt r l).val / 2 * 512 + (row r).val := by
  show r.val = (2 * (r.val / 512) + l.val / 1408) / 2 * 512 + r.val % 512; omega

theorem col_eq (r : Fin 8192) (l : Fin 2816) : l.val = (pt r l).val % 2 * 1408 + (col l).val := by
  show l.val = (2 * (r.val / 512) + l.val / 1408) % 2 * 1408 + l.val % 1408; omega

/-- The precondition's side conditions. -/
theorem pre_facts : Cert.Pre_finite5.Facts :=
  ⟨by decide, by decide, by decide, by decide⟩

/-- What the comparison with infinity says of an entry. -/
theorem finite_of_lt (x : EReal) (h : Ideal.cmp .olt (max x (-x)) (Ideal.ofBits .f32 0x7F800000#32) = 1#1) : Finite x := by
  have htop : Ideal.ofBits .f32 0x7F800000#32 = ⊤ := by simp [Ideal.ofBits, Ideal.ieee]
  rw [htop] at h
  refine ⟨fun hx => ?_, fun hx => ?_⟩ <;> subst hx <;> simp [Ideal.cmp] at h

/-- The precondition: the incoming gradient, the weight and the up projection are finite. -/
theorem finite (c : Dev nD) (h : Cert.Pre_Kernel5Ideal_finite5 (hPre_finite5 := pre_facts) m) :
    (∀ i, Finite (xa m c i)) ∧ (∀ i, Finite (wa m c i)) ∧ ∀ i, Finite (ua m c i) := by
  obtain ⟨h0, h1, h3⟩ := h c
  exact ⟨fun i => finite_of_lt _ (congrFun h0 i), fun i => finite_of_lt _ (congrFun h1 i), fun i => finite_of_lt _ (congrFun h3 i)⟩

/-- The kernel's arrays are the reference's results. -/
theorem value_dgate (c : Dev nD) (h : Cert.Pre_Kernel5Ideal_finite5 (hPre_finite5 := pre_facts) m) :
    (dats m 0 c).arrAt 4 cfg0.N = Cert.Reference5Ideal.Read.val_main_v10 (F := Ideal) (xa m c) (wa m c) (ga m c) (ua m c) := by
  obtain ⟨hx, hw, hu⟩ := finite m c h
  funext i
  obtain ⟨r, l, rfl⟩ : ∃ (r : Fin 8192) (l : Fin 2816), i = ix2 r l := ⟨i 0, i 1, (ix2_eta i).symm⟩
  have hr := row_eq r l
  have hl := col_eq r l
  obtain ⟨-, -, -, -, ⟨e0, e1⟩, -⟩ := blocks (pt r l)
  have hi : (ix2 r l : S8192x2816.Idx) = ((cfg0.win 4).blk (pt r l)).view.emb (ix2 (row r) (col l)) := by
    refine funext fun a => Fin.ext ?_
    match a with
    | ⟨0, _⟩ => show r.val = win0_4.index (pt r l) (0 : Fin 2) * 512 + 1 * (row r).val; omega
    | ⟨1, _⟩ => show l.val = win0_4.index (pt r l) (1 : Fin 2) * 1408 + 1 * (col l).val; omega
  refine (congrArg _ hi).trans (((dats m 0 c).arrAt_emb_eq_flushed 4 disjoint4 (pt r l) (flush0_4 _) (ix2 (row r) (col l))).trans ?_)
  show (dats m 0 c).flushed 4 (pt r l) (ix2 (row r) (col l)) = _
  rw [flushed4, ref_dgate, ← dgate_eq _ _ _ ((Finite.sum _ fun k => (hx _).mul (hw _)).mul (hu _)), ← dact_eq m c (pt r l) (row r) (col l) r l hr hl,
    ← g_apply m c (pt r l) (row r) (col l) r l hr hl, ← u_apply m c (pt r l) (row r) (col l) r l hr hl]
  exact out_dgate m c _ _ _

theorem value_dup (c : Dev nD) :
    (dats m 0 c).arrAt 5 cfg0.N = Cert.Reference5Ideal.Read.val_main_v11 (F := Ideal) (xa m c) (wa m c) (ga m c) := by
  funext i
  obtain ⟨r, l, rfl⟩ : ∃ (r : Fin 8192) (l : Fin 2816), i = ix2 r l := ⟨i 0, i 1, (ix2_eta i).symm⟩
  have hr := row_eq r l
  have hl := col_eq r l
  obtain ⟨-, -, -, -, -, e0, e1⟩ := blocks (pt r l)
  have hi : (ix2 r l : S8192x2816.Idx) = ((cfg0.win 5).blk (pt r l)).view.emb (ix2 (row r) (col l)) := by
    refine funext fun a => Fin.ext ?_
    match a with
    | ⟨0, _⟩ => show r.val = win0_5.index (pt r l) (0 : Fin 2) * 512 + 1 * (row r).val; omega
    | ⟨1, _⟩ => show l.val = win0_5.index (pt r l) (1 : Fin 2) * 1408 + 1 * (col l).val; omega
  refine (congrArg _ hi).trans (((dats m 0 c).arrAt_emb_eq_flushed 5 disjoint5 (pt r l) (flush0_5 _) (ix2 (row r) (col l))).trans ?_)
  show (dats m 0 c).flushed 5 (pt r l) (ix2 (row r) (col l)) = _
  rw [flushed5, ref_dup, ← dact_eq m c (pt r l) (row r) (col l) r l hr hl, ← g_apply m c (pt r l) (row r) (col l) r l hr hl]
  exact out_dup m c _ _ _

end Cert.Mid5

end

end
-- ==== Proof.Mm6.lean ====
module

public import proofs.«01_k».proof.Proof.Sums
public import proofs.«01_k».proof.Proof.Gen.Kernel6Ideal.Value
public import proofs.«01_k».proof.Proof.Gen.Reference6Ideal.Read

@[expose] public section

noncomputable section

namespace Cert.Mm6

open Cert.Kernel6Ideal Cert.Kernel6Ideal.Gen Cert.Kernel6Ideal.Value
open Idealize.ShloMosaic Idealize.ShloMosaic.TcCoe Idealize.SL.Sem

variable (m : (ℓ : Loc nD τ sig) → Buf (Elt Ideal) ℓ)

/-- The step of the product: the accumulator plus the product of the two blocks over the block's rows. -/
theorem step_apply (acc : Vec Ideal S1408x1024 .f32) (x : Vec Ideal S1024x1408 .bf16) (y : Vec Ideal S1024x1024 .bf16)
    (r : Fin 1408) (l : Fin 1024) :
    k0_pay2 acc x y (ix2 r l) = acc (ix2 r l) + ∑ k : Fin 1024, x (ix2 k r) * y (ix2 k l) := by
  pointwise [k0_pay2]

/-- The first step starts from zero. -/
theorem zero_apply (r : Fin 1408) (l : Fin 1024) : k0_pay1 (F := Ideal) (ix2 r l) = 0 := by
  pointwise [k0_pay1]

/-- Where each window's block lies at a grid point. -/
theorem blocks : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

/-- The first window's block, read off the first array. -/
theorem x_apply (c : Dev nD) (t : Fin cfg0.N) (k : Fin 1024) (r : Fin 1408) (k' : Fin 8192) (r' : Fin 2816)
    (hk : k'.val = t.val % 8 * 1024 + k.val) (hr : r'.val = t.val / 8 * 1408 + r.val) :
    iblk m c 0 t (ix2 k r) = m ((c.tc : Thread nD τ).loc main_arg0) (ix2 k' r') := by
  obtain ⟨e0, e1, -, -⟩ := blocks t
  show m ((c.tc : Thread nD τ).loc main_arg0) (((cfg0.win 0).blk t).view.emb (ix2 k r)) = _
  refine congrArg _ (funext fun a => Fin.ext ?_)
  match a with
  | ⟨0, _⟩ => show win0_0.index t (0 : Fin 2) * 1024 + 1 * k.val = k'.val; omega
  | ⟨1, _⟩ => show win0_0.index t (1 : Fin 2) * 1408 + 1 * r.val = r'.val; omega

/-- The reference's stage at an index: the sum over all rows. -/
theorem ref_apply (x : Vec Ideal S8192x2816 .bf16) (y : Vec Ideal S8192x1024 .bf16) (r : Fin 2816) (l : Fin 1024) :
    Cert.Reference6Ideal.Read.val_main_v5 (F := Ideal) x y (ix2 r l) = ∑ k : Fin 8192, y (ix2 k l) * x (ix2 k r) := by
  pointwise [Cert.Reference6Ideal.Read.val_main_v5, Cert.Reference6Ideal.Read.val_main_v4, Cert.Reference6Ideal.Read.val_main_v3, Cert.Reference6Ideal.Read.val_main_v1]

/-- The second window's block, read off the second array. -/
theorem y_apply (c : Dev nD) (t : Fin cfg0.N) (k l : Fin 1024) (k' : Fin 8192) (l' : Fin 1024)
    (hk : k'.val = t.val % 8 * 1024 + k.val) (hl : l'.val = l.val) :
    iblk m c 1 t (ix2 k l) = m ((c.tc : Thread nD τ).loc main_arg1) (ix2 k' l') := by
  obtain ⟨-, -, e0, e1⟩ := blocks t
  show m ((c.tc : Thread nD τ).loc main_arg1) (((cfg0.win 1).blk t).view.emb (ix2 k l)) = _
  refine congrArg _ (funext fun a => Fin.ext ?_)
  match a with
  | ⟨0, _⟩ => show win0_1.index t (0 : Fin 2) * 1024 + 1 * k.val = k'.val; omega
  | ⟨1, _⟩ => show win0_1.index t (1 : Fin 2) * 1024 + 1 * l.val = l'.val; omega

/-- The two input blocks of a point. -/
abbrev xb (c : Dev nD) (t : Fin cfg0.N) : Vec Ideal S1024x1408 .bf16 := iblk m c 0 t
abbrev yb (c : Dev nD) (t : Fin cfg0.N) : Vec Ideal S1024x1024 .bf16 := iblk m c 1 t

/-- What point `n` adds to its block: the product of its two input blocks. -/
def addend (c : Dev nD) (n : ℕ) (i : S1408x1024.Idx) : EReal :=
  if h : n < cfg0.N then ∑ k : Fin 1024, xb m c ⟨n, h⟩ (ix2 k (i 0)) * yb m c ⟨n, h⟩ (ix2 k (i 1)) else 0

/-- A run of eight points leaves the sum of its addends. -/
theorem fold_apply (c : Dev nD) (b : ℕ) (h : b + 7 < cfg0.N) (i : S1408x1024.Idx) :
    Pipeline.accAt (reset2 m c) (step2 m c) b 7 h i = ∑ s ∈ Finset.range 8, addend m c (b + s) i := by
  rw [Pipeline.accAt_add_apply (reset2 m c) (step2 m c) (fun _ => (0 : EReal)) (addend m c) b 7 ?_ ?_ 7 le_rfl h i, zero_add]
  · intro h i
    obtain ⟨r, l, rfl⟩ : ∃ r l, i = ix2 r l := ⟨i 0, i 1, (ix2_eta i).symm⟩
    unfold addend
    rw [dif_pos h]
    show k0_pay2 _ _ _ (ix2 r l) = _
    rw [step_apply, zero_apply]
    rfl
  · intro n h acc i _ _
    obtain ⟨r, l, rfl⟩ : ∃ r l, i = ix2 r l := ⟨i 0, i 1, (ix2_eta i).symm⟩
    unfold addend
    rw [dif_pos h]
    show k0_pay2 _ _ _ (ix2 r l) = _
    rw [step_apply]
    rfl

/-- The kernel's array is the reference's. -/
theorem value (c : Dev nD) :
    G2 m c = Cert.Reference6Ideal.Read.val_main_v5 (F := Ideal) (m ((c.tc : Thread nD τ).loc main_arg0)) (m ((c.tc : Thread nD τ).loc main_arg1)) := by
  funext i
  obtain ⟨r, l, rfl⟩ : ∃ (r : Fin 2816) (l : Fin 1024), i = ix2 r l := ⟨i 0, i 1, (ix2_eta i).symm⟩
  refine Eq.trans ?_ (ref_apply _ _ r l).symm
  have hN : cfg0.N = 16 := N_0
  have hr : run2Of (ix2 r l) = r.val / 1408 := by
    show 1 * (r.val / 1408 - 0) + 1 * (l.val / 1024 - 0) = _
    omega
  unfold G2
  rw [dif_pos (by rw [hr, hN]; omega)]
  refine (fold_apply m c _ _ _).trans ?_
  rw [Cert.Sums.sum_tiles 8 1024 8192 rfl]
  refine Finset.sum_congr rfl fun s hs => ?_
  have hs8 : s < 8 := Finset.mem_range.mp hs
  unfold addend
  rw [dif_pos (by rw [hr, hN]; omega)]
  refine Finset.sum_congr rfl fun k _ => ?_
  rw [dif_pos (by omega), mul_comm]
  congr 1
  · exact y_apply m c _ _ _ _ l
      (by show s * 1024 + k.val = (8 * run2Of (ix2 r l) + s) % 8 * 1024 + k.val; omega)
      (by show l.val = l.val % 1024; omega)
  · exact x_apply m c _ _ _ _ r
      (by show s * 1024 + k.val = (8 * run2Of (ix2 r l) + s) % 8 * 1024 + k.val; omega)
      (by show r.val = (8 * run2Of (ix2 r l) + s) / 8 * 1408 + r.val % 1408; omega)

end Cert.Mm6

end
-- ==== Proof.Dx7.lean ====
module

public import proofs.«01_k».proof.Proof.Sums
public import proofs.«01_k».proof.Proof.Gen.Kernel7Ideal.Value
public import proofs.«01_k».proof.Proof.Gen.Reference7Ideal.Read

@[expose] public section

noncomputable section

namespace Cert.Dx7

open Cert.Kernel7Ideal Cert.Kernel7Ideal.Gen Cert.Kernel7Ideal.Value
open Idealize.ShloMosaic Idealize.ShloMosaic.TcCoe Idealize.SL.Sem

variable (m : (ℓ : Loc nD τ sig) → Buf (Elt Ideal) ℓ)

/-- The weight the kernel reads is the weight argument. -/
theorem weight (c : Dev nD) : (V m c main_v0 : S1024x5632.Idx → EReal) = m ((c.tc : Thread nD τ).loc main_arg2) := rfl

/-- A block of the result: two products over the columns, added. -/
theorem pay_apply (x : Vec Ideal S512x2816 .bf16) (w : Vec Ideal S1024x2816 .bf16) (y : Vec Ideal S512x2816 .bf16)
    (v : Vec Ideal S1024x2816 .bf16) (r : Fin 512) (l : Fin 1024) :
    k0_pay1 x w y v (ix2 r l)
      = (∑ k : Fin 2816, x (ix2 r k) * w (ix2 l k)) + ∑ k : Fin 2816, y (ix2 r k) * v (ix2 l k) := by
  pointwise [k0_pay1]

/-- Where each window's block lies at a grid point. -/
theorem blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ (cfg0.win 3).flush t = true :=
  (by decide +kernel : ∀ t : Fin grid0.N, _)

/-- The reference's stage at an index. -/
theorem ref_apply (x y : Vec Ideal S8192x2816 .bf16) (w : Vec Ideal S1024x5632 .f32) (r : Fin 8192) (l : Fin 1024) :
    Cert.Reference7Ideal.Read.val_main_v7 (F := Ideal) x y w (ix2 r l)
      = (∑ k : Fin 2816, x (ix2 r k) * w (ix2 l ⟨k.val, by omega⟩)) + ∑ k : Fin 2816, y (ix2 r k) * w (ix2 l ⟨2816 + k.val, by omega⟩) := by
  pointwise [Cert.Reference7Ideal.Read.val_main_v7, Cert.Reference7Ideal.Read.val_main_v6, Cert.Reference7Ideal.Read.val_main_v5, Cert.Reference7Ideal.Read.val_main_v4]

/-- The three input blocks of a point, read off their arrays. -/
theorem x_apply (c : Dev nD) (t : Fin cfg0.N) (r : Fin 512) (k : Fin 2816) (r' : Fin 8192) (h : r'.val = t.val * 512 + r.val) :
    iblk m c 0 t (ix2 r k) = m ((c.tc : Thread nD τ).loc main_arg0) (ix2 r' k) := by
  obtain ⟨e0, e1, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 2816 + 1 * k.val = k.val; omega

theorem y_apply (c : Dev nD) (t : Fin cfg0.N) (r : Fin 512) (k : Fin 2816) (r' : Fin 8192) (h : r'.val = t.val * 512 + r.val) :
    iblk m c 1 t (ix2 r k) = m ((c.tc : Thread nD τ).loc main_arg1) (ix2 r' k) := by
  obtain ⟨-, -, e0, e1, -⟩ := blocks t
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = r'.val; omega
  | ⟨1, _⟩ => show win0_1.index t (1 : Fin 2) * 2816 + 1 * k.val = k.val; omega

theorem w_apply (c : Dev nD) (t : Fin cfg0.N) (l : Fin 1024) (k : Fin 5632) :
    iblk m c 2 t (ix2 l k) = m ((c.tc : Thread nD τ).loc main_arg2) (ix2 l k) := by
  obtain ⟨-, -, -, -, e0, e1, -⟩ := blocks t
  refine Eq.trans ?_ (congrFun (weight m c) (ix2 l k))
  show V m c main_v0 (((cfg0.win 2).blk t).view.emb (ix2 l k)) = _
  refine congrArg _ (funext fun a => Fin.ext ?_)
  match a with
  | ⟨0, _⟩ => show win0_2.index t (0 : Fin 2) * 1024 + 1 * l.val = l.val; omega
  | ⟨1, _⟩ => show win0_2.index t (1 : Fin 2) * 5632 + 1 * k.val = k.val; omega

/-- What a point leaves at an index of its block of the result. -/
theorem out_apply (x y : Vec Ideal S512x2816 .bf16) (w : Vec Ideal S1024x5632 .bf16) (r : Fin 512) (l : Fin 1024) :
    out0_3 x y w (ix2 r l)
      = (∑ k : Fin 2816, x (ix2 r k) * w (ix2 l ⟨k.val, by omega⟩)) + ∑ k : Fin 2816, y (ix2 r k) * w (ix2 l ⟨2816 + k.val, by omega⟩) := by
  unfold out0_3
  rw [View.canon_unit_zero (by decide) _ _, pay_apply]
  refine congrArg₂ _ (Finset.sum_congr rfl fun k _ => congrArg₂ _ ?_ ?_) (Finset.sum_congr rfl fun k _ => congrArg₂ _ ?_ ?_)
  · exact congrFun (View.ld_unit_zero (by decide) _ _) _
  · refine congrArg w (funext fun a => Fin.ext ?_)
    match a with
    | ⟨0, _⟩ => show 0 + 1 * l.val = l.val; omega
    | ⟨1, _⟩ => show 0 + 1 * k.val = k.val; omega
  · exact congrFun (View.ld_unit_zero (by decide) _ _) _
  · refine congrArg w (funext fun a => Fin.ext ?_)
    match a with
    | ⟨0, _⟩ => show 0 + 1 * l.val = l.val; omega
    | ⟨1, _⟩ => show 2816 + 1 * k.val = 2816 + k.val; omega

/-- The kernel's array is the reference's. -/
theorem value (c : Dev nD) :
    (dats m 0 c).arrAt 3 cfg0.N = Cert.Reference7Ideal.Read.val_main_v7 (F := Ideal) (m ((c.tc : Thread nD τ).loc main_arg0))
      (m ((c.tc : Thread nD τ).loc main_arg1)) (m ((c.tc : Thread nD τ).loc main_arg2)) := by
  funext i
  obtain ⟨r, l, rfl⟩ : ∃ (r : Fin 8192) (l : Fin 1024), i = ix2 r l := ⟨i 0, i 1, (ix2_eta i).symm⟩
  refine Eq.trans ?_ (ref_apply _ _ _ r l).symm
  let t : Fin cfg0.N := ⟨r.val / 512, by have h : cfg0.N = 16 := N_0; omega⟩
  let b : Fin 512 := ⟨r.val % 512, Nat.mod_lt _ (by decide)⟩
  have ht : t.val = r.val / 512 := rfl
  have hb : r.val = t.val * 512 + b.val := by show r.val = r.val / 512 * 512 + r.val % 512; omega
  obtain ⟨-, -, -, -, -, -, e0, e1, hf⟩ := blocks t
  have hi : (ix2 r l : S8192x1024.Idx) = ((cfg0.win 3).blk t).view.emb (ix2 b l) := by
    refine funext fun a => Fin.ext ?_
    match a with
    | ⟨0, _⟩ => show r.val = win0_3.index t (0 : Fin 2) * 512 + 1 * b.val; omega
    | ⟨1, _⟩ => show l.val = win0_3.index t (1 : Fin 2) * 1024 + 1 * l.val; omega
  refine (congrArg _ hi).trans (((dats m 0 c).arrAt_emb_eq_flushed 3 disjoint3 t hf (ix2 b l)).trans ?_)
  show (dats m 0 c).flushed 3 t (ix2 b l) = _
  rw [flushed3]
  refine (out_apply (iblk m c 0 t) (iblk m c 1 t) (iblk m c 2 t) b l).trans ?_
  refine congrArg₂ _ (Finset.sum_congr rfl fun k _ => congrArg₂ _ ?_ ?_) (Finset.sum_congr rfl fun k _ => congrArg₂ _ ?_ ?_)
  · exact x_apply m c t b k r hb
  · exact w_apply m c t l _
  · exact y_apply m c t b k r hb
  · exact w_apply m c t l _

end Cert.Dx7

end
-- ==== Proof.Mm8.lean ====
module

public import proofs.«01_k».proof.Proof.Sums
public import proofs.«01_k».proof.Proof.Gen.Kernel8Ideal.Value
public import proofs.«01_k».proof.Proof.Gen.Reference8Ideal.Read

@[expose] public section

noncomputable section

namespace Cert.Mm8

open Cert.Kernel8Ideal Cert.Kernel8Ideal.Gen Cert.Kernel8Ideal.Value
open Idealize.ShloMosaic Idealize.ShloMosaic.TcCoe Idealize.SL.Sem

variable (m : (ℓ : Loc nD τ sig) → Buf (Elt Ideal) ℓ)

/-- The step of the product: the accumulator plus the product of the two blocks over the block's rows. -/
theorem step_apply (acc : Vec Ideal S1024x1408 .f32) (x : Vec Ideal S1024x1024 .bf16) (y : Vec Ideal S1024x1408 .bf16)
    (r : Fin 1024) (l : Fin 1408) :
    k0_pay2 acc x y (ix2 r l) = acc (ix2 r l) + ∑ k : Fin 1024, x (ix2 k r) * y (ix2 k l) := by
  pointwise [k0_pay2]

/-- The first step starts from zero. -/
theorem zero_apply (r : Fin 1024) (l : Fin 1408) : k0_pay1 (F := Ideal) (ix2 r l) = 0 := by
  pointwise [k0_pay1]

/-- Where each window's block lies at a grid point. -/
theorem blocks : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

/-- The first window's block, read off the first array. -/
theorem x_apply (c : Dev nD) (t : Fin cfg0.N) (k r : Fin 1024) (k' : Fin 8192) (r' : Fin 1024)
    (hk : k'.val = t.val % 8 * 1024 + k.val) (hr : r'.val = r.val) :
    iblk m c 0 t (ix2 k r) = m ((c.tc : Thread nD τ).loc main_arg0) (ix2 k' r') := by
  obtain ⟨e0, e1, -, -⟩ := blocks t
  show m ((c.tc : Thread nD τ).loc main_arg0) (((cfg0.win 0).blk t).view.emb (ix2 k r)) = _
  refine congrArg _ (funext fun a => Fin.ext ?_)
  match a with
  | ⟨0, _⟩ => show win0_0.index t (0 : Fin 2) * 1024 + 1 * k.val = k'.val; omega
  | ⟨1, _⟩ => show win0_0.index t (1 : Fin 2) * 1024 + 1 * r.val = r'.val; omega

/-- The reference's stage at an index: the sum over all rows. -/
theorem ref_apply (x : Vec Ideal S8192x1024 .bf16) (y : Vec Ideal S8192x2816 .bf16) (r : Fin 1024) (l : Fin 2816) :
    Cert.Reference8Ideal.Read.val_main_v5 (F := Ideal) x y (ix2 r l) = ∑ k : Fin 8192, y (ix2 k l) * x (ix2 k r) := by
  pointwise [Cert.Reference8Ideal.Read.val_main_v5, Cert.Reference8Ideal.Read.val_main_v4, Cert.Reference8Ideal.Read.val_main_v3, Cert.Reference8Ideal.Read.val_main_v1]

/-- The second window's block, read off the second array. -/
theorem y_apply (c : Dev nD) (t : Fin cfg0.N) (k : Fin 1024) (l : Fin 1408) (k' : Fin 8192) (l' : Fin 2816)
    (hk : k'.val = t.val % 8 * 1024 + k.val) (hl : l'.val = t.val / 8 * 1408 + l.val) :
    iblk m c 1 t (ix2 k l) = m ((c.tc : Thread nD τ).loc main_arg1) (ix2 k' l') := by
  obtain ⟨-, -, e0, e1⟩ := blocks t
  show m ((c.tc : Thread nD τ).loc main_arg1) (((cfg0.win 1).blk t).view.emb (ix2 k l)) = _
  refine congrArg _ (funext fun a => Fin.ext ?_)
  match a with
  | ⟨0, _⟩ => show win0_1.index t (0 : Fin 2) * 1024 + 1 * k.val = k'.val; omega
  | ⟨1, _⟩ => show win0_1.index t (1 : Fin 2) * 1408 + 1 * l.val = l'.val; omega

/-- The two input blocks of a point. -/
abbrev xb (c : Dev nD) (t : Fin cfg0.N) : Vec Ideal S1024x1024 .bf16 := iblk m c 0 t
abbrev yb (c : Dev nD) (t : Fin cfg0.N) : Vec Ideal S1024x1408 .bf16 := iblk m c 1 t

/-- What point `n` adds to its block: the product of its two input blocks. -/
def addend (c : Dev nD) (n : ℕ) (i : S1024x1408.Idx) : EReal :=
  if h : n < cfg0.N then ∑ k : Fin 1024, xb m c ⟨n, h⟩ (ix2 k (i 0)) * yb m c ⟨n, h⟩ (ix2 k (i 1)) else 0

/-- A run of eight points leaves the sum of its addends. -/
theorem fold_apply (c : Dev nD) (b : ℕ) (h : b + 7 < cfg0.N) (i : S1024x1408.Idx) :
    Pipeline.accAt (reset2 m c) (step2 m c) b 7 h i = ∑ s ∈ Finset.range 8, addend m c (b + s) i := by
  rw [Pipeline.accAt_add_apply (reset2 m c) (step2 m c) (fun _ => (0 : EReal)) (addend m c) b 7 ?_ ?_ 7 le_rfl h i, zero_add]
  · intro h i
    obtain ⟨r, l, rfl⟩ : ∃ r l, i = ix2 r l := ⟨i 0, i 1, (ix2_eta i).symm⟩
    unfold addend
    rw [dif_pos h]
    show k0_pay2 _ _ _ (ix2 r l) = _
    rw [step_apply, zero_apply]
    rfl
  · intro n h acc i _ _
    obtain ⟨r, l, rfl⟩ : ∃ r l, i = ix2 r l := ⟨i 0, i 1, (ix2_eta i).symm⟩
    unfold addend
    rw [dif_pos h]
    show k0_pay2 _ _ _ (ix2 r l) = _
    rw [step_apply]
    rfl

/-- The kernel's array is the reference's. -/
theorem value (c : Dev nD) :
    G2 m c = Cert.Reference8Ideal.Read.val_main_v5 (F := Ideal) (m ((c.tc : Thread nD τ).loc main_arg0)) (m ((c.tc : Thread nD τ).loc main_arg1)) := by
  funext i
  obtain ⟨r, l, rfl⟩ : ∃ (r : Fin 1024) (l : Fin 2816), i = ix2 r l := ⟨i 0, i 1, (ix2_eta i).symm⟩
  refine Eq.trans ?_ (ref_apply _ _ r l).symm
  have hN : cfg0.N = 16 := N_0
  have hr : run2Of (ix2 r l) = l.val / 1408 := by
    show 2 * (r.val / 1024 - 0) + 1 * (l.val / 1408 - 0) = _
    omega
  unfold G2
  rw [dif_pos (by rw [hr, hN]; omega)]
  refine (fold_apply m c _ _ _).trans ?_
  rw [Cert.Sums.sum_tiles 8 1024 8192 rfl]
  refine Finset.sum_congr rfl fun s hs => ?_
  have hs8 : s < 8 := Finset.mem_range.mp hs
  unfold addend
  rw [dif_pos (by rw [hr, hN]; omega)]
  refine Finset.sum_congr rfl fun k _ => ?_
  rw [dif_pos (by omega), mul_comm]
  congr 1
  · exact y_apply m c _ _ _ _ l
      (by show s * 1024 + k.val = (8 * run2Of (ix2 r l) + s) % 8 * 1024 + k.val; omega)
      (by show l.val = (8 * run2Of (ix2 r l) + s) / 8 * 1408 + l.val % 1408; omega)
  · exact x_apply m c _ _ _ _ r
      (by show s * 1024 + k.val = (8 * run2Of (ix2 r l) + s) % 8 * 1024 + k.val; omega)
      (by show r.val = r.val % 1024; omega)

end Cert.Mm8

end
-- ==== Proof.In9.lean ====
module

public import proofs.«01_k».proof.Proof.Gen.Kernel9Ideal.Frame
public import proofs.«01_k».proof.Proof.Gen.Kernel9Ideal.Skeleton
public import Idealize.ShloMosaic.Lib.Claim
public import Idealize.ShloMosaic.Lib.Pipeline.ValueKit.Tiles

@[expose] public section

set_option maxRecDepth 16384

noncomputable section

/-! `in_proj`: the grid's first axis goes over tiles of rows, the second over tiles of columns. The normed rows are stored
    at a row tile's first point and stay in their buffer for the others. -/

namespace Cert.In9

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch is taken at a row tile's first point. -/
abbrev first (i : grid0.Coords) : Prop := k0_cond1 i = 1#1

theorem first_iff : ∀ t : Fin cfg0.N, first (grid0.coords t) ↔ t.val % 3 = 0 :=
  (by decide +kernel : ∀ t : Fin grid0.N, first (grid0.coords t) ↔ t.val % 3 = 0)

section Runs

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x1536 .bf16) (harg4 : arg4.IsWhole) (arg5 : Memref sig .tc .vmem S1024x1536 .f32) (harg5 : arg5.IsWhole)
  (arg6 : Memref sig .tc .vmem S1024x1024 .bf16) (harg6 : arg6.IsWhole)
  (x : Vec F S1024x1024 .f32) (g : Vec F S1x1024 .f32) (w : Vec F S1024x1536 .bf16) (h : Vec F S1024x1024 .bf16)

theorem hz : (![0, 0] : Fin 2 → ℕ) = fun _ => 0 := by decide

theorem run_first (hc : first i) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d)
        ∗ (iprop(owns (c : Thread nD τ) arg2 fullShare x ∗ owns (c : Thread nD τ) arg3 fullShare g ∗ owns (c : Thread nD τ) arg4 fullShare w
          ∗ owns (c : Thread nD τ) arg5 fullShare (k0_pay2 (k0_pay1 x g) w) ∗ owns (c : Thread nD τ) arg6 fullShare (k0_pay1 x g)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f2, %hf2, H2⟩, ⟨%f3, %hf3, H3⟩, ⟨%f4, %hf4, H4⟩, ⟨%d5, %f5, -, H5⟩, ⟨%d6, %f6, -, H6⟩, Hk⟩
  obtain rfl := harg2.eq_unread hf2; obtain rfl := harg3.eq_unread hf3; obtain rfl := harg4.eq_unread hf4
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (View.cover_of_tiledL _ S1024x1536.size (by sl_kernel_rfl)), View.canon_unit_zero (S := S1024x1536) hz]
    simp only [View.readAt_eq_ld, harg2.read_unread, harg3.read_unread, harg4.read_unread, View.ld_unit_zero (S := S1024x1024) hz, View.ld_unit_zero (S := S1x1024) hz, View.ld_unit_zero (S := S1024x1536) hz,
      View.readCov_unit_zero (S := S1024x1024) _ hz]
  · iexists _; isplitr
    swap; · iexact H6
    ipureintro
    sl_unfold_words
    rw [View.read_writes_eq_canon _ _ _ (View.cover_of_tiledL _ S1024x1024.size (by sl_kernel_rfl)), View.canon_unit_zero (S := S1024x1024) hz]
    simp only [View.readAt_eq_ld, harg2.read_unread, harg3.read_unread, View.ld_unit_zero (S := S1024x1024) hz, View.ld_unit_zero (S := S1x1024) hz]

theorem run_next (hc : ¬first i) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h
        ∗ (iprop(owns (c : Thread nD τ) arg2 fullShare x ∗ owns (c : Thread nD τ) arg3 fullShare g ∗ owns (c : Thread nD τ) arg4 fullShare w
          ∗ owns (c : Thread nD τ) arg5 fullShare (k0_pay2 h w) ∗ owns (c : Thread nD τ) arg6 fullShare h) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (View.cover_of_tiledL _ S1024x1536.size (by sl_kernel_rfl)), View.canon_unit_zero (S := S1024x1536) hz]
    simp only [View.readAt_eq_ld, harg4.read_unread, harg6.read_unread, View.ld_unit_zero (S := S1024x1024) hz, View.ld_unit_zero (S := S1024x1536) hz]
  · iexists _; isplitr; · ipureintro; exact harg6.read_unread _
    iexact H6

end Runs

variable (m : (ℓ : Loc nD τ sig) → Buf (Elt F) ℓ) (ρ : Dev nD → PrngReg)

/-! ## What a point leaves in its blocks -/

abbrev xB (c : Dev nD) (t : Fin cfg0.N) : Vec F S1024x1024 .f32 := iblk m c 0 t
abbrev gB (c : Dev nD) (t : Fin cfg0.N) : Vec F S1x1024 .f32 := iblk m c 1 t
abbrev wB (c : Dev nD) (t : Fin cfg0.N) : Vec F S1024x1536 .bf16 := iblk m c 2 t

def hB (c : Dev nD) (t : Fin cfg0.N) : Vec F S1024x1024 .bf16 := k0_pay1 (xB m c t) (gB m c t)
def zB (c : Dev nD) (t : Fin cfg0.N) : Vec F S1024x1536 .f32 := k0_pay2 (hB m c t) (wB m c t)

theorem blocks : ∀ t : Fin cfg0.N, (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 3)
    ∧ (win0_3.index t (0 : Fin 2) = t.val / 3 ∧ win0_3.index t (1 : Fin 2) = t.val % 3)
    ∧ (win0_4.index t (0 : Fin 2) = t.val / 3 ∧ win0_4.index t (1 : Fin 2) = 0) :=
  (by decide +kernel : ∀ t : Fin grid0.N, _)

/-- The normed rows of two points of one row tile are the same. -/
theorem hB_eq (c : Dev nD) (t t' : Fin cfg0.N) (h : t.val / 3 = t'.val / 3) : hB m c t = hB m c t' := by
  have hx : xB m c t = xB m c t' := by
    funext y
    obtain ⟨⟨a0, a1⟩, -⟩ := blocks t
    obtain ⟨⟨b0, b1⟩, -⟩ := blocks t'
    show V m c main_arg0 (((cfg0.win 0).blk t).view.emb y) = V m c main_arg0 (((cfg0.win 0).blk t').view.emb y)
    refine congrArg _ (funext fun a => Fin.ext ?_)
    match a with
    | ⟨0, _⟩ => show win0_0.index t (0 : Fin 2) * 1024 + 1 * (y 0).val = win0_0.index t' (0 : Fin 2) * 1024 + 1 * (y 0).val; omega
    | ⟨1, _⟩ => show win0_0.index t (1 : Fin 2) * 1024 + 1 * (y 1).val = win0_0.index t' (1 : Fin 2) * 1024 + 1 * (y 1).val; omega
  have hg : gB m c t = gB m c t' := by
    funext y
    obtain ⟨-, ⟨a0, a1⟩, -⟩ := blocks t
    obtain ⟨-, ⟨b0, b1⟩, -⟩ := blocks t'
    show V m c main_v0 (((cfg0.win 1).blk t).view.emb y) = V m c main_v0 (((cfg0.win 1).blk t').view.emb y)
    refine congrArg _ (funext fun a => Fin.ext ?_)
    match a with
    | ⟨0, _⟩ => show win0_1.index t (0 : Fin 2) * 1 + 1 * (y 0).val = win0_1.index t' (0 : Fin 2) * 1 + 1 * (y 0).val; omega
    | ⟨1, _⟩ => show win0_1.index t (1 : Fin 2) * 1024 + 1 * (y 1).val = win0_1.index t' (1 : Fin 2) * 1024 + 1 * (y 1).val; omega
  unfold hB
  rw [hx, hg]

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => zB m c t
    | ⟨4, _⟩ => hB m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_3 (c : Dev nD) (t : Fin cfg0.N) : (dats m 0 c).after 3 t = zB m c t := by dsimp only [dats]
theorem after_4 (c : Dev nD) (t : Fin cfg0.N) : (dats m 0 c).after 4 t = hB m c t := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d

theorem idle_iff (t : Fin cfg0.N) : cfg0.idle 4 (cfg0.grid.coords t) = true ↔ ¬t.val % 3 = 0 := by
  rw [← first_iff t]
  show (!(k0_cond1 (grid0.coords t) == 1#1)) = true ↔ _
  simp [first]

theorem live (t : Fin cfg0.N) (h : t.val % 3 = 0) : cfg0.idle 4 (cfg0.grid.coords t) = false :=
  Bool.eq_false_iff.mpr fun e => (idle_iff t).mp e h

/-- After a row tile's first point the normed rows are in their buffer. -/
theorem before_4 (c : Dev nD) : ∀ (n : ℕ) (hn : n < cfg0.N), ¬n % 3 = 0 → ∀ d, (dats m 0 c).before 4 ⟨n, hn⟩ d = hB m c ⟨n, hn⟩
  | 0, _, h0, _ => absurd rfl h0
  | n + 1, hn, h0, d => by
    have hfl : (cfg0.win 4).flush ⟨n, Nat.lt_of_succ_lt hn⟩ = false :=
      Bool.eq_false_iff.mpr fun h => by have := (flush0_4 _).mp h; dsimp only at this; omega
    rw [(dats m 0 c).before_of_pos 4 ⟨n + 1, hn⟩ (Nat.succ_ne_zero n) ((cfg0.win 4).fetch_out rfl _) d]
    show (if (cfg0.win 4).flush ⟨n, Nat.lt_of_succ_lt hn⟩ then d else (dats m 0 c).left 4 ⟨n, Nat.lt_of_succ_lt hn⟩ d) = _
    rw [hfl, if_neg Bool.false_ne_true, hB_eq m c ⟨n + 1, hn⟩ ⟨n, Nat.lt_of_succ_lt hn⟩ (by show (n + 1) / 3 = n / 3; omega)]
    by_cases h : n % 3 = 0
    · unfold Dat.left
      rw [live ⟨n, Nat.lt_of_succ_lt hn⟩ h]
      show (dats m 0 c).kept 4 ⟨n, Nat.lt_of_succ_lt hn⟩ d = _
      exact after_4 m c _
    · unfold Dat.left
      rw [(idle_iff ⟨n, Nat.lt_of_succ_lt hn⟩).mpr h]
      exact before_4 c n _ h d

/-! ## The body at a point -/

abbrev ms_0 (t : Fin cfg0.N) : Memref sig .tc .vmem S1024x1024 .f32 := win0_0.stage (cfg0.slots t 0)
abbrev ms_1 (t : Fin cfg0.N) : Memref sig .tc .vmem S1x1024 .f32 := win0_1.stage (cfg0.slots t 1)
abbrev ms_2 (t : Fin cfg0.N) : Memref sig .tc .vmem S1024x1536 .bf16 := win0_2.stage (cfg0.slots t 2)
abbrev ms_3 (t : Fin cfg0.N) : Memref sig .tc .vmem S1024x1536 .f32 := win0_3.stage (cfg0.slots t 3)
abbrev ms_4 (t : Fin cfg0.N) : Memref sig .tc .vmem S1024x1024 .bf16 := win0_4.stage (cfg0.slots t 4)

/-- What the body finds at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ (dats m 0 c).leavesExact 4 t)

/-- The normed rows' buffer satisfies what is asked of it, whether or not it was written at the point. -/
theorem leaves_4 (c : Dev nD) (t : Fin cfg0.N) :
    owns (c : Thread nD τ) (ms_4 t) fullShare (hB m c t) ⊢ (dats m 0 c).leavesExact 4 t := by
  by_cases h : t.val % 3 = 0
  · unfold Dat.leavesExact
    rw [live t h, after_4]
  · cases hf : (cfg0.win 4).flush t
    · rw [Dat.leavesExact_idle _ 4 t ((idle_iff t).mpr h) hf]
      iintro H
      iexists (hB m c t)
      rw [before_4 m c t.val t.isLt h]
      iexact H
    · unfold Dat.leavesExact
      rw [(idle_iff t).mpr h, hf, after_4]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_3]
  by_cases h : t.val % 3 = 0
  · iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (xB m c t) (gB m c t) (wB m c t) ((first_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4
  · simp only [before_4 m c t.val t.isLt h]
    iintro ⟨HΦ, Ho, ⟨%d0, H0⟩, ⟨%d1, H1⟩, ⟨%d2, H2⟩, ⟨%d3, H3⟩, ⟨%d4, H4⟩⟩
    iapply (run_next c (grid0.coords t) _ _ _ _ _ _ _ _ _ _ (xB m c t) (gB m c t) (wB m c t) (hB m c t) (fun e => h ((first_iff t).mp e)) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program runs to its end, its arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The results are the output windows' arrays. -/
theorem run_blocks : θ_run defs (onTc (τ := τ) (main (F := F))) ⟨m, fun _ => 0, ρ⟩ (fun r => ∀ c : Dev nD,
      r.2.mem ((c.tc : Thread nD τ).loc main_v2_0) = (dats m 0 c).arrAt 3 cfg0.N
      ∧ r.2.mem ((c.tc : Thread nD τ).loc main_v2_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, (h.1 c).1 4, h.2 c⟩)
    (θ_run_and (run_main m ρ) (frame_of m ρ (dats m) (A_eq m) (run_main m ρ)))

end Cert.In9

end
-- ==== Proof.Merge.lean ====
module

public import Idealize.ShloMosaic.Lib.Pointwise
public import proofs.«01_k».proof.Proof.NormGrad

@[expose] public section

noncomputable section

/-! One row of the gated merge of three branches over the extended reals. -/

namespace Cert.Merge

open Idealize.ShloMosaic

/-- The product of a row and a weight at a column. -/
def dot {n p : ℕ} (y : Fin n → EReal) (w : Fin n → Fin p → EReal) (l : Fin p) : EReal := ∑ k, y k * w k l

/-- The argument of the hyperbolic tangent in `gelu`, and `gelu`. The words are those of 0.044715, √(2/π) and 1/2. -/
def geluArg (y : EReal) : EReal := Ideal.ofBits FTy.f32 1061962282#32 * (y + Ideal.ofBits FTy.f32 1027024659#32 * (y * (y * y)))
theorem cube (y : EReal) : y * (y * y) = y * y * y := mul_comm _ _
def gelu (y : EReal) : EReal := y * (Ideal.ofBits FTy.f32 1056964608#32 * (1 + Ideal.tanh (geluArg y)))

/-- The S5 branch: the row through `gelu` and a projection to a gated linear unit of twice the width. -/
def glu (y : Fin 256 → EReal) (w : Fin 256 → Fin 2048 → EReal) (b : Fin 2048 → EReal) (l : Fin 2048) : EReal := dot (fun k => gelu (y k)) w l + b l
def lo (l : Fin 1024) : Fin 2048 := ⟨l.val, by omega⟩
def hi (l : Fin 1024) : Fin 2048 := ⟨1024 + l.val, by omega⟩
def ssm (p : Fin 2048 → EReal) (l : Fin 1024) : EReal := p (lo l) * Ideal.logistic (p (hi l))

/-- The convolution branch: the row's layer norm through `silu`. The divisor is the word of 256. -/
def mean (v : Fin 256 → EReal) : EReal := Ideal.div (∑ k, v k) (Ideal.ofBits FTy.f32 1132462080#32)
def var (v : Fin 256 → EReal) : EReal :=
  Ideal.div (∑ k, (v k - mean v) * (v k - mean v)) (Ideal.ofBits FTy.f32 1132462080#32) + Ideal.ofBits FTy.f32 897988541#32
def layerNorm (v g b : Fin 256 → EReal) (k : Fin 256) : EReal := (v k - mean v) * Ideal.rsqrt (var v) * g k + b k
def silu (y : EReal) : EReal := y * Ideal.logistic y

/-- The gates' three thirds of a row. -/
def g0 (l : Fin 1024) : Fin 3072 := ⟨l.val, by omega⟩
def g1 (l : Fin 1024) : Fin 3072 := ⟨1024 + l.val, by omega⟩
def g2 (l : Fin 1024) : Fin 3072 := ⟨2048 + l.val, by omega⟩
def merged (z b : Fin 3072 → EReal) (a s c : Fin 1024 → EReal) (l : Fin 1024) : EReal :=
  Ideal.logistic (z (g0 l) + b (g0 l)) * a l + Ideal.logistic (z (g1 l) + b (g1 l)) * s l + Ideal.logistic (z (g2 l) + b (g2 l)) * c l

/-- The merge's row from its inputs' rows and weights: the residual plus the projected merged branches. -/
def mix (ya : Fin 512 → EReal) (ys v : Fin 256 → EReal) (z : Fin 3072 → EReal) (wa : Fin 512 → Fin 1024 → EReal)
    (ws : Fin 256 → Fin 2048 → EReal) (bs : Fin 2048 → EReal) (g b : Fin 256 → EReal) (wc : Fin 256 → Fin 1024 → EReal)
    (bg : Fin 3072 → EReal) : Fin 1024 → EReal :=
  merged z bg (dot ya wa) (ssm (glu ys ws bs)) (dot (fun k => silu (layerNorm v g b k)) wc)

/-- One entry of a normed row. -/
def normed (x g : Fin 1024 → EReal) (l : Fin 1024) : EReal := x l * Ideal.rsqrt (NormGrad.ms x) * g l

end Cert.Merge

end
-- ==== Proof.In9Value.lean ====
module

public import Idealize.ShloMosaic.Lib.Pointwise
public import proofs.«01_k».proof.Proof.In9
public import proofs.«01_k».proof.Proof.Merge
public import proofs.«01_k».proof.Proof.Gen.Reference9Ideal.Read

@[expose] public section

noncomputable section

/-! `in_proj` at the ideal instance: the normed rows and their product with the weight. -/

namespace Cert.In9

open Cert.Kernel9Ideal Cert.Kernel9Ideal.Gen Cert.Merge
open Idealize.ShloMosaic Idealize.ShloMosaic.TcCoe Idealize.SL.Sem

/-! ## The payloads and the reference's stages -/

theorem pay_h (x : Vec Ideal S1024x1024 .f32) (g : Vec Ideal S1x1024 .f32) (r l : Fin 1024) :
    k0_pay1 (F := Ideal) x g (ix2 r l) = normed (fun k => x (ix2 r k)) (fun k => g (ix2 0 k)) l := by
  pointwise [k0_pay1, normed, NormGrad.ms]

theorem pay_z (h : Vec Ideal S1024x1024 .bf16) (w : Vec Ideal S1024x1536 .bf16) (r : Fin 1024) (l : Fin 1536) :
    k0_pay2 (F := Ideal) h w (ix2 r l) = dot (fun k => h (ix2 r k)) (fun k l => w (ix2 k l)) l := by
  pointwise [k0_pay2, dot]

section
open Cert.Reference9Ideal.Read

theorem ref_h (x : Vec Ideal S8192x1024 .f32) (g : Vec Ideal Cert.Reference9Ideal.S1024 .f32) (r : Fin 8192) (l : Fin 1024) :
    val_main_v12 (F := Ideal) x g (ix2 r l) = normed (fun k => x (ix2 r k)) (fun k => g (ix1 k)) l := by
  pointwise [val_main_v0, val_main_cst, val_main_v1, val_main_v2, val_main_cst_0, val_main_v3, val_main_v4, val_main_cst_1, val_main_v5, val_main_v6,
    val_main_v7, val_main_v8, val_main_v9, val_main_v10, val_main_v11, val_main_v12, normed, NormGrad.ms]

theorem ref_z (x : Vec Ideal S8192x1024 .f32) (g : Vec Ideal Cert.Reference9Ideal.S1024 .f32) (w : Vec Ideal S1024x4608 .f32) (r : Fin 8192) (l : Fin 4608) :
    val_main_v13 (F := Ideal) x g w (ix2 r l) = dot (fun k => val_main_v12 (F := Ideal) x g (ix2 r k)) (fun k l => w (ix2 k l)) l := by
  pointwise [val_main_v13, dot]

theorem ref_cast (x : Vec Ideal S8192x1024 .f32) (g : Vec Ideal Cert.Reference9Ideal.S1024 .f32) : (val_main_v14 (F := Ideal) x g : S8192x1024.Idx → EReal) = val_main_v12 (F := Ideal) x g := rfl

end

/-! ## The arrays as launched, and a point's blocks of them -/

variable (m : (ℓ : Loc nD τ sig) → Buf (Elt Ideal) ℓ)

abbrev xA (c : Dev nD) : Vec Ideal S8192x1024 .f32 := m ((c.tc : Thread nD τ).loc main_arg0)
abbrev gA (c : Dev nD) : Vec Ideal S1024 .f32 := m ((c.tc : Thread nD τ).loc main_arg1)
abbrev wA (c : Dev nD) : Vec Ideal S1024x4608 .f32 := m ((c.tc : Thread nD τ).loc main_arg2)

theorem host_g (c : Dev nD) : (V m c main_v0 : Vec Ideal S1x1024 .f32) = shapeCast S1x1024 (gA m c) shapeCasts_S1024_S1x1024 := rfl
theorem host_w (c : Dev nD) : (V m c main_v1 : S1024x4608.Idx → EReal) = wA m c := rfl

theorem row_apply (v : Vec Ideal S1024 .f32) (l : Fin 1024) : shapeCast S1x1024 v shapeCasts_S1024_S1x1024 (ix2 0 l) = v (ix1 l) := by
  pointwise []

theorem x_apply (c : Dev nD) (t : Fin cfg0.N) (r k : Fin 1024) (r' : Fin 8192) (h : r'.val = t.val / 3 * 1024 + r.val) :
    xB m c t (ix2 r k) = xA m c (ix2 r' k) := by
  obtain ⟨⟨e0, e1⟩, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = r'.val; omega
  | ⟨1, _⟩ => show win0_0.index t (1 : Fin 2) * 1024 + 1 * k.val = k.val; omega

theorem g_apply (c : Dev nD) (t : Fin cfg0.N) (l : Fin 1024) : gB m c t (ix2 0 l) = gA m c (ix1 l) := by
  obtain ⟨-, ⟨e0, e1⟩, -⟩ := blocks t
  refine Eq.trans ?_ ((congrFun (host_g m c) (ix2 0 l)).trans (row_apply _ l))
  show V m c main_v0 (((cfg0.win 1).blk t).view.emb (ix2 0 l)) = _
  refine congrArg _ (funext fun a => Fin.ext ?_)
  match a with
  | ⟨0, _⟩ => show win0_1.index t (0 : Fin 2) * 1 + 1 * 0 = 0; omega
  | ⟨1, _⟩ => show win0_1.index t (1 : Fin 2) * 1024 + 1 * l.val = l.val; omega

theorem w_apply (c : Dev nD) (t : Fin cfg0.N) (k : Fin 1024) (l : Fin 1536) (l' : Fin 4608) (h : l'.val = t.val % 3 * 1536 + l.val) :
    wB m c t (ix2 k l) = wA m c (ix2 k l') := by
  obtain ⟨-, -, ⟨e0, e1⟩, -⟩ := blocks t
  refine Eq.trans ?_ (congrFun (host_w m c) (ix2 k l'))
  show V m c main_v1 (((cfg0.win 2).blk t).view.emb (ix2 k l)) = _
  refine congrArg _ (funext fun a => Fin.ext ?_)
  match a with
  | ⟨0, _⟩ => show win0_2.index t (0 : Fin 2) * 1024 + 1 * k.val = k.val; omega
  | ⟨1, _⟩ => show win0_2.index t (1 : Fin 2) * 1536 + 1 * l.val = l'.val; omega

theorem h_apply (c : Dev nD) (t : Fin cfg0.N) (r l : Fin 1024) (r' : Fin 8192) (h : r'.val = t.val / 3 * 1024 + r.val) :
    hB m c t (ix2 r l) = Cert.Reference9Ideal.Read.val_main_v12 (F := Ideal) (xA m c) (gA m c) (ix2 r' l) := by
  unfold hB
  rw [pay_h, ref_h]
  exact congrArg₂ (fun x g => normed x g l) (funext fun k => x_apply m c t r k r' h) (funext fun k => g_apply m c t k)

theorem z_apply (c : Dev nD) (t : Fin cfg0.N) (r : Fin 1024) (l : Fin 1536) (r' : Fin 8192) (l' : Fin 4608) (h : r'.val = t.val / 3 * 1024 + r.val)
    (h' : l'.val = t.val % 3 * 1536 + l.val) :
    zB m c t (ix2 r l) = Cert.Reference9Ideal.Read.val_main_v13 (F := Ideal) (xA m c) (gA m c) (wA m c) (ix2 r' l') := by
  unfold zB
  rw [pay_z, ref_z]
  exact Finset.sum_congr rfl fun k _ => congrArg₂ (· * ·) (h_apply m c t r k r' h) (w_apply m c t k l l' h')

/-! ## The arrays the run leaves -/

theorem inj3 : ∀ t t' : Fin cfg0.N, win0_3.index t = win0_3.index t' → t = t' :=
  (by decide +kernel : ∀ t t' : Fin grid0.N, win0_3.index t = win0_3.index t' → t = t')

theorem disjoint3 (t t' : Fin cfg0.N) (_ : (cfg0.win 3).flush t = true) (_ : (cfg0.win 3).flush t' = true) (hne : t ≠ t') :
    Disjoint ((cfg0.win 3).blk t).view.set ((cfg0.win 3).blk t').view.set :=
  (cfg0.win 3).disjoint_blk fun h => hne (inj3 t t' h)

/-- A row tile's normed rows are written back once. -/
theorem disjoint4 (t t' : Fin cfg0.N) (ht : (cfg0.win 4).flush t = true) (ht' : (cfg0.win 4).flush t' = true) (hne : t ≠ t') :
    Disjoint ((cfg0.win 4).blk t).view.set ((cfg0.win 4).blk t').view.set :=
  (cfg0.win 4).disjoint_blk fun h => hne (by
    obtain ⟨-, -, -, -, ⟨e, -⟩⟩ := blocks t
    obtain ⟨-, -, -, -, ⟨e', -⟩⟩ := blocks t'
    have hq : t.val / 3 = t'.val / 3 := e.symm.trans ((congrFun h 0).trans e')
    have hr := (flush0_4 t).mp ht
    have hr' := (flush0_4 t').mp ht'
    exact Fin.ext (by omega))

/-- The point whose block of a result holds an entry, and the entry's place there. -/
def pt (r : Fin 8192) (j : Fin 3) : Fin cfg0.N := ⟨3 * (r.val / 1024) + j.val, by have h : cfg0.N = 24 := N_0; omega⟩
def part (l : Fin 4608) : Fin 3 := ⟨l.val / 1536, by omega⟩
def row (r : Fin 8192) : Fin 1024 := ⟨r.val % 1024, Nat.mod_lt _ (by decide)⟩
def col (l : Fin 4608) : Fin 1536 := ⟨l.val % 1536, Nat.mod_lt _ (by decide)⟩

theorem row_eq (r : Fin 8192) (j : Fin 3) : r.val = (pt r j).val / 3 * 1024 + (row r).val := by
  show r.val = (3 * (r.val / 1024) + j.val) / 3 * 1024 + r.val % 1024; omega

theorem col_eq (r : Fin 8192) (l : Fin 4608) : l.val = (pt r (part l)).val % 3 * 1536 + (col l).val := by
  show l.val = (3 * (r.val / 1024) + l.val / 1536) % 3 * 1536 + l.val % 1536; omega

/-- The kernel's arrays are the reference's results. -/
theorem value_z (c : Dev nD) : (dats m 0 c).arrAt 3 cfg0.N = Cert.Reference9Ideal.Read.val_main_v13 (F := Ideal) (xA m c) (gA m c) (wA m c) := by
  funext i
  obtain ⟨r, l, rfl⟩ : ∃ (r : Fin 8192) (l : Fin 4608), i = ix2 r l := ⟨i 0, i 1, (ix2_eta i).symm⟩
  have hr := row_eq r (part l)
  have hl := col_eq r l
  obtain ⟨-, -, -, ⟨e0, e1⟩, -⟩ := blocks (pt r (part l))
  have hi : (ix2 r l : S8192x4608.Idx) = ((cfg0.win 3).blk (pt r (part l))).view.emb (ix2 (row r) (col l)) := by
    refine funext fun a => Fin.ext ?_
    match a with
    | ⟨0, _⟩ => show r.val = win0_3.index (pt r (part l)) (0 : Fin 2) * 1024 + 1 * (row r).val; omega
    | ⟨1, _⟩ => show l.val = win0_3.index (pt r (part l)) (1 : Fin 2) * 1536 + 1 * (col l).val; omega
  refine (congrArg _ hi).trans (((dats m 0 c).arrAt_emb_eq_flushed 3 disjoint3 (pt r (part l)) (flush0_3 _) (ix2 (row r) (col l))).trans ?_)
  show (cfg0.win 3).cut (grid0.coords _) ((dats m 0 c).after 3 (pt r (part l))) (ix2 (row r) (col l)) = _
  rw [after_3]
  exact z_apply m c _ _ _ r l hr hl

theorem value_h (c : Dev nD) : (dats m 0 c).arrAt 4 cfg0.N = Cert.Reference9Ideal.Read.val_main_v14 (F := Ideal) (xA m c) (gA m c) := by
  funext i
  obtain ⟨r, l, rfl⟩ : ∃ (r : Fin 8192) (l : Fin 1024), i = ix2 r l := ⟨i 0, i 1, (ix2_eta i).symm⟩
  have hr := row_eq r 2
  obtain ⟨-, -, -, -, ⟨e0, e1⟩⟩ := blocks (pt r 2)
  have hi : (ix2 r l : S8192x1024.Idx) = ((cfg0.win 4).blk (pt r 2)).view.emb (ix2 (row r) l) := by
    refine funext fun a => Fin.ext ?_
    match a with
    | ⟨0, _⟩ => show r.val = win0_4.index (pt r 2) (0 : Fin 2) * 1024 + 1 * (row r).val; omega
    | ⟨1, _⟩ => show l.val = win0_4.index (pt r 2) (1 : Fin 2) * 1024 + 1 * l.val; omega
  have hf : (pt r 2).val % 3 = 2 := by show (3 * (r.val / 1024) + 2) % 3 = 2; omega
  refine (congrArg _ hi).trans (((dats m 0 c).arrAt_emb_eq_flushed 4 disjoint4 (pt r 2) ((flush0_4 _).mpr hf) (ix2 (row r) l)).trans ?_)
  show (cfg0.win 4).cut (grid0.coords _) ((dats m 0 c).after 4 (pt r 2)) (ix2 (row r) l) = _
  rw [after_4, ref_cast]
  exact h_apply m c _ _ _ r hr

end Cert.In9

end
-- ==== Proof.Out11.lean ====
module

public import proofs.«01_k».proof.Proof.Sums
public import proofs.«01_k».proof.Proof.Gen.Kernel11Ideal.Value
public import proofs.«01_k».proof.Proof.Gen.Reference11Ideal.Read

@[expose] public section

noncomputable section

namespace Cert.Out11

open Cert.Kernel11Ideal Cert.Kernel11Ideal.Gen Cert.Kernel11Ideal.Value
open Idealize.ShloMosaic Idealize.ShloMosaic.TcCoe Idealize.SL.Sem

variable (m : (ℓ : Loc nD τ sig) → Buf (Elt Ideal) ℓ)

/-- The weight the kernel reads is the weight argument. -/
theorem weight (c : Dev nD) : (V m c main_v0 : S2816x1024.Idx → EReal) = m ((c.tc : Thread nD τ).loc main_arg1) := rfl

/-- A block of the result: the residual plus the product over the columns. -/
theorem pay_apply (z : Vec Ideal S1024x1024 .f32) (x : Vec Ideal S1024x2816 .bf16) (w : Vec Ideal S2816x1024 .bf16)
    (r l : Fin 1024) :
    k0_pay1 z x w (ix2 r l) = z (ix2 r l) + ∑ k : Fin 2816, x (ix2 r k) * w (ix2 k l) := by
  pointwise [k0_pay1]

/-- Where each window's block lies at a grid point. -/
theorem blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ (cfg0.win 3).flush t = true :=
  (by decide +kernel : ∀ t : Fin grid0.N, _)

/-- The reference's stage at an index. -/
theorem ref_apply (x : Vec Ideal S8192x2816 .bf16) (w : Vec Ideal S2816x1024 .f32) (z : Vec Ideal S8192x1024 .f32) (r : Fin 8192) (l : Fin 1024) :
    Cert.Reference11Ideal.Read.val_main_v2 (F := Ideal) x w z (ix2 r l)
      = z (ix2 r l) + ∑ k : Fin 2816, x (ix2 r k) * w (ix2 k l) := by
  pointwise [Cert.Reference11Ideal.Read.val_main_v2, Cert.Reference11Ideal.Read.val_main_v1, Cert.Reference11Ideal.Read.val_main_v0]

/-- The three input blocks of a point, read off their arrays. -/
theorem x_apply (c : Dev nD) (t : Fin cfg0.N) (r : Fin 1024) (k : Fin 2816) (r' : Fin 8192) (h : r'.val = t.val * 1024 + r.val) :
    iblk m c 0 t (ix2 r k) = m ((c.tc : Thread nD τ).loc main_arg0) (ix2 r' k) := by
  obtain ⟨e0, e1, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 1024 + 1 * r.val = r'.val; omega
  | ⟨1, _⟩ => show win0_0.index t (1 : Fin 2) * 2816 + 1 * k.val = k.val; omega

theorem w_apply (c : Dev nD) (t : Fin cfg0.N) (k : Fin 2816) (l : Fin 1024) :
    iblk m c 1 t (ix2 k l) = m ((c.tc : Thread nD τ).loc main_arg1) (ix2 k l) := by
  obtain ⟨-, -, e0, e1, -⟩ := blocks t
  refine Eq.trans ?_ (congrFun (weight m c) (ix2 k l))
  show V m c main_v0 (((cfg0.win 1).blk t).view.emb (ix2 k l)) = _
  refine congrArg _ (funext fun a => Fin.ext ?_)
  match a with
  | ⟨0, _⟩ => show win0_1.index t (0 : Fin 2) * 2816 + 1 * k.val = k.val; omega
  | ⟨1, _⟩ => show win0_1.index t (1 : Fin 2) * 1024 + 1 * l.val = l.val; omega

theorem z_apply (c : Dev nD) (t : Fin cfg0.N) (r l : Fin 1024) (r' : Fin 8192) (h : r'.val = t.val * 1024 + r.val) :
    iblk m c 2 t (ix2 r l) = m ((c.tc : Thread nD τ).loc main_arg2) (ix2 r' l) := by
  obtain ⟨-, -, -, -, e0, e1, -⟩ := blocks t
  show V m c main_arg2 (((cfg0.win 2).blk t).view.emb (ix2 r l)) = _
  rw [V_main_arg2]
  refine congrArg _ (funext fun a => Fin.ext ?_)
  match a with
  | ⟨0, _⟩ => show win0_2.index t (0 : Fin 2) * 1024 + 1 * r.val = r'.val; omega
  | ⟨1, _⟩ => show win0_2.index t (1 : Fin 2) * 1024 + 1 * l.val = l.val; omega

/-- What a point leaves at an index of its block of the result. -/
theorem out_apply (x : Vec Ideal S1024x2816 .bf16) (w : Vec Ideal S2816x1024 .bf16) (z : Vec Ideal S1024x1024 .f32) (r l : Fin 1024) :
    out0_3 x w z (ix2 r l) = z (ix2 r l) + ∑ k : Fin 2816, x (ix2 r k) * w (ix2 k l) := by
  unfold out0_3
  rw [View.canon_unit_zero (by decide) _ _, pay_apply, View.ld_unit_zero (by decide) _ _, View.ld_unit_zero (by decide) _ _,
    View.ld_unit_zero (by decide) _ _]

/-- The kernel's array is the reference's. -/
theorem value (c : Dev nD) :
    (dats m 0 c).arrAt 3 cfg0.N = Cert.Reference11Ideal.Read.val_main_v2 (F := Ideal) (m ((c.tc : Thread nD τ).loc main_arg0))
      (m ((c.tc : Thread nD τ).loc main_arg1)) (m ((c.tc : Thread nD τ).loc main_arg2)) := by
  funext i
  obtain ⟨r, l, rfl⟩ : ∃ (r : Fin 8192) (l : Fin 1024), i = ix2 r l := ⟨i 0, i 1, (ix2_eta i).symm⟩
  refine Eq.trans ?_ (ref_apply _ _ _ r l).symm
  let t : Fin cfg0.N := ⟨r.val / 1024, by have h : cfg0.N = 8 := N_0; omega⟩
  let b : Fin 1024 := ⟨r.val % 1024, Nat.mod_lt _ (by decide)⟩
  have ht : t.val = r.val / 1024 := rfl
  have hb : r.val = t.val * 1024 + b.val := by show r.val = r.val / 1024 * 1024 + r.val % 1024; omega
  obtain ⟨-, -, -, -, -, -, e0, e1, hf⟩ := blocks t
  have hi : (ix2 r l : S8192x1024.Idx) = ((cfg0.win 3).blk t).view.emb (ix2 b l) := by
    refine funext fun a => Fin.ext ?_
    match a with
    | ⟨0, _⟩ => show r.val = win0_3.index t (0 : Fin 2) * 1024 + 1 * b.val; omega
    | ⟨1, _⟩ => show l.val = win0_3.index t (1 : Fin 2) * 1024 + 1 * l.val; omega
  refine (congrArg _ hi).trans (((dats m 0 c).arrAt_emb_eq_flushed 3 disjoint3 t hf (ix2 b l)).trans ?_)
  show (dats m 0 c).flushed 3 t (ix2 b l) = _
  rw [flushed3]
  refine (out_apply (iblk m c 0 t) (iblk m c 1 t) (iblk m c 2 t) b l).trans ?_
  refine congrArg₂ _ ?_ (Finset.sum_congr rfl fun k _ => congrArg₂ _ ?_ ?_)
  · exact z_apply m c t b l r hb
  · exact x_apply m c t b k r hb
  · exact w_apply m c t k l

end Cert.Out11

end
-- ==== Proof.Ple12.lean ====
module

public import Idealize.ShloMosaic.Lib.Pointwise
public import Idealize.ShloMosaic.Lib.Pipeline.ValueKit.Tiles
public import proofs.«01_k».proof.Proof.NormGrad
public import proofs.«01_k».proof.Proof.Gen.Kernel12Ideal.Value
public import proofs.«01_k».proof.Proof.Gen.Reference12Ideal.Read

@[expose] public section

noncomputable section

namespace Cert.Ple12

open Cert.Kernel12Ideal Cert.Kernel12Ideal.Gen Cert.Kernel12Ideal.Value
open Idealize.ShloMosaic Idealize.ShloMosaic.TcCoe Idealize.SL.Sem

/-- One entry of the gate's pre-activation: the normed row against a column of the gate's weight. -/
def pre (x g w : Fin 1024 → EReal) : EReal := ∑ k, x k * Ideal.rsqrt (NormGrad.ms x) * g k * w k

/-- One entry of the projected embedding. -/
def emb (q v : Fin 256 → EReal) : EReal := ∑ k, q k * v k

/-! ## The kernel's payloads -/

section
variable (x : Vec Ideal S512x1024 .f32) (q : Vec Ideal S512x256 .f32) (v : Vec Ideal S256x1024 .bf16) (g : Vec Ideal S1x1024 .f32)
  (w : Vec Ideal S1024x1024 .bf16) (r : Fin 512) (l : Fin 1024)

theorem pre_apply : k0_pay4 x g w (ix2 r l) = pre (fun k => x (ix2 r k)) (fun k => g (ix2 0 k)) fun k => w (ix2 k l) := by
  pointwise [k0_pay4, k0_pay1, pre, NormGrad.ms]

theorem emb_apply : k0_pay5 q v (ix2 r l) = emb (fun k => q (ix2 r k)) fun k => v (ix2 k l) := by
  pointwise [k0_pay5, k0_pay2, emb]

theorem out_apply : k0_pay3 x q v g w (ix2 r l)
    = x (ix2 r l) + Ideal.logistic (pre (fun k => x (ix2 r k)) (fun k => g (ix2 0 k)) fun k => w (ix2 k l))
      * emb (fun k => q (ix2 r k)) fun k => v (ix2 k l) := by
  pointwise [k0_pay3, k0_pay1, k0_pay2, emb, pre, NormGrad.ms]

end

/-! ## The reference -/

section
open Cert.Reference12Ideal.Read

variable (x : Vec Ideal S8192x1024 .f32) (q : Vec Ideal S8192x256 .f32) (v : Vec Ideal S256x1024 .f32) (g : Vec Ideal S1024 .f32)
  (w : Vec Ideal S1024x1024 .f32) (r : Fin 8192) (l : Fin 1024)

theorem ref_pre : val_main_v37 (F := Ideal) x g w (ix2 r l) = pre (fun k => x (ix2 r k)) (fun k => g (ix1 k)) fun k => w (ix2 k l) := by
  pointwise [val_main_v23, val_main_cst_4, val_main_v24, val_main_v25, val_main_cst_5, val_main_v26, val_main_v27, val_main_cst_6,
    val_main_v28, val_main_v29, val_main_v30, val_main_v31, val_main_v32, val_main_v33, val_main_v34, val_main_v35, val_main_v36,
    val_main_v37, pre, NormGrad.ms]

theorem ref_emb : val_main_v39 (F := Ideal) q v (ix2 r l) = emb (fun k => q (ix2 r k)) fun k => v (ix2 k l) := by
  pointwise [val_main_v38, val_main_v39, emb]

theorem ref_out : val_main_v22 (F := Ideal) x q v g w (ix2 r l)
    = x (ix2 r l) + Ideal.logistic (pre (fun k => x (ix2 r k)) (fun k => g (ix1 k)) fun k => w (ix2 k l))
      * emb (fun k => q (ix2 r k)) fun k => v (ix2 k l) := by
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14,
    val_main_v15, val_main_v16, val_main_cst_2, val_main_v17, val_main_v18, val_main_cst_3, val_main_v19, val_main_v20, val_main_v21,
    val_main_v22, pre, emb, NormGrad.ms, Ideal.logistic]

end

/-! ## The blocks of a point and the arrays -/

variable (m : (ℓ : Loc nD τ sig) → Buf (Elt Ideal) ℓ)

abbrev xa (c : Dev nD) : Vec Ideal S8192x1024 .f32 := m ((c.tc : Thread nD τ).loc main_arg0)
abbrev qa (c : Dev nD) : Vec Ideal S8192x256 .f32 := m ((c.tc : Thread nD τ).loc main_arg1)
abbrev va (c : Dev nD) : Vec Ideal S256x1024 .f32 := m ((c.tc : Thread nD τ).loc main_arg2)
abbrev ga (c : Dev nD) : Vec Ideal S1024 .f32 := m ((c.tc : Thread nD τ).loc main_arg3)
abbrev wa (c : Dev nD) : Vec Ideal S1024x1024 .f32 := m ((c.tc : Thread nD τ).loc main_arg4)

theorem host_v (c : Dev nD) : (V m c main_v0 : S256x1024.Idx → EReal) = va m c := rfl
theorem host_g (c : Dev nD) : (V m c main_v1 : S1x1024.Idx → EReal) = shapeCast S1x1024 (ga m c) shapeCasts_S1024_S1x1024 := rfl
theorem host_w (c : Dev nD) : (V m c main_v2 : S1024x1024.Idx → EReal) = wa m c := rfl

theorem scale_apply (g : Vec Ideal S1024 .f32) (l : Fin 1024) : shapeCast S1x1024 g shapeCasts_S1024_S1x1024 (ix2 0 l) = g (ix1 l) := by
  pointwise []

theorem blocks : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

abbrev xb (c : Dev nD) (t : Fin cfg0.N) : Vec Ideal S512x1024 .f32 := iblk m c 0 t
abbrev qb (c : Dev nD) (t : Fin cfg0.N) : Vec Ideal S512x256 .f32 := iblk m c 1 t
abbrev vb (c : Dev nD) (t : Fin cfg0.N) : Vec Ideal S256x1024 .bf16 := iblk m c 2 t
abbrev gb (c : Dev nD) (t : Fin cfg0.N) : Vec Ideal S1x1024 .f32 := iblk m c 3 t
abbrev wb (c : Dev nD) (t : Fin cfg0.N) : Vec Ideal S1024x1024 .bf16 := iblk m c 4 t

theorem x_apply (c : Dev nD) (t : Fin cfg0.N) (r : Fin 512) (k : Fin 1024) (r' : Fin 8192) (h : r'.val = t.val * 512 + r.val) :
    xb m c t (ix2 r k) = xa m c (ix2 r' k) := by
  obtain ⟨⟨e0, e1⟩, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

theorem q_apply (c : Dev nD) (t : Fin cfg0.N) (r : Fin 512) (k : Fin 256) (r' : Fin 8192) (h : r'.val = t.val * 512 + r.val) :
    qb m c t (ix2 r k) = qa m c (ix2 r' k) := by
  obtain ⟨-, ⟨e0, e1⟩, -⟩ := blocks t
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = r'.val; omega
  | ⟨1, _⟩ => show win0_1.index t (1 : Fin 2) * 256 + 1 * k.val = k.val; omega

theorem v_apply (c : Dev nD) (t : Fin cfg0.N) (k : Fin 256) (l : Fin 1024) : vb m c t (ix2 k l) = va m c (ix2 k l) := by
  obtain ⟨-, -, ⟨e0, e1⟩, -⟩ := blocks t
  refine Eq.trans ?_ (congrFun (host_v m c) (ix2 k l))
  show V m c main_v0 (((cfg0.win 2).blk t).view.emb (ix2 k l)) = _
  refine congrArg _ (funext fun a => Fin.ext ?_)
  match a with
  | ⟨0, _⟩ => show win0_2.index t (0 : Fin 2) * 256 + 1 * k.val = k.val; omega
  | ⟨1, _⟩ => show win0_2.index t (1 : Fin 2) * 1024 + 1 * l.val = l.val; omega

theorem g_apply (c : Dev nD) (t : Fin cfg0.N) (l : Fin 1024) : gb m c t (ix2 0 l) = ga m c (ix1 l) := by
  obtain ⟨-, -, -, ⟨e0, e1⟩, -⟩ := blocks t
  refine Eq.trans ?_ ((congrFun (host_g m c) (ix2 0 l)).trans (scale_apply _ l))
  show V m c main_v1 (((cfg0.win 3).blk t).view.emb (ix2 0 l)) = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * l.val = l.val; omega

theorem w_apply (c : Dev nD) (t : Fin cfg0.N) (k l : Fin 1024) : wb m c t (ix2 k l) = wa m c (ix2 k l) := by
  obtain ⟨-, -, -, -, ⟨e0, e1⟩, -⟩ := blocks t
  refine Eq.trans ?_ (congrFun (host_w m c) (ix2 k l))
  show V m c main_v2 (((cfg0.win 4).blk t).view.emb (ix2 k l)) = _
  refine congrArg _ (funext fun a => Fin.ext ?_)
  match a with
  | ⟨0, _⟩ => show win0_4.index t (0 : Fin 2) * 1024 + 1 * k.val = k.val; omega
  | ⟨1, _⟩ => show win0_4.index t (1 : Fin 2) * 1024 + 1 * l.val = l.val; omega

theorem pre_eq (c : Dev nD) (t : Fin cfg0.N) (r : Fin 512) (l : Fin 1024) (r' : Fin 8192) (h : r'.val = t.val * 512 + r.val) :
    pre (fun k => xb m c t (ix2 r k)) (fun k => gb m c t (ix2 0 k)) (fun k => wb m c t (ix2 k l))
      = pre (fun k => xa m c (ix2 r' k)) (fun k => ga m c (ix1 k)) fun k => wa m c (ix2 k l) := by
  rw [funext fun k => x_apply m c t r k r' h, funext fun k => g_apply m c t k, funext fun k => w_apply m c t k l]

theorem emb_eq (c : Dev nD) (t : Fin cfg0.N) (r : Fin 512) (l : Fin 1024) (r' : Fin 8192) (h : r'.val = t.val * 512 + r.val) :
    emb (fun k => qb m c t (ix2 r k)) (fun k => vb m c t (ix2 k l)) = emb (fun k => qa m c (ix2 r' k)) fun k => va m c (ix2 k l) := by
  rw [funext fun k => q_apply m c t r k r' h, funext fun k => v_apply m c t k l]

/-- The point that a row belongs to, and its place there. -/
def pt (r : Fin 8192) : Fin cfg0.N := ⟨r.val / 512, by have h : cfg0.N = 16 := N_0; omega⟩
def row (r : Fin 8192) : Fin 512 := ⟨r.val % 512, Nat.mod_lt _ (by decide)⟩

theorem row_eq (r : Fin 8192) : r.val = (pt r).val * 512 + (row r).val := by
  show r.val = r.val / 512 * 512 + r.val % 512; omega

theorem hz : (![0, 0] : Fin 2 → ℕ) = fun _ => 0 := by decide

/-- The kernel's arrays are the reference's. -/
theorem value_out (c : Dev nD) :
    (dats m 0 c).arrAt 5 cfg0.N = Cert.Reference12Ideal.Read.val_main_v22 (F := Ideal) (xa m c) (qa m c) (va m c) (ga m c) (wa m c) := by
  funext i
  obtain ⟨r, l, rfl⟩ : ∃ (r : Fin 8192) (l : Fin 1024), i = ix2 r l := ⟨i 0, i 1, (ix2_eta i).symm⟩
  have hr := row_eq r
  obtain ⟨-, -, -, -, -, ⟨e0, e1⟩, -⟩ := blocks (pt r)
  have hi : (ix2 r l : S8192x1024.Idx) = ((cfg0.win 5).blk (pt r)).view.emb (ix2 (row r) l) := by
    refine funext fun a => Fin.ext ?_
    match a with
    | ⟨0, _⟩ => show r.val = win0_5.index (pt r) (0 : Fin 2) * 512 + 1 * (row r).val; omega
    | ⟨1, _⟩ => show l.val = win0_5.index (pt r) (1 : Fin 2) * 1024 + 1 * l.val; omega
  refine (congrArg _ hi).trans (((dats m 0 c).arrAt_emb_eq_flushed 5 disjoint5 (pt r) (flush0_5 _) (ix2 (row r) l)).trans ?_)
  show (dats m 0 c).flushed 5 (pt r) (ix2 (row r) l) = _
  rw [flushed5, ref_out, ← pre_eq m c (pt r) (row r) l r hr, ← emb_eq m c (pt r) (row r) l r hr, ← x_apply m c (pt r) (row r) l r hr]
  show out0_5 (xb m c (pt r)) (qb m c (pt r)) (vb m c (pt r)) (gb m c (pt r)) (wb m c (pt r)) (ix2 (row r) l) = _
  unfold out0_5
  rw [View.canon_unit_zero hz _ _, View.ld_unit_zero hz _ _, View.ld_unit_zero hz _ _, View.ld_unit_zero hz _ _,
    View.ld_unit_zero hz _ _, View.ld_unit_zero hz _ _]
  exact out_apply ..

theorem value_pre (c : Dev nD) :
    (dats m 0 c).arrAt 6 cfg0.N = Cert.Reference12Ideal.Read.val_main_v37 (F := Ideal) (xa m c) (ga m c) (wa m c) := by
  funext i
  obtain ⟨r, l, rfl⟩ : ∃ (r : Fin 8192) (l : Fin 1024), i = ix2 r l := ⟨i 0, i 1, (ix2_eta i).symm⟩
  have hr := row_eq r
  obtain ⟨-, -, -, -, -, -, ⟨e0, e1⟩, -⟩ := blocks (pt r)
  have hi : (ix2 r l : S8192x1024.Idx) = ((cfg0.win 6).blk (pt r)).view.emb (ix2 (row r) l) := by
    refine funext fun a => Fin.ext ?_
    match a with
    | ⟨0, _⟩ => show r.val = win0_6.index (pt r) (0 : Fin 2) * 512 + 1 * (row r).val; omega
    | ⟨1, _⟩ => show l.val = win0_6.index (pt r) (1 : Fin 2) * 1024 + 1 * l.val; omega
  refine (congrArg _ hi).trans (((dats m 0 c).arrAt_emb_eq_flushed 6 disjoint6 (pt r) (flush0_6 _) (ix2 (row r) l)).trans ?_)
  show (dats m 0 c).flushed 6 (pt r) (ix2 (row r) l) = _
  rw [flushed6, ref_pre, ← pre_eq m c (pt r) (row r) l r hr]
  show out0_6 (xb m c (pt r)) (qb m c (pt r)) (vb m c (pt r)) (gb m c (pt r)) (wb m c (pt r)) (ix2 (row r) l) = _
  unfold out0_6
  rw [View.canon_unit_zero hz _ _, View.ld_unit_zero hz _ _, View.ld_unit_zero hz _ _, View.ld_unit_zero hz _ _]
  exact pre_apply ..

theorem value_emb (c : Dev nD) :
    (dats m 0 c).arrAt 7 cfg0.N = Cert.Reference12Ideal.Read.val_main_v39 (F := Ideal) (qa m c) (va m c) := by
  funext i
  obtain ⟨r, l, rfl⟩ : ∃ (r : Fin 8192) (l : Fin 1024), i = ix2 r l := ⟨i 0, i 1, (ix2_eta i).symm⟩
  have hr := row_eq r
  obtain ⟨-, -, -, -, -, -, -, ⟨e0, e1⟩⟩ := blocks (pt r)
  have hi : (ix2 r l : S8192x1024.Idx) = ((cfg0.win 7).blk (pt r)).view.emb (ix2 (row r) l) := by
    refine funext fun a => Fin.ext ?_
    match a with
    | ⟨0, _⟩ => show r.val = win0_7.index (pt r) (0 : Fin 2) * 512 + 1 * (row r).val; omega
    | ⟨1, _⟩ => show l.val = win0_7.index (pt r) (1 : Fin 2) * 1024 + 1 * l.val; omega
  refine (congrArg _ hi).trans (((dats m 0 c).arrAt_emb_eq_flushed 7 disjoint7 (pt r) (flush0_7 _) (ix2 (row r) l)).trans ?_)
  show (dats m 0 c).flushed 7 (pt r) (ix2 (row r) l) = _
  rw [flushed7, ref_emb, ← emb_eq m c (pt r) (row r) l r hr]
  show out0_7 (xb m c (pt r)) (qb m c (pt r)) (vb m c (pt r)) (gb m c (pt r)) (wb m c (pt r)) (ix2 (row r) l) = _
  unfold out0_7
  rw [View.canon_unit_zero hz _ _, View.ld_unit_zero hz _ _, View.ld_unit_zero hz _ _]
  exact emb_apply ..

end Cert.Ple12

end
-- ==== Proof.Merge13.lean ====
module

public import Idealize.ShloMosaic.Lib.Pipeline.ValueKit.Tiles
public import proofs.«01_k».proof.Proof.Merge
public import proofs.«01_k».proof.Proof.Gen.Kernel13Ideal.Value
public import proofs.«01_k».proof.Proof.Gen.Reference13Ideal.Read

@[expose] public section

noncomputable section

namespace Cert.Merge13

open Cert.Kernel13Ideal Cert.Kernel13Ideal.Gen Cert.Kernel13Ideal.Value Merge
open Idealize.ShloMosaic Idealize.ShloMosaic.TcCoe Idealize.SL.Sem

/-! ## The kernel's payloads -/

theorem attn_apply (y : Vec Ideal S512x512 .bf16) (w : Vec Ideal S512x1024 .bf16) (r : Fin 512) (l : Fin 1024) :
    k0_pay13 (k0_pay11 y) (k0_pay12 w) (constant S512x1024 .f32 0x00000000#32) (ix2 r l)
      = dot (fun k => y (ix2 r k)) (fun k l => w (ix2 k l)) l := by
  pointwise [k0_pay13, k0_pay12, k0_pay11, dot]

theorem ssm_apply (y : Vec Ideal S512x256 .f32) (b : Vec Ideal S1x2048 .f32) (w : Vec Ideal S256x2048 .bf16) (r : Fin 512) (l : Fin 1024) :
    k0_pay14 y (k0_pay3 b) (k0_pay8 w) (ix2 r l)
      = ssm (glu (fun k => y (ix2 r k)) (fun k l => w (ix2 k l)) fun l => b (ix2 0 l)) l := by
  pointwise [k0_pay14, k0_pay3, k0_pay8, ssm, glu, dot, gelu, geluArg, lo, hi]

theorem conv_apply (v : Vec Ideal S512x256 .f32) (g b : Vec Ideal S1x256 .f32) (r : Fin 512) (k : Fin 256) :
    k0_pay15 v (k0_pay4 g) (k0_pay5 b) (ix2 r k)
      = silu (layerNorm (fun k => v (ix2 r k)) (fun k => g (ix2 0 k)) (fun k => b (ix2 0 k)) k) := by
  pointwise [k0_pay15, k0_pay4, k0_pay5, silu, layerNorm, var, mean]

theorem out_apply (x : Vec Ideal S512x1024 .f32) (z : Vec Ideal S512x3072 .f32) (b : Vec Ideal S1x3072 .f32) (w : Vec Ideal S1024x1024 .bf16)
    (a s : FVec Ideal S512x1024 .f32) (u : FVec Ideal S512x256 .bf16) (wc : Vec Ideal S256x1024 .bf16) (r : Fin 512) (l : Fin 1024) :
    k0_pay1 x z (k0_pay6 b) (k0_pay10 w) a s u (k0_pay16 (k0_pay9 wc)) (constant S512x1024 .f32 0x00000000#32) (ix2 r l)
      = x (ix2 r l) + dot (merged (fun k => z (ix2 r k)) (fun k => b (ix2 0 k)) (fun k => a (ix2 r k)) (fun k => s (ix2 r k))
        (dot (fun k => u (ix2 r k)) fun k l => wc (ix2 k l))) (fun k l => w (ix2 k l)) l := by
  pointwise [k0_pay1, k0_pay6, k0_pay10, k0_pay16, k0_pay9, dot, merged, g0, g1, g2]

theorem hf_apply (x : Vec Ideal S512x1024 .f32) (z : Vec Ideal S512x3072 .f32) (b : FVec Ideal S1x3072 .f32) (g : Vec Ideal S1x1024 .f32) (w : FVec Ideal S1024x1024 .f32)
    (a s : FVec Ideal S512x1024 .f32) (u : FVec Ideal S512x256 .bf16) (wc : FVec Ideal S256x1024 .bf16) (o : FVec Ideal S512x1024 .f32) (r : Fin 512) (l : Fin 1024) :
    k0_pay2 x z b (k0_pay7 g) w a s u wc o (ix2 r l) = normed (fun k => k0_pay1 x z b w a s u wc o (ix2 r k)) (fun k => g (ix2 0 k)) l := by
  pointwise [k0_pay2, k0_pay7, normed, NormGrad.ms]

/-! ## The reference -/

section
open Cert.Reference13Ideal.Read

theorem ref_attn (y : Vec Ideal S8192x512 .bf16) (w : Vec Ideal S512x1024 .f32) (r : Fin 8192) (l : Fin 1024) :
    val_main_v2 (F := Ideal) y w (ix2 r l) = dot (fun k => y (ix2 r k)) (fun k l => w (ix2 k l)) l := by
  pointwise [val_main_v2, val_main_v0, dot]

theorem ref_ssm (y : Vec Ideal S8192x256 .f32) (w : Vec Ideal S256x2048 .f32) (b : Vec Ideal Cert.Reference13Ideal.S2048 .f32) (r : Fin 8192) (l : Fin 1024) :
    val_main_v28 (F := Ideal) y w b (ix2 r l)
      = ssm (glu (fun k => y (ix2 r k)) (fun k l => w (ix2 k l)) fun l => b (ix1 l)) l := by
  unfold ssm glu dot gelu geluArg
  simp only [Ideal.logistic, cube]
  pointwise [val_main_v3, val_main_v4, val_main_cst, val_main_v5, val_main_v6, val_main_v7, val_main_cst_0, val_main_v8, val_main_v9,
    val_main_v10, val_main_cst_1, val_main_v11, val_main_v12, val_main_cst_2, val_main_v13, val_main_v14, val_main_v15, val_main_v16,
    val_main_v17, val_main_v18, val_main_v19, val_main_v20, val_main_v21, val_main_v22, val_main_v23, val_main_cst_3, val_main_v24,
    val_main_v25, val_main_cst_4, val_main_v26, val_main_v27, val_main_v28, lo, hi]

theorem ref_norm (v : Vec Ideal S8192x256 .f32) (g b : Vec Ideal Cert.Reference13Ideal.S256 .f32) (r : Fin 8192) (k : Fin 256) :
    val_main_v52 (F := Ideal) v g b (ix2 r k) = layerNorm (fun k => v (ix2 r k)) (fun k => g (ix1 k)) (fun k => b (ix1 k)) k := by
  pointwise [val_main_cst_5, val_main_v29, val_main_v30, val_main_cst_6, val_main_v31, val_main_v32, val_main_v33, val_main_v34,
    val_main_v35, val_main_cst_7, val_main_v36, val_main_v37, val_main_cst_8, val_main_v38, val_main_v39, val_main_v40, val_main_v41,
    val_main_cst_9, val_main_v42, val_main_v43, val_main_v44, val_main_v45, val_main_v46, val_main_v47, val_main_v48, val_main_v49,
    val_main_v50, val_main_v51, val_main_v52, layerNorm, var, mean]

theorem ref_conv (v : Vec Ideal S8192x256 .f32) (g b : Vec Ideal Cert.Reference13Ideal.S256 .f32) (w : Vec Ideal S256x1024 .f32) (r : Fin 8192) (l : Fin 1024) :
    val_main_v54 (F := Ideal) v g b w (ix2 r l)
      = dot (fun k => silu (val_main_v52 (F := Ideal) v g b (ix2 r k))) (fun k l => w (ix2 k l)) l := by
  unfold dot silu
  simp only [Ideal.logistic]
  pointwise [val_main_call0_v0, val_main_call0_v1, val_main_call0_cst, val_main_call0_v2, val_main_call0_v3, val_main_call0_cst_0, val_main_call0_v4,
    val_main_call0_v5, val_main_v53, val_main_v54]

theorem ref_gate0 (z : Vec Ideal S8192x4608 .f32) (b : Vec Ideal Cert.Reference13Ideal.S3072 .f32) (r : Fin 8192) (l : Fin 1024) :
    val_main_v66 (F := Ideal) z b (ix2 r l) = Ideal.logistic (z (ix2 r ⟨(g0 l).val, by omega⟩) + b (ix1 (g0 l))) := by
  simp only [Ideal.logistic]
  pointwise [val_main_v1, val_main_v55, val_main_v56, val_main_v57, val_main_v58, val_main_v59, val_main_cst_10, val_main_v60, val_main_v61,
    val_main_cst_11, val_main_v62, val_main_v63, val_main_v64, val_main_v65, val_main_v66, g0]

theorem ref_gate1 (z : Vec Ideal S8192x4608 .f32) (b : Vec Ideal Cert.Reference13Ideal.S3072 .f32) (r : Fin 8192) (l : Fin 1024) :
    val_main_v69 (F := Ideal) z b (ix2 r l) = Ideal.logistic (z (ix2 r ⟨(g1 l).val, by omega⟩) + b (ix1 (g1 l))) := by
  simp only [Ideal.logistic]
  pointwise [val_main_v1, val_main_v55, val_main_v56, val_main_v57, val_main_v58, val_main_v59, val_main_cst_10, val_main_v60, val_main_v61,
    val_main_cst_11, val_main_v62, val_main_v63, val_main_v64, val_main_v68, val_main_v69, g1]

theorem ref_gate2 (z : Vec Ideal S8192x4608 .f32) (b : Vec Ideal Cert.Reference13Ideal.S3072 .f32) (r : Fin 8192) (l : Fin 1024) :
    val_main_v73 (F := Ideal) z b (ix2 r l) = Ideal.logistic (z (ix2 r ⟨(g2 l).val, by omega⟩) + b (ix1 (g2 l))) := by
  simp only [Ideal.logistic]
  pointwise [val_main_v1, val_main_v55, val_main_v56, val_main_v57, val_main_v58, val_main_v59, val_main_cst_10, val_main_v60, val_main_v61,
    val_main_cst_11, val_main_v62, val_main_v63, val_main_v64, val_main_v72, val_main_v73, g2]

variable (x : Vec Ideal S8192x1024 .f32) (ya : Vec Ideal S8192x512 .bf16) (ys v : Vec Ideal S8192x256 .f32) (z : Vec Ideal S8192x4608 .f32)
  (wa : Vec Ideal S512x1024 .f32) (ws : Vec Ideal S256x2048 .f32) (bs : Vec Ideal Cert.Reference13Ideal.S2048 .f32)
  (g b : Vec Ideal Cert.Reference13Ideal.S256 .f32) (wc : Vec Ideal S256x1024 .f32) (bg : Vec Ideal Cert.Reference13Ideal.S3072 .f32)
  (wm : Vec Ideal S1024x1024 .f32) (gf : Vec Ideal Cert.Reference13Ideal.S1024 .f32) (r : Fin 8192) (l : Fin 1024)

theorem ref_merged : val_main_v75 (F := Ideal) ya ys v z wa ws bs g b wc bg (ix2 r l)
    = mix (fun k => ya (ix2 r k)) (fun k => ys (ix2 r k)) (fun k => v (ix2 r k)) (fun k => z (ix2 r ⟨k.val, by omega⟩)) (fun k l => wa (ix2 k l))
      (fun k l => ws (ix2 k l)) (fun k => bs (ix1 k)) (fun k => g (ix1 k)) (fun k => b (ix1 k)) (fun k l => wc (ix2 k l)) (fun k => bg (ix1 k)) l := by
  unfold mix merged
  simp only [← ref_attn, ← ref_ssm, ← ref_norm, ← ref_conv]
  rw [← ref_gate0, ← ref_gate1, ← ref_gate2]
  pointwise [val_main_v67, val_main_v70, val_main_v71, val_main_v74, val_main_v75]

theorem ref_out : val_main_v77 (F := Ideal) x ya ys v z wa ws bs g b wc bg wm (ix2 r l)
    = x (ix2 r l) + dot (mix (fun k => ya (ix2 r k)) (fun k => ys (ix2 r k)) (fun k => v (ix2 r k)) (fun k => z (ix2 r ⟨k.val, by omega⟩))
      (fun k l => wa (ix2 k l)) (fun k l => ws (ix2 k l)) (fun k => bs (ix1 k)) (fun k => g (ix1 k)) (fun k => b (ix1 k)) (fun k l => wc (ix2 k l))
      fun k => bg (ix1 k)) (fun k l => wm (ix2 k l)) l := by
  unfold dot
  simp only [← ref_merged]
  pointwise [val_main_v76, val_main_v77]

theorem ref_hf : val_main_v91 (F := Ideal) x ya ys v z wa ws bs g b wc bg wm gf (ix2 r l)
    = normed (fun k => val_main_v77 (F := Ideal) x ya ys v z wa ws bs g b wc bg wm (ix2 r k)) (fun k => gf (ix1 k)) l := by
  pointwise [val_main_v78, val_main_cst_12, val_main_v79, val_main_v80, val_main_cst_13, val_main_v81, val_main_v82, val_main_cst_14, val_main_v83,
    val_main_v84, val_main_v85, val_main_v86, val_main_v87, val_main_v88, val_main_v89, val_main_v90, val_main_v91, normed, NormGrad.ms]

end

/-! ## What a point leaves in its blocks -/

variable (m : (ℓ : Loc nD τ sig) → Buf (Elt Ideal) ℓ)

theorem hz : (![0, 0] : Fin 2 → ℕ) = fun _ => 0 := by decide

abbrev xA (c : Dev nD) : Vec Ideal S8192x1024 .f32 := m ((c.tc : Thread nD τ).loc main_arg0)
abbrev yaA (c : Dev nD) : Vec Ideal S8192x512 .bf16 := m ((c.tc : Thread nD τ).loc main_arg1)
abbrev ysA (c : Dev nD) : Vec Ideal S8192x256 .f32 := m ((c.tc : Thread nD τ).loc main_arg2)
abbrev vA (c : Dev nD) : Vec Ideal S8192x256 .f32 := m ((c.tc : Thread nD τ).loc main_arg3)
abbrev zA (c : Dev nD) : Vec Ideal S8192x4608 .f32 := m ((c.tc : Thread nD τ).loc main_arg4)
abbrev waA (c : Dev nD) : Vec Ideal S512x1024 .f32 := m ((c.tc : Thread nD τ).loc main_arg5)
abbrev wsA (c : Dev nD) : Vec Ideal S256x2048 .f32 := m ((c.tc : Thread nD τ).loc main_arg6)
abbrev bsA (c : Dev nD) : Vec Ideal S2048 .f32 := m ((c.tc : Thread nD τ).loc main_arg7)
abbrev gA (c : Dev nD) : Vec Ideal S256 .f32 := m ((c.tc : Thread nD τ).loc main_arg8)
abbrev bA (c : Dev nD) : Vec Ideal S256 .f32 := m ((c.tc : Thread nD τ).loc main_arg9)
abbrev wcA (c : Dev nD) : Vec Ideal S256x1024 .f32 := m ((c.tc : Thread nD τ).loc main_arg10)
abbrev bgA (c : Dev nD) : Vec Ideal S3072 .f32 := m ((c.tc : Thread nD τ).loc main_arg11)
abbrev wmA (c : Dev nD) : Vec Ideal S1024x1024 .f32 := m ((c.tc : Thread nD τ).loc main_arg12)
abbrev gfA (c : Dev nD) : Vec Ideal S1024 .f32 := m ((c.tc : Thread nD τ).loc main_arg13)

abbrev xB (c : Dev nD) (t : Fin cfg0.N) : Vec Ideal S512x1024 .f32 := iblk m c 0 t
abbrev yaB (c : Dev nD) (t : Fin cfg0.N) : Vec Ideal S512x512 .bf16 := iblk m c 1 t
abbrev ysB (c : Dev nD) (t : Fin cfg0.N) : Vec Ideal S512x256 .f32 := iblk m c 2 t
abbrev vB (c : Dev nD) (t : Fin cfg0.N) : Vec Ideal S512x256 .f32 := iblk m c 3 t
abbrev zB (c : Dev nD) (t : Fin cfg0.N) : Vec Ideal S512x3072 .f32 := X0_4 m c t
abbrev waB (c : Dev nD) (t : Fin cfg0.N) : Vec Ideal S512x1024 .bf16 := iblk m c 5 t
abbrev wsB (c : Dev nD) (t : Fin cfg0.N) : Vec Ideal S256x2048 .bf16 := iblk m c 6 t
abbrev bsB (c : Dev nD) (t : Fin cfg0.N) : Vec Ideal S1x2048 .f32 := iblk m c 7 t
abbrev gB (c : Dev nD) (t : Fin cfg0.N) : Vec Ideal S1x256 .f32 := iblk m c 8 t
abbrev bB (c : Dev nD) (t : Fin cfg0.N) : Vec Ideal S1x256 .f32 := iblk m c 9 t
abbrev wcB (c : Dev nD) (t : Fin cfg0.N) : Vec Ideal S256x1024 .bf16 := iblk m c 10 t
abbrev bgB (c : Dev nD) (t : Fin cfg0.N) : Vec Ideal S1x3072 .f32 := iblk m c 11 t
abbrev wmB (c : Dev nD) (t : Fin cfg0.N) : Vec Ideal S1024x1024 .bf16 := iblk m c 12 t
abbrev gfB (c : Dev nD) (t : Fin cfg0.N) : Vec Ideal S1x1024 .f32 := iblk m c 13 t

theorem host_wa (c : Dev nD) : (V m c main_v0 : S512x1024.Idx → EReal) = waA m c := rfl
theorem host_ws (c : Dev nD) : (V m c main_v1 : S256x2048.Idx → EReal) = wsA m c := rfl
theorem host_bs (c : Dev nD) : (V m c main_v2 : S1x2048.Idx → EReal) = shapeCast S1x2048 (bsA m c) shapeCasts_S2048_S1x2048 := rfl
theorem host_g (c : Dev nD) : (V m c main_v3 : S1x256.Idx → EReal) = shapeCast S1x256 (gA m c) shapeCasts_S256_S1x256 := rfl
theorem host_b (c : Dev nD) : (V m c main_v4 : S1x256.Idx → EReal) = shapeCast S1x256 (bA m c) shapeCasts_S256_S1x256 := rfl
theorem host_wc (c : Dev nD) : (V m c main_v5 : S256x1024.Idx → EReal) = wcA m c := rfl
theorem host_bg (c : Dev nD) : (V m c main_v6 : S1x3072.Idx → EReal) = shapeCast S1x3072 (bgA m c) shapeCasts_S3072_S1x3072 := rfl
theorem host_wm (c : Dev nD) : (V m c main_v7 : S1024x1024.Idx → EReal) = wmA m c := rfl
theorem host_gf (c : Dev nD) : (V m c main_v8 : S1x1024.Idx → EReal) = shapeCast S1x1024 (gfA m c) shapeCasts_S1024_S1x1024 := rfl

theorem row256_apply (g : Vec Ideal S256 .f32) (l : Fin 256) : shapeCast S1x256 g shapeCasts_S256_S1x256 (ix2 0 l) = g (ix1 l) := by
  pointwise []
theorem row1024_apply (g : Vec Ideal S1024 .f32) (l : Fin 1024) : shapeCast S1x1024 g shapeCasts_S1024_S1x1024 (ix2 0 l) = g (ix1 l) := by
  pointwise []
theorem row2048_apply (g : Vec Ideal S2048 .f32) (l : Fin 2048) : shapeCast S1x2048 g shapeCasts_S2048_S1x2048 (ix2 0 l) = g (ix1 l) := by
  pointwise []
theorem row3072_apply (g : Vec Ideal S3072 .f32) (l : Fin 3072) : shapeCast S1x3072 g shapeCasts_S3072_S1x3072 (ix2 0 l) = g (ix1 l) := by
  pointwise []

theorem blocks : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

theorem x_apply (c : Dev nD) (t : Fin cfg0.N) (r : Fin 512) (k : Fin 1024) (r' : Fin 8192) (h : r'.val = t.val * 512 + r.val) :
    xB m c t (ix2 r k) = xA m c (ix2 r' k) := by
  obtain ⟨⟨e0, e1⟩, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

theorem ya_apply (c : Dev nD) (t : Fin cfg0.N) (r : Fin 512) (k : Fin 512) (r' : Fin 8192) (h : r'.val = t.val * 512 + r.val) :
    yaB m c t (ix2 r k) = yaA m c (ix2 r' k) := by
  obtain ⟨-, ⟨e0, e1⟩, -⟩ := blocks t
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = r'.val; omega
  | ⟨1, _⟩ => show win0_1.index t (1 : Fin 2) * 512 + 1 * k.val = k.val; omega

theorem ys_apply (c : Dev nD) (t : Fin cfg0.N) (r : Fin 512) (k : Fin 256) (r' : Fin 8192) (h : r'.val = t.val * 512 + r.val) :
    ysB m c t (ix2 r k) = ysA m c (ix2 r' k) := by
  obtain ⟨-, -, ⟨e0, e1⟩, -⟩ := blocks t
  show V m c main_arg2 (((cfg0.win 2).blk t).view.emb (ix2 r k)) = _
  rw [V_main_arg2]
  refine congrArg _ (funext fun a => Fin.ext ?_)
  match a with
  | ⟨0, _⟩ => show win0_2.index t (0 : Fin 2) * 512 + 1 * r.val = r'.val; omega
  | ⟨1, _⟩ => show win0_2.index t (1 : Fin 2) * 256 + 1 * k.val = k.val; omega

theorem v_apply (c : Dev nD) (t : Fin cfg0.N) (r : Fin 512) (k : Fin 256) (r' : Fin 8192) (h : r'.val = t.val * 512 + r.val) :
    vB m c t (ix2 r k) = vA m c (ix2 r' k) := by
  obtain ⟨-, -, -, ⟨e0, e1⟩, -⟩ := blocks t
  show V m c main_arg3 (((cfg0.win 3).blk t).view.emb (ix2 r k)) = _
  rw [V_main_arg3]
  refine congrArg _ (funext fun a => Fin.ext ?_)
  match a with
  | ⟨0, _⟩ => show win0_3.index t (0 : Fin 2) * 512 + 1 * r.val = r'.val; omega
  | ⟨1, _⟩ => show win0_3.index t (1 : Fin 2) * 256 + 1 * k.val = k.val; omega

theorem z_apply (c : Dev nD) (t : Fin cfg0.N) (r : Fin 512) (k : Fin 3072) (r' : Fin 8192) (h : r'.val = t.val * 512 + r.val) :
    zB m c t (ix2 r k) = zA m c (ix2 r' ⟨k.val, by omega⟩) := by
  obtain ⟨-, -, -, -, ⟨e0, e1⟩, -⟩ := blocks t
  unfold zB X0_4 Pipeline.Window.fill
  rw [dif_pos (moved0_4 t _)]
  show V m c main_arg4 (((cfg0.win 4).blk t).view.emb _) = _
  rw [V_main_arg4]
  refine congrArg _ (funext fun a => Fin.ext ?_)
  match a with
  | ⟨0, _⟩ => show win0_4.index t (0 : Fin 2) * 512 + 1 * r.val = r'.val; omega
  | ⟨1, _⟩ => show win0_4.index t (1 : Fin 2) * 3072 + 1 * k.val = k.val; omega

theorem wa_apply (c : Dev nD) (t : Fin cfg0.N) (k : Fin 512) (l : Fin 1024) : waB m c t (ix2 k l) = waA m c (ix2 k l) := by
  obtain ⟨-, -, -, -, -, ⟨e0, e1⟩, -⟩ := blocks t
  refine Eq.trans ?_ (congrFun (host_wa m c) (ix2 k l))
  show V m c main_v0 (((cfg0.win 5).blk t).view.emb (ix2 k l)) = _
  refine congrArg _ (funext fun a => Fin.ext ?_)
  match a with
  | ⟨0, _⟩ => show win0_5.index t (0 : Fin 2) * 512 + 1 * k.val = k.val; omega
  | ⟨1, _⟩ => show win0_5.index t (1 : Fin 2) * 1024 + 1 * l.val = l.val; omega

theorem ws_apply (c : Dev nD) (t : Fin cfg0.N) (k : Fin 256) (l : Fin 2048) : wsB m c t (ix2 k l) = wsA m c (ix2 k l) := by
  obtain ⟨-, -, -, -, -, -, ⟨e0, e1⟩, -⟩ := blocks t
  refine Eq.trans ?_ (congrFun (host_ws m c) (ix2 k l))
  show V m c main_v1 (((cfg0.win 6).blk t).view.emb (ix2 k l)) = _
  refine congrArg _ (funext fun a => Fin.ext ?_)
  match a with
  | ⟨0, _⟩ => show win0_6.index t (0 : Fin 2) * 256 + 1 * k.val = k.val; omega
  | ⟨1, _⟩ => show win0_6.index t (1 : Fin 2) * 2048 + 1 * l.val = l.val; omega

theorem bs_apply (c : Dev nD) (t : Fin cfg0.N) (l : Fin 2048) : bsB m c t (ix2 0 l) = bsA m c (ix1 l) := by
  obtain ⟨-, -, -, -, -, -, -, ⟨e0, e1⟩, -⟩ := blocks t
  refine Eq.trans ?_ ((congrFun (host_bs m c) (ix2 0 l)).trans (row2048_apply _ l))
  show V m c main_v2 (((cfg0.win 7).blk t).view.emb (ix2 0 l)) = _
  refine congrArg _ (funext fun a => Fin.ext ?_)
  match a with
  | ⟨0, _⟩ => show win0_7.index t (0 : Fin 2) * 1 + 1 * 0 = 0; omega
  | ⟨1, _⟩ => show win0_7.index t (1 : Fin 2) * 2048 + 1 * l.val = l.val; omega

theorem g_apply (c : Dev nD) (t : Fin cfg0.N) (l : Fin 256) : gB m c t (ix2 0 l) = gA m c (ix1 l) := by
  obtain ⟨-, -, -, -, -, -, -, -, ⟨e0, e1⟩, -⟩ := blocks t
  refine Eq.trans ?_ ((congrFun (host_g m c) (ix2 0 l)).trans (row256_apply _ l))
  show V m c main_v3 (((cfg0.win 8).blk t).view.emb (ix2 0 l)) = _
  refine congrArg _ (funext fun a => Fin.ext ?_)
  match a with
  | ⟨0, _⟩ => show win0_8.index t (0 : Fin 2) * 1 + 1 * 0 = 0; omega
  | ⟨1, _⟩ => show win0_8.index t (1 : Fin 2) * 256 + 1 * l.val = l.val; omega

theorem b_apply (c : Dev nD) (t : Fin cfg0.N) (l : Fin 256) : bB m c t (ix2 0 l) = bA m c (ix1 l) := by
  obtain ⟨-, -, -, -, -, -, -, -, -, ⟨e0, e1⟩, -⟩ := blocks t
  refine Eq.trans ?_ ((congrFun (host_b m c) (ix2 0 l)).trans (row256_apply _ l))
  show V m c main_v4 (((cfg0.win 9).blk t).view.emb (ix2 0 l)) = _
  refine congrArg _ (funext fun a => Fin.ext ?_)
  match a with
  | ⟨0, _⟩ => show win0_9.index t (0 : Fin 2) * 1 + 1 * 0 = 0; omega
  | ⟨1, _⟩ => show win0_9.index t (1 : Fin 2) * 256 + 1 * l.val = l.val; omega

theorem wc_apply (c : Dev nD) (t : Fin cfg0.N) (k : Fin 256) (l : Fin 1024) : wcB m c t (ix2 k l) = wcA m c (ix2 k l) := by
  obtain ⟨-, -, -, -, -, -, -, -, -, -, ⟨e0, e1⟩, -⟩ := blocks t
  refine Eq.trans ?_ (congrFun (host_wc m c) (ix2 k l))
  show V m c main_v5 (((cfg0.win 10).blk t).view.emb (ix2 k l)) = _
  refine congrArg _ (funext fun a => Fin.ext ?_)
  match a with
  | ⟨0, _⟩ => show win0_10.index t (0 : Fin 2) * 256 + 1 * k.val = k.val; omega
  | ⟨1, _⟩ => show win0_10.index t (1 : Fin 2) * 1024 + 1 * l.val = l.val; omega

theorem bg_apply (c : Dev nD) (t : Fin cfg0.N) (l : Fin 3072) : bgB m c t (ix2 0 l) = bgA m c (ix1 l) := by
  obtain ⟨-, -, -, -, -, -, -, -, -, -, -, ⟨e0, e1⟩, -⟩ := blocks t
  refine Eq.trans ?_ ((congrFun (host_bg m c) (ix2 0 l)).trans (row3072_apply _ l))
  show V m c main_v6 (((cfg0.win 11).blk t).view.emb (ix2 0 l)) = _
  refine congrArg _ (funext fun a => Fin.ext ?_)
  match a with
  | ⟨0, _⟩ => show win0_11.index t (0 : Fin 2) * 1 + 1 * 0 = 0; omega
  | ⟨1, _⟩ => show win0_11.index t (1 : Fin 2) * 3072 + 1 * l.val = l.val; omega

theorem wm_apply (c : Dev nD) (t : Fin cfg0.N) (k : Fin 1024) (l : Fin 1024) : wmB m c t (ix2 k l) = wmA m c (ix2 k l) := by
  obtain ⟨-, -, -, -, -, -, -, -, -, -, -, -, ⟨e0, e1⟩, -⟩ := blocks t
  refine Eq.trans ?_ (congrFun (host_wm m c) (ix2 k l))
  show V m c main_v7 (((cfg0.win 12).blk t).view.emb (ix2 k l)) = _
  refine congrArg _ (funext fun a => Fin.ext ?_)
  match a with
  | ⟨0, _⟩ => show win0_12.index t (0 : Fin 2) * 1024 + 1 * k.val = k.val; omega
  | ⟨1, _⟩ => show win0_12.index t (1 : Fin 2) * 1024 + 1 * l.val = l.val; omega

theorem gf_apply (c : Dev nD) (t : Fin cfg0.N) (l : Fin 1024) : gfB m c t (ix2 0 l) = gfA m c (ix1 l) := by
  obtain ⟨-, -, -, -, -, -, -, -, -, -, -, -, -, ⟨e0, e1⟩, -⟩ := blocks t
  refine Eq.trans ?_ ((congrFun (host_gf m c) (ix2 0 l)).trans (row1024_apply _ l))
  show V m c main_v8 (((cfg0.win 13).blk t).view.emb (ix2 0 l)) = _
  refine congrArg _ (funext fun a => Fin.ext ?_)
  match a with
  | ⟨0, _⟩ => show win0_13.index t (0 : Fin 2) * 1 + 1 * 0 = 0; omega
  | ⟨1, _⟩ => show win0_13.index t (1 : Fin 2) * 1024 + 1 * l.val = l.val; omega

/-- A point's block of the first result. -/
def outB (c : Dev nD) (t : Fin cfg0.N) : FVec Ideal S512x1024 .f32 :=
  k0_pay1 (xB m c t) (zB m c t) (k0_pay6 (bgB m c t)) (k0_pay10 (wmB m c t)) (k0_pay13 (k0_pay11 (yaB m c t)) (k0_pay12 (waB m c t)) (constant S512x1024 .f32 0x00000000#32))
    (k0_pay14 (ysB m c t) (k0_pay3 (bsB m c t)) (k0_pay8 (wsB m c t))) (k0_pay15 (vB m c t) (k0_pay4 (gB m c t)) (k0_pay5 (bB m c t))) (k0_pay16 (k0_pay9 (wcB m c t)))
    (constant S512x1024 .f32 0x00000000#32)

theorem out_block (c : Dev nD) (t : Fin cfg0.N) : (outsAt0 m c t).1 = outB m c t := by
  unfold outsAt0
  dsimp only
  unfold out0_A_14
  rw [View.read_writes_eq_canon _ _ _ (fun y => cover0_A_14 (y := y) ..)]
  unfold kernelRun0_A
  dsimp only
  sl_unfold_words
  rw [View.canon_unit_zero (S := S512x1024) hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread,
    View.ld_unit_zero (S := S512x1024) hz, View.ld_unit_zero (S := S512x3072) hz, View.ld_unit_zero (S := S1x3072) hz, View.ld_unit_zero (S := S1024x1024) hz, View.ld_unit_zero (S := S512x512) hz, View.ld_unit_zero (S := S512x256) hz, View.ld_unit_zero (S := S1x2048) hz, View.ld_unit_zero (S := S256x2048) hz, View.ld_unit_zero (S := S1x256) hz, View.ld_unit_zero (S := S256x1024) hz, View.ld_unit_zero (S := S1x1024) hz]
  rfl

/-- A point's block of the second result. -/
def hfB (c : Dev nD) (t : Fin cfg0.N) : FVec Ideal S512x1024 .bf16 :=
  k0_pay2 (xB m c t) (zB m c t) (k0_pay6 (bgB m c t)) (k0_pay7 (gfB m c t)) (k0_pay10 (wmB m c t))
    (k0_pay13 (k0_pay11 (yaB m c t)) (k0_pay12 (waB m c t)) (constant S512x1024 .f32 0x00000000#32))
    (k0_pay14 (ysB m c t) (k0_pay3 (bsB m c t)) (k0_pay8 (wsB m c t))) (k0_pay15 (vB m c t) (k0_pay4 (gB m c t)) (k0_pay5 (bB m c t))) (k0_pay16 (k0_pay9 (wcB m c t)))
    (constant S512x1024 .f32 0x00000000#32)

theorem hf_block (c : Dev nD) (t : Fin cfg0.N) : (outsAt0 m c t).2 = hfB m c t := by
  unfold outsAt0
  dsimp only
  unfold out0_A_15
  rw [View.read_writes_eq_canon _ _ _ (fun y => cover0_A_15 (y := y) ..)]
  unfold kernelRun0_A
  dsimp only
  sl_unfold_words
  rw [View.canon_unit_zero (S := S512x1024) hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread,
    View.ld_unit_zero (S := S512x1024) hz, View.ld_unit_zero (S := S512x3072) hz, View.ld_unit_zero (S := S1x3072) hz, View.ld_unit_zero (S := S1024x1024) hz, View.ld_unit_zero (S := S512x512) hz, View.ld_unit_zero (S := S512x256) hz, View.ld_unit_zero (S := S1x2048) hz, View.ld_unit_zero (S := S256x2048) hz, View.ld_unit_zero (S := S1x256) hz, View.ld_unit_zero (S := S256x1024) hz, View.ld_unit_zero (S := S1x1024) hz]
  rfl

theorem outB_apply (c : Dev nD) (t : Fin cfg0.N) (r : Fin 512) (l : Fin 1024) (r' : Fin 8192) (h : r'.val = t.val * 512 + r.val) :
    outB m c t (ix2 r l) = Cert.Reference13Ideal.Read.val_main_v77 (F := Ideal) (xA m c) (yaA m c) (ysA m c) (vA m c) (zA m c) (waA m c) (wsA m c) (bsA m c) (gA m c) (bA m c) (wcA m c) (bgA m c) (wmA m c) (ix2 r' l) := by
  unfold outB
  rw [out_apply, ref_out]
  simp only [attn_apply, ssm_apply, conv_apply, x_apply m c t r _ r' h, ya_apply m c t r _ r' h, ys_apply m c t r _ r' h, v_apply m c t r _ r' h,
    z_apply m c t r _ r' h, wa_apply, ws_apply, bs_apply, g_apply, b_apply, wc_apply, bg_apply, wm_apply, mix]

theorem hfB_apply (c : Dev nD) (t : Fin cfg0.N) (r : Fin 512) (l : Fin 1024) (r' : Fin 8192) (h : r'.val = t.val * 512 + r.val) :
    hfB m c t (ix2 r l) = Cert.Reference13Ideal.Read.val_main_v91 (F := Ideal) (xA m c) (yaA m c) (ysA m c) (vA m c) (zA m c) (waA m c) (wsA m c) (bsA m c) (gA m c) (bA m c) (wcA m c) (bgA m c) (wmA m c) (gfA m c) (ix2 r' l) := by
  unfold hfB
  rw [hf_apply, ref_hf]
  exact congrArg₂ (fun x g => normed x g l) (funext fun k => outB_apply m c t r k r' h) (funext fun k => gf_apply m c t k)

/-! ## The arrays -/

/-- The point that a row belongs to, and its place there. -/
def pt (r : Fin 8192) : Fin cfg0.N := ⟨r.val / 512, by have h : cfg0.N = 16 := N_0; omega⟩
def row (r : Fin 8192) : Fin 512 := ⟨r.val % 512, Nat.mod_lt _ (by decide)⟩

theorem row_eq (r : Fin 8192) : r.val = (pt r).val * 512 + (row r).val := by
  show r.val = r.val / 512 * 512 + r.val % 512; omega

/-- The kernel's arrays are the reference's. -/
theorem value_out (c : Dev nD) :
    (dats m 0 c).arrAt 14 cfg0.N = Cert.Reference13Ideal.Read.val_main_v77 (F := Ideal) (xA m c) (yaA m c) (ysA m c) (vA m c) (zA m c) (waA m c) (wsA m c) (bsA m c) (gA m c) (bA m c) (wcA m c) (bgA m c) (wmA m c) := by
  funext i
  obtain ⟨r, l, rfl⟩ : ∃ (r : Fin 8192) (l : Fin 1024), i = ix2 r l := ⟨i 0, i 1, (ix2_eta i).symm⟩
  have hr := row_eq r
  obtain ⟨-, -, -, -, -, -, -, -, -, -, -, -, -, -, ⟨e0, e1⟩, -⟩ := blocks (pt r)
  have hi : (ix2 r l : S8192x1024.Idx) = ((cfg0.win 14).blk (pt r)).view.emb (ix2 (row r) l) := by
    refine funext fun a => Fin.ext ?_
    match a with
    | ⟨0, _⟩ => show r.val = win0_14.index (pt r) (0 : Fin 2) * 512 + 1 * (row r).val; omega
    | ⟨1, _⟩ => show l.val = win0_14.index (pt r) (1 : Fin 2) * 1024 + 1 * l.val; omega
  refine (congrArg _ hi).trans (((dats m 0 c).arrAt_emb_eq_flushed 14 disjoint14 (pt r) (flush0_14 _) (ix2 (row r) l)).trans ?_)
  rw [flushed14]
  exact (congrFun (out_block m c (pt r)) (ix2 (row r) l)).trans (outB_apply m c (pt r) (row r) l r hr)

theorem value_hf (c : Dev nD) :
    (dats m 0 c).arrAt 15 cfg0.N = Cert.Reference13Ideal.Read.val_main_v91 (F := Ideal) (xA m c) (yaA m c) (ysA m c) (vA m c) (zA m c) (waA m c) (wsA m c) (bsA m c) (gA m c) (bA m c) (wcA m c) (bgA m c) (wmA m c) (gfA m c) := by
  funext i
  obtain ⟨r, l, rfl⟩ : ∃ (r : Fin 8192) (l : Fin 1024), i = ix2 r l := ⟨i 0, i 1, (ix2_eta i).symm⟩
  have hr := row_eq r
  obtain ⟨-, -, -, -, -, -, -, -, -, -, -, -, -, -, -, e0, e1⟩ := blocks (pt r)
  have hi : (ix2 r l : S8192x1024.Idx) = ((cfg0.win 15).blk (pt r)).view.emb (ix2 (row r) l) := by
    refine funext fun a => Fin.ext ?_
    match a with
    | ⟨0, _⟩ => show r.val = win0_15.index (pt r) (0 : Fin 2) * 512 + 1 * (row r).val; omega
    | ⟨1, _⟩ => show l.val = win0_15.index (pt r) (1 : Fin 2) * 1024 + 1 * l.val; omega
  refine (congrArg _ hi).trans (((dats m 0 c).arrAt_emb_eq_flushed 15 disjoint15 (pt r) (flush0_15 _) (ix2 (row r) l)).trans ?_)
  rw [flushed15]
  exact (congrFun (hf_block m c (pt r)) (ix2 (row r) l)).trans (hfB_apply m c (pt r) (row r) l r hr)

end Cert.Merge13
-- ==== Proof.MergeGrad14.lean ====
module

public import proofs.«01_k».proof.Proof.Gen.Kernel14Ideal.Frame.Runs
public import Idealize.ShloMosaic.Lib.Claim
public import Idealize.ShloMosaic.Lib.Pipeline.ValueKit.Tiles

@[expose] public section

set_option maxRecDepth 16384

noncomputable section

/-! `merge_bwd`: one point of the grid is a tile of 256 rows. Its five row results are stored whole; the nine weights'
    gradients stay in their buffers over the whole grid, zeroed at the first point and added to at every point. -/

namespace Cert.MergeGrad

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A point's values -/

/-- A point's blocks: seven tiles of rows, and nine weights. -/
structure Tile (F : FTy → Type) where
  x : Vec F S256x1024 .f32
  ya : Vec F S256x512 .bf16
  ys : Vec F S256x256 .f32
  v : Vec F S256x256 .f32
  z : Vec F S256x3072 .f32
  d2 : Vec F S256x1024 .f32
  dh : Vec F S256x1024 .f32
  wa : Vec F S512x1024 .bf16
  ws : Vec F S256x2048 .bf16
  bs : Vec F S1x2048 .f32
  g : Vec F S1x256 .f32
  b : Vec F S1x256 .f32
  wc : Vec F S256x1024 .bf16
  bg : Vec F S1x3072 .f32
  wm : Vec F S1024x1024 .bf16
  gf : Vec F S1x1024 .f32

/-- The gradients of the nine weights, as far as they are summed. -/
structure Acc (F : FTy → Type) where
  wa : Vec F S512x1024 .f32
  ws : Vec F S256x2048 .f32
  bs : Vec F S1x2048 .f32
  g : Vec F S1x256 .f32
  b : Vec F S1x256 .f32
  wc : Vec F S256x1024 .f32
  bg : Vec F S1x3072 .f32
  wm : Vec F S1024x1024 .f32
  gf : Vec F S1x1024 .f32

section Values

variable (T : Tile F)

abbrev c0 : F .f32 := Scalar.ofBits .f32 0x3F4C422A#32
abbrev c1 : Vec F S256x256 .f32 := constant S256x256 .f32 0x00000000#32

/-- The gradient of the merge's sum: the residual's, and the norm's. -/
def dRes : Vec F S256x1024 .f32 := k0_pay17 T.x T.d2 T.dh (k0_pay8 T.gf)
def dGf : Vec F S1x1024 .f32 := k0_pay16 T.x T.dh
/-- The three branches, and what their derivatives use. -/
def attn : Vec F S256x1024 .f32 := k0_pay18 (k0_pay9 T.ya) (k0_pay10 T.wa)
def gluA : Vec F S256x1024 .f32 := k0_pay26 T.ys (k0_pay2 T.bs) (k0_pay11 (k0_pay1 T.ws)) (k0_pay20 T.ys) c0
def gluS : Vec F S256x1024 .f32 := k0_pay27 T.ys (k0_pay2 T.bs) (k0_pay11 (k0_pay1 T.ws)) (k0_pay20 T.ys) c0
def gluD : Vec F S256x1024 .f32 := k0_pay28 T.ys (k0_pay2 T.bs) (k0_pay11 (k0_pay1 T.ws)) (k0_pay20 T.ys) c0
def ssm : Vec F S256x1024 .f32 := k0_pay29 T.ys (k0_pay2 T.bs) (k0_pay11 (k0_pay1 T.ws)) (k0_pay20 T.ys) c0
def nrm : Vec F S256x256 .f32 := k0_pay38 (k0_pay33 T.v) (k0_pay37 T.v)
def ln : Vec F S256x256 .f32 := k0_pay39 (k0_pay3 T.g) (k0_pay4 T.b) (k0_pay33 T.v) (k0_pay37 T.v)
def sl : Vec F S256x256 .f32 := k0_pay40 (k0_pay3 T.g) (k0_pay4 T.b) (k0_pay33 T.v) (k0_pay37 T.v)
def slD : Vec F S256x256 .f32 := k0_pay41 (k0_pay3 T.g) (k0_pay4 T.b) (k0_pay33 T.v) (k0_pay37 T.v)
def conv : Vec F S256x256 .f32 := k0_pay42 (k0_pay3 T.g) (k0_pay4 T.b) (k0_pay33 T.v) (k0_pay37 T.v)
def merged : Vec F S256x1024 .f32 := k0_pay48 T.z (k0_pay3 T.g) (k0_pay4 T.b) (k0_pay6 T.bg) (k0_pay12 (k0_pay5 T.wc)) (attn T) (ssm T) (k0_pay33 T.v) (k0_pay37 T.v)
/-- The branches' gradients, and the gates'. -/
def dConv : Vec F S256x1024 .f32 := k0_pay50 T.z (k0_pay6 T.bg) (k0_pay13 (k0_pay7 T.wm)) (dRes T)
def dSsm : Vec F S256x1024 .f32 := k0_pay51 T.z (k0_pay6 T.bg) (k0_pay13 (k0_pay7 T.wm)) (dRes T)
def dAttn : Vec F S256x1024 .f32 := k0_pay52 T.z (k0_pay6 T.bg) (k0_pay13 (k0_pay7 T.wm)) (dRes T)
def dGate : Vec F S256x3072 .f32 := k0_pay53 T.z (k0_pay3 T.g) (k0_pay4 T.b) (k0_pay6 T.bg) (k0_pay12 (k0_pay5 T.wc)) (k0_pay13 (k0_pay7 T.wm)) (dRes T) (attn T) (ssm T) (k0_pay33 T.v) (k0_pay37 T.v)
def dBg : Vec F S1x3072 .f32 := k0_pay54 T.z (k0_pay3 T.g) (k0_pay4 T.b) (k0_pay6 T.bg) (k0_pay12 (k0_pay5 T.wc)) (k0_pay13 (k0_pay7 T.wm)) (dRes T) (attn T) (ssm T) (k0_pay33 T.v) (k0_pay37 T.v)
def dConv16 : Vec F S256x1024 .bf16 := k0_pay55 T.z (k0_pay6 T.bg) (k0_pay13 (k0_pay7 T.wm)) (dRes T)
/-- The convolution branch's. -/
def dWc : Vec F S256x1024 .f32 := k0_pay57 (conv T) (dConv T)
def dB : Vec F S1x256 .f32 := k0_pay59 (ln T) (sl T) (slD T) (dConv16 T) (k0_pay56 (k0_pay12 (k0_pay5 T.wc))) c1
def dG : Vec F S1x256 .f32 := k0_pay60 (nrm T) (ln T) (sl T) (slD T) (dConv16 T) (k0_pay56 (k0_pay12 (k0_pay5 T.wc))) c1
def dV : Vec F S256x256 .f32 := k0_pay61 (k0_pay3 T.g) (k0_pay32 T.v) (k0_pay33 T.v) (k0_pay35 T.v) (k0_pay36 T.v) (ln T) (sl T) (slD T) (dConv16 T) (k0_pay56 (k0_pay12 (k0_pay5 T.wc))) c1
/-- The S5 branch's. -/
def dA : Vec F S256x1024 .f32 := k0_pay62 (gluS T) (dSsm T)
def dS : Vec F S256x1024 .f32 := k0_pay63 (gluA T) (gluD T) (dSsm T)
def dBs : Vec F S1x2048 .f32 := k0_pay66 (dA T) (dS T) k0_pay64
def dWs : Vec F S256x2048 .f32 := k0_pay67 (k0_pay24 T.ys (k0_pay20 T.ys) c0) (dA T) (dS T) k0_pay64
def dYs : Vec F S256x256 .f32 := k0_pay68 T.ys (k0_pay11 (k0_pay1 T.ws)) (k0_pay19 T.ys) (k0_pay22 (k0_pay20 T.ys) c0) (k0_pay23 (k0_pay20 T.ys) c0) (dA T) (dS T) k0_pay64
/-- The attention branch's, and the mixing weight's. -/
def dWa : Vec F S512x1024 .f32 := k0_pay69 (k0_pay9 T.ya) (dAttn T)
def dWm : Vec F S1024x1024 .f32 := k0_pay70 (dRes T) (merged T)
def dYa : Vec F S256x512 .bf16 := k0_pay71 (k0_pay10 T.wa) (dAttn T)
def dZ : Vec F S256x3072 .bf16 := k0_pay72 (dGate T)

end Values

/-- Every sum at zero. -/
def zeros : Acc F := ⟨k0_pay73, k0_pay75, k0_pay77, k0_pay79, k0_pay81, k0_pay83, k0_pay85, k0_pay87, k0_pay89⟩

/-- A point adds its tile's terms. -/
def step (T : Tile F) (A : Acc F) : Acc F :=
  ⟨k0_pay74 (dWa T) A.wa, k0_pay76 (dWs T) A.ws, k0_pay78 (dBs T) A.bs, k0_pay80 (dG T) A.g, k0_pay82 (dB T) A.b, k0_pay84 (dWc T) A.wc, k0_pay86 (dBg T) A.bg, k0_pay88 (dWm T) A.wm, k0_pay90 (dGf T) A.gf⟩

/-! ## The body -/

section Runs

variable (c : Dev nD) (i : grid0.Coords)
  (arg1 : Memref sig .tc .vmem S256x1024 .f32) (harg1 : arg1.IsWhole)
  (arg2 : Memref sig .tc .vmem S256x512 .bf16) (harg2 : arg2.IsWhole)
  (arg3 : Memref sig .tc .vmem S256x256 .f32) (harg3 : arg3.IsWhole)
  (arg4 : Memref sig .tc .vmem S256x256 .f32) (harg4 : arg4.IsWhole)
  (arg5 : Memref sig .tc .vmem S256x3072 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S512x1024 .bf16) (harg8 : arg8.IsWhole)
  (arg9 : Memref sig .tc .vmem S256x2048 .bf16) (harg9 : arg9.IsWhole)
  (arg10 : Memref sig .tc .vmem S1x2048 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S256x1024 .bf16) (harg13 : arg13.IsWhole)
  (arg14 : Memref sig .tc .vmem S1x3072 .f32) (harg14 : arg14.IsWhole)
  (arg15 : Memref sig .tc .vmem S1024x1024 .bf16) (harg15 : arg15.IsWhole)
  (arg16 : Memref sig .tc .vmem S1x1024 .f32) (harg16 : arg16.IsWhole)
  (arg18 : Memref sig .tc .vmem S256x1024 .f32) (harg18 : arg18.IsWhole)
  (arg19 : Memref sig .tc .vmem S256x512 .bf16) (harg19 : arg19.IsWhole)
  (arg20 : Memref sig .tc .vmem S256x256 .f32) (harg20 : arg20.IsWhole)
  (arg21 : Memref sig .tc .vmem S256x256 .f32) (harg21 : arg21.IsWhole)
  (arg22 : Memref sig .tc .vmem S256x3072 .bf16) (harg22 : arg22.IsWhole)
  (arg23 : Memref sig .tc .vmem S512x1024 .f32) (harg23 : arg23.IsWhole)
  (arg24 : Memref sig .tc .vmem S256x2048 .f32) (harg24 : arg24.IsWhole)
  (arg25 : Memref sig .tc .vmem S1x2048 .f32) (harg25 : arg25.IsWhole)
  (arg26 : Memref sig .tc .vmem S1x256 .f32) (harg26 : arg26.IsWhole)
  (arg27 : Memref sig .tc .vmem S1x256 .f32) (harg27 : arg27.IsWhole)
  (arg28 : Memref sig .tc .vmem S256x1024 .f32) (harg28 : arg28.IsWhole)
  (arg29 : Memref sig .tc .vmem S1x3072 .f32) (harg29 : arg29.IsWhole)
  (arg30 : Memref sig .tc .vmem S1024x1024 .f32) (harg30 : arg30.IsWhole)
  (arg31 : Memref sig .tc .vmem S1x1024 .f32) (harg31 : arg31.IsWhole)
  (T : Tile F) (A : Acc F)

theorem hz : (![0, 0] : Fin 2 → ℕ) = fun _ => 0 := by decide

/-- The branches are taken at the first point. -/
abbrev first (i : grid0.Coords) : Prop := cond0_0 i

set_option maxHeartbeats 6000000 in
theorem run_first (hc : first i) (E : Set ℕ) (K : PUnit → sProp 𝕄) :
    iprop(owns (c : Thread nD τ) arg1 fullShare T.x ∗ owns (c : Thread nD τ) arg2 fullShare T.ya ∗ owns (c : Thread nD τ) arg3 fullShare T.ys ∗ owns (c : Thread nD τ) arg4 fullShare T.v
        ∗ owns (c : Thread nD τ) arg5 fullShare T.z ∗ owns (c : Thread nD τ) arg6 fullShare T.d2 ∗ owns (c : Thread nD τ) arg7 fullShare T.dh ∗ owns (c : Thread nD τ) arg8 fullShare T.wa
        ∗ owns (c : Thread nD τ) arg9 fullShare T.ws ∗ owns (c : Thread nD τ) arg10 fullShare T.bs ∗ owns (c : Thread nD τ) arg11 fullShare T.g ∗ owns (c : Thread nD τ) arg12 fullShare T.b
        ∗ owns (c : Thread nD τ) arg13 fullShare T.wc ∗ owns (c : Thread nD τ) arg14 fullShare T.bg ∗ owns (c : Thread nD τ) arg15 fullShare T.wm ∗ owns (c : Thread nD τ) arg16 fullShare T.gf
        ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (∃ d, owns (c : Thread nD τ) arg30 fullShare d) ∗ (∃ d, owns (c : Thread nD τ) arg31 fullShare d)
        ∗ (iprop(owns (c : Thread nD τ) arg1 fullShare T.x ∗ owns (c : Thread nD τ) arg2 fullShare T.ya ∗ owns (c : Thread nD τ) arg3 fullShare T.ys ∗ owns (c : Thread nD τ) arg4 fullShare T.v
        ∗ owns (c : Thread nD τ) arg5 fullShare T.z ∗ owns (c : Thread nD τ) arg6 fullShare T.d2 ∗ owns (c : Thread nD τ) arg7 fullShare T.dh ∗ owns (c : Thread nD τ) arg8 fullShare T.wa
        ∗ owns (c : Thread nD τ) arg9 fullShare T.ws ∗ owns (c : Thread nD τ) arg10 fullShare T.bs ∗ owns (c : Thread nD τ) arg11 fullShare T.g ∗ owns (c : Thread nD τ) arg12 fullShare T.b
        ∗ owns (c : Thread nD τ) arg13 fullShare T.wc ∗ owns (c : Thread nD τ) arg14 fullShare T.bg ∗ owns (c : Thread nD τ) arg15 fullShare T.wm ∗ owns (c : Thread nD τ) arg16 fullShare T.gf
        ∗ owns (c : Thread nD τ) arg18 fullShare (dRes T) ∗ owns (c : Thread nD τ) arg19 fullShare (dYa T) ∗ owns (c : Thread nD τ) arg20 fullShare (dYs T) ∗ owns (c : Thread nD τ) arg21 fullShare (dV T)
        ∗ owns (c : Thread nD τ) arg22 fullShare (dZ T) ∗ owns (c : Thread nD τ) arg23 fullShare (step T zeros).wa ∗ owns (c : Thread nD τ) arg24 fullShare (step T zeros).ws ∗ owns (c : Thread nD τ) arg25 fullShare (step T zeros).bs
        ∗ owns (c : Thread nD τ) arg26 fullShare (step T zeros).g ∗ owns (c : Thread nD τ) arg27 fullShare (step T zeros).b ∗ owns (c : Thread nD τ) arg28 fullShare (step T zeros).wc ∗ owns (c : Thread nD τ) arg29 fullShare (step T zeros).bg
        ∗ owns (c : Thread nD τ) arg30 fullShare (step T zeros).wm ∗ owns (c : Thread nD τ) arg31 fullShare (step T zeros).gf) -∗ K ⟨⟩))
      ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole main_arg7) (Memref.isWhole_whole _) arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_merge_bwd_eq_skeleton]; unfold cc0_merge_bwd_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, Hk⟩
  obtain rfl := harg1.eq_unread hf1; obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9; obtain rfl := harg10.eq_unread hf10
  obtain rfl := harg11.eq_unread hf11; obtain rfl := harg12.eq_unread hf12; obtain rfl := harg13.eq_unread hf13; obtain rfl := harg14.eq_unread hf14; obtain rfl := harg15.eq_unread hf15
  obtain rfl := harg16.eq_unread hf16
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H18]
  · iexists _; isplitr
    swap; · iexact H18
    ipureintro
    sl_unfold_words
    rw [View.read_writes_eq_canon _ _ _ (View.cover_of_tiledL _ S256x1024.size (by sl_kernel_rfl)), View.canon_cons_unit_zero (S := S256x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H19]
  · iexists _; isplitr
    swap; · iexact H19
    ipureintro
    sl_unfold_words
    rw [View.read_writes_eq_canon _ _ _ (View.cover_of_tiledL _ S256x512.size (by sl_kernel_rfl)), View.canon_cons_unit_zero (S := S256x512) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H20]
  · iexists _; isplitr
    swap; · iexact H20
    ipureintro
    sl_unfold_words
    rw [View.read_writes_eq_canon _ _ _ (View.cover_of_tiledL _ S256x256.size (by sl_kernel_rfl)), View.canon_cons_unit_zero (S := S256x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H21]
  · iexists _; isplitr
    swap; · iexact H21
    ipureintro
    sl_unfold_words
    rw [View.read_writes_eq_canon _ _ _ (View.cover_of_tiledL _ S256x256.size (by sl_kernel_rfl)), View.canon_cons_unit_zero (S := S256x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H22]
  · iexists _; isplitr
    swap; · iexact H22
    ipureintro
    sl_unfold_words
    rw [View.read_writes_eq_canon _ _ _ (View.cover_of_tiledL _ S256x3072.size (by sl_kernel_rfl)), View.canon_cons_unit_zero (S := S256x3072) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H23]
  · iexists _; isplitr
    swap; · iexact H23
    ipureintro
    sl_unfold_words
    rw [View.read_writes_eq_canon _ _ _ (View.cover_of_tiledL _ S512x1024.size (by sl_kernel_rfl)), View.canon_cons_unit_zero (S := S512x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H24]
  · iexists _; isplitr
    swap; · iexact H24
    ipureintro
    sl_unfold_words
    rw [View.read_writes_eq_canon _ _ _ (View.cover_of_tiledL _ S256x2048.size (by sl_kernel_rfl)), View.canon_cons_unit_zero (S := S256x2048) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H25]
  · iexists _; isplitr
    swap; · iexact H25
    ipureintro
    sl_unfold_words
    rw [View.read_writes_eq_canon _ _ _ (View.cover_of_tiledL _ S1x2048.size (by sl_kernel_rfl)), View.canon_cons_unit_zero (S := S1x2048) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H26]
  · iexists _; isplitr
    swap; · iexact H26
    ipureintro
    sl_unfold_words
    rw [View.read_writes_eq_canon _ _ _ (View.cover_of_tiledL _ S1x256.size (by sl_kernel_rfl)), View.canon_cons_unit_zero (S := S1x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H27]
  · iexists _; isplitr
    swap; · iexact H27
    ipureintro
    sl_unfold_words
    rw [View.read_writes_eq_canon _ _ _ (View.cover_of_tiledL _ S1x256.size (by sl_kernel_rfl)), View.canon_cons_unit_zero (S := S1x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H28]
  · iexists _; isplitr
    swap; · iexact H28
    ipureintro
    sl_unfold_words
    rw [View.read_writes_eq_canon _ _ _ (View.cover_of_tiledL _ S256x1024.size (by sl_kernel_rfl)), View.canon_cons_unit_zero (S := S256x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H29]
  · iexists _; isplitr
    swap; · iexact H29
    ipureintro
    sl_unfold_words
    rw [View.read_writes_eq_canon _ _ _ (View.cover_of_tiledL _ S1x3072.size (by sl_kernel_rfl)), View.canon_cons_unit_zero (S := S1x3072) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H30]
  · iexists _; isplitr
    swap; · iexact H30
    ipureintro
    sl_unfold_words
    rw [View.read_writes_eq_canon _ _ _ (View.cover_of_tiledL _ S1024x1024.size (by sl_kernel_rfl)), View.canon_cons_unit_zero (S := S1024x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  · iexists _; isplitr
    swap; · iexact H31
    ipureintro
    sl_unfold_words
    rw [View.read_writes_eq_canon _ _ _ (View.cover_of_tiledL _ S1x1024.size (by sl_kernel_rfl)), View.canon_cons_unit_zero (S := S1x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl

set_option maxHeartbeats 6000000 in
theorem run_next (hc : ¬first i) (E : Set ℕ) (K : PUnit → sProp 𝕄) :
    iprop(owns (c : Thread nD τ) arg1 fullShare T.x ∗ owns (c : Thread nD τ) arg2 fullShare T.ya ∗ owns (c : Thread nD τ) arg3 fullShare T.ys ∗ owns (c : Thread nD τ) arg4 fullShare T.v
        ∗ owns (c : Thread nD τ) arg5 fullShare T.z ∗ owns (c : Thread nD τ) arg6 fullShare T.d2 ∗ owns (c : Thread nD τ) arg7 fullShare T.dh ∗ owns (c : Thread nD τ) arg8 fullShare T.wa
        ∗ owns (c : Thread nD τ) arg9 fullShare T.ws ∗ owns (c : Thread nD τ) arg10 fullShare T.bs ∗ owns (c : Thread nD τ) arg11 fullShare T.g ∗ owns (c : Thread nD τ) arg12 fullShare T.b
        ∗ owns (c : Thread nD τ) arg13 fullShare T.wc ∗ owns (c : Thread nD τ) arg14 fullShare T.bg ∗ owns (c : Thread nD τ) arg15 fullShare T.wm ∗ owns (c : Thread nD τ) arg16 fullShare T.gf
        ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (∃ d, owns (c : Thread nD τ) arg22 fullShare d) ∗ owns (c : Thread nD τ) arg23 fullShare A.wa ∗ owns (c : Thread nD τ) arg24 fullShare A.ws ∗ owns (c : Thread nD τ) arg25 fullShare A.bs
        ∗ owns (c : Thread nD τ) arg26 fullShare A.g ∗ owns (c : Thread nD τ) arg27 fullShare A.b ∗ owns (c : Thread nD τ) arg28 fullShare A.wc ∗ owns (c : Thread nD τ) arg29 fullShare A.bg
        ∗ owns (c : Thread nD τ) arg30 fullShare A.wm ∗ owns (c : Thread nD τ) arg31 fullShare A.gf
        ∗ (iprop(owns (c : Thread nD τ) arg1 fullShare T.x ∗ owns (c : Thread nD τ) arg2 fullShare T.ya ∗ owns (c : Thread nD τ) arg3 fullShare T.ys ∗ owns (c : Thread nD τ) arg4 fullShare T.v
        ∗ owns (c : Thread nD τ) arg5 fullShare T.z ∗ owns (c : Thread nD τ) arg6 fullShare T.d2 ∗ owns (c : Thread nD τ) arg7 fullShare T.dh ∗ owns (c : Thread nD τ) arg8 fullShare T.wa
        ∗ owns (c : Thread nD τ) arg9 fullShare T.ws ∗ owns (c : Thread nD τ) arg10 fullShare T.bs ∗ owns (c : Thread nD τ) arg11 fullShare T.g ∗ owns (c : Thread nD τ) arg12 fullShare T.b
        ∗ owns (c : Thread nD τ) arg13 fullShare T.wc ∗ owns (c : Thread nD τ) arg14 fullShare T.bg ∗ owns (c : Thread nD τ) arg15 fullShare T.wm ∗ owns (c : Thread nD τ) arg16 fullShare T.gf
        ∗ owns (c : Thread nD τ) arg18 fullShare (dRes T) ∗ owns (c : Thread nD τ) arg19 fullShare (dYa T) ∗ owns (c : Thread nD τ) arg20 fullShare (dYs T) ∗ owns (c : Thread nD τ) arg21 fullShare (dV T)
        ∗ owns (c : Thread nD τ) arg22 fullShare (dZ T) ∗ owns (c : Thread nD τ) arg23 fullShare (step T A).wa ∗ owns (c : Thread nD τ) arg24 fullShare (step T A).ws ∗ owns (c : Thread nD τ) arg25 fullShare (step T A).bs
        ∗ owns (c : Thread nD τ) arg26 fullShare (step T A).g ∗ owns (c : Thread nD τ) arg27 fullShare (step T A).b ∗ owns (c : Thread nD τ) arg28 fullShare (step T A).wc ∗ owns (c : Thread nD τ) arg29 fullShare (step T A).bg
        ∗ owns (c : Thread nD τ) arg30 fullShare (step T A).wm ∗ owns (c : Thread nD τ) arg31 fullShare (step T A).gf) -∗ K ⟨⟩))
      ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole main_arg7) (Memref.isWhole_whole _) arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_merge_bwd_eq_skeleton]; unfold cc0_merge_bwd_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, Hk⟩
  obtain rfl := harg1.eq_unread hf1; obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9; obtain rfl := harg10.eq_unread hf10
  obtain rfl := harg11.eq_unread hf11; obtain rfl := harg12.eq_unread hf12; obtain rfl := harg13.eq_unread hf13; obtain rfl := harg14.eq_unread hf14; obtain rfl := harg15.eq_unread hf15
  obtain rfl := harg16.eq_unread hf16; obtain rfl := harg23.eq_unread hf23; obtain rfl := harg24.eq_unread hf24; obtain rfl := harg25.eq_unread hf25; obtain rfl := harg26.eq_unread hf26
  obtain rfl := harg27.eq_unread hf27; obtain rfl := harg28.eq_unread hf28; obtain rfl := harg29.eq_unread hf29; obtain rfl := harg30.eq_unread hf30; obtain rfl := harg31.eq_unread hf31
  sl_exec (disch := first | sl_exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H18]
  · iexists _; isplitr
    swap; · iexact H18
    ipureintro
    sl_unfold_words
    rw [View.read_writes_eq_canon _ _ _ (View.cover_of_tiledL _ S256x1024.size (by sl_kernel_rfl)), View.canon_cons_unit_zero (S := S256x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H19]
  · iexists _; isplitr
    swap; · iexact H19
    ipureintro
    sl_unfold_words
    rw [View.read_writes_eq_canon _ _ _ (View.cover_of_tiledL _ S256x512.size (by sl_kernel_rfl)), View.canon_cons_unit_zero (S := S256x512) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H20]
  · iexists _; isplitr
    swap; · iexact H20
    ipureintro
    sl_unfold_words
    rw [View.read_writes_eq_canon _ _ _ (View.cover_of_tiledL _ S256x256.size (by sl_kernel_rfl)), View.canon_cons_unit_zero (S := S256x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H21]
  · iexists _; isplitr
    swap; · iexact H21
    ipureintro
    sl_unfold_words
    rw [View.read_writes_eq_canon _ _ _ (View.cover_of_tiledL _ S256x256.size (by sl_kernel_rfl)), View.canon_cons_unit_zero (S := S256x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H22]
  · iexists _; isplitr
    swap; · iexact H22
    ipureintro
    sl_unfold_words
    rw [View.read_writes_eq_canon _ _ _ (View.cover_of_tiledL _ S256x3072.size (by sl_kernel_rfl)), View.canon_cons_unit_zero (S := S256x3072) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H23]
  · iexists _; isplitr
    swap; · iexact H23
    ipureintro
    sl_unfold_words
    rw [View.read_writes_eq_canon _ _ _ (View.cover_of_tiledL _ S512x1024.size (by sl_kernel_rfl)), View.canon_cons_unit_zero (S := S512x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H24]
  · iexists _; isplitr
    swap; · iexact H24
    ipureintro
    sl_unfold_words
    rw [View.read_writes_eq_canon _ _ _ (View.cover_of_tiledL _ S256x2048.size (by sl_kernel_rfl)), View.canon_cons_unit_zero (S := S256x2048) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H25]
  · iexists _; isplitr
    swap; · iexact H25
    ipureintro
    sl_unfold_words
    rw [View.read_writes_eq_canon _ _ _ (View.cover_of_tiledL _ S1x2048.size (by sl_kernel_rfl)), View.canon_cons_unit_zero (S := S1x2048) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H26]
  · iexists _; isplitr
    swap; · iexact H26
    ipureintro
    sl_unfold_words
    rw [View.read_writes_eq_canon _ _ _ (View.cover_of_tiledL _ S1x256.size (by sl_kernel_rfl)), View.canon_cons_unit_zero (S := S1x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H27]
  · iexists _; isplitr
    swap; · iexact H27
    ipureintro
    sl_unfold_words
    rw [View.read_writes_eq_canon _ _ _ (View.cover_of_tiledL _ S1x256.size (by sl_kernel_rfl)), View.canon_cons_unit_zero (S := S1x256) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H28]
  · iexists _; isplitr
    swap; · iexact H28
    ipureintro
    sl_unfold_words
    rw [View.read_writes_eq_canon _ _ _ (View.cover_of_tiledL _ S256x1024.size (by sl_kernel_rfl)), View.canon_cons_unit_zero (S := S256x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H29]
  · iexists _; isplitr
    swap; · iexact H29
    ipureintro
    sl_unfold_words
    rw [View.read_writes_eq_canon _ _ _ (View.cover_of_tiledL _ S1x3072.size (by sl_kernel_rfl)), View.canon_cons_unit_zero (S := S1x3072) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  isplitl [H30]
  · iexists _; isplitr
    swap; · iexact H30
    ipureintro
    sl_unfold_words
    rw [View.read_writes_eq_canon _ _ _ (View.cover_of_tiledL _ S1024x1024.size (by sl_kernel_rfl)), View.canon_cons_unit_zero (S := S1024x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl
  · iexists _; isplitr
    swap; · iexact H31
    ipureintro
    sl_unfold_words
    rw [View.read_writes_eq_canon _ _ _ (View.cover_of_tiledL _ S1x1024.size (by sl_kernel_rfl)), View.canon_cons_unit_zero (S := S1x1024) hz]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg23.read_unread, harg24.read_unread, harg25.read_unread, harg26.read_unread, harg27.read_unread, harg28.read_unread, harg29.read_unread, harg30.read_unread, harg31.read_unread,
      View.ld_unit_zero (S := S1x256) hz, View.ld_unit_zero (S := S1x1024) hz, View.ld_unit_zero (S := S1x2048) hz, View.ld_unit_zero (S := S1x3072) hz, View.ld_unit_zero (S := S256x256) hz, View.ld_unit_zero (S := S256x512) hz, View.ld_unit_zero (S := S256x1024) hz, View.ld_unit_zero (S := S256x2048) hz, View.ld_unit_zero (S := S256x3072) hz, View.ld_unit_zero (S := S512x1024) hz, View.ld_unit_zero (S := S1024x1024) hz,
      View.readCov_unit_zero (S := S1024x1024) _ hz, View.readCov_unit_zero (S := S1x1024) _ hz, View.readCov_unit_zero (S := S1x2048) _ hz, View.readCov_unit_zero (S := S1x256) _ hz, View.readCov_unit_zero (S := S1x3072) _ hz, View.readCov_unit_zero (S := S256x1024) _ hz, View.readCov_unit_zero (S := S256x2048) _ hz, View.readCov_unit_zero (S := S512x1024) _ hz]
    rfl

end Runs

end Cert.MergeGrad

end
-- ==== Proof.MergeGrad14Run.lean ====
module

public import proofs.«01_k».proof.Proof.MergeGrad14

@[expose] public section

set_option maxRecDepth 16384

noncomputable section

/-! The whole run of `merge_bwd`: what its buffers hold at each point, its end, and what its results are. -/

namespace Cert.MergeGrad

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, first (grid0.coords t) ↔ t.val % 32 = 0 := hcond0_0

/-- A point's blocks. -/
def tile (c : Dev nD) (t : Fin cfg0.N) : Tile F where
  x := iblk m c 0 t
  ya := iblk m c 1 t
  ys := iblk m c 2 t
  v := iblk m c 3 t
  z := X0_4 m c t
  d2 := iblk m c 5 t
  dh := iblk m c 6 t
  wa := iblk m c 7 t
  ws := iblk m c 8 t
  bs := iblk m c 9 t
  g := iblk m c 10 t
  b := iblk m c 11 t
  wc := iblk m c 12 t
  bg := iblk m c 13 t
  wm := iblk m c 14 t
  gf := iblk m c 15 t

/-- The sums after a point. -/
def acc (c : Dev nD) : (n : ℕ) → n < cfg0.N → Acc F
  | 0, h => step (tile m c ⟨0, h⟩) zeros
  | n + 1, h => step (tile m c ⟨n + 1, h⟩) (acc c n (Nat.lt_of_succ_lt h))

theorem acc_first (c : Dev nD) (t : Fin cfg0.N) (h : t.val = 0) : acc m c t.val t.isLt = step (tile m c t) zeros := by
  obtain ⟨n, hn⟩ := t
  cases n with
  | zero => rfl
  | succ n => exact absurd h (Nat.succ_ne_zero n)

theorem acc_next (c : Dev nD) (t : Fin cfg0.N) (h : t.val ≠ 0) :
    acc m c t.val t.isLt = step (tile m c t) (acc m c (t.val - 1) (Nat.lt_of_le_of_lt (Nat.sub_le _ _) t.isLt)) := by
  obtain ⟨n, hn⟩ := t
  cases n with
  | zero => exact absurd rfl h
  | succ n => rfl

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => (tile m c t).x
    | ⟨1, _⟩ => (tile m c t).ya
    | ⟨2, _⟩ => (tile m c t).ys
    | ⟨3, _⟩ => (tile m c t).v
    | ⟨4, _⟩ => (tile m c t).z
    | ⟨5, _⟩ => (tile m c t).d2
    | ⟨6, _⟩ => (tile m c t).dh
    | ⟨7, _⟩ => (tile m c t).wa
    | ⟨8, _⟩ => (tile m c t).ws
    | ⟨9, _⟩ => (tile m c t).bs
    | ⟨10, _⟩ => (tile m c t).g
    | ⟨11, _⟩ => (tile m c t).b
    | ⟨12, _⟩ => (tile m c t).wc
    | ⟨13, _⟩ => (tile m c t).bg
    | ⟨14, _⟩ => (tile m c t).wm
    | ⟨15, _⟩ => (tile m c t).gf
    | ⟨16, _⟩ => dRes (tile m c t)
    | ⟨17, _⟩ => dYa (tile m c t)
    | ⟨18, _⟩ => dYs (tile m c t)
    | ⟨19, _⟩ => dV (tile m c t)
    | ⟨20, _⟩ => dZ (tile m c t)
    | ⟨21, _⟩ => (acc m c t.val t.isLt).wa
    | ⟨22, _⟩ => (acc m c t.val t.isLt).ws
    | ⟨23, _⟩ => (acc m c t.val t.isLt).bs
    | ⟨24, _⟩ => (acc m c t.val t.isLt).g
    | ⟨25, _⟩ => (acc m c t.val t.isLt).b
    | ⟨26, _⟩ => (acc m c t.val t.isLt).wc
    | ⟨27, _⟩ => (acc m c t.val t.isLt).bg
    | ⟨28, _⟩ => (acc m c t.val t.isLt).wm
    | ⟨29, _⟩ => (acc m c t.val t.isLt).gf
    | ⟨_ + 30, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = (tile m c t).x := by dsimp only [dats]
theorem after_1 (c : Dev nD) (t : Fin cfg0.N) : (dats m 0 c).after 1 t = (tile m c t).ya := by dsimp only [dats]
theorem after_2 (c : Dev nD) (t : Fin cfg0.N) : (dats m 0 c).after 2 t = (tile m c t).ys := by dsimp only [dats]
theorem after_3 (c : Dev nD) (t : Fin cfg0.N) : (dats m 0 c).after 3 t = (tile m c t).v := by dsimp only [dats]
theorem after_4 (c : Dev nD) (t : Fin cfg0.N) : (dats m 0 c).after 4 t = (tile m c t).z := by dsimp only [dats]
theorem after_5 (c : Dev nD) (t : Fin cfg0.N) : (dats m 0 c).after 5 t = (tile m c t).d2 := by dsimp only [dats]
theorem after_6 (c : Dev nD) (t : Fin cfg0.N) : (dats m 0 c).after 6 t = (tile m c t).dh := by dsimp only [dats]
theorem after_7 (c : Dev nD) (t : Fin cfg0.N) : (dats m 0 c).after 7 t = (tile m c t).wa := by dsimp only [dats]
theorem after_8 (c : Dev nD) (t : Fin cfg0.N) : (dats m 0 c).after 8 t = (tile m c t).ws := by dsimp only [dats]
theorem after_9 (c : Dev nD) (t : Fin cfg0.N) : (dats m 0 c).after 9 t = (tile m c t).bs := by dsimp only [dats]
theorem after_10 (c : Dev nD) (t : Fin cfg0.N) : (dats m 0 c).after 10 t = (tile m c t).g := by dsimp only [dats]
theorem after_11 (c : Dev nD) (t : Fin cfg0.N) : (dats m 0 c).after 11 t = (tile m c t).b := by dsimp only [dats]
theorem after_12 (c : Dev nD) (t : Fin cfg0.N) : (dats m 0 c).after 12 t = (tile m c t).wc := by dsimp only [dats]
theorem after_13 (c : Dev nD) (t : Fin cfg0.N) : (dats m 0 c).after 13 t = (tile m c t).bg := by dsimp only [dats]
theorem after_14 (c : Dev nD) (t : Fin cfg0.N) : (dats m 0 c).after 14 t = (tile m c t).wm := by dsimp only [dats]
theorem after_15 (c : Dev nD) (t : Fin cfg0.N) : (dats m 0 c).after 15 t = (tile m c t).gf := by dsimp only [dats]
theorem after_16 (c : Dev nD) (t : Fin cfg0.N) : (dats m 0 c).after 16 t = dRes (tile m c t) := by dsimp only [dats]
theorem after_17 (c : Dev nD) (t : Fin cfg0.N) : (dats m 0 c).after 17 t = dYa (tile m c t) := by dsimp only [dats]
theorem after_18 (c : Dev nD) (t : Fin cfg0.N) : (dats m 0 c).after 18 t = dYs (tile m c t) := by dsimp only [dats]
theorem after_19 (c : Dev nD) (t : Fin cfg0.N) : (dats m 0 c).after 19 t = dV (tile m c t) := by dsimp only [dats]
theorem after_20 (c : Dev nD) (t : Fin cfg0.N) : (dats m 0 c).after 20 t = dZ (tile m c t) := by dsimp only [dats]
theorem after_21 (c : Dev nD) (t : Fin cfg0.N) : (dats m 0 c).after 21 t = (acc m c t.val t.isLt).wa := by dsimp only [dats]
theorem after_22 (c : Dev nD) (t : Fin cfg0.N) : (dats m 0 c).after 22 t = (acc m c t.val t.isLt).ws := by dsimp only [dats]
theorem after_23 (c : Dev nD) (t : Fin cfg0.N) : (dats m 0 c).after 23 t = (acc m c t.val t.isLt).bs := by dsimp only [dats]
theorem after_24 (c : Dev nD) (t : Fin cfg0.N) : (dats m 0 c).after 24 t = (acc m c t.val t.isLt).g := by dsimp only [dats]
theorem after_25 (c : Dev nD) (t : Fin cfg0.N) : (dats m 0 c).after 25 t = (acc m c t.val t.isLt).b := by dsimp only [dats]
theorem after_26 (c : Dev nD) (t : Fin cfg0.N) : (dats m 0 c).after 26 t = (acc m c t.val t.isLt).wc := by dsimp only [dats]
theorem after_27 (c : Dev nD) (t : Fin cfg0.N) : (dats m 0 c).after 27 t = (acc m c t.val t.isLt).bg := by dsimp only [dats]
theorem after_28 (c : Dev nD) (t : Fin cfg0.N) : (dats m 0 c).after 28 t = (acc m c t.val t.isLt).wm := by dsimp only [dats]
theorem after_29 (c : Dev nD) (t : Fin cfg0.N) : (dats m 0 c).after 29 t = (acc m c t.val t.isLt).gf := by dsimp only [dats]

theorem before_0 (c : Dev nD) (t : Fin cfg0.N) (d) : (dats m 0 c).before 0 t d = (tile m c t).x :=
  before0_0_of m (dats m 0 c) (A_eq m c 0) (fun _ => by dsimp only [dats, tile]) t d
theorem before_1 (c : Dev nD) (t : Fin cfg0.N) (d) : (dats m 0 c).before 1 t d = (tile m c t).ya :=
  before0_1_of m (dats m 0 c) (A_eq m c 1) (fun _ => by dsimp only [dats, tile]) t d
theorem before_2 (c : Dev nD) (t : Fin cfg0.N) (d) : (dats m 0 c).before 2 t d = (tile m c t).ys :=
  before0_2_of m (dats m 0 c) (A_eq m c 2) (fun _ => by dsimp only [dats, tile]) t d
theorem before_3 (c : Dev nD) (t : Fin cfg0.N) (d) : (dats m 0 c).before 3 t d = (tile m c t).v :=
  before0_3_of m (dats m 0 c) (A_eq m c 3) (fun _ => by dsimp only [dats, tile]) t d
theorem before_4 (c : Dev nD) (t : Fin cfg0.N) (d) : (dats m 0 c).before 4 t d = (tile m c t).z :=
  before0_4_of m (dats m 0 c) (A_eq m c 4) (fun _ => by dsimp only [dats, tile]) t d
theorem before_5 (c : Dev nD) (t : Fin cfg0.N) (d) : (dats m 0 c).before 5 t d = (tile m c t).d2 :=
  before0_5_of m (dats m 0 c) (A_eq m c 5) (fun _ => by dsimp only [dats, tile]) t d
theorem before_6 (c : Dev nD) (t : Fin cfg0.N) (d) : (dats m 0 c).before 6 t d = (tile m c t).dh :=
  before0_6_of m (dats m 0 c) (A_eq m c 6) (fun _ => by dsimp only [dats, tile]) t d
theorem before_7 (c : Dev nD) (t : Fin cfg0.N) (d) : (dats m 0 c).before 7 t d = (tile m c t).wa :=
  before0_7_of m (dats m 0 c) (A_eq m c 7) (fun _ => by dsimp only [dats, tile]) t d
theorem before_8 (c : Dev nD) (t : Fin cfg0.N) (d) : (dats m 0 c).before 8 t d = (tile m c t).ws :=
  before0_8_of m (dats m 0 c) (A_eq m c 8) (fun _ => by dsimp only [dats, tile]) t d
theorem before_9 (c : Dev nD) (t : Fin cfg0.N) (d) : (dats m 0 c).before 9 t d = (tile m c t).bs :=
  before0_9_of m (dats m 0 c) (A_eq m c 9) (fun _ => by dsimp only [dats, tile]) t d
theorem before_10 (c : Dev nD) (t : Fin cfg0.N) (d) : (dats m 0 c).before 10 t d = (tile m c t).g :=
  before0_10_of m (dats m 0 c) (A_eq m c 10) (fun _ => by dsimp only [dats, tile]) t d
theorem before_11 (c : Dev nD) (t : Fin cfg0.N) (d) : (dats m 0 c).before 11 t d = (tile m c t).b :=
  before0_11_of m (dats m 0 c) (A_eq m c 11) (fun _ => by dsimp only [dats, tile]) t d
theorem before_12 (c : Dev nD) (t : Fin cfg0.N) (d) : (dats m 0 c).before 12 t d = (tile m c t).wc :=
  before0_12_of m (dats m 0 c) (A_eq m c 12) (fun _ => by dsimp only [dats, tile]) t d
theorem before_13 (c : Dev nD) (t : Fin cfg0.N) (d) : (dats m 0 c).before 13 t d = (tile m c t).bg :=
  before0_13_of m (dats m 0 c) (A_eq m c 13) (fun _ => by dsimp only [dats, tile]) t d
theorem before_14 (c : Dev nD) (t : Fin cfg0.N) (d) : (dats m 0 c).before 14 t d = (tile m c t).wm :=
  before0_14_of m (dats m 0 c) (A_eq m c 14) (fun _ => by dsimp only [dats, tile]) t d
theorem before_15 (c : Dev nD) (t : Fin cfg0.N) (d) : (dats m 0 c).before 15 t d = (tile m c t).gf :=
  before0_15_of m (dats m 0 c) (A_eq m c 15) (fun _ => by dsimp only [dats, tile]) t d

/-! After the first point the sums so far are in their buffers. -/

theorem before_21 (c : Dev nD) (t : Fin cfg0.N) (h0 : ¬t.val % 32 = 0) (d) :
    (dats m 0 c).before 21 t d = (acc m c (t.val - 1) (Nat.lt_of_le_of_lt (Nat.sub_le _ _) t.isLt)).wa := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]

theorem before_22 (c : Dev nD) (t : Fin cfg0.N) (h0 : ¬t.val % 32 = 0) (d) :
    (dats m 0 c).before 22 t d = (acc m c (t.val - 1) (Nat.lt_of_le_of_lt (Nat.sub_le _ _) t.isLt)).ws := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]

theorem before_23 (c : Dev nD) (t : Fin cfg0.N) (h0 : ¬t.val % 32 = 0) (d) :
    (dats m 0 c).before 23 t d = (acc m c (t.val - 1) (Nat.lt_of_le_of_lt (Nat.sub_le _ _) t.isLt)).bs := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]

theorem before_24 (c : Dev nD) (t : Fin cfg0.N) (h0 : ¬t.val % 32 = 0) (d) :
    (dats m 0 c).before 24 t d = (acc m c (t.val - 1) (Nat.lt_of_le_of_lt (Nat.sub_le _ _) t.isLt)).g := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]

theorem before_25 (c : Dev nD) (t : Fin cfg0.N) (h0 : ¬t.val % 32 = 0) (d) :
    (dats m 0 c).before 25 t d = (acc m c (t.val - 1) (Nat.lt_of_le_of_lt (Nat.sub_le _ _) t.isLt)).b := by
  have hN : t.val < 32 := lt_of_lt_of_eq t.isLt (show cfg0.N = 32 from N_0)
  rw [Dat.before_out_kept _ 25 rfl t (by omega) (Bool.eq_false_iff.mpr fun h => by have := (flush0_25 _).mp h; dsimp only at this; omega)
    (fun _ => rfl) (fun _ _ => rfl)]
  dsimp only [dats]

theorem before_26 (c : Dev nD) (t : Fin cfg0.N) (h0 : ¬t.val % 32 = 0) (d) :
    (dats m 0 c).before 26 t d = (acc m c (t.val - 1) (Nat.lt_of_le_of_lt (Nat.sub_le _ _) t.isLt)).wc := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]

theorem before_27 (c : Dev nD) (t : Fin cfg0.N) (h0 : ¬t.val % 32 = 0) (d) :
    (dats m 0 c).before 27 t d = (acc m c (t.val - 1) (Nat.lt_of_le_of_lt (Nat.sub_le _ _) t.isLt)).bg := by
  have hN : t.val < 32 := lt_of_lt_of_eq t.isLt (show cfg0.N = 32 from N_0)
  rw [Dat.before_out_kept _ 27 rfl t (by omega) (Bool.eq_false_iff.mpr fun h => by have := (flush0_27 _).mp h; dsimp only at this; omega)
    (fun _ => rfl) (fun _ _ => rfl)]
  dsimp only [dats]

theorem before_28 (c : Dev nD) (t : Fin cfg0.N) (h0 : ¬t.val % 32 = 0) (d) :
    (dats m 0 c).before 28 t d = (acc m c (t.val - 1) (Nat.lt_of_le_of_lt (Nat.sub_le _ _) t.isLt)).wm := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl)]
  dsimp only [dats]

theorem before_29 (c : Dev nD) (t : Fin cfg0.N) (h0 : ¬t.val % 32 = 0) (d) :
    (dats m 0 c).before 29 t d = (acc m c (t.val - 1) (Nat.lt_of_le_of_lt (Nat.sub_le _ _) t.isLt)).gf := by
  have hN : t.val < 32 := lt_of_lt_of_eq t.isLt (show cfg0.N = 32 from N_0)
  rw [Dat.before_out_kept _ 29 rfl t (by omega) (Bool.eq_false_iff.mpr fun h => by have := (flush0_29 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29]
  by_cases h : t.val % 32 = 0
  · rw [acc_first m c t (by omega)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
    iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (tile m c t) ((first_iff t).mpr h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    iintro ⟨H0, H1, H2, H3, H4, H5, H6, H7, H8, H9, H10, H11, H12, H13, H14, H15, H16, H17, H18, H19, H20, H21, H22, H23, H24, H25, H26, H27, H28, H29⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29
  · rw [acc_next m c t (by omega)]
    simp only [before_21 m c t h, before_22 m c t h, before_23 m c t h, before_24 m c t h, before_25 m c t h, before_26 m c t h, before_27 m c t h, before_28 m c t h, before_29 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
    iapply (run_next c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (tile m c t)
      (acc m c (t.val - 1) (Nat.lt_of_le_of_lt (Nat.sub_le _ _) t.isLt)) (fun e => h ((first_iff t).mp e)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iintro ⟨H0, H1, H2, H3, H4, H5, H6, H7, H8, H9, H10, H11, H12, H13, H14, H15, H16, H17, H18, H19, H20, H21, H22, H23, H24, H25, H26, H27, H28, H29⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29

theorem body_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 2000000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program runs to its end, its arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_main m ρ)) ((θ_run defs _ _).mono (fun _ h => h.2) (run_main_quiescent m ρ))

/-- The results are the output windows' arrays. -/
theorem run_blocks : θ_run defs (onTc (τ := τ) (main (F := F))) ⟨m, fun _ => 0, ρ⟩ (fun r => ∀ c : Dev nD,
      r.2.mem ((c.tc : Thread nD τ).loc main_v9_0) = (dats m 0 c).arrAt 16 cfg0.N
      ∧ r.2.mem ((c.tc : Thread nD τ).loc main_v9_1) = (dats m 0 c).arrAt 17 cfg0.N
      ∧ r.2.mem ((c.tc : Thread nD τ).loc main_v9_2) = (dats m 0 c).arrAt 18 cfg0.N
      ∧ r.2.mem ((c.tc : Thread nD τ).loc main_v9_3) = (dats m 0 c).arrAt 19 cfg0.N
      ∧ r.2.mem ((c.tc : Thread nD τ).loc main_v9_4) = (dats m 0 c).arrAt 20 cfg0.N
      ∧ r.2.mem ((c.tc : Thread nD τ).loc main_v9_5) = (dats m 0 c).arrAt 21 cfg0.N
      ∧ r.2.mem ((c.tc : Thread nD τ).loc main_v9_6) = (dats m 0 c).arrAt 22 cfg0.N
      ∧ r.2.mem ((c.tc : Thread nD τ).loc main_v9_7) = (dats m 0 c).arrAt 23 cfg0.N
      ∧ r.2.mem ((c.tc : Thread nD τ).loc main_v9_8) = (dats m 0 c).arrAt 24 cfg0.N
      ∧ r.2.mem ((c.tc : Thread nD τ).loc main_v9_9) = (dats m 0 c).arrAt 25 cfg0.N
      ∧ r.2.mem ((c.tc : Thread nD τ).loc main_v9_10) = (dats m 0 c).arrAt 26 cfg0.N
      ∧ r.2.mem ((c.tc : Thread nD τ).loc main_v9_11) = (dats m 0 c).arrAt 27 cfg0.N
      ∧ r.2.mem ((c.tc : Thread nD τ).loc main_v9_12) = (dats m 0 c).arrAt 28 cfg0.N
      ∧ r.2.mem ((c.tc : Thread nD τ).loc main_v9_13) = (dats m 0 c).arrAt 29 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, (h.1 c).1 28, (h.1 c).1 29, h.2 c⟩)
    (θ_run_and (run_main m ρ) (frame_of m ρ (dats m) (A_eq m) (run_main m ρ)))

end Cert.MergeGrad

end
-- ==== Proof.MergeRow.lean ====
module

public import proofs.«01_k».proof.Proof.Merge

@[expose] public section

noncomputable section

/-! The gradient of one row of the gated merge and of the norm after it over the extended reals: what the row's inputs
    get, and what the row adds to the gradient of each weight. -/

namespace Cert.MergeRow

open Idealize.ShloMosaic Merge

/-- A row's values, and the gradients `d2` and `dh` that come to the merge's sum and to its normed row. -/
structure Row where
  x : Fin 1024 → EReal
  ya : Fin 512 → EReal
  ys : Fin 256 → EReal
  v : Fin 256 → EReal
  z : Fin 3072 → EReal
  d2 : Fin 1024 → EReal
  dh : Fin 1024 → EReal

structure Wts where
  wa : Fin 512 → Fin 1024 → EReal
  ws : Fin 256 → Fin 2048 → EReal
  bs : Fin 2048 → EReal
  g : Fin 256 → EReal
  b : Fin 256 → EReal
  wc : Fin 256 → Fin 1024 → EReal
  bg : Fin 3072 → EReal
  wm : Fin 1024 → Fin 1024 → EReal
  gf : Fin 1024 → EReal

/-- A row of two halves, and one of three thirds. -/
def half (f g : Fin 1024 → EReal) (j : Fin 2048) : EReal := if h : j.val < 1024 then f ⟨j.val, h⟩ else g ⟨j.val - 1024, by omega⟩
def third (f g h : Fin 1024 → EReal) (j : Fin 3072) : EReal :=
  if h0 : j.val < 1024 then f ⟨j.val, h0⟩ else if h1 : j.val < 2048 then g ⟨j.val - 1024, by omega⟩ else h ⟨j.val - 2048, by omega⟩

theorem half_lo (f g : Fin 1024 → EReal) (l : Fin 1024) : half f g (lo l) = f l := dif_pos l.isLt
theorem half_hi (f g : Fin 1024 → EReal) (l : Fin 1024) : half f g (hi l) = g l :=
  (dif_neg (by show ¬1024 + l.val < 1024; omega)).trans (congrArg g (Fin.ext (by show 1024 + l.val - 1024 = l.val; omega)))
theorem third_0 (f g h : Fin 1024 → EReal) (l : Fin 1024) : third f g h (g0 l) = f l := dif_pos l.isLt
theorem third_1 (f g h : Fin 1024 → EReal) (l : Fin 1024) : third f g h (g1 l) = g l :=
  (dif_neg (by show ¬1024 + l.val < 1024; omega)).trans
    ((dif_pos (by show 1024 + l.val < 2048; omega)).trans (congrArg g (Fin.ext (by show 1024 + l.val - 1024 = l.val; omega))))
theorem third_2 (f g h : Fin 1024 → EReal) (l : Fin 1024) : third f g h (g2 l) = h l :=
  (dif_neg (by show ¬2048 + l.val < 1024; omega)).trans
    ((dif_neg (by show ¬2048 + l.val < 2048; omega)).trans (congrArg h (Fin.ext (by show 2048 + l.val - 2048 = l.val; omega))))

theorem halves {P : Fin 2048 → Prop} (h0 : ∀ l, P (lo l)) (h1 : ∀ l, P (hi l)) (j : Fin 2048) : P j := by
  by_cases h : j.val < 1024
  · exact h0 ⟨j.val, h⟩
  · have e : j = hi ⟨j.val - 1024, by omega⟩ := Fin.ext (by show j.val = 1024 + (j.val - 1024); omega)
    rw [e]; exact h1 _

theorem thirds {P : Fin 3072 → Prop} (h0 : ∀ l, P (g0 l)) (h1 : ∀ l, P (g1 l)) (h2 : ∀ l, P (g2 l)) (j : Fin 3072) : P j := by
  by_cases h : j.val < 1024
  · exact h0 ⟨j.val, h⟩
  by_cases h' : j.val < 2048
  · have e : j = g1 ⟨j.val - 1024, by omega⟩ := Fin.ext (by show j.val = 1024 + (j.val - 1024); omega)
    rw [e]; exact h1 _
  · have e : j = g2 ⟨j.val - 2048, by omega⟩ := Fin.ext (by show j.val = 2048 + (j.val - 2048); omega)
    rw [e]; exact h2 _

variable (R : Row) (W : Wts)

/-! ## The forward values -/

def attn (l : Fin 1024) : EReal := dot R.ya W.wa l
def pre (j : Fin 2048) : EReal := glu R.ys W.ws W.bs j
def sig (l : Fin 1024) : EReal := Ideal.logistic (pre R W (hi l))
def branch (l : Fin 1024) : EReal := pre R W (lo l) * sig R W l
def nrm (k : Fin 256) : EReal := (R.v k - mean R.v) * Ideal.rsqrt (var R.v)
def ln (k : Fin 256) : EReal := nrm R k * W.g k + W.b k
def conv (k : Fin 256) : EReal := silu (ln R W k)
def out (l : Fin 1024) : EReal := dot (conv R W) W.wc l
def gate (j : Fin 3072) : EReal := Ideal.logistic (R.z j + W.bg j)
def merged (l : Fin 1024) : EReal := gate R W (g0 l) * attn R W l + gate R W (g1 l) * branch R W l + gate R W (g2 l) * out R W l

/-! ## The gradients -/

/-- Of the merge's sum, and of the merged row before its projection. -/
def dRes (l : Fin 1024) : EReal := R.d2 l + NormGrad.dx R.x W.gf R.dh l
def dm (l : Fin 1024) : EReal := ∑ k, dRes R W k * W.wm l k

/-- Of the three branches, and of the gates before the logistic function. -/
def dAttn (l : Fin 1024) : EReal := gate R W (g0 l) * dm R W l
def dSsm (l : Fin 1024) : EReal := gate R W (g1 l) * dm R W l
def dConv (l : Fin 1024) : EReal := gate R W (g2 l) * dm R W l
def dGate (j : Fin 3072) : EReal :=
  third (fun l => dm R W l * attn R W l) (fun l => dm R W l * branch R W l) (fun l => dm R W l * out R W l) j
    * (gate R W j * (1 - gate R W j))

def dYa (k : Fin 512) : EReal := ∑ l, dAttn R W l * W.wa k l

/-- Of the layer norm's row, through `silu`. -/
def dSl (k : Fin 256) : EReal := ∑ l, dConv R W l * W.wc k l
def dLn (k : Fin 256) : EReal :=
  dSl R W k * Ideal.logistic (ln R W k) + ln R W k * dSl R W k * (Ideal.logistic (ln R W k) * (1 - Ideal.logistic (ln R W k)))

/-- Of the layer norm's input: directly, through the variance and through the mean. -/
def dN (k : Fin 256) : EReal := dLn R W k * W.g k
def dVar : EReal :=
  ∑ _u : Fin 1, Ideal.div ((∑ k, (R.v k - mean R.v) * dN R W k) * (Ideal.ofBits FTy.f32 3204448256#32 * Ideal.div (Ideal.rsqrt (var R.v)) (var R.v)))
    (Ideal.ofBits FTy.f32 1132462080#32)
def dCen (k : Fin 256) : EReal := dVar R W * (Ideal.ofBits FTy.f32 1073741824#32 * (R.v k - mean R.v))
def dMean : EReal :=
  ∑ _u : Fin 1, Ideal.div ((∑ k, -(dN R W k * Ideal.rsqrt (var R.v))) + ∑ k, -dCen R W k) (Ideal.ofBits FTy.f32 1132462080#32)
def dV (k : Fin 256) : EReal := dN R W k * Ideal.rsqrt (var R.v) + dCen R W k + dMean R W

/-- Of the gated linear unit's projection, and of its input through `gelu`. -/
def dGlu (j : Fin 2048) : EReal :=
  half (fun l => dSsm R W l * sig R W l) (fun l => pre R W (lo l) * dSsm R W l * (sig R W l * (1 - sig R W l))) j
def dGe (k : Fin 256) : EReal := ∑ j, dGlu R W j * W.ws k j
def dArg (k : Fin 256) : EReal :=
  Ideal.ofBits FTy.f32 1061962282#32 * (Ideal.ofBits FTy.f32 1056964608#32 * (R.ys k * dGe R W k)
    * ((1 + Ideal.tanh (geluArg (R.ys k))) * (1 - Ideal.tanh (geluArg (R.ys k)))))
def dYs (k : Fin 256) : EReal :=
  dGe R W k * (Ideal.ofBits FTy.f32 1056964608#32 * (1 + Ideal.tanh (geluArg (R.ys k)))) + dArg R W k
    + Ideal.ofBits FTy.f32 1027024659#32 * dArg R W k * (Ideal.ofBits FTy.f32 1077936128#32 * (R.ys k * R.ys k))

/-! ## What the row adds to the weights' gradients -/

def tWa (k : Fin 512) (l : Fin 1024) : EReal := R.ya k * dAttn R W l
def tWs (k : Fin 256) (j : Fin 2048) : EReal := gelu (R.ys k) * dGlu R W j
def tG (k : Fin 256) : EReal := nrm R k * dLn R W k
def tWc (k : Fin 256) (l : Fin 1024) : EReal := conv R W k * dConv R W l
def tWm (k l : Fin 1024) : EReal := merged R W k * dRes R W l
def tGf (l : Fin 1024) : EReal := NormGrad.dg R.x R.dh l

end Cert.MergeRow

end
-- ==== Proof.MergeGrad14Rows.lean ====
module

public import proofs.«01_k».proof.Proof.MergeGrad14
public import proofs.«01_k».proof.Proof.MergeRow

@[expose] public section

noncomputable section

/-! A tile's values over the extended reals, row by row. -/

namespace Cert.MergeGrad

open Cert.Kernel14Ideal Cert.Kernel14Ideal.Gen Merge
open Idealize.ShloMosaic

variable (T : Tile Ideal)

/-- A row of a tile, and the tile's weights. -/
def rowOf (r : Fin 256) : MergeRow.Row where
  x k := T.x (ix2 r k)
  ya k := T.ya (ix2 r k)
  ys k := T.ys (ix2 r k)
  v k := T.v (ix2 r k)
  z k := T.z (ix2 r k)
  d2 k := T.d2 (ix2 r k)
  dh k := T.dh (ix2 r k)

def wtsOf : MergeRow.Wts where
  wa k l := T.wa (ix2 k l)
  ws k l := T.ws (ix2 k l)
  bs k := T.bs (ix2 0 k)
  g k := T.g (ix2 0 k)
  b k := T.b (ix2 0 k)
  wc k l := T.wc (ix2 k l)
  bg k := T.bg (ix2 0 k)
  wm k l := T.wm (ix2 k l)
  gf k := T.gf (ix2 0 k)

variable (r : Fin 256)

/-! ## The forward values -/

theorem attn_apply (l : Fin 1024) : attn T (ix2 r l) = MergeRow.attn (rowOf T r) (wtsOf T) l := by
  pointwise [attn, k0_pay18, k0_pay10, k0_pay9, MergeRow.attn, dot, rowOf, wtsOf]

theorem pre_apply (j : Fin 2048) :
    k0_pay25 T.ys (k0_pay2 T.bs) (k0_pay11 (k0_pay1 T.ws)) (k0_pay20 T.ys) c0 (ix2 r j) = MergeRow.pre (rowOf T r) (wtsOf T) j := by
  pointwise [k0_pay25, k0_pay24, k0_pay23, k0_pay21, k0_pay20, k0_pay11, k0_pay1, k0_pay2, c0, MergeRow.pre, glu, dot, gelu, geluArg, rowOf, wtsOf]

theorem gluA_apply (l : Fin 1024) : gluA T (ix2 r l) = MergeRow.pre (rowOf T r) (wtsOf T) (lo l) := by
  rw [← pre_apply]
  pointwise [gluA, k0_pay26, lo]

theorem gluS_apply (l : Fin 1024) : gluS T (ix2 r l) = MergeRow.sig (rowOf T r) (wtsOf T) l := by
  unfold MergeRow.sig
  rw [← pre_apply]
  pointwise [gluS, k0_pay27, hi]

theorem gluD_apply (l : Fin 1024) : gluD T (ix2 r l) = MergeRow.sig (rowOf T r) (wtsOf T) l * (1 - MergeRow.sig (rowOf T r) (wtsOf T) l) := by
  rw [← gluS_apply]
  pointwise [gluD, gluS, k0_pay28]

theorem ssm_apply (l : Fin 1024) : ssm T (ix2 r l) = MergeRow.branch (rowOf T r) (wtsOf T) l := by
  unfold MergeRow.branch
  rw [← gluS_apply, ← gluA_apply]
  pointwise [ssm, gluS, gluA, k0_pay29]

theorem nrm_apply (k : Fin 256) : nrm T (ix2 r k) = MergeRow.nrm (rowOf T r) k := by
  pointwise [nrm, k0_pay38, k0_pay37, k0_pay35, k0_pay34, k0_pay33, k0_pay31, k0_pay30, MergeRow.nrm, mean, var, rowOf]

theorem ln_apply (k : Fin 256) : ln T (ix2 r k) = MergeRow.ln (rowOf T r) (wtsOf T) k := by
  unfold MergeRow.ln
  rw [← nrm_apply]
  pointwise [ln, nrm, k0_pay39, k0_pay3, k0_pay4, wtsOf]

theorem sl_apply (k : Fin 256) : sl T (ix2 r k) = Ideal.logistic (MergeRow.ln (rowOf T r) (wtsOf T) k) := by
  rw [← ln_apply]
  pointwise [sl, ln, k0_pay40]

theorem slD_apply (k : Fin 256) :
    slD T (ix2 r k) = Ideal.logistic (MergeRow.ln (rowOf T r) (wtsOf T) k) * (1 - Ideal.logistic (MergeRow.ln (rowOf T r) (wtsOf T) k)) := by
  rw [← sl_apply]
  pointwise [slD, sl, k0_pay41]

theorem conv_apply (k : Fin 256) : conv T (ix2 r k) = MergeRow.conv (rowOf T r) (wtsOf T) k := by
  unfold MergeRow.conv silu
  rw [← sl_apply, ← ln_apply]
  pointwise [conv, sl, ln, k0_pay42]

/-- The convolution branch's projection. -/
theorem out_apply (l : Fin 1024) :
    k0_pay43 (k0_pay3 T.g) (k0_pay4 T.b) (k0_pay12 (k0_pay5 T.wc)) (k0_pay33 T.v) (k0_pay37 T.v) (ix2 r l) = MergeRow.out (rowOf T r) (wtsOf T) l := by
  unfold MergeRow.out dot
  simp only [← conv_apply]
  pointwise [conv, k0_pay43, k0_pay12, k0_pay5, wtsOf]

theorem gate_apply (j : Fin 3072) : k0_pay44 T.z (k0_pay6 T.bg) (ix2 r j) = MergeRow.gate (rowOf T r) (wtsOf T) j := by
  pointwise [k0_pay44, k0_pay6, MergeRow.gate, rowOf, wtsOf]

theorem gate0_apply (l : Fin 1024) : k0_pay45 T.z (k0_pay6 T.bg) (ix2 r l) = MergeRow.gate (rowOf T r) (wtsOf T) (g0 l) := by
  rw [← gate_apply]
  pointwise [k0_pay45, g0]

theorem gate1_apply (l : Fin 1024) : k0_pay46 T.z (k0_pay6 T.bg) (ix2 r l) = MergeRow.gate (rowOf T r) (wtsOf T) (g1 l) := by
  rw [← gate_apply]
  pointwise [k0_pay46, g1]

theorem gate2_apply (l : Fin 1024) : k0_pay47 T.z (k0_pay6 T.bg) (ix2 r l) = MergeRow.gate (rowOf T r) (wtsOf T) (g2 l) := by
  rw [← gate_apply]
  pointwise [k0_pay47, g2]

theorem merged_apply (l : Fin 1024) : merged T (ix2 r l) = MergeRow.merged (rowOf T r) (wtsOf T) l := by
  unfold MergeRow.merged
  rw [← attn_apply, ← ssm_apply, ← out_apply, ← gate0_apply, ← gate1_apply, ← gate2_apply]
  pointwise [merged, k0_pay48]

/-! ## The gradients of the row's inputs -/

theorem dRes_apply (l : Fin 1024) : dRes T (ix2 r l) = MergeRow.dRes (rowOf T r) (wtsOf T) l := by
  pointwise [dRes, k0_pay17, k0_pay15, k0_pay14, k0_pay8, MergeRow.dRes, NormGrad.dx, NormGrad.dms, NormGrad.ms, rowOf, wtsOf]

theorem dm_apply (l : Fin 1024) : k0_pay49 (k0_pay13 (k0_pay7 T.wm)) (dRes T) (ix2 r l) = MergeRow.dm (rowOf T r) (wtsOf T) l := by
  unfold MergeRow.dm
  simp only [← dRes_apply]
  pointwise [k0_pay49, k0_pay13, k0_pay7, wtsOf]

theorem dAttn_apply (l : Fin 1024) : dAttn T (ix2 r l) = MergeRow.dAttn (rowOf T r) (wtsOf T) l := by
  unfold MergeRow.dAttn
  rw [← gate0_apply, ← dm_apply]
  pointwise [dAttn, k0_pay52]

theorem dSsm_apply (l : Fin 1024) : dSsm T (ix2 r l) = MergeRow.dSsm (rowOf T r) (wtsOf T) l := by
  unfold MergeRow.dSsm
  rw [← gate1_apply, ← dm_apply]
  pointwise [dSsm, k0_pay51]

theorem dConv_apply (l : Fin 1024) : dConv T (ix2 r l) = MergeRow.dConv (rowOf T r) (wtsOf T) l := by
  unfold MergeRow.dConv
  rw [← gate2_apply, ← dm_apply]
  pointwise [dConv, k0_pay50]

theorem dGate_apply (j : Fin 3072) : dGate T (ix2 r j) = MergeRow.dGate (rowOf T r) (wtsOf T) j := by
  unfold MergeRow.dGate
  revert j
  refine MergeRow.thirds (fun l => ?_) (fun l => ?_) fun l => ?_
  · rw [MergeRow.third_0, ← gate_apply, ← dm_apply, ← attn_apply]
    pointwise [dGate, k0_pay53, g0]
    have h := l.isLt
    rw [dif_pos (by omega), dif_pos (by omega), zero_add, zero_add]
  · rw [MergeRow.third_1, ← gate_apply, ← dm_apply, ← ssm_apply]
    pointwise [dGate, k0_pay53, g1]
    have h := l.isLt
    rw [dif_pos (by omega), dif_pos (by omega), zero_add]
  · rw [MergeRow.third_2, ← gate_apply, ← dm_apply, ← out_apply]
    pointwise [dGate, k0_pay53, g2]
    rw [dif_neg (by omega), add_zero]

theorem dZ_apply (j : Fin 3072) : dZ T (ix2 r j) = MergeRow.dGate (rowOf T r) (wtsOf T) j := by
  rw [← dGate_apply]
  pointwise [dZ, k0_pay72]

theorem dYa_apply (k : Fin 512) : dYa T (ix2 r k) = MergeRow.dYa (rowOf T r) (wtsOf T) k := by
  unfold MergeRow.dYa
  simp only [← dAttn_apply]
  pointwise [dYa, k0_pay71, k0_pay10, wtsOf]

theorem dLn_apply (k : Fin 256) :
    k0_pay58 (ln T) (sl T) (slD T) (dConv16 T) (k0_pay56 (k0_pay12 (k0_pay5 T.wc))) (c1 (F := Ideal)) (ix2 r k) = MergeRow.dLn (rowOf T r) (wtsOf T) k := by
  unfold MergeRow.dLn MergeRow.dSl
  rw [← slD_apply, ← sl_apply, ← ln_apply]
  simp only [← dConv_apply]
  pointwise [k0_pay58, dConv16, k0_pay55, dConv, k0_pay56, k0_pay12, k0_pay5, c1, wtsOf]

theorem dV_apply (k : Fin 256) : dV T (ix2 r k) = MergeRow.dV (rowOf T r) (wtsOf T) k := by
  unfold MergeRow.dV MergeRow.dMean MergeRow.dCen MergeRow.dVar MergeRow.dN
  simp only [← dLn_apply, ← zero_sub]
  pointwise [dV, k0_pay61, k0_pay37, k0_pay36, k0_pay35, k0_pay34, k0_pay33, k0_pay32, k0_pay31, k0_pay30, k0_pay3, mean, var, rowOf, wtsOf]

theorem dGlu_apply (j : Fin 2048) : k0_pay65 (dA T) (dS T) k0_pay64 (ix2 r j) = MergeRow.dGlu (rowOf T r) (wtsOf T) j := by
  unfold MergeRow.dGlu
  revert j
  refine MergeRow.halves (fun l => ?_) fun l => ?_
  · rw [MergeRow.half_lo, ← dSsm_apply, ← gluS_apply]
    pointwise [k0_pay65, k0_pay64, dA, k0_pay62, lo]
  · rw [MergeRow.half_hi, ← gluD_apply, ← dSsm_apply, ← gluA_apply]
    pointwise [k0_pay65, k0_pay64, dS, k0_pay63, hi]

theorem dYs_apply (k : Fin 256) : dYs T (ix2 r k) = MergeRow.dYs (rowOf T r) (wtsOf T) k := by
  unfold MergeRow.dYs MergeRow.dArg MergeRow.dGe
  simp only [← dGlu_apply]
  pointwise [dYs, k0_pay68, k0_pay23, k0_pay22, k0_pay21, k0_pay20, k0_pay19, k0_pay11, k0_pay1, c0, geluArg, rowOf, wtsOf]

/-! ## What the tile adds to the weights' gradients -/

theorem dWa_apply (k : Fin 512) (l : Fin 1024) : dWa T (ix2 k l) = ∑ r, MergeRow.tWa (rowOf T r) (wtsOf T) k l := by
  unfold MergeRow.tWa
  simp only [← dAttn_apply]
  pointwise [dWa, k0_pay69, k0_pay9, rowOf]

theorem dWs_apply (k : Fin 256) (j : Fin 2048) : dWs T (ix2 k j) = ∑ r, MergeRow.tWs (rowOf T r) (wtsOf T) k j := by
  unfold MergeRow.tWs
  simp only [← dGlu_apply]
  pointwise [dWs, k0_pay67, k0_pay24, k0_pay23, k0_pay21, k0_pay20, c0, gelu, geluArg, rowOf]

theorem dBs_apply (j : Fin 2048) : dBs T (ix2 0 j) = ∑ r, MergeRow.dGlu (rowOf T r) (wtsOf T) j := by
  simp only [← dGlu_apply]
  pointwise [dBs, k0_pay66]

theorem dG_apply (k : Fin 256) : dG T (ix2 0 k) = ∑ r, MergeRow.tG (rowOf T r) (wtsOf T) k := by
  unfold MergeRow.tG
  simp only [← dLn_apply, ← nrm_apply]
  pointwise [dG, k0_pay60]

theorem dB_apply (k : Fin 256) : dB T (ix2 0 k) = ∑ r, MergeRow.dLn (rowOf T r) (wtsOf T) k := by
  simp only [← dLn_apply]
  pointwise [dB, k0_pay59]

theorem dWc_apply (k : Fin 256) (l : Fin 1024) : dWc T (ix2 k l) = ∑ r, MergeRow.tWc (rowOf T r) (wtsOf T) k l := by
  unfold MergeRow.tWc
  simp only [← dConv_apply, ← conv_apply]
  pointwise [dWc, k0_pay57]

theorem dBg_apply (j : Fin 3072) : dBg T (ix2 0 j) = ∑ r, MergeRow.dGate (rowOf T r) (wtsOf T) j := by
  simp only [← dGate_apply]
  pointwise [dBg, k0_pay54, dGate]

theorem dWm_apply (k l : Fin 1024) : dWm T (ix2 k l) = ∑ r, MergeRow.tWm (rowOf T r) (wtsOf T) k l := by
  unfold MergeRow.tWm
  simp only [← merged_apply, ← dRes_apply]
  pointwise [dWm, k0_pay70]

theorem dGf_apply (l : Fin 1024) : dGf T (ix2 0 l) = ∑ r, MergeRow.tGf (rowOf T r) l := by
  pointwise [dGf, k0_pay16, k0_pay15, k0_pay14, MergeRow.tGf, NormGrad.dg, NormGrad.ms, rowOf]

end Cert.MergeGrad

end
-- ==== Proof.MergeGrad14Ref.lean ====
module

public import Idealize.ShloMosaic.Lib.Pointwise
public import proofs.«01_k».proof.Proof.MergeRow
public import proofs.«01_k».proof.Proof.Gen.Reference14Ideal.Read

@[expose] public section

noncomputable section

/-! The reference's stages over the extended reals, row by row. -/

namespace Cert.MergeGrad

open Cert.Reference14Ideal Cert.Reference14Ideal.Gen Cert.Reference14Ideal.Read Merge
open Idealize.ShloMosaic

/-- The reference's arguments. -/
structure Args where
  x : Vec Ideal S8192x1024 .f32
  ya : Vec Ideal S8192x512 .bf16
  ys : Vec Ideal S8192x256 .f32
  v : Vec Ideal S8192x256 .f32
  z : Vec Ideal S8192x4608 .f32
  d2 : Vec Ideal S8192x1024 .f32
  dh : Vec Ideal S8192x1024 .f32
  dz : Vec Ideal S8192x4608 .bf16
  wa : Vec Ideal S512x1024 .f32
  ws : Vec Ideal S256x2048 .f32
  bs : Vec Ideal S2048 .f32
  g : Vec Ideal S256 .f32
  b : Vec Ideal S256 .f32
  wc : Vec Ideal S256x1024 .f32
  bg : Vec Ideal S3072 .f32
  wm : Vec Ideal S1024x1024 .f32
  gf : Vec Ideal S1024 .f32

variable (A : Args)

/-- A row of the arguments, and the weights. The gates take the first of `z`'s columns. -/
def rowR (r : Fin 8192) : MergeRow.Row where
  x k := A.x (ix2 r k)
  ya k := A.ya (ix2 r k)
  ys k := A.ys (ix2 r k)
  v k := A.v (ix2 r k)
  z k := A.z (ix2 r ⟨k.val, by omega⟩)
  d2 k := A.d2 (ix2 r k)
  dh k := A.dh (ix2 r k)

def wtsR : MergeRow.Wts where
  wa k l := A.wa (ix2 k l)
  ws k l := A.ws (ix2 k l)
  bs k := A.bs (ix1 k)
  g k := A.g (ix1 k)
  b k := A.b (ix1 k)
  wc k l := A.wc (ix2 k l)
  bg k := A.bg (ix1 k)
  wm k l := A.wm (ix2 k l)
  gf k := A.gf (ix1 k)

variable (r : Fin 8192)

/-! ## The forward values -/

theorem ref_dRes (l : Fin 1024) :
    val_main_v36 (F := Ideal) A.x A.d2 A.dh A.gf (ix2 r l)
      = MergeRow.dRes (rowR A r) (wtsR A) l := by
  pointwise [val_main_v0, val_main_cst, val_main_v1, val_main_v2, val_main_cst_0, val_main_v3, val_main_v4, val_main_cst_1, val_main_v5, val_main_v6,
      val_main_v7, val_main_v8, val_main_cst_2, val_main_v9, val_main_v10, val_main_v13, val_main_v19, val_main_v20, val_main_v22, val_main_cst_5,
      val_main_v23, val_main_v24, val_main_v25, val_main_v26, val_main_v27, val_main_cst_6, val_main_v28, val_main_v29, val_main_cst_7, val_main_v30,
      val_main_v31, val_main_v32, val_main_v33, val_main_v34, val_main_v35, val_main_v36, MergeRow.dRes, NormGrad.dx, NormGrad.dms, NormGrad.ms, rowR,
      wtsR]

theorem ref_attn (l : Fin 1024) :
    val_main_v39 (F := Ideal) A.ya A.wa (ix2 r l)
      = MergeRow.attn (rowR A r) (wtsR A) l := by
  pointwise [val_main_v37, val_main_v39, MergeRow.attn, dot, rowR, wtsR]

theorem ref_pre (j : Fin 2048) :
    val_main_v64 (F := Ideal) A.ys A.ws A.bs (ix2 r j)
      = MergeRow.pre (rowR A r) (wtsR A) j := by
  unfold MergeRow.pre glu dot gelu geluArg
  simp only [cube]
  pointwise [val_main_v40, val_main_v41, val_main_cst_9, val_main_v45, val_main_v46, val_main_v47, val_main_cst_10, val_main_v48, val_main_v49,
      val_main_v50, val_main_cst_13, val_main_v56, val_main_v57, val_main_cst_14, val_main_v58, val_main_v59, val_main_v60, val_main_v61, val_main_v62,
      val_main_v63, val_main_v64, rowR, wtsR]

theorem ref_sig (l : Fin 1024) :
    val_main_v72 (F := Ideal) A.ys A.ws A.bs (ix2 r l)
      = MergeRow.sig (rowR A r) (wtsR A) l := by
  unfold MergeRow.sig
  rw [← ref_pre]
  simp only [Ideal.logistic]
  pointwise [val_main_v66, val_main_v67, val_main_v68, val_main_cst_15, val_main_v69, val_main_v70, val_main_cst_16, val_main_v71, val_main_v72, hi]

theorem ref_branch (l : Fin 1024) :
    val_main_v76 (F := Ideal) A.ys A.ws A.bs (ix2 r l)
      = MergeRow.branch (rowR A r) (wtsR A) l := by
  unfold MergeRow.branch
  rw [← ref_sig, ← ref_pre]
  pointwise [val_main_v65, val_main_v76, lo]

theorem ref_nrm (k : Fin 256) :
    val_main_v99 (F := Ideal) A.v (ix2 r k)
      = MergeRow.nrm (rowR A r) k := by
  pointwise [val_main_cst_18, val_main_v77, val_main_v78, val_main_cst_19, val_main_v79, val_main_v80, val_main_v81, val_main_v82, val_main_v83,
      val_main_cst_21, val_main_v86, val_main_v87, val_main_cst_22, val_main_v88, val_main_v89, val_main_v90, val_main_v91, val_main_cst_23,
      val_main_v92, val_main_v93, val_main_v94, val_main_v98, val_main_v99, MergeRow.nrm, mean, var, rowR]

theorem ref_ln (k : Fin 256) :
    val_main_v105 (F := Ideal) A.v A.g A.b (ix2 r k)
      = MergeRow.ln (rowR A r) (wtsR A) k := by
  unfold MergeRow.ln
  rw [← ref_nrm]
  pointwise [val_main_v100, val_main_v101, val_main_v102, val_main_v103, val_main_v104, val_main_v105, wtsR]

theorem ref_sl (k : Fin 256) :
    val_main_v106_2 (F := Ideal) A.v A.g A.b (ix2 r k)
      = Ideal.logistic (MergeRow.ln (rowR A r) (wtsR A) k) := by
  rw [← ref_ln]
  simp only [Ideal.logistic]
  pointwise [val_main_call0_v0, val_main_call0_v1, val_main_call0_cst, val_main_call0_v2, val_main_call0_v3, val_main_call0_cst_0, val_main_call0_v4,
      val_main_v106_2]

theorem ref_conv (k : Fin 256) :
    val_main_v106_0 (F := Ideal) A.v A.g A.b (ix2 r k)
      = MergeRow.conv (rowR A r) (wtsR A) k := by
  unfold MergeRow.conv silu
  rw [← ref_sl, ← ref_ln]
  pointwise [val_main_v106_0]

theorem ref_out (l : Fin 1024) :
    val_main_v107 (F := Ideal) A.v A.g A.b A.wc (ix2 r l)
      = MergeRow.out (rowR A r) (wtsR A) l := by
  unfold MergeRow.out dot
  simp only [← ref_conv]
  pointwise [val_main_v107, wtsR]

theorem ref_gate (j : Fin 3072) :
    val_main_v116 (F := Ideal) A.z A.bg (ix2 r j)
      = MergeRow.gate (rowR A r) (wtsR A) j := by
  unfold MergeRow.gate
  simp only [Ideal.logistic]
  pointwise [val_main_v38, val_main_v108, val_main_v109, val_main_v110, val_main_v111, val_main_v112, val_main_cst_25, val_main_v113, val_main_v114,
      val_main_cst_26, val_main_v115, val_main_v116, rowR, wtsR]

theorem ref_gate0 (l : Fin 1024) :
    val_main_v122 (F := Ideal) A.z A.bg (ix2 r l)
      = MergeRow.gate (rowR A r) (wtsR A) (g0 l) := by
  rw [← ref_gate]
  pointwise [val_main_v120, val_main_v121, val_main_v122, g0]

theorem ref_gate1 (l : Fin 1024) :
    val_main_v125 (F := Ideal) A.z A.bg (ix2 r l)
      = MergeRow.gate (rowR A r) (wtsR A) (g1 l) := by
  rw [← ref_gate]
  pointwise [val_main_v120, val_main_v124, val_main_v125, g1]

theorem ref_gate2 (l : Fin 1024) :
    val_main_v129 (F := Ideal) A.z A.bg (ix2 r l)
      = MergeRow.gate (rowR A r) (wtsR A) (g2 l) := by
  rw [← ref_gate]
  pointwise [val_main_v120, val_main_v128, val_main_v129, g2]

theorem ref_merged (l : Fin 1024) :
    val_main_v131 (F := Ideal) A.ya A.ys A.v A.z A.wa A.ws A.bs A.g A.b A.wc A.bg (ix2 r l)
      = MergeRow.merged (rowR A r) (wtsR A) l := by
  unfold MergeRow.merged
  rw [← ref_attn, ← ref_branch, ← ref_out, ← ref_gate0, ← ref_gate1, ← ref_gate2]
  pointwise [val_main_v123, val_main_v126, val_main_v127, val_main_v130, val_main_v131]

/-! ## The gradients of the row's inputs -/

theorem ref_dm (l : Fin 1024) :
    val_main_v135 (F := Ideal) A.x A.d2 A.dh A.wm A.gf (ix2 r l)
      = MergeRow.dm (rowR A r) (wtsR A) l := by
  unfold MergeRow.dm
  simp only [← ref_dRes]
  pointwise [val_main_v135, wtsR]

theorem ref_dConv (l : Fin 1024) :
    val_main_v136 (F := Ideal) A.x A.z A.d2 A.dh A.bg A.wm A.gf (ix2 r l)
      = MergeRow.dConv (rowR A r) (wtsR A) l := by
  unfold MergeRow.dConv
  rw [← ref_gate2, ← ref_dm]
  pointwise [val_main_v136]

theorem ref_dSsm (l : Fin 1024) :
    val_main_v140 (F := Ideal) A.x A.z A.d2 A.dh A.bg A.wm A.gf (ix2 r l)
      = MergeRow.dSsm (rowR A r) (wtsR A) l := by
  unfold MergeRow.dSsm
  rw [← ref_gate1, ← ref_dm]
  pointwise [val_main_v140]

theorem ref_dAttn (l : Fin 1024) :
    val_main_v145 (F := Ideal) A.x A.z A.d2 A.dh A.bg A.wm A.gf (ix2 r l)
      = MergeRow.dAttn (rowR A r) (wtsR A) l := by
  unfold MergeRow.dAttn
  rw [← ref_gate0, ← ref_dm]
  pointwise [val_main_v145]

theorem ref_dGate (j : Fin 3072) :
    val_main_v151 (F := Ideal) A.x A.ya A.ys A.v A.z A.d2 A.dh A.wa A.ws A.bs A.g A.b A.wc A.bg A.wm A.gf (ix2 r j)
      = MergeRow.dGate (rowR A r) (wtsR A) j := by
  unfold MergeRow.dGate
  revert j
  refine MergeRow.thirds (fun l => ?_) (fun l => ?_) fun l => ?_
  · rw [MergeRow.third_0, ← ref_gate, ← ref_dm, ← ref_attn]
    pointwise [val_main_cst_27, val_main_v117, val_main_v118, val_main_v119, val_main_v137, val_main_v138, val_main_cst_28, val_main_v139, val_main_v141,
        val_main_v142, val_main_cst_29, val_main_v143, val_main_v144, val_main_v146, val_main_v147, val_main_cst_30, val_main_v148, val_main_v149,
        val_main_v150, val_main_v151, g0]
    have hd : l.val / 1024 = 0 := by omega
    simp [hd, Nat.mod_eq_of_lt l.isLt]
  · rw [MergeRow.third_1, ← ref_gate, ← ref_dm, ← ref_branch]
    pointwise [val_main_cst_27, val_main_v117, val_main_v118, val_main_v119, val_main_v137, val_main_v138, val_main_cst_28, val_main_v139, val_main_v141,
        val_main_v142, val_main_cst_29, val_main_v143, val_main_v144, val_main_v146, val_main_v147, val_main_cst_30, val_main_v148, val_main_v149,
        val_main_v150, val_main_v151, g1]
    have hd : (1024 + l.val) / 1024 = 1 := by omega
    simp [hd]
  · rw [MergeRow.third_2, ← ref_gate, ← ref_dm, ← ref_out]
    pointwise [val_main_cst_27, val_main_v117, val_main_v118, val_main_v119, val_main_v137, val_main_v138, val_main_cst_28, val_main_v139, val_main_v141,
        val_main_v142, val_main_cst_29, val_main_v143, val_main_v144, val_main_v146, val_main_v147, val_main_cst_30, val_main_v148, val_main_v149,
        val_main_v150, val_main_v151, g2]
    have hd : (2048 + l.val) / 1024 = 2 := by omega
    simp [hd]

theorem ref_dYa (k : Fin 512) :
    val_main_v216 (F := Ideal) A.x A.z A.d2 A.dh A.wa A.bg A.wm A.gf (ix2 r k)
      = MergeRow.dYa (rowR A r) (wtsR A) k := by
  unfold MergeRow.dYa
  simp only [← ref_dAttn]
  pointwise [val_main_v216, wtsR]

theorem ref_dLn (k : Fin 256) :
    val_main_v158 (F := Ideal) A.x A.v A.z A.d2 A.dh A.g A.b A.wc A.bg A.wm A.gf (ix2 r k)
      = MergeRow.dLn (rowR A r) (wtsR A) k := by
  unfold MergeRow.dLn MergeRow.dSl
  rw [← ref_sl, ← ref_ln]
  simp only [← ref_dConv]
  pointwise [val_main_call0_cst_1, val_main_call0_v6, val_main_call0_v7, val_main_v106_1, val_main_v157, val_main_call1_v0, val_main_call1_v1,
      val_main_call1_v2, val_main_v158, wtsR]

theorem ref_dV (k : Fin 256) :
    val_main_v191 (F := Ideal) A.x A.v A.z A.d2 A.dh A.g A.b A.wc A.bg A.wm A.gf (ix2 r k)
      = MergeRow.dV (rowR A r) (wtsR A) k := by
  unfold MergeRow.dV MergeRow.dMean MergeRow.dCen MergeRow.dVar MergeRow.dN
  simp only [← ref_dLn]
  pointwise [val_main_cst_18, val_main_v77, val_main_v78, val_main_cst_19, val_main_v79, val_main_v80, val_main_v81, val_main_v82, val_main_v83,
      val_main_cst_20, val_main_v84, val_main_v85, val_main_cst_21, val_main_v86, val_main_v87, val_main_cst_22, val_main_v88, val_main_v89,
      val_main_v90, val_main_v91, val_main_cst_23, val_main_v92, val_main_v93, val_main_v94, val_main_v95, val_main_cst_24, val_main_v96, val_main_v97,
      val_main_v100, val_main_v165, val_main_v166, val_main_v168, val_main_cst_37, val_main_v169, val_main_v170, val_main_v171, val_main_v172,
      val_main_v173, val_main_v174, val_main_cst_38, val_main_v175, val_main_v176, val_main_cst_39, val_main_v177, val_main_v178, val_main_cst_40,
      val_main_v179, val_main_v180, val_main_v181, val_main_v182, val_main_cst_41, val_main_v183, val_main_v184, val_main_v185, val_main_v186,
      val_main_cst_42, val_main_v187, val_main_v188, val_main_cst_43, val_main_v189, val_main_v190, val_main_v191, mean, var, rowR, wtsR]

theorem ref_dGlu (j : Fin 2048) :
    val_main_v195 (F := Ideal) A.x A.ys A.z A.d2 A.dh A.ws A.bs A.bg A.wm A.gf (ix2 r j)
      = MergeRow.dGlu (rowR A r) (wtsR A) j := by
  unfold MergeRow.dGlu
  revert j
  refine MergeRow.halves (fun l => ?_) fun l => ?_
  · rw [MergeRow.half_lo, ← ref_dSsm, ← ref_sig]
    pointwise [val_main_v65, val_main_cst_17, val_main_v73, val_main_v74, val_main_v75, val_main_v192, val_main_v193, val_main_v194, val_main_v195, lo]
  · rw [MergeRow.half_hi, ← ref_sig, ← ref_dSsm, ← ref_pre]
    pointwise [val_main_v65, val_main_cst_17, val_main_v73, val_main_v74, val_main_v75, val_main_v192, val_main_v193, val_main_v194, val_main_v195, lo,
        hi]

theorem ref_dGe (k : Fin 256) :
    val_main_v201 (F := Ideal) A.x A.ys A.z A.d2 A.dh A.ws A.bs A.bg A.wm A.gf (ix2 r k)
      = MergeRow.dGe (rowR A r) (wtsR A) k := by
  unfold MergeRow.dGe
  simp only [← ref_dGlu]
  pointwise [val_main_v201, wtsR]

theorem ref_dYs (k : Fin 256) :
    val_main_v213 (F := Ideal) A.x A.ys A.z A.d2 A.dh A.ws A.bs A.bg A.wm A.gf (ix2 r k)
      = MergeRow.dYs (rowR A r) (wtsR A) k := by
  unfold MergeRow.dYs MergeRow.dArg geluArg
  rw [← ref_dGe]
  simp only [cube]
  pointwise [val_main_v40, val_main_v41, val_main_v42, val_main_cst_8, val_main_v43, val_main_v44, val_main_cst_9, val_main_v45, val_main_v46,
      val_main_v47, val_main_cst_10, val_main_v48, val_main_v49, val_main_v50, val_main_cst_11, val_main_v51, val_main_v52, val_main_cst_12,
      val_main_v53, val_main_v54, val_main_v55, val_main_cst_13, val_main_v56, val_main_v57, val_main_cst_14, val_main_v58, val_main_v59, val_main_v202,
      val_main_v203, val_main_cst_46, val_main_v204, val_main_v205, val_main_v206, val_main_cst_47, val_main_v207, val_main_v208, val_main_v209,
      val_main_cst_48, val_main_v210, val_main_v211, val_main_v212, val_main_v213, rowR]

/-! ## The sums over the rows -/

theorem ref_dWa (k : Fin 512) (l : Fin 1024) :
    val_main_v215 (F := Ideal) A.x A.ya A.z A.d2 A.dh A.bg A.wm A.gf (ix2 k l)
      = ∑ r : Fin 8192, MergeRow.tWa (rowR A r) (wtsR A) k l := by
  unfold MergeRow.tWa
  simp only [← ref_dAttn]
  refine Eq.trans ?_ (Finset.sum_congr rfl fun r _ => mul_comm _ _ : (∑ r : Fin 8192, val_main_v145 (F := Ideal) A.x A.z A.d2 A.dh A.bg A.wm A.gf (ix2 r l) * (rowR A r).ya k) = _)
  pointwise [val_main_v37, val_main_v214, val_main_v215, rowR]

theorem ref_dWs (k : Fin 256) (j : Fin 2048) :
    val_main_v200 (F := Ideal) A.x A.ys A.z A.d2 A.dh A.ws A.bs A.bg A.wm A.gf (ix2 k j)
      = ∑ r : Fin 8192, MergeRow.tWs (rowR A r) (wtsR A) k j := by
  unfold MergeRow.tWs gelu geluArg
  simp only [← ref_dGlu, cube]
  simp only [mul_comm (_ * (_ * (1 + Ideal.tanh _)))]
  pointwise [val_main_v40, val_main_v41, val_main_cst_9, val_main_v45, val_main_v46, val_main_v47, val_main_cst_10, val_main_v48, val_main_v49,
      val_main_v50, val_main_cst_13, val_main_v56, val_main_v57, val_main_cst_14, val_main_v58, val_main_v59, val_main_v60, val_main_v199,
      val_main_v200, rowR]

theorem ref_dWc (k : Fin 256) (l : Fin 1024) :
    val_main_v156 (F := Ideal) A.x A.v A.z A.d2 A.dh A.g A.b A.bg A.wm A.gf (ix2 k l)
      = ∑ r : Fin 8192, MergeRow.tWc (rowR A r) (wtsR A) k l := by
  unfold MergeRow.tWc
  simp only [← ref_dConv, ← ref_conv]
  refine Eq.trans ?_ (Finset.sum_congr rfl fun r _ => mul_comm _ _ : (∑ r : Fin 8192, val_main_v136 (F := Ideal) A.x A.z A.d2 A.dh A.bg A.wm A.gf (ix2 r l) * val_main_v106_0 (F := Ideal) A.v A.g A.b (ix2 r k)) = _)
  pointwise [val_main_v155, val_main_v156]

theorem ref_dWm (k l : Fin 1024) :
    val_main_v134 (F := Ideal) A.x A.ya A.ys A.v A.z A.d2 A.dh A.wa A.ws A.bs A.g A.b A.wc A.bg A.gf (ix2 k l)
      = ∑ r : Fin 8192, MergeRow.tWm (rowR A r) (wtsR A) k l := by
  unfold MergeRow.tWm
  simp only [← ref_merged, ← ref_dRes]
  refine Eq.trans ?_ (Finset.sum_congr rfl fun r _ => mul_comm _ _ : (∑ r : Fin 8192, val_main_v36 (F := Ideal) A.x A.d2 A.dh A.gf (ix2 r l) * val_main_v131 (F := Ideal) A.ya A.ys A.v A.z A.wa A.ws A.bs A.g A.b A.wc A.bg (ix2 r k)) = _)
  pointwise [val_main_v133, val_main_v134]

theorem ref_dBs (j : Fin 2048) :
    val_main_v221 (F := Ideal) A.x A.ys A.z A.d2 A.dh A.ws A.bs A.bg A.wm A.gf (ix2 0 j)
      = ∑ r : Fin 8192, MergeRow.dGlu (rowR A r) (wtsR A) j := by
  simp only [← ref_dGlu]
  refine Eq.trans ?_ (Fin.sum_univ_one (fun _ => _))
  pointwise [val_main_cst_44, val_main_v196, val_main_v197, val_main_cst_45, val_main_v198, val_main_v221]

theorem ref_dG (k : Fin 256) :
    val_main_v222 (F := Ideal) A.x A.v A.z A.d2 A.dh A.g A.b A.wc A.bg A.wm A.gf (ix2 0 k)
      = ∑ r : Fin 8192, MergeRow.tG (rowR A r) (wtsR A) k := by
  unfold MergeRow.tG
  simp only [← ref_dLn, ← ref_nrm]
  refine Eq.trans ?_ (Fin.sum_univ_one (fun _ => _))
  pointwise [val_main_v162, val_main_cst_35, val_main_v163, val_main_v164, val_main_cst_36, val_main_v167, val_main_v222]

theorem ref_dB (k : Fin 256) :
    val_main_v223 (F := Ideal) A.x A.v A.z A.d2 A.dh A.g A.b A.wc A.bg A.wm A.gf (ix2 0 k)
      = ∑ r : Fin 8192, MergeRow.dLn (rowR A r) (wtsR A) k := by
  simp only [← ref_dLn]
  refine Eq.trans ?_ (Fin.sum_univ_one (fun _ => _))
  pointwise [val_main_cst_33, val_main_v159, val_main_v160, val_main_cst_34, val_main_v161, val_main_v223]

theorem ref_dBg (j : Fin 3072) :
    val_main_v224 (F := Ideal) A.x A.ya A.ys A.v A.z A.d2 A.dh A.wa A.ws A.bs A.g A.b A.wc A.bg A.wm A.gf (ix2 0 j)
      = ∑ r : Fin 8192, MergeRow.dGate (rowR A r) (wtsR A) j := by
  simp only [← ref_dGate]
  refine Eq.trans ?_ (Fin.sum_univ_one (fun _ => _))
  pointwise [val_main_cst_31, val_main_v152, val_main_v153, val_main_cst_32, val_main_v154, val_main_v224]

theorem ref_dGf (l : Fin 1024) :
    val_main_v225 (F := Ideal) A.x A.dh (ix2 0 l)
      = ∑ r : Fin 8192, MergeRow.tGf (rowR A r) l := by
  refine Eq.trans ?_ (Fin.sum_univ_one (fun _ => _))
  pointwise [val_main_v0, val_main_cst, val_main_v1, val_main_v2, val_main_cst_0, val_main_v3, val_main_v4, val_main_cst_1, val_main_v5, val_main_v6,
      val_main_v7, val_main_v11, val_main_v12, val_main_v16, val_main_cst_3, val_main_v17, val_main_v18, val_main_cst_4, val_main_v21, val_main_v225,
      MergeRow.tGf, NormGrad.dg, NormGrad.ms, rowR]

/-- The gates' gradient is the first part of a wider array's columns, whose others are another array's. -/
theorem ref_dz_lo (j : Fin 3072) :
    val_main_v219 (F := Ideal) A.x A.ya A.ys A.v A.z A.d2 A.dh A.dz A.wa A.ws A.bs A.g A.b A.wc A.bg A.wm A.gf (ix2 r ⟨j.val, by omega⟩)
      = MergeRow.dGate (rowR A r) (wtsR A) j := by
  rw [← ref_dGate]
  pointwise [val_main_v217, val_main_v218, val_main_v219]

theorem ref_dz_hi (j : Fin 4608) (h : 3072 ≤ j.val) :
    val_main_v219 (F := Ideal) A.x A.ya A.ys A.v A.z A.d2 A.dh A.dz A.wa A.ws A.bs A.g A.b A.wc A.bg A.wm A.gf (ix2 r j)
      = A.dz (ix2 r j) := by
  pointwise [val_main_v217, val_main_v218, val_main_v219]
  rw [dif_neg (by omega)]
  exact congrArg (fun k => A.dz (ix2 r k)) (Fin.ext (by show 3072 + (j.val - 3072) = j.val; omega))

end Cert.MergeGrad

end
-- ==== Proof.MergeGrad14Value.lean ====
module

public import Idealize.ShloMosaic.Lib.Pipeline.ValueKit.Geometry
public import proofs.«01_k».proof.Proof.MergeGrad14Run
public import proofs.«01_k».proof.Proof.MergeGrad14Rows
public import proofs.«01_k».proof.Proof.MergeGrad14Ref
public import proofs.«01_k».proof.Proof.Sums

@[expose] public section

noncomputable section

/-! `merge_bwd`'s results over the extended reals are the reference's. -/

namespace Cert.MergeGrad

open Cert.Kernel14Ideal Cert.Kernel14Ideal.Gen Merge
open Idealize.ShloMosaic Idealize.ShloMosaic.TcCoe Idealize.SL.Sem

variable (m : (ℓ : Loc nD τ sig) → Buf (Elt Ideal) ℓ)

/-! ## The arrays as launched, and a point's blocks of them -/

/-- The arguments. -/
abbrev args (c : Dev nD) : Args where
  x := m ((c.tc : Thread nD τ).loc main_arg0)
  ya := m ((c.tc : Thread nD τ).loc main_arg1)
  ys := m ((c.tc : Thread nD τ).loc main_arg2)
  v := m ((c.tc : Thread nD τ).loc main_arg3)
  z := m ((c.tc : Thread nD τ).loc main_arg4)
  d2 := m ((c.tc : Thread nD τ).loc main_arg5)
  dh := m ((c.tc : Thread nD τ).loc main_arg6)
  dz := m ((c.tc : Thread nD τ).loc main_arg7)
  wa := m ((c.tc : Thread nD τ).loc main_arg8)
  ws := m ((c.tc : Thread nD τ).loc main_arg9)
  bs := m ((c.tc : Thread nD τ).loc main_arg10)
  g := m ((c.tc : Thread nD τ).loc main_arg11)
  b := m ((c.tc : Thread nD τ).loc main_arg12)
  wc := m ((c.tc : Thread nD τ).loc main_arg13)
  bg := m ((c.tc : Thread nD τ).loc main_arg14)
  wm := m ((c.tc : Thread nD τ).loc main_arg15)
  gf := m ((c.tc : Thread nD τ).loc main_arg16)

theorem host_wa (c : Dev nD) : (V m c main_v0 : S512x1024.Idx → EReal) = (args m c).wa := rfl
theorem host_ws (c : Dev nD) : (V m c main_v1 : S256x2048.Idx → EReal) = (args m c).ws := rfl
theorem host_bs (c : Dev nD) : (V m c main_v2 : S1x2048.Idx → EReal) = shapeCast S1x2048 (args m c).bs shapeCasts_S2048_S1x2048 := rfl
theorem host_g (c : Dev nD) : (V m c main_v3 : S1x256.Idx → EReal) = shapeCast S1x256 (args m c).g shapeCasts_S256_S1x256 := rfl
theorem host_b (c : Dev nD) : (V m c main_v4 : S1x256.Idx → EReal) = shapeCast S1x256 (args m c).b shapeCasts_S256_S1x256 := rfl
theorem host_wc (c : Dev nD) : (V m c main_v5 : S256x1024.Idx → EReal) = (args m c).wc := rfl
theorem host_bg (c : Dev nD) : (V m c main_v6 : S1x3072.Idx → EReal) = shapeCast S1x3072 (args m c).bg shapeCasts_S3072_S1x3072 := rfl
theorem host_wm (c : Dev nD) : (V m c main_v7 : S1024x1024.Idx → EReal) = (args m c).wm := rfl
theorem host_gf (c : Dev nD) : (V m c main_v8 : S1x1024.Idx → EReal) = shapeCast S1x1024 (args m c).gf shapeCasts_S1024_S1x1024 := rfl

theorem row256_apply (g : Vec Ideal S256 .f32) (l : Fin 256) : shapeCast S1x256 g shapeCasts_S256_S1x256 (ix2 0 l) = g (ix1 l) := by
  pointwise []
theorem row1024_apply (g : Vec Ideal S1024 .f32) (l : Fin 1024) : shapeCast S1x1024 g shapeCasts_S1024_S1x1024 (ix2 0 l) = g (ix1 l) := by
  pointwise []
theorem row2048_apply (g : Vec Ideal S2048 .f32) (l : Fin 2048) : shapeCast S1x2048 g shapeCasts_S2048_S1x2048 (ix2 0 l) = g (ix1 l) := by
  pointwise []
theorem row3072_apply (g : Vec Ideal S3072 .f32) (l : Fin 3072) : shapeCast S1x3072 g shapeCasts_S3072_S1x3072 (ix2 0 l) = g (ix1 l) := by
  pointwise []

theorem blocks : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

theorem out_blocks : ∀ t : Fin cfg0.N, (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0)
    ∧ (win0_21.index t (0 : Fin 2) = 0 ∧ win0_21.index t (1 : Fin 2) = 0)
    ∧ (win0_22.index t (0 : Fin 2) = 0 ∧ win0_22.index t (1 : Fin 2) = 0)
    ∧ (win0_23.index t (0 : Fin 2) = 0 ∧ win0_23.index t (1 : Fin 2) = 0)
    ∧ (win0_24.index t (0 : Fin 2) = 0 ∧ win0_24.index t (1 : Fin 2) = 0)
    ∧ (win0_25.index t (0 : Fin 2) = 0 ∧ win0_25.index t (1 : Fin 2) = 0)
    ∧ (win0_26.index t (0 : Fin 2) = 0 ∧ win0_26.index t (1 : Fin 2) = 0)
    ∧ (win0_27.index t (0 : Fin 2) = 0 ∧ win0_27.index t (1 : Fin 2) = 0)
    ∧ (win0_28.index t (0 : Fin 2) = 0 ∧ win0_28.index t (1 : Fin 2) = 0)
    ∧ (win0_29.index t (0 : Fin 2) = 0 ∧ win0_29.index t (1 : Fin 2) = 0) :=
  (by decide +kernel : ∀ t : Fin grid0.N, _)

theorem x_apply (c : Dev nD) (t : Fin cfg0.N) (r : Fin 256) (k : Fin 1024) (r' : Fin 8192) (h : r'.val = t.val * 256 + r.val) :
    (tile m c t).x (ix2 r k) = (args m c).x (ix2 r' k) := by
  obtain ⟨⟨e0, e1⟩, -⟩ := blocks t
  show V m c main_arg0 (((cfg0.win 0).blk t).view.emb (ix2 r k)) = _
  rw [V_main_arg0]
  refine congrArg _ (funext fun a => Fin.ext ?_)
  match a with
  | ⟨0, _⟩ => show win0_0.index t (0 : Fin 2) * 256 + 1 * r.val = r'.val; omega
  | ⟨1, _⟩ => show win0_0.index t (1 : Fin 2) * 1024 + 1 * k.val = k.val; omega

theorem ya_apply (c : Dev nD) (t : Fin cfg0.N) (r : Fin 256) (k : Fin 512) (r' : Fin 8192) (h : r'.val = t.val * 256 + r.val) :
    (tile m c t).ya (ix2 r k) = (args m c).ya (ix2 r' k) := by
  obtain ⟨-, ⟨e0, e1⟩, -⟩ := blocks t
  show V m c main_arg1 (((cfg0.win 1).blk t).view.emb (ix2 r k)) = _
  rw [V_main_arg1]
  refine congrArg _ (funext fun a => Fin.ext ?_)
  match a with
  | ⟨0, _⟩ => show win0_1.index t (0 : Fin 2) * 256 + 1 * r.val = r'.val; omega
  | ⟨1, _⟩ => show win0_1.index t (1 : Fin 2) * 512 + 1 * k.val = k.val; omega

theorem ys_apply (c : Dev nD) (t : Fin cfg0.N) (r : Fin 256) (k : Fin 256) (r' : Fin 8192) (h : r'.val = t.val * 256 + r.val) :
    (tile m c t).ys (ix2 r k) = (args m c).ys (ix2 r' k) := by
  obtain ⟨-, -, ⟨e0, e1⟩, -⟩ := blocks t
  show V m c main_arg2 (((cfg0.win 2).blk t).view.emb (ix2 r k)) = _
  rw [V_main_arg2]
  refine congrArg _ (funext fun a => Fin.ext ?_)
  match a with
  | ⟨0, _⟩ => show win0_2.index t (0 : Fin 2) * 256 + 1 * r.val = r'.val; omega
  | ⟨1, _⟩ => show win0_2.index t (1 : Fin 2) * 256 + 1 * k.val = k.val; omega

theorem v_apply (c : Dev nD) (t : Fin cfg0.N) (r : Fin 256) (k : Fin 256) (r' : Fin 8192) (h : r'.val = t.val * 256 + r.val) :
    (tile m c t).v (ix2 r k) = (args m c).v (ix2 r' k) := by
  obtain ⟨-, -, -, ⟨e0, e1⟩, -⟩ := blocks t
  show V m c main_arg3 (((cfg0.win 3).blk t).view.emb (ix2 r k)) = _
  rw [V_main_arg3]
  refine congrArg _ (funext fun a => Fin.ext ?_)
  match a with
  | ⟨0, _⟩ => show win0_3.index t (0 : Fin 2) * 256 + 1 * r.val = r'.val; omega
  | ⟨1, _⟩ => show win0_3.index t (1 : Fin 2) * 256 + 1 * k.val = k.val; omega

theorem z_apply (c : Dev nD) (t : Fin cfg0.N) (r : Fin 256) (k : Fin 3072) (r' : Fin 8192) (h : r'.val = t.val * 256 + r.val) :
    (tile m c t).z (ix2 r k) = (args m c).z (ix2 r' ⟨k.val, by omega⟩) := by
  obtain ⟨-, -, -, -, ⟨e0, e1⟩, -⟩ := blocks t
  show X0_4 m c t (ix2 r k) = _
  unfold X0_4 Pipeline.Window.fill
  rw [dif_pos (moved0_4 t _)]
  show V m c main_arg4 (((cfg0.win 4).blk t).view.emb _) = _
  rw [V_main_arg4]
  refine congrArg _ (funext fun a => Fin.ext ?_)
  match a with
  | ⟨0, _⟩ => show win0_4.index t (0 : Fin 2) * 256 + 1 * r.val = r'.val; omega
  | ⟨1, _⟩ => show win0_4.index t (1 : Fin 2) * 3072 + 1 * k.val = k.val; omega

theorem d2_apply (c : Dev nD) (t : Fin cfg0.N) (r : Fin 256) (k : Fin 1024) (r' : Fin 8192) (h : r'.val = t.val * 256 + r.val) :
    (tile m c t).d2 (ix2 r k) = (args m c).d2 (ix2 r' k) := by
  obtain ⟨-, -, -, -, -, ⟨e0, e1⟩, -⟩ := blocks t
  show V m c main_arg5 (((cfg0.win 5).blk t).view.emb (ix2 r k)) = _
  rw [V_main_arg5]
  refine congrArg _ (funext fun a => Fin.ext ?_)
  match a with
  | ⟨0, _⟩ => show win0_5.index t (0 : Fin 2) * 256 + 1 * r.val = r'.val; omega
  | ⟨1, _⟩ => show win0_5.index t (1 : Fin 2) * 1024 + 1 * k.val = k.val; omega

theorem dh_apply (c : Dev nD) (t : Fin cfg0.N) (r : Fin 256) (k : Fin 1024) (r' : Fin 8192) (h : r'.val = t.val * 256 + r.val) :
    (tile m c t).dh (ix2 r k) = (args m c).dh (ix2 r' k) := by
  obtain ⟨-, -, -, -, -, -, ⟨e0, e1⟩, -⟩ := blocks t
  show V m c main_arg6 (((cfg0.win 6).blk t).view.emb (ix2 r k)) = _
  rw [V_main_arg6]
  refine congrArg _ (funext fun a => Fin.ext ?_)
  match a with
  | ⟨0, _⟩ => show win0_6.index t (0 : Fin 2) * 256 + 1 * r.val = r'.val; omega
  | ⟨1, _⟩ => show win0_6.index t (1 : Fin 2) * 1024 + 1 * k.val = k.val; omega

theorem wa_apply (c : Dev nD) (t : Fin cfg0.N) (k : Fin 512) (l : Fin 1024) : (tile m c t).wa (ix2 k l) = (args m c).wa (ix2 k l) := by
  obtain ⟨-, -, -, -, -, -, -, ⟨e0, e1⟩, -⟩ := blocks t
  refine Eq.trans ?_ (congrFun (host_wa m c) (ix2 k l))
  show V m c main_v0 (((cfg0.win 7).blk t).view.emb (ix2 k l)) = _
  refine congrArg _ (funext fun a => Fin.ext ?_)
  match a with
  | ⟨0, _⟩ => show win0_7.index t (0 : Fin 2) * 512 + 1 * k.val = k.val; omega
  | ⟨1, _⟩ => show win0_7.index t (1 : Fin 2) * 1024 + 1 * l.val = l.val; omega

theorem ws_apply (c : Dev nD) (t : Fin cfg0.N) (k : Fin 256) (l : Fin 2048) : (tile m c t).ws (ix2 k l) = (args m c).ws (ix2 k l) := by
  obtain ⟨-, -, -, -, -, -, -, -, ⟨e0, e1⟩, -⟩ := blocks t
  refine Eq.trans ?_ (congrFun (host_ws m c) (ix2 k l))
  show V m c main_v1 (((cfg0.win 8).blk t).view.emb (ix2 k l)) = _
  refine congrArg _ (funext fun a => Fin.ext ?_)
  match a with
  | ⟨0, _⟩ => show win0_8.index t (0 : Fin 2) * 256 + 1 * k.val = k.val; omega
  | ⟨1, _⟩ => show win0_8.index t (1 : Fin 2) * 2048 + 1 * l.val = l.val; omega

theorem bs_apply (c : Dev nD) (t : Fin cfg0.N) (l : Fin 2048) : (tile m c t).bs (ix2 0 l) = (args m c).bs (ix1 l) := by
  obtain ⟨-, -, -, -, -, -, -, -, -, ⟨e0, e1⟩, -⟩ := blocks t
  refine Eq.trans ?_ ((congrFun (host_bs m c) (ix2 0 l)).trans (row2048_apply _ l))
  show V m c main_v2 (((cfg0.win 9).blk t).view.emb (ix2 0 l)) = _
  refine congrArg _ (funext fun a => Fin.ext ?_)
  match a with
  | ⟨0, _⟩ => show win0_9.index t (0 : Fin 2) * 1 + 1 * 0 = 0; omega
  | ⟨1, _⟩ => show win0_9.index t (1 : Fin 2) * 2048 + 1 * l.val = l.val; omega

theorem g_apply (c : Dev nD) (t : Fin cfg0.N) (l : Fin 256) : (tile m c t).g (ix2 0 l) = (args m c).g (ix1 l) := by
  obtain ⟨-, -, -, -, -, -, -, -, -, -, ⟨e0, e1⟩, -⟩ := blocks t
  refine Eq.trans ?_ ((congrFun (host_g m c) (ix2 0 l)).trans (row256_apply _ l))
  show V m c main_v3 (((cfg0.win 10).blk t).view.emb (ix2 0 l)) = _
  refine congrArg _ (funext fun a => Fin.ext ?_)
  match a with
  | ⟨0, _⟩ => show win0_10.index t (0 : Fin 2) * 1 + 1 * 0 = 0; omega
  | ⟨1, _⟩ => show win0_10.index t (1 : Fin 2) * 256 + 1 * l.val = l.val; omega

theorem b_apply (c : Dev nD) (t : Fin cfg0.N) (l : Fin 256) : (tile m c t).b (ix2 0 l) = (args m c).b (ix1 l) := by
  obtain ⟨-, -, -, -, -, -, -, -, -, -, -, ⟨e0, e1⟩, -⟩ := blocks t
  refine Eq.trans ?_ ((congrFun (host_b m c) (ix2 0 l)).trans (row256_apply _ l))
  show V m c main_v4 (((cfg0.win 11).blk t).view.emb (ix2 0 l)) = _
  refine congrArg _ (funext fun a => Fin.ext ?_)
  match a with
  | ⟨0, _⟩ => show win0_11.index t (0 : Fin 2) * 1 + 1 * 0 = 0; omega
  | ⟨1, _⟩ => show win0_11.index t (1 : Fin 2) * 256 + 1 * l.val = l.val; omega

theorem wc_apply (c : Dev nD) (t : Fin cfg0.N) (k : Fin 256) (l : Fin 1024) : (tile m c t).wc (ix2 k l) = (args m c).wc (ix2 k l) := by
  obtain ⟨-, -, -, -, -, -, -, -, -, -, -, -, ⟨e0, e1⟩, -⟩ := blocks t
  refine Eq.trans ?_ (congrFun (host_wc m c) (ix2 k l))
  show V m c main_v5 (((cfg0.win 12).blk t).view.emb (ix2 k l)) = _
  refine congrArg _ (funext fun a => Fin.ext ?_)
  match a with
  | ⟨0, _⟩ => show win0_12.index t (0 : Fin 2) * 256 + 1 * k.val = k.val; omega
  | ⟨1, _⟩ => show win0_12.index t (1 : Fin 2) * 1024 + 1 * l.val = l.val; omega

theorem bg_apply (c : Dev nD) (t : Fin cfg0.N) (l : Fin 3072) : (tile m c t).bg (ix2 0 l) = (args m c).bg (ix1 l) := by
  obtain ⟨-, -, -, -, -, -, -, -, -, -, -, -, -, ⟨e0, e1⟩, -⟩ := blocks t
  refine Eq.trans ?_ ((congrFun (host_bg m c) (ix2 0 l)).trans (row3072_apply _ l))
  show V m c main_v6 (((cfg0.win 13).blk t).view.emb (ix2 0 l)) = _
  refine congrArg _ (funext fun a => Fin.ext ?_)
  match a with
  | ⟨0, _⟩ => show win0_13.index t (0 : Fin 2) * 1 + 1 * 0 = 0; omega
  | ⟨1, _⟩ => show win0_13.index t (1 : Fin 2) * 3072 + 1 * l.val = l.val; omega

theorem wm_apply (c : Dev nD) (t : Fin cfg0.N) (k : Fin 1024) (l : Fin 1024) : (tile m c t).wm (ix2 k l) = (args m c).wm (ix2 k l) := by
  obtain ⟨-, -, -, -, -, -, -, -, -, -, -, -, -, -, ⟨e0, e1⟩, -⟩ := blocks t
  refine Eq.trans ?_ (congrFun (host_wm m c) (ix2 k l))
  show V m c main_v7 (((cfg0.win 14).blk t).view.emb (ix2 k l)) = _
  refine congrArg _ (funext fun a => Fin.ext ?_)
  match a with
  | ⟨0, _⟩ => show win0_14.index t (0 : Fin 2) * 1024 + 1 * k.val = k.val; omega
  | ⟨1, _⟩ => show win0_14.index t (1 : Fin 2) * 1024 + 1 * l.val = l.val; omega

theorem gf_apply (c : Dev nD) (t : Fin cfg0.N) (l : Fin 1024) : (tile m c t).gf (ix2 0 l) = (args m c).gf (ix1 l) := by
  obtain ⟨-, -, -, -, -, -, -, -, -, -, -, -, -, -, -, e0, e1⟩ := blocks t
  refine Eq.trans ?_ ((congrFun (host_gf m c) (ix2 0 l)).trans (row1024_apply _ l))
  show V m c main_v8 (((cfg0.win 15).blk t).view.emb (ix2 0 l)) = _
  refine congrArg _ (funext fun a => Fin.ext ?_)
  match a with
  | ⟨0, _⟩ => show win0_15.index t (0 : Fin 2) * 1 + 1 * 0 = 0; omega
  | ⟨1, _⟩ => show win0_15.index t (1 : Fin 2) * 1024 + 1 * l.val = l.val; omega

/-- A tile's rows and weights are the arguments'. -/
theorem row_at (c : Dev nD) (t : Fin cfg0.N) (r : Fin 256) (r' : Fin 8192) (h : r'.val = t.val * 256 + r.val) :
    rowOf (tile m c t) r = rowR (args m c) r' := by
  show MergeRow.Row.mk _ _ _ _ _ _ _ = MergeRow.Row.mk _ _ _ _ _ _ _
  congr 1 <;> funext k
  · exact x_apply m c t r k r' h
  · exact ya_apply m c t r k r' h
  · exact ys_apply m c t r k r' h
  · exact v_apply m c t r k r' h
  · exact z_apply m c t r k r' h
  · exact d2_apply m c t r k r' h
  · exact dh_apply m c t r k r' h

theorem wts_at (c : Dev nD) (t : Fin cfg0.N) : wtsOf (tile m c t) = wtsR (args m c) := by
  show MergeRow.Wts.mk _ _ _ _ _ _ _ _ _ = MergeRow.Wts.mk _ _ _ _ _ _ _ _ _
  congr 1 <;> funext k
  · exact funext fun l => wa_apply m c t k l
  · exact funext fun l => ws_apply m c t k l
  · exact bs_apply m c t k
  · exact g_apply m c t k
  · exact b_apply m c t k
  · exact funext fun l => wc_apply m c t k l
  · exact bg_apply m c t k
  · exact funext fun l => wm_apply m c t k l
  · exact gf_apply m c t k

/-! ## The results of the rows -/

/-- The point that a row belongs to, and its place there. -/
def pt (r : Fin 8192) : Fin cfg0.N := ⟨r.val / 256, by have h : cfg0.N = 32 := N_0; omega⟩
def row (r : Fin 8192) : Fin 256 := ⟨r.val % 256, Nat.mod_lt _ (by decide)⟩

theorem row_eq (r : Fin 8192) : r.val = (pt r).val * 256 + (row r).val := by
  show r.val = r.val / 256 * 256 + r.val % 256; omega

theorem inj16 : ∀ t t' : Fin cfg0.N, win0_16.index t = win0_16.index t' → t = t' :=
  (by decide +kernel : ∀ t t' : Fin grid0.N, win0_16.index t = win0_16.index t' → t = t')

theorem value_dRes (c : Dev nD) :
    (dats m 0 c).arrAt 16 cfg0.N = Cert.Reference14Ideal.Read.val_main_v36 (F := Ideal) (args m c).x (args m c).d2 (args m c).dh (args m c).gf := by
  funext i
  obtain ⟨r, l, rfl⟩ : ∃ (r : Fin 8192) (l : Fin 1024), i = ix2 r l := ⟨i 0, i 1, (ix2_eta i).symm⟩
  have hr := row_eq r
  obtain ⟨⟨e0, e1⟩, -⟩ := out_blocks (pt r)
  have hi : (ix2 r l : S8192x1024.Idx) = ((cfg0.win 16).blk (pt r)).view.emb (ix2 (row r) l) := by
    refine funext fun a => Fin.ext ?_
    match a with
    | ⟨0, _⟩ => show r.val = win0_16.index (pt r) (0 : Fin 2) * 256 + 1 * (row r).val; omega
    | ⟨1, _⟩ => show l.val = win0_16.index (pt r) (1 : Fin 2) * 1024 + 1 * l.val; omega
  refine (congrArg _ hi).trans (((dats m 0 c).arrAt_emb_eq_flushed 16 (fun t t' _ _ hne => (cfg0.win 16).disjoint_blk fun h => hne (inj16 t t' h))
    (pt r) (flush0_16 _) (ix2 (row r) l)).trans ?_)
  show (cfg0.win 16).cut (grid0.coords _) ((dats m 0 c).after 16 (pt r)) (ix2 (row r) l) = _
  rw [after_16]
  exact ((dRes_apply _ _ _).trans (by rw [row_at m c (pt r) (row r) r hr, wts_at])).trans (ref_dRes (args m c) r l).symm

theorem inj17 : ∀ t t' : Fin cfg0.N, win0_17.index t = win0_17.index t' → t = t' :=
  (by decide +kernel : ∀ t t' : Fin grid0.N, win0_17.index t = win0_17.index t' → t = t')

theorem value_dYa (c : Dev nD) :
    (dats m 0 c).arrAt 17 cfg0.N = Cert.Reference14Ideal.Read.val_main_v220 (F := Ideal) (args m c).x (args m c).z (args m c).d2 (args m c).dh (args m c).wa (args m c).bg (args m c).wm (args m c).gf := by
  funext i
  obtain ⟨r, l, rfl⟩ : ∃ (r : Fin 8192) (l : Fin 512), i = ix2 r l := ⟨i 0, i 1, (ix2_eta i).symm⟩
  have hr := row_eq r
  obtain ⟨-, ⟨e0, e1⟩, -⟩ := out_blocks (pt r)
  have hi : (ix2 r l : S8192x512.Idx) = ((cfg0.win 17).blk (pt r)).view.emb (ix2 (row r) l) := by
    refine funext fun a => Fin.ext ?_
    match a with
    | ⟨0, _⟩ => show r.val = win0_17.index (pt r) (0 : Fin 2) * 256 + 1 * (row r).val; omega
    | ⟨1, _⟩ => show l.val = win0_17.index (pt r) (1 : Fin 2) * 512 + 1 * l.val; omega
  refine (congrArg _ hi).trans (((dats m 0 c).arrAt_emb_eq_flushed 17 (fun t t' _ _ hne => (cfg0.win 17).disjoint_blk fun h => hne (inj17 t t' h))
    (pt r) (flush0_17 _) (ix2 (row r) l)).trans ?_)
  show (cfg0.win 17).cut (grid0.coords _) ((dats m 0 c).after 17 (pt r)) (ix2 (row r) l) = _
  rw [after_17]
  exact ((dYa_apply _ _ _).trans (by rw [row_at m c (pt r) (row r) r hr, wts_at])).trans (ref_dYa (args m c) r l).symm

theorem inj18 : ∀ t t' : Fin cfg0.N, win0_18.index t = win0_18.index t' → t = t' :=
  (by decide +kernel : ∀ t t' : Fin grid0.N, win0_18.index t = win0_18.index t' → t = t')

theorem value_dYs (c : Dev nD) :
    (dats m 0 c).arrAt 18 cfg0.N = Cert.Reference14Ideal.Read.val_main_v213 (F := Ideal) (args m c).x (args m c).ys (args m c).z (args m c).d2 (args m c).dh (args m c).ws (args m c).bs (args m c).bg (args m c).wm (args m c).gf := by
  funext i
  obtain ⟨r, l, rfl⟩ : ∃ (r : Fin 8192) (l : Fin 256), i = ix2 r l := ⟨i 0, i 1, (ix2_eta i).symm⟩
  have hr := row_eq r
  obtain ⟨-, -, ⟨e0, e1⟩, -⟩ := out_blocks (pt r)
  have hi : (ix2 r l : S8192x256.Idx) = ((cfg0.win 18).blk (pt r)).view.emb (ix2 (row r) l) := by
    refine funext fun a => Fin.ext ?_
    match a with
    | ⟨0, _⟩ => show r.val = win0_18.index (pt r) (0 : Fin 2) * 256 + 1 * (row r).val; omega
    | ⟨1, _⟩ => show l.val = win0_18.index (pt r) (1 : Fin 2) * 256 + 1 * l.val; omega
  refine (congrArg _ hi).trans (((dats m 0 c).arrAt_emb_eq_flushed 18 (fun t t' _ _ hne => (cfg0.win 18).disjoint_blk fun h => hne (inj18 t t' h))
    (pt r) (flush0_18 _) (ix2 (row r) l)).trans ?_)
  show (cfg0.win 18).cut (grid0.coords _) ((dats m 0 c).after 18 (pt r)) (ix2 (row r) l) = _
  rw [after_18]
  exact ((dYs_apply _ _ _).trans (by rw [row_at m c (pt r) (row r) r hr, wts_at])).trans (ref_dYs (args m c) r l).symm

theorem inj19 : ∀ t t' : Fin cfg0.N, win0_19.index t = win0_19.index t' → t = t' :=
  (by decide +kernel : ∀ t t' : Fin grid0.N, win0_19.index t = win0_19.index t' → t = t')

theorem value_dV (c : Dev nD) :
    (dats m 0 c).arrAt 19 cfg0.N = Cert.Reference14Ideal.Read.val_main_v191 (F := Ideal) (args m c).x (args m c).v (args m c).z (args m c).d2 (args m c).dh (args m c).g (args m c).b (args m c).wc (args m c).bg (args m c).wm (args m c).gf := by
  funext i
  obtain ⟨r, l, rfl⟩ : ∃ (r : Fin 8192) (l : Fin 256), i = ix2 r l := ⟨i 0, i 1, (ix2_eta i).symm⟩
  have hr := row_eq r
  obtain ⟨-, -, -, ⟨e0, e1⟩, -⟩ := out_blocks (pt r)
  have hi : (ix2 r l : S8192x256.Idx) = ((cfg0.win 19).blk (pt r)).view.emb (ix2 (row r) l) := by
    refine funext fun a => Fin.ext ?_
    match a with
    | ⟨0, _⟩ => show r.val = win0_19.index (pt r) (0 : Fin 2) * 256 + 1 * (row r).val; omega
    | ⟨1, _⟩ => show l.val = win0_19.index (pt r) (1 : Fin 2) * 256 + 1 * l.val; omega
  refine (congrArg _ hi).trans (((dats m 0 c).arrAt_emb_eq_flushed 19 (fun t t' _ _ hne => (cfg0.win 19).disjoint_blk fun h => hne (inj19 t t' h))
    (pt r) (flush0_19 _) (ix2 (row r) l)).trans ?_)
  show (cfg0.win 19).cut (grid0.coords _) ((dats m 0 c).after 19 (pt r)) (ix2 (row r) l) = _
  rw [after_19]
  exact ((dV_apply _ _ _).trans (by rw [row_at m c (pt r) (row r) r hr, wts_at])).trans (ref_dV (args m c) r l).symm

theorem inj20 : ∀ t t' : Fin cfg0.N, win0_20.index t = win0_20.index t' → t = t' :=
  (by decide +kernel : ∀ t t' : Fin grid0.N, win0_20.index t = win0_20.index t' → t = t')

/-- No point's block of the gates' gradient is cut short. -/
theorem xsize20 : ∀ t : Fin cfg0.N, ∀ a, (cfg0.win 20).xsize (cfg0.grid.coords t) a = (cfg0.win 20).size a := by decide +kernel

/-- A block's entry, as one of what is written back. -/
def at20 (t : Fin cfg0.N) (r : Fin 256) (l : Fin 3072) : ((cfg0.win 20).xblock (cfg0.grid.coords t)).Idx :=
  fun a => ⟨((ix2 r l : S256x3072.Idx) a).val, lt_of_lt_of_eq ((ix2 r l : S256x3072.Idx) a).isLt (xsize20 t a).symm⟩

/-- The gates' columns hold what the points wrote, the others what came with the array. -/
theorem value_dz (c : Dev nD) :
    (dats m 0 c).arrAt 20 cfg0.N = Cert.Reference14Ideal.Read.val_main_v219 (F := Ideal) (args m c).x (args m c).ya (args m c).ys (args m c).v (args m c).z (args m c).d2 (args m c).dh (args m c).dz (args m c).wa (args m c).ws (args m c).bs (args m c).g (args m c).b (args m c).wc (args m c).bg (args m c).wm (args m c).gf := by
  funext i
  obtain ⟨r, l, rfl⟩ : ∃ (r : Fin 8192) (l : Fin 4608), i = ix2 r l := ⟨i 0, i 1, (ix2_eta i).symm⟩
  by_cases hl : l.val < 3072
  · have hr := row_eq r
    obtain ⟨-, -, -, -, ⟨e0, e1⟩, -⟩ := out_blocks (pt r)
    have hi : (ix2 r l : S8192x4608.Idx) = ((cfg0.win 20).blk (pt r)).view.emb (at20 (pt r) (row r) ⟨l.val, hl⟩) := by
      refine funext fun a => Fin.ext ?_
      match a with
      | ⟨0, _⟩ => show r.val = win0_20.index (pt r) (0 : Fin 2) * 256 + 1 * (row r).val; omega
      | ⟨1, _⟩ => show l.val = win0_20.index (pt r) (1 : Fin 2) * 3072 + 1 * l.val; omega
    refine (congrArg _ hi).trans (((dats m 0 c).arrAt_emb_eq_flushed 20 (fun t t' _ _ hne => (cfg0.win 20).disjoint_blk fun h => hne (inj20 t t' h))
      (pt r) (flush0_20 _) (at20 (pt r) (row r) ⟨l.val, hl⟩)).trans ?_)
    show (dats m 0 c).after 20 (pt r) (ix2 (row r) ⟨l.val, hl⟩) = _
    rw [after_20]
    exact ((dZ_apply _ _ _).trans (by rw [row_at m c (pt r) (row r) r hr, wts_at])).trans (ref_dz_lo (args m c) r ⟨l.val, hl⟩).symm
  · refine ((dats m 0 c).arrAt_apply_of_forall_not_mem 20 cfg0.N _ fun t _ _ hm => ?_).trans (Eq.trans ?_ (ref_dz_hi (args m c) r l (by omega)).symm)
    · obtain ⟨-, -, -, -, ⟨e0, e1⟩, -⟩ := out_blocks t
      have h := (((cfg0.win 20).emb_mem_blk_iff t (ix2 r l : S8192x4608.Idx)).mp hm (1 : Fin 2)).2
      rw [xsize20] at h
      have h' : l.val < win0_20.index t (1 : Fin 2) * 3072 + 3072 := h
      omega
    · rw [A_eq]
      rfl

/-! ## The sums over the rows -/

theorem last_lt : 31 < cfg0.N := by have h : cfg0.N = 32 := N_0; omega
/-- The last point, the only one after which a sum's block is written back. -/
def last : Fin cfg0.N := ⟨31, last_lt⟩

theorem only_last (a b : Fin cfg0.N) (ha : a.val % 32 = 31) (hb : b.val % 32 = 31) : a = b := by
  have h1 : a.val < 32 := lt_of_lt_of_eq a.isLt N_0
  have h2 : b.val < 32 := lt_of_lt_of_eq b.isLt N_0
  exact Fin.ext (by omega)

/-- An entry `get` of the sums to which a tile adds its rows' terms ends as the sum of all the rows' terms. -/
theorem acc_total (c : Dev nD) (get : Acc Ideal → EReal) (d : Tile Ideal → EReal) (term : MergeRow.Row → MergeRow.Wts → EReal)
    (h0 : get zeros = 0) (hs : ∀ T A, get (step T A) = get A + d T) (hd : ∀ T, d T = ∑ r, term (rowOf T r) (wtsOf T)) :
    get (acc m c last.val last.isLt) = ∑ r, term (rowR (args m c) r) (wtsR (args m c)) := by
  have hp (t : Fin cfg0.N) : d (tile m c t) = ∑ b : Fin 256, if h : t.val * 256 + b.val < 8192
      then term (rowR (args m c) ⟨t.val * 256 + b.val, h⟩) (wtsR (args m c)) else 0 := by
    have ht : t.val < 32 := lt_of_lt_of_eq t.isLt N_0
    refine (hd _).trans (Finset.sum_congr rfl fun b _ => ?_)
    rw [dif_pos (by omega), row_at m c t b ⟨t.val * 256 + b.val, by omega⟩ rfl, wts_at]
  refine (Cert.Sums.sum_steps (fun n h => get (acc m c n h)) (fun n => ∑ b : Fin 256, if h : n * 256 + b.val < 8192
      then term (rowR (args m c) ⟨n * 256 + b.val, h⟩) (wtsR (args m c)) else 0) (fun h => ?_) (fun n h => ?_) 31 last_lt).trans
    (Cert.Sums.sum_tiles 32 256 8192 rfl fun r => term (rowR (args m c) r) (wtsR (args m c))).symm
  · exact (hs (tile m c ⟨0, h⟩) zeros).trans (by rw [h0, zero_add]; exact hp ⟨0, h⟩)
  · exact (hs (tile m c ⟨n + 1, h⟩) _).trans (congrArg _ (hp ⟨n + 1, h⟩))

theorem value_dWa (c : Dev nD) :
    (dats m 0 c).arrAt 21 cfg0.N = Cert.Reference14Ideal.Read.val_main_v215 (F := Ideal) (args m c).x (args m c).ya (args m c).z (args m c).d2 (args m c).dh (args m c).bg (args m c).wm (args m c).gf := by
  funext i
  obtain ⟨k, l, rfl⟩ : ∃ (k : Fin 512) (l : Fin 1024), i = ix2 k l := ⟨i 0, i 1, (ix2_eta i).symm⟩
  obtain ⟨-, -, -, -, -, ⟨e0, e1⟩, -⟩ := out_blocks last
  have hi : (ix2 k l : S512x1024.Idx) = ((cfg0.win 21).blk last).view.emb (ix2 k l) := by
    refine funext fun a => Fin.ext ?_
    match a with
    | ⟨0, _⟩ => show k.val = win0_21.index last (0 : Fin 2) * 512 + 1 * k.val; omega
    | ⟨1, _⟩ => show l.val = win0_21.index last (1 : Fin 2) * 1024 + 1 * l.val; omega
  refine (congrArg _ hi).trans (((dats m 0 c).arrAt_emb_eq_flushed 21
    (fun s t hs ht hne => absurd (only_last s t ((flush0_21 s).mp hs) ((flush0_21 t).mp ht)) hne) last ((flush0_21 last).mpr rfl) (ix2 k l)).trans ?_)
  show (cfg0.win 21).cut (grid0.coords _) ((dats m 0 c).after 21 last) (ix2 k l) = _
  rw [after_21, ref_dWa]
  refine acc_total m c (fun A => A.wa (ix2 k l)) (fun T => dWa T (ix2 k l)) (fun R W => MergeRow.tWa R W k l) ?_ (fun T A => ?_) fun T => dWa_apply T k l
  · pointwise [zeros, k0_pay73]
  · pointwise [step, k0_pay74]

theorem value_dWs (c : Dev nD) :
    (dats m 0 c).arrAt 22 cfg0.N = Cert.Reference14Ideal.Read.val_main_v200 (F := Ideal) (args m c).x (args m c).ys (args m c).z (args m c).d2 (args m c).dh (args m c).ws (args m c).bs (args m c).bg (args m c).wm (args m c).gf := by
  funext i
  obtain ⟨k, l, rfl⟩ : ∃ (k : Fin 256) (l : Fin 2048), i = ix2 k l := ⟨i 0, i 1, (ix2_eta i).symm⟩
  obtain ⟨-, -, -, -, -, -, ⟨e0, e1⟩, -⟩ := out_blocks last
  have hi : (ix2 k l : S256x2048.Idx) = ((cfg0.win 22).blk last).view.emb (ix2 k l) := by
    refine funext fun a => Fin.ext ?_
    match a with
    | ⟨0, _⟩ => show k.val = win0_22.index last (0 : Fin 2) * 256 + 1 * k.val; omega
    | ⟨1, _⟩ => show l.val = win0_22.index last (1 : Fin 2) * 2048 + 1 * l.val; omega
  refine (congrArg _ hi).trans (((dats m 0 c).arrAt_emb_eq_flushed 22
    (fun s t hs ht hne => absurd (only_last s t ((flush0_22 s).mp hs) ((flush0_22 t).mp ht)) hne) last ((flush0_22 last).mpr rfl) (ix2 k l)).trans ?_)
  show (cfg0.win 22).cut (grid0.coords _) ((dats m 0 c).after 22 last) (ix2 k l) = _
  rw [after_22, ref_dWs]
  refine acc_total m c (fun A => A.ws (ix2 k l)) (fun T => dWs T (ix2 k l)) (fun R W => MergeRow.tWs R W k l) ?_ (fun T A => ?_) fun T => dWs_apply T k l
  · pointwise [zeros, k0_pay75]
  · pointwise [step, k0_pay76]

theorem value_dBs (c : Dev nD) :
    (dats m 0 c).arrAt 23 cfg0.N = Cert.Reference14Ideal.Read.val_main_v221 (F := Ideal) (args m c).x (args m c).ys (args m c).z (args m c).d2 (args m c).dh (args m c).ws (args m c).bs (args m c).bg (args m c).wm (args m c).gf := by
  funext i
  obtain ⟨l, rfl⟩ : ∃ (l : Fin 2048), i = ix2 0 l := ⟨i 1, by rw [← ix2_eta i]; exact congrArg (ix2 · _) (Subsingleton.elim _ _)⟩
  obtain ⟨-, -, -, -, -, -, -, ⟨e0, e1⟩, -⟩ := out_blocks last
  have hi : (ix2 0 l : S1x2048.Idx) = ((cfg0.win 23).blk last).view.emb (ix2 0 l) := by
    refine funext fun a => Fin.ext ?_
    match a with
    | ⟨0, _⟩ => show 0 = win0_23.index last (0 : Fin 2) * 1 + 1 * 0; omega
    | ⟨1, _⟩ => show l.val = win0_23.index last (1 : Fin 2) * 2048 + 1 * l.val; omega
  refine (congrArg _ hi).trans (((dats m 0 c).arrAt_emb_eq_flushed 23
    (fun s t hs ht hne => absurd (only_last s t ((flush0_23 s).mp hs) ((flush0_23 t).mp ht)) hne) last ((flush0_23 last).mpr rfl) (ix2 0 l)).trans ?_)
  show (cfg0.win 23).cut (grid0.coords _) ((dats m 0 c).after 23 last) (ix2 0 l) = _
  rw [after_23, ref_dBs]
  refine acc_total m c (fun A => A.bs (ix2 0 l)) (fun T => dBs T (ix2 0 l)) (fun R W => MergeRow.dGlu R W l) ?_ (fun T A => ?_) fun T => dBs_apply T l
  · pointwise [zeros, k0_pay77]
  · pointwise [step, k0_pay78]

theorem value_dG (c : Dev nD) :
    (dats m 0 c).arrAt 24 cfg0.N = Cert.Reference14Ideal.Read.val_main_v222 (F := Ideal) (args m c).x (args m c).v (args m c).z (args m c).d2 (args m c).dh (args m c).g (args m c).b (args m c).wc (args m c).bg (args m c).wm (args m c).gf := by
  funext i
  obtain ⟨l, rfl⟩ : ∃ (l : Fin 256), i = ix2 0 l := ⟨i 1, by rw [← ix2_eta i]; exact congrArg (ix2 · _) (Subsingleton.elim _ _)⟩
  obtain ⟨-, -, -, -, -, -, -, -, ⟨e0, e1⟩, -⟩ := out_blocks last
  have hi : (ix2 0 l : S1x256.Idx) = ((cfg0.win 24).blk last).view.emb (ix2 0 l) := by
    refine funext fun a => Fin.ext ?_
    match a with
    | ⟨0, _⟩ => show 0 = win0_24.index last (0 : Fin 2) * 1 + 1 * 0; omega
    | ⟨1, _⟩ => show l.val = win0_24.index last (1 : Fin 2) * 256 + 1 * l.val; omega
  refine (congrArg _ hi).trans (((dats m 0 c).arrAt_emb_eq_flushed 24
    (fun s t hs ht hne => absurd (only_last s t ((flush0_24 s).mp hs) ((flush0_24 t).mp ht)) hne) last ((flush0_24 last).mpr rfl) (ix2 0 l)).trans ?_)
  show (cfg0.win 24).cut (grid0.coords _) ((dats m 0 c).after 24 last) (ix2 0 l) = _
  rw [after_24, ref_dG]
  refine acc_total m c (fun A => A.g (ix2 0 l)) (fun T => dG T (ix2 0 l)) (fun R W => MergeRow.tG R W l) ?_ (fun T A => ?_) fun T => dG_apply T l
  · pointwise [zeros, k0_pay79]
  · pointwise [step, k0_pay80]

theorem value_dB (c : Dev nD) :
    (dats m 0 c).arrAt 25 cfg0.N = Cert.Reference14Ideal.Read.val_main_v223 (F := Ideal) (args m c).x (args m c).v (args m c).z (args m c).d2 (args m c).dh (args m c).g (args m c).b (args m c).wc (args m c).bg (args m c).wm (args m c).gf := by
  funext i
  obtain ⟨l, rfl⟩ : ∃ (l : Fin 256), i = ix2 0 l := ⟨i 1, by rw [← ix2_eta i]; exact congrArg (ix2 · _) (Subsingleton.elim _ _)⟩
  obtain ⟨-, -, -, -, -, -, -, -, -, ⟨e0, e1⟩, -⟩ := out_blocks last
  have hi : (ix2 0 l : S1x256.Idx) = ((cfg0.win 25).blk last).view.emb (ix2 0 l) := by
    refine funext fun a => Fin.ext ?_
    match a with
    | ⟨0, _⟩ => show 0 = win0_25.index last (0 : Fin 2) * 1 + 1 * 0; omega
    | ⟨1, _⟩ => show l.val = win0_25.index last (1 : Fin 2) * 256 + 1 * l.val; omega
  refine (congrArg _ hi).trans (((dats m 0 c).arrAt_emb_eq_flushed 25
    (fun s t hs ht hne => absurd (only_last s t ((flush0_25 s).mp hs) ((flush0_25 t).mp ht)) hne) last ((flush0_25 last).mpr rfl) (ix2 0 l)).trans ?_)
  show (cfg0.win 25).cut (grid0.coords _) ((dats m 0 c).after 25 last) (ix2 0 l) = _
  rw [after_25, ref_dB]
  refine acc_total m c (fun A => A.b (ix2 0 l)) (fun T => dB T (ix2 0 l)) (fun R W => MergeRow.dLn R W l) ?_ (fun T A => ?_) fun T => dB_apply T l
  · pointwise [zeros, k0_pay81]
  · pointwise [step, k0_pay82]

theorem value_dWc (c : Dev nD) :
    (dats m 0 c).arrAt 26 cfg0.N = Cert.Reference14Ideal.Read.val_main_v156 (F := Ideal) (args m c).x (args m c).v (args m c).z (args m c).d2 (args m c).dh (args m c).g (args m c).b (args m c).bg (args m c).wm (args m c).gf := by
  funext i
  obtain ⟨k, l, rfl⟩ : ∃ (k : Fin 256) (l : Fin 1024), i = ix2 k l := ⟨i 0, i 1, (ix2_eta i).symm⟩
  obtain ⟨-, -, -, -, -, -, -, -, -, -, ⟨e0, e1⟩, -⟩ := out_blocks last
  have hi : (ix2 k l : S256x1024.Idx) = ((cfg0.win 26).blk last).view.emb (ix2 k l) := by
    refine funext fun a => Fin.ext ?_
    match a with
    | ⟨0, _⟩ => show k.val = win0_26.index last (0 : Fin 2) * 256 + 1 * k.val; omega
    | ⟨1, _⟩ => show l.val = win0_26.index last (1 : Fin 2) * 1024 + 1 * l.val; omega
  refine (congrArg _ hi).trans (((dats m 0 c).arrAt_emb_eq_flushed 26
    (fun s t hs ht hne => absurd (only_last s t ((flush0_26 s).mp hs) ((flush0_26 t).mp ht)) hne) last ((flush0_26 last).mpr rfl) (ix2 k l)).trans ?_)
  show (cfg0.win 26).cut (grid0.coords _) ((dats m 0 c).after 26 last) (ix2 k l) = _
  rw [after_26, ref_dWc]
  refine acc_total m c (fun A => A.wc (ix2 k l)) (fun T => dWc T (ix2 k l)) (fun R W => MergeRow.tWc R W k l) ?_ (fun T A => ?_) fun T => dWc_apply T k l
  · pointwise [zeros, k0_pay83]
  · pointwise [step, k0_pay84]

theorem value_dBg (c : Dev nD) :
    (dats m 0 c).arrAt 27 cfg0.N = Cert.Reference14Ideal.Read.val_main_v224 (F := Ideal) (args m c).x (args m c).ya (args m c).ys (args m c).v (args m c).z (args m c).d2 (args m c).dh (args m c).wa (args m c).ws (args m c).bs (args m c).g (args m c).b (args m c).wc (args m c).bg (args m c).wm (args m c).gf := by
  funext i
  obtain ⟨l, rfl⟩ : ∃ (l : Fin 3072), i = ix2 0 l := ⟨i 1, by rw [← ix2_eta i]; exact congrArg (ix2 · _) (Subsingleton.elim _ _)⟩
  obtain ⟨-, -, -, -, -, -, -, -, -, -, -, ⟨e0, e1⟩, -⟩ := out_blocks last
  have hi : (ix2 0 l : S1x3072.Idx) = ((cfg0.win 27).blk last).view.emb (ix2 0 l) := by
    refine funext fun a => Fin.ext ?_
    match a with
    | ⟨0, _⟩ => show 0 = win0_27.index last (0 : Fin 2) * 1 + 1 * 0; omega
    | ⟨1, _⟩ => show l.val = win0_27.index last (1 : Fin 2) * 3072 + 1 * l.val; omega
  refine (congrArg _ hi).trans (((dats m 0 c).arrAt_emb_eq_flushed 27
    (fun s t hs ht hne => absurd (only_last s t ((flush0_27 s).mp hs) ((flush0_27 t).mp ht)) hne) last ((flush0_27 last).mpr rfl) (ix2 0 l)).trans ?_)
  show (cfg0.win 27).cut (grid0.coords _) ((dats m 0 c).after 27 last) (ix2 0 l) = _
  rw [after_27, ref_dBg]
  refine acc_total m c (fun A => A.bg (ix2 0 l)) (fun T => dBg T (ix2 0 l)) (fun R W => MergeRow.dGate R W l) ?_ (fun T A => ?_) fun T => dBg_apply T l
  · pointwise [zeros, k0_pay85]
  · pointwise [step, k0_pay86]

theorem value_dWm (c : Dev nD) :
    (dats m 0 c).arrAt 28 cfg0.N = Cert.Reference14Ideal.Read.val_main_v134 (F := Ideal) (args m c).x (args m c).ya (args m c).ys (args m c).v (args m c).z (args m c).d2 (args m c).dh (args m c).wa (args m c).ws (args m c).bs (args m c).g (args m c).b (args m c).wc (args m c).bg (args m c).gf := by
  funext i
  obtain ⟨k, l, rfl⟩ : ∃ (k : Fin 1024) (l : Fin 1024), i = ix2 k l := ⟨i 0, i 1, (ix2_eta i).symm⟩
  obtain ⟨-, -, -, -, -, -, -, -, -, -, -, -, ⟨e0, e1⟩, -⟩ := out_blocks last
  have hi : (ix2 k l : S1024x1024.Idx) = ((cfg0.win 28).blk last).view.emb (ix2 k l) := by
    refine funext fun a => Fin.ext ?_
    match a with
    | ⟨0, _⟩ => show k.val = win0_28.index last (0 : Fin 2) * 1024 + 1 * k.val; omega
    | ⟨1, _⟩ => show l.val = win0_28.index last (1 : Fin 2) * 1024 + 1 * l.val; omega
  refine (congrArg _ hi).trans (((dats m 0 c).arrAt_emb_eq_flushed 28
    (fun s t hs ht hne => absurd (only_last s t ((flush0_28 s).mp hs) ((flush0_28 t).mp ht)) hne) last ((flush0_28 last).mpr rfl) (ix2 k l)).trans ?_)
  show (cfg0.win 28).cut (grid0.coords _) ((dats m 0 c).after 28 last) (ix2 k l) = _
  rw [after_28, ref_dWm]
  refine acc_total m c (fun A => A.wm (ix2 k l)) (fun T => dWm T (ix2 k l)) (fun R W => MergeRow.tWm R W k l) ?_ (fun T A => ?_) fun T => dWm_apply T k l
  · pointwise [zeros, k0_pay87]
  · pointwise [step, k0_pay88]

theorem value_dGf (c : Dev nD) :
    (dats m 0 c).arrAt 29 cfg0.N = Cert.Reference14Ideal.Read.val_main_v225 (F := Ideal) (args m c).x (args m c).dh := by
  funext i
  obtain ⟨l, rfl⟩ : ∃ (l : Fin 1024), i = ix2 0 l := ⟨i 1, by rw [← ix2_eta i]; exact congrArg (ix2 · _) (Subsingleton.elim _ _)⟩
  obtain ⟨-, -, -, -, -, -, -, -, -, -, -, -, -, e0, e1⟩ := out_blocks last
  have hi : (ix2 0 l : S1x1024.Idx) = ((cfg0.win 29).blk last).view.emb (ix2 0 l) := by
    refine funext fun a => Fin.ext ?_
    match a with
    | ⟨0, _⟩ => show 0 = win0_29.index last (0 : Fin 2) * 1 + 1 * 0; omega
    | ⟨1, _⟩ => show l.val = win0_29.index last (1 : Fin 2) * 1024 + 1 * l.val; omega
  refine (congrArg _ hi).trans (((dats m 0 c).arrAt_emb_eq_flushed 29
    (fun s t hs ht hne => absurd (only_last s t ((flush0_29 s).mp hs) ((flush0_29 t).mp ht)) hne) last ((flush0_29 last).mpr rfl) (ix2 0 l)).trans ?_)
  show (cfg0.win 29).cut (grid0.coords _) ((dats m 0 c).after 29 last) (ix2 0 l) = _
  rw [after_29, ref_dGf]
  refine acc_total m c (fun A => A.gf (ix2 0 l)) (fun T => dGf T (ix2 0 l)) (fun R _ => MergeRow.tGf R l) ?_ (fun T A => ?_) fun T => dGf_apply T l
  · pointwise [zeros, k0_pay89]
  · pointwise [step, k0_pay90]

end Cert.MergeGrad

end
-- ==== Proof.Loss15.lean ====
module

public import proofs.«01_k».proof.Proof.Sums
public import proofs.«01_k».proof.Proof.NormGrad
public import proofs.«01_k».proof.Proof.Gen.Kernel15Ideal.Value
public import proofs.«01_k».proof.Proof.Gen.Reference15Ideal.Read

@[expose] public section

noncomputable section

/-! The loss: half the mean square of each token's error, summed over the tokens, and its gradient. -/

namespace Cert.Loss15

open Cert.Kernel15Ideal Cert.Kernel15Ideal.Gen Cert.Kernel15Ideal.Value
open Idealize.ShloMosaic Idealize.ShloMosaic.TcCoe Idealize.SL.Sem

/-! ## One token -/

section
variable (x y g : Fin 1024 → EReal) (l : Fin 1024)

/-- The error of a token: its normed row less its target. -/
def err : EReal := x l * Ideal.rsqrt (NormGrad.ms x) * g l - y l

/-- The mean of the squared errors. -/
def mse : EReal := Ideal.div (∑ k, err x y g k * err x y g k) (Ideal.ofBits FTy.f32 0x44800000#32)

/-- A half over the row's length. -/
def scale : EReal := Ideal.div (Ideal.ofBits FTy.f32 0x3F000000#32 * Ideal.ofBits FTy.f32 0x3F800000#32) (Ideal.ofBits FTy.f32 0x44800000#32)

/-- The gradient of the normed row, as the derivative of a product gives it. -/
def dn : EReal := err x y g l * ∑ _u : Fin 1, scale + (∑ _u : Fin 1, scale) * err x y g l

/-- The same, as the derivative of a square gives it. -/
def dn' : EReal := scale * (Ideal.ofBits FTy.f32 0x40000000#32 * err x y g l)

theorem two_mul (a : EReal) : Ideal.ofBits FTy.f32 0x40000000#32 * a = a + a := by
  have h : Ideal.ofBits FTy.f32 0x40000000#32 = ((2 : ℝ) : EReal) := by
    simp [Ideal.ofBits, Ideal.ieee]
    rw [← EReal.coe_mul]
    norm_num
  rw [h]
  induction a with
  | bot => rw [EReal.coe_mul_bot_of_pos (by norm_num)]; rfl
  | coe a => rw [← EReal.coe_mul, ← EReal.coe_add]; congr 1; ring
  | top => rw [EReal.coe_mul_top_of_pos (by norm_num)]; rfl

theorem dn_eq : dn x y g l = dn' x y g l := by
  unfold dn dn'
  rw [Fin.sum_univ_one, mul_left_comm, two_mul, mul_comm (err x y g l)]

end

theorem half_sum {n : ℕ} (f : Fin n → EReal) :
    Ideal.ofBits FTy.f32 0x3F000000#32 * ∑ r, f r = ∑ r, Ideal.ofBits FTy.f32 0x3F000000#32 * f r := by
  have h : Ideal.ofBits FTy.f32 0x3F000000#32 = ((1 / 2 : ℝ) : EReal) := by
    simp [Ideal.ofBits, Ideal.ieee]
    rw [← EReal.coe_mul]
    norm_num
  rw [h]
  induction n with
  | zero => simp
  | succ n ih => rw [Fin.sum_univ_succ, Fin.sum_univ_succ, EReal.left_distrib_of_nonneg_of_ne_top (by norm_num) (by exact EReal.coe_ne_top _), ih]

/-! ## The kernel's payloads -/

section
variable (x y : Vec Ideal S512x1024 .f32) (g : Vec Ideal S1x1024 .f32)

theorem dx_apply (r : Fin 512) (l : Fin 1024) :
    k0_pay1 x (k0_pay6 g) (k0_pay8 x) (k0_pay9 x) (k0_pay13 x y g) (ix2 r l)
      = NormGrad.dx (fun k => x (ix2 r k)) (fun k => g (ix2 0 k)) (dn (fun k => x (ix2 r k)) (fun k => y (ix2 r k)) fun k => g (ix2 0 k)) l := by
  pointwise [k0_pay1, k0_pay6, k0_pay7, k0_pay8, k0_pay9, k0_pay10, k0_pay11, k0_pay13, NormGrad.dx, NormGrad.dms, NormGrad.ms, dn, err, scale]

theorem loss_apply (acc : Vec Ideal S8x128 .f32) (a : Fin 8) (l : Fin 128) :
    k0_pay3 (k0_pay12 x y g) acc (ix2 a l)
      = acc (ix2 a l) + ∑ r : Fin 512, Ideal.ofBits FTy.f32 0x3F000000#32 * mse (fun k => x (ix2 r k)) (fun k => y (ix2 r k)) fun k => g (ix2 0 k) := by
  pointwise [k0_pay3, k0_pay12, k0_pay11, k0_pay10, k0_pay8, k0_pay7, k0_pay6, NormGrad.ms, mse, err]

theorem dg_apply (acc : Vec Ideal S1x1024 .f32) (l : Fin 1024) :
    k0_pay5 (k0_pay14 x y g) acc (ix2 0 l)
      = acc (ix2 0 l) + ∑ r : Fin 512, NormGrad.dg (fun k => x (ix2 r k))
        (dn (fun k => x (ix2 r k)) (fun k => y (ix2 r k)) fun k => g (ix2 0 k)) l := by
  pointwise [k0_pay5, k0_pay14, k0_pay13, k0_pay11, k0_pay10, k0_pay8, k0_pay7, k0_pay6, NormGrad.dg, NormGrad.ms, dn, err, scale]

theorem zero_loss (a : Fin 8) (l : Fin 128) : k0_pay2 (F := Ideal) (ix2 a l) = 0 := by
  pointwise [k0_pay2]

theorem zero_dg (l : Fin 1024) : k0_pay4 (F := Ideal) (ix2 0 l) = 0 := by
  pointwise [k0_pay4]

end

/-! ## The reference -/

section
open Cert.Reference15Ideal.Read

variable (x y : Vec Ideal S8192x1024 .f32) (g : Vec Ideal S1024 .f32)

theorem ref_dx (r : Fin 8192) (l : Fin 1024) :
    val_main_v50 (F := Ideal) x y g (ix2 r l)
      = NormGrad.dx (fun k => x (ix2 r k)) (fun k => g (ix1 k)) (dn (fun k => x (ix2 r k)) (fun k => y (ix2 r k)) fun k => g (ix1 k)) l := by
  rw [funext fun k => dn_eq (fun k => x (ix2 r k)) (fun k => y (ix2 r k)) (fun k => g (ix1 k)) k]
  pointwise [NormGrad.dx, NormGrad.dms, NormGrad.ms, dn', err, scale,
    val_main_cst_8, val_main_cst_9, val_main_v25, val_main_v26, val_main_cst_10, val_main_v27, val_main_v28, val_main_v29, val_main_cst_3, val_main_v18, val_main_v0, val_main_cst, val_main_v1, val_main_v2, val_main_cst_0, val_main_v3, val_main_v4, val_main_cst_1, val_main_v5, val_main_v6, val_main_v7, val_main_v11, val_main_v12, val_main_v13, val_main_v14, val_main_v15, val_main_v16, val_main_v19, val_main_v30, val_main_v34, val_main_v35, val_main_v40, val_main_v41, val_main_v37, val_main_cst_13, val_main_v38, val_main_v39, val_main_cst_2, val_main_v9, val_main_v8, val_main_v10, val_main_v42, val_main_cst_14, val_main_v43, val_main_v44, val_main_cst_15, val_main_v45, val_main_v46, val_main_v47, val_main_v48, val_main_v49, val_main_v50]

theorem ref_loss (a : Fin 8) (l : Fin 128) :
    val_main_v51 (F := Ideal) x y g (ix2 a l)
      = ∑ r : Fin 8192, Ideal.ofBits FTy.f32 0x3F000000#32 * mse (fun k => x (ix2 r k)) (fun k => y (ix2 r k)) fun k => g (ix1 k) := by
  rw [← half_sum]
  pointwise [NormGrad.ms, mse, err,
    val_main_cst_7, val_main_v0, val_main_cst, val_main_v1, val_main_v2, val_main_cst_0, val_main_v3, val_main_v4, val_main_cst_1, val_main_v5, val_main_v6, val_main_v7, val_main_v11, val_main_v12, val_main_v13, val_main_v14, val_main_v15, val_main_v16, val_main_v17, val_main_cst_4, val_main_v20, val_main_cst_5, val_main_v21, val_main_v22, val_main_cst_6, val_main_v23, val_main_v24, val_main_v51]

theorem ref_dg (l : Fin 1024) :
    val_main_v52 (F := Ideal) x y g (ix2 0 l)
      = ∑ r : Fin 8192, NormGrad.dg (fun k => x (ix2 r k)) (dn (fun k => x (ix2 r k)) (fun k => y (ix2 r k)) fun k => g (ix1 k)) l := by
  rw [Finset.sum_congr rfl fun r _ => congrFun (congrArg (NormGrad.dg fun k => x (ix2 r k))
    (funext fun k => dn_eq (fun k => x (ix2 r k)) (fun k => y (ix2 r k)) (fun k => g (ix1 k)) k)) l]
  refine Eq.trans ?_ (Fin.sum_univ_one (fun _ => ∑ r : Fin 8192, NormGrad.dg (fun k => x (ix2 r k)) (dn' (fun k => x (ix2 r k)) (fun k => y (ix2 r k)) fun k => g (ix1 k)) l))
  pointwise [NormGrad.dg, NormGrad.ms, dn', err, scale,
    val_main_v0, val_main_cst, val_main_v1, val_main_v2, val_main_cst_0, val_main_v3, val_main_v4, val_main_cst_1, val_main_v5, val_main_v6, val_main_v7, val_main_v11, val_main_v12, val_main_cst_8, val_main_cst_9, val_main_v25, val_main_v26, val_main_cst_10, val_main_v27, val_main_v28, val_main_v29, val_main_cst_3, val_main_v18, val_main_v13, val_main_v14, val_main_v15, val_main_v16, val_main_v19, val_main_v30, val_main_v31, val_main_cst_11, val_main_v32, val_main_v33, val_main_cst_12, val_main_v36, val_main_v52]

end

/-! ## What a point leaves in the three result blocks -/

section
variable {F : FTy → Type} [FloatOps F] (m : (ℓ : Loc nD τ sig) → Buf (Elt F) ℓ)

theorem hz : (![0, 0] : Fin 2 → ℕ) = fun _ => 0 := by decide

theorem first_dx (c : Dev nD) (t : Fin cfg0.N) (h : t.val % 16 = 0) :
    (outsAt0 m c t.val t.isLt).1 = k0_pay1 (iblk m c 0 t) (k0_pay6 (iblk m c 2 t)) (k0_pay8 (iblk m c 0 t)) (k0_pay9 (iblk m c 0 t)) (k0_pay13 (iblk m c 0 t) (iblk m c 1 t) (iblk m c 2 t)) := by
  rw [outsAt0_A m c t h h]
  dsimp only
  unfold out0_A_3
  rw [View.read_writes_eq_canon _ _ _ (fun y => cover0_A_3 (y := y) ..)]
  unfold kernelRun0_A
  dsimp only
  try sl_unfold_words
  rw [View.canon_unit_zero hz]
  simp only [View.readAt_eq_ld, (hs0_0 t).read_unread, (hs0_1 t).read_unread, (hs0_2 t).read_unread, View.ld_unit_zero (S := S8x128) hz,
    View.ld_unit_zero (S := S512x1024) hz, View.ld_unit_zero (S := S1x1024) hz]

theorem first_loss (c : Dev nD) (t : Fin cfg0.N) (h : t.val % 16 = 0) :
    (outsAt0 m c t.val t.isLt).2.1 = k0_pay3 (k0_pay12 (iblk m c 0 t) (iblk m c 1 t) (iblk m c 2 t)) (k0_pay2 (F := F)) := by
  rw [outsAt0_A m c t h h]
  dsimp only
  unfold out0_A_4
  rw [View.read_writes_eq_canon _ _ _ (fun y => cover0_A_4 (y := y) ..)]
  unfold kernelRun0_A
  dsimp only
  try sl_unfold_words
  rw [View.canon_cons_unit_zero (S := S8x128) hz, View.readCov_unit_zero (S := S8x128) _ hz]
  simp only [View.readAt_eq_ld, (hs0_0 t).read_unread, (hs0_1 t).read_unread, (hs0_2 t).read_unread, View.ld_unit_zero (S := S8x128) hz,
    View.ld_unit_zero (S := S512x1024) hz, View.ld_unit_zero (S := S1x1024) hz]

theorem first_dg (c : Dev nD) (t : Fin cfg0.N) (h : t.val % 16 = 0) :
    (outsAt0 m c t.val t.isLt).2.2 = k0_pay5 (k0_pay14 (iblk m c 0 t) (iblk m c 1 t) (iblk m c 2 t)) (k0_pay4 (F := F)) := by
  rw [outsAt0_A m c t h h]
  dsimp only
  unfold out0_A_5
  rw [View.read_writes_eq_canon _ _ _ (fun y => cover0_A_5 (y := y) ..)]
  unfold kernelRun0_A
  dsimp only
  try sl_unfold_words
  rw [View.canon_cons_unit_zero (S := S1x1024) hz, View.readCov_unit_zero (S := S1x1024) _ hz]
  simp only [View.readAt_eq_ld, (hs0_0 t).read_unread, (hs0_1 t).read_unread, (hs0_2 t).read_unread, View.ld_unit_zero (S := S8x128) hz,
    View.ld_unit_zero (S := S512x1024) hz, View.ld_unit_zero (S := S1x1024) hz]

theorem next_dx (c : Dev nD) (t : Fin cfg0.N) (h : ¬t.val % 16 = 0) :
    (outsAt0 m c t.val t.isLt).1 = k0_pay1 (iblk m c 0 t) (k0_pay6 (iblk m c 2 t)) (k0_pay8 (iblk m c 0 t)) (k0_pay9 (iblk m c 0 t)) (k0_pay13 (iblk m c 0 t) (iblk m c 1 t) (iblk m c 2 t)) := by
  rw [outsAt0_B m c t h h]
  dsimp only
  unfold out0_B_3
  rw [View.read_writes_eq_canon _ _ _ (fun y => cover0_B_3 (y := y) ..)]
  unfold kernelRun0_B
  dsimp only
  try sl_unfold_words
  rw [View.canon_unit_zero hz]
  simp only [View.readAt_eq_ld, (hs0_0 t).read_unread, (hs0_1 t).read_unread, (hs0_2 t).read_unread, View.ld_unit_zero (S := S8x128) hz,
    View.ld_unit_zero (S := S512x1024) hz, View.ld_unit_zero (S := S1x1024) hz]

theorem next_loss (c : Dev nD) (t : Fin cfg0.N) (h : ¬t.val % 16 = 0) :
    (outsAt0 m c t.val t.isLt).2.1 = k0_pay3 (k0_pay12 (iblk m c 0 t) (iblk m c 1 t) (iblk m c 2 t)) (outsAt0 m c (t.val - 1) (Nat.lt_of_le_of_lt (Nat.sub_le _ _) t.isLt)).2.1 := by
  rw [outsAt0_B m c t h h]
  dsimp only
  unfold out0_B_4
  rw [View.read_writes_eq_canon _ _ _ (fun y => cover0_B_4 (y := y) ..)]
  unfold kernelRun0_B
  dsimp only
  try sl_unfold_words
  rw [View.canon_unit_zero hz]
  simp only [View.readAt_eq_ld, (hs0_0 t).read_unread, (hs0_1 t).read_unread, (hs0_2 t).read_unread, (hs0_4 t).read_unread, View.ld_unit_zero (S := S8x128) hz,
    View.ld_unit_zero (S := S512x1024) hz, View.ld_unit_zero (S := S1x1024) hz]

theorem next_dg (c : Dev nD) (t : Fin cfg0.N) (h : ¬t.val % 16 = 0) :
    (outsAt0 m c t.val t.isLt).2.2 = k0_pay5 (k0_pay14 (iblk m c 0 t) (iblk m c 1 t) (iblk m c 2 t)) (outsAt0 m c (t.val - 1) (Nat.lt_of_le_of_lt (Nat.sub_le _ _) t.isLt)).2.2 := by
  rw [outsAt0_B m c t h h]
  dsimp only
  unfold out0_B_5
  rw [View.read_writes_eq_canon _ _ _ (fun y => cover0_B_5 (y := y) ..)]
  unfold kernelRun0_B
  dsimp only
  try sl_unfold_words
  rw [View.canon_unit_zero hz]
  simp only [View.readAt_eq_ld, (hs0_0 t).read_unread, (hs0_1 t).read_unread, (hs0_2 t).read_unread, (hs0_5 t).read_unread, View.ld_unit_zero (S := S8x128) hz,
    View.ld_unit_zero (S := S512x1024) hz, View.ld_unit_zero (S := S1x1024) hz]

end

/-! ## The arrays -/

variable (m : (ℓ : Loc nD τ sig) → Buf (Elt Ideal) ℓ)

/-- The norm's scale, as the kernel reads it, is the scale argument as one row. -/
theorem scale_row (c : Dev nD) : (V m c main_v0 : S1x1024.Idx → EReal)
    = shapeCast S1x1024 (m ((c.tc : Thread nD τ).loc main_arg2) : Vec Ideal S1024 .f32) shapeCasts_S1024_S1x1024 := rfl

theorem scale_apply (g : Vec Ideal S1024 .f32) (l : Fin 1024) : shapeCast S1x1024 g shapeCasts_S1024_S1x1024 (ix2 0 l) = g (ix1 l) := by
  pointwise

/-- Where each window's block lies at a grid point. -/
theorem blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

abbrev xb (c : Dev nD) (t : Fin cfg0.N) : Vec Ideal S512x1024 .f32 := iblk m c 0 t
abbrev yb (c : Dev nD) (t : Fin cfg0.N) : Vec Ideal S512x1024 .f32 := iblk m c 1 t
abbrev gb (c : Dev nD) (t : Fin cfg0.N) : Vec Ideal S1x1024 .f32 := iblk m c 2 t
abbrev xa (c : Dev nD) : Vec Ideal S8192x1024 .f32 := m ((c.tc : Thread nD τ).loc main_arg0)
abbrev ya (c : Dev nD) : Vec Ideal S8192x1024 .f32 := m ((c.tc : Thread nD τ).loc main_arg1)
abbrev ga (c : Dev nD) : Vec Ideal S1024 .f32 := m ((c.tc : Thread nD τ).loc main_arg2)

/-- Each input block of a point, read off its array. -/
theorem x_apply (c : Dev nD) (t : Fin cfg0.N) (r : Fin 512) (r' : Fin 8192) (h : r'.val = t.val * 512 + r.val) :
    (fun k : Fin 1024 => xb m c t (ix2 r k)) = fun k => xa m c (ix2 r' k) := by
  obtain ⟨e0, e1, -⟩ := blocks t
  funext k
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = r'.val; omega
  | ⟨1, _⟩ => show win0_0.index t (1 : Fin 2) * 1024 + 1 * k.val = k.val; omega

theorem y_apply (c : Dev nD) (t : Fin cfg0.N) (r : Fin 512) (r' : Fin 8192) (h : r'.val = t.val * 512 + r.val) :
    (fun k : Fin 1024 => yb m c t (ix2 r k)) = fun k => ya m c (ix2 r' k) := by
  obtain ⟨-, -, e0, e1, -⟩ := blocks t
  funext k
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = r'.val; omega
  | ⟨1, _⟩ => show win0_1.index t (1 : Fin 2) * 1024 + 1 * k.val = k.val; omega

theorem g_apply (c : Dev nD) (t : Fin cfg0.N) : (fun l : Fin 1024 => gb m c t (ix2 0 l)) = fun l => ga m c (ix1 l) := by
  obtain ⟨-, -, -, -, e0, e1, -⟩ := blocks t
  funext l
  refine Eq.trans ?_ ((congrFun (scale_row m c) (ix2 0 l)).trans (scale_apply _ l))
  show V m c main_v0 (((cfg0.win 2).blk t).view.emb (ix2 0 l)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * l.val = l.val; omega

/-- The block of the first result at every point. -/
theorem out_dx (c : Dev nD) (t : Fin cfg0.N) :
    (outsAt0 m c t.val t.isLt).1 = k0_pay1 (iblk m c 0 t) (k0_pay6 (iblk m c 2 t)) (k0_pay8 (iblk m c 0 t)) (k0_pay9 (iblk m c 0 t)) (k0_pay13 (iblk m c 0 t) (iblk m c 1 t) (iblk m c 2 t)) := by
  by_cases h : t.val % 16 = 0
  · exact first_dx m c t h
  · exact next_dx m c t h

/-- The kernel's gradient of its input is the reference's. -/
theorem value_dx (c : Dev nD) :
    (dats m 0 c).arrAt 3 cfg0.N = Cert.Reference15Ideal.Read.val_main_v50 (F := Ideal) (xa m c) (ya m c) (ga m c) := by
  funext i
  obtain ⟨r, l, rfl⟩ : ∃ (r : Fin 8192) (l : Fin 1024), i = ix2 r l := ⟨i 0, i 1, (ix2_eta i).symm⟩
  refine Eq.trans ?_ (ref_dx _ _ _ r l).symm
  let t : Fin cfg0.N := ⟨r.val / 512, by have h : cfg0.N = 16 := N_0; omega⟩
  let b : Fin 512 := ⟨r.val % 512, Nat.mod_lt _ (by decide)⟩
  have hb : r.val = t.val * 512 + b.val := by show r.val = r.val / 512 * 512 + r.val % 512; omega
  obtain ⟨-, -, -, -, -, -, e0, e1, -⟩ := blocks t
  have hi : (ix2 r l : S8192x1024.Idx) = ((cfg0.win 3).blk t).view.emb (ix2 b l) := by
    refine funext fun a => Fin.ext ?_
    match a with
    | ⟨0, _⟩ => show r.val = win0_3.index t (0 : Fin 2) * 512 + 1 * b.val; omega
    | ⟨1, _⟩ => show l.val = win0_3.index t (1 : Fin 2) * 1024 + 1 * l.val; omega
  refine (congrArg _ hi).trans (((dats m 0 c).arrAt_emb_eq_flushed 3 disjoint3 t (flush0_3 t) (ix2 b l)).trans ?_)
  show (dats m 0 c).flushed 3 t (ix2 b l) = _
  rw [flushed3, out_dx]
  refine (dx_apply (xb m c t) (yb m c t) (gb m c t) b l).trans ?_
  rw [x_apply m c t b r hb, y_apply m c t b r hb, g_apply m c t]

/-- The sum of the terms of tile `n`. -/
def part (f : Fin 8192 → EReal) (n : ℕ) : EReal := ∑ b : Fin 512, if h : n * 512 + b.val < 8192 then f ⟨n * 512 + b.val, h⟩ else 0

theorem part_eq (f : Fin 8192 → EReal) (t : Fin cfg0.N) (f' : Fin 512 → EReal)
    (h : ∀ (b : Fin 512) (r : Fin 8192), r.val = t.val * 512 + b.val → f' b = f r) : ∑ b, f' b = part f t.val := by
  have ht : t.val < 16 := lt_of_lt_of_eq t.isLt N_0
  refine Finset.sum_congr rfl fun b _ => ?_
  rw [dif_pos (by omega)]
  exact h b _ rfl

/-- What a token adds to the loss and to the gradient of the scale. -/
def loss_term (c : Dev nD) (r : Fin 8192) : EReal :=
  Ideal.ofBits FTy.f32 0x3F000000#32 * mse (fun k => xa m c (ix2 r k)) (fun k => ya m c (ix2 r k)) fun k => ga m c (ix1 k)
def dg_term (c : Dev nD) (l : Fin 1024) (r : Fin 8192) : EReal :=
  NormGrad.dg (fun k => xa m c (ix2 r k)) (dn (fun k => xa m c (ix2 r k)) (fun k => ya m c (ix2 r k)) fun k => ga m c (ix1 k)) l

theorem step_loss (c : Dev nD) (t : Fin cfg0.N) (acc : Vec Ideal S8x128 .f32) (a : Fin 8) (l : Fin 128) :
    k0_pay3 (k0_pay12 (iblk m c 0 t) (iblk m c 1 t) (iblk m c 2 t)) acc (ix2 a l) = acc (ix2 a l) + part (loss_term m c) t.val := by
  refine (loss_apply (xb m c t) (yb m c t) (gb m c t) acc a l).trans (congrArg _ (part_eq _ t _ fun b r h => ?_))
  rw [x_apply m c t b r h, y_apply m c t b r h, g_apply m c t]
  rfl

theorem step_dg (c : Dev nD) (t : Fin cfg0.N) (acc : Vec Ideal S1x1024 .f32) (l : Fin 1024) :
    k0_pay5 (k0_pay14 (iblk m c 0 t) (iblk m c 1 t) (iblk m c 2 t)) acc (ix2 0 l) = acc (ix2 0 l) + part (dg_term m c l) t.val := by
  refine (dg_apply (xb m c t) (yb m c t) (gb m c t) acc l).trans (congrArg _ (part_eq _ t _ fun b r h => ?_))
  rw [x_apply m c t b r h, y_apply m c t b r h, g_apply m c t]
  rfl

/-- After the first points a sum's block holds the sum of what they add. -/
theorem out_loss (c : Dev nD) (a : Fin 8) (l : Fin 128) : ∀ (n : ℕ) (hn : n < cfg0.N),
    (outsAt0 m c n hn).2.1 (ix2 a l) = ∑ s ∈ Finset.range (n + 1), part (loss_term m c) s :=
  Cert.Sums.sum_steps (fun n hn => (outsAt0 m c n hn).2.1 (ix2 a l)) _
    (fun hn => (congrFun (first_loss m c ⟨0, hn⟩ rfl) _).trans ((step_loss m c _ _ a l).trans (by rw [zero_loss, zero_add])))
    (fun n hn => by
      have hN : n + 1 < 16 := lt_of_lt_of_eq hn N_0
      exact (congrFun (next_loss m c ⟨n + 1, hn⟩ (by show ¬(n + 1) % 16 = 0; omega)) _).trans (step_loss m c _ _ a l))

theorem out_dg (c : Dev nD) (l : Fin 1024) : ∀ (n : ℕ) (hn : n < cfg0.N),
    (outsAt0 m c n hn).2.2 (ix2 0 l) = ∑ s ∈ Finset.range (n + 1), part (dg_term m c l) s :=
  Cert.Sums.sum_steps (fun n hn => (outsAt0 m c n hn).2.2 (ix2 0 l)) _
    (fun hn => (congrFun (first_dg m c ⟨0, hn⟩ rfl) _).trans ((step_dg m c _ _ l).trans (by rw [zero_dg, zero_add])))
    (fun n hn => by
      have hN : n + 1 < 16 := lt_of_lt_of_eq hn N_0
      exact (congrFun (next_dg m c ⟨n + 1, hn⟩ (by show ¬(n + 1) % 16 = 0; omega)) _).trans (step_dg m c _ _ l))

/-- The last point, at which the two sums are written back. -/
def last : Fin cfg0.N := ⟨15, by have h : cfg0.N = 16 := N_0; omega⟩

theorem only_last (a b : Fin cfg0.N) (ha : a.val % 16 = 15) (hb : b.val % 16 = 15) : a = b := by
  have h3 : a.val < 16 := lt_of_lt_of_eq a.isLt N_0
  have h4 : b.val < 16 := lt_of_lt_of_eq b.isLt N_0
  exact Fin.ext (by omega)

/-- Each entry of the kernel's loss is the reference's. -/
theorem value_loss (c : Dev nD) :
    (dats m 0 c).arrAt 4 cfg0.N = Cert.Reference15Ideal.Read.val_main_v51 (F := Ideal) (xa m c) (ya m c) (ga m c) := by
  funext i
  obtain ⟨a, l, rfl⟩ : ∃ (a : Fin 8) (l : Fin 128), i = ix2 a l := ⟨i 0, i 1, (ix2_eta i).symm⟩
  refine Eq.trans ?_ (ref_loss _ _ _ a l).symm
  obtain ⟨-, -, -, -, -, -, -, -, e0, e1, -⟩ := blocks last
  have hi : (ix2 a l : S8x128.Idx) = ((cfg0.win 4).blk last).view.emb (ix2 a l) := by
    refine funext fun b => Fin.ext ?_
    match b with
    | ⟨0, _⟩ => show a.val = win0_4.index last (0 : Fin 2) * 8 + 1 * a.val; omega
    | ⟨1, _⟩ => show l.val = win0_4.index last (1 : Fin 2) * 128 + 1 * l.val; omega
  refine (congrArg _ hi).trans (((dats m 0 c).arrAt_emb_eq_flushed 4
    (fun p q hp hq hne => absurd (only_last p q ((flush0_4 p).mp hp) ((flush0_4 q).mp hq)) hne) last ((flush0_4 last).mpr rfl) (ix2 a l)).trans ?_)
  show (dats m 0 c).flushed 4 last (ix2 a l) = _
  rw [flushed4]
  refine (out_loss m c a l 15 last.isLt).trans ?_
  exact (Cert.Sums.sum_tiles 16 512 8192 rfl (loss_term m c)).symm

/-- The kernel's gradient of the scale is the reference's. -/
theorem value_dg (c : Dev nD) :
    (dats m 0 c).arrAt 5 cfg0.N = Cert.Reference15Ideal.Read.val_main_v52 (F := Ideal) (xa m c) (ya m c) (ga m c) := by
  funext i
  obtain ⟨l, rfl⟩ : ∃ (l : Fin 1024), i = ix2 0 l := ⟨i 1, by rw [← ix2_eta i]; exact congrArg (ix2 · _) (Subsingleton.elim _ _)⟩
  refine Eq.trans ?_ (ref_dg _ _ _ l).symm
  obtain ⟨-, -, -, -, -, -, -, -, -, -, e0, e1⟩ := blocks last
  have hi : (ix2 0 l : S1x1024.Idx) = ((cfg0.win 5).blk last).view.emb (ix2 0 l) := by
    refine funext fun b => Fin.ext ?_
    match b with
    | ⟨0, _⟩ => show 0 = win0_5.index last (0 : Fin 2) * 1 + 1 * 0; omega
    | ⟨1, _⟩ => show l.val = win0_5.index last (1 : Fin 2) * 1024 + 1 * l.val; omega
  refine (congrArg _ hi).trans (((dats m 0 c).arrAt_emb_eq_flushed 5
    (fun p q hp hq hne => absurd (only_last p q ((flush0_5 p).mp hp) ((flush0_5 q).mp hq)) hne) last ((flush0_5 last).mpr rfl) (ix2 0 l)).trans ?_)
  show (dats m 0 c).flushed 5 last (ix2 0 l) = _
  rw [flushed5]
  refine (out_dg m c l 15 last.isLt).trans ?_
  exact (Cert.Sums.sum_tiles 16 512 8192 rfl (dg_term m c l)).symm

end Cert.Loss15

end
-- ==== Proof.Algebraic.lean ====
/- Each kernel and its reference end with equal results at the ideal instance: the kernel's run states its result
   arrays, the value theorems say these are the reference's terms, and the reference's run states those. -/
module

public import proofs.«01_k».proof.Defs
public import proofs.«01_k».proof.Proof.Ple2
public import proofs.«01_k».proof.Proof.Proj3
public import proofs.«01_k».proof.Proof.Mm4
public import proofs.«01_k».proof.Proof.Mid5
public import proofs.«01_k».proof.Proof.Mm6
public import proofs.«01_k».proof.Proof.Dx7
public import proofs.«01_k».proof.Proof.Mm8
public import proofs.«01_k».proof.Proof.In9Value
public import proofs.«01_k».proof.Proof.Act10
public import proofs.«01_k».proof.Proof.Out11
public import proofs.«01_k».proof.Proof.Ple12
public import proofs.«01_k».proof.Proof.Merge13
public import proofs.«01_k».proof.Proof.MergeGrad14Value
public import proofs.«01_k».proof.Proof.Loss15
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run

@[expose] public section

noncomputable section

namespace Cert.Algebraic

open Idealize.ShloMosaic Idealize.SL.Sem

/-- The gradient of the gated addition of the per-layer embedding. -/
theorem agree2 : algebraic_Kernel2Ideal_Reference2Ideal (hKernel2Ideal := Cert.Kernel2Ideal.Gen.facts) (hReference2Ideal := Cert.Reference2Ideal.Gen.facts) := by
  intro m ρ m' ρ' _ hm
  refine ⟨_, _, _, _, _, (θ_run _ _ _).mono (fun r h c => ⟨(h c).1.trans (Cert.Ple2.value_dx m c), (h c).2.1.trans (Cert.Ple2.value_dffn m c), (h c).2.2.1.trans (Cert.Ple2.value_dwi m c), (h c).2.2.2.1.trans (Cert.Ple2.value_dg m c), (h c).2.2.2.2.1.trans (Cert.Ple2.value_dwg m c), (h c).2.2.2.2.2⟩)
      (Cert.Kernel2Ideal.Value.run_blocks m ρ),
    (θ_run _ _ _).mono (fun r h c => ⟨?_, ?_, ?_, ?_, ?_, (h c).2.2.2.2.2⟩) (Cert.Reference2Ideal.Value.run m' ρ')⟩
  all_goals obtain ⟨h0, h1, h2, h3, h4, h5⟩ := hm c
  · refine (h c).1.trans ((Cert.Reference2Ideal.Read.val_main_v56_eq m' c).trans ?_)
    rw [h0, h1, h2, h3, h4, h5]
  · refine (h c).2.1.trans ((Cert.Reference2Ideal.Read.val_main_v60_eq m' c).trans ?_)
    rw [h0, h1, h2, h3, h4, h5]
  · refine (h c).2.2.1.trans ((Cert.Reference2Ideal.Read.val_main_v58_eq _ _ _ _ _).trans ?_)
    rw [h0, h1, h2, h4, h5]
  · refine (h c).2.2.2.1.trans ((Cert.Reference2Ideal.Read.val_main_v61_eq _ _ _ _ _ _).trans ?_)
    rw [h0, h1, h2, h3, h4, h5]
  · refine (h c).2.2.2.2.1.trans ((Cert.Reference2Ideal.Read.val_main_v34_eq _ _ _ _ _ _).trans ?_)
    rw [h0, h1, h2, h3, h4, h5]

/-- The gradient through the input projection and its norm. -/
theorem agree3 : algebraic_Kernel3Ideal_Reference3Ideal (hKernel3Ideal := Cert.Kernel3Ideal.Gen.facts) (hReference3Ideal := Cert.Reference3Ideal.Gen.facts) := by
  intro m ρ m' ρ' _ hm
  refine ⟨_, _, (θ_run _ _ _).mono (fun r h c => ⟨(h c).1.trans (Cert.Proj3.value_dx m c), (h c).2.1.trans (Cert.Proj3.value_dg m c), (h c).2.2⟩) (Cert.Kernel3Ideal.Value.run_blocks m ρ),
    (θ_run _ _ _).mono (fun r h c => ⟨?_, ?_, (h c).2.2⟩) (Cert.Reference3Ideal.Value.run m' ρ')⟩
  all_goals obtain ⟨h0, h1, h2, h3, h4⟩ := hm c
  · refine (h c).1.trans ((Cert.Reference3Ideal.Read.val_main_v39_eq m' c).trans ?_)
    rw [h0, h1, h2, h3, h4]
  · refine (h c).2.1.trans ((Cert.Reference3Ideal.Read.val_main_v40_eq _ _ _).trans ?_)
    rw [h0, h1, h2]

/-- The weight gradient of the input projection. -/
theorem agree4 : algebraic_Kernel4Ideal_Reference4Ideal (hKernel4Ideal := Cert.Kernel4Ideal.Gen.facts) (hReference4Ideal := Cert.Reference4Ideal.Gen.facts) := by
  intro m ρ m' ρ' _ hm
  refine ⟨_, (θ_run _ _ _).mono (fun r h c => ⟨(h c).1.trans (Cert.Mm4.value m c), (h c).2⟩) (Cert.Kernel4Ideal.Value.run m ρ),
    (θ_run _ _ _).mono (fun r h c => ⟨?_, (h c).2⟩) (Cert.Reference4Ideal.Value.run m' ρ')⟩
  obtain ⟨h0, h1⟩ := hm c
  refine (h c).1.trans ((Cert.Reference4Ideal.Read.val_main_v5_eq _ _).trans ?_)
  rw [h0, h1]

/-- The gradient of the FFN's activation, where the incoming gradient, the weight and the up projection are finite. -/
theorem agree5 : algebraic_Kernel5Ideal_Reference5Ideal_pre_finite5 (hKernel5Ideal := Cert.Kernel5Ideal.Gen.facts) (hReference5Ideal := Cert.Reference5Ideal.Gen.facts)
    (hPre_finite5 := Cert.Mid5.pre_facts) := by
  intro m ρ m' ρ' hpre hm
  refine ⟨_, _, (θ_run _ _ _).mono (fun r h c => ⟨(h c).1.trans (Cert.Mid5.value_dgate m c hpre), (h c).2.1.trans (Cert.Mid5.value_dup m c), (h c).2.2⟩)
      (Cert.Kernel5Ideal.Value.run_blocks m ρ),
    (θ_run _ _ _).mono (fun r h c => ⟨?_, ?_, (h c).2.2⟩) (Cert.Reference5Ideal.Value.run m' ρ')⟩
  all_goals obtain ⟨h0, h1, h2, h3⟩ := hm c
  · refine (h c).1.trans ((Cert.Reference5Ideal.Read.val_main_v10_eq _ _ _ _).trans ?_)
    rw [h0, h1, h2, h3]
  · refine (h c).2.1.trans ((Cert.Reference5Ideal.Read.val_main_v11_eq _ _ _).trans ?_)
    rw [h0, h1, h2]

/-- The gradient of the FFN's output weight. -/
theorem agree6 : algebraic_Kernel6Ideal_Reference6Ideal (hKernel6Ideal := Cert.Kernel6Ideal.Gen.facts) (hReference6Ideal := Cert.Reference6Ideal.Gen.facts) := by
  intro m ρ m' ρ' _ hm
  refine ⟨_, (θ_run _ _ _).mono (fun r h c => ⟨(h c).1.trans (Cert.Mm6.value m c), (h c).2⟩)
      (Cert.Kernel6Ideal.Value.run m ρ),
    (θ_run _ _ _).mono (fun r h c => ⟨?_, (h c).2⟩) (Cert.Reference6Ideal.Value.run m' ρ')⟩
  obtain ⟨h0, h1⟩ := hm c
  refine (h c).1.trans ((Cert.Reference6Ideal.Read.val_main_v5_eq _ _).trans ?_)
  rw [h0, h1]

/-- The gradient of the FFN through its gate and up projections. -/
theorem agree7 : algebraic_Kernel7Ideal_Reference7Ideal (hKernel7Ideal := Cert.Kernel7Ideal.Gen.facts) (hReference7Ideal := Cert.Reference7Ideal.Gen.facts) := by
  intro m ρ m' ρ' _ hm
  refine ⟨_, (θ_run _ _ _).mono (fun r h c => ⟨(h c).1.trans (Cert.Dx7.value m c), (h c).2⟩) (Cert.Kernel7Ideal.Value.run_blocks m ρ),
    (θ_run _ _ _).mono (fun r h c => ⟨?_, (h c).2⟩) (Cert.Reference7Ideal.Value.run m' ρ')⟩
  obtain ⟨h0, h1, h2⟩ := hm c
  refine (h c).1.trans ((Cert.Reference7Ideal.Read.val_main_v7_eq _ _ _).trans ?_)
  rw [h0, h1, h2]

/-- The gradient of the FFN's gate weight, and of its up weight. -/
theorem agree8 : algebraic_Kernel8Ideal_Reference8Ideal (hKernel8Ideal := Cert.Kernel8Ideal.Gen.facts) (hReference8Ideal := Cert.Reference8Ideal.Gen.facts) := by
  intro m ρ m' ρ' _ hm
  refine ⟨_, (θ_run _ _ _).mono (fun r h c => ⟨(h c).1.trans (Cert.Mm8.value m c), (h c).2⟩)
      (Cert.Kernel8Ideal.Value.run m ρ),
    (θ_run _ _ _).mono (fun r h c => ⟨?_, (h c).2⟩) (Cert.Reference8Ideal.Value.run m' ρ')⟩
  obtain ⟨h0, h1⟩ := hm c
  refine (h c).1.trans ((Cert.Reference8Ideal.Read.val_main_v5_eq _ _).trans ?_)
  rw [h0, h1]

/-- The FFN's gate, up projection and activation. -/
theorem agree9 : algebraic_Kernel9Ideal_Reference9Ideal (hKernel9Ideal := Cert.Kernel9Ideal.Gen.facts) (hReference9Ideal := Cert.Reference9Ideal.Gen.facts) := by
  intro m ρ m' ρ' _ hm
  refine ⟨_, _, (θ_run _ _ _).mono (fun r h c => ⟨(h c).1.trans (Cert.In9.value_z m c), (h c).2.1.trans (Cert.In9.value_h m c), (h c).2.2⟩)
      (Cert.In9.run_blocks m ρ),
    (θ_run _ _ _).mono (fun r h c => ⟨?_, ?_, (h c).2.2⟩) (Cert.Reference9Ideal.Value.run m' ρ')⟩
  all_goals obtain ⟨h0, h1, h2⟩ := hm c
  · refine (h c).1.trans ((Cert.Reference9Ideal.Read.val_main_v13_eq ..).trans ?_)
    rw [h0, h1, h2]
  · refine (h c).2.1.trans ((Cert.Reference9Ideal.Read.val_main_v14_eq ..).trans ?_)
    rw [h0, h1]

theorem agree10 : algebraic_Kernel10Ideal_Reference10Ideal (hKernel10Ideal := Cert.Kernel10Ideal.Gen.facts) (hReference10Ideal := Cert.Reference10Ideal.Gen.facts) := by
  intro m ρ m' ρ' _ hm
  refine ⟨_, _, _, (θ_run _ _ _).mono (fun r h c => ⟨(h c).1.trans (Cert.Act10.value_gate m c), (h c).2.1.trans (Cert.Act10.value_up m c), (h c).2.2.1.trans (Cert.Act10.value_act m c), (h c).2.2.2⟩)
      (Cert.Kernel10Ideal.Value.run_blocks m ρ),
    (θ_run _ _ _).mono (fun r h c => ⟨?_, ?_, ?_, (h c).2.2.2⟩) (Cert.Reference10Ideal.Value.run m' ρ')⟩
  all_goals obtain ⟨h0, h1⟩ := hm c
  · refine (h c).1.trans ((Cert.Reference10Ideal.Read.val_main_v4_eq _ _).trans ?_)
    rw [h0, h1]
  · refine (h c).2.1.trans ((Cert.Reference10Ideal.Read.val_main_v5_eq _ _).trans ?_)
    rw [h0, h1]
  · refine (h c).2.2.1.trans ((Cert.Reference10Ideal.Read.val_main_v8_eq _ _).trans ?_)
    rw [h0, h1]

/-- The FFN's output. -/
theorem agree11 : algebraic_Kernel11Ideal_Reference11Ideal (hKernel11Ideal := Cert.Kernel11Ideal.Gen.facts) (hReference11Ideal := Cert.Reference11Ideal.Gen.facts) := by
  intro m ρ m' ρ' _ hm
  refine ⟨_, (θ_run _ _ _).mono (fun r h c => ⟨(h c).1.trans (Cert.Out11.value m c), (h c).2⟩)
      (Cert.Kernel11Ideal.Value.run_blocks m ρ),
    (θ_run _ _ _).mono (fun r h c => ⟨?_, (h c).2⟩) (Cert.Reference11Ideal.Value.run m' ρ')⟩
  obtain ⟨h0, h1, h2⟩ := hm c
  refine (h c).1.trans ((Cert.Reference11Ideal.Read.val_main_v2_eq _ _ _).trans ?_)
  rw [h0, h1, h2]

/-- The gated embedding. -/
theorem agree12 : algebraic_Kernel12Ideal_Reference12Ideal (hKernel12Ideal := Cert.Kernel12Ideal.Gen.facts) (hReference12Ideal := Cert.Reference12Ideal.Gen.facts) := by
  intro m ρ m' ρ' _ hm
  refine ⟨_, _, _, (θ_run _ _ _).mono (fun r h c => ⟨(h c).1.trans (Cert.Ple12.value_out m c), (h c).2.1.trans (Cert.Ple12.value_pre m c), (h c).2.2.1.trans (Cert.Ple12.value_emb m c), (h c).2.2.2⟩)
      (Cert.Kernel12Ideal.Value.run_blocks m ρ),
    (θ_run _ _ _).mono (fun r h c => ⟨?_, ?_, ?_, (h c).2.2.2⟩) (Cert.Reference12Ideal.Value.run m' ρ')⟩
  all_goals obtain ⟨h0, h1, h2, h3, h4⟩ := hm c
  · refine (h c).1.trans ((Cert.Reference12Ideal.Read.val_main_v22_eq ..).trans ?_)
    rw [h0, h1, h2, h3, h4]
  · refine (h c).2.1.trans ((Cert.Reference12Ideal.Read.val_main_v37_eq ..).trans ?_)
    rw [h0, h3, h4]
  · refine (h c).2.2.1.trans ((Cert.Reference12Ideal.Read.val_main_v39_eq ..).trans ?_)
    rw [h1, h2]

/-- The gated merge of the three mixers and its norm. -/
theorem agree13 : algebraic_Kernel13Ideal_Reference13Ideal (hKernel13Ideal := Cert.Kernel13Ideal.Gen.facts) (hReference13Ideal := Cert.Reference13Ideal.Gen.facts) := by
  intro m ρ m' ρ' _ hm
  refine ⟨_, _, (θ_run _ _ _).mono (fun r h c => ⟨(h c).1.trans (Cert.Merge13.value_out m c), (h c).2.1.trans (Cert.Merge13.value_hf m c), (h c).2.2⟩)
      (Cert.Kernel13Ideal.Value.run_blocks m ρ),
    (θ_run _ _ _).mono (fun r h c => ⟨?_, ?_, (h c).2.2⟩) (Cert.Reference13Ideal.Value.run m' ρ')⟩
  all_goals obtain ⟨h0, h1, h2, h3, h4, h5, h6, h7, h8, h9, h10, h11, h12, h13⟩ := hm c
  · refine (h c).1.trans ((Cert.Reference13Ideal.Read.val_main_v77_eq ..).trans ?_)
    rw [h0, h1, h2, h3, h4, h5, h6, h7, h8, h9, h10, h11, h12]
  · refine (h c).2.1.trans ((Cert.Reference13Ideal.Read.val_main_v91_eq ..).trans ?_)
    rw [h0, h1, h2, h3, h4, h5, h6, h7, h8, h9, h10, h11, h12, h13]

/-- The gradient of the gated merge and of the norm after it. -/
theorem agree14 : algebraic_Kernel14Ideal_Reference14Ideal (hKernel14Ideal := Cert.Kernel14Ideal.Gen.facts) (hReference14Ideal := Cert.Reference14Ideal.Gen.facts) := by
  intro m ρ m' ρ' _ hm
  refine ⟨_, _, _, _, _, _, _, _, _, _, _, _, _, _, (θ_run _ _ _).mono (fun r h c => ⟨
      (h c).1.trans (Cert.MergeGrad.value_dRes m c), (h c).2.1.trans (Cert.MergeGrad.value_dYa m c), (h c).2.2.1.trans (Cert.MergeGrad.value_dYs m c),
      (h c).2.2.2.1.trans (Cert.MergeGrad.value_dV m c), (h c).2.2.2.2.1.trans (Cert.MergeGrad.value_dz m c), (h c).2.2.2.2.2.1.trans (Cert.MergeGrad.value_dWa m c),
      (h c).2.2.2.2.2.2.1.trans (Cert.MergeGrad.value_dWs m c), (h c).2.2.2.2.2.2.2.1.trans (Cert.MergeGrad.value_dBs m c), (h c).2.2.2.2.2.2.2.2.1.trans (Cert.MergeGrad.value_dG m c),
      (h c).2.2.2.2.2.2.2.2.2.1.trans (Cert.MergeGrad.value_dB m c), (h c).2.2.2.2.2.2.2.2.2.2.1.trans (Cert.MergeGrad.value_dWc m c), (h c).2.2.2.2.2.2.2.2.2.2.2.1.trans (Cert.MergeGrad.value_dBg m c),
      (h c).2.2.2.2.2.2.2.2.2.2.2.2.1.trans (Cert.MergeGrad.value_dWm m c), (h c).2.2.2.2.2.2.2.2.2.2.2.2.2.1.trans (Cert.MergeGrad.value_dGf m c), (h c).2.2.2.2.2.2.2.2.2.2.2.2.2.2⟩)
      (Cert.MergeGrad.run_blocks m ρ),
    (θ_run _ _ _).mono (fun r h c => ⟨?_, ?_, ?_, ?_, ?_, ?_, ?_, ?_, ?_, ?_, ?_, ?_, ?_, ?_, (h c).2.2.2.2.2.2.2.2.2.2.2.2.2.2⟩) (Cert.Reference14Ideal.Value.run m' ρ')⟩
  all_goals obtain ⟨h0, h1, h2, h3, h4, h5, h6, h7, h8, h9, h10, h11, h12, h13, h14, h15, h16⟩ := hm c
  · refine (h c).1.trans ((Cert.Reference14Ideal.Read.val_main_v36_eq (StableHlo.launchContents m' c)).trans ?_)
    exact congr (congr (congr (congrArg (Cert.Reference14Ideal.Read.val_main_v36 (F := Ideal)) h0) h5) h6) h16
  · refine (h c).2.1.trans ((Cert.Reference14Ideal.Read.val_main_v220_eq (StableHlo.launchContents m' c)).trans ?_)
    exact congr (congr (congr (congr (congr (congr (congr (congrArg (Cert.Reference14Ideal.Read.val_main_v220 (F := Ideal)) h0) h4) h5) h6) h8) h14) h15) h16
  · refine (h c).2.2.1.trans ((Cert.Reference14Ideal.Read.val_main_v213_eq (StableHlo.launchContents m' c)).trans ?_)
    exact congr (congr (congr (congr (congr (congr (congr (congr (congr (congrArg (Cert.Reference14Ideal.Read.val_main_v213 (F := Ideal)) h0) h2) h4) h5) h6) h9) h10) h14) h15) h16
  · refine (h c).2.2.2.1.trans ((Cert.Reference14Ideal.Read.val_main_v191_eq (StableHlo.launchContents m' c)).trans ?_)
    exact congr (congr (congr (congr (congr (congr (congr (congr (congr (congr (congrArg (Cert.Reference14Ideal.Read.val_main_v191 (F := Ideal)) h0) h3) h4) h5) h6) h11) h12) h13) h14) h15) h16
  · refine (h c).2.2.2.2.1.trans ((Cert.Reference14Ideal.Read.val_main_v219_eq (StableHlo.launchContents m' c)).trans ?_)
    exact congr (congr (congr (congr (congr (congr (congr (congr (congr (congr (congr (congr (congr (congr (congr (congr (congrArg (Cert.Reference14Ideal.Read.val_main_v219 (F := Ideal)) h0) h1) h2) h3) h4) h5) h6) h7) h8) h9) h10) h11) h12) h13) h14) h15) h16
  · refine (h c).2.2.2.2.2.1.trans ((Cert.Reference14Ideal.Read.val_main_v215_eq (StableHlo.launchContents m' c)).trans ?_)
    exact congr (congr (congr (congr (congr (congr (congr (congrArg (Cert.Reference14Ideal.Read.val_main_v215 (F := Ideal)) h0) h1) h4) h5) h6) h14) h15) h16
  · refine (h c).2.2.2.2.2.2.1.trans ((Cert.Reference14Ideal.Read.val_main_v200_eq (StableHlo.launchContents m' c)).trans ?_)
    exact congr (congr (congr (congr (congr (congr (congr (congr (congr (congrArg (Cert.Reference14Ideal.Read.val_main_v200 (F := Ideal)) h0) h2) h4) h5) h6) h9) h10) h14) h15) h16
  · refine (h c).2.2.2.2.2.2.2.1.trans ((Cert.Reference14Ideal.Read.val_main_v221_eq (StableHlo.launchContents m' c)).trans ?_)
    exact congr (congr (congr (congr (congr (congr (congr (congr (congr (congrArg (Cert.Reference14Ideal.Read.val_main_v221 (F := Ideal)) h0) h2) h4) h5) h6) h9) h10) h14) h15) h16
  · refine (h c).2.2.2.2.2.2.2.2.1.trans ((Cert.Reference14Ideal.Read.val_main_v222_eq (StableHlo.launchContents m' c)).trans ?_)
    exact congr (congr (congr (congr (congr (congr (congr (congr (congr (congr (congrArg (Cert.Reference14Ideal.Read.val_main_v222 (F := Ideal)) h0) h3) h4) h5) h6) h11) h12) h13) h14) h15) h16
  · refine (h c).2.2.2.2.2.2.2.2.2.1.trans ((Cert.Reference14Ideal.Read.val_main_v223_eq (StableHlo.launchContents m' c)).trans ?_)
    exact congr (congr (congr (congr (congr (congr (congr (congr (congr (congr (congrArg (Cert.Reference14Ideal.Read.val_main_v223 (F := Ideal)) h0) h3) h4) h5) h6) h11) h12) h13) h14) h15) h16
  · refine (h c).2.2.2.2.2.2.2.2.2.2.1.trans ((Cert.Reference14Ideal.Read.val_main_v156_eq (StableHlo.launchContents m' c)).trans ?_)
    exact congr (congr (congr (congr (congr (congr (congr (congr (congr (congrArg (Cert.Reference14Ideal.Read.val_main_v156 (F := Ideal)) h0) h3) h4) h5) h6) h11) h12) h14) h15) h16
  · refine (h c).2.2.2.2.2.2.2.2.2.2.2.1.trans ((Cert.Reference14Ideal.Read.val_main_v224_eq (StableHlo.launchContents m' c)).trans ?_)
    exact congr (congr (congr (congr (congr (congr (congr (congr (congr (congr (congr (congr (congr (congr (congr (congrArg (Cert.Reference14Ideal.Read.val_main_v224 (F := Ideal)) h0) h1) h2) h3) h4) h5) h6) h8) h9) h10) h11) h12) h13) h14) h15) h16
  · refine (h c).2.2.2.2.2.2.2.2.2.2.2.2.1.trans ((Cert.Reference14Ideal.Read.val_main_v134_eq (StableHlo.launchContents m' c)).trans ?_)
    exact congr (congr (congr (congr (congr (congr (congr (congr (congr (congr (congr (congr (congr (congr (congrArg (Cert.Reference14Ideal.Read.val_main_v134 (F := Ideal)) h0) h1) h2) h3) h4) h5) h6) h8) h9) h10) h11) h12) h13) h14) h16
  · refine (h c).2.2.2.2.2.2.2.2.2.2.2.2.2.1.trans ((Cert.Reference14Ideal.Read.val_main_v225_eq (StableHlo.launchContents m' c)).trans ?_)
    exact congr (congrArg (Cert.Reference14Ideal.Read.val_main_v225 (F := Ideal)) h0) h6

/-- The loss and the gradients of the norm before it. -/
theorem agree15 : algebraic_Kernel15Ideal_Reference15Ideal (hKernel15Ideal := Cert.Kernel15Ideal.Gen.facts) (hReference15Ideal := Cert.Reference15Ideal.Gen.facts) := by
  intro m ρ m' ρ' _ hm
  refine ⟨_, _, _, (θ_run _ _ _).mono (fun r h c => ⟨(h c).1.trans (Cert.Loss15.value_dx m c), (h c).2.1.trans (Cert.Loss15.value_loss m c),
      (h c).2.2.1.trans (Cert.Loss15.value_dg m c), (h c).2.2.2⟩) (Cert.Kernel15Ideal.Value.run_blocks m ρ),
    (θ_run _ _ _).mono (fun r h c => ⟨?_, ?_, ?_, (h c).2.2.2⟩) (Cert.Reference15Ideal.Value.run m' ρ')⟩
  all_goals obtain ⟨h0, h1, h2⟩ := hm c
  · refine (h c).1.trans ((Cert.Reference15Ideal.Read.val_main_v50_eq m' c).trans ?_)
    rw [h0, h1, h2]
  · refine (h c).2.1.trans ((Cert.Reference15Ideal.Read.val_main_v51_eq ..).trans ?_)
    rw [h0, h1, h2]
  · refine (h c).2.2.1.trans ((Cert.Reference15Ideal.Read.val_main_v52_eq ..).trans ?_)
    rw [h0, h1, h2]

end Cert.Algebraic

end

end
-- ==== Proof.Adam.lean ====
module

public import Idealize.ShloMosaic.Lib.Pointwise

@[expose] public section

noncomputable section

/-! One AdamW step of one entry over the extended reals. -/

namespace Cert.Adam

open Idealize.ShloMosaic

/-- The gradient: the sum of the eight devices' parts. -/
def grad (p : Fin 8 → EReal) : EReal := ∑ j, p j

/-- The first moment. -/
def m2 (g m : EReal) : EReal := Ideal.ofBits .f32 0x3F666666#32 * m + Ideal.ofBits .f32 0x3DCCCCCD#32 * g

/-- The second moment. -/
def v2 (g v : EReal) : EReal := Ideal.ofBits .f32 0x3F7FBE77#32 * v + Ideal.ofBits .f32 0x3A83126F#32 * (g * g)

/-- What the step adds to the weight. -/
def delta (g w m v : EReal) : EReal :=
  Ideal.ofBits .f32 0xBA83126F#32 * (Ideal.div (Ideal.div (m2 g m) (Ideal.ofBits .f32 0x3F26BD02#32))
      (Ideal.sqrt (Ideal.div (v2 g v) (Ideal.ofBits .f32 0x3C231ACC#32)) + Ideal.ofBits .f32 0x322BCC77#32)
    + Ideal.ofBits .f32 0x3C23D70A#32 * w)

/-! The same steps of whole arrays, at an index. -/

section
variable {s t : Shape} (dims : Fin s.rank → Fin t.rank) (h : s.BroadcastsInDim t dims) (g w m v : FVec Ideal t .f32) (i : t.Idx)

/-- The array of one constant. -/
def splat (b : BitVec 32) : FVec Ideal t .f32 := broadcastInDim t dims h (constant s .f32 b)

theorem splat_apply (b : BitVec 32) : splat dims h b i = Ideal.ofBits .f32 b := rfl

theorem mix_apply (b b' : BitVec 32) :
    addf (mulf (splat dims h b) m) (mulf (splat dims h b') g) i
      = Ideal.ofBits .f32 b * m i + Ideal.ofBits .f32 b' * g i := rfl

theorem square_apply (b b' : BitVec 32) :
    addf (mulf (splat dims h b) v) (mulf (splat dims h b') (mulf g g)) i
      = Ideal.ofBits .f32 b * v i + Ideal.ofBits .f32 b' * (g i * g i) := rfl

theorem step_apply (a b b' c d d' e f k : BitVec 32) :
    mulf (splat dims h a) (addf (Host.divf
        (Host.divf (addf (mulf (splat dims h b) m) (mulf (splat dims h b') g)) (splat dims h c))
        (addf (Host.sqrt (Host.divf (addf (mulf (splat dims h d) v) (mulf (splat dims h d') (mulf g g))) (splat dims h e)))
          (splat dims h f))) (mulf (splat dims h k) w)) i
      = Ideal.ofBits .f32 a * (Ideal.div (Ideal.div (Ideal.ofBits .f32 b * m i + Ideal.ofBits .f32 b' * g i) (Ideal.ofBits .f32 c))
          (Ideal.sqrt (Ideal.div (Ideal.ofBits .f32 d * v i + Ideal.ofBits .f32 d' * (g i * g i)) (Ideal.ofBits .f32 e)) + Ideal.ofBits .f32 f)
        + Ideal.ofBits .f32 k * w i) := rfl

end

theorem ix3_congr {a b c : ℕ} (j : Fin a) {r r' : Fin b} {l l' : Fin c} (hr : r.val = r'.val) (hl : l.val = l'.val) :
    ix3 j r l = ix3 j r' l' := by
  obtain rfl := Fin.ext hr
  obtain rfl := Fin.ext hl
  rfl

end Cert.Adam

end

end
-- ==== Proof.Adam16.lean ====
module

public import Idealize.ShloMosaic.Lib.Pipeline.ValueKit.Tiles
public import proofs.«01_k».proof.Proof.Adam
public import proofs.«01_k».proof.Proof.Gen.Kernel16Ideal.Value
public import proofs.«01_k».proof.Proof.Gen.Reference16Ideal.Read

@[expose] public section

noncomputable section

/-! `adamw_replicated`: a point of the grid is 512 rows of the packed weights. -/

namespace Cert.Adam16

open Cert.Kernel16Ideal Cert.Kernel16Ideal.Gen Cert.Kernel16Ideal.Value
open Idealize.ShloMosaic Idealize.ShloMosaic.TcCoe Idealize.SL.Sem

/-! ## What a point leaves at an index of its blocks -/

section
variable (p : Vec Ideal S8x512x128 .f32) (w m v : Vec Ideal S512x128 .f32) (r : Fin 512) (l : Fin 128)

theorem grad_apply : out0_4 p w m v (ix2 r l) = (Adam.grad fun j => p (ix3 j r l)) := by
  unfold out0_4
  rw [View.canon_unit_zero (by decide) _ _]
  pointwise [k0_pay1, k0_pay2, k0_pay3, k0_pay4, k0_pay5, k0_pay6, k0_pay7, Adam.grad, Fin.sum_univ_eight]

theorem delta_apply : out0_5 p w m v (ix2 r l) = Adam.delta (Adam.grad fun j => p (ix3 j r l)) (w (ix2 r l)) (m (ix2 r l)) (v (ix2 r l)) := by
  unfold out0_5
  rw [View.canon_unit_zero (by decide) _ _, View.ld_unit_zero (by decide) _ _, View.ld_unit_zero (by decide) _ _]
  pointwise [k0_pay1, k0_pay2, k0_pay3, k0_pay4, k0_pay5, k0_pay6, k0_pay7, Adam.delta, Adam.m2, Adam.v2, Adam.grad, Fin.sum_univ_eight]

theorem m2_apply : out0_6 p w m v (ix2 r l) = Adam.m2 (Adam.grad fun j => p (ix3 j r l)) (m (ix2 r l)) := by
  unfold out0_6
  rw [View.canon_unit_zero (by decide) _ _]
  pointwise [k0_pay1, k0_pay2, k0_pay3, k0_pay4, k0_pay5, k0_pay6, k0_pay7, Adam.m2, Adam.grad, Fin.sum_univ_eight]

theorem v2_apply : out0_7 p w m v (ix2 r l) = Adam.v2 (Adam.grad fun j => p (ix3 j r l)) (v (ix2 r l)) := by
  unfold out0_7
  rw [View.canon_unit_zero (by decide) _ _, View.ld_unit_zero (by decide) _ _]
  pointwise [k0_pay1, k0_pay2, k0_pay3, k0_pay4, k0_pay5, k0_pay6, k0_pay7, Adam.v2, Adam.grad, Fin.sum_univ_eight]

end

/-! ## The reference -/

section
open Cert.Reference16Ideal.Read

variable (p : Vec Ideal S8x2560x128 .f32) (w m v : Vec Ideal S2560x128 .f32) (q : Fin 2560) (l : Fin 128)

theorem ref_grad : val_main_v0 (F := Ideal) p (ix2 q l) = (Adam.grad fun j => p (ix3 j q l)) := by
  pointwise [val_main_cst, val_main_v0, Adam.grad]

theorem ref_delta : val_main_v24 (F := Ideal) p w m v (ix2 q l) = Adam.delta (Adam.grad fun j => p (ix3 j q l)) (w (ix2 q l)) (m (ix2 q l)) (v (ix2 q l)) := by
  pointwise [val_main_cst_8, val_main_v23, val_main_cst_0, val_main_v1, val_main_v2, val_main_cst_1, val_main_v3, val_main_cst, val_main_v0, val_main_v4, val_main_v5, val_main_cst_4, val_main_v12, val_main_v13, val_main_cst_2, val_main_v6, val_main_v7, val_main_cst_3, val_main_v9, val_main_v8, val_main_v10, val_main_v11, val_main_cst_5, val_main_v14, val_main_v15, val_main_v16, val_main_cst_6, val_main_v17, val_main_v18, val_main_v19, val_main_cst_7, val_main_v20, val_main_v21, val_main_v22, val_main_v24, Adam.delta, Adam.m2, Adam.v2, Adam.grad]

theorem ref_m2 : val_main_v5 (F := Ideal) p m (ix2 q l) = Adam.m2 (Adam.grad fun j => p (ix3 j q l)) (m (ix2 q l)) := by
  pointwise [val_main_cst_0, val_main_v1, val_main_v2, val_main_cst_1, val_main_v3, val_main_cst, val_main_v0, val_main_v4, val_main_v5, Adam.m2, Adam.grad]

theorem ref_v2 : val_main_v11 (F := Ideal) p v (ix2 q l) = Adam.v2 (Adam.grad fun j => p (ix3 j q l)) (v (ix2 q l)) := by
  pointwise [val_main_cst_2, val_main_v6, val_main_v7, val_main_cst_3, val_main_v9, val_main_cst, val_main_v0, val_main_v8, val_main_v10, val_main_v11, Adam.v2, Adam.grad]

end

/-! ## The arrays -/

variable (m : (ℓ : Loc nD τ sig) → Buf (Elt Ideal) ℓ)

/-- Where each window's block lies at a grid point. -/
theorem blocks0 : ∀ t : Fin cfg0.N, win0_0.index t (0 : Fin 3) = 0 ∧ win0_0.index t (1 : Fin 3) = t.val ∧ win0_0.index t (2 : Fin 3) = 0 :=
  (by decide +kernel : ∀ t : Fin grid0.N, _)

theorem blocks1 : ∀ t : Fin cfg0.N, win0_1.index t (0 : Fin 2) = t.val ∧ win0_1.index t (1 : Fin 2) = 0 :=
  (by decide +kernel : ∀ t : Fin grid0.N, _)

theorem blocks2 : ∀ t : Fin cfg0.N, win0_2.index t (0 : Fin 2) = t.val ∧ win0_2.index t (1 : Fin 2) = 0 :=
  (by decide +kernel : ∀ t : Fin grid0.N, _)

theorem blocks3 : ∀ t : Fin cfg0.N, win0_3.index t (0 : Fin 2) = t.val ∧ win0_3.index t (1 : Fin 2) = 0 :=
  (by decide +kernel : ∀ t : Fin grid0.N, _)

theorem blocks4 : ∀ t : Fin cfg0.N, win0_4.index t (0 : Fin 2) = t.val ∧ win0_4.index t (1 : Fin 2) = 0 ∧ (cfg0.win 4).flush t = true :=
  (by decide +kernel : ∀ t : Fin grid0.N, _)

theorem blocks5 : ∀ t : Fin cfg0.N, win0_5.index t (0 : Fin 2) = t.val ∧ win0_5.index t (1 : Fin 2) = 0 ∧ (cfg0.win 5).flush t = true :=
  (by decide +kernel : ∀ t : Fin grid0.N, _)

theorem blocks6 : ∀ t : Fin cfg0.N, win0_6.index t (0 : Fin 2) = t.val ∧ win0_6.index t (1 : Fin 2) = 0 ∧ (cfg0.win 6).flush t = true :=
  (by decide +kernel : ∀ t : Fin grid0.N, _)

theorem blocks7 : ∀ t : Fin cfg0.N, win0_7.index t (0 : Fin 2) = t.val ∧ win0_7.index t (1 : Fin 2) = 0 ∧ (cfg0.win 7).flush t = true :=
  (by decide +kernel : ∀ t : Fin grid0.N, _)

/-- The input blocks of a point, read off their arrays. -/
theorem p_apply (c : Dev nD) (t : Fin cfg0.N) (r : Fin 512) (l : Fin 128) (j : Fin 8) (q : Fin 2560) (hq : q.val = t.val * 512 + r.val) :
    iblk m c 0 t (ix3 j r l) = m ((c.tc : Thread nD τ).loc main_arg0) (ix3 j q l) := by
  obtain ⟨e0, e1, e2⟩ := blocks0 t
  show V m c main_arg0 (((cfg0.win 0).blk t).view.emb (ix3 j r l)) = _
  rw [V_main_arg0]
  refine congrArg _ (funext fun a => Fin.ext ?_)
  match a with
  | ⟨0, _⟩ => show win0_0.index t (0 : Fin 3) * 8 + 1 * j.val = j.val; omega
  | ⟨1, _⟩ => show win0_0.index t (1 : Fin 3) * 512 + 1 * r.val = q.val; omega
  | ⟨2, _⟩ => show win0_0.index t (2 : Fin 3) * 128 + 1 * l.val = l.val; omega

theorem w_apply (c : Dev nD) (t : Fin cfg0.N) (r : Fin 512) (l : Fin 128) (q : Fin 2560) (hq : q.val = t.val * 512 + r.val) :
    iblk m c 1 t (ix2 r l) = m ((c.tc : Thread nD τ).loc main_arg1) (ix2 q l) := by
  obtain ⟨e0, e1⟩ := blocks1 t
  show V m c main_arg1 (((cfg0.win 1).blk t).view.emb (ix2 r l)) = _
  rw [V_main_arg1]
  refine congrArg _ (funext fun a => Fin.ext ?_)
  match a with
  | ⟨0, _⟩ => show win0_1.index t (0 : Fin 2) * 512 + 1 * r.val = q.val; omega
  | ⟨1, _⟩ => show win0_1.index t (1 : Fin 2) * 128 + 1 * l.val = l.val; omega

theorem m_apply (c : Dev nD) (t : Fin cfg0.N) (r : Fin 512) (l : Fin 128) (q : Fin 2560) (hq : q.val = t.val * 512 + r.val) :
    iblk m c 2 t (ix2 r l) = m ((c.tc : Thread nD τ).loc main_arg2) (ix2 q l) := by
  obtain ⟨e0, e1⟩ := blocks2 t
  show V m c main_arg2 (((cfg0.win 2).blk t).view.emb (ix2 r l)) = _
  rw [V_main_arg2]
  refine congrArg _ (funext fun a => Fin.ext ?_)
  match a with
  | ⟨0, _⟩ => show win0_2.index t (0 : Fin 2) * 512 + 1 * r.val = q.val; omega
  | ⟨1, _⟩ => show win0_2.index t (1 : Fin 2) * 128 + 1 * l.val = l.val; omega

theorem v_apply (c : Dev nD) (t : Fin cfg0.N) (r : Fin 512) (l : Fin 128) (q : Fin 2560) (hq : q.val = t.val * 512 + r.val) :
    iblk m c 3 t (ix2 r l) = m ((c.tc : Thread nD τ).loc main_arg3) (ix2 q l) := by
  obtain ⟨e0, e1⟩ := blocks3 t
  show V m c main_arg3 (((cfg0.win 3).blk t).view.emb (ix2 r l)) = _
  rw [V_main_arg3]
  refine congrArg _ (funext fun a => Fin.ext ?_)
  match a with
  | ⟨0, _⟩ => show win0_3.index t (0 : Fin 2) * 512 + 1 * r.val = q.val; omega
  | ⟨1, _⟩ => show win0_3.index t (1 : Fin 2) * 128 + 1 * l.val = l.val; omega

theorem value_grad (c : Dev nD) :
    (dats m 0 c).arrAt 4 cfg0.N = Cert.Reference16Ideal.Read.val_main_v0 (F := Ideal) (m ((c.tc : Thread nD τ).loc main_arg0)) := by
  funext i
  obtain ⟨q, l, rfl⟩ : ∃ (q : Fin 2560) (l : Fin 128), i = ix2 q l := ⟨i 0, i 1, (ix2_eta i).symm⟩
  refine Eq.trans ?_ (ref_grad _ q l).symm
  let t : Fin cfg0.N := ⟨q.val / 512, by have h : cfg0.N = 5 := N_0; omega⟩
  let r : Fin 512 := ⟨q.val % 512, Nat.mod_lt _ (by decide)⟩
  have hq : q.val = t.val * 512 + r.val := by show q.val = q.val / 512 * 512 + q.val % 512; omega
  have hg : (Adam.grad fun j => iblk m c 0 t (ix3 j r l)) = Adam.grad fun j => m ((c.tc : Thread nD τ).loc main_arg0) (ix3 j q l) :=
    congrArg Adam.grad (funext fun j => p_apply m c t r l j q hq)
  obtain ⟨e0, e1, hf⟩ := blocks4 t
  have hi : (ix2 q l : S2560x128.Idx) = ((cfg0.win 4).blk t).view.emb (ix2 r l) := by
    refine funext fun a => Fin.ext ?_
    match a with
    | ⟨0, _⟩ => show q.val = win0_4.index t (0 : Fin 2) * 512 + 1 * r.val; omega
    | ⟨1, _⟩ => show l.val = win0_4.index t (1 : Fin 2) * 128 + 1 * l.val; omega
  refine (congrArg _ hi).trans (((dats m 0 c).arrAt_emb_eq_flushed 4 disjoint4 t hf (ix2 r l)).trans ?_)
  show (dats m 0 c).flushed 4 t (ix2 r l) = _
  rw [flushed4]
  refine (grad_apply (iblk m c 0 t) (iblk m c 1 t) (iblk m c 2 t) (iblk m c 3 t) r l).trans ?_
  rw [hg]

theorem value_delta (c : Dev nD) :
    (dats m 0 c).arrAt 5 cfg0.N = Cert.Reference16Ideal.Read.val_main_v24 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, l, rfl⟩ : ∃ (q : Fin 2560) (l : Fin 128), i = ix2 q l := ⟨i 0, i 1, (ix2_eta i).symm⟩
  refine Eq.trans ?_ (ref_delta _ _ _ _ q l).symm
  let t : Fin cfg0.N := ⟨q.val / 512, by have h : cfg0.N = 5 := N_0; omega⟩
  let r : Fin 512 := ⟨q.val % 512, Nat.mod_lt _ (by decide)⟩
  have hq : q.val = t.val * 512 + r.val := by show q.val = q.val / 512 * 512 + q.val % 512; omega
  have hg : (Adam.grad fun j => iblk m c 0 t (ix3 j r l)) = Adam.grad fun j => m ((c.tc : Thread nD τ).loc main_arg0) (ix3 j q l) :=
    congrArg Adam.grad (funext fun j => p_apply m c t r l j q hq)
  obtain ⟨e0, e1, hf⟩ := blocks5 t
  have hi : (ix2 q l : S2560x128.Idx) = ((cfg0.win 5).blk t).view.emb (ix2 r l) := by
    refine funext fun a => Fin.ext ?_
    match a with
    | ⟨0, _⟩ => show q.val = win0_5.index t (0 : Fin 2) * 512 + 1 * r.val; omega
    | ⟨1, _⟩ => show l.val = win0_5.index t (1 : Fin 2) * 128 + 1 * l.val; omega
  refine (congrArg _ hi).trans (((dats m 0 c).arrAt_emb_eq_flushed 5 disjoint5 t hf (ix2 r l)).trans ?_)
  show (dats m 0 c).flushed 5 t (ix2 r l) = _
  rw [flushed5]
  refine (delta_apply (iblk m c 0 t) (iblk m c 1 t) (iblk m c 2 t) (iblk m c 3 t) r l).trans ?_
  rw [hg, w_apply m c t r l q hq, m_apply m c t r l q hq, v_apply m c t r l q hq]

theorem value_m2 (c : Dev nD) :
    (dats m 0 c).arrAt 6 cfg0.N = Cert.Reference16Ideal.Read.val_main_v5 (F := Ideal) (m ((c.tc : Thread nD τ).loc main_arg0)) (m ((c.tc : Thread nD τ).loc main_arg2)) := by
  funext i
  obtain ⟨q, l, rfl⟩ : ∃ (q : Fin 2560) (l : Fin 128), i = ix2 q l := ⟨i 0, i 1, (ix2_eta i).symm⟩
  refine Eq.trans ?_ (ref_m2 _ _ q l).symm
  let t : Fin cfg0.N := ⟨q.val / 512, by have h : cfg0.N = 5 := N_0; omega⟩
  let r : Fin 512 := ⟨q.val % 512, Nat.mod_lt _ (by decide)⟩
  have hq : q.val = t.val * 512 + r.val := by show q.val = q.val / 512 * 512 + q.val % 512; omega
  have hg : (Adam.grad fun j => iblk m c 0 t (ix3 j r l)) = Adam.grad fun j => m ((c.tc : Thread nD τ).loc main_arg0) (ix3 j q l) :=
    congrArg Adam.grad (funext fun j => p_apply m c t r l j q hq)
  obtain ⟨e0, e1, hf⟩ := blocks6 t
  have hi : (ix2 q l : S2560x128.Idx) = ((cfg0.win 6).blk t).view.emb (ix2 r l) := by
    refine funext fun a => Fin.ext ?_
    match a with
    | ⟨0, _⟩ => show q.val = win0_6.index t (0 : Fin 2) * 512 + 1 * r.val; omega
    | ⟨1, _⟩ => show l.val = win0_6.index t (1 : Fin 2) * 128 + 1 * l.val; omega
  refine (congrArg _ hi).trans (((dats m 0 c).arrAt_emb_eq_flushed 6 disjoint6 t hf (ix2 r l)).trans ?_)
  show (dats m 0 c).flushed 6 t (ix2 r l) = _
  rw [flushed6]
  refine (m2_apply (iblk m c 0 t) (iblk m c 1 t) (iblk m c 2 t) (iblk m c 3 t) r l).trans ?_
  rw [hg, m_apply m c t r l q hq]

theorem value_v2 (c : Dev nD) :
    (dats m 0 c).arrAt 7 cfg0.N = Cert.Reference16Ideal.Read.val_main_v11 (F := Ideal) (m ((c.tc : Thread nD τ).loc main_arg0)) (m ((c.tc : Thread nD τ).loc main_arg3)) := by
  funext i
  obtain ⟨q, l, rfl⟩ : ∃ (q : Fin 2560) (l : Fin 128), i = ix2 q l := ⟨i 0, i 1, (ix2_eta i).symm⟩
  refine Eq.trans ?_ (ref_v2 _ _ q l).symm
  let t : Fin cfg0.N := ⟨q.val / 512, by have h : cfg0.N = 5 := N_0; omega⟩
  let r : Fin 512 := ⟨q.val % 512, Nat.mod_lt _ (by decide)⟩
  have hq : q.val = t.val * 512 + r.val := by show q.val = q.val / 512 * 512 + q.val % 512; omega
  have hg : (Adam.grad fun j => iblk m c 0 t (ix3 j r l)) = Adam.grad fun j => m ((c.tc : Thread nD τ).loc main_arg0) (ix3 j q l) :=
    congrArg Adam.grad (funext fun j => p_apply m c t r l j q hq)
  obtain ⟨e0, e1, hf⟩ := blocks7 t
  have hi : (ix2 q l : S2560x128.Idx) = ((cfg0.win 7).blk t).view.emb (ix2 r l) := by
    refine funext fun a => Fin.ext ?_
    match a with
    | ⟨0, _⟩ => show q.val = win0_7.index t (0 : Fin 2) * 512 + 1 * r.val; omega
    | ⟨1, _⟩ => show l.val = win0_7.index t (1 : Fin 2) * 128 + 1 * l.val; omega
  refine (congrArg _ hi).trans (((dats m 0 c).arrAt_emb_eq_flushed 7 disjoint7 t hf (ix2 r l)).trans ?_)
  show (dats m 0 c).flushed 7 t (ix2 r l) = _
  rw [flushed7]
  refine (v2_apply (iblk m c 0 t) (iblk m c 1 t) (iblk m c 2 t) (iblk m c 3 t) r l).trans ?_
  rw [hg, v_apply m c t r l q hq]

end Cert.Adam16

end

end
-- ==== Proof.Adam17.lean ====
module

public import Idealize.ShloMosaic.Lib.Pipeline.ValueKit.Tiles
public import proofs.«01_k».proof.Proof.Adam
public import proofs.«01_k».proof.Proof.Gen.Kernel17Ideal.Value
public import proofs.«01_k».proof.Proof.Gen.Reference17Ideal.Read

@[expose] public section

noncomputable section

/-! `adamw_w_mix_out`: a point of the grid is one layer's weight. -/

namespace Cert.Adam17

open Cert.Kernel17Ideal Cert.Kernel17Ideal.Gen Cert.Kernel17Ideal.Value
open Idealize.ShloMosaic Idealize.ShloMosaic.TcCoe Idealize.SL.Sem

/-! ## What a point leaves at an index of its blocks -/

section
variable (p : Vec Ideal S8x128x1024 .bf16) (w m v : Vec Ideal S1x128x1024 .f32) (r : Fin 128) (l : Fin 1024)

theorem grad_apply : out0_4 p w m v (ix3 0 r l) = (Adam.grad fun j => p (ix3 j r l)) := by
  unfold out0_4
  rw [View.canon_unit_zero (by decide) _ _]
  pointwise [k0_pay1, k0_pay2, k0_pay3, k0_pay4, k0_pay5, k0_pay6, k0_pay7, k0_pay8, Adam.grad, Fin.sum_univ_eight]

theorem delta_apply : out0_5 p w m v (ix3 0 r l) = Adam.delta (Adam.grad fun j => p (ix3 j r l)) (w (ix3 0 r l)) (m (ix3 0 r l)) (v (ix3 0 r l)) := by
  unfold out0_5
  rw [View.canon_unit_zero (by decide) _ _, View.ld_unit_zero (by decide) _ _, View.ld_unit_zero (by decide) _ _, View.ld_unit_zero (by decide) _ _]
  pointwise [k0_pay1, k0_pay2, k0_pay3, k0_pay4, k0_pay5, k0_pay6, k0_pay7, k0_pay8, Adam.delta, Adam.m2, Adam.v2, Adam.grad, Fin.sum_univ_eight]

theorem m2_apply : out0_6 p w m v (ix3 0 r l) = Adam.m2 (Adam.grad fun j => p (ix3 j r l)) (m (ix3 0 r l)) := by
  unfold out0_6
  rw [View.canon_unit_zero (by decide) _ _, View.ld_unit_zero (by decide) _ _]
  pointwise [k0_pay1, k0_pay2, k0_pay3, k0_pay4, k0_pay5, k0_pay6, k0_pay7, k0_pay8, Adam.m2, Adam.grad, Fin.sum_univ_eight]

theorem v2_apply : out0_7 p w m v (ix3 0 r l) = Adam.v2 (Adam.grad fun j => p (ix3 j r l)) (v (ix3 0 r l)) := by
  unfold out0_7
  rw [View.canon_unit_zero (by decide) _ _, View.ld_unit_zero (by decide) _ _]
  pointwise [k0_pay1, k0_pay2, k0_pay3, k0_pay4, k0_pay5, k0_pay6, k0_pay7, k0_pay8, Adam.v2, Adam.grad, Fin.sum_univ_eight]

end

/-! ## The reference -/

section
open Cert.Reference17Ideal.Read

variable (p : Vec Ideal S8x512x1024 .bf16) (w m v : Vec Ideal S4x128x1024 .f32) (q : Fin 4) (r : Fin 128) (l : Fin 1024)

theorem ref_grad : val_main_v2 (F := Ideal) p (ix3 q r l) = (Adam.grad fun j => p (ix3 j ⟨q.val * 128 + r.val, by omega⟩ l)) := by
  pointwise [val_main_v0, val_main_cst, val_main_v1, val_main_v2, Adam.grad]

theorem ref_delta : val_main_v26 (F := Ideal) p w m v (ix3 q r l) = Adam.delta (Adam.grad fun j => p (ix3 j ⟨q.val * 128 + r.val, by omega⟩ l)) (w (ix3 q r l)) (m (ix3 q r l)) (v (ix3 q r l)) := by
  pointwise [val_main_cst_8, val_main_v25, val_main_cst_0, val_main_v3, val_main_v4, val_main_cst_1, val_main_v5, val_main_v0, val_main_cst, val_main_v1, val_main_v2, val_main_v6, val_main_v7, val_main_cst_4, val_main_v14, val_main_v15, val_main_cst_2, val_main_v8, val_main_v9, val_main_cst_3, val_main_v11, val_main_v10, val_main_v12, val_main_v13, val_main_cst_5, val_main_v16, val_main_v17, val_main_v18, val_main_cst_6, val_main_v19, val_main_v20, val_main_v21, val_main_cst_7, val_main_v22, val_main_v23, val_main_v24, val_main_v26, Adam.delta, Adam.m2, Adam.v2, Adam.grad]

theorem ref_m2 : val_main_v7 (F := Ideal) p m (ix3 q r l) = Adam.m2 (Adam.grad fun j => p (ix3 j ⟨q.val * 128 + r.val, by omega⟩ l)) (m (ix3 q r l)) := by
  pointwise [val_main_cst_0, val_main_v3, val_main_v4, val_main_cst_1, val_main_v5, val_main_v0, val_main_cst, val_main_v1, val_main_v2, val_main_v6, val_main_v7, Adam.m2, Adam.grad]

theorem ref_v2 : val_main_v13 (F := Ideal) p v (ix3 q r l) = Adam.v2 (Adam.grad fun j => p (ix3 j ⟨q.val * 128 + r.val, by omega⟩ l)) (v (ix3 q r l)) := by
  pointwise [val_main_cst_2, val_main_v8, val_main_v9, val_main_cst_3, val_main_v11, val_main_v0, val_main_cst, val_main_v1, val_main_v2, val_main_v10, val_main_v12, val_main_v13, Adam.v2, Adam.grad]

end

/-! ## The arrays -/

variable (m : (ℓ : Loc nD τ sig) → Buf (Elt Ideal) ℓ)

/-- Where each window's block lies at a grid point. -/
theorem blocks0 : ∀ t : Fin cfg0.N, win0_0.index t (0 : Fin 3) = 0 ∧ win0_0.index t (1 : Fin 3) = t.val ∧ win0_0.index t (2 : Fin 3) = 0 :=
  (by decide +kernel : ∀ t : Fin grid0.N, _)

theorem blocks1 : ∀ t : Fin cfg0.N, win0_1.index t (0 : Fin 3) = t.val ∧ win0_1.index t (1 : Fin 3) = 0 ∧ win0_1.index t (2 : Fin 3) = 0 :=
  (by decide +kernel : ∀ t : Fin grid0.N, _)

theorem blocks2 : ∀ t : Fin cfg0.N, win0_2.index t (0 : Fin 3) = t.val ∧ win0_2.index t (1 : Fin 3) = 0 ∧ win0_2.index t (2 : Fin 3) = 0 :=
  (by decide +kernel : ∀ t : Fin grid0.N, _)

theorem blocks3 : ∀ t : Fin cfg0.N, win0_3.index t (0 : Fin 3) = t.val ∧ win0_3.index t (1 : Fin 3) = 0 ∧ win0_3.index t (2 : Fin 3) = 0 :=
  (by decide +kernel : ∀ t : Fin grid0.N, _)

theorem blocks4 : ∀ t : Fin cfg0.N, win0_4.index t (0 : Fin 3) = t.val ∧ win0_4.index t (1 : Fin 3) = 0 ∧ win0_4.index t (2 : Fin 3) = 0 ∧ (cfg0.win 4).flush t = true :=
  (by decide +kernel : ∀ t : Fin grid0.N, _)

theorem blocks5 : ∀ t : Fin cfg0.N, win0_5.index t (0 : Fin 3) = t.val ∧ win0_5.index t (1 : Fin 3) = 0 ∧ win0_5.index t (2 : Fin 3) = 0 ∧ (cfg0.win 5).flush t = true :=
  (by decide +kernel : ∀ t : Fin grid0.N, _)

theorem blocks6 : ∀ t : Fin cfg0.N, win0_6.index t (0 : Fin 3) = t.val ∧ win0_6.index t (1 : Fin 3) = 0 ∧ win0_6.index t (2 : Fin 3) = 0 ∧ (cfg0.win 6).flush t = true :=
  (by decide +kernel : ∀ t : Fin grid0.N, _)

theorem blocks7 : ∀ t : Fin cfg0.N, win0_7.index t (0 : Fin 3) = t.val ∧ win0_7.index t (1 : Fin 3) = 0 ∧ win0_7.index t (2 : Fin 3) = 0 ∧ (cfg0.win 7).flush t = true :=
  (by decide +kernel : ∀ t : Fin grid0.N, _)

/-- The input blocks of a point, read off their arrays. -/
theorem p_apply (c : Dev nD) (t : Fin cfg0.N) (r : Fin 128) (l : Fin 1024) (j : Fin 8) (q : Fin 4) (hq : q.val = t.val) :
    iblk m c 0 t (ix3 j r l) = m ((c.tc : Thread nD τ).loc main_arg0) (ix3 j (⟨q.val * 128 + r.val, by omega⟩ : Fin 512) l) := by
  obtain ⟨e0, e1, e2⟩ := blocks0 t
  show V m c main_arg0 (((cfg0.win 0).blk t).view.emb (ix3 j r l)) = _
  rw [V_main_arg0]
  refine congrArg _ (funext fun a => Fin.ext ?_)
  match a with
  | ⟨0, _⟩ => show win0_0.index t (0 : Fin 3) * 8 + 1 * j.val = j.val; omega
  | ⟨1, _⟩ => show win0_0.index t (1 : Fin 3) * 128 + 1 * r.val = q.val * 128 + r.val; omega
  | ⟨2, _⟩ => show win0_0.index t (2 : Fin 3) * 1024 + 1 * l.val = l.val; omega

theorem w_apply (c : Dev nD) (t : Fin cfg0.N) (r : Fin 128) (l : Fin 1024) (q : Fin 4) (hq : q.val = t.val) :
    iblk m c 1 t (ix3 0 r l) = m ((c.tc : Thread nD τ).loc main_arg1) (ix3 q r l) := by
  obtain ⟨e0, e1, e2⟩ := blocks1 t
  show V m c main_arg1 (((cfg0.win 1).blk t).view.emb (ix3 0 r l)) = _
  rw [V_main_arg1]
  refine congrArg _ (funext fun a => Fin.ext ?_)
  match a with
  | ⟨0, _⟩ => show win0_1.index t (0 : Fin 3) * 1 + 1 * 0 = q.val; omega
  | ⟨1, _⟩ => show win0_1.index t (1 : Fin 3) * 128 + 1 * r.val = r.val; omega
  | ⟨2, _⟩ => show win0_1.index t (2 : Fin 3) * 1024 + 1 * l.val = l.val; omega

theorem m_apply (c : Dev nD) (t : Fin cfg0.N) (r : Fin 128) (l : Fin 1024) (q : Fin 4) (hq : q.val = t.val) :
    iblk m c 2 t (ix3 0 r l) = m ((c.tc : Thread nD τ).loc main_arg2) (ix3 q r l) := by
  obtain ⟨e0, e1, e2⟩ := blocks2 t
  show V m c main_arg2 (((cfg0.win 2).blk t).view.emb (ix3 0 r l)) = _
  rw [V_main_arg2]
  refine congrArg _ (funext fun a => Fin.ext ?_)
  match a with
  | ⟨0, _⟩ => show win0_2.index t (0 : Fin 3) * 1 + 1 * 0 = q.val; omega
  | ⟨1, _⟩ => show win0_2.index t (1 : Fin 3) * 128 + 1 * r.val = r.val; omega
  | ⟨2, _⟩ => show win0_2.index t (2 : Fin 3) * 1024 + 1 * l.val = l.val; omega

theorem v_apply (c : Dev nD) (t : Fin cfg0.N) (r : Fin 128) (l : Fin 1024) (q : Fin 4) (hq : q.val = t.val) :
    iblk m c 3 t (ix3 0 r l) = m ((c.tc : Thread nD τ).loc main_arg3) (ix3 q r l) := by
  obtain ⟨e0, e1, e2⟩ := blocks3 t
  show V m c main_arg3 (((cfg0.win 3).blk t).view.emb (ix3 0 r l)) = _
  rw [V_main_arg3]
  refine congrArg _ (funext fun a => Fin.ext ?_)
  match a with
  | ⟨0, _⟩ => show win0_3.index t (0 : Fin 3) * 1 + 1 * 0 = q.val; omega
  | ⟨1, _⟩ => show win0_3.index t (1 : Fin 3) * 128 + 1 * r.val = r.val; omega
  | ⟨2, _⟩ => show win0_3.index t (2 : Fin 3) * 1024 + 1 * l.val = l.val; omega

theorem value_grad (c : Dev nD) :
    (dats m 0 c).arrAt 4 cfg0.N = Cert.Reference17Ideal.Read.val_main_v2 (F := Ideal) (m ((c.tc : Thread nD τ).loc main_arg0)) := by
  funext i
  obtain ⟨q, r, l, rfl⟩ : ∃ (q : Fin 4) (r : Fin 128) (l : Fin 1024), i = ix3 q r l := ⟨i 0, i 1, i 2, (ix3_eta i).symm⟩
  refine Eq.trans ?_ (ref_grad _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 128 + r.val, by omega⟩ : Fin 512) l) :=
    congrArg Adam.grad (funext fun j => p_apply m c t r l j q hq)
  obtain ⟨e0, e1, e2, hf⟩ := blocks4 t
  have hi : (ix3 q r l : S4x128x1024.Idx) = ((cfg0.win 4).blk t).view.emb (ix3 0 r l) := by
    refine funext fun a => Fin.ext ?_
    match a with
    | ⟨0, _⟩ => show q.val = win0_4.index t (0 : Fin 3) * 1 + 1 * 0; omega
    | ⟨1, _⟩ => show r.val = win0_4.index t (1 : Fin 3) * 128 + 1 * r.val; omega
    | ⟨2, _⟩ => show l.val = win0_4.index t (2 : Fin 3) * 1024 + 1 * l.val; omega
  refine (congrArg _ hi).trans (((dats m 0 c).arrAt_emb_eq_flushed 4 disjoint4 t hf (ix3 0 r l)).trans ?_)
  show (dats m 0 c).flushed 4 t (ix3 0 r l) = _
  rw [flushed4]
  refine (grad_apply (iblk m c 0 t) (iblk m c 1 t) (iblk m c 2 t) (iblk m c 3 t) r l).trans ?_
  rw [hg]

theorem value_delta (c : Dev nD) :
    (dats m 0 c).arrAt 5 cfg0.N = Cert.Reference17Ideal.Read.val_main_v26 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, r, l, rfl⟩ : ∃ (q : Fin 4) (r : Fin 128) (l : Fin 1024), i = ix3 q r l := ⟨i 0, i 1, i 2, (ix3_eta i).symm⟩
  refine Eq.trans ?_ (ref_delta _ _ _ _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 128 + r.val, by omega⟩ : Fin 512) l) :=
    congrArg Adam.grad (funext fun j => p_apply m c t r l j q hq)
  obtain ⟨e0, e1, e2, hf⟩ := blocks5 t
  have hi : (ix3 q r l : S4x128x1024.Idx) = ((cfg0.win 5).blk t).view.emb (ix3 0 r l) := by
    refine funext fun a => Fin.ext ?_
    match a with
    | ⟨0, _⟩ => show q.val = win0_5.index t (0 : Fin 3) * 1 + 1 * 0; omega
    | ⟨1, _⟩ => show r.val = win0_5.index t (1 : Fin 3) * 128 + 1 * r.val; omega
    | ⟨2, _⟩ => show l.val = win0_5.index t (2 : Fin 3) * 1024 + 1 * l.val; omega
  refine (congrArg _ hi).trans (((dats m 0 c).arrAt_emb_eq_flushed 5 disjoint5 t hf (ix3 0 r l)).trans ?_)
  show (dats m 0 c).flushed 5 t (ix3 0 r l) = _
  rw [flushed5]
  refine (delta_apply (iblk m c 0 t) (iblk m c 1 t) (iblk m c 2 t) (iblk m c 3 t) r l).trans ?_
  rw [hg, w_apply m c t r l q hq, m_apply m c t r l q hq, v_apply m c t r l q hq]

theorem value_m2 (c : Dev nD) :
    (dats m 0 c).arrAt 6 cfg0.N = Cert.Reference17Ideal.Read.val_main_v7 (F := Ideal) (m ((c.tc : Thread nD τ).loc main_arg0)) (m ((c.tc : Thread nD τ).loc main_arg2)) := by
  funext i
  obtain ⟨q, r, l, rfl⟩ : ∃ (q : Fin 4) (r : Fin 128) (l : Fin 1024), i = ix3 q r l := ⟨i 0, i 1, i 2, (ix3_eta i).symm⟩
  refine Eq.trans ?_ (ref_m2 _ _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 128 + r.val, by omega⟩ : Fin 512) l) :=
    congrArg Adam.grad (funext fun j => p_apply m c t r l j q hq)
  obtain ⟨e0, e1, e2, hf⟩ := blocks6 t
  have hi : (ix3 q r l : S4x128x1024.Idx) = ((cfg0.win 6).blk t).view.emb (ix3 0 r l) := by
    refine funext fun a => Fin.ext ?_
    match a with
    | ⟨0, _⟩ => show q.val = win0_6.index t (0 : Fin 3) * 1 + 1 * 0; omega
    | ⟨1, _⟩ => show r.val = win0_6.index t (1 : Fin 3) * 128 + 1 * r.val; omega
    | ⟨2, _⟩ => show l.val = win0_6.index t (2 : Fin 3) * 1024 + 1 * l.val; omega
  refine (congrArg _ hi).trans (((dats m 0 c).arrAt_emb_eq_flushed 6 disjoint6 t hf (ix3 0 r l)).trans ?_)
  show (dats m 0 c).flushed 6 t (ix3 0 r l) = _
  rw [flushed6]
  refine (m2_apply (iblk m c 0 t) (iblk m c 1 t) (iblk m c 2 t) (iblk m c 3 t) r l).trans ?_
  rw [hg, m_apply m c t r l q hq]

theorem value_v2 (c : Dev nD) :
    (dats m 0 c).arrAt 7 cfg0.N = Cert.Reference17Ideal.Read.val_main_v13 (F := Ideal) (m ((c.tc : Thread nD τ).loc main_arg0)) (m ((c.tc : Thread nD τ).loc main_arg3)) := by
  funext i
  obtain ⟨q, r, l, rfl⟩ : ∃ (q : Fin 4) (r : Fin 128) (l : Fin 1024), i = ix3 q r l := ⟨i 0, i 1, i 2, (ix3_eta i).symm⟩
  refine Eq.trans ?_ (ref_v2 _ _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 128 + r.val, by omega⟩ : Fin 512) l) :=
    congrArg Adam.grad (funext fun j => p_apply m c t r l j q hq)
  obtain ⟨e0, e1, e2, hf⟩ := blocks7 t
  have hi : (ix3 q r l : S4x128x1024.Idx) = ((cfg0.win 7).blk t).view.emb (ix3 0 r l) := by
    refine funext fun a => Fin.ext ?_
    match a with
    | ⟨0, _⟩ => show q.val = win0_7.index t (0 : Fin 3) * 1 + 1 * 0; omega
    | ⟨1, _⟩ => show r.val = win0_7.index t (1 : Fin 3) * 128 + 1 * r.val; omega
    | ⟨2, _⟩ => show l.val = win0_7.index t (2 : Fin 3) * 1024 + 1 * l.val; omega
  refine (congrArg _ hi).trans (((dats m 0 c).arrAt_emb_eq_flushed 7 disjoint7 t hf (ix3 0 r l)).trans ?_)
  show (dats m 0 c).flushed 7 t (ix3 0 r l) = _
  rw [flushed7]
  refine (v2_apply (iblk m c 0 t) (iblk m c 1 t) (iblk m c 2 t) (iblk m c 3 t) r l).trans ?_
  rw [hg, v_apply m c t r l q hq]

end Cert.Adam17

end

end
-- ==== Proof.Adam18.lean ====
module

public import Idealize.ShloMosaic.Lib.Pipeline.ValueKit.Tiles
public import proofs.«01_k».proof.Proof.Adam
public import proofs.«01_k».proof.Proof.Gen.Kernel18Ideal.Value
public import proofs.«01_k».proof.Proof.Gen.Reference18Ideal.Read

@[expose] public section

noncomputable section

/-! `adamw_w_ffn_out`: a point of the grid is one layer's weight. -/

namespace Cert.Adam18

open Cert.Kernel18Ideal Cert.Kernel18Ideal.Gen Cert.Kernel18Ideal.Value
open Idealize.ShloMosaic Idealize.ShloMosaic.TcCoe Idealize.SL.Sem

/-! ## What a point leaves at an index of its blocks -/

section
variable (p : Vec Ideal S8x352x1024 .bf16) (w m v : Vec Ideal S1x352x1024 .f32) (r : Fin 352) (l : Fin 1024)

theorem grad_apply : out0_4 p w m v (ix3 0 r l) = (Adam.grad fun j => p (ix3 j r l)) := by
  unfold out0_4
  rw [View.canon_unit_zero (by decide) _ _]
  pointwise [k0_pay1, k0_pay2, k0_pay3, k0_pay4, k0_pay5, k0_pay6, k0_pay7, k0_pay8, Adam.grad, Fin.sum_univ_eight]

theorem delta_apply : out0_5 p w m v (ix3 0 r l) = Adam.delta (Adam.grad fun j => p (ix3 j r l)) (w (ix3 0 r l)) (m (ix3 0 r l)) (v (ix3 0 r l)) := by
  unfold out0_5
  rw [View.canon_unit_zero (by decide) _ _, View.ld_unit_zero (by decide) _ _, View.ld_unit_zero (by decide) _ _, View.ld_unit_zero (by decide) _ _]
  pointwise [k0_pay1, k0_pay2, k0_pay3, k0_pay4, k0_pay5, k0_pay6, k0_pay7, k0_pay8, Adam.delta, Adam.m2, Adam.v2, Adam.grad, Fin.sum_univ_eight]

theorem m2_apply : out0_6 p w m v (ix3 0 r l) = Adam.m2 (Adam.grad fun j => p (ix3 j r l)) (m (ix3 0 r l)) := by
  unfold out0_6
  rw [View.canon_unit_zero (by decide) _ _, View.ld_unit_zero (by decide) _ _]
  pointwise [k0_pay1, k0_pay2, k0_pay3, k0_pay4, k0_pay5, k0_pay6, k0_pay7, k0_pay8, Adam.m2, Adam.grad, Fin.sum_univ_eight]

theorem v2_apply : out0_7 p w m v (ix3 0 r l) = Adam.v2 (Adam.grad fun j => p (ix3 j r l)) (v (ix3 0 r l)) := by
  unfold out0_7
  rw [View.canon_unit_zero (by decide) _ _, View.ld_unit_zero (by decide) _ _]
  pointwise [k0_pay1, k0_pay2, k0_pay3, k0_pay4, k0_pay5, k0_pay6, k0_pay7, k0_pay8, Adam.v2, Adam.grad, Fin.sum_univ_eight]

end

/-! ## The reference -/

section
open Cert.Reference18Ideal.Read

variable (p : Vec Ideal S8x1408x1024 .bf16) (w m v : Vec Ideal S4x352x1024 .f32) (q : Fin 4) (r : Fin 352) (l : Fin 1024)

theorem ref_grad : val_main_v2 (F := Ideal) p (ix3 q r l) = (Adam.grad fun j => p (ix3 j ⟨q.val * 352 + r.val, by omega⟩ l)) := by
  pointwise [val_main_v0, val_main_cst, val_main_v1, val_main_v2, Adam.grad]

theorem ref_delta : val_main_v26 (F := Ideal) p w m v (ix3 q r l) = Adam.delta (Adam.grad fun j => p (ix3 j ⟨q.val * 352 + r.val, by omega⟩ l)) (w (ix3 q r l)) (m (ix3 q r l)) (v (ix3 q r l)) := by
  pointwise [val_main_cst_8, val_main_v25, val_main_cst_0, val_main_v3, val_main_v4, val_main_cst_1, val_main_v5, val_main_v0, val_main_cst, val_main_v1, val_main_v2, val_main_v6, val_main_v7, val_main_cst_4, val_main_v14, val_main_v15, val_main_cst_2, val_main_v8, val_main_v9, val_main_cst_3, val_main_v11, val_main_v10, val_main_v12, val_main_v13, val_main_cst_5, val_main_v16, val_main_v17, val_main_v18, val_main_cst_6, val_main_v19, val_main_v20, val_main_v21, val_main_cst_7, val_main_v22, val_main_v23, val_main_v24, val_main_v26, Adam.delta, Adam.m2, Adam.v2, Adam.grad]

theorem ref_m2 : val_main_v7 (F := Ideal) p m (ix3 q r l) = Adam.m2 (Adam.grad fun j => p (ix3 j ⟨q.val * 352 + r.val, by omega⟩ l)) (m (ix3 q r l)) := by
  pointwise [val_main_cst_0, val_main_v3, val_main_v4, val_main_cst_1, val_main_v5, val_main_v0, val_main_cst, val_main_v1, val_main_v2, val_main_v6, val_main_v7, Adam.m2, Adam.grad]

theorem ref_v2 : val_main_v13 (F := Ideal) p v (ix3 q r l) = Adam.v2 (Adam.grad fun j => p (ix3 j ⟨q.val * 352 + r.val, by omega⟩ l)) (v (ix3 q r l)) := by
  pointwise [val_main_cst_2, val_main_v8, val_main_v9, val_main_cst_3, val_main_v11, val_main_v0, val_main_cst, val_main_v1, val_main_v2, val_main_v10, val_main_v12, val_main_v13, Adam.v2, Adam.grad]

end

/-! ## The arrays -/

variable (m : (ℓ : Loc nD τ sig) → Buf (Elt Ideal) ℓ)

/-- Where each window's block lies at a grid point. -/
theorem blocks0 : ∀ t : Fin cfg0.N, win0_0.index t (0 : Fin 3) = 0 ∧ win0_0.index t (1 : Fin 3) = t.val ∧ win0_0.index t (2 : Fin 3) = 0 :=
  (by decide +kernel : ∀ t : Fin grid0.N, _)

theorem blocks1 : ∀ t : Fin cfg0.N, win0_1.index t (0 : Fin 3) = t.val ∧ win0_1.index t (1 : Fin 3) = 0 ∧ win0_1.index t (2 : Fin 3) = 0 :=
  (by decide +kernel : ∀ t : Fin grid0.N, _)

theorem blocks2 : ∀ t : Fin cfg0.N, win0_2.index t (0 : Fin 3) = t.val ∧ win0_2.index t (1 : Fin 3) = 0 ∧ win0_2.index t (2 : Fin 3) = 0 :=
  (by decide +kernel : ∀ t : Fin grid0.N, _)

theorem blocks3 : ∀ t : Fin cfg0.N, win0_3.index t (0 : Fin 3) = t.val ∧ win0_3.index t (1 : Fin 3) = 0 ∧ win0_3.index t (2 : Fin 3) = 0 :=
  (by decide +kernel : ∀ t : Fin grid0.N, _)

theorem blocks4 : ∀ t : Fin cfg0.N, win0_4.index t (0 : Fin 3) = t.val ∧ win0_4.index t (1 : Fin 3) = 0 ∧ win0_4.index t (2 : Fin 3) = 0 ∧ (cfg0.win 4).flush t = true :=
  (by decide +kernel : ∀ t : Fin grid0.N, _)

theorem blocks5 : ∀ t : Fin cfg0.N, win0_5.index t (0 : Fin 3) = t.val ∧ win0_5.index t (1 : Fin 3) = 0 ∧ win0_5.index t (2 : Fin 3) = 0 ∧ (cfg0.win 5).flush t = true :=
  (by decide +kernel : ∀ t : Fin grid0.N, _)

theorem blocks6 : ∀ t : Fin cfg0.N, win0_6.index t (0 : Fin 3) = t.val ∧ win0_6.index t (1 : Fin 3) = 0 ∧ win0_6.index t (2 : Fin 3) = 0 ∧ (cfg0.win 6).flush t = true :=
  (by decide +kernel : ∀ t : Fin grid0.N, _)

theorem blocks7 : ∀ t : Fin cfg0.N, win0_7.index t (0 : Fin 3) = t.val ∧ win0_7.index t (1 : Fin 3) = 0 ∧ win0_7.index t (2 : Fin 3) = 0 ∧ (cfg0.win 7).flush t = true :=
  (by decide +kernel : ∀ t : Fin grid0.N, _)

/-- The input blocks of a point, read off their arrays. -/
theorem p_apply (c : Dev nD) (t : Fin cfg0.N) (r : Fin 352) (l : Fin 1024) (j : Fin 8) (q : Fin 4) (hq : q.val = t.val) :
    iblk m c 0 t (ix3 j r l) = m ((c.tc : Thread nD τ).loc main_arg0) (ix3 j (⟨q.val * 352 + r.val, by omega⟩ : Fin 1408) l) := by
  obtain ⟨e0, e1, e2⟩ := blocks0 t
  show V m c main_arg0 (((cfg0.win 0).blk t).view.emb (ix3 j r l)) = _
  rw [V_main_arg0]
  refine congrArg _ (funext fun a => Fin.ext ?_)
  match a with
  | ⟨0, _⟩ => show win0_0.index t (0 : Fin 3) * 8 + 1 * j.val = j.val; omega
  | ⟨1, _⟩ => show win0_0.index t (1 : Fin 3) * 352 + 1 * r.val = q.val * 352 + r.val; omega
  | ⟨2, _⟩ => show win0_0.index t (2 : Fin 3) * 1024 + 1 * l.val = l.val; omega

theorem w_apply (c : Dev nD) (t : Fin cfg0.N) (r : Fin 352) (l : Fin 1024) (q : Fin 4) (hq : q.val = t.val) :
    iblk m c 1 t (ix3 0 r l) = m ((c.tc : Thread nD τ).loc main_arg1) (ix3 q r l) := by
  obtain ⟨e0, e1, e2⟩ := blocks1 t
  show V m c main_arg1 (((cfg0.win 1).blk t).view.emb (ix3 0 r l)) = _
  rw [V_main_arg1]
  refine congrArg _ (funext fun a => Fin.ext ?_)
  match a with
  | ⟨0, _⟩ => show win0_1.index t (0 : Fin 3) * 1 + 1 * 0 = q.val; omega
  | ⟨1, _⟩ => show win0_1.index t (1 : Fin 3) * 352 + 1 * r.val = r.val; omega
  | ⟨2, _⟩ => show win0_1.index t (2 : Fin 3) * 1024 + 1 * l.val = l.val; omega

theorem m_apply (c : Dev nD) (t : Fin cfg0.N) (r : Fin 352) (l : Fin 1024) (q : Fin 4) (hq : q.val = t.val) :
    iblk m c 2 t (ix3 0 r l) = m ((c.tc : Thread nD τ).loc main_arg2) (ix3 q r l) := by
  obtain ⟨e0, e1, e2⟩ := blocks2 t
  show V m c main_arg2 (((cfg0.win 2).blk t).view.emb (ix3 0 r l)) = _
  rw [V_main_arg2]
  refine congrArg _ (funext fun a => Fin.ext ?_)
  match a with
  | ⟨0, _⟩ => show win0_2.index t (0 : Fin 3) * 1 + 1 * 0 = q.val; omega
  | ⟨1, _⟩ => show win0_2.index t (1 : Fin 3) * 352 + 1 * r.val = r.val; omega
  | ⟨2, _⟩ => show win0_2.index t (2 : Fin 3) * 1024 + 1 * l.val = l.val; omega

theorem v_apply (c : Dev nD) (t : Fin cfg0.N) (r : Fin 352) (l : Fin 1024) (q : Fin 4) (hq : q.val = t.val) :
    iblk m c 3 t (ix3 0 r l) = m ((c.tc : Thread nD τ).loc main_arg3) (ix3 q r l) := by
  obtain ⟨e0, e1, e2⟩ := blocks3 t
  show V m c main_arg3 (((cfg0.win 3).blk t).view.emb (ix3 0 r l)) = _
  rw [V_main_arg3]
  refine congrArg _ (funext fun a => Fin.ext ?_)
  match a with
  | ⟨0, _⟩ => show win0_3.index t (0 : Fin 3) * 1 + 1 * 0 = q.val; omega
  | ⟨1, _⟩ => show win0_3.index t (1 : Fin 3) * 352 + 1 * r.val = r.val; omega
  | ⟨2, _⟩ => show win0_3.index t (2 : Fin 3) * 1024 + 1 * l.val = l.val; omega

theorem value_grad (c : Dev nD) :
    (dats m 0 c).arrAt 4 cfg0.N = Cert.Reference18Ideal.Read.val_main_v2 (F := Ideal) (m ((c.tc : Thread nD τ).loc main_arg0)) := by
  funext i
  obtain ⟨q, r, l, rfl⟩ : ∃ (q : Fin 4) (r : Fin 352) (l : Fin 1024), i = ix3 q r l := ⟨i 0, i 1, i 2, (ix3_eta i).symm⟩
  refine Eq.trans ?_ (ref_grad _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 352 + r.val, by omega⟩ : Fin 1408) l) :=
    congrArg Adam.grad (funext fun j => p_apply m c t r l j q hq)
  obtain ⟨e0, e1, e2, hf⟩ := blocks4 t
  have hi : (ix3 q r l : S4x352x1024.Idx) = ((cfg0.win 4).blk t).view.emb (ix3 0 r l) := by
    refine funext fun a => Fin.ext ?_
    match a with
    | ⟨0, _⟩ => show q.val = win0_4.index t (0 : Fin 3) * 1 + 1 * 0; omega
    | ⟨1, _⟩ => show r.val = win0_4.index t (1 : Fin 3) * 352 + 1 * r.val; omega
    | ⟨2, _⟩ => show l.val = win0_4.index t (2 : Fin 3) * 1024 + 1 * l.val; omega
  refine (congrArg _ hi).trans (((dats m 0 c).arrAt_emb_eq_flushed 4 disjoint4 t hf (ix3 0 r l)).trans ?_)
  show (dats m 0 c).flushed 4 t (ix3 0 r l) = _
  rw [flushed4]
  refine (grad_apply (iblk m c 0 t) (iblk m c 1 t) (iblk m c 2 t) (iblk m c 3 t) r l).trans ?_
  rw [hg]

theorem value_delta (c : Dev nD) :
    (dats m 0 c).arrAt 5 cfg0.N = Cert.Reference18Ideal.Read.val_main_v26 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, r, l, rfl⟩ : ∃ (q : Fin 4) (r : Fin 352) (l : Fin 1024), i = ix3 q r l := ⟨i 0, i 1, i 2, (ix3_eta i).symm⟩
  refine Eq.trans ?_ (ref_delta _ _ _ _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 352 + r.val, by omega⟩ : Fin 1408) l) :=
    congrArg Adam.grad (funext fun j => p_apply m c t r l j q hq)
  obtain ⟨e0, e1, e2, hf⟩ := blocks5 t
  have hi : (ix3 q r l : S4x352x1024.Idx) = ((cfg0.win 5).blk t).view.emb (ix3 0 r l) := by
    refine funext fun a => Fin.ext ?_
    match a with
    | ⟨0, _⟩ => show q.val = win0_5.index t (0 : Fin 3) * 1 + 1 * 0; omega
    | ⟨1, _⟩ => show r.val = win0_5.index t (1 : Fin 3) * 352 + 1 * r.val; omega
    | ⟨2, _⟩ => show l.val = win0_5.index t (2 : Fin 3) * 1024 + 1 * l.val; omega
  refine (congrArg _ hi).trans (((dats m 0 c).arrAt_emb_eq_flushed 5 disjoint5 t hf (ix3 0 r l)).trans ?_)
  show (dats m 0 c).flushed 5 t (ix3 0 r l) = _
  rw [flushed5]
  refine (delta_apply (iblk m c 0 t) (iblk m c 1 t) (iblk m c 2 t) (iblk m c 3 t) r l).trans ?_
  rw [hg, w_apply m c t r l q hq, m_apply m c t r l q hq, v_apply m c t r l q hq]

theorem value_m2 (c : Dev nD) :
    (dats m 0 c).arrAt 6 cfg0.N = Cert.Reference18Ideal.Read.val_main_v7 (F := Ideal) (m ((c.tc : Thread nD τ).loc main_arg0)) (m ((c.tc : Thread nD τ).loc main_arg2)) := by
  funext i
  obtain ⟨q, r, l, rfl⟩ : ∃ (q : Fin 4) (r : Fin 352) (l : Fin 1024), i = ix3 q r l := ⟨i 0, i 1, i 2, (ix3_eta i).symm⟩
  refine Eq.trans ?_ (ref_m2 _ _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 352 + r.val, by omega⟩ : Fin 1408) l) :=
    congrArg Adam.grad (funext fun j => p_apply m c t r l j q hq)
  obtain ⟨e0, e1, e2, hf⟩ := blocks6 t
  have hi : (ix3 q r l : S4x352x1024.Idx) = ((cfg0.win 6).blk t).view.emb (ix3 0 r l) := by
    refine funext fun a => Fin.ext ?_
    match a with
    | ⟨0, _⟩ => show q.val = win0_6.index t (0 : Fin 3) * 1 + 1 * 0; omega
    | ⟨1, _⟩ => show r.val = win0_6.index t (1 : Fin 3) * 352 + 1 * r.val; omega
    | ⟨2, _⟩ => show l.val = win0_6.index t (2 : Fin 3) * 1024 + 1 * l.val; omega
  refine (congrArg _ hi).trans (((dats m 0 c).arrAt_emb_eq_flushed 6 disjoint6 t hf (ix3 0 r l)).trans ?_)
  show (dats m 0 c).flushed 6 t (ix3 0 r l) = _
  rw [flushed6]
  refine (m2_apply (iblk m c 0 t) (iblk m c 1 t) (iblk m c 2 t) (iblk m c 3 t) r l).trans ?_
  rw [hg, m_apply m c t r l q hq]

theorem value_v2 (c : Dev nD) :
    (dats m 0 c).arrAt 7 cfg0.N = Cert.Reference18Ideal.Read.val_main_v13 (F := Ideal) (m ((c.tc : Thread nD τ).loc main_arg0)) (m ((c.tc : Thread nD τ).loc main_arg3)) := by
  funext i
  obtain ⟨q, r, l, rfl⟩ : ∃ (q : Fin 4) (r : Fin 352) (l : Fin 1024), i = ix3 q r l := ⟨i 0, i 1, i 2, (ix3_eta i).symm⟩
  refine Eq.trans ?_ (ref_v2 _ _ q r l).symm
  let t : Fin cfg0.N := ⟨q.val, by have h : cfg0.N = 4 := N_0; omega⟩
  have hq : q.val = t.val := rfl
  have hg : (Adam.grad fun j => iblk m c 0 t (ix3 j r l)) = Adam.grad fun j => m ((c.tc : Thread nD τ).loc main_arg0) (ix3 j (⟨q.val * 352 + r.val, by omega⟩ : Fin 1408) l) :=
    congrArg Adam.grad (funext fun j => p_apply m c t r l j q hq)
  obtain ⟨e0, e1, e2, hf⟩ := blocks7 t
  have hi : (ix3 q r l : S4x352x1024.Idx) = ((cfg0.win 7).blk t).view.emb (ix3 0 r l) := by
    refine funext fun a => Fin.ext ?_
    match a with
    | ⟨0, _⟩ => show q.val = win0_7.index t (0 : Fin 3) * 1 + 1 * 0; omega
    | ⟨1, _⟩ => show r.val = win0_7.index t (1 : Fin 3) * 352 + 1 * r.val; omega
    | ⟨2, _⟩ => show l.val = win0_7.index t (2 : Fin 3) * 1024 + 1 * l.val; omega
  refine (congrArg _ hi).trans (((dats m 0 c).arrAt_emb_eq_flushed 7 disjoint7 t hf (ix3 0 r l)).trans ?_)
  show (dats m 0 c).flushed 7 t (ix3 0 r l) = _
  rw [flushed7]
  refine (v2_apply (iblk m c 0 t) (iblk m c 1 t) (iblk m c 2 t) (iblk m c 3 t) r l).trans ?_
  rw [hg, v_apply m c t r l q hq]

end Cert.Adam18

end

end
-- ==== Proof.Adam19.lean ====
module

public import Idealize.ShloMosaic.Lib.Pipeline.ValueKit.Tiles
public import proofs.«01_k».proof.Proof.Adam
public import proofs.«01_k».proof.Proof.Gen.Kernel19Ideal.Value
public import proofs.«01_k».proof.Proof.Gen.Reference19Ideal.Read

@[expose] public section

noncomputable section

/-! `adamw_w_in`: a point of the grid is 256 rows of one layer's weight; its gradient lies in slabs of 128 columns. -/

namespace Cert.Adam19

open Cert.Kernel19Ideal Cert.Kernel19Ideal.Gen Cert.Kernel19Ideal.Value
open Idealize.ShloMosaic Idealize.ShloMosaic.TcCoe Idealize.SL.Sem

/-! ## What a point leaves at an index of its blocks -/

section
variable (x0 x1 x2 x3 x4 : Vec Ideal S8x256x128 .bf16) (w m v : Vec Ideal S1x256x576 .f32) (r : Fin 256) (l : Fin 576)

/-- The gradient of an entry, from the slabs it lies in. -/
theorem grad_apply (f : Fin 8 → Fin 640 → EReal)
    (h0 : ∀ (j : Fin 8) (a : Fin 128), x0 (ix3 j r a) = f j ⟨a.val, by omega⟩)
    (h1 : ∀ (j : Fin 8) (a : Fin 128), x1 (ix3 j r a) = f j ⟨128 + a.val, by omega⟩)
    (h2 : ∀ (j : Fin 8) (a : Fin 128), x2 (ix3 j r a) = f j ⟨256 + a.val, by omega⟩)
    (h3 : ∀ (j : Fin 8) (a : Fin 128), x3 (ix3 j r a) = f j ⟨384 + a.val, by omega⟩)
    (h4 : ∀ (j : Fin 8) (a : Fin 128), x4 (ix3 j r a) = f j ⟨512 + a.val, by omega⟩) :
    k0_pay26 x0 x1 x2 x3 x4 w m v (ix2 r l) = Adam.grad fun j => f j ⟨l.val, by omega⟩ := by
  pointwise [k0_pay9, k0_pay1, k0_pay20, k0_pay2, k0_pay21, k0_pay4, k0_pay3, k0_pay22, k0_pay6, k0_pay5, k0_pay23, k0_pay7, k0_pay24, k0_pay8, k0_pay25, k0_pay26]
  simp only [Adam.grad, Fin.sum_univ_eight]
  by_cases c0 : l.val < 128
  · rw [dif_pos c0]
    simp only [h0]
  rw [dif_neg c0]
  by_cases c1 : l.val - 128 < 128
  · rw [dif_pos c1]
    have e : 128 + (l.val - 128) = l.val := by omega
    simp only [h1, e]
  rw [dif_neg c1]
  by_cases c2 : l.val - 128 - 128 < 128
  · rw [dif_pos c2]
    have e : 256 + (l.val - 128 - 128) = l.val := by omega
    simp only [h2, e]
  rw [dif_neg c2]
  by_cases c3 : l.val - 128 - 128 - 128 < 128
  · rw [dif_pos c3]
    have e : 384 + (l.val - 128 - 128 - 128) = l.val := by omega
    simp only [h3, e]
  rw [dif_neg c3]
  have e : 512 + (l.val - 128 - 128 - 128 - 128) = l.val := by omega
  simp only [h4, e]

theorem out_grad : out0_8 x0 x1 x2 x3 x4 w m v (ix3 0 r l) = (k0_pay26 x0 x1 x2 x3 x4 w m v (ix2 r l)) := by
  unfold out0_8
  rw [View.canon_unit_zero (by decide) _ _]
  pointwise [k0_pay10, k0_pay11, k0_pay12, k0_pay13, k0_pay14, k0_pay15, k0_pay16, k0_pay17, k0_pay18, k0_pay19, k0_pay27, k0_pay28, k0_pay29, k0_pay26]

theorem out_delta : out0_9 x0 x1 x2 x3 x4 w m v (ix3 0 r l) = Adam.delta (k0_pay26 x0 x1 x2 x3 x4 w m v (ix2 r l)) (w (ix3 0 r l)) (m (ix3 0 r l)) (v (ix3 0 r l)) := by
  unfold out0_9
  rw [View.canon_unit_zero (by decide) _ _, View.ld_unit_zero (by decide) _ _]
  pointwise [k0_pay10, k0_pay11, k0_pay12, k0_pay13, k0_pay14, k0_pay15, k0_pay16, k0_pay17, k0_pay18, k0_pay19, k0_pay27, k0_pay28, k0_pay29, k0_pay26, Adam.delta, Adam.m2, Adam.v2]

theorem out_m2 : out0_10 x0 x1 x2 x3 x4 w m v (ix3 0 r l) = Adam.m2 (k0_pay26 x0 x1 x2 x3 x4 w m v (ix2 r l)) (m (ix3 0 r l)) := by
  unfold out0_10
  rw [View.canon_unit_zero (by decide) _ _]
  pointwise [k0_pay10, k0_pay11, k0_pay12, k0_pay13, k0_pay14, k0_pay15, k0_pay16, k0_pay17, k0_pay18, k0_pay19, k0_pay27, k0_pay28, k0_pay29, k0_pay26, Adam.m2]

theorem out_v2 : out0_11 x0 x1 x2 x3 x4 w m v (ix3 0 r l) = Adam.v2 (k0_pay26 x0 x1 x2 x3 x4 w m v (ix2 r l)) (v (ix3 0 r l)) := by
  unfold out0_11
  rw [View.canon_unit_zero (by decide) _ _]
  pointwise [k0_pay10, k0_pay11, k0_pay12, k0_pay13, k0_pay14, k0_pay15, k0_pay16, k0_pay17, k0_pay18, k0_pay19, k0_pay27, k0_pay28, k0_pay29, k0_pay26, Adam.v2]

end

/-! ## The reference -/

section
open Cert.Reference19Ideal.Read

variable (p : Vec Ideal S8x26624x128 .bf16) (w m v : Vec Ideal S4x1024x576 .f32) (q : Fin 4) (r : Fin 1024) (l : Fin 576)

theorem ref_grad : val_main_v7 (F := Ideal) p (ix3 q r l) = Adam.grad fun j => p (ix3 j ⟨q.val * 6656 + (l.val / 128 * 1024 + r.val), by omega⟩ ⟨l.val % 128, by omega⟩) := by
  pointwise [val_main_v0, val_main_cst, val_main_v1, val_main_v2, val_main_v3, val_main_v4, val_main_v5, val_main_v6, val_main_v7]
  exact Finset.sum_congr rfl fun j _ => congrArg p (Adam.ix3_congr j (by first | rfl | (dsimp only; omega)) (by first | rfl | (dsimp only; omega)))

theorem ref_delta : val_main_v31 (F := Ideal) p w m v (ix3 q r l) = Adam.delta (val_main_v7 (F := Ideal) p (ix3 q r l)) (w (ix3 q r l)) (m (ix3 q r l)) (v (ix3 q r l)) := by
  unfold val_main_v31 val_main_v29 val_main_v28 val_main_v27 val_main_cst_7 val_main_v26 val_main_v25 val_main_v24 val_main_cst_6 val_main_v23 val_main_v22 val_main_v21 val_main_cst_5 val_main_v18 val_main_v17 val_main_v15 val_main_v16 val_main_cst_3 val_main_v14 val_main_v13 val_main_cst_2 val_main_v20 val_main_v19 val_main_cst_4 val_main_v12 val_main_v11 val_main_v10 val_main_cst_1 val_main_v9 val_main_v8 val_main_cst_0 val_main_v30 val_main_cst_8
  generalize val_main_v7 (F := Ideal) p = g
  exact Adam.step_apply _ _ g w m v _ _ _ _ _ _ _ _ _ _

theorem ref_m2 : val_main_v12 (F := Ideal) p m (ix3 q r l) = Adam.m2 (val_main_v7 (F := Ideal) p (ix3 q r l)) (m (ix3 q r l)) := by
  unfold val_main_v12 val_main_v11 val_main_v10 val_main_cst_1 val_main_v9 val_main_v8 val_main_cst_0
  generalize val_main_v7 (F := Ideal) p = g
  exact Adam.mix_apply _ _ g m _ _ _

theorem ref_v2 : val_main_v18 (F := Ideal) p v (ix3 q r l) = Adam.v2 (val_main_v7 (F := Ideal) p (ix3 q r l)) (v (ix3 q r l)) := by
  unfold val_main_v18 val_main_v17 val_main_v15 val_main_v16 val_main_cst_3 val_main_v14 val_main_v13 val_main_cst_2
  generalize val_main_v7 (F := Ideal) p = g
  exact Adam.square_apply _ _ g v _ _ _

end

/-! ## The arrays -/

variable (m : (ℓ : Loc nD τ sig) → Buf (Elt Ideal) ℓ)

/-! Where each window's block lies at a grid point. -/

theorem blocks0 : ∀ t : Fin cfg0.N, win0_0.index t (0 : Fin 3) = 0 ∧ win0_0.index t (1 : Fin 3) = t.val / 4 * 26 + t.val % 4 ∧ win0_0.index t (2 : Fin 3) = 0 :=
  (by decide +kernel : ∀ t : Fin grid0.N, _)

theorem blocks1 : ∀ t : Fin cfg0.N, win0_1.index t (0 : Fin 3) = 0 ∧ win0_1.index t (1 : Fin 3) = t.val / 4 * 26 + 4 + t.val % 4 ∧ win0_1.index t (2 : Fin 3) = 0 :=
  (by decide +kernel : ∀ t : Fin grid0.N, _)

theorem blocks2 : ∀ t : Fin cfg0.N, win0_2.index t (0 : Fin 3) = 0 ∧ win0_2.index t (1 : Fin 3) = t.val / 4 * 26 + 8 + t.val % 4 ∧ win0_2.index t (2 : Fin 3) = 0 :=
  (by decide +kernel : ∀ t : Fin grid0.N, _)

theorem blocks3 : ∀ t : Fin cfg0.N, win0_3.index t (0 : Fin 3) = 0 ∧ win0_3.index t (1 : Fin 3) = t.val / 4 * 26 + 12 + t.val % 4 ∧ win0_3.index t (2 : Fin 3) = 0 :=
  (by decide +kernel : ∀ t : Fin grid0.N, _)

theorem blocks4 : ∀ t : Fin cfg0.N, win0_4.index t (0 : Fin 3) = 0 ∧ win0_4.index t (1 : Fin 3) = t.val / 4 * 26 + 16 + t.val % 4 ∧ win0_4.index t (2 : Fin 3) = 0 :=
  (by decide +kernel : ∀ t : Fin grid0.N, _)

theorem blocks5 : ∀ t : Fin cfg0.N, win0_5.index t (0 : Fin 3) = t.val / 4 ∧ win0_5.index t (1 : Fin 3) = t.val % 4 ∧ win0_5.index t (2 : Fin 3) = 0 :=
  (by decide +kernel : ∀ t : Fin grid0.N, _)

theorem blocks6 : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)

theorem blocks7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)

theorem blocks8 : ∀ t : Fin cfg0.N, win0_8.index t (0 : Fin 3) = t.val / 4 ∧ win0_8.index t (1 : Fin 3) = t.val % 4 ∧ win0_8.index t (2 : Fin 3) = 0 ∧ (cfg0.win 8).flush t = true :=
  (by decide +kernel : ∀ t : Fin grid0.N, _)

theorem blocks9 : ∀ t : Fin cfg0.N, win0_9.index t (0 : Fin 3) = t.val / 4 ∧ win0_9.index t (1 : Fin 3) = t.val % 4 ∧ win0_9.index t (2 : Fin 3) = 0 ∧ (cfg0.win 9).flush t = true :=
  (by decide +kernel : ∀ t : Fin grid0.N, _)

theorem blocks10 : ∀ t : Fin cfg0.N, win0_10.index t (0 : Fin 3) = t.val / 4 ∧ win0_10.index t (1 : Fin 3) = t.val % 4 ∧ win0_10.index t (2 : Fin 3) = 0 ∧ (cfg0.win 10).flush t = true :=
  (by decide +kernel : ∀ t : Fin grid0.N, _)

theorem blocks11 : ∀ t : Fin cfg0.N, win0_11.index t (0 : Fin 3) = t.val / 4 ∧ win0_11.index t (1 : Fin 3) = t.val % 4 ∧ win0_11.index t (2 : Fin 3) = 0 ∧ (cfg0.win 11).flush t = true :=
  (by decide +kernel : ∀ t : Fin grid0.N, _)

theorem p0_apply (c : Dev nD) (t : Fin cfg0.N) (r : Fin 256) (q : Fin 4) (hq : q.val = t.val / 4) (R : Fin 1024) (hR : R.val = t.val % 4 * 256 + r.val) (j : Fin 8) (a : Fin 128) :
    iblk m c 0 t (ix3 j r a) = m ((c.tc : Thread nD τ).loc main_arg0) (ix3 j (⟨q.val * 6656 + (R.val), by omega⟩ : Fin 26624) a) := by
  obtain ⟨e0, e1, e2⟩ := blocks0 t
  show V m c main_arg0 (((cfg0.win 0).blk t).view.emb (ix3 j r a)) = _
  rw [V_main_arg0]
  refine congrArg _ (funext fun b => Fin.ext ?_)
  match b with
  | ⟨0, _⟩ => show win0_0.index t (0 : Fin 3) * 8 + 1 * j.val = j.val; omega
  | ⟨1, _⟩ => show win0_0.index t (1 : Fin 3) * 256 + 1 * r.val = q.val * 6656 + (R.val); omega
  | ⟨2, _⟩ => show win0_0.index t (2 : Fin 3) * 128 + 1 * a.val = a.val; omega

theorem p1_apply (c : Dev nD) (t : Fin cfg0.N) (r : Fin 256) (q : Fin 4) (hq : q.val = t.val / 4) (R : Fin 1024) (hR : R.val = t.val % 4 * 256 + r.val) (j : Fin 8) (a : Fin 128) :
    iblk m c 1 t (ix3 j r a) = m ((c.tc : Thread nD τ).loc main_arg0) (ix3 j (⟨q.val * 6656 + (1024 + R.val), by omega⟩ : Fin 26624) a) := by
  obtain ⟨e0, e1, e2⟩ := blocks1 t
  show V m c main_arg0 (((cfg0.win 1).blk t).view.emb (ix3 j r a)) = _
  rw [V_main_arg0]
  refine congrArg _ (funext fun b => Fin.ext ?_)
  match b with
  | ⟨0, _⟩ => show win0_1.index t (0 : Fin 3) * 8 + 1 * j.val = j.val; omega
  | ⟨1, _⟩ => show win0_1.index t (1 : Fin 3) * 256 + 1 * r.val = q.val * 6656 + (1024 + R.val); omega
  | ⟨2, _⟩ => show win0_1.index t (2 : Fin 3) * 128 + 1 * a.val = a.val; omega

theorem p2_apply (c : Dev nD) (t : Fin cfg0.N) (r : Fin 256) (q : Fin 4) (hq : q.val = t.val / 4) (R : Fin 1024) (hR : R.val = t.val % 4 * 256 + r.val) (j : Fin 8) (a : Fin 128) :
    iblk m c 2 t (ix3 j r a) = m ((c.tc : Thread nD τ).loc main_arg0) (ix3 j (⟨q.val * 6656 + (2048 + R.val), by omega⟩ : Fin 26624) a) := by
  obtain ⟨e0, e1, e2⟩ := blocks2 t
  show V m c main_arg0 (((cfg0.win 2).blk t).view.emb (ix3 j r a)) = _
  rw [V_main_arg0]
  refine congrArg _ (funext fun b => Fin.ext ?_)
  match b with
  | ⟨0, _⟩ => show win0_2.index t (0 : Fin 3) * 8 + 1 * j.val = j.val; omega
  | ⟨1, _⟩ => show win0_2.index t (1 : Fin 3) * 256 + 1 * r.val = q.val * 6656 + (2048 + R.val); omega
  | ⟨2, _⟩ => show win0_2.index t (2 : Fin 3) * 128 + 1 * a.val = a.val; omega

theorem p3_apply (c : Dev nD) (t : Fin cfg0.N) (r : Fin 256) (q : Fin 4) (hq : q.val = t.val / 4) (R : Fin 1024) (hR : R.val = t.val % 4 * 256 + r.val) (j : Fin 8) (a : Fin 128) :
    iblk m c 3 t (ix3 j r a) = m ((c.tc : Thread nD τ).loc main_arg0) (ix3 j (⟨q.val * 6656 + (3072 + R.val), by omega⟩ : Fin 26624) a) := by
  obtain ⟨e0, e1, e2⟩ := blocks3 t
  show V m c main_arg0 (((cfg0.win 3).blk t).view.emb (ix3 j r a)) = _
  rw [V_main_arg0]
  refine congrArg _ (funext fun b => Fin.ext ?_)
  match b with
  | ⟨0, _⟩ => show win0_3.index t (0 : Fin 3) * 8 + 1 * j.val = j.val; omega
  | ⟨1, _⟩ => show win0_3.index t (1 : Fin 3) * 256 + 1 * r.val = q.val * 6656 + (3072 + R.val); omega
  | ⟨2, _⟩ => show win0_3.index t (2 : Fin 3) * 128 + 1 * a.val = a.val; omega

theorem p4_apply (c : Dev nD) (t : Fin cfg0.N) (r : Fin 256) (q : Fin 4) (hq : q.val = t.val / 4) (R : Fin 1024) (hR : R.val = t.val % 4 * 256 + r.val) (j : Fin 8) (a : Fin 128) :
    iblk m c 4 t (ix3 j r a) = m ((c.tc : Thread nD τ).loc main_arg0) (ix3 j (⟨q.val * 6656 + (4096 + R.val), by omega⟩ : Fin 26624) a) := by
  obtain ⟨e0, e1, e2⟩ := blocks4 t
  show V m c main_arg0 (((cfg0.win 4).blk t).view.emb (ix3 j r a)) = _
  rw [V_main_arg0]
  refine congrArg _ (funext fun b => Fin.ext ?_)
  match b with
  | ⟨0, _⟩ => show win0_4.index t (0 : Fin 3) * 8 + 1 * j.val = j.val; omega
  | ⟨1, _⟩ => show win0_4.index t (1 : Fin 3) * 256 + 1 * r.val = q.val * 6656 + (4096 + R.val); omega
  | ⟨2, _⟩ => show win0_4.index t (2 : Fin 3) * 128 + 1 * a.val = a.val; omega

theorem w_apply (c : Dev nD) (t : Fin cfg0.N) (r : Fin 256) (q : Fin 4) (hq : q.val = t.val / 4) (R : Fin 1024) (hR : R.val = t.val % 4 * 256 + r.val) (l : Fin 576) :
    iblk m c 5 t (ix3 0 r l) = m ((c.tc : Thread nD τ).loc main_arg1) (ix3 q R l) := by
  obtain ⟨e0, e1, e2⟩ := blocks5 t
  show V m c main_arg1 (((cfg0.win 5).blk t).view.emb (ix3 0 r l)) = _
  rw [V_main_arg1]
  refine congrArg _ (funext fun b => Fin.ext ?_)
  match b with
  | ⟨0, _⟩ => show win0_5.index t (0 : Fin 3) * 1 + 1 * 0 = q.val; omega
  | ⟨1, _⟩ => show win0_5.index t (1 : Fin 3) * 256 + 1 * r.val = R.val; omega
  | ⟨2, _⟩ => show win0_5.index t (2 : Fin 3) * 576 + 1 * l.val = l.val; omega

theorem m_apply (c : Dev nD) (t : Fin cfg0.N) (r : Fin 256) (q : Fin 4) (hq : q.val = t.val / 4) (R : Fin 1024) (hR : R.val = t.val % 4 * 256 + r.val) (l : Fin 576) :
    iblk m c 6 t (ix3 0 r l) = m ((c.tc : Thread nD τ).loc main_arg2) (ix3 q R l) := by
  obtain ⟨e0, e1, e2⟩ := blocks6 t
  show V m c main_arg2 (((cfg0.win 6).blk t).view.emb (ix3 0 r l)) = _
  rw [V_main_arg2]
  refine congrArg _ (funext fun b => Fin.ext ?_)
  match b with
  | ⟨0, _⟩ => show win0_6.index t (0 : Fin 3) * 1 + 1 * 0 = q.val; omega
  | ⟨1, _⟩ => show win0_6.index t (1 : Fin 3) * 256 + 1 * r.val = R.val; omega
  | ⟨2, _⟩ => show win0_6.index t (2 : Fin 3) * 576 + 1 * l.val = l.val; omega

theorem v_apply (c : Dev nD) (t : Fin cfg0.N) (r : Fin 256) (q : Fin 4) (hq : q.val = t.val / 4) (R : Fin 1024) (hR : R.val = t.val % 4 * 256 + r.val) (l : Fin 576) :
    iblk m c 7 t (ix3 0 r l) = m ((c.tc : Thread nD τ).loc main_arg3) (ix3 q R l) := by
  obtain ⟨e0, e1, e2⟩ := blocks7 t
  show V m c main_arg3 (((cfg0.win 7).blk t).view.emb (ix3 0 r l)) = _
  rw [V_main_arg3]
  refine congrArg _ (funext fun b => Fin.ext ?_)
  match b with
  | ⟨0, _⟩ => show win0_7.index t (0 : Fin 3) * 1 + 1 * 0 = q.val; omega
  | ⟨1, _⟩ => show win0_7.index t (1 : Fin 3) * 256 + 1 * r.val = R.val; omega
  | ⟨2, _⟩ => show win0_7.index t (2 : Fin 3) * 576 + 1 * l.val = l.val; omega

/-- The kernel's gradient of an entry is the reference's. -/
theorem grad_eq (c : Dev nD) (t : Fin cfg0.N) (r : Fin 256) (q : Fin 4) (hq : q.val = t.val / 4) (R : Fin 1024) (hR : R.val = t.val % 4 * 256 + r.val) (l : Fin 576) :
    k0_pay26 (iblk m c 0 t) (iblk m c 1 t) (iblk m c 2 t) (iblk m c 3 t) (iblk m c 4 t) (iblk m c 5 t) (iblk m c 6 t) (iblk m c 7 t) (ix2 r l) = Cert.Reference19Ideal.Read.val_main_v7 (F := Ideal) (m ((c.tc : Thread nD τ).loc main_arg0)) (ix3 q R l) := by
  refine Eq.trans ?_ (ref_grad (m ((c.tc : Thread nD τ).loc main_arg0)) q R l).symm
  refine grad_apply (iblk m c 0 t) (iblk m c 1 t) (iblk m c 2 t) (iblk m c 3 t) (iblk m c 4 t) (iblk m c 5 t) (iblk m c 6 t) (iblk m c 7 t) r l
    (fun j n => m ((c.tc : Thread nD τ).loc main_arg0) (ix3 j (⟨q.val * 6656 + (n.val / 128 * 1024 + R.val), by omega⟩ : Fin 26624) (⟨n.val % 128, by omega⟩ : Fin 128)))
    (fun j a => ?_) (fun j a => ?_) (fun j a => ?_) (fun j a => ?_) (fun j a => ?_)
  · exact (p0_apply m c t r q hq R hR j a).trans (congrArg _ (Adam.ix3_congr j
        (by show q.val * 6656 + (R.val) = q.val * 6656 + ((a.val) / 128 * 1024 + R.val); omega)
        (by show a.val = (a.val) % 128; omega)))
  · exact (p1_apply m c t r q hq R hR j a).trans (congrArg _ (Adam.ix3_congr j
        (by show q.val * 6656 + (1024 + R.val) = q.val * 6656 + ((128 + a.val) / 128 * 1024 + R.val); omega)
        (by show a.val = (128 + a.val) % 128; omega)))
  · exact (p2_apply m c t r q hq R hR j a).trans (congrArg _ (Adam.ix3_congr j
        (by show q.val * 6656 + (2048 + R.val) = q.val * 6656 + ((256 + a.val) / 128 * 1024 + R.val); omega)
        (by show a.val = (256 + a.val) % 128; omega)))
  · exact (p3_apply m c t r q hq R hR j a).trans (congrArg _ (Adam.ix3_congr j
        (by show q.val * 6656 + (3072 + R.val) = q.val * 6656 + ((384 + a.val) / 128 * 1024 + R.val); omega)
        (by show a.val = (384 + a.val) % 128; omega)))
  · exact (p4_apply m c t r q hq R hR j a).trans (congrArg _ (Adam.ix3_congr j
        (by show q.val * 6656 + (4096 + R.val) = q.val * 6656 + ((512 + a.val) / 128 * 1024 + R.val); omega)
        (by show a.val = (512 + a.val) % 128; omega)))

theorem value_grad (c : Dev nD) :
    (dats m 0 c).arrAt 8 cfg0.N = Cert.Reference19Ideal.Read.val_main_v7 (F := Ideal) (m ((c.tc : Thread nD τ).loc main_arg0)) := by
  funext i
  obtain ⟨q, R, l, rfl⟩ : ∃ (q : Fin 4) (R : Fin 1024) (l : Fin 576), i = ix3 q R l := ⟨i 0, i 1, i 2, (ix3_eta i).symm⟩
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks8 t
  have hi : (ix3 q R l : S4x1024x576.Idx) = ((cfg0.win 8).blk t).view.emb (ix3 0 r l) := by
    refine funext fun b => Fin.ext ?_
    match b with
    | ⟨0, _⟩ => show q.val = win0_8.index t (0 : Fin 3) * 1 + 1 * 0; omega
    | ⟨1, _⟩ => show R.val = win0_8.index t (1 : Fin 3) * 256 + 1 * r.val; omega
    | ⟨2, _⟩ => show l.val = win0_8.index t (2 : Fin 3) * 576 + 1 * l.val; omega
  refine (congrArg _ hi).trans (((dats m 0 c).arrAt_emb_eq_flushed 8 disjoint8 t hf (ix3 0 r l)).trans ?_)
  show (dats m 0 c).flushed 8 t (ix3 0 r l) = _
  rw [flushed8]
  refine (out_grad (iblk m c 0 t) (iblk m c 1 t) (iblk m c 2 t) (iblk m c 3 t) (iblk m c 4 t) (iblk m c 5 t) (iblk m c 6 t) (iblk m c 7 t) r l).trans ?_
  rw [grad_eq m c t r q hq R hR l]

theorem value_delta (c : Dev nD) :
    (dats m 0 c).arrAt 9 cfg0.N = Cert.Reference19Ideal.Read.val_main_v31 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, R, l, rfl⟩ : ∃ (q : Fin 4) (R : Fin 1024) (l : Fin 576), i = ix3 q R l := ⟨i 0, i 1, i 2, (ix3_eta i).symm⟩
  refine Eq.trans ?_ (ref_delta _ _ _ _ q R l).symm
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks9 t
  have hi : (ix3 q R l : S4x1024x576.Idx) = ((cfg0.win 9).blk t).view.emb (ix3 0 r l) := by
    refine funext fun b => Fin.ext ?_
    match b with
    | ⟨0, _⟩ => show q.val = win0_9.index t (0 : Fin 3) * 1 + 1 * 0; omega
    | ⟨1, _⟩ => show R.val = win0_9.index t (1 : Fin 3) * 256 + 1 * r.val; omega
    | ⟨2, _⟩ => show l.val = win0_9.index t (2 : Fin 3) * 576 + 1 * l.val; omega
  refine (congrArg _ hi).trans (((dats m 0 c).arrAt_emb_eq_flushed 9 disjoint9 t hf (ix3 0 r l)).trans ?_)
  show (dats m 0 c).flushed 9 t (ix3 0 r l) = _
  rw [flushed9]
  refine (out_delta (iblk m c 0 t) (iblk m c 1 t) (iblk m c 2 t) (iblk m c 3 t) (iblk m c 4 t) (iblk m c 5 t) (iblk m c 6 t) (iblk m c 7 t) r l).trans ?_
  rw [grad_eq m c t r q hq R hR l, w_apply m c t r q hq R hR l, m_apply m c t r q hq R hR l, v_apply m c t r q hq R hR l]

theorem value_m2 (c : Dev nD) :
    (dats m 0 c).arrAt 10 cfg0.N = Cert.Reference19Ideal.Read.val_main_v12 (F := Ideal) (m ((c.tc : Thread nD τ).loc main_arg0)) (m ((c.tc : Thread nD τ).loc main_arg2)) := by
  funext i
  obtain ⟨q, R, l, rfl⟩ : ∃ (q : Fin 4) (R : Fin 1024) (l : Fin 576), i = ix3 q R l := ⟨i 0, i 1, i 2, (ix3_eta i).symm⟩
  refine Eq.trans ?_ (ref_m2 _ _ q R l).symm
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks10 t
  have hi : (ix3 q R l : S4x1024x576.Idx) = ((cfg0.win 10).blk t).view.emb (ix3 0 r l) := by
    refine funext fun b => Fin.ext ?_
    match b with
    | ⟨0, _⟩ => show q.val = win0_10.index t (0 : Fin 3) * 1 + 1 * 0; omega
    | ⟨1, _⟩ => show R.val = win0_10.index t (1 : Fin 3) * 256 + 1 * r.val; omega
    | ⟨2, _⟩ => show l.val = win0_10.index t (2 : Fin 3) * 576 + 1 * l.val; omega
  refine (congrArg _ hi).trans (((dats m 0 c).arrAt_emb_eq_flushed 10 disjoint10 t hf (ix3 0 r l)).trans ?_)
  show (dats m 0 c).flushed 10 t (ix3 0 r l) = _
  rw [flushed10]
  refine (out_m2 (iblk m c 0 t) (iblk m c 1 t) (iblk m c 2 t) (iblk m c 3 t) (iblk m c 4 t) (iblk m c 5 t) (iblk m c 6 t) (iblk m c 7 t) r l).trans ?_
  rw [grad_eq m c t r q hq R hR l, m_apply m c t r q hq R hR l]

theorem value_v2 (c : Dev nD) :
    (dats m 0 c).arrAt 11 cfg0.N = Cert.Reference19Ideal.Read.val_main_v18 (F := Ideal) (m ((c.tc : Thread nD τ).loc main_arg0)) (m ((c.tc : Thread nD τ).loc main_arg3)) := by
  funext i
  obtain ⟨q, R, l, rfl⟩ : ∃ (q : Fin 4) (R : Fin 1024) (l : Fin 576), i = ix3 q R l := ⟨i 0, i 1, i 2, (ix3_eta i).symm⟩
  refine Eq.trans ?_ (ref_v2 _ _ q R l).symm
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks11 t
  have hi : (ix3 q R l : S4x1024x576.Idx) = ((cfg0.win 11).blk t).view.emb (ix3 0 r l) := by
    refine funext fun b => Fin.ext ?_
    match b with
    | ⟨0, _⟩ => show q.val = win0_11.index t (0 : Fin 3) * 1 + 1 * 0; omega
    | ⟨1, _⟩ => show R.val = win0_11.index t (1 : Fin 3) * 256 + 1 * r.val; omega
    | ⟨2, _⟩ => show l.val = win0_11.index t (2 : Fin 3) * 576 + 1 * l.val; omega
  refine (congrArg _ hi).trans (((dats m 0 c).arrAt_emb_eq_flushed 11 disjoint11 t hf (ix3 0 r l)).trans ?_)
  show (dats m 0 c).flushed 11 t (ix3 0 r l) = _
  rw [flushed11]
  refine (out_v2 (iblk m c 0 t) (iblk m c 1 t) (iblk m c 2 t) (iblk m c 3 t) (iblk m c 4 t) (iblk m c 5 t) (iblk m c 6 t) (iblk m c 7 t) r l).trans ?_
  rw [grad_eq m c t r q hq R hR l, v_apply m c t r q hq R hR l]

end Cert.Adam19

end

end
-- ==== Proof.Adam20.lean ====
module

public import Idealize.ShloMosaic.Lib.Pipeline.ValueKit.Tiles
public import proofs.«01_k».proof.Proof.Adam
public import proofs.«01_k».proof.Proof.Gen.Kernel20Ideal.Value
public import proofs.«01_k».proof.Proof.Gen.Reference20Ideal.Read

@[expose] public section

noncomputable section

/-! `adamw_w_attn_out`: a point of the grid is 256 rows of one layer's weight; its gradient lies in a slab of 128 columns. -/

namespace Cert.Adam20

open Cert.Kernel20Ideal Cert.Kernel20Ideal.Gen Cert.Kernel20Ideal.Value
open Idealize.ShloMosaic Idealize.ShloMosaic.TcCoe Idealize.SL.Sem

/-! ## What a point leaves at an index of its blocks -/

section
variable (x0 : Vec Ideal S8x256x128 .bf16) (w m v : Vec Ideal S1x256x128 .f32) (r : Fin 256) (l : Fin 128)

/-- The gradient of an entry, from the slab it lies in. -/
theorem grad_apply (f : Fin 8 → Fin 128 → EReal)
    (h0 : ∀ (j : Fin 8) (a : Fin 128), x0 (ix3 j r a) = f j ⟨a.val, by omega⟩) :
    k0_pay8 x0 w m v (ix2 r l) = Adam.grad fun j => f j ⟨l.val, by omega⟩ := by
  pointwise [k0_pay3, k0_pay8]
  simp only [Adam.grad, Fin.sum_univ_eight, h0]

theorem out_grad : out0_4 x0 w m v (ix3 0 r l) = (k0_pay8 x0 w m v (ix2 r l)) := by
  unfold out0_4
  rw [View.canon_unit_zero (by decide) _ _]
  pointwise [k0_pay1, k0_pay2, k0_pay4, k0_pay5, k0_pay6, k0_pay7]

theorem out_delta : out0_5 x0 w m v (ix3 0 r l) = Adam.delta (k0_pay8 x0 w m v (ix2 r l)) (w (ix3 0 r l)) (m (ix3 0 r l)) (v (ix3 0 r l)) := by
  unfold out0_5
  rw [View.canon_unit_zero (by decide) _ _, View.ld_unit_zero (by decide) _ _, View.ld_unit_zero (by decide) _ _, View.ld_unit_zero (by decide) _ _]
  pointwise [k0_pay1, k0_pay2, k0_pay4, k0_pay5, k0_pay6, k0_pay7, Adam.delta, Adam.m2, Adam.v2]

theorem out_m2 : out0_6 x0 w m v (ix3 0 r l) = Adam.m2 (k0_pay8 x0 w m v (ix2 r l)) (m (ix3 0 r l)) := by
  unfold out0_6
  rw [View.canon_unit_zero (by decide) _ _, View.ld_unit_zero (by decide) _ _]
  pointwise [k0_pay1, k0_pay2, k0_pay4, k0_pay5, k0_pay6, k0_pay7, Adam.m2]

theorem out_v2 : out0_7 x0 w m v (ix3 0 r l) = Adam.v2 (k0_pay8 x0 w m v (ix2 r l)) (v (ix3 0 r l)) := by
  unfold out0_7
  rw [View.canon_unit_zero (by decide) _ _, View.ld_unit_zero (by decide) _ _]
  pointwise [k0_pay1, k0_pay2, k0_pay4, k0_pay5, k0_pay6, k0_pay7, Adam.v2]

end

/-! ## The reference -/

section
open Cert.Reference20Ideal.Read

variable (p : Vec Ideal S8x26624x128 .bf16) (w m v : Vec Ideal S4x512x128 .f32) (q : Fin 4) (r : Fin 512) (l : Fin 128)

theorem ref_grad : val_main_v6 (F := Ideal) p (ix3 q r l) = Adam.grad fun j => p (ix3 j ⟨q.val * 6656 + (5120 + r.val), by omega⟩ ⟨l.val % 128, by omega⟩) := by
  pointwise [val_main_v0, val_main_cst, val_main_v1, val_main_v2, val_main_v3, val_main_v4, val_main_v5, val_main_v6]
  exact Finset.sum_congr rfl fun j _ => congrArg p (Adam.ix3_congr j (by first | rfl | (dsimp only; omega)) (by first | rfl | (dsimp only; omega)))

theorem ref_delta : val_main_v30 (F := Ideal) p w m v (ix3 q r l) = Adam.delta (val_main_v6 (F := Ideal) p (ix3 q r l)) (w (ix3 q r l)) (m (ix3 q r l)) (v (ix3 q r l)) := by
  unfold val_main_v30 val_main_v28 val_main_v27 val_main_v26 val_main_cst_7 val_main_v25 val_main_v24 val_main_v23 val_main_cst_6 val_main_v22 val_main_v21 val_main_v20 val_main_cst_5 val_main_v17 val_main_v16 val_main_v14 val_main_v15 val_main_cst_3 val_main_v13 val_main_v12 val_main_cst_2 val_main_v19 val_main_v18 val_main_cst_4 val_main_v11 val_main_v10 val_main_v9 val_main_cst_1 val_main_v8 val_main_v7 val_main_cst_0 val_main_v29 val_main_cst_8
  generalize val_main_v6 (F := Ideal) p = g
  exact Adam.step_apply _ _ g w m v _ _ _ _ _ _ _ _ _ _

theorem ref_m2 : val_main_v11 (F := Ideal) p m (ix3 q r l) = Adam.m2 (val_main_v6 (F := Ideal) p (ix3 q r l)) (m (ix3 q r l)) := by
  unfold val_main_v11 val_main_v10 val_main_v9 val_main_cst_1 val_main_v8 val_main_v7 val_main_cst_0
  generalize val_main_v6 (F := Ideal) p = g
  exact Adam.mix_apply _ _ g m _ _ _

theorem ref_v2 : val_main_v17 (F := Ideal) p v (ix3 q r l) = Adam.v2 (val_main_v6 (F := Ideal) p (ix3 q r l)) (v (ix3 q r l)) := by
  unfold val_main_v17 val_main_v16 val_main_v14 val_main_v15 val_main_cst_3 val_main_v13 val_main_v12 val_main_cst_2
  generalize val_main_v6 (F := Ideal) p = g
  exact Adam.square_apply _ _ g v _ _ _

end

/-! ## The arrays -/

variable (m : (ℓ : Loc nD τ sig) → Buf (Elt Ideal) ℓ)

/-! Where each window's block lies at a grid point. -/

theorem blocks0 : ∀ t : Fin cfg0.N, win0_0.index t (0 : Fin 3) = 0 ∧ win0_0.index t (1 : Fin 3) = t.val / 2 * 26 + 20 + t.val % 2 ∧ win0_0.index t (2 : Fin 3) = 0 :=
  (by decide +kernel : ∀ t : Fin grid0.N, _)

theorem blocks1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, _)

theorem blocks2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

theorem blocks3 : ∀ t : Fin cfg0.N, win0_3.index t (0 : Fin 3) = t.val / 2 ∧ win0_3.index t (1 : Fin 3) = t.val % 2 ∧ win0_3.index t (2 : Fin 3) = 0 :=
  (by decide +kernel : ∀ t : Fin grid0.N, _)

theorem blocks4 : ∀ t : Fin cfg0.N, win0_4.index t (0 : Fin 3) = t.val / 2 ∧ win0_4.index t (1 : Fin 3) = t.val % 2 ∧ win0_4.index t (2 : Fin 3) = 0 ∧ (cfg0.win 4).flush t = true :=
  (by decide +kernel : ∀ t : Fin grid0.N, _)

theorem blocks5 : ∀ t : Fin cfg0.N, win0_5.index t (0 : Fin 3) = t.val / 2 ∧ win0_5.index t (1 : Fin 3) = t.val % 2 ∧ win0_5.index t (2 : Fin 3) = 0 ∧ (cfg0.win 5).flush t = true :=
  (by decide +kernel : ∀ t : Fin grid0.N, _)

theorem blocks6 : ∀ t : Fin cfg0.N, win0_6.index t (0 : Fin 3) = t.val / 2 ∧ win0_6.index t (1 : Fin 3) = t.val % 2 ∧ win0_6.index t (2 : Fin 3) = 0 ∧ (cfg0.win 6).flush t = true :=
  (by decide +kernel : ∀ t : Fin grid0.N, _)

theorem blocks7 : ∀ t : Fin cfg0.N, win0_7.index t (0 : Fin 3) = t.val / 2 ∧ win0_7.index t (1 : Fin 3) = t.val % 2 ∧ win0_7.index t (2 : Fin 3) = 0 ∧ (cfg0.win 7).flush t = true :=
  (by decide +kernel : ∀ t : Fin grid0.N, _)

theorem p0_apply (c : Dev nD) (t : Fin cfg0.N) (r : Fin 256) (q : Fin 4) (hq : q.val = t.val / 2) (R : Fin 512) (hR : R.val = t.val % 2 * 256 + r.val) (j : Fin 8) (a : Fin 128) :
    iblk m c 0 t (ix3 j r a) = m ((c.tc : Thread nD τ).loc main_arg0) (ix3 j (⟨q.val * 6656 + (5120 + R.val), by omega⟩ : Fin 26624) a) := by
  obtain ⟨e0, e1, e2⟩ := blocks0 t
  show V m c main_arg0 (((cfg0.win 0).blk t).view.emb (ix3 j r a)) = _
  rw [V_main_arg0]
  refine congrArg _ (funext fun b => Fin.ext ?_)
  match b with
  | ⟨0, _⟩ => show win0_0.index t (0 : Fin 3) * 8 + 1 * j.val = j.val; omega
  | ⟨1, _⟩ => show win0_0.index t (1 : Fin 3) * 256 + 1 * r.val = q.val * 6656 + (5120 + R.val); omega
  | ⟨2, _⟩ => show win0_0.index t (2 : Fin 3) * 128 + 1 * a.val = a.val; omega

theorem w_apply (c : Dev nD) (t : Fin cfg0.N) (r : Fin 256) (q : Fin 4) (hq : q.val = t.val / 2) (R : Fin 512) (hR : R.val = t.val % 2 * 256 + r.val) (l : Fin 128) :
    iblk m c 1 t (ix3 0 r l) = m ((c.tc : Thread nD τ).loc main_arg1) (ix3 q R l) := by
  obtain ⟨e0, e1, e2⟩ := blocks1 t
  show V m c main_arg1 (((cfg0.win 1).blk t).view.emb (ix3 0 r l)) = _
  rw [V_main_arg1]
  refine congrArg _ (funext fun b => Fin.ext ?_)
  match b with
  | ⟨0, _⟩ => show win0_1.index t (0 : Fin 3) * 1 + 1 * 0 = q.val; omega
  | ⟨1, _⟩ => show win0_1.index t (1 : Fin 3) * 256 + 1 * r.val = R.val; omega
  | ⟨2, _⟩ => show win0_1.index t (2 : Fin 3) * 128 + 1 * l.val = l.val; omega

theorem m_apply (c : Dev nD) (t : Fin cfg0.N) (r : Fin 256) (q : Fin 4) (hq : q.val = t.val / 2) (R : Fin 512) (hR : R.val = t.val % 2 * 256 + r.val) (l : Fin 128) :
    iblk m c 2 t (ix3 0 r l) = m ((c.tc : Thread nD τ).loc main_arg2) (ix3 q R l) := by
  obtain ⟨e0, e1, e2⟩ := blocks2 t
  show V m c main_arg2 (((cfg0.win 2).blk t).view.emb (ix3 0 r l)) = _
  rw [V_main_arg2]
  refine congrArg _ (funext fun b => Fin.ext ?_)
  match b with
  | ⟨0, _⟩ => show win0_2.index t (0 : Fin 3) * 1 + 1 * 0 = q.val; omega
  | ⟨1, _⟩ => show win0_2.index t (1 : Fin 3) * 256 + 1 * r.val = R.val; omega
  | ⟨2, _⟩ => show win0_2.index t (2 : Fin 3) * 128 + 1 * l.val = l.val; omega

theorem v_apply (c : Dev nD) (t : Fin cfg0.N) (r : Fin 256) (q : Fin 4) (hq : q.val = t.val / 2) (R : Fin 512) (hR : R.val = t.val % 2 * 256 + r.val) (l : Fin 128) :
    iblk m c 3 t (ix3 0 r l) = m ((c.tc : Thread nD τ).loc main_arg3) (ix3 q R l) := by
  obtain ⟨e0, e1, e2⟩ := blocks3 t
  show V m c main_arg3 (((cfg0.win 3).blk t).view.emb (ix3 0 r l)) = _
  rw [V_main_arg3]
  refine congrArg _ (funext fun b => Fin.ext ?_)
  match b with
  | ⟨0, _⟩ => show win0_3.index t (0 : Fin 3) * 1 + 1 * 0 = q.val; omega
  | ⟨1, _⟩ => show win0_3.index t (1 : Fin 3) * 256 + 1 * r.val = R.val; omega
  | ⟨2, _⟩ => show win0_3.index t (2 : Fin 3) * 128 + 1 * l.val = l.val; omega

/-- The kernel's gradient of an entry is the reference's. -/
theorem grad_eq (c : Dev nD) (t : Fin cfg0.N) (r : Fin 256) (q : Fin 4) (hq : q.val = t.val / 2) (R : Fin 512) (hR : R.val = t.val % 2 * 256 + r.val) (l : Fin 128) :
    k0_pay8 (iblk m c 0 t) (iblk m c 1 t) (iblk m c 2 t) (iblk m c 3 t) (ix2 r l) = Cert.Reference20Ideal.Read.val_main_v6 (F := Ideal) (m ((c.tc : Thread nD τ).loc main_arg0)) (ix3 q R l) := by
  refine Eq.trans ?_ (ref_grad (m ((c.tc : Thread nD τ).loc main_arg0)) q R l).symm
  refine grad_apply (iblk m c 0 t) (iblk m c 1 t) (iblk m c 2 t) (iblk m c 3 t) r l
    (fun j n => m ((c.tc : Thread nD τ).loc main_arg0) (ix3 j (⟨q.val * 6656 + (5120 + R.val), by omega⟩ : Fin 26624) (⟨n.val % 128, by omega⟩ : Fin 128)))
    (fun j a => ?_)
  · exact (p0_apply m c t r q hq R hR j a).trans (congrArg _ (Adam.ix3_congr j
        (by show q.val * 6656 + (5120 + R.val) = q.val * 6656 + (5120 + R.val); omega)
        (by show a.val = (a.val) % 128; omega)))

theorem value_grad (c : Dev nD) :
    (dats m 0 c).arrAt 4 cfg0.N = Cert.Reference20Ideal.Read.val_main_v6 (F := Ideal) (m ((c.tc : Thread nD τ).loc main_arg0)) := by
  funext i
  obtain ⟨q, R, l, rfl⟩ : ∃ (q : Fin 4) (R : Fin 512) (l : Fin 128), i = ix3 q R l := ⟨i 0, i 1, i 2, (ix3_eta i).symm⟩
  let t : Fin cfg0.N := ⟨q.val * 2 + R.val / 256, by have h : cfg0.N = 8 := N_0; omega⟩
  let r : Fin 256 := ⟨R.val % 256, Nat.mod_lt _ (by decide)⟩
  have hq : q.val = t.val / 2 := by show q.val = (q.val * 2 + R.val / 256) / 2; omega
  have hR : R.val = t.val % 2 * 256 + r.val := by show R.val = (q.val * 2 + R.val / 256) % 2 * 256 + R.val % 256; omega
  obtain ⟨e0, e1, e2, hf⟩ := blocks4 t
  have hi : (ix3 q R l : S4x512x128.Idx) = ((cfg0.win 4).blk t).view.emb (ix3 0 r l) := by
    refine funext fun b => Fin.ext ?_
    match b with
    | ⟨0, _⟩ => show q.val = win0_4.index t (0 : Fin 3) * 1 + 1 * 0; omega
    | ⟨1, _⟩ => show R.val = win0_4.index t (1 : Fin 3) * 256 + 1 * r.val; omega
    | ⟨2, _⟩ => show l.val = win0_4.index t (2 : Fin 3) * 128 + 1 * l.val; omega
  refine (congrArg _ hi).trans (((dats m 0 c).arrAt_emb_eq_flushed 4 disjoint4 t hf (ix3 0 r l)).trans ?_)
  show (dats m 0 c).flushed 4 t (ix3 0 r l) = _
  rw [flushed4]
  refine (out_grad (iblk m c 0 t) (iblk m c 1 t) (iblk m c 2 t) (iblk m c 3 t) r l).trans ?_
  rw [grad_eq m c t r q hq R hR l]

theorem value_delta (c : Dev nD) :
    (dats m 0 c).arrAt 5 cfg0.N = Cert.Reference20Ideal.Read.val_main_v30 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, R, l, rfl⟩ : ∃ (q : Fin 4) (R : Fin 512) (l : Fin 128), i = ix3 q R l := ⟨i 0, i 1, i 2, (ix3_eta i).symm⟩
  refine Eq.trans ?_ (ref_delta _ _ _ _ q R l).symm
  let t : Fin cfg0.N := ⟨q.val * 2 + R.val / 256, by have h : cfg0.N = 8 := N_0; omega⟩
  let r : Fin 256 := ⟨R.val % 256, Nat.mod_lt _ (by decide)⟩
  have hq : q.val = t.val / 2 := by show q.val = (q.val * 2 + R.val / 256) / 2; omega
  have hR : R.val = t.val % 2 * 256 + r.val := by show R.val = (q.val * 2 + R.val / 256) % 2 * 256 + R.val % 256; omega
  obtain ⟨e0, e1, e2, hf⟩ := blocks5 t
  have hi : (ix3 q R l : S4x512x128.Idx) = ((cfg0.win 5).blk t).view.emb (ix3 0 r l) := by
    refine funext fun b => Fin.ext ?_
    match b with
    | ⟨0, _⟩ => show q.val = win0_5.index t (0 : Fin 3) * 1 + 1 * 0; omega
    | ⟨1, _⟩ => show R.val = win0_5.index t (1 : Fin 3) * 256 + 1 * r.val; omega
    | ⟨2, _⟩ => show l.val = win0_5.index t (2 : Fin 3) * 128 + 1 * l.val; omega
  refine (congrArg _ hi).trans (((dats m 0 c).arrAt_emb_eq_flushed 5 disjoint5 t hf (ix3 0 r l)).trans ?_)
  show (dats m 0 c).flushed 5 t (ix3 0 r l) = _
  rw [flushed5]
  refine (out_delta (iblk m c 0 t) (iblk m c 1 t) (iblk m c 2 t) (iblk m c 3 t) r l).trans ?_
  rw [grad_eq m c t r q hq R hR l, w_apply m c t r q hq R hR l, m_apply m c t r q hq R hR l, v_apply m c t r q hq R hR l]

theorem value_m2 (c : Dev nD) :
    (dats m 0 c).arrAt 6 cfg0.N = Cert.Reference20Ideal.Read.val_main_v11 (F := Ideal) (m ((c.tc : Thread nD τ).loc main_arg0)) (m ((c.tc : Thread nD τ).loc main_arg2)) := by
  funext i
  obtain ⟨q, R, l, rfl⟩ : ∃ (q : Fin 4) (R : Fin 512) (l : Fin 128), i = ix3 q R l := ⟨i 0, i 1, i 2, (ix3_eta i).symm⟩
  refine Eq.trans ?_ (ref_m2 _ _ q R l).symm
  let t : Fin cfg0.N := ⟨q.val * 2 + R.val / 256, by have h : cfg0.N = 8 := N_0; omega⟩
  let r : Fin 256 := ⟨R.val % 256, Nat.mod_lt _ (by decide)⟩
  have hq : q.val = t.val / 2 := by show q.val = (q.val * 2 + R.val / 256) / 2; omega
  have hR : R.val = t.val % 2 * 256 + r.val := by show R.val = (q.val * 2 + R.val / 256) % 2 * 256 + R.val % 256; omega
  obtain ⟨e0, e1, e2, hf⟩ := blocks6 t
  have hi : (ix3 q R l : S4x512x128.Idx) = ((cfg0.win 6).blk t).view.emb (ix3 0 r l) := by
    refine funext fun b => Fin.ext ?_
    match b with
    | ⟨0, _⟩ => show q.val = win0_6.index t (0 : Fin 3) * 1 + 1 * 0; omega
    | ⟨1, _⟩ => show R.val = win0_6.index t (1 : Fin 3) * 256 + 1 * r.val; omega
    | ⟨2, _⟩ => show l.val = win0_6.index t (2 : Fin 3) * 128 + 1 * l.val; omega
  refine (congrArg _ hi).trans (((dats m 0 c).arrAt_emb_eq_flushed 6 disjoint6 t hf (ix3 0 r l)).trans ?_)
  show (dats m 0 c).flushed 6 t (ix3 0 r l) = _
  rw [flushed6]
  refine (out_m2 (iblk m c 0 t) (iblk m c 1 t) (iblk m c 2 t) (iblk m c 3 t) r l).trans ?_
  rw [grad_eq m c t r q hq R hR l, m_apply m c t r q hq R hR l]

theorem value_v2 (c : Dev nD) :
    (dats m 0 c).arrAt 7 cfg0.N = Cert.Reference20Ideal.Read.val_main_v17 (F := Ideal) (m ((c.tc : Thread nD τ).loc main_arg0)) (m ((c.tc : Thread nD τ).loc main_arg3)) := by
  funext i
  obtain ⟨q, R, l, rfl⟩ : ∃ (q : Fin 4) (R : Fin 512) (l : Fin 128), i = ix3 q R l := ⟨i 0, i 1, i 2, (ix3_eta i).symm⟩
  refine Eq.trans ?_ (ref_v2 _ _ q R l).symm
  let t : Fin cfg0.N := ⟨q.val * 2 + R.val / 256, by have h : cfg0.N = 8 := N_0; omega⟩
  let r : Fin 256 := ⟨R.val % 256, Nat.mod_lt _ (by decide)⟩
  have hq : q.val = t.val / 2 := by show q.val = (q.val * 2 + R.val / 256) / 2; omega
  have hR : R.val = t.val % 2 * 256 + r.val := by show R.val = (q.val * 2 + R.val / 256) % 2 * 256 + R.val % 256; omega
  obtain ⟨e0, e1, e2, hf⟩ := blocks7 t
  have hi : (ix3 q R l : S4x512x128.Idx) = ((cfg0.win 7).blk t).view.emb (ix3 0 r l) := by
    refine funext fun b => Fin.ext ?_
    match b with
    | ⟨0, _⟩ => show q.val = win0_7.index t (0 : Fin 3) * 1 + 1 * 0; omega
    | ⟨1, _⟩ => show R.val = win0_7.index t (1 : Fin 3) * 256 + 1 * r.val; omega
    | ⟨2, _⟩ => show l.val = win0_7.index t (2 : Fin 3) * 128 + 1 * l.val; omega
  refine (congrArg _ hi).trans (((dats m 0 c).arrAt_emb_eq_flushed 7 disjoint7 t hf (ix3 0 r l)).trans ?_)
  show (dats m 0 c).flushed 7 t (ix3 0 r l) = _
  rw [flushed7]
  refine (out_v2 (iblk m c 0 t) (iblk m c 1 t) (iblk m c 2 t) (iblk m c 3 t) r l).trans ?_
  rw [grad_eq m c t r q hq R hR l, v_apply m c t r q hq R hR l]

end Cert.Adam20

end

end
-- ==== Proof.Adam21.lean ====
module

public import Idealize.ShloMosaic.Lib.Pipeline.ValueKit.Tiles
public import proofs.«01_k».proof.Proof.Adam
public import proofs.«01_k».proof.Proof.Gen.Kernel21Ideal.Value
public import proofs.«01_k».proof.Proof.Gen.Reference21Ideal.Read

@[expose] public section

noncomputable section

/-! `adamw_w_ssm_glu`: a point of the grid is 256 rows of one layer's weight; its gradient lies in slabs of 128 columns. -/

namespace Cert.Adam21

open Cert.Kernel21Ideal Cert.Kernel21Ideal.Gen Cert.Kernel21Ideal.Value
open Idealize.ShloMosaic Idealize.ShloMosaic.TcCoe Idealize.SL.Sem

/-! ## What a point leaves at an index of its blocks -/

section
variable (x0 x1 : Vec Ideal S8x256x128 .bf16) (w m v : Vec Ideal S1x256x256 .f32) (r : Fin 256) (l : Fin 256)

/-- The gradient of an entry, from the slabs it lies in. -/
theorem grad_apply (f : Fin 8 → Fin 256 → EReal)
    (h0 : ∀ (j : Fin 8) (a : Fin 128), x0 (ix3 j r a) = f j ⟨a.val, by omega⟩)
    (h1 : ∀ (j : Fin 8) (a : Fin 128), x1 (ix3 j r a) = f j ⟨128 + a.val, by omega⟩) :
    k0_pay10 x0 x1 w m v (ix2 r l) = Adam.grad fun j => f j ⟨l.val, by omega⟩ := by
  pointwise [k0_pay4, k0_pay3, k0_pay10]
  simp only [Adam.grad, Fin.sum_univ_eight]
  by_cases c0 : l.val < 128
  · rw [dif_pos c0]
    simp only [h0]
  rw [dif_neg c0]
  have e : 128 + (l.val - 128) = l.val := by omega
  simp only [h1, e]

theorem out_grad : out0_5 x0 x1 w m v (ix3 0 r l) = (k0_pay10 x0 x1 w m v (ix2 r l)) := by
  unfold out0_5
  rw [View.canon_unit_zero (by decide) _ _]
  pointwise [k0_pay1, k0_pay2, k0_pay5, k0_pay6, k0_pay7, k0_pay8, k0_pay9]

theorem out_delta : out0_6 x0 x1 w m v (ix3 0 r l) = Adam.delta (k0_pay10 x0 x1 w m v (ix2 r l)) (w (ix3 0 r l)) (m (ix3 0 r l)) (v (ix3 0 r l)) := by
  unfold out0_6
  rw [View.canon_unit_zero (by decide) _ _, View.ld_unit_zero (by decide) _ _, View.ld_unit_zero (by decide) _ _, View.ld_unit_zero (by decide) _ _]
  pointwise [k0_pay1, k0_pay2, k0_pay5, k0_pay6, k0_pay7, k0_pay8, k0_pay9, Adam.delta, Adam.m2, Adam.v2]

theorem out_m2 : out0_7 x0 x1 w m v (ix3 0 r l) = Adam.m2 (k0_pay10 x0 x1 w m v (ix2 r l)) (m (ix3 0 r l)) := by
  unfold out0_7
  rw [View.canon_unit_zero (by decide) _ _, View.ld_unit_zero (by decide) _ _]
  pointwise [k0_pay1, k0_pay2, k0_pay5, k0_pay6, k0_pay7, k0_pay8, k0_pay9, Adam.m2]

theorem out_v2 : out0_8 x0 x1 w m v (ix3 0 r l) = Adam.v2 (k0_pay10 x0 x1 w m v (ix2 r l)) (v (ix3 0 r l)) := by
  unfold out0_8
  rw [View.canon_unit_zero (by decide) _ _, View.ld_unit_zero (by decide) _ _]
  pointwise [k0_pay1, k0_pay2, k0_pay5, k0_pay6, k0_pay7, k0_pay8, k0_pay9, Adam.v2]

end

/-! ## The reference -/

section
open Cert.Reference21Ideal.Read

variable (p : Vec Ideal S8x26624x128 .bf16) (w m v : Vec Ideal S4x256x256 .f32) (q : Fin 4) (r : Fin 256) (l : Fin 256)

theorem ref_grad : val_main_v6 (F := Ideal) p (ix3 q r l) = Adam.grad fun j => p (ix3 j ⟨q.val * 6656 + (5632 + l.val / 128 * 256 + r.val), by omega⟩ ⟨l.val % 128, by omega⟩) := by
  pointwise [val_main_v0, val_main_cst, val_main_v1, val_main_v2, val_main_v3, val_main_v4, val_main_v5, val_main_v6]
  exact Finset.sum_congr rfl fun j _ => congrArg p (Adam.ix3_congr j (by first | rfl | (dsimp only; omega)) (by first | rfl | (dsimp only; omega)))

theorem ref_delta : val_main_v30 (F := Ideal) p w m v (ix3 q r l) = Adam.delta (val_main_v6 (F := Ideal) p (ix3 q r l)) (w (ix3 q r l)) (m (ix3 q r l)) (v (ix3 q r l)) := by
  unfold val_main_v30 val_main_v28 val_main_v27 val_main_v26 val_main_cst_7 val_main_v25 val_main_v24 val_main_v23 val_main_cst_6 val_main_v22 val_main_v21 val_main_v20 val_main_cst_5 val_main_v17 val_main_v16 val_main_v14 val_main_v15 val_main_cst_3 val_main_v13 val_main_v12 val_main_cst_2 val_main_v19 val_main_v18 val_main_cst_4 val_main_v11 val_main_v10 val_main_v9 val_main_cst_1 val_main_v8 val_main_v7 val_main_cst_0 val_main_v29 val_main_cst_8
  generalize val_main_v6 (F := Ideal) p = g
  exact Adam.step_apply _ _ g w m v _ _ _ _ _ _ _ _ _ _

theorem ref_m2 : val_main_v11 (F := Ideal) p m (ix3 q r l) = Adam.m2 (val_main_v6 (F := Ideal) p (ix3 q r l)) (m (ix3 q r l)) := by
  unfold val_main_v11 val_main_v10 val_main_v9 val_main_cst_1 val_main_v8 val_main_v7 val_main_cst_0
  generalize val_main_v6 (F := Ideal) p = g
  exact Adam.mix_apply _ _ g m _ _ _

theorem ref_v2 : val_main_v17 (F := Ideal) p v (ix3 q r l) = Adam.v2 (val_main_v6 (F := Ideal) p (ix3 q r l)) (v (ix3 q r l)) := by
  unfold val_main_v17 val_main_v16 val_main_v14 val_main_v15 val_main_cst_3 val_main_v13 val_main_v12 val_main_cst_2
  generalize val_main_v6 (F := Ideal) p = g
  exact Adam.square_apply _ _ g v _ _ _

end

/-! ## The arrays -/

variable (m : (ℓ : Loc nD τ sig) → Buf (Elt Ideal) ℓ)

/-! Where each window's block lies at a grid point. -/

theorem blocks0 : ∀ t : Fin cfg0.N, win0_0.index t (0 : Fin 3) = 0 ∧ win0_0.index t (1 : Fin 3) = t.val * 26 + 22 ∧ win0_0.index t (2 : Fin 3) = 0 :=
  (by decide +kernel : ∀ t : Fin grid0.N, _)

theorem blocks1 : ∀ t : Fin cfg0.N, win0_1.index t (0 : Fin 3) = 0 ∧ win0_1.index t (1 : Fin 3) = t.val * 26 + 23 ∧ win0_1.index t (2 : Fin 3) = 0 :=
  (by decide +kernel : ∀ t : Fin grid0.N, _)

theorem blocks2 : ∀ t : Fin cfg0.N, win0_2.index t (0 : Fin 3) = t.val ∧ win0_2.index t (1 : Fin 3) = 0 ∧ win0_2.index t (2 : Fin 3) = 0 :=
  (by decide +kernel : ∀ t : Fin grid0.N, _)

theorem blocks3 : ∀ t : Fin cfg0.N, win0_3.index t (0 : Fin 3) = t.val ∧ win0_3.index t (1 : Fin 3) = 0 ∧ win0_3.index t (2 : Fin 3) = 0 :=
  (by decide +kernel : ∀ t : Fin grid0.N, _)

theorem blocks4 : ∀ t : Fin cfg0.N, win0_4.index t (0 : Fin 3) = t.val ∧ win0_4.index t (1 : Fin 3) = 0 ∧ win0_4.index t (2 : Fin 3) = 0 :=
  (by decide +kernel : ∀ t : Fin grid0.N, _)

theorem blocks5 : ∀ t : Fin cfg0.N, win0_5.index t (0 : Fin 3) = t.val ∧ win0_5.index t (1 : Fin 3) = 0 ∧ win0_5.index t (2 : Fin 3) = 0 ∧ (cfg0.win 5).flush t = true :=
  (by decide +kernel : ∀ t : Fin grid0.N, _)

theorem blocks6 : ∀ t : Fin cfg0.N, win0_6.index t (0 : Fin 3) = t.val ∧ win0_6.index t (1 : Fin 3) = 0 ∧ win0_6.index t (2 : Fin 3) = 0 ∧ (cfg0.win 6).flush t = true :=
  (by decide +kernel : ∀ t : Fin grid0.N, _)

theorem blocks7 : ∀ t : Fin cfg0.N, win0_7.index t (0 : Fin 3) = t.val ∧ win0_7.index t (1 : Fin 3) = 0 ∧ win0_7.index t (2 : Fin 3) = 0 ∧ (cfg0.win 7).flush t = true :=
  (by decide +kernel : ∀ t : Fin grid0.N, _)

theorem blocks8 : ∀ t : Fin cfg0.N, win0_8.index t (0 : Fin 3) = t.val ∧ win0_8.index t (1 : Fin 3) = 0 ∧ win0_8.index t (2 : Fin 3) = 0 ∧ (cfg0.win 8).flush t = true :=
  (by decide +kernel : ∀ t : Fin grid0.N, _)

theorem p0_apply (c : Dev nD) (t : Fin cfg0.N) (r : Fin 256) (q : Fin 4) (hq : q.val = t.val) (R : Fin 256) (hR : R.val = r.val) (j : Fin 8) (a : Fin 128) :
    iblk m c 0 t (ix3 j r a) = m ((c.tc : Thread nD τ).loc main_arg0) (ix3 j (⟨q.val * 6656 + (5632 + R.val), by omega⟩ : Fin 26624) a) := by
  obtain ⟨e0, e1, e2⟩ := blocks0 t
  show V m c main_arg0 (((cfg0.win 0).blk t).view.emb (ix3 j r a)) = _
  rw [V_main_arg0]
  refine congrArg _ (funext fun b => Fin.ext ?_)
  match b with
  | ⟨0, _⟩ => show win0_0.index t (0 : Fin 3) * 8 + 1 * j.val = j.val; omega
  | ⟨1, _⟩ => show win0_0.index t (1 : Fin 3) * 256 + 1 * r.val = q.val * 6656 + (5632 + R.val); omega
  | ⟨2, _⟩ => show win0_0.index t (2 : Fin 3) * 128 + 1 * a.val = a.val; omega

theorem p1_apply (c : Dev nD) (t : Fin cfg0.N) (r : Fin 256) (q : Fin 4) (hq : q.val = t.val) (R : Fin 256) (hR : R.val = r.val) (j : Fin 8) (a : Fin 128) :
    iblk m c 1 t (ix3 j r a) = m ((c.tc : Thread nD τ).loc main_arg0) (ix3 j (⟨q.val * 6656 + (5888 + R.val), by omega⟩ : Fin 26624) a) := by
  obtain ⟨e0, e1, e2⟩ := blocks1 t
  show V m c main_arg0 (((cfg0.win 1).blk t).view.emb (ix3 j r a)) = _
  rw [V_main_arg0]
  refine congrArg _ (funext fun b => Fin.ext ?_)
  match b with
  | ⟨0, _⟩ => show win0_1.index t (0 : Fin 3) * 8 + 1 * j.val = j.val; omega
  | ⟨1, _⟩ => show win0_1.index t (1 : Fin 3) * 256 + 1 * r.val = q.val * 6656 + (5888 + R.val); omega
  | ⟨2, _⟩ => show win0_1.index t (2 : Fin 3) * 128 + 1 * a.val = a.val; omega

theorem w_apply (c : Dev nD) (t : Fin cfg0.N) (r : Fin 256) (q : Fin 4) (hq : q.val = t.val) (R : Fin 256) (hR : R.val = r.val) (l : Fin 256) :
    iblk m c 2 t (ix3 0 r l) = m ((c.tc : Thread nD τ).loc main_arg1) (ix3 q R l) := by
  obtain ⟨e0, e1, e2⟩ := blocks2 t
  show V m c main_arg1 (((cfg0.win 2).blk t).view.emb (ix3 0 r l)) = _
  rw [V_main_arg1]
  refine congrArg _ (funext fun b => Fin.ext ?_)
  match b with
  | ⟨0, _⟩ => show win0_2.index t (0 : Fin 3) * 1 + 1 * 0 = q.val; omega
  | ⟨1, _⟩ => show win0_2.index t (1 : Fin 3) * 256 + 1 * r.val = R.val; omega
  | ⟨2, _⟩ => show win0_2.index t (2 : Fin 3) * 256 + 1 * l.val = l.val; omega

theorem m_apply (c : Dev nD) (t : Fin cfg0.N) (r : Fin 256) (q : Fin 4) (hq : q.val = t.val) (R : Fin 256) (hR : R.val = r.val) (l : Fin 256) :
    iblk m c 3 t (ix3 0 r l) = m ((c.tc : Thread nD τ).loc main_arg2) (ix3 q R l) := by
  obtain ⟨e0, e1, e2⟩ := blocks3 t
  show V m c main_arg2 (((cfg0.win 3).blk t).view.emb (ix3 0 r l)) = _
  rw [V_main_arg2]
  refine congrArg _ (funext fun b => Fin.ext ?_)
  match b with
  | ⟨0, _⟩ => show win0_3.index t (0 : Fin 3) * 1 + 1 * 0 = q.val; omega
  | ⟨1, _⟩ => show win0_3.index t (1 : Fin 3) * 256 + 1 * r.val = R.val; omega
  | ⟨2, _⟩ => show win0_3.index t (2 : Fin 3) * 256 + 1 * l.val = l.val; omega

theorem v_apply (c : Dev nD) (t : Fin cfg0.N) (r : Fin 256) (q : Fin 4) (hq : q.val = t.val) (R : Fin 256) (hR : R.val = r.val) (l : Fin 256) :
    iblk m c 4 t (ix3 0 r l) = m ((c.tc : Thread nD τ).loc main_arg3) (ix3 q R l) := by
  obtain ⟨e0, e1, e2⟩ := blocks4 t
  show V m c main_arg3 (((cfg0.win 4).blk t).view.emb (ix3 0 r l)) = _
  rw [V_main_arg3]
  refine congrArg _ (funext fun b => Fin.ext ?_)
  match b with
  | ⟨0, _⟩ => show win0_4.index t (0 : Fin 3) * 1 + 1 * 0 = q.val; omega
  | ⟨1, _⟩ => show win0_4.index t (1 : Fin 3) * 256 + 1 * r.val = R.val; omega
  | ⟨2, _⟩ => show win0_4.index t (2 : Fin 3) * 256 + 1 * l.val = l.val; omega

/-- The kernel's gradient of an entry is the reference's. -/
theorem grad_eq (c : Dev nD) (t : Fin cfg0.N) (r : Fin 256) (q : Fin 4) (hq : q.val = t.val) (R : Fin 256) (hR : R.val = r.val) (l : Fin 256) :
    k0_pay10 (iblk m c 0 t) (iblk m c 1 t) (iblk m c 2 t) (iblk m c 3 t) (iblk m c 4 t) (ix2 r l) = Cert.Reference21Ideal.Read.val_main_v6 (F := Ideal) (m ((c.tc : Thread nD τ).loc main_arg0)) (ix3 q R l) := by
  refine Eq.trans ?_ (ref_grad (m ((c.tc : Thread nD τ).loc main_arg0)) q R l).symm
  refine grad_apply (iblk m c 0 t) (iblk m c 1 t) (iblk m c 2 t) (iblk m c 3 t) (iblk m c 4 t) r l
    (fun j n => m ((c.tc : Thread nD τ).loc main_arg0) (ix3 j (⟨q.val * 6656 + (5632 + n.val / 128 * 256 + R.val), by omega⟩ : Fin 26624) (⟨n.val % 128, by omega⟩ : Fin 128)))
    (fun j a => ?_) (fun j a => ?_)
  · exact (p0_apply m c t r q hq R hR j a).trans (congrArg _ (Adam.ix3_congr j
        (by show q.val * 6656 + (5632 + R.val) = q.val * 6656 + (5632 + (a.val) / 128 * 256 + R.val); omega)
        (by show a.val = (a.val) % 128; omega)))
  · exact (p1_apply m c t r q hq R hR j a).trans (congrArg _ (Adam.ix3_congr j
        (by show q.val * 6656 + (5888 + R.val) = q.val * 6656 + (5632 + (128 + a.val) / 128 * 256 + R.val); omega)
        (by show a.val = (128 + a.val) % 128; omega)))

theorem value_grad (c : Dev nD) :
    (dats m 0 c).arrAt 5 cfg0.N = Cert.Reference21Ideal.Read.val_main_v6 (F := Ideal) (m ((c.tc : Thread nD τ).loc main_arg0)) := by
  funext i
  obtain ⟨q, R, l, rfl⟩ : ∃ (q : Fin 4) (R : Fin 256) (l : Fin 256), i = ix3 q R l := ⟨i 0, i 1, i 2, (ix3_eta i).symm⟩
  let t : Fin cfg0.N := ⟨q.val, by have h : cfg0.N = 4 := N_0; omega⟩
  let r : Fin 256 := R
  have hq : q.val = t.val := rfl
  have hR : R.val = r.val := rfl
  obtain ⟨e0, e1, e2, hf⟩ := blocks5 t
  have hi : (ix3 q R l : S4x256x256.Idx) = ((cfg0.win 5).blk t).view.emb (ix3 0 r l) := by
    refine funext fun b => Fin.ext ?_
    match b with
    | ⟨0, _⟩ => show q.val = win0_5.index t (0 : Fin 3) * 1 + 1 * 0; omega
    | ⟨1, _⟩ => show R.val = win0_5.index t (1 : Fin 3) * 256 + 1 * r.val; omega
    | ⟨2, _⟩ => show l.val = win0_5.index t (2 : Fin 3) * 256 + 1 * l.val; omega
  refine (congrArg _ hi).trans (((dats m 0 c).arrAt_emb_eq_flushed 5 disjoint5 t hf (ix3 0 r l)).trans ?_)
  show (dats m 0 c).flushed 5 t (ix3 0 r l) = _
  rw [flushed5]
  refine (out_grad (iblk m c 0 t) (iblk m c 1 t) (iblk m c 2 t) (iblk m c 3 t) (iblk m c 4 t) r l).trans ?_
  rw [grad_eq m c t r q hq R hR l]

theorem value_delta (c : Dev nD) :
    (dats m 0 c).arrAt 6 cfg0.N = Cert.Reference21Ideal.Read.val_main_v30 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, R, l, rfl⟩ : ∃ (q : Fin 4) (R : Fin 256) (l : Fin 256), i = ix3 q R l := ⟨i 0, i 1, i 2, (ix3_eta i).symm⟩
  refine Eq.trans ?_ (ref_delta _ _ _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks6 t
  have hi : (ix3 q R l : S4x256x256.Idx) = ((cfg0.win 6).blk t).view.emb (ix3 0 r l) := by
    refine funext fun b => Fin.ext ?_
    match b with
    | ⟨0, _⟩ => show q.val = win0_6.index t (0 : Fin 3) * 1 + 1 * 0; omega
    | ⟨1, _⟩ => show R.val = win0_6.index t (1 : Fin 3) * 256 + 1 * r.val; omega
    | ⟨2, _⟩ => show l.val = win0_6.index t (2 : Fin 3) * 256 + 1 * l.val; omega
  refine (congrArg _ hi).trans (((dats m 0 c).arrAt_emb_eq_flushed 6 disjoint6 t hf (ix3 0 r l)).trans ?_)
  show (dats m 0 c).flushed 6 t (ix3 0 r l) = _
  rw [flushed6]
  refine (out_delta (iblk m c 0 t) (iblk m c 1 t) (iblk m c 2 t) (iblk m c 3 t) (iblk m c 4 t) r l).trans ?_
  rw [grad_eq m c t r q hq R hR l, w_apply m c t r q hq R hR l, m_apply m c t r q hq R hR l, v_apply m c t r q hq R hR l]

theorem value_m2 (c : Dev nD) :
    (dats m 0 c).arrAt 7 cfg0.N = Cert.Reference21Ideal.Read.val_main_v11 (F := Ideal) (m ((c.tc : Thread nD τ).loc main_arg0)) (m ((c.tc : Thread nD τ).loc main_arg2)) := by
  funext i
  obtain ⟨q, R, l, rfl⟩ : ∃ (q : Fin 4) (R : Fin 256) (l : Fin 256), i = ix3 q R l := ⟨i 0, i 1, i 2, (ix3_eta i).symm⟩
  refine Eq.trans ?_ (ref_m2 _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks7 t
  have hi : (ix3 q R l : S4x256x256.Idx) = ((cfg0.win 7).blk t).view.emb (ix3 0 r l) := by
    refine funext fun b => Fin.ext ?_
    match b with
    | ⟨0, _⟩ => show q.val = win0_7.index t (0 : Fin 3) * 1 + 1 * 0; omega
    | ⟨1, _⟩ => show R.val = win0_7.index t (1 : Fin 3) * 256 + 1 * r.val; omega
    | ⟨2, _⟩ => show l.val = win0_7.index t (2 : Fin 3) * 256 + 1 * l.val; omega
  refine (congrArg _ hi).trans (((dats m 0 c).arrAt_emb_eq_flushed 7 disjoint7 t hf (ix3 0 r l)).trans ?_)
  show (dats m 0 c).flushed 7 t (ix3 0 r l) = _
  rw [flushed7]
  refine (out_m2 (iblk m c 0 t) (iblk m c 1 t) (iblk m c 2 t) (iblk m c 3 t) (iblk m c 4 t) r l).trans ?_
  rw [grad_eq m c t r q hq R hR l, m_apply m c t r q hq R hR l]

theorem value_v2 (c : Dev nD) :
    (dats m 0 c).arrAt 8 cfg0.N = Cert.Reference21Ideal.Read.val_main_v17 (F := Ideal) (m ((c.tc : Thread nD τ).loc main_arg0)) (m ((c.tc : Thread nD τ).loc main_arg3)) := by
  funext i
  obtain ⟨q, R, l, rfl⟩ : ∃ (q : Fin 4) (R : Fin 256) (l : Fin 256), i = ix3 q R l := ⟨i 0, i 1, i 2, (ix3_eta i).symm⟩
  refine Eq.trans ?_ (ref_v2 _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks8 t
  have hi : (ix3 q R l : S4x256x256.Idx) = ((cfg0.win 8).blk t).view.emb (ix3 0 r l) := by
    refine funext fun b => Fin.ext ?_
    match b with
    | ⟨0, _⟩ => show q.val = win0_8.index t (0 : Fin 3) * 1 + 1 * 0; omega
    | ⟨1, _⟩ => show R.val = win0_8.index t (1 : Fin 3) * 256 + 1 * r.val; omega
    | ⟨2, _⟩ => show l.val = win0_8.index t (2 : Fin 3) * 256 + 1 * l.val; omega
  refine (congrArg _ hi).trans (((dats m 0 c).arrAt_emb_eq_flushed 8 disjoint8 t hf (ix3 0 r l)).trans ?_)
  show (dats m 0 c).flushed 8 t (ix3 0 r l) = _
  rw [flushed8]
  refine (out_v2 (iblk m c 0 t) (iblk m c 1 t) (iblk m c 2 t) (iblk m c 3 t) (iblk m c 4 t) r l).trans ?_
  rw [grad_eq m c t r q hq R hR l, v_apply m c t r q hq R hR l]

end Cert.Adam21

end

end
-- ==== Proof.Adam22.lean ====
module

public import Idealize.ShloMosaic.Lib.Pipeline.ValueKit.Tiles
public import proofs.«01_k».proof.Proof.Adam
public import proofs.«01_k».proof.Proof.Gen.Kernel22Ideal.Value
public import proofs.«01_k».proof.Proof.Gen.Reference22Ideal.Read

@[expose] public section

noncomputable section

/-! `adamw_w_conv_out`: a point of the grid is 256 rows of one layer's weight; its gradient lies in a slab of 128 columns. -/

namespace Cert.Adam22

open Cert.Kernel22Ideal Cert.Kernel22Ideal.Gen Cert.Kernel22Ideal.Value
open Idealize.ShloMosaic Idealize.ShloMosaic.TcCoe Idealize.SL.Sem

/-! ## What a point leaves at an index of its blocks -/

section
variable (x0 : Vec Ideal S8x256x128 .bf16) (w m v : Vec Ideal S1x256x128 .f32) (r : Fin 256) (l : Fin 128)

/-- The gradient of an entry, from the slab it lies in. -/
theorem grad_apply (f : Fin 8 → Fin 128 → EReal)
    (h0 : ∀ (j : Fin 8) (a : Fin 128), x0 (ix3 j r a) = f j ⟨a.val, by omega⟩) :
    k0_pay8 x0 w m v (ix2 r l) = Adam.grad fun j => f j ⟨l.val, by omega⟩ := by
  pointwise [k0_pay3, k0_pay8]
  simp only [Adam.grad, Fin.sum_univ_eight, h0]

theorem out_grad : out0_4 x0 w m v (ix3 0 r l) = (k0_pay8 x0 w m v (ix2 r l)) := by
  unfold out0_4
  rw [View.canon_unit_zero (by decide) _ _]
  pointwise [k0_pay1, k0_pay2, k0_pay4, k0_pay5, k0_pay6, k0_pay7]

theorem out_delta : out0_5 x0 w m v (ix3 0 r l) = Adam.delta (k0_pay8 x0 w m v (ix2 r l)) (w (ix3 0 r l)) (m (ix3 0 r l)) (v (ix3 0 r l)) := by
  unfold out0_5
  rw [View.canon_unit_zero (by decide) _ _, View.ld_unit_zero (by decide) _ _, View.ld_unit_zero (by decide) _ _, View.ld_unit_zero (by decide) _ _]
  pointwise [k0_pay1, k0_pay2, k0_pay4, k0_pay5, k0_pay6, k0_pay7, Adam.delta, Adam.m2, Adam.v2]

theorem out_m2 : out0_6 x0 w m v (ix3 0 r l) = Adam.m2 (k0_pay8 x0 w m v (ix2 r l)) (m (ix3 0 r l)) := by
  unfold out0_6
  rw [View.canon_unit_zero (by decide) _ _, View.ld_unit_zero (by decide) _ _]
  pointwise [k0_pay1, k0_pay2, k0_pay4, k0_pay5, k0_pay6, k0_pay7, Adam.m2]

theorem out_v2 : out0_7 x0 w m v (ix3 0 r l) = Adam.v2 (k0_pay8 x0 w m v (ix2 r l)) (v (ix3 0 r l)) := by
  unfold out0_7
  rw [View.canon_unit_zero (by decide) _ _, View.ld_unit_zero (by decide) _ _]
  pointwise [k0_pay1, k0_pay2, k0_pay4, k0_pay5, k0_pay6, k0_pay7, Adam.v2]

end

/-! ## The reference -/

section
open Cert.Reference22Ideal.Read

variable (p : Vec Ideal S8x26624x128 .bf16) (w m v : Vec Ideal S4x256x128 .f32) (q : Fin 4) (r : Fin 256) (l : Fin 128)

theorem ref_grad : val_main_v6 (F := Ideal) p (ix3 q r l) = Adam.grad fun j => p (ix3 j ⟨q.val * 6656 + (6144 + r.val), by omega⟩ ⟨l.val % 128, by omega⟩) := by
  pointwise [val_main_v0, val_main_cst, val_main_v1, val_main_v2, val_main_v3, val_main_v4, val_main_v5, val_main_v6]
  exact Finset.sum_congr rfl fun j _ => congrArg p (Adam.ix3_congr j (by first | rfl | (dsimp only; omega)) (by first | rfl | (dsimp only; omega)))

theorem ref_delta : val_main_v30 (F := Ideal) p w m v (ix3 q r l) = Adam.delta (val_main_v6 (F := Ideal) p (ix3 q r l)) (w (ix3 q r l)) (m (ix3 q r l)) (v (ix3 q r l)) := by
  unfold val_main_v30 val_main_v28 val_main_v27 val_main_v26 val_main_cst_7 val_main_v25 val_main_v24 val_main_v23 val_main_cst_6 val_main_v22 val_main_v21 val_main_v20 val_main_cst_5 val_main_v17 val_main_v16 val_main_v14 val_main_v15 val_main_cst_3 val_main_v13 val_main_v12 val_main_cst_2 val_main_v19 val_main_v18 val_main_cst_4 val_main_v11 val_main_v10 val_main_v9 val_main_cst_1 val_main_v8 val_main_v7 val_main_cst_0 val_main_v29 val_main_cst_8
  generalize val_main_v6 (F := Ideal) p = g
  exact Adam.step_apply _ _ g w m v _ _ _ _ _ _ _ _ _ _

theorem ref_m2 : val_main_v11 (F := Ideal) p m (ix3 q r l) = Adam.m2 (val_main_v6 (F := Ideal) p (ix3 q r l)) (m (ix3 q r l)) := by
  unfold val_main_v11 val_main_v10 val_main_v9 val_main_cst_1 val_main_v8 val_main_v7 val_main_cst_0
  generalize val_main_v6 (F := Ideal) p = g
  exact Adam.mix_apply _ _ g m _ _ _

theorem ref_v2 : val_main_v17 (F := Ideal) p v (ix3 q r l) = Adam.v2 (val_main_v6 (F := Ideal) p (ix3 q r l)) (v (ix3 q r l)) := by
  unfold val_main_v17 val_main_v16 val_main_v14 val_main_v15 val_main_cst_3 val_main_v13 val_main_v12 val_main_cst_2
  generalize val_main_v6 (F := Ideal) p = g
  exact Adam.square_apply _ _ g v _ _ _

end

/-! ## The arrays -/

variable (m : (ℓ : Loc nD τ sig) → Buf (Elt Ideal) ℓ)

/-! Where each window's block lies at a grid point. -/

theorem blocks0 : ∀ t : Fin cfg0.N, win0_0.index t (0 : Fin 3) = 0 ∧ win0_0.index t (1 : Fin 3) = t.val * 26 + 24 ∧ win0_0.index t (2 : Fin 3) = 0 :=
  (by decide +kernel : ∀ t : Fin grid0.N, _)

theorem blocks1 : ∀ t : Fin cfg0.N, win0_1.index t (0 : Fin 3) = t.val ∧ win0_1.index t (1 : Fin 3) = 0 ∧ win0_1.index t (2 : Fin 3) = 0 :=
  (by decide +kernel : ∀ t : Fin grid0.N, _)

theorem blocks2 : ∀ t : Fin cfg0.N, win0_2.index t (0 : Fin 3) = t.val ∧ win0_2.index t (1 : Fin 3) = 0 ∧ win0_2.index t (2 : Fin 3) = 0 :=
  (by decide +kernel : ∀ t : Fin grid0.N, _)

theorem blocks3 : ∀ t : Fin cfg0.N, win0_3.index t (0 : Fin 3) = t.val ∧ win0_3.index t (1 : Fin 3) = 0 ∧ win0_3.index t (2 : Fin 3) = 0 :=
  (by decide +kernel : ∀ t : Fin grid0.N, _)

theorem blocks4 : ∀ t : Fin cfg0.N, win0_4.index t (0 : Fin 3) = t.val ∧ win0_4.index t (1 : Fin 3) = 0 ∧ win0_4.index t (2 : Fin 3) = 0 ∧ (cfg0.win 4).flush t = true :=
  (by decide +kernel : ∀ t : Fin grid0.N, _)

theorem blocks5 : ∀ t : Fin cfg0.N, win0_5.index t (0 : Fin 3) = t.val ∧ win0_5.index t (1 : Fin 3) = 0 ∧ win0_5.index t (2 : Fin 3) = 0 ∧ (cfg0.win 5).flush t = true :=
  (by decide +kernel : ∀ t : Fin grid0.N, _)

theorem blocks6 : ∀ t : Fin cfg0.N, win0_6.index t (0 : Fin 3) = t.val ∧ win0_6.index t (1 : Fin 3) = 0 ∧ win0_6.index t (2 : Fin 3) = 0 ∧ (cfg0.win 6).flush t = true :=
  (by decide +kernel : ∀ t : Fin grid0.N, _)

theorem blocks7 : ∀ t : Fin cfg0.N, win0_7.index t (0 : Fin 3) = t.val ∧ win0_7.index t (1 : Fin 3) = 0 ∧ win0_7.index t (2 : Fin 3) = 0 ∧ (cfg0.win 7).flush t = true :=
  (by decide +kernel : ∀ t : Fin grid0.N, _)

theorem p0_apply (c : Dev nD) (t : Fin cfg0.N) (r : Fin 256) (q : Fin 4) (hq : q.val = t.val) (R : Fin 256) (hR : R.val = r.val) (j : Fin 8) (a : Fin 128) :
    iblk m c 0 t (ix3 j r a) = m ((c.tc : Thread nD τ).loc main_arg0) (ix3 j (⟨q.val * 6656 + (6144 + R.val), by omega⟩ : Fin 26624) a) := by
  obtain ⟨e0, e1, e2⟩ := blocks0 t
  show V m c main_arg0 (((cfg0.win 0).blk t).view.emb (ix3 j r a)) = _
  rw [V_main_arg0]
  refine congrArg _ (funext fun b => Fin.ext ?_)
  match b with
  | ⟨0, _⟩ => show win0_0.index t (0 : Fin 3) * 8 + 1 * j.val = j.val; omega
  | ⟨1, _⟩ => show win0_0.index t (1 : Fin 3) * 256 + 1 * r.val = q.val * 6656 + (6144 + R.val); omega
  | ⟨2, _⟩ => show win0_0.index t (2 : Fin 3) * 128 + 1 * a.val = a.val; omega

theorem w_apply (c : Dev nD) (t : Fin cfg0.N) (r : Fin 256) (q : Fin 4) (hq : q.val = t.val) (R : Fin 256) (hR : R.val = r.val) (l : Fin 128) :
    iblk m c 1 t (ix3 0 r l) = m ((c.tc : Thread nD τ).loc main_arg1) (ix3 q R l) := by
  obtain ⟨e0, e1, e2⟩ := blocks1 t
  show V m c main_arg1 (((cfg0.win 1).blk t).view.emb (ix3 0 r l)) = _
  rw [V_main_arg1]
  refine congrArg _ (funext fun b => Fin.ext ?_)
  match b with
  | ⟨0, _⟩ => show win0_1.index t (0 : Fin 3) * 1 + 1 * 0 = q.val; omega
  | ⟨1, _⟩ => show win0_1.index t (1 : Fin 3) * 256 + 1 * r.val = R.val; omega
  | ⟨2, _⟩ => show win0_1.index t (2 : Fin 3) * 128 + 1 * l.val = l.val; omega

theorem m_apply (c : Dev nD) (t : Fin cfg0.N) (r : Fin 256) (q : Fin 4) (hq : q.val = t.val) (R : Fin 256) (hR : R.val = r.val) (l : Fin 128) :
    iblk m c 2 t (ix3 0 r l) = m ((c.tc : Thread nD τ).loc main_arg2) (ix3 q R l) := by
  obtain ⟨e0, e1, e2⟩ := blocks2 t
  show V m c main_arg2 (((cfg0.win 2).blk t).view.emb (ix3 0 r l)) = _
  rw [V_main_arg2]
  refine congrArg _ (funext fun b => Fin.ext ?_)
  match b with
  | ⟨0, _⟩ => show win0_2.index t (0 : Fin 3) * 1 + 1 * 0 = q.val; omega
  | ⟨1, _⟩ => show win0_2.index t (1 : Fin 3) * 256 + 1 * r.val = R.val; omega
  | ⟨2, _⟩ => show win0_2.index t (2 : Fin 3) * 128 + 1 * l.val = l.val; omega

theorem v_apply (c : Dev nD) (t : Fin cfg0.N) (r : Fin 256) (q : Fin 4) (hq : q.val = t.val) (R : Fin 256) (hR : R.val = r.val) (l : Fin 128) :
    iblk m c 3 t (ix3 0 r l) = m ((c.tc : Thread nD τ).loc main_arg3) (ix3 q R l) := by
  obtain ⟨e0, e1, e2⟩ := blocks3 t
  show V m c main_arg3 (((cfg0.win 3).blk t).view.emb (ix3 0 r l)) = _
  rw [V_main_arg3]
  refine congrArg _ (funext fun b => Fin.ext ?_)
  match b with
  | ⟨0, _⟩ => show win0_3.index t (0 : Fin 3) * 1 + 1 * 0 = q.val; omega
  | ⟨1, _⟩ => show win0_3.index t (1 : Fin 3) * 256 + 1 * r.val = R.val; omega
  | ⟨2, _⟩ => show win0_3.index t (2 : Fin 3) * 128 + 1 * l.val = l.val; omega

/-- The kernel's gradient of an entry is the reference's. -/
theorem grad_eq (c : Dev nD) (t : Fin cfg0.N) (r : Fin 256) (q : Fin 4) (hq : q.val = t.val) (R : Fin 256) (hR : R.val = r.val) (l : Fin 128) :
    k0_pay8 (iblk m c 0 t) (iblk m c 1 t) (iblk m c 2 t) (iblk m c 3 t) (ix2 r l) = Cert.Reference22Ideal.Read.val_main_v6 (F := Ideal) (m ((c.tc : Thread nD τ).loc main_arg0)) (ix3 q R l) := by
  refine Eq.trans ?_ (ref_grad (m ((c.tc : Thread nD τ).loc main_arg0)) q R l).symm
  refine grad_apply (iblk m c 0 t) (iblk m c 1 t) (iblk m c 2 t) (iblk m c 3 t) r l
    (fun j n => m ((c.tc : Thread nD τ).loc main_arg0) (ix3 j (⟨q.val * 6656 + (6144 + R.val), by omega⟩ : Fin 26624) (⟨n.val % 128, by omega⟩ : Fin 128)))
    (fun j a => ?_)
  · exact (p0_apply m c t r q hq R hR j a).trans (congrArg _ (Adam.ix3_congr j
        (by show q.val * 6656 + (6144 + R.val) = q.val * 6656 + (6144 + R.val); omega)
        (by show a.val = (a.val) % 128; omega)))

theorem value_grad (c : Dev nD) :
    (dats m 0 c).arrAt 4 cfg0.N = Cert.Reference22Ideal.Read.val_main_v6 (F := Ideal) (m ((c.tc : Thread nD τ).loc main_arg0)) := by
  funext i
  obtain ⟨q, R, l, rfl⟩ : ∃ (q : Fin 4) (R : Fin 256) (l : Fin 128), i = ix3 q R l := ⟨i 0, i 1, i 2, (ix3_eta i).symm⟩
  let t : Fin cfg0.N := ⟨q.val, by have h : cfg0.N = 4 := N_0; omega⟩
  let r : Fin 256 := R
  have hq : q.val = t.val := rfl
  have hR : R.val = r.val := rfl
  obtain ⟨e0, e1, e2, hf⟩ := blocks4 t
  have hi : (ix3 q R l : S4x256x128.Idx) = ((cfg0.win 4).blk t).view.emb (ix3 0 r l) := by
    refine funext fun b => Fin.ext ?_
    match b with
    | ⟨0, _⟩ => show q.val = win0_4.index t (0 : Fin 3) * 1 + 1 * 0; omega
    | ⟨1, _⟩ => show R.val = win0_4.index t (1 : Fin 3) * 256 + 1 * r.val; omega
    | ⟨2, _⟩ => show l.val = win0_4.index t (2 : Fin 3) * 128 + 1 * l.val; omega
  refine (congrArg _ hi).trans (((dats m 0 c).arrAt_emb_eq_flushed 4 disjoint4 t hf (ix3 0 r l)).trans ?_)
  show (dats m 0 c).flushed 4 t (ix3 0 r l) = _
  rw [flushed4]
  refine (out_grad (iblk m c 0 t) (iblk m c 1 t) (iblk m c 2 t) (iblk m c 3 t) r l).trans ?_
  rw [grad_eq m c t r q hq R hR l]

theorem value_delta (c : Dev nD) :
    (dats m 0 c).arrAt 5 cfg0.N = Cert.Reference22Ideal.Read.val_main_v30 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, R, l, rfl⟩ : ∃ (q : Fin 4) (R : Fin 256) (l : Fin 128), i = ix3 q R l := ⟨i 0, i 1, i 2, (ix3_eta i).symm⟩
  refine Eq.trans ?_ (ref_delta _ _ _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks5 t
  have hi : (ix3 q R l : S4x256x128.Idx) = ((cfg0.win 5).blk t).view.emb (ix3 0 r l) := by
    refine funext fun b => Fin.ext ?_
    match b with
    | ⟨0, _⟩ => show q.val = win0_5.index t (0 : Fin 3) * 1 + 1 * 0; omega
    | ⟨1, _⟩ => show R.val = win0_5.index t (1 : Fin 3) * 256 + 1 * r.val; omega
    | ⟨2, _⟩ => show l.val = win0_5.index t (2 : Fin 3) * 128 + 1 * l.val; omega
  refine (congrArg _ hi).trans (((dats m 0 c).arrAt_emb_eq_flushed 5 disjoint5 t hf (ix3 0 r l)).trans ?_)
  show (dats m 0 c).flushed 5 t (ix3 0 r l) = _
  rw [flushed5]
  refine (out_delta (iblk m c 0 t) (iblk m c 1 t) (iblk m c 2 t) (iblk m c 3 t) r l).trans ?_
  rw [grad_eq m c t r q hq R hR l, w_apply m c t r q hq R hR l, m_apply m c t r q hq R hR l, v_apply m c t r q hq R hR l]

theorem value_m2 (c : Dev nD) :
    (dats m 0 c).arrAt 6 cfg0.N = Cert.Reference22Ideal.Read.val_main_v11 (F := Ideal) (m ((c.tc : Thread nD τ).loc main_arg0)) (m ((c.tc : Thread nD τ).loc main_arg2)) := by
  funext i
  obtain ⟨q, R, l, rfl⟩ : ∃ (q : Fin 4) (R : Fin 256) (l : Fin 128), i = ix3 q R l := ⟨i 0, i 1, i 2, (ix3_eta i).symm⟩
  refine Eq.trans ?_ (ref_m2 _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks6 t
  have hi : (ix3 q R l : S4x256x128.Idx) = ((cfg0.win 6).blk t).view.emb (ix3 0 r l) := by
    refine funext fun b => Fin.ext ?_
    match b with
    | ⟨0, _⟩ => show q.val = win0_6.index t (0 : Fin 3) * 1 + 1 * 0; omega
    | ⟨1, _⟩ => show R.val = win0_6.index t (1 : Fin 3) * 256 + 1 * r.val; omega
    | ⟨2, _⟩ => show l.val = win0_6.index t (2 : Fin 3) * 128 + 1 * l.val; omega
  refine (congrArg _ hi).trans (((dats m 0 c).arrAt_emb_eq_flushed 6 disjoint6 t hf (ix3 0 r l)).trans ?_)
  show (dats m 0 c).flushed 6 t (ix3 0 r l) = _
  rw [flushed6]
  refine (out_m2 (iblk m c 0 t) (iblk m c 1 t) (iblk m c 2 t) (iblk m c 3 t) r l).trans ?_
  rw [grad_eq m c t r q hq R hR l, m_apply m c t r q hq R hR l]

theorem value_v2 (c : Dev nD) :
    (dats m 0 c).arrAt 7 cfg0.N = Cert.Reference22Ideal.Read.val_main_v17 (F := Ideal) (m ((c.tc : Thread nD τ).loc main_arg0)) (m ((c.tc : Thread nD τ).loc main_arg3)) := by
  funext i
  obtain ⟨q, R, l, rfl⟩ : ∃ (q : Fin 4) (R : Fin 256) (l : Fin 128), i = ix3 q R l := ⟨i 0, i 1, i 2, (ix3_eta i).symm⟩
  refine Eq.trans ?_ (ref_v2 _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks7 t
  have hi : (ix3 q R l : S4x256x128.Idx) = ((cfg0.win 7).blk t).view.emb (ix3 0 r l) := by
    refine funext fun b => Fin.ext ?_
    match b with
    | ⟨0, _⟩ => show q.val = win0_7.index t (0 : Fin 3) * 1 + 1 * 0; omega
    | ⟨1, _⟩ => show R.val = win0_7.index t (1 : Fin 3) * 256 + 1 * r.val; omega
    | ⟨2, _⟩ => show l.val = win0_7.index t (2 : Fin 3) * 128 + 1 * l.val; omega
  refine (congrArg _ hi).trans (((dats m 0 c).arrAt_emb_eq_flushed 7 disjoint7 t hf (ix3 0 r l)).trans ?_)
  show (dats m 0 c).flushed 7 t (ix3 0 r l) = _
  rw [flushed7]
  refine (out_v2 (iblk m c 0 t) (iblk m c 1 t) (iblk m c 2 t) (iblk m c 3 t) r l).trans ?_
  rw [grad_eq m c t r q hq R hR l, v_apply m c t r q hq R hR l]

end Cert.Adam22

end

end
-- ==== Proof.Adam23.lean ====
module

public import Idealize.ShloMosaic.Lib.Pipeline.ValueKit.Tiles
public import proofs.«01_k».proof.Proof.Adam
public import proofs.«01_k».proof.Proof.Gen.Kernel23Ideal.Value
public import proofs.«01_k».proof.Proof.Gen.Reference23Ideal.Read

@[expose] public section

noncomputable section

/-! `adamw_w_ffn_in`: a point of the grid is 256 rows of one layer's weight; its gradient lies in slabs of 128 columns. -/

namespace Cert.Adam23

open Cert.Kernel23Ideal Cert.Kernel23Ideal.Gen Cert.Kernel23Ideal.Value
open Idealize.ShloMosaic Idealize.ShloMosaic.TcCoe Idealize.SL.Sem

/-- The block of the gradient. -/
def gradBlk (x0 x1 x2 x3 x4 x5 : Vec Ideal S8x256x128 .bf16) (w m v : Vec Ideal S1x256x704 .f32) : FVec Ideal S256x704 .f32 :=
  k0_pay16 (k0_pay21 x0 x1 x2 x3 x4 x5 w m v) (k0_pay22 x0 x1 x2 x3 x4 x5 w m v) (k0_pay23 x0 x1 x2 x3 x4 x5 w m v) (k0_pay24 x0 x1 x2 x3 x4 x5 w m v) (k0_pay25 x0 x1 x2 x3 x4 x5 w m v) (k0_pay26 x0 x1 x2 x3 x4 x5 w m v) (View.ld x5 r0_3) (View.ld x5 r0_4) (View.ld x5 r0_5) (View.ld x5 r0_6) (View.ld x5 r0_7)

/-! ## What a point leaves at an index of its blocks -/

section
variable (x0 x1 x2 x3 x4 x5 : Vec Ideal S8x256x128 .bf16) (w m v : Vec Ideal S1x256x704 .f32) (r : Fin 256) (l : Fin 704)

/-- The gradient of an entry, from the slabs it lies in. -/
theorem grad_apply (f : Fin 8 → Fin 768 → EReal)
    (h0 : ∀ (j : Fin 8) (a : Fin 128), x0 (ix3 j r a) = f j ⟨a.val, by omega⟩)
    (h1 : ∀ (j : Fin 8) (a : Fin 128), x1 (ix3 j r a) = f j ⟨128 + a.val, by omega⟩)
    (h2 : ∀ (j : Fin 8) (a : Fin 128), x2 (ix3 j r a) = f j ⟨256 + a.val, by omega⟩)
    (h3 : ∀ (j : Fin 8) (a : Fin 128), x3 (ix3 j r a) = f j ⟨384 + a.val, by omega⟩)
    (h4 : ∀ (j : Fin 8) (a : Fin 128), x4 (ix3 j r a) = f j ⟨512 + a.val, by omega⟩)
    (h5 : ∀ (j : Fin 8) (a : Fin 128), x5 (ix3 j r a) = f j ⟨640 + a.val, by omega⟩) :
    gradBlk x0 x1 x2 x3 x4 x5 w m v (ix2 r l) = Adam.grad fun j => f j ⟨l.val, by omega⟩ := by
  pointwise [k0_pay16, k0_pay6, k0_pay21, k0_pay7, k0_pay22, k0_pay9, k0_pay8, k0_pay23, k0_pay11, k0_pay10, k0_pay24, k0_pay14, k0_pay12, k0_pay13, k0_pay25, k0_pay15, k0_pay26, gradBlk]
  simp only [Adam.grad, Fin.sum_univ_eight]
  by_cases c0 : l.val < 128
  · rw [dif_pos c0]
    simp only [h0]
  rw [dif_neg c0]
  by_cases c1 : l.val - 128 < 128
  · rw [dif_pos c1]
    have e : 128 + (l.val - 128) = l.val := by omega
    simp only [h1, e]
  rw [dif_neg c1]
  by_cases c2 : l.val - 128 - 128 < 128
  · rw [dif_pos c2]
    have e : 256 + (l.val - 128 - 128) = l.val := by omega
    simp only [h2, e]
  rw [dif_neg c2]
  by_cases c3 : l.val - 128 - 128 - 128 < 128
  · rw [dif_pos c3]
    have e : 384 + (l.val - 128 - 128 - 128) = l.val := by omega
    simp only [h3, e]
  rw [dif_neg c3]
  by_cases c4 : l.val - 128 - 128 - 128 - 128 < 128
  · rw [dif_pos c4]
    have e : 512 + (l.val - 128 - 128 - 128 - 128) = l.val := by omega
    simp only [h4, e]
  rw [dif_neg c4]
  have e : 640 + (l.val - 128 - 128 - 128 - 128 - 128) = l.val := by omega
  simp only [h5, e]

theorem out_grad : out0_9 x0 x1 x2 x3 x4 x5 w m v (ix3 0 r l) = (gradBlk x0 x1 x2 x3 x4 x5 w m v (ix2 r l)) := by
  unfold out0_9
  rw [View.canon_unit_zero (by decide) _ _]
  pointwise [k0_pay1, k0_pay2, k0_pay3, k0_pay4, k0_pay5, k0_pay17, k0_pay18, k0_pay19, k0_pay20, k0_pay27, k0_pay28, k0_pay29, gradBlk]

theorem out_delta : out0_10 x0 x1 x2 x3 x4 x5 w m v (ix3 0 r l) = Adam.delta (gradBlk x0 x1 x2 x3 x4 x5 w m v (ix2 r l)) (w (ix3 0 r l)) (m (ix3 0 r l)) (v (ix3 0 r l)) := by
  unfold out0_10
  rw [View.canon_unit_zero (by decide) _ _, View.ld_unit_zero (by decide) _ _]
  pointwise [k0_pay1, k0_pay2, k0_pay3, k0_pay4, k0_pay5, k0_pay17, k0_pay18, k0_pay19, k0_pay20, k0_pay27, k0_pay28, k0_pay29, gradBlk, Adam.delta, Adam.m2, Adam.v2]

theorem out_m2 : out0_11 x0 x1 x2 x3 x4 x5 w m v (ix3 0 r l) = Adam.m2 (gradBlk x0 x1 x2 x3 x4 x5 w m v (ix2 r l)) (m (ix3 0 r l)) := by
  unfold out0_11
  rw [View.canon_unit_zero (by decide) _ _]
  pointwise [k0_pay1, k0_pay2, k0_pay3, k0_pay4, k0_pay5, k0_pay17, k0_pay18, k0_pay19, k0_pay20, k0_pay27, k0_pay28, k0_pay29, gradBlk, Adam.m2]

theorem out_v2 : out0_12 x0 x1 x2 x3 x4 x5 w m v (ix3 0 r l) = Adam.v2 (gradBlk x0 x1 x2 x3 x4 x5 w m v (ix2 r l)) (v (ix3 0 r l)) := by
  unfold out0_12
  rw [View.canon_unit_zero (by decide) _ _]
  pointwise [k0_pay1, k0_pay2, k0_pay3, k0_pay4, k0_pay5, k0_pay17, k0_pay18, k0_pay19, k0_pay20, k0_pay27, k0_pay28, k0_pay29, gradBlk, Adam.v2]

end

/-! ## The reference -/

section
open Cert.Reference23Ideal.Read

variable (p : Vec Ideal S8x25600x128 .bf16) (w m v : Vec Ideal S4x1024x704 .f32) (q : Fin 4) (r : Fin 1024) (l : Fin 704)

theorem ref_grad : val_main_v7 (F := Ideal) p (ix3 q r l) = Adam.grad fun j => p (ix3 j ⟨q.val * 6400 + (l.val / 128 * 1024 + r.val), by omega⟩ ⟨l.val % 128, by omega⟩) := by
  pointwise [val_main_v0, val_main_cst, val_main_v1, val_main_v2, val_main_v3, val_main_v4, val_main_v5, val_main_v6, val_main_v7]
  exact Finset.sum_congr rfl fun j _ => congrArg p (Adam.ix3_congr j (by first | rfl | (dsimp only; omega)) (by first | rfl | (dsimp only; omega)))

theorem ref_delta : val_main_v31 (F := Ideal) p w m v (ix3 q r l) = Adam.delta (val_main_v7 (F := Ideal) p (ix3 q r l)) (w (ix3 q r l)) (m (ix3 q r l)) (v (ix3 q r l)) := by
  unfold val_main_v31 val_main_v29 val_main_v28 val_main_v27 val_main_cst_7 val_main_v26 val_main_v25 val_main_v24 val_main_cst_6 val_main_v23 val_main_v22 val_main_v21 val_main_cst_5 val_main_v18 val_main_v17 val_main_v15 val_main_v16 val_main_cst_3 val_main_v14 val_main_v13 val_main_cst_2 val_main_v20 val_main_v19 val_main_cst_4 val_main_v12 val_main_v11 val_main_v10 val_main_cst_1 val_main_v9 val_main_v8 val_main_cst_0 val_main_v30 val_main_cst_8
  generalize val_main_v7 (F := Ideal) p = g
  exact Adam.step_apply _ _ g w m v _ _ _ _ _ _ _ _ _ _

theorem ref_m2 : val_main_v12 (F := Ideal) p m (ix3 q r l) = Adam.m2 (val_main_v7 (F := Ideal) p (ix3 q r l)) (m (ix3 q r l)) := by
  unfold val_main_v12 val_main_v11 val_main_v10 val_main_cst_1 val_main_v9 val_main_v8 val_main_cst_0
  generalize val_main_v7 (F := Ideal) p = g
  exact Adam.mix_apply _ _ g m _ _ _

theorem ref_v2 : val_main_v18 (F := Ideal) p v (ix3 q r l) = Adam.v2 (val_main_v7 (F := Ideal) p (ix3 q r l)) (v (ix3 q r l)) := by
  unfold val_main_v18 val_main_v17 val_main_v15 val_main_v16 val_main_cst_3 val_main_v14 val_main_v13 val_main_cst_2
  generalize val_main_v7 (F := Ideal) p = g
  exact Adam.square_apply _ _ g v _ _ _

end

/-! ## The arrays -/

variable (m : (ℓ : Loc nD τ sig) → Buf (Elt Ideal) ℓ)

/-! Where each window's block lies at a grid point. -/

theorem blocks0 : ∀ t : Fin cfg0.N, win0_0.index t (0 : Fin 3) = 0 ∧ win0_0.index t (1 : Fin 3) = t.val / 4 * 25 + t.val % 4 ∧ win0_0.index t (2 : Fin 3) = 0 :=
  (by decide +kernel : ∀ t : Fin grid0.N, _)

theorem blocks1 : ∀ t : Fin cfg0.N, win0_1.index t (0 : Fin 3) = 0 ∧ win0_1.index t (1 : Fin 3) = t.val / 4 * 25 + 4 + t.val % 4 ∧ win0_1.index t (2 : Fin 3) = 0 :=
  (by decide +kernel : ∀ t : Fin grid0.N, _)

theorem blocks2 : ∀ t : Fin cfg0.N, win0_2.index t (0 : Fin 3) = 0 ∧ win0_2.index t (1 : Fin 3) = t.val / 4 * 25 + 8 + t.val % 4 ∧ win0_2.index t (2 : Fin 3) = 0 :=
  (by decide +kernel : ∀ t : Fin grid0.N, _)

theorem blocks3 : ∀ t : Fin cfg0.N, win0_3.index t (0 : Fin 3) = 0 ∧ win0_3.index t (1 : Fin 3) = t.val / 4 * 25 + 12 + t.val % 4 ∧ win0_3.index t (2 : Fin 3) = 0 :=
  (by decide +kernel : ∀ t : Fin grid0.N, _)

theorem blocks4 : ∀ t : Fin cfg0.N, win0_4.index t (0 : Fin 3) = 0 ∧ win0_4.index t (1 : Fin 3) = t.val / 4 * 25 + 16 + t.val % 4 ∧ win0_4.index t (2 : Fin 3) = 0 :=
  (by decide +kernel : ∀ t : Fin grid0.N, _)

theorem blocks5 : ∀ t : Fin cfg0.N, win0_5.index t (0 : Fin 3) = 0 ∧ win0_5.index t (1 : Fin 3) = t.val / 4 * 25 + 20 + t.val % 4 ∧ win0_5.index t (2 : Fin 3) = 0 :=
  (by decide +kernel : ∀ t : Fin grid0.N, _)

theorem blocks6 : ∀ t : Fin cfg0.N, win0_6.index t (0 : Fin 3) = t.val / 4 ∧ win0_6.index t (1 : Fin 3) = t.val % 4 ∧ win0_6.index t (2 : Fin 3) = 0 :=
  (by decide +kernel : ∀ t : Fin grid0.N, _)

theorem blocks7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)

theorem blocks8 : ∀ t : Fin cfg0.N, win0_8.index t (0 : Fin 3) = t.val / 4 ∧ win0_8.index t (1 : Fin 3) = t.val % 4 ∧ win0_8.index t (2 : Fin 3) = 0 :=
  (by decide +kernel : ∀ t : Fin grid0.N, _)

theorem blocks9 : ∀ t : Fin cfg0.N, win0_9.index t (0 : Fin 3) = t.val / 4 ∧ win0_9.index t (1 : Fin 3) = t.val % 4 ∧ win0_9.index t (2 : Fin 3) = 0 ∧ (cfg0.win 9).flush t = true :=
  (by decide +kernel : ∀ t : Fin grid0.N, _)

theorem blocks10 : ∀ t : Fin cfg0.N, win0_10.index t (0 : Fin 3) = t.val / 4 ∧ win0_10.index t (1 : Fin 3) = t.val % 4 ∧ win0_10.index t (2 : Fin 3) = 0 ∧ (cfg0.win 10).flush t = true :=
  (by decide +kernel : ∀ t : Fin grid0.N, _)

theorem blocks11 : ∀ t : Fin cfg0.N, win0_11.index t (0 : Fin 3) = t.val / 4 ∧ win0_11.index t (1 : Fin 3) = t.val % 4 ∧ win0_11.index t (2 : Fin 3) = 0 ∧ (cfg0.win 11).flush t = true :=
  (by decide +kernel : ∀ t : Fin grid0.N, _)

theorem blocks12 : ∀ t : Fin cfg0.N, win0_12.index t (0 : Fin 3) = t.val / 4 ∧ win0_12.index t (1 : Fin 3) = t.val % 4 ∧ win0_12.index t (2 : Fin 3) = 0 ∧ (cfg0.win 12).flush t = true :=
  (by decide +kernel : ∀ t : Fin grid0.N, _)

theorem p0_apply (c : Dev nD) (t : Fin cfg0.N) (r : Fin 256) (q : Fin 4) (hq : q.val = t.val / 4) (R : Fin 1024) (hR : R.val = t.val % 4 * 256 + r.val) (j : Fin 8) (a : Fin 128) :
    iblk m c 0 t (ix3 j r a) = m ((c.tc : Thread nD τ).loc main_arg0) (ix3 j (⟨q.val * 6400 + (R.val), by omega⟩ : Fin 25600) a) := by
  obtain ⟨e0, e1, e2⟩ := blocks0 t
  show V m c main_arg0 (((cfg0.win 0).blk t).view.emb (ix3 j r a)) = _
  rw [V_main_arg0]
  refine congrArg _ (funext fun b => Fin.ext ?_)
  match b with
  | ⟨0, _⟩ => show win0_0.index t (0 : Fin 3) * 8 + 1 * j.val = j.val; omega
  | ⟨1, _⟩ => show win0_0.index t (1 : Fin 3) * 256 + 1 * r.val = q.val * 6400 + (R.val); omega
  | ⟨2, _⟩ => show win0_0.index t (2 : Fin 3) * 128 + 1 * a.val = a.val; omega

theorem p1_apply (c : Dev nD) (t : Fin cfg0.N) (r : Fin 256) (q : Fin 4) (hq : q.val = t.val / 4) (R : Fin 1024) (hR : R.val = t.val % 4 * 256 + r.val) (j : Fin 8) (a : Fin 128) :
    iblk m c 1 t (ix3 j r a) = m ((c.tc : Thread nD τ).loc main_arg0) (ix3 j (⟨q.val * 6400 + (1024 + R.val), by omega⟩ : Fin 25600) a) := by
  obtain ⟨e0, e1, e2⟩ := blocks1 t
  show V m c main_arg0 (((cfg0.win 1).blk t).view.emb (ix3 j r a)) = _
  rw [V_main_arg0]
  refine congrArg _ (funext fun b => Fin.ext ?_)
  match b with
  | ⟨0, _⟩ => show win0_1.index t (0 : Fin 3) * 8 + 1 * j.val = j.val; omega
  | ⟨1, _⟩ => show win0_1.index t (1 : Fin 3) * 256 + 1 * r.val = q.val * 6400 + (1024 + R.val); omega
  | ⟨2, _⟩ => show win0_1.index t (2 : Fin 3) * 128 + 1 * a.val = a.val; omega

theorem p2_apply (c : Dev nD) (t : Fin cfg0.N) (r : Fin 256) (q : Fin 4) (hq : q.val = t.val / 4) (R : Fin 1024) (hR : R.val = t.val % 4 * 256 + r.val) (j : Fin 8) (a : Fin 128) :
    iblk m c 2 t (ix3 j r a) = m ((c.tc : Thread nD τ).loc main_arg0) (ix3 j (⟨q.val * 6400 + (2048 + R.val), by omega⟩ : Fin 25600) a) := by
  obtain ⟨e0, e1, e2⟩ := blocks2 t
  show V m c main_arg0 (((cfg0.win 2).blk t).view.emb (ix3 j r a)) = _
  rw [V_main_arg0]
  refine congrArg _ (funext fun b => Fin.ext ?_)
  match b with
  | ⟨0, _⟩ => show win0_2.index t (0 : Fin 3) * 8 + 1 * j.val = j.val; omega
  | ⟨1, _⟩ => show win0_2.index t (1 : Fin 3) * 256 + 1 * r.val = q.val * 6400 + (2048 + R.val); omega
  | ⟨2, _⟩ => show win0_2.index t (2 : Fin 3) * 128 + 1 * a.val = a.val; omega

theorem p3_apply (c : Dev nD) (t : Fin cfg0.N) (r : Fin 256) (q : Fin 4) (hq : q.val = t.val / 4) (R : Fin 1024) (hR : R.val = t.val % 4 * 256 + r.val) (j : Fin 8) (a : Fin 128) :
    iblk m c 3 t (ix3 j r a) = m ((c.tc : Thread nD τ).loc main_arg0) (ix3 j (⟨q.val * 6400 + (3072 + R.val), by omega⟩ : Fin 25600) a) := by
  obtain ⟨e0, e1, e2⟩ := blocks3 t
  show V m c main_arg0 (((cfg0.win 3).blk t).view.emb (ix3 j r a)) = _
  rw [V_main_arg0]
  refine congrArg _ (funext fun b => Fin.ext ?_)
  match b with
  | ⟨0, _⟩ => show win0_3.index t (0 : Fin 3) * 8 + 1 * j.val = j.val; omega
  | ⟨1, _⟩ => show win0_3.index t (1 : Fin 3) * 256 + 1 * r.val = q.val * 6400 + (3072 + R.val); omega
  | ⟨2, _⟩ => show win0_3.index t (2 : Fin 3) * 128 + 1 * a.val = a.val; omega

theorem p4_apply (c : Dev nD) (t : Fin cfg0.N) (r : Fin 256) (q : Fin 4) (hq : q.val = t.val / 4) (R : Fin 1024) (hR : R.val = t.val % 4 * 256 + r.val) (j : Fin 8) (a : Fin 128) :
    iblk m c 4 t (ix3 j r a) = m ((c.tc : Thread nD τ).loc main_arg0) (ix3 j (⟨q.val * 6400 + (4096 + R.val), by omega⟩ : Fin 25600) a) := by
  obtain ⟨e0, e1, e2⟩ := blocks4 t
  show V m c main_arg0 (((cfg0.win 4).blk t).view.emb (ix3 j r a)) = _
  rw [V_main_arg0]
  refine congrArg _ (funext fun b => Fin.ext ?_)
  match b with
  | ⟨0, _⟩ => show win0_4.index t (0 : Fin 3) * 8 + 1 * j.val = j.val; omega
  | ⟨1, _⟩ => show win0_4.index t (1 : Fin 3) * 256 + 1 * r.val = q.val * 6400 + (4096 + R.val); omega
  | ⟨2, _⟩ => show win0_4.index t (2 : Fin 3) * 128 + 1 * a.val = a.val; omega

theorem p5_apply (c : Dev nD) (t : Fin cfg0.N) (r : Fin 256) (q : Fin 4) (hq : q.val = t.val / 4) (R : Fin 1024) (hR : R.val = t.val % 4 * 256 + r.val) (j : Fin 8) (a : Fin 128) :
    iblk m c 5 t (ix3 j r a) = m ((c.tc : Thread nD τ).loc main_arg0) (ix3 j (⟨q.val * 6400 + (5120 + R.val), by omega⟩ : Fin 25600) a) := by
  obtain ⟨e0, e1, e2⟩ := blocks5 t
  show V m c main_arg0 (((cfg0.win 5).blk t).view.emb (ix3 j r a)) = _
  rw [V_main_arg0]
  refine congrArg _ (funext fun b => Fin.ext ?_)
  match b with
  | ⟨0, _⟩ => show win0_5.index t (0 : Fin 3) * 8 + 1 * j.val = j.val; omega
  | ⟨1, _⟩ => show win0_5.index t (1 : Fin 3) * 256 + 1 * r.val = q.val * 6400 + (5120 + R.val); omega
  | ⟨2, _⟩ => show win0_5.index t (2 : Fin 3) * 128 + 1 * a.val = a.val; omega

theorem w_apply (c : Dev nD) (t : Fin cfg0.N) (r : Fin 256) (q : Fin 4) (hq : q.val = t.val / 4) (R : Fin 1024) (hR : R.val = t.val % 4 * 256 + r.val) (l : Fin 704) :
    iblk m c 6 t (ix3 0 r l) = m ((c.tc : Thread nD τ).loc main_arg1) (ix3 q R l) := by
  obtain ⟨e0, e1, e2⟩ := blocks6 t
  show V m c main_arg1 (((cfg0.win 6).blk t).view.emb (ix3 0 r l)) = _
  rw [V_main_arg1]
  refine congrArg _ (funext fun b => Fin.ext ?_)
  match b with
  | ⟨0, _⟩ => show win0_6.index t (0 : Fin 3) * 1 + 1 * 0 = q.val; omega
  | ⟨1, _⟩ => show win0_6.index t (1 : Fin 3) * 256 + 1 * r.val = R.val; omega
  | ⟨2, _⟩ => show win0_6.index t (2 : Fin 3) * 704 + 1 * l.val = l.val; omega

theorem m_apply (c : Dev nD) (t : Fin cfg0.N) (r : Fin 256) (q : Fin 4) (hq : q.val = t.val / 4) (R : Fin 1024) (hR : R.val = t.val % 4 * 256 + r.val) (l : Fin 704) :
    iblk m c 7 t (ix3 0 r l) = m ((c.tc : Thread nD τ).loc main_arg2) (ix3 q R l) := by
  obtain ⟨e0, e1, e2⟩ := blocks7 t
  show V m c main_arg2 (((cfg0.win 7).blk t).view.emb (ix3 0 r l)) = _
  rw [V_main_arg2]
  refine congrArg _ (funext fun b => Fin.ext ?_)
  match b with
  | ⟨0, _⟩ => show win0_7.index t (0 : Fin 3) * 1 + 1 * 0 = q.val; omega
  | ⟨1, _⟩ => show win0_7.index t (1 : Fin 3) * 256 + 1 * r.val = R.val; omega
  | ⟨2, _⟩ => show win0_7.index t (2 : Fin 3) * 704 + 1 * l.val = l.val; omega

theorem v_apply (c : Dev nD) (t : Fin cfg0.N) (r : Fin 256) (q : Fin 4) (hq : q.val = t.val / 4) (R : Fin 1024) (hR : R.val = t.val % 4 * 256 + r.val) (l : Fin 704) :
    iblk m c 8 t (ix3 0 r l) = m ((c.tc : Thread nD τ).loc main_arg3) (ix3 q R l) := by
  obtain ⟨e0, e1, e2⟩ := blocks8 t
  show V m c main_arg3 (((cfg0.win 8).blk t).view.emb (ix3 0 r l)) = _
  rw [V_main_arg3]
  refine congrArg _ (funext fun b => Fin.ext ?_)
  match b with
  | ⟨0, _⟩ => show win0_8.index t (0 : Fin 3) * 1 + 1 * 0 = q.val; omega
  | ⟨1, _⟩ => show win0_8.index t (1 : Fin 3) * 256 + 1 * r.val = R.val; omega
  | ⟨2, _⟩ => show win0_8.index t (2 : Fin 3) * 704 + 1 * l.val = l.val; omega

/-- The kernel's gradient of an entry is the reference's. -/
theorem grad_eq (c : Dev nD) (t : Fin cfg0.N) (r : Fin 256) (q : Fin 4) (hq : q.val = t.val / 4) (R : Fin 1024) (hR : R.val = t.val % 4 * 256 + r.val) (l : Fin 704) :
    gradBlk (iblk m c 0 t) (iblk m c 1 t) (iblk m c 2 t) (iblk m c 3 t) (iblk m c 4 t) (iblk m c 5 t) (iblk m c 6 t) (iblk m c 7 t) (iblk m c 8 t) (ix2 r l) = Cert.Reference23Ideal.Read.val_main_v7 (F := Ideal) (m ((c.tc : Thread nD τ).loc main_arg0)) (ix3 q R l) := by
  refine Eq.trans ?_ (ref_grad (m ((c.tc : Thread nD τ).loc main_arg0)) q R l).symm
  refine grad_apply (iblk m c 0 t) (iblk m c 1 t) (iblk m c 2 t) (iblk m c 3 t) (iblk m c 4 t) (iblk m c 5 t) (iblk m c 6 t) (iblk m c 7 t) (iblk m c 8 t) r l
    (fun j n => m ((c.tc : Thread nD τ).loc main_arg0) (ix3 j (⟨q.val * 6400 + (n.val / 128 * 1024 + R.val), by omega⟩ : Fin 25600) (⟨n.val % 128, by omega⟩ : Fin 128)))
    (fun j a => ?_) (fun j a => ?_) (fun j a => ?_) (fun j a => ?_) (fun j a => ?_) (fun j a => ?_)
  · exact (p0_apply m c t r q hq R hR j a).trans (congrArg _ (Adam.ix3_congr j
        (by show q.val * 6400 + (R.val) = q.val * 6400 + ((a.val) / 128 * 1024 + R.val); omega)
        (by show a.val = (a.val) % 128; omega)))
  · exact (p1_apply m c t r q hq R hR j a).trans (congrArg _ (Adam.ix3_congr j
        (by show q.val * 6400 + (1024 + R.val) = q.val * 6400 + ((128 + a.val) / 128 * 1024 + R.val); omega)
        (by show a.val = (128 + a.val) % 128; omega)))
  · exact (p2_apply m c t r q hq R hR j a).trans (congrArg _ (Adam.ix3_congr j
        (by show q.val * 6400 + (2048 + R.val) = q.val * 6400 + ((256 + a.val) / 128 * 1024 + R.val); omega)
        (by show a.val = (256 + a.val) % 128; omega)))
  · exact (p3_apply m c t r q hq R hR j a).trans (congrArg _ (Adam.ix3_congr j
        (by show q.val * 6400 + (3072 + R.val) = q.val * 6400 + ((384 + a.val) / 128 * 1024 + R.val); omega)
        (by show a.val = (384 + a.val) % 128; omega)))
  · exact (p4_apply m c t r q hq R hR j a).trans (congrArg _ (Adam.ix3_congr j
        (by show q.val * 6400 + (4096 + R.val) = q.val * 6400 + ((512 + a.val) / 128 * 1024 + R.val); omega)
        (by show a.val = (512 + a.val) % 128; omega)))
  · exact (p5_apply m c t r q hq R hR j a).trans (congrArg _ (Adam.ix3_congr j
        (by show q.val * 6400 + (5120 + R.val) = q.val * 6400 + ((640 + a.val) / 128 * 1024 + R.val); omega)
        (by show a.val = (640 + a.val) % 128; omega)))

theorem value_grad (c : Dev nD) :
    (dats m 0 c).arrAt 9 cfg0.N = Cert.Reference23Ideal.Read.val_main_v7 (F := Ideal) (m ((c.tc : Thread nD τ).loc main_arg0)) := by
  funext i
  obtain ⟨q, R, l, rfl⟩ : ∃ (q : Fin 4) (R : Fin 1024) (l : Fin 704), i = ix3 q R l := ⟨i 0, i 1, i 2, (ix3_eta i).symm⟩
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks9 t
  have hi : (ix3 q R l : S4x1024x704.Idx) = ((cfg0.win 9).blk t).view.emb (ix3 0 r l) := by
    refine funext fun b => Fin.ext ?_
    match b with
    | ⟨0, _⟩ => show q.val = win0_9.index t (0 : Fin 3) * 1 + 1 * 0; omega
    | ⟨1, _⟩ => show R.val = win0_9.index t (1 : Fin 3) * 256 + 1 * r.val; omega
    | ⟨2, _⟩ => show l.val = win0_9.index t (2 : Fin 3) * 704 + 1 * l.val; omega
  refine (congrArg _ hi).trans (((dats m 0 c).arrAt_emb_eq_flushed 9 disjoint9 t hf (ix3 0 r l)).trans ?_)
  show (dats m 0 c).flushed 9 t (ix3 0 r l) = _
  rw [flushed9]
  refine (out_grad (iblk m c 0 t) (iblk m c 1 t) (iblk m c 2 t) (iblk m c 3 t) (iblk m c 4 t) (iblk m c 5 t) (iblk m c 6 t) (iblk m c 7 t) (iblk m c 8 t) r l).trans ?_
  rw [grad_eq m c t r q hq R hR l]

theorem value_delta (c : Dev nD) :
    (dats m 0 c).arrAt 10 cfg0.N = Cert.Reference23Ideal.Read.val_main_v31 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, R, l, rfl⟩ : ∃ (q : Fin 4) (R : Fin 1024) (l : Fin 704), i = ix3 q R l := ⟨i 0, i 1, i 2, (ix3_eta i).symm⟩
  refine Eq.trans ?_ (ref_delta _ _ _ _ q R l).symm
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks10 t
  have hi : (ix3 q R l : S4x1024x704.Idx) = ((cfg0.win 10).blk t).view.emb (ix3 0 r l) := by
    refine funext fun b => Fin.ext ?_
    match b with
    | ⟨0, _⟩ => show q.val = win0_10.index t (0 : Fin 3) * 1 + 1 * 0; omega
    | ⟨1, _⟩ => show R.val = win0_10.index t (1 : Fin 3) * 256 + 1 * r.val; omega
    | ⟨2, _⟩ => show l.val = win0_10.index t (2 : Fin 3) * 704 + 1 * l.val; omega
  refine (congrArg _ hi).trans (((dats m 0 c).arrAt_emb_eq_flushed 10 disjoint10 t hf (ix3 0 r l)).trans ?_)
  show (dats m 0 c).flushed 10 t (ix3 0 r l) = _
  rw [flushed10]
  refine (out_delta (iblk m c 0 t) (iblk m c 1 t) (iblk m c 2 t) (iblk m c 3 t) (iblk m c 4 t) (iblk m c 5 t) (iblk m c 6 t) (iblk m c 7 t) (iblk m c 8 t) r l).trans ?_
  rw [grad_eq m c t r q hq R hR l, w_apply m c t r q hq R hR l, m_apply m c t r q hq R hR l, v_apply m c t r q hq R hR l]

theorem value_m2 (c : Dev nD) :
    (dats m 0 c).arrAt 11 cfg0.N = Cert.Reference23Ideal.Read.val_main_v12 (F := Ideal) (m ((c.tc : Thread nD τ).loc main_arg0)) (m ((c.tc : Thread nD τ).loc main_arg2)) := by
  funext i
  obtain ⟨q, R, l, rfl⟩ : ∃ (q : Fin 4) (R : Fin 1024) (l : Fin 704), i = ix3 q R l := ⟨i 0, i 1, i 2, (ix3_eta i).symm⟩
  refine Eq.trans ?_ (ref_m2 _ _ q R l).symm
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks11 t
  have hi : (ix3 q R l : S4x1024x704.Idx) = ((cfg0.win 11).blk t).view.emb (ix3 0 r l) := by
    refine funext fun b => Fin.ext ?_
    match b with
    | ⟨0, _⟩ => show q.val = win0_11.index t (0 : Fin 3) * 1 + 1 * 0; omega
    | ⟨1, _⟩ => show R.val = win0_11.index t (1 : Fin 3) * 256 + 1 * r.val; omega
    | ⟨2, _⟩ => show l.val = win0_11.index t (2 : Fin 3) * 704 + 1 * l.val; omega
  refine (congrArg _ hi).trans (((dats m 0 c).arrAt_emb_eq_flushed 11 disjoint11 t hf (ix3 0 r l)).trans ?_)
  show (dats m 0 c).flushed 11 t (ix3 0 r l) = _
  rw [flushed11]
  refine (out_m2 (iblk m c 0 t) (iblk m c 1 t) (iblk m c 2 t) (iblk m c 3 t) (iblk m c 4 t) (iblk m c 5 t) (iblk m c 6 t) (iblk m c 7 t) (iblk m c 8 t) r l).trans ?_
  rw [grad_eq m c t r q hq R hR l, m_apply m c t r q hq R hR l]

theorem value_v2 (c : Dev nD) :
    (dats m 0 c).arrAt 12 cfg0.N = Cert.Reference23Ideal.Read.val_main_v18 (F := Ideal) (m ((c.tc : Thread nD τ).loc main_arg0)) (m ((c.tc : Thread nD τ).loc main_arg3)) := by
  funext i
  obtain ⟨q, R, l, rfl⟩ : ∃ (q : Fin 4) (R : Fin 1024) (l : Fin 704), i = ix3 q R l := ⟨i 0, i 1, i 2, (ix3_eta i).symm⟩
  refine Eq.trans ?_ (ref_v2 _ _ q R l).symm
  let t : Fin cfg0.N := ⟨q.val * 4 + R.val / 256, by have h : cfg0.N = 16 := N_0; omega⟩
  let r : Fin 256 := ⟨R.val % 256, Nat.mod_lt _ (by decide)⟩
  have hq : q.val = t.val / 4 := by show q.val = (q.val * 4 + R.val / 256) / 4; omega
  have hR : R.val = t.val % 4 * 256 + r.val := by show R.val = (q.val * 4 + R.val / 256) % 4 * 256 + R.val % 256; omega
  obtain ⟨e0, e1, e2, hf⟩ := blocks12 t
  have hi : (ix3 q R l : S4x1024x704.Idx) = ((cfg0.win 12).blk t).view.emb (ix3 0 r l) := by
    refine funext fun b => Fin.ext ?_
    match b with
    | ⟨0, _⟩ => show q.val = win0_12.index t (0 : Fin 3) * 1 + 1 * 0; omega
    | ⟨1, _⟩ => show R.val = win0_12.index t (1 : Fin 3) * 256 + 1 * r.val; omega
    | ⟨2, _⟩ => show l.val = win0_12.index t (2 : Fin 3) * 704 + 1 * l.val; omega
  refine (congrArg _ hi).trans (((dats m 0 c).arrAt_emb_eq_flushed 12 disjoint12 t hf (ix3 0 r l)).trans ?_)
  show (dats m 0 c).flushed 12 t (ix3 0 r l) = _
  rw [flushed12]
  refine (out_v2 (iblk m c 0 t) (iblk m c 1 t) (iblk m c 2 t) (iblk m c 3 t) (iblk m c 4 t) (iblk m c 5 t) (iblk m c 6 t) (iblk m c 7 t) (iblk m c 8 t) r l).trans ?_
  rw [grad_eq m c t r q hq R hR l, v_apply m c t r q hq R hR l]

end Cert.Adam23

end

end
-- ==== Proof.Adam24.lean ====
module

public import Idealize.ShloMosaic.Lib.Pipeline.ValueKit.Tiles
public import proofs.«01_k».proof.Proof.Adam
public import proofs.«01_k».proof.Proof.Gen.Kernel24Ideal.Value
public import proofs.«01_k».proof.Proof.Gen.Reference24Ideal.Read

@[expose] public section

noncomputable section

/-! `adamw_w_ple_in`: a point of the grid is 256 rows of one layer's weight; its gradient lies in a slab of 128 columns. -/

namespace Cert.Adam24

open Cert.Kernel24Ideal Cert.Kernel24Ideal.Gen Cert.Kernel24Ideal.Value
open Idealize.ShloMosaic Idealize.ShloMosaic.TcCoe Idealize.SL.Sem

/-! ## What a point leaves at an index of its blocks -/

section
variable (x0 : Vec Ideal S8x256x128 .bf16) (w m v : Vec Ideal S1x256x128 .f32) (r : Fin 256) (l : Fin 128)

/-- The gradient of an entry, from the slab it lies in. -/
theorem grad_apply (f : Fin 8 → Fin 128 → EReal)
    (h0 : ∀ (j : Fin 8) (a : Fin 128), x0 (ix3 j r a) = f j ⟨a.val, by omega⟩) :
    k0_pay8 x0 w m v (ix2 r l) = Adam.grad fun j => f j ⟨l.val, by omega⟩ := by
  pointwise [k0_pay3, k0_pay8]
  simp only [Adam.grad, Fin.sum_univ_eight, h0]

theorem out_grad : out0_4 x0 w m v (ix3 0 r l) = (k0_pay8 x0 w m v (ix2 r l)) := by
  unfold out0_4
  rw [View.canon_unit_zero (by decide) _ _]
  pointwise [k0_pay1, k0_pay2, k0_pay4, k0_pay5, k0_pay6, k0_pay7]

theorem out_delta : out0_5 x0 w m v (ix3 0 r l) = Adam.delta (k0_pay8 x0 w m v (ix2 r l)) (w (ix3 0 r l)) (m (ix3 0 r l)) (v (ix3 0 r l)) := by
  unfold out0_5
  rw [View.canon_unit_zero (by decide) _ _, View.ld_unit_zero (by decide) _ _, View.ld_unit_zero (by decide) _ _, View.ld_unit_zero (by decide) _ _]
  pointwise [k0_pay1, k0_pay2, k0_pay4, k0_pay5, k0_pay6, k0_pay7, Adam.delta, Adam.m2, Adam.v2]

theorem out_m2 : out0_6 x0 w m v (ix3 0 r l) = Adam.m2 (k0_pay8 x0 w m v (ix2 r l)) (m (ix3 0 r l)) := by
  unfold out0_6
  rw [View.canon_unit_zero (by decide) _ _, View.ld_unit_zero (by decide) _ _]
  pointwise [k0_pay1, k0_pay2, k0_pay4, k0_pay5, k0_pay6, k0_pay7, Adam.m2]

theorem out_v2 : out0_7 x0 w m v (ix3 0 r l) = Adam.v2 (k0_pay8 x0 w m v (ix2 r l)) (v (ix3 0 r l)) := by
  unfold out0_7
  rw [View.canon_unit_zero (by decide) _ _, View.ld_unit_zero (by decide) _ _]
  pointwise [k0_pay1, k0_pay2, k0_pay4, k0_pay5, k0_pay6, k0_pay7, Adam.v2]

end

/-! ## The reference -/

section
open Cert.Reference24Ideal.Read

variable (p : Vec Ideal S8x25600x128 .bf16) (w m v : Vec Ideal S4x256x128 .f32) (q : Fin 4) (r : Fin 256) (l : Fin 128)

theorem ref_grad : val_main_v6 (F := Ideal) p (ix3 q r l) = Adam.grad fun j => p (ix3 j ⟨q.val * 6400 + (6144 + r.val), by omega⟩ ⟨l.val % 128, by omega⟩) := by
  pointwise [val_main_v0, val_main_cst, val_main_v1, val_main_v2, val_main_v3, val_main_v4, val_main_v5, val_main_v6]
  exact Finset.sum_congr rfl fun j _ => congrArg p (Adam.ix3_congr j (by first | rfl | (dsimp only; omega)) (by first | rfl | (dsimp only; omega)))

theorem ref_delta : val_main_v30 (F := Ideal) p w m v (ix3 q r l) = Adam.delta (val_main_v6 (F := Ideal) p (ix3 q r l)) (w (ix3 q r l)) (m (ix3 q r l)) (v (ix3 q r l)) := by
  unfold val_main_v30 val_main_v28 val_main_v27 val_main_v26 val_main_cst_7 val_main_v25 val_main_v24 val_main_v23 val_main_cst_6 val_main_v22 val_main_v21 val_main_v20 val_main_cst_5 val_main_v17 val_main_v16 val_main_v14 val_main_v15 val_main_cst_3 val_main_v13 val_main_v12 val_main_cst_2 val_main_v19 val_main_v18 val_main_cst_4 val_main_v11 val_main_v10 val_main_v9 val_main_cst_1 val_main_v8 val_main_v7 val_main_cst_0 val_main_v29 val_main_cst_8
  generalize val_main_v6 (F := Ideal) p = g
  exact Adam.step_apply _ _ g w m v _ _ _ _ _ _ _ _ _ _

theorem ref_m2 : val_main_v11 (F := Ideal) p m (ix3 q r l) = Adam.m2 (val_main_v6 (F := Ideal) p (ix3 q r l)) (m (ix3 q r l)) := by
  unfold val_main_v11 val_main_v10 val_main_v9 val_main_cst_1 val_main_v8 val_main_v7 val_main_cst_0
  generalize val_main_v6 (F := Ideal) p = g
  exact Adam.mix_apply _ _ g m _ _ _

theorem ref_v2 : val_main_v17 (F := Ideal) p v (ix3 q r l) = Adam.v2 (val_main_v6 (F := Ideal) p (ix3 q r l)) (v (ix3 q r l)) := by
  unfold val_main_v17 val_main_v16 val_main_v14 val_main_v15 val_main_cst_3 val_main_v13 val_main_v12 val_main_cst_2
  generalize val_main_v6 (F := Ideal) p = g
  exact Adam.square_apply _ _ g v _ _ _

end

/-! ## The arrays -/

variable (m : (ℓ : Loc nD τ sig) → Buf (Elt Ideal) ℓ)

/-! Where each window's block lies at a grid point. -/

theorem blocks0 : ∀ t : Fin cfg0.N, win0_0.index t (0 : Fin 3) = 0 ∧ win0_0.index t (1 : Fin 3) = t.val * 25 + 24 ∧ win0_0.index t (2 : Fin 3) = 0 :=
  (by decide +kernel : ∀ t : Fin grid0.N, _)

theorem blocks1 : ∀ t : Fin cfg0.N, win0_1.index t (0 : Fin 3) = t.val ∧ win0_1.index t (1 : Fin 3) = 0 ∧ win0_1.index t (2 : Fin 3) = 0 :=
  (by decide +kernel : ∀ t : Fin grid0.N, _)

theorem blocks2 : ∀ t : Fin cfg0.N, win0_2.index t (0 : Fin 3) = t.val ∧ win0_2.index t (1 : Fin 3) = 0 ∧ win0_2.index t (2 : Fin 3) = 0 :=
  (by decide +kernel : ∀ t : Fin grid0.N, _)

theorem blocks3 : ∀ t : Fin cfg0.N, win0_3.index t (0 : Fin 3) = t.val ∧ win0_3.index t (1 : Fin 3) = 0 ∧ win0_3.index t (2 : Fin 3) = 0 :=
  (by decide +kernel : ∀ t : Fin grid0.N, _)

theorem blocks4 : ∀ t : Fin cfg0.N, win0_4.index t (0 : Fin 3) = t.val ∧ win0_4.index t (1 : Fin 3) = 0 ∧ win0_4.index t (2 : Fin 3) = 0 ∧ (cfg0.win 4).flush t = true :=
  (by decide +kernel : ∀ t : Fin grid0.N, _)

theorem blocks5 : ∀ t : Fin cfg0.N, win0_5.index t (0 : Fin 3) = t.val ∧ win0_5.index t (1 : Fin 3) = 0 ∧ win0_5.index t (2 : Fin 3) = 0 ∧ (cfg0.win 5).flush t = true :=
  (by decide +kernel : ∀ t : Fin grid0.N, _)

theorem blocks6 : ∀ t : Fin cfg0.N, win0_6.index t (0 : Fin 3) = t.val ∧ win0_6.index t (1 : Fin 3) = 0 ∧ win0_6.index t (2 : Fin 3) = 0 ∧ (cfg0.win 6).flush t = true :=
  (by decide +kernel : ∀ t : Fin grid0.N, _)

theorem blocks7 : ∀ t : Fin cfg0.N, win0_7.index t (0 : Fin 3) = t.val ∧ win0_7.index t (1 : Fin 3) = 0 ∧ win0_7.index t (2 : Fin 3) = 0 ∧ (cfg0.win 7).flush t = true :=
  (by decide +kernel : ∀ t : Fin grid0.N, _)

theorem p0_apply (c : Dev nD) (t : Fin cfg0.N) (r : Fin 256) (q : Fin 4) (hq : q.val = t.val) (R : Fin 256) (hR : R.val = r.val) (j : Fin 8) (a : Fin 128) :
    iblk m c 0 t (ix3 j r a) = m ((c.tc : Thread nD τ).loc main_arg0) (ix3 j (⟨q.val * 6400 + (6144 + R.val), by omega⟩ : Fin 25600) a) := by
  obtain ⟨e0, e1, e2⟩ := blocks0 t
  show V m c main_arg0 (((cfg0.win 0).blk t).view.emb (ix3 j r a)) = _
  rw [V_main_arg0]
  refine congrArg _ (funext fun b => Fin.ext ?_)
  match b with
  | ⟨0, _⟩ => show win0_0.index t (0 : Fin 3) * 8 + 1 * j.val = j.val; omega
  | ⟨1, _⟩ => show win0_0.index t (1 : Fin 3) * 256 + 1 * r.val = q.val * 6400 + (6144 + R.val); omega
  | ⟨2, _⟩ => show win0_0.index t (2 : Fin 3) * 128 + 1 * a.val = a.val; omega

theorem w_apply (c : Dev nD) (t : Fin cfg0.N) (r : Fin 256) (q : Fin 4) (hq : q.val = t.val) (R : Fin 256) (hR : R.val = r.val) (l : Fin 128) :
    iblk m c 1 t (ix3 0 r l) = m ((c.tc : Thread nD τ).loc main_arg1) (ix3 q R l) := by
  obtain ⟨e0, e1, e2⟩ := blocks1 t
  show V m c main_arg1 (((cfg0.win 1).blk t).view.emb (ix3 0 r l)) = _
  rw [V_main_arg1]
  refine congrArg _ (funext fun b => Fin.ext ?_)
  match b with
  | ⟨0, _⟩ => show win0_1.index t (0 : Fin 3) * 1 + 1 * 0 = q.val; omega
  | ⟨1, _⟩ => show win0_1.index t (1 : Fin 3) * 256 + 1 * r.val = R.val; omega
  | ⟨2, _⟩ => show win0_1.index t (2 : Fin 3) * 128 + 1 * l.val = l.val; omega

theorem m_apply (c : Dev nD) (t : Fin cfg0.N) (r : Fin 256) (q : Fin 4) (hq : q.val = t.val) (R : Fin 256) (hR : R.val = r.val) (l : Fin 128) :
    iblk m c 2 t (ix3 0 r l) = m ((c.tc : Thread nD τ).loc main_arg2) (ix3 q R l) := by
  obtain ⟨e0, e1, e2⟩ := blocks2 t
  show V m c main_arg2 (((cfg0.win 2).blk t).view.emb (ix3 0 r l)) = _
  rw [V_main_arg2]
  refine congrArg _ (funext fun b => Fin.ext ?_)
  match b with
  | ⟨0, _⟩ => show win0_2.index t (0 : Fin 3) * 1 + 1 * 0 = q.val; omega
  | ⟨1, _⟩ => show win0_2.index t (1 : Fin 3) * 256 + 1 * r.val = R.val; omega
  | ⟨2, _⟩ => show win0_2.index t (2 : Fin 3) * 128 + 1 * l.val = l.val; omega

theorem v_apply (c : Dev nD) (t : Fin cfg0.N) (r : Fin 256) (q : Fin 4) (hq : q.val = t.val) (R : Fin 256) (hR : R.val = r.val) (l : Fin 128) :
    iblk m c 3 t (ix3 0 r l) = m ((c.tc : Thread nD τ).loc main_arg3) (ix3 q R l) := by
  obtain ⟨e0, e1, e2⟩ := blocks3 t
  show V m c main_arg3 (((cfg0.win 3).blk t).view.emb (ix3 0 r l)) = _
  rw [V_main_arg3]
  refine congrArg _ (funext fun b => Fin.ext ?_)
  match b with
  | ⟨0, _⟩ => show win0_3.index t (0 : Fin 3) * 1 + 1 * 0 = q.val; omega
  | ⟨1, _⟩ => show win0_3.index t (1 : Fin 3) * 256 + 1 * r.val = R.val; omega
  | ⟨2, _⟩ => show win0_3.index t (2 : Fin 3) * 128 + 1 * l.val = l.val; omega

/-- The kernel's gradient of an entry is the reference's. -/
theorem grad_eq (c : Dev nD) (t : Fin cfg0.N) (r : Fin 256) (q : Fin 4) (hq : q.val = t.val) (R : Fin 256) (hR : R.val = r.val) (l : Fin 128) :
    k0_pay8 (iblk m c 0 t) (iblk m c 1 t) (iblk m c 2 t) (iblk m c 3 t) (ix2 r l) = Cert.Reference24Ideal.Read.val_main_v6 (F := Ideal) (m ((c.tc : Thread nD τ).loc main_arg0)) (ix3 q R l) := by
  refine Eq.trans ?_ (ref_grad (m ((c.tc : Thread nD τ).loc main_arg0)) q R l).symm
  refine grad_apply (iblk m c 0 t) (iblk m c 1 t) (iblk m c 2 t) (iblk m c 3 t) r l
    (fun j n => m ((c.tc : Thread nD τ).loc main_arg0) (ix3 j (⟨q.val * 6400 + (6144 + R.val), by omega⟩ : Fin 25600) (⟨n.val % 128, by omega⟩ : Fin 128)))
    (fun j a => ?_)
  · exact (p0_apply m c t r q hq R hR j a).trans (congrArg _ (Adam.ix3_congr j
        (by show q.val * 6400 + (6144 + R.val) = q.val * 6400 + (6144 + R.val); omega)
        (by show a.val = (a.val) % 128; omega)))

theorem value_grad (c : Dev nD) :
    (dats m 0 c).arrAt 4 cfg0.N = Cert.Reference24Ideal.Read.val_main_v6 (F := Ideal) (m ((c.tc : Thread nD τ).loc main_arg0)) := by
  funext i
  obtain ⟨q, R, l, rfl⟩ : ∃ (q : Fin 4) (R : Fin 256) (l : Fin 128), i = ix3 q R l := ⟨i 0, i 1, i 2, (ix3_eta i).symm⟩
  let t : Fin cfg0.N := ⟨q.val, by have h : cfg0.N = 4 := N_0; omega⟩
  let r : Fin 256 := R
  have hq : q.val = t.val := rfl
  have hR : R.val = r.val := rfl
  obtain ⟨e0, e1, e2, hf⟩ := blocks4 t
  have hi : (ix3 q R l : S4x256x128.Idx) = ((cfg0.win 4).blk t).view.emb (ix3 0 r l) := by
    refine funext fun b => Fin.ext ?_
    match b with
    | ⟨0, _⟩ => show q.val = win0_4.index t (0 : Fin 3) * 1 + 1 * 0; omega
    | ⟨1, _⟩ => show R.val = win0_4.index t (1 : Fin 3) * 256 + 1 * r.val; omega
    | ⟨2, _⟩ => show l.val = win0_4.index t (2 : Fin 3) * 128 + 1 * l.val; omega
  refine (congrArg _ hi).trans (((dats m 0 c).arrAt_emb_eq_flushed 4 disjoint4 t hf (ix3 0 r l)).trans ?_)
  show (dats m 0 c).flushed 4 t (ix3 0 r l) = _
  rw [flushed4]
  refine (out_grad (iblk m c 0 t) (iblk m c 1 t) (iblk m c 2 t) (iblk m c 3 t) r l).trans ?_
  rw [grad_eq m c t r q hq R hR l]

theorem value_delta (c : Dev nD) :
    (dats m 0 c).arrAt 5 cfg0.N = Cert.Reference24Ideal.Read.val_main_v30 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, R, l, rfl⟩ : ∃ (q : Fin 4) (R : Fin 256) (l : Fin 128), i = ix3 q R l := ⟨i 0, i 1, i 2, (ix3_eta i).symm⟩
  refine Eq.trans ?_ (ref_delta _ _ _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks5 t
  have hi : (ix3 q R l : S4x256x128.Idx) = ((cfg0.win 5).blk t).view.emb (ix3 0 r l) := by
    refine funext fun b => Fin.ext ?_
    match b with
    | ⟨0, _⟩ => show q.val = win0_5.index t (0 : Fin 3) * 1 + 1 * 0; omega
    | ⟨1, _⟩ => show R.val = win0_5.index t (1 : Fin 3) * 256 + 1 * r.val; omega
    | ⟨2, _⟩ => show l.val = win0_5.index t (2 : Fin 3) * 128 + 1 * l.val; omega
  refine (congrArg _ hi).trans (((dats m 0 c).arrAt_emb_eq_flushed 5 disjoint5 t hf (ix3 0 r l)).trans ?_)
  show (dats m 0 c).flushed 5 t (ix3 0 r l) = _
  rw [flushed5]
  refine (out_delta (iblk m c 0 t) (iblk m c 1 t) (iblk m c 2 t) (iblk m c 3 t) r l).trans ?_
  rw [grad_eq m c t r q hq R hR l, w_apply m c t r q hq R hR l, m_apply m c t r q hq R hR l, v_apply m c t r q hq R hR l]

theorem value_m2 (c : Dev nD) :
    (dats m 0 c).arrAt 6 cfg0.N = Cert.Reference24Ideal.Read.val_main_v11 (F := Ideal) (m ((c.tc : Thread nD τ).loc main_arg0)) (m ((c.tc : Thread nD τ).loc main_arg2)) := by
  funext i
  obtain ⟨q, R, l, rfl⟩ : ∃ (q : Fin 4) (R : Fin 256) (l : Fin 128), i = ix3 q R l := ⟨i 0, i 1, i 2, (ix3_eta i).symm⟩
  refine Eq.trans ?_ (ref_m2 _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks6 t
  have hi : (ix3 q R l : S4x256x128.Idx) = ((cfg0.win 6).blk t).view.emb (ix3 0 r l) := by
    refine funext fun b => Fin.ext ?_
    match b with
    | ⟨0, _⟩ => show q.val = win0_6.index t (0 : Fin 3) * 1 + 1 * 0; omega
    | ⟨1, _⟩ => show R.val = win0_6.index t (1 : Fin 3) * 256 + 1 * r.val; omega
    | ⟨2, _⟩ => show l.val = win0_6.index t (2 : Fin 3) * 128 + 1 * l.val; omega
  refine (congrArg _ hi).trans (((dats m 0 c).arrAt_emb_eq_flushed 6 disjoint6 t hf (ix3 0 r l)).trans ?_)
  show (dats m 0 c).flushed 6 t (ix3 0 r l) = _
  rw [flushed6]
  refine (out_m2 (iblk m c 0 t) (iblk m c 1 t) (iblk m c 2 t) (iblk m c 3 t) r l).trans ?_
  rw [grad_eq m c t r q hq R hR l, m_apply m c t r q hq R hR l]

theorem value_v2 (c : Dev nD) :
    (dats m 0 c).arrAt 7 cfg0.N = Cert.Reference24Ideal.Read.val_main_v17 (F := Ideal) (m ((c.tc : Thread nD τ).loc main_arg0)) (m ((c.tc : Thread nD τ).loc main_arg3)) := by
  funext i
  obtain ⟨q, R, l, rfl⟩ : ∃ (q : Fin 4) (R : Fin 256) (l : Fin 128), i = ix3 q R l := ⟨i 0, i 1, i 2, (ix3_eta i).symm⟩
  refine Eq.trans ?_ (ref_v2 _ _ q R l).symm
  let t : Fin cfg0.N := ⟨q.val, by have h : cfg0.N = 4 := N_0; omega⟩
  let r : Fin 256 := R
  have hq : q.val = t.val := rfl
  have hR : R.val = r.val := rfl
  obtain ⟨e0, e1, e2, hf⟩ := blocks7 t
  have hi : (ix3 q R l : S4x256x128.Idx) = ((cfg0.win 7).blk t).view.emb (ix3 0 r l) := by
    refine funext fun b => Fin.ext ?_
    match b with
    | ⟨0, _⟩ => show q.val = win0_7.index t (0 : Fin 3) * 1 + 1 * 0; omega
    | ⟨1, _⟩ => show R.val = win0_7.index t (1 : Fin 3) * 256 + 1 * r.val; omega
    | ⟨2, _⟩ => show l.val = win0_7.index t (2 : Fin 3) * 128 + 1 * l.val; omega
  refine (congrArg _ hi).trans (((dats m 0 c).arrAt_emb_eq_flushed 7 disjoint7 t hf (ix3 0 r l)).trans ?_)
  show (dats m 0 c).flushed 7 t (ix3 0 r l) = _
  rw [flushed7]
  refine (out_v2 (iblk m c 0 t) (iblk m c 1 t) (iblk m c 2 t) (iblk m c 3 t) r l).trans ?_
  rw [grad_eq m c t r q hq R hR l, v_apply m c t r q hq R hR l]

end Cert.Adam24

end

end
-- ==== Proof.Adam25.lean ====
module

public import Idealize.ShloMosaic.Lib.Pipeline.ValueKit.Tiles
public import proofs.«01_k».proof.Proof.Adam
public import proofs.«01_k».proof.Proof.Gen.Kernel25Ideal.Value
public import proofs.«01_k».proof.Proof.Gen.Reference25Ideal.Read

@[expose] public section

noncomputable section

/-! `adamw_conv`: a point of the grid is one layer's taps. -/

namespace Cert.Adam25

open Cert.Kernel25Ideal Cert.Kernel25Ideal.Gen Cert.Kernel25Ideal.Value
open Idealize.ShloMosaic Idealize.ShloMosaic.TcCoe Idealize.SL.Sem

/-! ## What a point leaves at an index of its blocks -/

section
variable (x0 : Vec Ideal S8x32x128 .bf16) (w m v : Vec Ideal S1x31x32 .f32) (r : Fin 31) (l : Fin 32)

/-- The gradient of an entry, from the slab it lies in. -/
theorem grad_apply (f : Fin 8 → Fin 128 → EReal)
    (h0 : ∀ (j : Fin 8) (a : Fin 128), x0 (ix3 j (⟨r.val, by omega⟩ : Fin 32) a) = f j ⟨a.val, by omega⟩) :
    k0_pay8 x0 w m v (ix2 r l) = Adam.grad fun j => f j ⟨l.val, by omega⟩ := by
  pointwise [k0_pay3, k0_pay8]
  simp only [Adam.grad, Fin.sum_univ_eight, h0]

theorem out_grad : out0_4 x0 w m v (ix3 0 r l) = (k0_pay8 x0 w m v (ix2 r l)) := by
  unfold out0_4
  rw [View.canon_unit_zero (by decide) _ _]
  pointwise [k0_pay1, k0_pay2, k0_pay4, k0_pay5, k0_pay6, k0_pay7]

theorem out_delta : out0_5 x0 w m v (ix3 0 r l) = Adam.delta (k0_pay8 x0 w m v (ix2 r l)) (w (ix3 0 r l)) (m (ix3 0 r l)) (v (ix3 0 r l)) := by
  unfold out0_5
  rw [View.canon_unit_zero (by decide) _ _, View.ld_unit_zero (by decide) _ _, View.ld_unit_zero (by decide) _ _, View.ld_unit_zero (by decide) _ _]
  pointwise [k0_pay1, k0_pay2, k0_pay4, k0_pay5, k0_pay6, k0_pay7, Adam.delta, Adam.m2, Adam.v2]

theorem out_m2 : out0_6 x0 w m v (ix3 0 r l) = Adam.m2 (k0_pay8 x0 w m v (ix2 r l)) (m (ix3 0 r l)) := by
  unfold out0_6
  rw [View.canon_unit_zero (by decide) _ _, View.ld_unit_zero (by decide) _ _]
  pointwise [k0_pay1, k0_pay2, k0_pay4, k0_pay5, k0_pay6, k0_pay7, Adam.m2]

theorem out_v2 : out0_7 x0 w m v (ix3 0 r l) = Adam.v2 (k0_pay8 x0 w m v (ix2 r l)) (v (ix3 0 r l)) := by
  unfold out0_7
  rw [View.canon_unit_zero (by decide) _ _, View.ld_unit_zero (by decide) _ _]
  pointwise [k0_pay1, k0_pay2, k0_pay4, k0_pay5, k0_pay6, k0_pay7, Adam.v2]

end

/-! ## The reference -/

section
open Cert.Reference25Ideal.Read

variable (p : Vec Ideal S8x26624x128 .bf16) (w m v : Vec Ideal S4x31x32 .f32) (q : Fin 4) (r : Fin 31) (l : Fin 32)

theorem ref_grad : val_main_v3 (F := Ideal) p (ix3 q r l) = Adam.grad fun j => p (ix3 j ⟨q.val * 6656 + (6400 + r.val), by omega⟩ ⟨l.val % 128, by omega⟩) := by
  pointwise [val_main_v0, val_main_cst, val_main_v1, val_main_v2, val_main_v3]
  exact Finset.sum_congr rfl fun j _ => congrArg p (Adam.ix3_congr j (by first | rfl | (dsimp only; omega)) (by first | rfl | (dsimp only; omega)))

theorem ref_delta : val_main_v27 (F := Ideal) p w m v (ix3 q r l) = Adam.delta (val_main_v3 (F := Ideal) p (ix3 q r l)) (w (ix3 q r l)) (m (ix3 q r l)) (v (ix3 q r l)) := by
  unfold val_main_v27 val_main_v25 val_main_v24 val_main_v23 val_main_cst_7 val_main_v22 val_main_v21 val_main_v20 val_main_cst_6 val_main_v19 val_main_v18 val_main_v17 val_main_cst_5 val_main_v14 val_main_v13 val_main_v11 val_main_v12 val_main_cst_3 val_main_v10 val_main_v9 val_main_cst_2 val_main_v16 val_main_v15 val_main_cst_4 val_main_v8 val_main_v7 val_main_v6 val_main_cst_1 val_main_v5 val_main_v4 val_main_cst_0 val_main_v26 val_main_cst_8
  generalize val_main_v3 (F := Ideal) p = g
  exact Adam.step_apply _ _ g w m v _ _ _ _ _ _ _ _ _ _

theorem ref_m2 : val_main_v8 (F := Ideal) p m (ix3 q r l) = Adam.m2 (val_main_v3 (F := Ideal) p (ix3 q r l)) (m (ix3 q r l)) := by
  unfold val_main_v8 val_main_v7 val_main_v6 val_main_cst_1 val_main_v5 val_main_v4 val_main_cst_0
  generalize val_main_v3 (F := Ideal) p = g
  exact Adam.mix_apply _ _ g m _ _ _

theorem ref_v2 : val_main_v14 (F := Ideal) p v (ix3 q r l) = Adam.v2 (val_main_v3 (F := Ideal) p (ix3 q r l)) (v (ix3 q r l)) := by
  unfold val_main_v14 val_main_v13 val_main_v11 val_main_v12 val_main_cst_3 val_main_v10 val_main_v9 val_main_cst_2
  generalize val_main_v3 (F := Ideal) p = g
  exact Adam.square_apply _ _ g v _ _ _

end

/-! ## The arrays -/

variable (m : (ℓ : Loc nD τ sig) → Buf (Elt Ideal) ℓ)

/-! Where each window's block lies at a grid point. -/

theorem blocks0 : ∀ t : Fin cfg0.N, win0_0.index t (0 : Fin 3) = 0 ∧ win0_0.index t (1 : Fin 3) = t.val * 208 + 200 ∧ win0_0.index t (2 : Fin 3) = 0 :=
  (by decide +kernel : ∀ t : Fin grid0.N, _)

theorem blocks1 : ∀ t : Fin cfg0.N, win0_1.index t (0 : Fin 3) = t.val ∧ win0_1.index t (1 : Fin 3) = 0 ∧ win0_1.index t (2 : Fin 3) = 0 :=
  (by decide +kernel : ∀ t : Fin grid0.N, _)

theorem blocks2 : ∀ t : Fin cfg0.N, win0_2.index t (0 : Fin 3) = t.val ∧ win0_2.index t (1 : Fin 3) = 0 ∧ win0_2.index t (2 : Fin 3) = 0 :=
  (by decide +kernel : ∀ t : Fin grid0.N, _)

theorem blocks3 : ∀ t : Fin cfg0.N, win0_3.index t (0 : Fin 3) = t.val ∧ win0_3.index t (1 : Fin 3) = 0 ∧ win0_3.index t (2 : Fin 3) = 0 :=
  (by decide +kernel : ∀ t : Fin grid0.N, _)

theorem blocks4 : ∀ t : Fin cfg0.N, win0_4.index t (0 : Fin 3) = t.val ∧ win0_4.index t (1 : Fin 3) = 0 ∧ win0_4.index t (2 : Fin 3) = 0 ∧ (cfg0.win 4).flush t = true :=
  (by decide +kernel : ∀ t : Fin grid0.N, _)

theorem blocks5 : ∀ t : Fin cfg0.N, win0_5.index t (0 : Fin 3) = t.val ∧ win0_5.index t (1 : Fin 3) = 0 ∧ win0_5.index t (2 : Fin 3) = 0 ∧ (cfg0.win 5).flush t = true :=
  (by decide +kernel : ∀ t : Fin grid0.N, _)

theorem blocks6 : ∀ t : Fin cfg0.N, win0_6.index t (0 : Fin 3) = t.val ∧ win0_6.index t (1 : Fin 3) = 0 ∧ win0_6.index t (2 : Fin 3) = 0 ∧ (cfg0.win 6).flush t = true :=
  (by decide +kernel : ∀ t : Fin grid0.N, _)

theorem blocks7 : ∀ t : Fin cfg0.N, win0_7.index t (0 : Fin 3) = t.val ∧ win0_7.index t (1 : Fin 3) = 0 ∧ win0_7.index t (2 : Fin 3) = 0 ∧ (cfg0.win 7).flush t = true :=
  (by decide +kernel : ∀ t : Fin grid0.N, _)

theorem p0_apply (c : Dev nD) (t : Fin cfg0.N) (r : Fin 31) (q : Fin 4) (hq : q.val = t.val) (R : Fin 31) (hR : R.val = r.val) (j : Fin 8) (a : Fin 128) :
    iblk m c 0 t (ix3 j (⟨r.val, by omega⟩ : Fin 32) a) = m ((c.tc : Thread nD τ).loc main_arg0) (ix3 j (⟨q.val * 6656 + (6400 + R.val), by omega⟩ : Fin 26624) a) := by
  obtain ⟨e0, e1, e2⟩ := blocks0 t
  show V m c main_arg0 (((cfg0.win 0).blk t).view.emb (ix3 j (⟨r.val, by omega⟩ : Fin 32) a)) = _
  rw [V_main_arg0]
  refine congrArg _ (funext fun b => Fin.ext ?_)
  match b with
  | ⟨0, _⟩ => show win0_0.index t (0 : Fin 3) * 8 + 1 * j.val = j.val; omega
  | ⟨1, _⟩ => show win0_0.index t (1 : Fin 3) * 32 + 1 * r.val = q.val * 6656 + (6400 + R.val); omega
  | ⟨2, _⟩ => show win0_0.index t (2 : Fin 3) * 128 + 1 * a.val = a.val; omega

theorem w_apply (c : Dev nD) (t : Fin cfg0.N) (r : Fin 31) (q : Fin 4) (hq : q.val = t.val) (R : Fin 31) (hR : R.val = r.val) (l : Fin 32) :
    iblk m c 1 t (ix3 0 r l) = m ((c.tc : Thread nD τ).loc main_arg1) (ix3 q R l) := by
  obtain ⟨e0, e1, e2⟩ := blocks1 t
  show V m c main_arg1 (((cfg0.win 1).blk t).view.emb (ix3 0 r l)) = _
  rw [V_main_arg1]
  refine congrArg _ (funext fun b => Fin.ext ?_)
  match b with
  | ⟨0, _⟩ => show win0_1.index t (0 : Fin 3) * 1 + 1 * 0 = q.val; omega
  | ⟨1, _⟩ => show win0_1.index t (1 : Fin 3) * 31 + 1 * r.val = R.val; omega
  | ⟨2, _⟩ => show win0_1.index t (2 : Fin 3) * 32 + 1 * l.val = l.val; omega

theorem m_apply (c : Dev nD) (t : Fin cfg0.N) (r : Fin 31) (q : Fin 4) (hq : q.val = t.val) (R : Fin 31) (hR : R.val = r.val) (l : Fin 32) :
    iblk m c 2 t (ix3 0 r l) = m ((c.tc : Thread nD τ).loc main_arg2) (ix3 q R l) := by
  obtain ⟨e0, e1, e2⟩ := blocks2 t
  show V m c main_arg2 (((cfg0.win 2).blk t).view.emb (ix3 0 r l)) = _
  rw [V_main_arg2]
  refine congrArg _ (funext fun b => Fin.ext ?_)
  match b with
  | ⟨0, _⟩ => show win0_2.index t (0 : Fin 3) * 1 + 1 * 0 = q.val; omega
  | ⟨1, _⟩ => show win0_2.index t (1 : Fin 3) * 31 + 1 * r.val = R.val; omega
  | ⟨2, _⟩ => show win0_2.index t (2 : Fin 3) * 32 + 1 * l.val = l.val; omega

theorem v_apply (c : Dev nD) (t : Fin cfg0.N) (r : Fin 31) (q : Fin 4) (hq : q.val = t.val) (R : Fin 31) (hR : R.val = r.val) (l : Fin 32) :
    iblk m c 3 t (ix3 0 r l) = m ((c.tc : Thread nD τ).loc main_arg3) (ix3 q R l) := by
  obtain ⟨e0, e1, e2⟩ := blocks3 t
  show V m c main_arg3 (((cfg0.win 3).blk t).view.emb (ix3 0 r l)) = _
  rw [V_main_arg3]
  refine congrArg _ (funext fun b => Fin.ext ?_)
  match b with
  | ⟨0, _⟩ => show win0_3.index t (0 : Fin 3) * 1 + 1 * 0 = q.val; omega
  | ⟨1, _⟩ => show win0_3.index t (1 : Fin 3) * 31 + 1 * r.val = R.val; omega
  | ⟨2, _⟩ => show win0_3.index t (2 : Fin 3) * 32 + 1 * l.val = l.val; omega

/-- The kernel's gradient of an entry is the reference's. -/
theorem grad_eq (c : Dev nD) (t : Fin cfg0.N) (r : Fin 31) (q : Fin 4) (hq : q.val = t.val) (R : Fin 31) (hR : R.val = r.val) (l : Fin 32) :
    k0_pay8 (iblk m c 0 t) (iblk m c 1 t) (iblk m c 2 t) (iblk m c 3 t) (ix2 r l) = Cert.Reference25Ideal.Read.val_main_v3 (F := Ideal) (m ((c.tc : Thread nD τ).loc main_arg0)) (ix3 q R l) := by
  refine Eq.trans ?_ (ref_grad (m ((c.tc : Thread nD τ).loc main_arg0)) q R l).symm
  refine grad_apply (iblk m c 0 t) (iblk m c 1 t) (iblk m c 2 t) (iblk m c 3 t) r l
    (fun j n => m ((c.tc : Thread nD τ).loc main_arg0) (ix3 j (⟨q.val * 6656 + (6400 + R.val), by omega⟩ : Fin 26624) (⟨n.val % 128, by omega⟩ : Fin 128)))
    (fun j a => ?_)
  · exact (p0_apply m c t r q hq R hR j a).trans (congrArg _ (Adam.ix3_congr j
        (by show q.val * 6656 + (6400 + R.val) = q.val * 6656 + (6400 + R.val); omega)
        (by show a.val = (a.val) % 128; omega)))

theorem value_grad (c : Dev nD) :
    (dats m 0 c).arrAt 4 cfg0.N = Cert.Reference25Ideal.Read.val_main_v3 (F := Ideal) (m ((c.tc : Thread nD τ).loc main_arg0)) := by
  funext i
  obtain ⟨q, R, l, rfl⟩ : ∃ (q : Fin 4) (R : Fin 31) (l : Fin 32), i = ix3 q R l := ⟨i 0, i 1, i 2, (ix3_eta i).symm⟩
  let t : Fin cfg0.N := ⟨q.val, by have h : cfg0.N = 4 := N_0; omega⟩
  let r : Fin 31 := R
  have hq : q.val = t.val := rfl
  have hR : R.val = r.val := rfl
  obtain ⟨e0, e1, e2, hf⟩ := blocks4 t
  have hi : (ix3 q R l : S4x31x32.Idx) = ((cfg0.win 4).blk t).view.emb (ix3 0 r l) := by
    refine funext fun b => Fin.ext ?_
    match b with
    | ⟨0, _⟩ => show q.val = win0_4.index t (0 : Fin 3) * 1 + 1 * 0; omega
    | ⟨1, _⟩ => show R.val = win0_4.index t (1 : Fin 3) * 31 + 1 * r.val; omega
    | ⟨2, _⟩ => show l.val = win0_4.index t (2 : Fin 3) * 32 + 1 * l.val; omega
  refine (congrArg _ hi).trans (((dats m 0 c).arrAt_emb_eq_flushed 4 disjoint4 t hf (ix3 0 r l)).trans ?_)
  show (dats m 0 c).flushed 4 t (ix3 0 r l) = _
  rw [flushed4]
  refine (out_grad (iblk m c 0 t) (iblk m c 1 t) (iblk m c 2 t) (iblk m c 3 t) r l).trans ?_
  rw [grad_eq m c t r q hq R hR l]

theorem value_delta (c : Dev nD) :
    (dats m 0 c).arrAt 5 cfg0.N = Cert.Reference25Ideal.Read.val_main_v27 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨q, R, l, rfl⟩ : ∃ (q : Fin 4) (R : Fin 31) (l : Fin 32), i = ix3 q R l := ⟨i 0, i 1, i 2, (ix3_eta i).symm⟩
  refine Eq.trans ?_ (ref_delta _ _ _ _ q R l).symm
  let t : Fin cfg0.N := ⟨q.val, by have h : cfg0.N = 4 := N_0; omega⟩
  let r : Fin 31 := R
  have hq : q.val = t.val := rfl
  have hR : R.val = r.val := rfl
  obtain ⟨e0, e1, e2, hf⟩ := blocks5 t
  have hi : (ix3 q R l : S4x31x32.Idx) = ((cfg0.win 5).blk t).view.emb (ix3 0 r l) := by
    refine funext fun b => Fin.ext ?_
    match b with
    | ⟨0, _⟩ => show q.val = win0_5.index t (0 : Fin 3) * 1 + 1 * 0; omega
    | ⟨1, _⟩ => show R.val = win0_5.index t (1 : Fin 3) * 31 + 1 * r.val; omega
    | ⟨2, _⟩ => show l.val = win0_5.index t (2 : Fin 3) * 32 + 1 * l.val; omega
  refine (congrArg _ hi).trans (((dats m 0 c).arrAt_emb_eq_flushed 5 disjoint5 t hf (ix3 0 r l)).trans ?_)
  show (dats m 0 c).flushed 5 t (ix3 0 r l) = _
  rw [flushed5]
  refine (out_delta (iblk m c 0 t) (iblk m c 1 t) (iblk m c 2 t) (iblk m c 3 t) r l).trans ?_
  rw [grad_eq m c t r q hq R hR l, w_apply m c t r q hq R hR l, m_apply m c t r q hq R hR l, v_apply m c t r q hq R hR l]

theorem value_m2 (c : Dev nD) :
    (dats m 0 c).arrAt 6 cfg0.N = Cert.Reference25Ideal.Read.val_main_v8 (F := Ideal) (m ((c.tc : Thread nD τ).loc main_arg0)) (m ((c.tc : Thread nD τ).loc main_arg2)) := by
  funext i
  obtain ⟨q, R, l, rfl⟩ : ∃ (q : Fin 4) (R : Fin 31) (l : Fin 32), i = ix3 q R l := ⟨i 0, i 1, i 2, (ix3_eta i).symm⟩
  refine Eq.trans ?_ (ref_m2 _ _ q R l).symm
  let t : Fin cfg0.N := ⟨q.val, by have h : cfg0.N = 4 := N_0; omega⟩
  let r : Fin 31 := R
  have hq : q.val = t.val := rfl
  have hR : R.val = r.val := rfl
  obtain ⟨e0, e1, e2, hf⟩ := blocks6 t
  have hi : (ix3 q R l : S4x31x32.Idx) = ((cfg0.win 6).blk t).view.emb (ix3 0 r l) := by
    refine funext fun b => Fin.ext ?_
    match b with
    | ⟨0, _⟩ => show q.val = win0_6.index t (0 : Fin 3) * 1 + 1 * 0; omega
    | ⟨1, _⟩ => show R.val = win0_6.index t (1 : Fin 3) * 31 + 1 * r.val; omega
    | ⟨2, _⟩ => show l.val = win0_6.index t (2 : Fin 3) * 32 + 1 * l.val; omega
  refine (congrArg _ hi).trans (((dats m 0 c).arrAt_emb_eq_flushed 6 disjoint6 t hf (ix3 0 r l)).trans ?_)
  show (dats m 0 c).flushed 6 t (ix3 0 r l) = _
  rw [flushed6]
  refine (out_m2 (iblk m c 0 t) (iblk m c 1 t) (iblk m c 2 t) (iblk m c 3 t) r l).trans ?_
  rw [grad_eq m c t r q hq R hR l, m_apply m c t r q hq R hR l]

theorem value_v2 (c : Dev nD) :
    (dats m 0 c).arrAt 7 cfg0.N = Cert.Reference25Ideal.Read.val_main_v14 (F := Ideal) (m ((c.tc : Thread nD τ).loc main_arg0)) (m ((c.tc : Thread nD τ).loc main_arg3)) := by
  funext i
  obtain ⟨q, R, l, rfl⟩ : ∃ (q : Fin 4) (R : Fin 31) (l : Fin 32), i = ix3 q R l := ⟨i 0, i 1, i 2, (ix3_eta i).symm⟩
  refine Eq.trans ?_ (ref_v2 _ _ q R l).symm
  let t : Fin cfg0.N := ⟨q.val, by have h : cfg0.N = 4 := N_0; omega⟩
  let r : Fin 31 := R
  have hq : q.val = t.val := rfl
  have hR : R.val = r.val := rfl
  obtain ⟨e0, e1, e2, hf⟩ := blocks7 t
  have hi : (ix3 q R l : S4x31x32.Idx) = ((cfg0.win 7).blk t).view.emb (ix3 0 r l) := by
    refine funext fun b => Fin.ext ?_
    match b with
    | ⟨0, _⟩ => show q.val = win0_7.index t (0 : Fin 3) * 1 + 1 * 0; omega
    | ⟨1, _⟩ => show R.val = win0_7.index t (1 : Fin 3) * 31 + 1 * r.val; omega
    | ⟨2, _⟩ => show l.val = win0_7.index t (2 : Fin 3) * 32 + 1 * l.val; omega
  refine (congrArg _ hi).trans (((dats m 0 c).arrAt_emb_eq_flushed 7 disjoint7 t hf (ix3 0 r l)).trans ?_)
  show (dats m 0 c).flushed 7 t (ix3 0 r l) = _
  rw [flushed7]
  refine (out_v2 (iblk m c 0 t) (iblk m c 1 t) (iblk m c 2 t) (iblk m c 3 t) r l).trans ?_
  rw [grad_eq m c t r q hq R hR l, v_apply m c t r q hq R hR l]

end Cert.Adam25

end

end
-- ==== Proof.AlgebraicAdam.lean ====
/- The optimiser's kernels and their references end with equal results at the ideal instance. -/
module

public import proofs.«01_k».proof.Defs
public import proofs.«01_k».proof.Proof.Adam16
public import proofs.«01_k».proof.Proof.Gen.Reference16Ideal.Run
public import proofs.«01_k».proof.Proof.Adam17
public import proofs.«01_k».proof.Proof.Gen.Reference17Ideal.Run
public import proofs.«01_k».proof.Proof.Adam18
public import proofs.«01_k».proof.Proof.Gen.Reference18Ideal.Run
public import proofs.«01_k».proof.Proof.Adam19
public import proofs.«01_k».proof.Proof.Gen.Reference19Ideal.Run
public import proofs.«01_k».proof.Proof.Adam20
public import proofs.«01_k».proof.Proof.Gen.Reference20Ideal.Run
public import proofs.«01_k».proof.Proof.Adam21
public import proofs.«01_k».proof.Proof.Gen.Reference21Ideal.Run
public import proofs.«01_k».proof.Proof.Adam22
public import proofs.«01_k».proof.Proof.Gen.Reference22Ideal.Run
public import proofs.«01_k».proof.Proof.Adam23
public import proofs.«01_k».proof.Proof.Gen.Reference23Ideal.Run
public import proofs.«01_k».proof.Proof.Adam24
public import proofs.«01_k».proof.Proof.Gen.Reference24Ideal.Run
public import proofs.«01_k».proof.Proof.Adam25
public import proofs.«01_k».proof.Proof.Gen.Reference25Ideal.Run

@[expose] public section

noncomputable section

namespace Cert.Algebraic

open Idealize.ShloMosaic Idealize.SL.Sem

/-- The step of the replicated weights. -/
theorem agree16 : algebraic_Kernel16Ideal_Reference16Ideal (hKernel16Ideal := Cert.Kernel16Ideal.Gen.facts) (hReference16Ideal := Cert.Reference16Ideal.Gen.facts) := by
  intro m ρ m' ρ' _ hm
  refine ⟨_, _, _, _, (θ_run _ _ _).mono (fun r h c => ⟨(h c).1.trans (Cert.Adam16.value_grad m c), (h c).2.1.trans (Cert.Adam16.value_delta m c), (h c).2.2.1.trans (Cert.Adam16.value_m2 m c), (h c).2.2.2.1.trans (Cert.Adam16.value_v2 m c), (h c).2.2.2.2⟩)
      (Cert.Kernel16Ideal.Value.run_blocks m ρ),
    (θ_run _ _ _).mono (fun r h c => ⟨?_, ?_, ?_, ?_, (h c).2.2.2.2⟩) (Cert.Reference16Ideal.Value.run m' ρ')⟩
  all_goals obtain ⟨h0, h1, h2, h3⟩ := hm c
  · refine (h c).1.trans ((Cert.Reference16Ideal.Read.val_main_v0_eq ..).trans ?_)
    rw [h0]
  · refine (h c).2.1.trans ((Cert.Reference16Ideal.Read.val_main_v24_eq ..).trans ?_)
    rw [h0, h1, h2, h3]
  · refine (h c).2.2.1.trans ((Cert.Reference16Ideal.Read.val_main_v5_eq ..).trans ?_)
    rw [h0, h2]
  · refine (h c).2.2.2.1.trans ((Cert.Reference16Ideal.Read.val_main_v11_eq ..).trans ?_)
    rw [h0, h3]

/-- The step of `w_mix_out` and `w_ple_gate`. -/
theorem agree17 : algebraic_Kernel17Ideal_Reference17Ideal (hKernel17Ideal := Cert.Kernel17Ideal.Gen.facts) (hReference17Ideal := Cert.Reference17Ideal.Gen.facts) := by
  intro m ρ m' ρ' _ hm
  refine ⟨_, _, _, _, (θ_run _ _ _).mono (fun r h c => ⟨(h c).1.trans (Cert.Adam17.value_grad m c), (h c).2.1.trans (Cert.Adam17.value_delta m c), (h c).2.2.1.trans (Cert.Adam17.value_m2 m c), (h c).2.2.2.1.trans (Cert.Adam17.value_v2 m c), (h c).2.2.2.2⟩)
      (Cert.Kernel17Ideal.Value.run_blocks m ρ),
    (θ_run _ _ _).mono (fun r h c => ⟨?_, ?_, ?_, ?_, (h c).2.2.2.2⟩) (Cert.Reference17Ideal.Value.run m' ρ')⟩
  all_goals obtain ⟨h0, h1, h2, h3⟩ := hm c
  · refine (h c).1.trans ((Cert.Reference17Ideal.Read.val_main_v2_eq ..).trans ?_)
    rw [h0]
  · refine (h c).2.1.trans ((Cert.Reference17Ideal.Read.val_main_v26_eq ..).trans ?_)
    rw [h0, h1, h2, h3]
  · refine (h c).2.2.1.trans ((Cert.Reference17Ideal.Read.val_main_v7_eq ..).trans ?_)
    rw [h0, h2]
  · refine (h c).2.2.2.1.trans ((Cert.Reference17Ideal.Read.val_main_v13_eq ..).trans ?_)
    rw [h0, h3]

/-- The step of `w_ffn_out`. -/
theorem agree18 : algebraic_Kernel18Ideal_Reference18Ideal (hKernel18Ideal := Cert.Kernel18Ideal.Gen.facts) (hReference18Ideal := Cert.Reference18Ideal.Gen.facts) := by
  intro m ρ m' ρ' _ hm
  refine ⟨_, _, _, _, (θ_run _ _ _).mono (fun r h c => ⟨(h c).1.trans (Cert.Adam18.value_grad m c), (h c).2.1.trans (Cert.Adam18.value_delta m c), (h c).2.2.1.trans (Cert.Adam18.value_m2 m c), (h c).2.2.2.1.trans (Cert.Adam18.value_v2 m c), (h c).2.2.2.2⟩)
      (Cert.Kernel18Ideal.Value.run_blocks m ρ),
    (θ_run _ _ _).mono (fun r h c => ⟨?_, ?_, ?_, ?_, (h c).2.2.2.2⟩) (Cert.Reference18Ideal.Value.run m' ρ')⟩
  all_goals obtain ⟨h0, h1, h2, h3⟩ := hm c
  · refine (h c).1.trans ((Cert.Reference18Ideal.Read.val_main_v2_eq ..).trans ?_)
    rw [h0]
  · refine (h c).2.1.trans ((Cert.Reference18Ideal.Read.val_main_v26_eq ..).trans ?_)
    rw [h0, h1, h2, h3]
  · refine (h c).2.2.1.trans ((Cert.Reference18Ideal.Read.val_main_v7_eq ..).trans ?_)
    rw [h0, h2]
  · refine (h c).2.2.2.1.trans ((Cert.Reference18Ideal.Read.val_main_v13_eq ..).trans ?_)
    rw [h0, h3]

/-- The step of `w_in`. -/
theorem agree19 : algebraic_Kernel19Ideal_Reference19Ideal (hKernel19Ideal := Cert.Kernel19Ideal.Gen.facts) (hReference19Ideal := Cert.Reference19Ideal.Gen.facts) := by
  intro m ρ m' ρ' _ hm
  refine ⟨_, _, _, _, (θ_run _ _ _).mono (fun r h c => ⟨(h c).1.trans (Cert.Adam19.value_grad m c), (h c).2.1.trans (Cert.Adam19.value_delta m c), (h c).2.2.1.trans (Cert.Adam19.value_m2 m c), (h c).2.2.2.1.trans (Cert.Adam19.value_v2 m c), (h c).2.2.2.2⟩)
      (Cert.Kernel19Ideal.Value.run_blocks m ρ),
    (θ_run _ _ _).mono (fun r h c => ⟨?_, ?_, ?_, ?_, (h c).2.2.2.2⟩) (Cert.Reference19Ideal.Value.run m' ρ')⟩
  all_goals obtain ⟨h0, h1, h2, h3⟩ := hm c
  · refine (h c).1.trans ((Cert.Reference19Ideal.Read.val_main_v7_eq ..).trans ?_)
    rw [h0]
  · refine (h c).2.1.trans ((Cert.Reference19Ideal.Read.val_main_v31_eq ..).trans ?_)
    rw [h0, h1, h2, h3]
  · refine (h c).2.2.1.trans ((Cert.Reference19Ideal.Read.val_main_v12_eq ..).trans ?_)
    rw [h0, h2]
  · refine (h c).2.2.2.1.trans ((Cert.Reference19Ideal.Read.val_main_v18_eq ..).trans ?_)
    rw [h0, h3]

/-- The step of `w_attn_out`. -/
theorem agree20 : algebraic_Kernel20Ideal_Reference20Ideal (hKernel20Ideal := Cert.Kernel20Ideal.Gen.facts) (hReference20Ideal := Cert.Reference20Ideal.Gen.facts) := by
  intro m ρ m' ρ' _ hm
  refine ⟨_, _, _, _, (θ_run _ _ _).mono (fun r h c => ⟨(h c).1.trans (Cert.Adam20.value_grad m c), (h c).2.1.trans (Cert.Adam20.value_delta m c), (h c).2.2.1.trans (Cert.Adam20.value_m2 m c), (h c).2.2.2.1.trans (Cert.Adam20.value_v2 m c), (h c).2.2.2.2⟩)
      (Cert.Kernel20Ideal.Value.run_blocks m ρ),
    (θ_run _ _ _).mono (fun r h c => ⟨?_, ?_, ?_, ?_, (h c).2.2.2.2⟩) (Cert.Reference20Ideal.Value.run m' ρ')⟩
  all_goals obtain ⟨h0, h1, h2, h3⟩ := hm c
  · refine (h c).1.trans ((Cert.Reference20Ideal.Read.val_main_v6_eq ..).trans ?_)
    rw [h0]
  · refine (h c).2.1.trans ((Cert.Reference20Ideal.Read.val_main_v30_eq ..).trans ?_)
    rw [h0, h1, h2, h3]
  · refine (h c).2.2.1.trans ((Cert.Reference20Ideal.Read.val_main_v11_eq ..).trans ?_)
    rw [h0, h2]
  · refine (h c).2.2.2.1.trans ((Cert.Reference20Ideal.Read.val_main_v17_eq ..).trans ?_)
    rw [h0, h3]

/-- The step of `w_ssm_glu`. -/
theorem agree21 : algebraic_Kernel21Ideal_Reference21Ideal (hKernel21Ideal := Cert.Kernel21Ideal.Gen.facts) (hReference21Ideal := Cert.Reference21Ideal.Gen.facts) := by
  intro m ρ m' ρ' _ hm
  refine ⟨_, _, _, _, (θ_run _ _ _).mono (fun r h c => ⟨(h c).1.trans (Cert.Adam21.value_grad m c), (h c).2.1.trans (Cert.Adam21.value_delta m c), (h c).2.2.1.trans (Cert.Adam21.value_m2 m c), (h c).2.2.2.1.trans (Cert.Adam21.value_v2 m c), (h c).2.2.2.2⟩)
      (Cert.Kernel21Ideal.Value.run_blocks m ρ),
    (θ_run _ _ _).mono (fun r h c => ⟨?_, ?_, ?_, ?_, (h c).2.2.2.2⟩) (Cert.Reference21Ideal.Value.run m' ρ')⟩
  all_goals obtain ⟨h0, h1, h2, h3⟩ := hm c
  · refine (h c).1.trans ((Cert.Reference21Ideal.Read.val_main_v6_eq ..).trans ?_)
    rw [h0]
  · refine (h c).2.1.trans ((Cert.Reference21Ideal.Read.val_main_v30_eq ..).trans ?_)
    rw [h0, h1, h2, h3]
  · refine (h c).2.2.1.trans ((Cert.Reference21Ideal.Read.val_main_v11_eq ..).trans ?_)
    rw [h0, h2]
  · refine (h c).2.2.2.1.trans ((Cert.Reference21Ideal.Read.val_main_v17_eq ..).trans ?_)
    rw [h0, h3]

/-- The step of `w_conv_out`. -/
theorem agree22 : algebraic_Kernel22Ideal_Reference22Ideal (hKernel22Ideal := Cert.Kernel22Ideal.Gen.facts) (hReference22Ideal := Cert.Reference22Ideal.Gen.facts) := by
  intro m ρ m' ρ' _ hm
  refine ⟨_, _, _, _, (θ_run _ _ _).mono (fun r h c => ⟨(h c).1.trans (Cert.Adam22.value_grad m c), (h c).2.1.trans (Cert.Adam22.value_delta m c), (h c).2.2.1.trans (Cert.Adam22.value_m2 m c), (h c).2.2.2.1.trans (Cert.Adam22.value_v2 m c), (h c).2.2.2.2⟩)
      (Cert.Kernel22Ideal.Value.run_blocks m ρ),
    (θ_run _ _ _).mono (fun r h c => ⟨?_, ?_, ?_, ?_, (h c).2.2.2.2⟩) (Cert.Reference22Ideal.Value.run m' ρ')⟩
  all_goals obtain ⟨h0, h1, h2, h3⟩ := hm c
  · refine (h c).1.trans ((Cert.Reference22Ideal.Read.val_main_v6_eq ..).trans ?_)
    rw [h0]
  · refine (h c).2.1.trans ((Cert.Reference22Ideal.Read.val_main_v30_eq ..).trans ?_)
    rw [h0, h1, h2, h3]
  · refine (h c).2.2.1.trans ((Cert.Reference22Ideal.Read.val_main_v11_eq ..).trans ?_)
    rw [h0, h2]
  · refine (h c).2.2.2.1.trans ((Cert.Reference22Ideal.Read.val_main_v17_eq ..).trans ?_)
    rw [h0, h3]

/-- The step of `w_ffn_in`. -/
theorem agree23 : algebraic_Kernel23Ideal_Reference23Ideal (hKernel23Ideal := Cert.Kernel23Ideal.Gen.facts) (hReference23Ideal := Cert.Reference23Ideal.Gen.facts) := by
  intro m ρ m' ρ' _ hm
  refine ⟨_, _, _, _, (θ_run _ _ _).mono (fun r h c => ⟨(h c).1.trans (Cert.Adam23.value_grad m c), (h c).2.1.trans (Cert.Adam23.value_delta m c), (h c).2.2.1.trans (Cert.Adam23.value_m2 m c), (h c).2.2.2.1.trans (Cert.Adam23.value_v2 m c), (h c).2.2.2.2⟩)
      (Cert.Kernel23Ideal.Value.run_blocks m ρ),
    (θ_run _ _ _).mono (fun r h c => ⟨?_, ?_, ?_, ?_, (h c).2.2.2.2⟩) (Cert.Reference23Ideal.Value.run m' ρ')⟩
  all_goals obtain ⟨h0, h1, h2, h3⟩ := hm c
  · refine (h c).1.trans ((Cert.Reference23Ideal.Read.val_main_v7_eq ..).trans ?_)
    rw [h0]
  · refine (h c).2.1.trans ((Cert.Reference23Ideal.Read.val_main_v31_eq ..).trans ?_)
    rw [h0, h1, h2, h3]
  · refine (h c).2.2.1.trans ((Cert.Reference23Ideal.Read.val_main_v12_eq ..).trans ?_)
    rw [h0, h2]
  · refine (h c).2.2.2.1.trans ((Cert.Reference23Ideal.Read.val_main_v18_eq ..).trans ?_)
    rw [h0, h3]

/-- The step of `w_ple_in`. -/
theorem agree24 : algebraic_Kernel24Ideal_Reference24Ideal (hKernel24Ideal := Cert.Kernel24Ideal.Gen.facts) (hReference24Ideal := Cert.Reference24Ideal.Gen.facts) := by
  intro m ρ m' ρ' _ hm
  refine ⟨_, _, _, _, (θ_run _ _ _).mono (fun r h c => ⟨(h c).1.trans (Cert.Adam24.value_grad m c), (h c).2.1.trans (Cert.Adam24.value_delta m c), (h c).2.2.1.trans (Cert.Adam24.value_m2 m c), (h c).2.2.2.1.trans (Cert.Adam24.value_v2 m c), (h c).2.2.2.2⟩)
      (Cert.Kernel24Ideal.Value.run_blocks m ρ),
    (θ_run _ _ _).mono (fun r h c => ⟨?_, ?_, ?_, ?_, (h c).2.2.2.2⟩) (Cert.Reference24Ideal.Value.run m' ρ')⟩
  all_goals obtain ⟨h0, h1, h2, h3⟩ := hm c
  · refine (h c).1.trans ((Cert.Reference24Ideal.Read.val_main_v6_eq ..).trans ?_)
    rw [h0]
  · refine (h c).2.1.trans ((Cert.Reference24Ideal.Read.val_main_v30_eq ..).trans ?_)
    rw [h0, h1, h2, h3]
  · refine (h c).2.2.1.trans ((Cert.Reference24Ideal.Read.val_main_v11_eq ..).trans ?_)
    rw [h0, h2]
  · refine (h c).2.2.2.1.trans ((Cert.Reference24Ideal.Read.val_main_v17_eq ..).trans ?_)
    rw [h0, h3]

/-- The step of `conv_dw_w`. -/
theorem agree25 : algebraic_Kernel25Ideal_Reference25Ideal (hKernel25Ideal := Cert.Kernel25Ideal.Gen.facts) (hReference25Ideal := Cert.Reference25Ideal.Gen.facts) := by
  intro m ρ m' ρ' _ hm
  refine ⟨_, _, _, _, (θ_run _ _ _).mono (fun r h c => ⟨(h c).1.trans (Cert.Adam25.value_grad m c), (h c).2.1.trans (Cert.Adam25.value_delta m c), (h c).2.2.1.trans (Cert.Adam25.value_m2 m c), (h c).2.2.2.1.trans (Cert.Adam25.value_v2 m c), (h c).2.2.2.2⟩)
      (Cert.Kernel25Ideal.Value.run_blocks m ρ),
    (θ_run _ _ _).mono (fun r h c => ⟨?_, ?_, ?_, ?_, (h c).2.2.2.2⟩) (Cert.Reference25Ideal.Value.run m' ρ')⟩
  all_goals obtain ⟨h0, h1, h2, h3⟩ := hm c
  · refine (h c).1.trans ((Cert.Reference25Ideal.Read.val_main_v3_eq ..).trans ?_)
    rw [h0]
  · refine (h c).2.1.trans ((Cert.Reference25Ideal.Read.val_main_v27_eq ..).trans ?_)
    rw [h0, h1, h2, h3]
  · refine (h c).2.2.1.trans ((Cert.Reference25Ideal.Read.val_main_v8_eq ..).trans ?_)
    rw [h0, h2]
  · refine (h c).2.2.2.1.trans ((Cert.Reference25Ideal.Read.val_main_v14_eq ..).trans ?_)
    rw [h0, h3]

end Cert.Algebraic

end

end
-- ==== Proof.Frame9.lean ====
module

public import proofs.«01_k».proof.Defs
public import proofs.«01_k».proof.Proof.Gen.Kernel9
public import proofs.«01_k».proof.Proof.In9

@[expose] public section

noncomputable section

/-! The kernel of `in_proj` has the text of its ideal form, so the run over any floats is a run of the kernel. -/

namespace Cert.In9

open Idealize.ShloMosaic Idealize.SL.Sem

theorem bodies_eq : Cert.Kernel9.defs₀ (F := Bits) = Cert.Kernel9Ideal.defs₀ (F := Bits) := by
  refine congrArg Defs.onTc (funext fun l => funext fun a => ?_)
  match l, a with
  | 0, (t, s) => rfl

theorem defs_eq : Cert.Kernel9.defs (F := Bits) = Cert.Kernel9Ideal.defs (F := Bits) := congrArg (Pipeline.defs Cert.Kernel9.pcfgs) bodies_eq

theorem frame_kernel : Cert.quiescent_Kernel9 := fun m ρ _ => by
  rw [defs_eq]
  exact frame (F := Bits) m ρ

end Cert.In9

end
-- ==== Proof.Frame14.lean ====
module

public import proofs.«01_k».proof.Defs
public import proofs.«01_k».proof.Proof.Gen.Kernel14
public import proofs.«01_k».proof.Proof.MergeGrad14Run

@[expose] public section

noncomputable section

/-! The kernel of `merge_bwd` has the text of its ideal form, so the run over any floats is a run of the kernel. -/

namespace Cert.MergeGrad

open Idealize.ShloMosaic Idealize.SL.Sem

set_option maxHeartbeats 4000000 in
theorem bodies_eq : Cert.Kernel14.defs₀ (F := Bits) = Cert.Kernel14Ideal.defs₀ (F := Bits) := by
  refine congrArg Defs.onTc (funext fun l => funext fun a => ?_)
  match l, a with
  | 0, (t, s) => rfl

set_option maxHeartbeats 4000000 in
theorem defs_eq : Cert.Kernel14.defs (F := Bits) = Cert.Kernel14Ideal.defs (F := Bits) := congrArg (Pipeline.defs Cert.Kernel14.pcfgs) bodies_eq

set_option maxHeartbeats 4000000 in
theorem frame_kernel : Cert.quiescent_Kernel14 := fun m ρ _ => by
  rw [defs_eq]
  exact frame (F := Bits) m ρ

end Cert.MergeGrad

end
-- ==== Proof.lean ====
/- The claims: every program runs to its end with its arguments unchanged and no semaphore signalled, and each kernel
   ends with its reference's results at the ideal instance. -/
module

public import proofs.«01_k».proof.Defs
public import proofs.«01_k».proof.Proof.Algebraic
public import proofs.«01_k».proof.Proof.AlgebraicAdam
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9
public import proofs.«01_k».proof.Proof.Frame9
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14
public import proofs.«01_k».proof.Proof.Frame14
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import Idealize.ShloMosaic.Adequacy
public import Idealize.ShloMosaic.Init

@[expose] public section

noncomputable section

namespace Cert.Proof

open Idealize.ShloMosaic Idealize.SL.Sem

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Mid5.pre_facts,
  fun m ρ _ => Cert.Kernel2.Gen.frame m ρ,
  fun m ρ _ => Cert.Kernel2Ideal.Gen.frame m ρ,
  fun m ρ _ => (θ_run _ _ _).mono (fun r h => ⟨fun c => (h c).2.2.2.2.2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => Cert.Kernel5Ideal.Gen.frame m ρ,
  fun m ρ _ => (θ_run _ _ _).mono (fun r h => ⟨fun c => (h c).2.2, sem_eq_zero_of_no_sems (by decide) r.2⟩) (Cert.Reference5Ideal.Value.run m ρ),
  fun m ρ _ => (θ_run _ _ _).mono (fun r h => ⟨fun c => (h c).2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2, sem_eq_zero_of_no_sems (by decide) r.2⟩) (Cert.Reference8Ideal.Value.run m ρ),
  Cert.In9.frame_kernel,
  fun m ρ _ => Cert.In9.frame m ρ,
  fun m ρ _ => (θ_run _ _ _).mono (fun r h => ⟨fun c => (h c).2.2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2.2.2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => (θ_run _ _ _).mono (fun r h => ⟨fun c => (h c).2, sem_eq_zero_of_no_sems (by decide) r.2⟩) (Cert.Reference11Ideal.Value.run m ρ),
  fun m ρ _ => Cert.Kernel12.Gen.frame m ρ,
  fun m ρ _ => Cert.Kernel12Ideal.Gen.frame m ρ,
  fun m ρ _ => (θ_run _ _ _).mono (fun r h => ⟨fun c => (h c).2.2.2, sem_eq_zero_of_no_sems (by decide) r.2⟩) (Cert.Reference12Ideal.Value.run m ρ),
  fun m ρ _ => Cert.Kernel13.Gen.frame m ρ,
  fun m ρ _ => Cert.Kernel13Ideal.Gen.frame m ρ,
  fun m ρ _ => (θ_run _ _ _).mono (fun r h => ⟨fun c => (h c).2.2, sem_eq_zero_of_no_sems (by decide) r.2⟩) (Cert.Reference13Ideal.Value.run m ρ),
  Cert.MergeGrad.frame_kernel,
  fun m ρ _ => Cert.MergeGrad.frame m ρ,
  fun m ρ _ => (θ_run _ _ _).mono (fun r h => ⟨fun c => (h c).2.2.2.2.2.2.2.2.2.2.2.2.2.2, sem_eq_zero_of_no_sems (by decide) r.2⟩) (Cert.Reference14Ideal.Value.run m ρ),
  fun m ρ _ => Cert.Kernel15.Gen.frame m ρ,
  fun m ρ _ => Cert.Kernel15Ideal.Gen.frame m ρ,
  fun m ρ _ => (θ_run _ _ _).mono (fun r h => ⟨fun c => (h c).2.2.2, sem_eq_zero_of_no_sems (by decide) r.2⟩) (Cert.Reference15Ideal.Value.run m ρ),
  fun m ρ _ => Cert.Kernel16.Gen.frame m ρ,
  fun m ρ _ => Cert.Kernel16Ideal.Gen.frame m ρ,
  fun m ρ _ => (θ_run _ _ _).mono (fun r h => ⟨fun c => (h c).2.2.2.2, sem_eq_zero_of_no_sems (by decide) r.2⟩) (Cert.Reference16Ideal.Value.run m ρ),
  fun m ρ _ => Cert.Kernel17.Gen.frame m ρ,
  fun m ρ _ => Cert.Kernel17Ideal.Gen.frame m ρ,
  fun m ρ _ => (θ_run _ _ _).mono (fun r h => ⟨fun c => (h c).2.2.2.2, sem_eq_zero_of_no_sems (by decide) r.2⟩) (Cert.Reference17Ideal.Value.run m ρ),
  fun m ρ _ => Cert.Kernel18.Gen.frame m ρ,
  fun m ρ _ => Cert.Kernel18Ideal.Gen.frame m ρ,
  fun m ρ _ => (θ_run _ _ _).mono (fun r h => ⟨fun c => (h c).2.2.2.2, sem_eq_zero_of_no_sems (by decide) r.2⟩) (Cert.Reference18Ideal.Value.run m ρ),
  fun m ρ _ => Cert.Kernel19.Gen.frame m ρ,
  fun m ρ _ => Cert.Kernel19Ideal.Gen.frame m ρ,
  fun m ρ _ => (θ_run _ _ _).mono (fun r h => ⟨fun c => (h c).2.2.2.2, sem_eq_zero_of_no_sems (by decide) r.2⟩) (Cert.Reference19Ideal.Value.run m ρ),
  fun m ρ _ => Cert.Kernel20.Gen.frame m ρ,
  fun m ρ _ => Cert.Kernel20Ideal.Gen.frame m ρ,
  fun m ρ _ => (θ_run _ _ _).mono (fun r h => ⟨fun c => (h c).2.2.2.2, sem_eq_zero_of_no_sems (by decide) r.2⟩) (Cert.Reference20Ideal.Value.run m ρ),
  fun m ρ _ => Cert.Kernel21.Gen.frame m ρ,
  fun m ρ _ => Cert.Kernel21Ideal.Gen.frame m ρ,
  fun m ρ _ => (θ_run _ _ _).mono (fun r h => ⟨fun c => (h c).2.2.2.2, sem_eq_zero_of_no_sems (by decide) r.2⟩) (Cert.Reference21Ideal.Value.run m ρ),
  fun m ρ _ => Cert.Kernel22.Gen.frame m ρ,
  fun m ρ _ => Cert.Kernel22Ideal.Gen.frame m ρ,
  fun m ρ _ => (θ_run _ _ _).mono (fun r h => ⟨fun c => (h c).2.2.2.2, sem_eq_zero_of_no_sems (by decide) r.2⟩) (Cert.Reference22Ideal.Value.run m ρ),
  fun m ρ _ => Cert.Kernel23.Gen.frame m ρ,
  fun m ρ _ => Cert.Kernel23Ideal.Gen.frame m ρ,
  fun m ρ _ => (θ_run _ _ _).mono (fun r h => ⟨fun c => (h c).2.2.2.2, sem_eq_zero_of_no_sems (by decide) r.2⟩) (Cert.Reference23Ideal.Value.run m ρ),
  fun m ρ _ => Cert.Kernel24.Gen.frame m ρ,
  fun m ρ _ => Cert.Kernel24Ideal.Gen.frame m ρ,
  fun m ρ _ => (θ_run _ _ _).mono (fun r h => ⟨fun c => (h c).2.2.2.2, sem_eq_zero_of_no_sems (by decide) r.2⟩) (Cert.Reference24Ideal.Value.run m ρ),
  fun m ρ _ => Cert.Kernel25.Gen.frame m ρ,
  fun m ρ _ => Cert.Kernel25Ideal.Gen.frame m ρ,
  fun m ρ _ => (θ_run _ _ _).mono (fun r h => ⟨fun c => (h c).2.2.2.2, sem_eq_zero_of_no_sems (by decide) r.2⟩) (Cert.Reference25Ideal.Value.run m ρ),
  trivial, Cert.Algebraic.agree2,
  trivial, Cert.Algebraic.agree3,
  trivial, Cert.Algebraic.agree4,
  trivial, Cert.Algebraic.agree5,
  trivial, Cert.Algebraic.agree6,
  trivial, Cert.Algebraic.agree7,
  trivial, Cert.Algebraic.agree8,
  trivial, Cert.Algebraic.agree9,
  trivial, Cert.Algebraic.agree10,
  trivial, Cert.Algebraic.agree11,
  trivial, Cert.Algebraic.agree12,
  trivial, Cert.Algebraic.agree13,
  trivial, Cert.Algebraic.agree14,
  trivial, Cert.Algebraic.agree15,
  trivial, Cert.Algebraic.agree16,
  trivial, Cert.Algebraic.agree17,
  trivial, Cert.Algebraic.agree18,
  trivial, Cert.Algebraic.agree19,
  trivial, Cert.Algebraic.agree20,
  trivial, Cert.Algebraic.agree21,
  trivial, Cert.Algebraic.agree22,
  trivial, Cert.Algebraic.agree23,
  trivial, Cert.Algebraic.agree24,
  trivial, Cert.Algebraic.agree25⟩

end Cert.Proof

end

end
